-- ==== Defs.lean ====
def Pre_KPost (m : (ℓ : Loc Cert.KPost.nD Cert.KPost.τ Cert.KPost.sig) → Buf (Elt Bits) ℓ) : Prop :=
  True

def Pre_KPostIdeal (m : (ℓ : Loc Cert.KPostIdeal.nD Cert.KPostIdeal.τ Cert.KPostIdeal.sig) → Buf (Elt Ideal) ℓ) : Prop :=
  True

def Pre_KPostIdeal_finite_post [hPre_finite_post : Cert.Pre_finite_post.Facts] (m : (ℓ : Loc Cert.KPostIdeal.nD Cert.KPostIdeal.τ Cert.KPostIdeal.sig) → Buf (Elt Ideal) ℓ) : Prop :=
  ∀ c : Dev Cert.KPostIdeal.nD,
    (Cert.Pre_finite_post.fn (F := Ideal) (m ((c.tc : Thread Cert.KPostIdeal.nD Cert.KPostIdeal.τ).loc Cert.KPostIdeal.main_arg0)) (m ((c.tc : Thread Cert.KPostIdeal.nD Cert.KPostIdeal.τ).loc Cert.KPostIdeal.main_arg1)) (m ((c.tc : Thread Cert.KPostIdeal.nD Cert.KPostIdeal.τ).loc Cert.KPostIdeal.main_arg2)) (m ((c.tc : Thread Cert.KPostIdeal.nD Cert.KPostIdeal.τ).loc Cert.KPostIdeal.main_arg3))).1 = (fun _ => 1#1)
    ∧ (Cert.Pre_finite_post.fn (F := Ideal) (m ((c.tc : Thread Cert.KPostIdeal.nD Cert.KPostIdeal.τ).loc Cert.KPostIdeal.main_arg0)) (m ((c.tc : Thread Cert.KPostIdeal.nD Cert.KPostIdeal.τ).loc Cert.KPostIdeal.main_arg1)) (m ((c.tc : Thread Cert.KPostIdeal.nD Cert.KPostIdeal.τ).loc Cert.KPostIdeal.main_arg2)) (m ((c.tc : Thread Cert.KPostIdeal.nD Cert.KPostIdeal.τ).loc Cert.KPostIdeal.main_arg3))).2.1 = (fun _ => 1#1)
    ∧ (Cert.Pre_finite_post.fn (F := Ideal) (m ((c.tc : Thread Cert.KPostIdeal.nD Cert.KPostIdeal.τ).loc Cert.KPostIdeal.main_arg0)) (m ((c.tc : Thread Cert.KPostIdeal.nD Cert.KPostIdeal.τ).loc Cert.KPostIdeal.main_arg1)) (m ((c.tc : Thread Cert.KPostIdeal.nD Cert.KPostIdeal.τ).loc Cert.KPostIdeal.main_arg2)) (m ((c.tc : Thread Cert.KPostIdeal.nD Cert.KPostIdeal.τ).loc Cert.KPostIdeal.main_arg3))).2.2.1 = (fun _ => 1#1)
    ∧ (Cert.Pre_finite_post.fn (F := Ideal) (m ((c.tc : Thread Cert.KPostIdeal.nD Cert.KPostIdeal.τ).loc Cert.KPostIdeal.main_arg0)) (m ((c.tc : Thread Cert.KPostIdeal.nD Cert.KPostIdeal.τ).loc Cert.KPostIdeal.main_arg1)) (m ((c.tc : Thread Cert.KPostIdeal.nD Cert.KPostIdeal.τ).loc Cert.KPostIdeal.main_arg2)) (m ((c.tc : Thread Cert.KPostIdeal.nD Cert.KPostIdeal.τ).loc Cert.KPostIdeal.main_arg3))).2.2.2 = (fun _ => 1#1)

def Pre_RPostIdeal (m : (ℓ : Loc Cert.RPostIdeal.nD Cert.RPostIdeal.τ Cert.RPostIdeal.sig) → Buf (Elt Ideal) ℓ) : Prop :=
  True

def Pre_RPostIdeal_finite_post [hPre_finite_post : Cert.Pre_finite_post.Facts] (m : (ℓ : Loc Cert.RPostIdeal.nD Cert.RPostIdeal.τ Cert.RPostIdeal.sig) → Buf (Elt Ideal) ℓ) : Prop :=
  ∀ c : Dev Cert.RPostIdeal.nD,
    (Cert.Pre_finite_post.fn (F := Ideal) (m ((c.tc : Thread Cert.RPostIdeal.nD Cert.RPostIdeal.τ).loc Cert.RPostIdeal.main_arg0)) (m ((c.tc : Thread Cert.RPostIdeal.nD Cert.RPostIdeal.τ).loc Cert.RPostIdeal.main_arg1)) (m ((c.tc : Thread Cert.RPostIdeal.nD Cert.RPostIdeal.τ).loc Cert.RPostIdeal.main_arg2)) (m ((c.tc : Thread Cert.RPostIdeal.nD Cert.RPostIdeal.τ).loc Cert.RPostIdeal.main_arg3))).1 = (fun _ => 1#1)
    ∧ (Cert.Pre_finite_post.fn (F := Ideal) (m ((c.tc : Thread Cert.RPostIdeal.nD Cert.RPostIdeal.τ).loc Cert.RPostIdeal.main_arg0)) (m ((c.tc : Thread Cert.RPostIdeal.nD Cert.RPostIdeal.τ).loc Cert.RPostIdeal.main_arg1)) (m ((c.tc : Thread Cert.RPostIdeal.nD Cert.RPostIdeal.τ).loc Cert.RPostIdeal.main_arg2)) (m ((c.tc : Thread Cert.RPostIdeal.nD Cert.RPostIdeal.τ).loc Cert.RPostIdeal.main_arg3))).2.1 = (fun _ => 1#1)
    ∧ (Cert.Pre_finite_post.fn (F := Ideal) (m ((c.tc : Thread Cert.RPostIdeal.nD Cert.RPostIdeal.τ).loc Cert.RPostIdeal.main_arg0)) (m ((c.tc : Thread Cert.RPostIdeal.nD Cert.RPostIdeal.τ).loc Cert.RPostIdeal.main_arg1)) (m ((c.tc : Thread Cert.RPostIdeal.nD Cert.RPostIdeal.τ).loc Cert.RPostIdeal.main_arg2)) (m ((c.tc : Thread Cert.RPostIdeal.nD Cert.RPostIdeal.τ).loc Cert.RPostIdeal.main_arg3))).2.2.1 = (fun _ => 1#1)
    ∧ (Cert.Pre_finite_post.fn (F := Ideal) (m ((c.tc : Thread Cert.RPostIdeal.nD Cert.RPostIdeal.τ).loc Cert.RPostIdeal.main_arg0)) (m ((c.tc : Thread Cert.RPostIdeal.nD Cert.RPostIdeal.τ).loc Cert.RPostIdeal.main_arg1)) (m ((c.tc : Thread Cert.RPostIdeal.nD Cert.RPostIdeal.τ).loc Cert.RPostIdeal.main_arg2)) (m ((c.tc : Thread Cert.RPostIdeal.nD Cert.RPostIdeal.τ).loc Cert.RPostIdeal.main_arg3))).2.2.2 = (fun _ => 1#1)

def Pre_KXattn (m : (ℓ : Loc Cert.KXattn.nD Cert.KXattn.τ Cert.KXattn.sig) → Buf (Elt Bits) ℓ) : Prop :=
  True

def Pre_KXattnIdeal (m : (ℓ : Loc Cert.KXattnIdeal.nD Cert.KXattnIdeal.τ Cert.KXattnIdeal.sig) → Buf (Elt Ideal) ℓ) : Prop :=
  True

def Pre_KXattnIdeal_finite_xattn [hPre_finite_xattn : Cert.Pre_finite_xattn.Facts] (m : (ℓ : Loc Cert.KXattnIdeal.nD Cert.KXattnIdeal.τ Cert.KXattnIdeal.sig) → Buf (Elt Ideal) ℓ) : Prop :=
  ∀ c : Dev Cert.KXattnIdeal.nD,
    (Cert.Pre_finite_xattn.fn (F := Ideal) (m ((c.tc : Thread Cert.KXattnIdeal.nD Cert.KXattnIdeal.τ).loc Cert.KXattnIdeal.main_arg0)) (m ((c.tc : Thread Cert.KXattnIdeal.nD Cert.KXattnIdeal.τ).loc Cert.KXattnIdeal.main_arg1)) (m ((c.tc : Thread Cert.KXattnIdeal.nD Cert.KXattnIdeal.τ).loc Cert.KXattnIdeal.main_arg2)) (m ((c.tc : Thread Cert.KXattnIdeal.nD Cert.KXattnIdeal.τ).loc Cert.KXattnIdeal.main_arg3))).1 = (fun _ => 1#1)
    ∧ (Cert.Pre_finite_xattn.fn (F := Ideal) (m ((c.tc : Thread Cert.KXattnIdeal.nD Cert.KXattnIdeal.τ).loc Cert.KXattnIdeal.main_arg0)) (m ((c.tc : Thread Cert.KXattnIdeal.nD Cert.KXattnIdeal.τ).loc Cert.KXattnIdeal.main_arg1)) (m ((c.tc : Thread Cert.KXattnIdeal.nD Cert.KXattnIdeal.τ).loc Cert.KXattnIdeal.main_arg2)) (m ((c.tc : Thread Cert.KXattnIdeal.nD Cert.KXattnIdeal.τ).loc Cert.KXattnIdeal.main_arg3))).2 = (fun _ => 1#1)

def Pre_RXattnIdeal (m : (ℓ : Loc Cert.RXattnIdeal.nD Cert.RXattnIdeal.τ Cert.RXattnIdeal.sig) → Buf (Elt Ideal) ℓ) : Prop :=
  True

def Pre_RXattnIdeal_finite_xattn [hPre_finite_xattn : Cert.Pre_finite_xattn.Facts] (m : (ℓ : Loc Cert.RXattnIdeal.nD Cert.RXattnIdeal.τ Cert.RXattnIdeal.sig) → Buf (Elt Ideal) ℓ) : Prop :=
  ∀ c : Dev Cert.RXattnIdeal.nD,
    (Cert.Pre_finite_xattn.fn (F := Ideal) (m ((c.tc : Thread Cert.RXattnIdeal.nD Cert.RXattnIdeal.τ).loc Cert.RXattnIdeal.main_arg0)) (m ((c.tc : Thread Cert.RXattnIdeal.nD Cert.RXattnIdeal.τ).loc Cert.RXattnIdeal.main_arg1)) (m ((c.tc : Thread Cert.RXattnIdeal.nD Cert.RXattnIdeal.τ).loc Cert.RXattnIdeal.main_arg2)) (m ((c.tc : Thread Cert.RXattnIdeal.nD Cert.RXattnIdeal.τ).loc Cert.RXattnIdeal.main_arg3))).1 = (fun _ => 1#1)
    ∧ (Cert.Pre_finite_xattn.fn (F := Ideal) (m ((c.tc : Thread Cert.RXattnIdeal.nD Cert.RXattnIdeal.τ).loc Cert.RXattnIdeal.main_arg0)) (m ((c.tc : Thread Cert.RXattnIdeal.nD Cert.RXattnIdeal.τ).loc Cert.RXattnIdeal.main_arg1)) (m ((c.tc : Thread Cert.RXattnIdeal.nD Cert.RXattnIdeal.τ).loc Cert.RXattnIdeal.main_arg2)) (m ((c.tc : Thread Cert.RXattnIdeal.nD Cert.RXattnIdeal.τ).loc Cert.RXattnIdeal.main_arg3))).2 = (fun _ => 1#1)

def Pre_KLn2 (m : (ℓ : Loc Cert.KLn2.nD Cert.KLn2.τ Cert.KLn2.sig) → Buf (Elt Bits) ℓ) : Prop :=
  True

def Pre_KLn2Ideal (m : (ℓ : Loc Cert.KLn2Ideal.nD Cert.KLn2Ideal.τ Cert.KLn2Ideal.sig) → Buf (Elt Ideal) ℓ) : Prop :=
  True

def Pre_KLn2Ideal_finite_ln2 [hPre_finite_ln2 : Cert.Pre_finite_ln2.Facts] (m : (ℓ : Loc Cert.KLn2Ideal.nD Cert.KLn2Ideal.τ Cert.KLn2Ideal.sig) → Buf (Elt Ideal) ℓ) : Prop :=
  ∀ c : Dev Cert.KLn2Ideal.nD,
    (Cert.Pre_finite_ln2.fn (F := Ideal) (m ((c.tc : Thread Cert.KLn2Ideal.nD Cert.KLn2Ideal.τ).loc Cert.KLn2Ideal.main_arg0)) (m ((c.tc : Thread Cert.KLn2Ideal.nD Cert.KLn2Ideal.τ).loc Cert.KLn2Ideal.main_arg1)) (m ((c.tc : Thread Cert.KLn2Ideal.nD Cert.KLn2Ideal.τ).loc Cert.KLn2Ideal.main_arg2)) (m ((c.tc : Thread Cert.KLn2Ideal.nD Cert.KLn2Ideal.τ).loc Cert.KLn2Ideal.main_arg3))).1 = (fun _ => 1#1)
    ∧ (Cert.Pre_finite_ln2.fn (F := Ideal) (m ((c.tc : Thread Cert.KLn2Ideal.nD Cert.KLn2Ideal.τ).loc Cert.KLn2Ideal.main_arg0)) (m ((c.tc : Thread Cert.KLn2Ideal.nD Cert.KLn2Ideal.τ).loc Cert.KLn2Ideal.main_arg1)) (m ((c.tc : Thread Cert.KLn2Ideal.nD Cert.KLn2Ideal.τ).loc Cert.KLn2Ideal.main_arg2)) (m ((c.tc : Thread Cert.KLn2Ideal.nD Cert.KLn2Ideal.τ).loc Cert.KLn2Ideal.main_arg3))).2.1 = (fun _ => 1#1)
    ∧ (Cert.Pre_finite_ln2.fn (F := Ideal) (m ((c.tc : Thread Cert.KLn2Ideal.nD Cert.KLn2Ideal.τ).loc Cert.KLn2Ideal.main_arg0)) (m ((c.tc : Thread Cert.KLn2Ideal.nD Cert.KLn2Ideal.τ).loc Cert.KLn2Ideal.main_arg1)) (m ((c.tc : Thread Cert.KLn2Ideal.nD Cert.KLn2Ideal.τ).loc Cert.KLn2Ideal.main_arg2)) (m ((c.tc : Thread Cert.KLn2Ideal.nD Cert.KLn2Ideal.τ).loc Cert.KLn2Ideal.main_arg3))).2.2.1 = (fun _ => 1#1)
    ∧ (Cert.Pre_finite_ln2.fn (F := Ideal) (m ((c.tc : Thread Cert.KLn2Ideal.nD Cert.KLn2Ideal.τ).loc Cert.KLn2Ideal.main_arg0)) (m ((c.tc : Thread Cert.KLn2Ideal.nD Cert.KLn2Ideal.τ).loc Cert.KLn2Ideal.main_arg1)) (m ((c.tc : Thread Cert.KLn2Ideal.nD Cert.KLn2Ideal.τ).loc Cert.KLn2Ideal.main_arg2)) (m ((c.tc : Thread Cert.KLn2Ideal.nD Cert.KLn2Ideal.τ).loc Cert.KLn2Ideal.main_arg3))).2.2.2 = (fun _ => 1#1)

def Pre_RLn2Ideal (m : (ℓ : Loc Cert.RLn2Ideal.nD Cert.RLn2Ideal.τ Cert.RLn2Ideal.sig) → Buf (Elt Ideal) ℓ) : Prop :=
  True

def Pre_RLn2Ideal_finite_ln2 [hPre_finite_ln2 : Cert.Pre_finite_ln2.Facts] (m : (ℓ : Loc Cert.RLn2Ideal.nD Cert.RLn2Ideal.τ Cert.RLn2Ideal.sig) → Buf (Elt Ideal) ℓ) : Prop :=
  ∀ c : Dev Cert.RLn2Ideal.nD,
    (Cert.Pre_finite_ln2.fn (F := Ideal) (m ((c.tc : Thread Cert.RLn2Ideal.nD Cert.RLn2Ideal.τ).loc Cert.RLn2Ideal.main_arg0)) (m ((c.tc : Thread Cert.RLn2Ideal.nD Cert.RLn2Ideal.τ).loc Cert.RLn2Ideal.main_arg1)) (m ((c.tc : Thread Cert.RLn2Ideal.nD Cert.RLn2Ideal.τ).loc Cert.RLn2Ideal.main_arg2)) (m ((c.tc : Thread Cert.RLn2Ideal.nD Cert.RLn2Ideal.τ).loc Cert.RLn2Ideal.main_arg3))).1 = (fun _ => 1#1)
    ∧ (Cert.Pre_finite_ln2.fn (F := Ideal) (m ((c.tc : Thread Cert.RLn2Ideal.nD Cert.RLn2Ideal.τ).loc Cert.RLn2Ideal.main_arg0)) (m ((c.tc : Thread Cert.RLn2Ideal.nD Cert.RLn2Ideal.τ).loc Cert.RLn2Ideal.main_arg1)) (m ((c.tc : Thread Cert.RLn2Ideal.nD Cert.RLn2Ideal.τ).loc Cert.RLn2Ideal.main_arg2)) (m ((c.tc : Thread Cert.RLn2Ideal.nD Cert.RLn2Ideal.τ).loc Cert.RLn2Ideal.main_arg3))).2.1 = (fun _ => 1#1)
    ∧ (Cert.Pre_finite_ln2.fn (F := Ideal) (m ((c.tc : Thread Cert.RLn2Ideal.nD Cert.RLn2Ideal.τ).loc Cert.RLn2Ideal.main_arg0)) (m ((c.tc : Thread Cert.RLn2Ideal.nD Cert.RLn2Ideal.τ).loc Cert.RLn2Ideal.main_arg1)) (m ((c.tc : Thread Cert.RLn2Ideal.nD Cert.RLn2Ideal.τ).loc Cert.RLn2Ideal.main_arg2)) (m ((c.tc : Thread Cert.RLn2Ideal.nD Cert.RLn2Ideal.τ).loc Cert.RLn2Ideal.main_arg3))).2.2.1 = (fun _ => 1#1)
    ∧ (Cert.Pre_finite_ln2.fn (F := Ideal) (m ((c.tc : Thread Cert.RLn2Ideal.nD Cert.RLn2Ideal.τ).loc Cert.RLn2Ideal.main_arg0)) (m ((c.tc : Thread Cert.RLn2Ideal.nD Cert.RLn2Ideal.τ).loc Cert.RLn2Ideal.main_arg1)) (m ((c.tc : Thread Cert.RLn2Ideal.nD Cert.RLn2Ideal.τ).loc Cert.RLn2Ideal.main_arg2)) (m ((c.tc : Thread Cert.RLn2Ideal.nD Cert.RLn2Ideal.τ).loc Cert.RLn2Ideal.main_arg3))).2.2.2 = (fun _ => 1#1)

def Pre_KLoss (m : (ℓ : Loc Cert.KLoss.nD Cert.KLoss.τ Cert.KLoss.sig) → Buf (Elt Bits) ℓ) : Prop :=
  True

def Pre_KLossIdeal (m : (ℓ : Loc Cert.KLossIdeal.nD Cert.KLossIdeal.τ Cert.KLossIdeal.sig) → Buf (Elt Ideal) ℓ) : Prop :=
  True

def Pre_KLossIdeal_finite_loss [hPre_finite_loss : Cert.Pre_finite_loss.Facts] (m : (ℓ : Loc Cert.KLossIdeal.nD Cert.KLossIdeal.τ Cert.KLossIdeal.sig) → Buf (Elt Ideal) ℓ) : Prop :=
  ∀ c : Dev Cert.KLossIdeal.nD,
    (Cert.Pre_finite_loss.fn (F := Ideal) (m ((c.tc : Thread Cert.KLossIdeal.nD Cert.KLossIdeal.τ).loc Cert.KLossIdeal.main_arg0)) (m ((c.tc : Thread Cert.KLossIdeal.nD Cert.KLossIdeal.τ).loc Cert.KLossIdeal.main_arg1)) (m ((c.tc : Thread Cert.KLossIdeal.nD Cert.KLossIdeal.τ).loc Cert.KLossIdeal.main_arg2)) (m ((c.tc : Thread Cert.KLossIdeal.nD Cert.KLossIdeal.τ).loc Cert.KLossIdeal.main_arg3))).1 = (fun _ => 1#1)
    ∧ (Cert.Pre_finite_loss.fn (F := Ideal) (m ((c.tc : Thread Cert.KLossIdeal.nD Cert.KLossIdeal.τ).loc Cert.KLossIdeal.main_arg0)) (m ((c.tc : Thread Cert.KLossIdeal.nD Cert.KLossIdeal.τ).loc Cert.KLossIdeal.main_arg1)) (m ((c.tc : Thread Cert.KLossIdeal.nD Cert.KLossIdeal.τ).loc Cert.KLossIdeal.main_arg2)) (m ((c.tc : Thread Cert.KLossIdeal.nD Cert.KLossIdeal.τ).loc Cert.KLossIdeal.main_arg3))).2.1 = (fun _ => 1#1)
    ∧ (Cert.Pre_finite_loss.fn (F := Ideal) (m ((c.tc : Thread Cert.KLossIdeal.nD Cert.KLossIdeal.τ).loc Cert.KLossIdeal.main_arg0)) (m ((c.tc : Thread Cert.KLossIdeal.nD Cert.KLossIdeal.τ).loc Cert.KLossIdeal.main_arg1)) (m ((c.tc : Thread Cert.KLossIdeal.nD Cert.KLossIdeal.τ).loc Cert.KLossIdeal.main_arg2)) (m ((c.tc : Thread Cert.KLossIdeal.nD Cert.KLossIdeal.τ).loc Cert.KLossIdeal.main_arg3))).2.2.1 = (fun _ => 1#1)
    ∧ (Cert.Pre_finite_loss.fn (F := Ideal) (m ((c.tc : Thread Cert.KLossIdeal.nD Cert.KLossIdeal.τ).loc Cert.KLossIdeal.main_arg0)) (m ((c.tc : Thread Cert.KLossIdeal.nD Cert.KLossIdeal.τ).loc Cert.KLossIdeal.main_arg1)) (m ((c.tc : Thread Cert.KLossIdeal.nD Cert.KLossIdeal.τ).loc Cert.KLossIdeal.main_arg2)) (m ((c.tc : Thread Cert.KLossIdeal.nD Cert.KLossIdeal.τ).loc Cert.KLossIdeal.main_arg3))).2.2.2 = (fun _ => 1#1)

def Pre_RLossIdeal (m : (ℓ : Loc Cert.RLossIdeal.nD Cert.RLossIdeal.τ Cert.RLossIdeal.sig) → Buf (Elt Ideal) ℓ) : Prop :=
  True

def Pre_RLossIdeal_finite_loss [hPre_finite_loss : Cert.Pre_finite_loss.Facts] (m : (ℓ : Loc Cert.RLossIdeal.nD Cert.RLossIdeal.τ Cert.RLossIdeal.sig) → Buf (Elt Ideal) ℓ) : Prop :=
  ∀ c : Dev Cert.RLossIdeal.nD,
    (Cert.Pre_finite_loss.fn (F := Ideal) (m ((c.tc : Thread Cert.RLossIdeal.nD Cert.RLossIdeal.τ).loc Cert.RLossIdeal.main_arg0)) (m ((c.tc : Thread Cert.RLossIdeal.nD Cert.RLossIdeal.τ).loc Cert.RLossIdeal.main_arg1)) (m ((c.tc : Thread Cert.RLossIdeal.nD Cert.RLossIdeal.τ).loc Cert.RLossIdeal.main_arg2)) (m ((c.tc : Thread Cert.RLossIdeal.nD Cert.RLossIdeal.τ).loc Cert.RLossIdeal.main_arg3))).1 = (fun _ => 1#1)
    ∧ (Cert.Pre_finite_loss.fn (F := Ideal) (m ((c.tc : Thread Cert.RLossIdeal.nD Cert.RLossIdeal.τ).loc Cert.RLossIdeal.main_arg0)) (m ((c.tc : Thread Cert.RLossIdeal.nD Cert.RLossIdeal.τ).loc Cert.RLossIdeal.main_arg1)) (m ((c.tc : Thread Cert.RLossIdeal.nD Cert.RLossIdeal.τ).loc Cert.RLossIdeal.main_arg2)) (m ((c.tc : Thread Cert.RLossIdeal.nD Cert.RLossIdeal.τ).loc Cert.RLossIdeal.main_arg3))).2.1 = (fun _ => 1#1)
    ∧ (Cert.Pre_finite_loss.fn (F := Ideal) (m ((c.tc : Thread Cert.RLossIdeal.nD Cert.RLossIdeal.τ).loc Cert.RLossIdeal.main_arg0)) (m ((c.tc : Thread Cert.RLossIdeal.nD Cert.RLossIdeal.τ).loc Cert.RLossIdeal.main_arg1)) (m ((c.tc : Thread Cert.RLossIdeal.nD Cert.RLossIdeal.τ).loc Cert.RLossIdeal.main_arg2)) (m ((c.tc : Thread Cert.RLossIdeal.nD Cert.RLossIdeal.τ).loc Cert.RLossIdeal.main_arg3))).2.2.1 = (fun _ => 1#1)
    ∧ (Cert.Pre_finite_loss.fn (F := Ideal) (m ((c.tc : Thread Cert.RLossIdeal.nD Cert.RLossIdeal.τ).loc Cert.RLossIdeal.main_arg0)) (m ((c.tc : Thread Cert.RLossIdeal.nD Cert.RLossIdeal.τ).loc Cert.RLossIdeal.main_arg1)) (m ((c.tc : Thread Cert.RLossIdeal.nD Cert.RLossIdeal.τ).loc Cert.RLossIdeal.main_arg2)) (m ((c.tc : Thread Cert.RLossIdeal.nD Cert.RLossIdeal.τ).loc Cert.RLossIdeal.main_arg3))).2.2.2 = (fun _ => 1#1)

def Pre_KGates (m : (ℓ : Loc Cert.KGates.nD Cert.KGates.τ Cert.KGates.sig) → Buf (Elt Bits) ℓ) : Prop :=
  True

def Pre_KGatesIdeal (m : (ℓ : Loc Cert.KGatesIdeal.nD Cert.KGatesIdeal.τ Cert.KGatesIdeal.sig) → Buf (Elt Ideal) ℓ) : Prop :=
  True

def Pre_KGatesIdeal_finite_gates [hPre_finite_gates : Cert.Pre_finite_gates.Facts] (m : (ℓ : Loc Cert.KGatesIdeal.nD Cert.KGatesIdeal.τ Cert.KGatesIdeal.sig) → Buf (Elt Ideal) ℓ) : Prop :=
  ∀ c : Dev Cert.KGatesIdeal.nD,
    (Cert.Pre_finite_gates.fn (F := Ideal) (m ((c.tc : Thread Cert.KGatesIdeal.nD Cert.KGatesIdeal.τ).loc Cert.KGatesIdeal.main_arg0)) (m ((c.tc : Thread Cert.KGatesIdeal.nD Cert.KGatesIdeal.τ).loc Cert.KGatesIdeal.main_arg1)) (m ((c.tc : Thread Cert.KGatesIdeal.nD Cert.KGatesIdeal.τ).loc Cert.KGatesIdeal.main_arg2)) (m ((c.tc : Thread Cert.KGatesIdeal.nD Cert.KGatesIdeal.τ).loc Cert.KGatesIdeal.main_arg3)) (m ((c.tc : Thread Cert.KGatesIdeal.nD Cert.KGatesIdeal.τ).loc Cert.KGatesIdeal.main_arg4)) (m ((c.tc : Thread Cert.KGatesIdeal.nD Cert.KGatesIdeal.τ).loc Cert.KGatesIdeal.main_arg5))).1 = (fun _ => 1#1)
    ∧ (Cert.Pre_finite_gates.fn (F := Ideal) (m ((c.tc : Thread Cert.KGatesIdeal.nD Cert.KGatesIdeal.τ).loc Cert.KGatesIdeal.main_arg0)) (m ((c.tc : Thread Cert.KGatesIdeal.nD Cert.KGatesIdeal.τ).loc Cert.KGatesIdeal.main_arg1)) (m ((c.tc : Thread Cert.KGatesIdeal.nD Cert.KGatesIdeal.τ).loc Cert.KGatesIdeal.main_arg2)) (m ((c.tc : Thread Cert.KGatesIdeal.nD Cert.KGatesIdeal.τ).loc Cert.KGatesIdeal.main_arg3)) (m ((c.tc : Thread Cert.KGatesIdeal.nD Cert.KGatesIdeal.τ).loc Cert.KGatesIdeal.main_arg4)) (m ((c.tc : Thread Cert.KGatesIdeal.nD Cert.KGatesIdeal.τ).loc Cert.KGatesIdeal.main_arg5))).2.1 = (fun _ => 1#1)
    ∧ (Cert.Pre_finite_gates.fn (F := Ideal) (m ((c.tc : Thread Cert.KGatesIdeal.nD Cert.KGatesIdeal.τ).loc Cert.KGatesIdeal.main_arg0)) (m ((c.tc : Thread Cert.KGatesIdeal.nD Cert.KGatesIdeal.τ).loc Cert.KGatesIdeal.main_arg1)) (m ((c.tc : Thread Cert.KGatesIdeal.nD Cert.KGatesIdeal.τ).loc Cert.KGatesIdeal.main_arg2)) (m ((c.tc : Thread Cert.KGatesIdeal.nD Cert.KGatesIdeal.τ).loc Cert.KGatesIdeal.main_arg3)) (m ((c.tc : Thread Cert.KGatesIdeal.nD Cert.KGatesIdeal.τ).loc Cert.KGatesIdeal.main_arg4)) (m ((c.tc : Thread Cert.KGatesIdeal.nD Cert.KGatesIdeal.τ).loc Cert.KGatesIdeal.main_arg5))).2.2.1 = (fun _ => 1#1)
    ∧ (Cert.Pre_finite_gates.fn (F := Ideal) (m ((c.tc : Thread Cert.KGatesIdeal.nD Cert.KGatesIdeal.τ).loc Cert.KGatesIdeal.main_arg0)) (m ((c.tc : Thread Cert.KGatesIdeal.nD Cert.KGatesIdeal.τ).loc Cert.KGatesIdeal.main_arg1)) (m ((c.tc : Thread Cert.KGatesIdeal.nD Cert.KGatesIdeal.τ).loc Cert.KGatesIdeal.main_arg2)) (m ((c.tc : Thread Cert.KGatesIdeal.nD Cert.KGatesIdeal.τ).loc Cert.KGatesIdeal.main_arg3)) (m ((c.tc : Thread Cert.KGatesIdeal.nD Cert.KGatesIdeal.τ).loc Cert.KGatesIdeal.main_arg4)) (m ((c.tc : Thread Cert.KGatesIdeal.nD Cert.KGatesIdeal.τ).loc Cert.KGatesIdeal.main_arg5))).2.2.2 = (fun _ => 1#1)

def Pre_RGatesIdeal (m : (ℓ : Loc Cert.RGatesIdeal.nD Cert.RGatesIdeal.τ Cert.RGatesIdeal.sig) → Buf (Elt Ideal) ℓ) : Prop :=
  True

def Pre_RGatesIdeal_finite_gates [hPre_finite_gates : Cert.Pre_finite_gates.Facts] (m : (ℓ : Loc Cert.RGatesIdeal.nD Cert.RGatesIdeal.τ Cert.RGatesIdeal.sig) → Buf (Elt Ideal) ℓ) : Prop :=
  ∀ c : Dev Cert.RGatesIdeal.nD,
    (Cert.Pre_finite_gates.fn (F := Ideal) (m ((c.tc : Thread Cert.RGatesIdeal.nD Cert.RGatesIdeal.τ).loc Cert.RGatesIdeal.main_arg0)) (m ((c.tc : Thread Cert.RGatesIdeal.nD Cert.RGatesIdeal.τ).loc Cert.RGatesIdeal.main_arg1)) (m ((c.tc : Thread Cert.RGatesIdeal.nD Cert.RGatesIdeal.τ).loc Cert.RGatesIdeal.main_arg2)) (m ((c.tc : Thread Cert.RGatesIdeal.nD Cert.RGatesIdeal.τ).loc Cert.RGatesIdeal.main_arg3)) (m ((c.tc : Thread Cert.RGatesIdeal.nD Cert.RGatesIdeal.τ).loc Cert.RGatesIdeal.main_arg4)) (m ((c.tc : Thread Cert.RGatesIdeal.nD Cert.RGatesIdeal.τ).loc Cert.RGatesIdeal.main_arg5))).1 = (fun _ => 1#1)
    ∧ (Cert.Pre_finite_gates.fn (F := Ideal) (m ((c.tc : Thread Cert.RGatesIdeal.nD Cert.RGatesIdeal.τ).loc Cert.RGatesIdeal.main_arg0)) (m ((c.tc : Thread Cert.RGatesIdeal.nD Cert.RGatesIdeal.τ).loc Cert.RGatesIdeal.main_arg1)) (m ((c.tc : Thread Cert.RGatesIdeal.nD Cert.RGatesIdeal.τ).loc Cert.RGatesIdeal.main_arg2)) (m ((c.tc : Thread Cert.RGatesIdeal.nD Cert.RGatesIdeal.τ).loc Cert.RGatesIdeal.main_arg3)) (m ((c.tc : Thread Cert.RGatesIdeal.nD Cert.RGatesIdeal.τ).loc Cert.RGatesIdeal.main_arg4)) (m ((c.tc : Thread Cert.RGatesIdeal.nD Cert.RGatesIdeal.τ).loc Cert.RGatesIdeal.main_arg5))).2.1 = (fun _ => 1#1)
    ∧ (Cert.Pre_finite_gates.fn (F := Ideal) (m ((c.tc : Thread Cert.RGatesIdeal.nD Cert.RGatesIdeal.τ).loc Cert.RGatesIdeal.main_arg0)) (m ((c.tc : Thread Cert.RGatesIdeal.nD Cert.RGatesIdeal.τ).loc Cert.RGatesIdeal.main_arg1)) (m ((c.tc : Thread Cert.RGatesIdeal.nD Cert.RGatesIdeal.τ).loc Cert.RGatesIdeal.main_arg2)) (m ((c.tc : Thread Cert.RGatesIdeal.nD Cert.RGatesIdeal.τ).loc Cert.RGatesIdeal.main_arg3)) (m ((c.tc : Thread Cert.RGatesIdeal.nD Cert.RGatesIdeal.τ).loc Cert.RGatesIdeal.main_arg4)) (m ((c.tc : Thread Cert.RGatesIdeal.nD Cert.RGatesIdeal.τ).loc Cert.RGatesIdeal.main_arg5))).2.2.1 = (fun _ => 1#1)
    ∧ (Cert.Pre_finite_gates.fn (F := Ideal) (m ((c.tc : Thread Cert.RGatesIdeal.nD Cert.RGatesIdeal.τ).loc Cert.RGatesIdeal.main_arg0)) (m ((c.tc : Thread Cert.RGatesIdeal.nD Cert.RGatesIdeal.τ).loc Cert.RGatesIdeal.main_arg1)) (m ((c.tc : Thread Cert.RGatesIdeal.nD Cert.RGatesIdeal.τ).loc Cert.RGatesIdeal.main_arg2)) (m ((c.tc : Thread Cert.RGatesIdeal.nD Cert.RGatesIdeal.τ).loc Cert.RGatesIdeal.main_arg3)) (m ((c.tc : Thread Cert.RGatesIdeal.nD Cert.RGatesIdeal.τ).loc Cert.RGatesIdeal.main_arg4)) (m ((c.tc : Thread Cert.RGatesIdeal.nD Cert.RGatesIdeal.τ).loc Cert.RGatesIdeal.main_arg5))).2.2.2 = (fun _ => 1#1)

def Pre_KPool (m : (ℓ : Loc Cert.KPool.nD Cert.KPool.τ Cert.KPool.sig) → Buf (Elt Bits) ℓ) : Prop :=
  True

def Pre_KPoolIdeal (m : (ℓ : Loc Cert.KPoolIdeal.nD Cert.KPoolIdeal.τ Cert.KPoolIdeal.sig) → Buf (Elt Ideal) ℓ) : Prop :=
  True

def Pre_KPoolIdeal_finite_pool [hPre_finite_pool : Cert.Pre_finite_pool.Facts] (m : (ℓ : Loc Cert.KPoolIdeal.nD Cert.KPoolIdeal.τ Cert.KPoolIdeal.sig) → Buf (Elt Ideal) ℓ) : Prop :=
  ∀ c : Dev Cert.KPoolIdeal.nD,
    (Cert.Pre_finite_pool.fn (F := Ideal) (m ((c.tc : Thread Cert.KPoolIdeal.nD Cert.KPoolIdeal.τ).loc Cert.KPoolIdeal.main_arg0)) (m ((c.tc : Thread Cert.KPoolIdeal.nD Cert.KPoolIdeal.τ).loc Cert.KPoolIdeal.main_arg1)) (m ((c.tc : Thread Cert.KPoolIdeal.nD Cert.KPoolIdeal.τ).loc Cert.KPoolIdeal.main_arg2)) (m ((c.tc : Thread Cert.KPoolIdeal.nD Cert.KPoolIdeal.τ).loc Cert.KPoolIdeal.main_arg3))).1 = (fun _ => 1#1)
    ∧ (Cert.Pre_finite_pool.fn (F := Ideal) (m ((c.tc : Thread Cert.KPoolIdeal.nD Cert.KPoolIdeal.τ).loc Cert.KPoolIdeal.main_arg0)) (m ((c.tc : Thread Cert.KPoolIdeal.nD Cert.KPoolIdeal.τ).loc Cert.KPoolIdeal.main_arg1)) (m ((c.tc : Thread Cert.KPoolIdeal.nD Cert.KPoolIdeal.τ).loc Cert.KPoolIdeal.main_arg2)) (m ((c.tc : Thread Cert.KPoolIdeal.nD Cert.KPoolIdeal.τ).loc Cert.KPoolIdeal.main_arg3))).2.1 = (fun _ => 1#1)
    ∧ (Cert.Pre_finite_pool.fn (F := Ideal) (m ((c.tc : Thread Cert.KPoolIdeal.nD Cert.KPoolIdeal.τ).loc Cert.KPoolIdeal.main_arg0)) (m ((c.tc : Thread Cert.KPoolIdeal.nD Cert.KPoolIdeal.τ).loc Cert.KPoolIdeal.main_arg1)) (m ((c.tc : Thread Cert.KPoolIdeal.nD Cert.KPoolIdeal.τ).loc Cert.KPoolIdeal.main_arg2)) (m ((c.tc : Thread Cert.KPoolIdeal.nD Cert.KPoolIdeal.τ).loc Cert.KPoolIdeal.main_arg3))).2.2.1 = (fun _ => 1#1)
    ∧ (Cert.Pre_finite_pool.fn (F := Ideal) (m ((c.tc : Thread Cert.KPoolIdeal.nD Cert.KPoolIdeal.τ).loc Cert.KPoolIdeal.main_arg0)) (m ((c.tc : Thread Cert.KPoolIdeal.nD Cert.KPoolIdeal.τ).loc Cert.KPoolIdeal.main_arg1)) (m ((c.tc : Thread Cert.KPoolIdeal.nD Cert.KPoolIdeal.τ).loc Cert.KPoolIdeal.main_arg2)) (m ((c.tc : Thread Cert.KPoolIdeal.nD Cert.KPoolIdeal.τ).loc Cert.KPoolIdeal.main_arg3))).2.2.2 = (fun _ => 1#1)

def Pre_RPoolIdeal (m : (ℓ : Loc Cert.RPoolIdeal.nD Cert.RPoolIdeal.τ Cert.RPoolIdeal.sig) → Buf (Elt Ideal) ℓ) : Prop :=
  True

def Pre_RPoolIdeal_finite_pool [hPre_finite_pool : Cert.Pre_finite_pool.Facts] (m : (ℓ : Loc Cert.RPoolIdeal.nD Cert.RPoolIdeal.τ Cert.RPoolIdeal.sig) → Buf (Elt Ideal) ℓ) : Prop :=
  ∀ c : Dev Cert.RPoolIdeal.nD,
    (Cert.Pre_finite_pool.fn (F := Ideal) (m ((c.tc : Thread Cert.RPoolIdeal.nD Cert.RPoolIdeal.τ).loc Cert.RPoolIdeal.main_arg0)) (m ((c.tc : Thread Cert.RPoolIdeal.nD Cert.RPoolIdeal.τ).loc Cert.RPoolIdeal.main_arg1)) (m ((c.tc : Thread Cert.RPoolIdeal.nD Cert.RPoolIdeal.τ).loc Cert.RPoolIdeal.main_arg2)) (m ((c.tc : Thread Cert.RPoolIdeal.nD Cert.RPoolIdeal.τ).loc Cert.RPoolIdeal.main_arg3))).1 = (fun _ => 1#1)
    ∧ (Cert.Pre_finite_pool.fn (F := Ideal) (m ((c.tc : Thread Cert.RPoolIdeal.nD Cert.RPoolIdeal.τ).loc Cert.RPoolIdeal.main_arg0)) (m ((c.tc : Thread Cert.RPoolIdeal.nD Cert.RPoolIdeal.τ).loc Cert.RPoolIdeal.main_arg1)) (m ((c.tc : Thread Cert.RPoolIdeal.nD Cert.RPoolIdeal.τ).loc Cert.RPoolIdeal.main_arg2)) (m ((c.tc : Thread Cert.RPoolIdeal.nD Cert.RPoolIdeal.τ).loc Cert.RPoolIdeal.main_arg3))).2.1 = (fun _ => 1#1)
    ∧ (Cert.Pre_finite_pool.fn (F := Ideal) (m ((c.tc : Thread Cert.RPoolIdeal.nD Cert.RPoolIdeal.τ).loc Cert.RPoolIdeal.main_arg0)) (m ((c.tc : Thread Cert.RPoolIdeal.nD Cert.RPoolIdeal.τ).loc Cert.RPoolIdeal.main_arg1)) (m ((c.tc : Thread Cert.RPoolIdeal.nD Cert.RPoolIdeal.τ).loc Cert.RPoolIdeal.main_arg2)) (m ((c.tc : Thread Cert.RPoolIdeal.nD Cert.RPoolIdeal.τ).loc Cert.RPoolIdeal.main_arg3))).2.2.1 = (fun _ => 1#1)
    ∧ (Cert.Pre_finite_pool.fn (F := Ideal) (m ((c.tc : Thread Cert.RPoolIdeal.nD Cert.RPoolIdeal.τ).loc Cert.RPoolIdeal.main_arg0)) (m ((c.tc : Thread Cert.RPoolIdeal.nD Cert.RPoolIdeal.τ).loc Cert.RPoolIdeal.main_arg1)) (m ((c.tc : Thread Cert.RPoolIdeal.nD Cert.RPoolIdeal.τ).loc Cert.RPoolIdeal.main_arg2)) (m ((c.tc : Thread Cert.RPoolIdeal.nD Cert.RPoolIdeal.τ).loc Cert.RPoolIdeal.main_arg3))).2.2.2 = (fun _ => 1#1)

def Pre_KPre (m : (ℓ : Loc Cert.KPre.nD Cert.KPre.τ Cert.KPre.sig) → Buf (Elt Bits) ℓ) : Prop :=
  True

def Pre_KPreIdeal (m : (ℓ : Loc Cert.KPreIdeal.nD Cert.KPreIdeal.τ Cert.KPreIdeal.sig) → Buf (Elt Ideal) ℓ) : Prop :=
  True

def Pre_KPreIdeal_finite_pre [hPre_finite_pre : Cert.Pre_finite_pre.Facts] (m : (ℓ : Loc Cert.KPreIdeal.nD Cert.KPreIdeal.τ Cert.KPreIdeal.sig) → Buf (Elt Ideal) ℓ) : Prop :=
  ∀ c : Dev Cert.KPreIdeal.nD,
    (Cert.Pre_finite_pre.fn (F := Ideal) (m ((c.tc : Thread Cert.KPreIdeal.nD Cert.KPreIdeal.τ).loc Cert.KPreIdeal.main_arg0)) (m ((c.tc : Thread Cert.KPreIdeal.nD Cert.KPreIdeal.τ).loc Cert.KPreIdeal.main_arg1)) (m ((c.tc : Thread Cert.KPreIdeal.nD Cert.KPreIdeal.τ).loc Cert.KPreIdeal.main_arg2))).1 = (fun _ => 1#1)
    ∧ (Cert.Pre_finite_pre.fn (F := Ideal) (m ((c.tc : Thread Cert.KPreIdeal.nD Cert.KPreIdeal.τ).loc Cert.KPreIdeal.main_arg0)) (m ((c.tc : Thread Cert.KPreIdeal.nD Cert.KPreIdeal.τ).loc Cert.KPreIdeal.main_arg1)) (m ((c.tc : Thread Cert.KPreIdeal.nD Cert.KPreIdeal.τ).loc Cert.KPreIdeal.main_arg2))).2.1 = (fun _ => 1#1)
    ∧ (Cert.Pre_finite_pre.fn (F := Ideal) (m ((c.tc : Thread Cert.KPreIdeal.nD Cert.KPreIdeal.τ).loc Cert.KPreIdeal.main_arg0)) (m ((c.tc : Thread Cert.KPreIdeal.nD Cert.KPreIdeal.τ).loc Cert.KPreIdeal.main_arg1)) (m ((c.tc : Thread Cert.KPreIdeal.nD Cert.KPreIdeal.τ).loc Cert.KPreIdeal.main_arg2))).2.2 = (fun _ => 1#1)

def Pre_RPreIdeal (m : (ℓ : Loc Cert.RPreIdeal.nD Cert.RPreIdeal.τ Cert.RPreIdeal.sig) → Buf (Elt Ideal) ℓ) : Prop :=
  True

def Pre_RPreIdeal_finite_pre [hPre_finite_pre : Cert.Pre_finite_pre.Facts] (m : (ℓ : Loc Cert.RPreIdeal.nD Cert.RPreIdeal.τ Cert.RPreIdeal.sig) → Buf (Elt Ideal) ℓ) : Prop :=
  ∀ c : Dev Cert.RPreIdeal.nD,
    (Cert.Pre_finite_pre.fn (F := Ideal) (m ((c.tc : Thread Cert.RPreIdeal.nD Cert.RPreIdeal.τ).loc Cert.RPreIdeal.main_arg0)) (m ((c.tc : Thread Cert.RPreIdeal.nD Cert.RPreIdeal.τ).loc Cert.RPreIdeal.main_arg1)) (m ((c.tc : Thread Cert.RPreIdeal.nD Cert.RPreIdeal.τ).loc Cert.RPreIdeal.main_arg2))).1 = (fun _ => 1#1)
    ∧ (Cert.Pre_finite_pre.fn (F := Ideal) (m ((c.tc : Thread Cert.RPreIdeal.nD Cert.RPreIdeal.τ).loc Cert.RPreIdeal.main_arg0)) (m ((c.tc : Thread Cert.RPreIdeal.nD Cert.RPreIdeal.τ).loc Cert.RPreIdeal.main_arg1)) (m ((c.tc : Thread Cert.RPreIdeal.nD Cert.RPreIdeal.τ).loc Cert.RPreIdeal.main_arg2))).2.1 = (fun _ => 1#1)
    ∧ (Cert.Pre_finite_pre.fn (F := Ideal) (m ((c.tc : Thread Cert.RPreIdeal.nD Cert.RPreIdeal.τ).loc Cert.RPreIdeal.main_arg0)) (m ((c.tc : Thread Cert.RPreIdeal.nD Cert.RPreIdeal.τ).loc Cert.RPreIdeal.main_arg1)) (m ((c.tc : Thread Cert.RPreIdeal.nD Cert.RPreIdeal.τ).loc Cert.RPreIdeal.main_arg2))).2.2 = (fun _ => 1#1)

def Pre_KXattnf (m : (ℓ : Loc Cert.KXattnf.nD Cert.KXattnf.τ Cert.KXattnf.sig) → Buf (Elt Bits) ℓ) : Prop :=
  True

def Pre_KXattnfIdeal (m : (ℓ : Loc Cert.KXattnfIdeal.nD Cert.KXattnfIdeal.τ Cert.KXattnfIdeal.sig) → Buf (Elt Ideal) ℓ) : Prop :=
  True

def Pre_KXattnfIdeal_finite_xattnf [hPre_finite_xattnf : Cert.Pre_finite_xattnf.Facts] (m : (ℓ : Loc Cert.KXattnfIdeal.nD Cert.KXattnfIdeal.τ Cert.KXattnfIdeal.sig) → Buf (Elt Ideal) ℓ) : Prop :=
  ∀ c : Dev Cert.KXattnfIdeal.nD,
    (Cert.Pre_finite_xattnf.fn (F := Ideal) (m ((c.tc : Thread Cert.KXattnfIdeal.nD Cert.KXattnfIdeal.τ).loc Cert.KXattnfIdeal.main_arg0)) (m ((c.tc : Thread Cert.KXattnfIdeal.nD Cert.KXattnfIdeal.τ).loc Cert.KXattnfIdeal.main_arg1)) (m ((c.tc : Thread Cert.KXattnfIdeal.nD Cert.KXattnfIdeal.τ).loc Cert.KXattnfIdeal.main_arg2))).1 = (fun _ => 1#1)
    ∧ (Cert.Pre_finite_xattnf.fn (F := Ideal) (m ((c.tc : Thread Cert.KXattnfIdeal.nD Cert.KXattnfIdeal.τ).loc Cert.KXattnfIdeal.main_arg0)) (m ((c.tc : Thread Cert.KXattnfIdeal.nD Cert.KXattnfIdeal.τ).loc Cert.KXattnfIdeal.main_arg1)) (m ((c.tc : Thread Cert.KXattnfIdeal.nD Cert.KXattnfIdeal.τ).loc Cert.KXattnfIdeal.main_arg2))).2 = (fun _ => 1#1)

def Pre_RXattnfIdeal (m : (ℓ : Loc Cert.RXattnfIdeal.nD Cert.RXattnfIdeal.τ Cert.RXattnfIdeal.sig) → Buf (Elt Ideal) ℓ) : Prop :=
  True

def Pre_RXattnfIdeal_finite_xattnf [hPre_finite_xattnf : Cert.Pre_finite_xattnf.Facts] (m : (ℓ : Loc Cert.RXattnfIdeal.nD Cert.RXattnfIdeal.τ Cert.RXattnfIdeal.sig) → Buf (Elt Ideal) ℓ) : Prop :=
  ∀ c : Dev Cert.RXattnfIdeal.nD,
    (Cert.Pre_finite_xattnf.fn (F := Ideal) (m ((c.tc : Thread Cert.RXattnfIdeal.nD Cert.RXattnfIdeal.τ).loc Cert.RXattnfIdeal.main_arg0)) (m ((c.tc : Thread Cert.RXattnfIdeal.nD Cert.RXattnfIdeal.τ).loc Cert.RXattnfIdeal.main_arg1)) (m ((c.tc : Thread Cert.RXattnfIdeal.nD Cert.RXattnfIdeal.τ).loc Cert.RXattnfIdeal.main_arg2))).1 = (fun _ => 1#1)
    ∧ (Cert.Pre_finite_xattnf.fn (F := Ideal) (m ((c.tc : Thread Cert.RXattnfIdeal.nD Cert.RXattnfIdeal.τ).loc Cert.RXattnfIdeal.main_arg0)) (m ((c.tc : Thread Cert.RXattnfIdeal.nD Cert.RXattnfIdeal.τ).loc Cert.RXattnfIdeal.main_arg1)) (m ((c.tc : Thread Cert.RXattnfIdeal.nD Cert.RXattnfIdeal.τ).loc Cert.RXattnfIdeal.main_arg2))).2 = (fun _ => 1#1)

def Pre_KPoolf (m : (ℓ : Loc Cert.KPoolf.nD Cert.KPoolf.τ Cert.KPoolf.sig) → Buf (Elt Bits) ℓ) : Prop :=
  True

def Pre_KPoolfIdeal (m : (ℓ : Loc Cert.KPoolfIdeal.nD Cert.KPoolfIdeal.τ Cert.KPoolfIdeal.sig) → Buf (Elt Ideal) ℓ) : Prop :=
  True

def Pre_KPoolfIdeal_finite_poolf [hPre_finite_poolf : Cert.Pre_finite_poolf.Facts] (m : (ℓ : Loc Cert.KPoolfIdeal.nD Cert.KPoolfIdeal.τ Cert.KPoolfIdeal.sig) → Buf (Elt Ideal) ℓ) : Prop :=
  ∀ c : Dev Cert.KPoolfIdeal.nD,
    (Cert.Pre_finite_poolf.fn (F := Ideal) (m ((c.tc : Thread Cert.KPoolfIdeal.nD Cert.KPoolfIdeal.τ).loc Cert.KPoolfIdeal.main_arg0)) (m ((c.tc : Thread Cert.KPoolfIdeal.nD Cert.KPoolfIdeal.τ).loc Cert.KPoolfIdeal.main_arg1)) (m ((c.tc : Thread Cert.KPoolfIdeal.nD Cert.KPoolfIdeal.τ).loc Cert.KPoolfIdeal.main_arg2))) = (fun _ => 1#1)

def Pre_RPoolfIdeal (m : (ℓ : Loc Cert.RPoolfIdeal.nD Cert.RPoolfIdeal.τ Cert.RPoolfIdeal.sig) → Buf (Elt Ideal) ℓ) : Prop :=
  True

def Pre_RPoolfIdeal_finite_poolf [hPre_finite_poolf : Cert.Pre_finite_poolf.Facts] (m : (ℓ : Loc Cert.RPoolfIdeal.nD Cert.RPoolfIdeal.τ Cert.RPoolfIdeal.sig) → Buf (Elt Ideal) ℓ) : Prop :=
  ∀ c : Dev Cert.RPoolfIdeal.nD,
    (Cert.Pre_finite_poolf.fn (F := Ideal) (m ((c.tc : Thread Cert.RPoolfIdeal.nD Cert.RPoolfIdeal.τ).loc Cert.RPoolfIdeal.main_arg0)) (m ((c.tc : Thread Cert.RPoolfIdeal.nD Cert.RPoolfIdeal.τ).loc Cert.RPoolfIdeal.main_arg1)) (m ((c.tc : Thread Cert.RPoolfIdeal.nD Cert.RPoolfIdeal.τ).loc Cert.RPoolfIdeal.main_arg2))) = (fun _ => 1#1)

def Pre_KPostf (m : (ℓ : Loc Cert.KPostf.nD Cert.KPostf.τ Cert.KPostf.sig) → Buf (Elt Bits) ℓ) : Prop :=
  True

def Pre_KPostfIdeal (m : (ℓ : Loc Cert.KPostfIdeal.nD Cert.KPostfIdeal.τ Cert.KPostfIdeal.sig) → Buf (Elt Ideal) ℓ) : Prop :=
  True

def Pre_RPostfIdeal (m : (ℓ : Loc Cert.RPostfIdeal.nD Cert.RPostfIdeal.τ Cert.RPostfIdeal.sig) → Buf (Elt Ideal) ℓ) : Prop :=
  True

def Pre_KPref (m : (ℓ : Loc Cert.KPref.nD Cert.KPref.τ Cert.KPref.sig) → Buf (Elt Bits) ℓ) : Prop :=
  True

def Pre_KPrefIdeal (m : (ℓ : Loc Cert.KPrefIdeal.nD Cert.KPrefIdeal.τ Cert.KPrefIdeal.sig) → Buf (Elt Ideal) ℓ) : Prop :=
  True

def Pre_RPrefIdeal (m : (ℓ : Loc Cert.RPrefIdeal.nD Cert.RPrefIdeal.τ Cert.RPrefIdeal.sig) → Buf (Elt Ideal) ℓ) : Prop :=
  True

def Pre_KXqdx (m : (ℓ : Loc Cert.KXqdx.nD Cert.KXqdx.τ Cert.KXqdx.sig) → Buf (Elt Bits) ℓ) : Prop :=
  True

def Pre_KXqdxIdeal (m : (ℓ : Loc Cert.KXqdxIdeal.nD Cert.KXqdxIdeal.τ Cert.KXqdxIdeal.sig) → Buf (Elt Ideal) ℓ) : Prop :=
  True

def Pre_KXqdxIdeal_finite_xqdx [hPre_finite_xqdx : Cert.Pre_finite_xqdx.Facts] (m : (ℓ : Loc Cert.KXqdxIdeal.nD Cert.KXqdxIdeal.τ Cert.KXqdxIdeal.sig) → Buf (Elt Ideal) ℓ) : Prop :=
  ∀ c : Dev Cert.KXqdxIdeal.nD,
    (Cert.Pre_finite_xqdx.fn (F := Ideal) (m ((c.tc : Thread Cert.KXqdxIdeal.nD Cert.KXqdxIdeal.τ).loc Cert.KXqdxIdeal.main_arg0)) (m ((c.tc : Thread Cert.KXqdxIdeal.nD Cert.KXqdxIdeal.τ).loc Cert.KXqdxIdeal.main_arg1)) (m ((c.tc : Thread Cert.KXqdxIdeal.nD Cert.KXqdxIdeal.τ).loc Cert.KXqdxIdeal.main_arg2)) (m ((c.tc : Thread Cert.KXqdxIdeal.nD Cert.KXqdxIdeal.τ).loc Cert.KXqdxIdeal.main_arg3)) (m ((c.tc : Thread Cert.KXqdxIdeal.nD Cert.KXqdxIdeal.τ).loc Cert.KXqdxIdeal.main_arg4))).1 = (fun _ => 1#1)
    ∧ (Cert.Pre_finite_xqdx.fn (F := Ideal) (m ((c.tc : Thread Cert.KXqdxIdeal.nD Cert.KXqdxIdeal.τ).loc Cert.KXqdxIdeal.main_arg0)) (m ((c.tc : Thread Cert.KXqdxIdeal.nD Cert.KXqdxIdeal.τ).loc Cert.KXqdxIdeal.main_arg1)) (m ((c.tc : Thread Cert.KXqdxIdeal.nD Cert.KXqdxIdeal.τ).loc Cert.KXqdxIdeal.main_arg2)) (m ((c.tc : Thread Cert.KXqdxIdeal.nD Cert.KXqdxIdeal.τ).loc Cert.KXqdxIdeal.main_arg3)) (m ((c.tc : Thread Cert.KXqdxIdeal.nD Cert.KXqdxIdeal.τ).loc Cert.KXqdxIdeal.main_arg4))).2.1 = (fun _ => 1#1)
    ∧ (Cert.Pre_finite_xqdx.fn (F := Ideal) (m ((c.tc : Thread Cert.KXqdxIdeal.nD Cert.KXqdxIdeal.τ).loc Cert.KXqdxIdeal.main_arg0)) (m ((c.tc : Thread Cert.KXqdxIdeal.nD Cert.KXqdxIdeal.τ).loc Cert.KXqdxIdeal.main_arg1)) (m ((c.tc : Thread Cert.KXqdxIdeal.nD Cert.KXqdxIdeal.τ).loc Cert.KXqdxIdeal.main_arg2)) (m ((c.tc : Thread Cert.KXqdxIdeal.nD Cert.KXqdxIdeal.τ).loc Cert.KXqdxIdeal.main_arg3)) (m ((c.tc : Thread Cert.KXqdxIdeal.nD Cert.KXqdxIdeal.τ).loc Cert.KXqdxIdeal.main_arg4))).2.2.1 = (fun _ => 1#1)
    ∧ (Cert.Pre_finite_xqdx.fn (F := Ideal) (m ((c.tc : Thread Cert.KXqdxIdeal.nD Cert.KXqdxIdeal.τ).loc Cert.KXqdxIdeal.main_arg0)) (m ((c.tc : Thread Cert.KXqdxIdeal.nD Cert.KXqdxIdeal.τ).loc Cert.KXqdxIdeal.main_arg1)) (m ((c.tc : Thread Cert.KXqdxIdeal.nD Cert.KXqdxIdeal.τ).loc Cert.KXqdxIdeal.main_arg2)) (m ((c.tc : Thread Cert.KXqdxIdeal.nD Cert.KXqdxIdeal.τ).loc Cert.KXqdxIdeal.main_arg3)) (m ((c.tc : Thread Cert.KXqdxIdeal.nD Cert.KXqdxIdeal.τ).loc Cert.KXqdxIdeal.main_arg4))).2.2.2.1 = (fun _ => 1#1)
    ∧ (Cert.Pre_finite_xqdx.fn (F := Ideal) (m ((c.tc : Thread Cert.KXqdxIdeal.nD Cert.KXqdxIdeal.τ).loc Cert.KXqdxIdeal.main_arg0)) (m ((c.tc : Thread Cert.KXqdxIdeal.nD Cert.KXqdxIdeal.τ).loc Cert.KXqdxIdeal.main_arg1)) (m ((c.tc : Thread Cert.KXqdxIdeal.nD Cert.KXqdxIdeal.τ).loc Cert.KXqdxIdeal.main_arg2)) (m ((c.tc : Thread Cert.KXqdxIdeal.nD Cert.KXqdxIdeal.τ).loc Cert.KXqdxIdeal.main_arg3)) (m ((c.tc : Thread Cert.KXqdxIdeal.nD Cert.KXqdxIdeal.τ).loc Cert.KXqdxIdeal.main_arg4))).2.2.2.2 = (fun _ => 1#1)

def Pre_RXqdxIdeal (m : (ℓ : Loc Cert.RXqdxIdeal.nD Cert.RXqdxIdeal.τ Cert.RXqdxIdeal.sig) → Buf (Elt Ideal) ℓ) : Prop :=
  True

def Pre_RXqdxIdeal_finite_xqdx [hPre_finite_xqdx : Cert.Pre_finite_xqdx.Facts] (m : (ℓ : Loc Cert.RXqdxIdeal.nD Cert.RXqdxIdeal.τ Cert.RXqdxIdeal.sig) → Buf (Elt Ideal) ℓ) : Prop :=
  ∀ c : Dev Cert.RXqdxIdeal.nD,
    (Cert.Pre_finite_xqdx.fn (F := Ideal) (m ((c.tc : Thread Cert.RXqdxIdeal.nD Cert.RXqdxIdeal.τ).loc Cert.RXqdxIdeal.main_arg0)) (m ((c.tc : Thread Cert.RXqdxIdeal.nD Cert.RXqdxIdeal.τ).loc Cert.RXqdxIdeal.main_arg1)) (m ((c.tc : Thread Cert.RXqdxIdeal.nD Cert.RXqdxIdeal.τ).loc Cert.RXqdxIdeal.main_arg2)) (m ((c.tc : Thread Cert.RXqdxIdeal.nD Cert.RXqdxIdeal.τ).loc Cert.RXqdxIdeal.main_arg3)) (m ((c.tc : Thread Cert.RXqdxIdeal.nD Cert.RXqdxIdeal.τ).loc Cert.RXqdxIdeal.main_arg4))).1 = (fun _ => 1#1)
    ∧ (Cert.Pre_finite_xqdx.fn (F := Ideal) (m ((c.tc : Thread Cert.RXqdxIdeal.nD Cert.RXqdxIdeal.τ).loc Cert.RXqdxIdeal.main_arg0)) (m ((c.tc : Thread Cert.RXqdxIdeal.nD Cert.RXqdxIdeal.τ).loc Cert.RXqdxIdeal.main_arg1)) (m ((c.tc : Thread Cert.RXqdxIdeal.nD Cert.RXqdxIdeal.τ).loc Cert.RXqdxIdeal.main_arg2)) (m ((c.tc : Thread Cert.RXqdxIdeal.nD Cert.RXqdxIdeal.τ).loc Cert.RXqdxIdeal.main_arg3)) (m ((c.tc : Thread Cert.RXqdxIdeal.nD Cert.RXqdxIdeal.τ).loc Cert.RXqdxIdeal.main_arg4))).2.1 = (fun _ => 1#1)
    ∧ (Cert.Pre_finite_xqdx.fn (F := Ideal) (m ((c.tc : Thread Cert.RXqdxIdeal.nD Cert.RXqdxIdeal.τ).loc Cert.RXqdxIdeal.main_arg0)) (m ((c.tc : Thread Cert.RXqdxIdeal.nD Cert.RXqdxIdeal.τ).loc Cert.RXqdxIdeal.main_arg1)) (m ((c.tc : Thread Cert.RXqdxIdeal.nD Cert.RXqdxIdeal.τ).loc Cert.RXqdxIdeal.main_arg2)) (m ((c.tc : Thread Cert.RXqdxIdeal.nD Cert.RXqdxIdeal.τ).loc Cert.RXqdxIdeal.main_arg3)) (m ((c.tc : Thread Cert.RXqdxIdeal.nD Cert.RXqdxIdeal.τ).loc Cert.RXqdxIdeal.main_arg4))).2.2.1 = (fun _ => 1#1)
    ∧ (Cert.Pre_finite_xqdx.fn (F := Ideal) (m ((c.tc : Thread Cert.RXqdxIdeal.nD Cert.RXqdxIdeal.τ).loc Cert.RXqdxIdeal.main_arg0)) (m ((c.tc : Thread Cert.RXqdxIdeal.nD Cert.RXqdxIdeal.τ).loc Cert.RXqdxIdeal.main_arg1)) (m ((c.tc : Thread Cert.RXqdxIdeal.nD Cert.RXqdxIdeal.τ).loc Cert.RXqdxIdeal.main_arg2)) (m ((c.tc : Thread Cert.RXqdxIdeal.nD Cert.RXqdxIdeal.τ).loc Cert.RXqdxIdeal.main_arg3)) (m ((c.tc : Thread Cert.RXqdxIdeal.nD Cert.RXqdxIdeal.τ).loc Cert.RXqdxIdeal.main_arg4))).2.2.2.1 = (fun _ => 1#1)
    ∧ (Cert.Pre_finite_xqdx.fn (F := Ideal) (m ((c.tc : Thread Cert.RXqdxIdeal.nD Cert.RXqdxIdeal.τ).loc Cert.RXqdxIdeal.main_arg0)) (m ((c.tc : Thread Cert.RXqdxIdeal.nD Cert.RXqdxIdeal.τ).loc Cert.RXqdxIdeal.main_arg1)) (m ((c.tc : Thread Cert.RXqdxIdeal.nD Cert.RXqdxIdeal.τ).loc Cert.RXqdxIdeal.main_arg2)) (m ((c.tc : Thread Cert.RXqdxIdeal.nD Cert.RXqdxIdeal.τ).loc Cert.RXqdxIdeal.main_arg3)) (m ((c.tc : Thread Cert.RXqdxIdeal.nD Cert.RXqdxIdeal.τ).loc Cert.RXqdxIdeal.main_arg4))).2.2.2.2 = (fun _ => 1#1)

def Pre_KMlpdx (m : (ℓ : Loc Cert.KMlpdx.nD Cert.KMlpdx.τ Cert.KMlpdx.sig) → Buf (Elt Bits) ℓ) : Prop :=
  True

def Pre_KMlpdxIdeal (m : (ℓ : Loc Cert.KMlpdxIdeal.nD Cert.KMlpdxIdeal.τ Cert.KMlpdxIdeal.sig) → Buf (Elt Ideal) ℓ) : Prop :=
  True

def Pre_RMlpdxIdeal (m : (ℓ : Loc Cert.RMlpdxIdeal.nD Cert.RMlpdxIdeal.τ Cert.RMlpdxIdeal.sig) → Buf (Elt Ideal) ℓ) : Prop :=
  True

def Pre_KLnf (m : (ℓ : Loc Cert.KLnf.nD Cert.KLnf.τ Cert.KLnf.sig) → Buf (Elt Bits) ℓ) : Prop :=
  True

def Pre_KLnfIdeal (m : (ℓ : Loc Cert.KLnfIdeal.nD Cert.KLnfIdeal.τ Cert.KLnfIdeal.sig) → Buf (Elt Ideal) ℓ) : Prop :=
  True

def Pre_RLnfIdeal (m : (ℓ : Loc Cert.RLnfIdeal.nD Cert.RLnfIdeal.τ Cert.RLnfIdeal.sig) → Buf (Elt Ideal) ℓ) : Prop :=
  True

def Pre_KUpf (m : (ℓ : Loc Cert.KUpf.nD Cert.KUpf.τ Cert.KUpf.sig) → Buf (Elt Bits) ℓ) : Prop :=
  True

def Pre_KUpfIdeal (m : (ℓ : Loc Cert.KUpfIdeal.nD Cert.KUpfIdeal.τ Cert.KUpfIdeal.sig) → Buf (Elt Ideal) ℓ) : Prop :=
  True

def Pre_RUpfIdeal (m : (ℓ : Loc Cert.RUpfIdeal.nD Cert.RUpfIdeal.τ Cert.RUpfIdeal.sig) → Buf (Elt Ideal) ℓ) : Prop :=
  True

def Pre_KGatesf (m : (ℓ : Loc Cert.KGatesf.nD Cert.KGatesf.τ Cert.KGatesf.sig) → Buf (Elt Bits) ℓ) : Prop :=
  True

def Pre_KGatesfIdeal (m : (ℓ : Loc Cert.KGatesfIdeal.nD Cert.KGatesfIdeal.τ Cert.KGatesfIdeal.sig) → Buf (Elt Ideal) ℓ) : Prop :=
  True

def Pre_RGatesfIdeal (m : (ℓ : Loc Cert.RGatesfIdeal.nD Cert.RGatesfIdeal.τ Cert.RGatesfIdeal.sig) → Buf (Elt Ideal) ℓ) : Prop :=
  True

def Pre_KDownf (m : (ℓ : Loc Cert.KDownf.nD Cert.KDownf.τ Cert.KDownf.sig) → Buf (Elt Bits) ℓ) : Prop :=
  True

def Pre_KDownfIdeal (m : (ℓ : Loc Cert.KDownfIdeal.nD Cert.KDownfIdeal.τ Cert.KDownfIdeal.sig) → Buf (Elt Ideal) ℓ) : Prop :=
  True

def Pre_RDownfIdeal (m : (ℓ : Loc Cert.RDownfIdeal.nD Cert.RDownfIdeal.τ Cert.RDownfIdeal.sig) → Buf (Elt Ideal) ℓ) : Prop :=
  True

def Pre_KProjdx (m : (ℓ : Loc Cert.KProjdx.nD Cert.KProjdx.τ Cert.KProjdx.sig) → Buf (Elt Bits) ℓ) : Prop :=
  True

def Pre_KProjdxIdeal (m : (ℓ : Loc Cert.KProjdxIdeal.nD Cert.KProjdxIdeal.τ Cert.KProjdxIdeal.sig) → Buf (Elt Ideal) ℓ) : Prop :=
  True

def Pre_RProjdxIdeal (m : (ℓ : Loc Cert.RProjdxIdeal.nD Cert.RProjdxIdeal.τ Cert.RProjdxIdeal.sig) → Buf (Elt Ideal) ℓ) : Prop :=
  True

def Pre_KDowndw (m : (ℓ : Loc Cert.KDowndw.nD Cert.KDowndw.τ Cert.KDowndw.sig) → Buf (Elt Bits) ℓ) : Prop :=
  True

def Pre_KDowndwIdeal (m : (ℓ : Loc Cert.KDowndwIdeal.nD Cert.KDowndwIdeal.τ Cert.KDowndwIdeal.sig) → Buf (Elt Ideal) ℓ) : Prop :=
  True

def Pre_RDowndwIdeal (m : (ℓ : Loc Cert.RDowndwIdeal.nD Cert.RDowndwIdeal.τ Cert.RDowndwIdeal.sig) → Buf (Elt Ideal) ℓ) : Prop :=
  True

def Pre_KAdam (m : (ℓ : Loc Cert.KAdam.nD Cert.KAdam.τ Cert.KAdam.sig) → Buf (Elt Bits) ℓ) : Prop :=
  True

def Pre_KAdamIdeal (m : (ℓ : Loc Cert.KAdamIdeal.nD Cert.KAdamIdeal.τ Cert.KAdamIdeal.sig) → Buf (Elt Ideal) ℓ) : Prop :=
  True

def Pre_RAdamIdeal (m : (ℓ : Loc Cert.RAdamIdeal.nD Cert.RAdamIdeal.τ Cert.RAdamIdeal.sig) → Buf (Elt Ideal) ℓ) : Prop :=
  True

def Pre_KChippart [hPre_core_below_two : Cert.Pre_core_below_two.Facts] (m : (ℓ : Loc Cert.KChippart.nD Cert.KChippart.τ Cert.KChippart.sig) → Buf (Elt Bits) ℓ) : Prop :=
  ∀ c : Dev Cert.KChippart.nD,
    (Cert.Pre_core_below_two.fn (F := Bits) (m ((c.tc : Thread Cert.KChippart.nD Cert.KChippart.τ).loc Cert.KChippart.main_arg0)) (m ((c.tc : Thread Cert.KChippart.nD Cert.KChippart.τ).loc Cert.KChippart.main_arg1)) (m ((c.tc : Thread Cert.KChippart.nD Cert.KChippart.τ).loc Cert.KChippart.main_arg2))) = (fun _ => 1#1)

def Pre_KChippartIdeal [hPre_core_below_two : Cert.Pre_core_below_two.Facts] (m : (ℓ : Loc Cert.KChippartIdeal.nD Cert.KChippartIdeal.τ Cert.KChippartIdeal.sig) → Buf (Elt Ideal) ℓ) : Prop :=
  ∀ c : Dev Cert.KChippartIdeal.nD,
    (Cert.Pre_core_below_two.fn (F := Ideal) (m ((c.tc : Thread Cert.KChippartIdeal.nD Cert.KChippartIdeal.τ).loc Cert.KChippartIdeal.main_arg0)) (m ((c.tc : Thread Cert.KChippartIdeal.nD Cert.KChippartIdeal.τ).loc Cert.KChippartIdeal.main_arg1)) (m ((c.tc : Thread Cert.KChippartIdeal.nD Cert.KChippartIdeal.τ).loc Cert.KChippartIdeal.main_arg2))) = (fun _ => 1#1)

def Pre_RChippartIdeal [hPre_core_below_two : Cert.Pre_core_below_two.Facts] (m : (ℓ : Loc Cert.RChippartIdeal.nD Cert.RChippartIdeal.τ Cert.RChippartIdeal.sig) → Buf (Elt Ideal) ℓ) : Prop :=
  ∀ c : Dev Cert.RChippartIdeal.nD,
    (Cert.Pre_core_below_two.fn (F := Ideal) (m ((c.tc : Thread Cert.RChippartIdeal.nD Cert.RChippartIdeal.τ).loc Cert.RChippartIdeal.main_arg0)) (m ((c.tc : Thread Cert.RChippartIdeal.nD Cert.RChippartIdeal.τ).loc Cert.RChippartIdeal.main_arg1)) (m ((c.tc : Thread Cert.RChippartIdeal.nD Cert.RChippartIdeal.τ).loc Cert.RChippartIdeal.main_arg2))) = (fun _ => 1#1)

def Pre_KSmall (m : (ℓ : Loc Cert.KSmall.nD Cert.KSmall.τ Cert.KSmall.sig) → Buf (Elt Bits) ℓ) : Prop :=
  True

def Pre_KSmallIdeal (m : (ℓ : Loc Cert.KSmallIdeal.nD Cert.KSmallIdeal.τ Cert.KSmallIdeal.sig) → Buf (Elt Ideal) ℓ) : Prop :=
  True

def Pre_RSmallIdeal (m : (ℓ : Loc Cert.RSmallIdeal.nD Cert.RSmallIdeal.τ Cert.RSmallIdeal.sig) → Buf (Elt Ideal) ℓ) : Prop :=
  True

def Pre_KOwn [hPre_a_slice_and_a_core : Cert.Pre_a_slice_and_a_core.Facts] (m : (ℓ : Loc Cert.KOwn.nD Cert.KOwn.τ Cert.KOwn.sig) → Buf (Elt Bits) ℓ) : Prop :=
  ∀ c : Dev Cert.KOwn.nD,
    (Cert.Pre_a_slice_and_a_core.fn (F := Bits) (m ((c.tc : Thread Cert.KOwn.nD Cert.KOwn.τ).loc Cert.KOwn.main_arg0)) (m ((c.tc : Thread Cert.KOwn.nD Cert.KOwn.τ).loc Cert.KOwn.main_arg1)) (m ((c.tc : Thread Cert.KOwn.nD Cert.KOwn.τ).loc Cert.KOwn.main_arg2)) (m ((c.tc : Thread Cert.KOwn.nD Cert.KOwn.τ).loc Cert.KOwn.main_arg3)) (m ((c.tc : Thread Cert.KOwn.nD Cert.KOwn.τ).loc Cert.KOwn.main_arg4))).1 = (fun _ => 1#1)
    ∧ (Cert.Pre_a_slice_and_a_core.fn (F := Bits) (m ((c.tc : Thread Cert.KOwn.nD Cert.KOwn.τ).loc Cert.KOwn.main_arg0)) (m ((c.tc : Thread Cert.KOwn.nD Cert.KOwn.τ).loc Cert.KOwn.main_arg1)) (m ((c.tc : Thread Cert.KOwn.nD Cert.KOwn.τ).loc Cert.KOwn.main_arg2)) (m ((c.tc : Thread Cert.KOwn.nD Cert.KOwn.τ).loc Cert.KOwn.main_arg3)) (m ((c.tc : Thread Cert.KOwn.nD Cert.KOwn.τ).loc Cert.KOwn.main_arg4))).2 = (fun _ => 1#1)

def Pre_KOwnIdeal [hPre_a_slice_and_a_core : Cert.Pre_a_slice_and_a_core.Facts] (m : (ℓ : Loc Cert.KOwnIdeal.nD Cert.KOwnIdeal.τ Cert.KOwnIdeal.sig) → Buf (Elt Ideal) ℓ) : Prop :=
  ∀ c : Dev Cert.KOwnIdeal.nD,
    (Cert.Pre_a_slice_and_a_core.fn (F := Ideal) (m ((c.tc : Thread Cert.KOwnIdeal.nD Cert.KOwnIdeal.τ).loc Cert.KOwnIdeal.main_arg0)) (m ((c.tc : Thread Cert.KOwnIdeal.nD Cert.KOwnIdeal.τ).loc Cert.KOwnIdeal.main_arg1)) (m ((c.tc : Thread Cert.KOwnIdeal.nD Cert.KOwnIdeal.τ).loc Cert.KOwnIdeal.main_arg2)) (m ((c.tc : Thread Cert.KOwnIdeal.nD Cert.KOwnIdeal.τ).loc Cert.KOwnIdeal.main_arg3)) (m ((c.tc : Thread Cert.KOwnIdeal.nD Cert.KOwnIdeal.τ).loc Cert.KOwnIdeal.main_arg4))).1 = (fun _ => 1#1)
    ∧ (Cert.Pre_a_slice_and_a_core.fn (F := Ideal) (m ((c.tc : Thread Cert.KOwnIdeal.nD Cert.KOwnIdeal.τ).loc Cert.KOwnIdeal.main_arg0)) (m ((c.tc : Thread Cert.KOwnIdeal.nD Cert.KOwnIdeal.τ).loc Cert.KOwnIdeal.main_arg1)) (m ((c.tc : Thread Cert.KOwnIdeal.nD Cert.KOwnIdeal.τ).loc Cert.KOwnIdeal.main_arg2)) (m ((c.tc : Thread Cert.KOwnIdeal.nD Cert.KOwnIdeal.τ).loc Cert.KOwnIdeal.main_arg3)) (m ((c.tc : Thread Cert.KOwnIdeal.nD Cert.KOwnIdeal.τ).loc Cert.KOwnIdeal.main_arg4))).2 = (fun _ => 1#1)

def Pre_ROwnIdeal [hPre_a_slice_and_a_core : Cert.Pre_a_slice_and_a_core.Facts] (m : (ℓ : Loc Cert.ROwnIdeal.nD Cert.ROwnIdeal.τ Cert.ROwnIdeal.sig) → Buf (Elt Ideal) ℓ) : Prop :=
  ∀ c : Dev Cert.ROwnIdeal.nD,
    (Cert.Pre_a_slice_and_a_core.fn (F := Ideal) (m ((c.tc : Thread Cert.ROwnIdeal.nD Cert.ROwnIdeal.τ).loc Cert.ROwnIdeal.main_arg0)) (m ((c.tc : Thread Cert.ROwnIdeal.nD Cert.ROwnIdeal.τ).loc Cert.ROwnIdeal.main_arg1)) (m ((c.tc : Thread Cert.ROwnIdeal.nD Cert.ROwnIdeal.τ).loc Cert.ROwnIdeal.main_arg2)) (m ((c.tc : Thread Cert.ROwnIdeal.nD Cert.ROwnIdeal.τ).loc Cert.ROwnIdeal.main_arg3)) (m ((c.tc : Thread Cert.ROwnIdeal.nD Cert.ROwnIdeal.τ).loc Cert.ROwnIdeal.main_arg4))).1 = (fun _ => 1#1)
    ∧ (Cert.Pre_a_slice_and_a_core.fn (F := Ideal) (m ((c.tc : Thread Cert.ROwnIdeal.nD Cert.ROwnIdeal.τ).loc Cert.ROwnIdeal.main_arg0)) (m ((c.tc : Thread Cert.ROwnIdeal.nD Cert.ROwnIdeal.τ).loc Cert.ROwnIdeal.main_arg1)) (m ((c.tc : Thread Cert.ROwnIdeal.nD Cert.ROwnIdeal.τ).loc Cert.ROwnIdeal.main_arg2)) (m ((c.tc : Thread Cert.ROwnIdeal.nD Cert.ROwnIdeal.τ).loc Cert.ROwnIdeal.main_arg3)) (m ((c.tc : Thread Cert.ROwnIdeal.nD Cert.ROwnIdeal.τ).loc Cert.ROwnIdeal.main_arg4))).2 = (fun _ => 1#1)

def quiescent_KPost [hKPost : Cert.KPost.Facts] : Prop :=
  ∀ (m : (ℓ : Loc Cert.KPost.nD Cert.KPost.τ Cert.KPost.sig) → Buf (Elt Bits) ℓ) (g : Dev Cert.KPost.nD → PrngReg), Pre_KPost m →
    θ_run (Cert.KPost.defs (F := Bits)) (onTc (τ := Cert.KPost.τ) (Cert.KPost.main (F := Bits))) ⟨m, fun _ => 0, g⟩ (fun r => (∀ c : Dev Cert.KPost.nD,
      r.2.mem ((c.tc : Thread Cert.KPost.nD Cert.KPost.τ).loc Cert.KPost.main_arg0) = m ((c.tc : Thread Cert.KPost.nD Cert.KPost.τ).loc Cert.KPost.main_arg0)
      ∧ r.2.mem ((c.tc : Thread Cert.KPost.nD Cert.KPost.τ).loc Cert.KPost.main_arg1) = m ((c.tc : Thread Cert.KPost.nD Cert.KPost.τ).loc Cert.KPost.main_arg1)
      ∧ r.2.mem ((c.tc : Thread Cert.KPost.nD Cert.KPost.τ).loc Cert.KPost.main_arg2) = m ((c.tc : Thread Cert.KPost.nD Cert.KPost.τ).loc Cert.KPost.main_arg2)
      ∧ r.2.mem ((c.tc : Thread Cert.KPost.nD Cert.KPost.τ).loc Cert.KPost.main_arg3) = m ((c.tc : Thread Cert.KPost.nD Cert.KPost.τ).loc Cert.KPost.main_arg3))
      ∧ r.2.sem = fun _ => 0)

def quiescent_KPostIdeal [hKPostIdeal : Cert.KPostIdeal.Facts] : Prop :=
  ∀ (m : (ℓ : Loc Cert.KPostIdeal.nD Cert.KPostIdeal.τ Cert.KPostIdeal.sig) → Buf (Elt Ideal) ℓ) (g : Dev Cert.KPostIdeal.nD → PrngReg), Pre_KPostIdeal m →
    θ_run (Cert.KPostIdeal.defs (F := Ideal)) (onTc (τ := Cert.KPostIdeal.τ) (Cert.KPostIdeal.main (F := Ideal))) ⟨m, fun _ => 0, g⟩ (fun r => (∀ c : Dev Cert.KPostIdeal.nD,
      r.2.mem ((c.tc : Thread Cert.KPostIdeal.nD Cert.KPostIdeal.τ).loc Cert.KPostIdeal.main_arg0) = m ((c.tc : Thread Cert.KPostIdeal.nD Cert.KPostIdeal.τ).loc Cert.KPostIdeal.main_arg0)
      ∧ r.2.mem ((c.tc : Thread Cert.KPostIdeal.nD Cert.KPostIdeal.τ).loc Cert.KPostIdeal.main_arg1) = m ((c.tc : Thread Cert.KPostIdeal.nD Cert.KPostIdeal.τ).loc Cert.KPostIdeal.main_arg1)
      ∧ r.2.mem ((c.tc : Thread Cert.KPostIdeal.nD Cert.KPostIdeal.τ).loc Cert.KPostIdeal.main_arg2) = m ((c.tc : Thread Cert.KPostIdeal.nD Cert.KPostIdeal.τ).loc Cert.KPostIdeal.main_arg2)
      ∧ r.2.mem ((c.tc : Thread Cert.KPostIdeal.nD Cert.KPostIdeal.τ).loc Cert.KPostIdeal.main_arg3) = m ((c.tc : Thread Cert.KPostIdeal.nD Cert.KPostIdeal.τ).loc Cert.KPostIdeal.main_arg3))
      ∧ r.2.sem = fun _ => 0)

def quiescent_KPostIdeal_pre_finite_post [hKPostIdeal : Cert.KPostIdeal.Facts] [hPre_finite_post : Cert.Pre_finite_post.Facts] : Prop :=
  ∀ (m : (ℓ : Loc Cert.KPostIdeal.nD Cert.KPostIdeal.τ Cert.KPostIdeal.sig) → Buf (Elt Ideal) ℓ) (g : Dev Cert.KPostIdeal.nD → PrngReg), Pre_KPostIdeal_finite_post m →
    θ_run (Cert.KPostIdeal.defs (F := Ideal)) (onTc (τ := Cert.KPostIdeal.τ) (Cert.KPostIdeal.main (F := Ideal))) ⟨m, fun _ => 0, g⟩ (fun r => (∀ c : Dev Cert.KPostIdeal.nD,
      r.2.mem ((c.tc : Thread Cert.KPostIdeal.nD Cert.KPostIdeal.τ).loc Cert.KPostIdeal.main_arg0) = m ((c.tc : Thread Cert.KPostIdeal.nD Cert.KPostIdeal.τ).loc Cert.KPostIdeal.main_arg0)
      ∧ r.2.mem ((c.tc : Thread Cert.KPostIdeal.nD Cert.KPostIdeal.τ).loc Cert.KPostIdeal.main_arg1) = m ((c.tc : Thread Cert.KPostIdeal.nD Cert.KPostIdeal.τ).loc Cert.KPostIdeal.main_arg1)
      ∧ r.2.mem ((c.tc : Thread Cert.KPostIdeal.nD Cert.KPostIdeal.τ).loc Cert.KPostIdeal.main_arg2) = m ((c.tc : Thread Cert.KPostIdeal.nD Cert.KPostIdeal.τ).loc Cert.KPostIdeal.main_arg2)
      ∧ r.2.mem ((c.tc : Thread Cert.KPostIdeal.nD Cert.KPostIdeal.τ).loc Cert.KPostIdeal.main_arg3) = m ((c.tc : Thread Cert.KPostIdeal.nD Cert.KPostIdeal.τ).loc Cert.KPostIdeal.main_arg3))
      ∧ r.2.sem = fun _ => 0)

def quiescent_RPostIdeal [hRPostIdeal : Cert.RPostIdeal.Facts] : Prop :=
  ∀ (m : (ℓ : Loc Cert.RPostIdeal.nD Cert.RPostIdeal.τ Cert.RPostIdeal.sig) → Buf (Elt Ideal) ℓ) (g : Dev Cert.RPostIdeal.nD → PrngReg), Pre_RPostIdeal m →
    θ_run (Cert.RPostIdeal.defs (F := Ideal)) (onTc (τ := Cert.RPostIdeal.τ) (Cert.RPostIdeal.main (F := Ideal))) ⟨m, fun _ => 0, g⟩ (fun r => (∀ c : Dev Cert.RPostIdeal.nD,
      r.2.mem ((c.tc : Thread Cert.RPostIdeal.nD Cert.RPostIdeal.τ).loc Cert.RPostIdeal.main_arg0) = m ((c.tc : Thread Cert.RPostIdeal.nD Cert.RPostIdeal.τ).loc Cert.RPostIdeal.main_arg0)
      ∧ r.2.mem ((c.tc : Thread Cert.RPostIdeal.nD Cert.RPostIdeal.τ).loc Cert.RPostIdeal.main_arg1) = m ((c.tc : Thread Cert.RPostIdeal.nD Cert.RPostIdeal.τ).loc Cert.RPostIdeal.main_arg1)
      ∧ r.2.mem ((c.tc : Thread Cert.RPostIdeal.nD Cert.RPostIdeal.τ).loc Cert.RPostIdeal.main_arg2) = m ((c.tc : Thread Cert.RPostIdeal.nD Cert.RPostIdeal.τ).loc Cert.RPostIdeal.main_arg2)
      ∧ r.2.mem ((c.tc : Thread Cert.RPostIdeal.nD Cert.RPostIdeal.τ).loc Cert.RPostIdeal.main_arg3) = m ((c.tc : Thread Cert.RPostIdeal.nD Cert.RPostIdeal.τ).loc Cert.RPostIdeal.main_arg3))
      ∧ r.2.sem = fun _ => 0)

def quiescent_RPostIdeal_pre_finite_post [hRPostIdeal : Cert.RPostIdeal.Facts] [hPre_finite_post : Cert.Pre_finite_post.Facts] : Prop :=
  ∀ (m : (ℓ : Loc Cert.RPostIdeal.nD Cert.RPostIdeal.τ Cert.RPostIdeal.sig) → Buf (Elt Ideal) ℓ) (g : Dev Cert.RPostIdeal.nD → PrngReg), Pre_RPostIdeal_finite_post m →
    θ_run (Cert.RPostIdeal.defs (F := Ideal)) (onTc (τ := Cert.RPostIdeal.τ) (Cert.RPostIdeal.main (F := Ideal))) ⟨m, fun _ => 0, g⟩ (fun r => (∀ c : Dev Cert.RPostIdeal.nD,
      r.2.mem ((c.tc : Thread Cert.RPostIdeal.nD Cert.RPostIdeal.τ).loc Cert.RPostIdeal.main_arg0) = m ((c.tc : Thread Cert.RPostIdeal.nD Cert.RPostIdeal.τ).loc Cert.RPostIdeal.main_arg0)
      ∧ r.2.mem ((c.tc : Thread Cert.RPostIdeal.nD Cert.RPostIdeal.τ).loc Cert.RPostIdeal.main_arg1) = m ((c.tc : Thread Cert.RPostIdeal.nD Cert.RPostIdeal.τ).loc Cert.RPostIdeal.main_arg1)
      ∧ r.2.mem ((c.tc : Thread Cert.RPostIdeal.nD Cert.RPostIdeal.τ).loc Cert.RPostIdeal.main_arg2) = m ((c.tc : Thread Cert.RPostIdeal.nD Cert.RPostIdeal.τ).loc Cert.RPostIdeal.main_arg2)
      ∧ r.2.mem ((c.tc : Thread Cert.RPostIdeal.nD Cert.RPostIdeal.τ).loc Cert.RPostIdeal.main_arg3) = m ((c.tc : Thread Cert.RPostIdeal.nD Cert.RPostIdeal.τ).loc Cert.RPostIdeal.main_arg3))
      ∧ r.2.sem = fun _ => 0)

def quiescent_KXattn [hKXattn : Cert.KXattn.Facts] : Prop :=
  ∀ (m : (ℓ : Loc Cert.KXattn.nD Cert.KXattn.τ Cert.KXattn.sig) → Buf (Elt Bits) ℓ) (g : Dev Cert.KXattn.nD → PrngReg), Pre_KXattn m →
    θ_run (Cert.KXattn.defs (F := Bits)) (onTc (τ := Cert.KXattn.τ) (Cert.KXattn.main (F := Bits))) ⟨m, fun _ => 0, g⟩ (fun r => (∀ c : Dev Cert.KXattn.nD,
      r.2.mem ((c.tc : Thread Cert.KXattn.nD Cert.KXattn.τ).loc Cert.KXattn.main_arg0) = m ((c.tc : Thread Cert.KXattn.nD Cert.KXattn.τ).loc Cert.KXattn.main_arg0)
      ∧ r.2.mem ((c.tc : Thread Cert.KXattn.nD Cert.KXattn.τ).loc Cert.KXattn.main_arg1) = m ((c.tc : Thread Cert.KXattn.nD Cert.KXattn.τ).loc Cert.KXattn.main_arg1)
      ∧ r.2.mem ((c.tc : Thread Cert.KXattn.nD Cert.KXattn.τ).loc Cert.KXattn.main_arg2) = m ((c.tc : Thread Cert.KXattn.nD Cert.KXattn.τ).loc Cert.KXattn.main_arg2)
      ∧ r.2.mem ((c.tc : Thread Cert.KXattn.nD Cert.KXattn.τ).loc Cert.KXattn.main_arg3) = m ((c.tc : Thread Cert.KXattn.nD Cert.KXattn.τ).loc Cert.KXattn.main_arg3))
      ∧ r.2.sem = fun _ => 0)

def quiescent_KXattnIdeal [hKXattnIdeal : Cert.KXattnIdeal.Facts] : Prop :=
  ∀ (m : (ℓ : Loc Cert.KXattnIdeal.nD Cert.KXattnIdeal.τ Cert.KXattnIdeal.sig) → Buf (Elt Ideal) ℓ) (g : Dev Cert.KXattnIdeal.nD → PrngReg), Pre_KXattnIdeal m →
    θ_run (Cert.KXattnIdeal.defs (F := Ideal)) (onTc (τ := Cert.KXattnIdeal.τ) (Cert.KXattnIdeal.main (F := Ideal))) ⟨m, fun _ => 0, g⟩ (fun r => (∀ c : Dev Cert.KXattnIdeal.nD,
      r.2.mem ((c.tc : Thread Cert.KXattnIdeal.nD Cert.KXattnIdeal.τ).loc Cert.KXattnIdeal.main_arg0) = m ((c.tc : Thread Cert.KXattnIdeal.nD Cert.KXattnIdeal.τ).loc Cert.KXattnIdeal.main_arg0)
      ∧ r.2.mem ((c.tc : Thread Cert.KXattnIdeal.nD Cert.KXattnIdeal.τ).loc Cert.KXattnIdeal.main_arg1) = m ((c.tc : Thread Cert.KXattnIdeal.nD Cert.KXattnIdeal.τ).loc Cert.KXattnIdeal.main_arg1)
      ∧ r.2.mem ((c.tc : Thread Cert.KXattnIdeal.nD Cert.KXattnIdeal.τ).loc Cert.KXattnIdeal.main_arg2) = m ((c.tc : Thread Cert.KXattnIdeal.nD Cert.KXattnIdeal.τ).loc Cert.KXattnIdeal.main_arg2)
      ∧ r.2.mem ((c.tc : Thread Cert.KXattnIdeal.nD Cert.KXattnIdeal.τ).loc Cert.KXattnIdeal.main_arg3) = m ((c.tc : Thread Cert.KXattnIdeal.nD Cert.KXattnIdeal.τ).loc Cert.KXattnIdeal.main_arg3))
      ∧ r.2.sem = fun _ => 0)

def quiescent_KXattnIdeal_pre_finite_xattn [hKXattnIdeal : Cert.KXattnIdeal.Facts] [hPre_finite_xattn : Cert.Pre_finite_xattn.Facts] : Prop :=
  ∀ (m : (ℓ : Loc Cert.KXattnIdeal.nD Cert.KXattnIdeal.τ Cert.KXattnIdeal.sig) → Buf (Elt Ideal) ℓ) (g : Dev Cert.KXattnIdeal.nD → PrngReg), Pre_KXattnIdeal_finite_xattn m →
    θ_run (Cert.KXattnIdeal.defs (F := Ideal)) (onTc (τ := Cert.KXattnIdeal.τ) (Cert.KXattnIdeal.main (F := Ideal))) ⟨m, fun _ => 0, g⟩ (fun r => (∀ c : Dev Cert.KXattnIdeal.nD,
      r.2.mem ((c.tc : Thread Cert.KXattnIdeal.nD Cert.KXattnIdeal.τ).loc Cert.KXattnIdeal.main_arg0) = m ((c.tc : Thread Cert.KXattnIdeal.nD Cert.KXattnIdeal.τ).loc Cert.KXattnIdeal.main_arg0)
      ∧ r.2.mem ((c.tc : Thread Cert.KXattnIdeal.nD Cert.KXattnIdeal.τ).loc Cert.KXattnIdeal.main_arg1) = m ((c.tc : Thread Cert.KXattnIdeal.nD Cert.KXattnIdeal.τ).loc Cert.KXattnIdeal.main_arg1)
      ∧ r.2.mem ((c.tc : Thread Cert.KXattnIdeal.nD Cert.KXattnIdeal.τ).loc Cert.KXattnIdeal.main_arg2) = m ((c.tc : Thread Cert.KXattnIdeal.nD Cert.KXattnIdeal.τ).loc Cert.KXattnIdeal.main_arg2)
      ∧ r.2.mem ((c.tc : Thread Cert.KXattnIdeal.nD Cert.KXattnIdeal.τ).loc Cert.KXattnIdeal.main_arg3) = m ((c.tc : Thread Cert.KXattnIdeal.nD Cert.KXattnIdeal.τ).loc Cert.KXattnIdeal.main_arg3))
      ∧ r.2.sem = fun _ => 0)

def quiescent_RXattnIdeal [hRXattnIdeal : Cert.RXattnIdeal.Facts] : Prop :=
  ∀ (m : (ℓ : Loc Cert.RXattnIdeal.nD Cert.RXattnIdeal.τ Cert.RXattnIdeal.sig) → Buf (Elt Ideal) ℓ) (g : Dev Cert.RXattnIdeal.nD → PrngReg), Pre_RXattnIdeal m →
    θ_run (Cert.RXattnIdeal.defs (F := Ideal)) (onTc (τ := Cert.RXattnIdeal.τ) (Cert.RXattnIdeal.main (F := Ideal))) ⟨m, fun _ => 0, g⟩ (fun r => (∀ c : Dev Cert.RXattnIdeal.nD,
      r.2.mem ((c.tc : Thread Cert.RXattnIdeal.nD Cert.RXattnIdeal.τ).loc Cert.RXattnIdeal.main_arg0) = m ((c.tc : Thread Cert.RXattnIdeal.nD Cert.RXattnIdeal.τ).loc Cert.RXattnIdeal.main_arg0)
      ∧ r.2.mem ((c.tc : Thread Cert.RXattnIdeal.nD Cert.RXattnIdeal.τ).loc Cert.RXattnIdeal.main_arg1) = m ((c.tc : Thread Cert.RXattnIdeal.nD Cert.RXattnIdeal.τ).loc Cert.RXattnIdeal.main_arg1)
      ∧ r.2.mem ((c.tc : Thread Cert.RXattnIdeal.nD Cert.RXattnIdeal.τ).loc Cert.RXattnIdeal.main_arg2) = m ((c.tc : Thread Cert.RXattnIdeal.nD Cert.RXattnIdeal.τ).loc Cert.RXattnIdeal.main_arg2)
      ∧ r.2.mem ((c.tc : Thread Cert.RXattnIdeal.nD Cert.RXattnIdeal.τ).loc Cert.RXattnIdeal.main_arg3) = m ((c.tc : Thread Cert.RXattnIdeal.nD Cert.RXattnIdeal.τ).loc Cert.RXattnIdeal.main_arg3))
      ∧ r.2.sem = fun _ => 0)

def quiescent_RXattnIdeal_pre_finite_xattn [hRXattnIdeal : Cert.RXattnIdeal.Facts] [hPre_finite_xattn : Cert.Pre_finite_xattn.Facts] : Prop :=
  ∀ (m : (ℓ : Loc Cert.RXattnIdeal.nD Cert.RXattnIdeal.τ Cert.RXattnIdeal.sig) → Buf (Elt Ideal) ℓ) (g : Dev Cert.RXattnIdeal.nD → PrngReg), Pre_RXattnIdeal_finite_xattn m →
    θ_run (Cert.RXattnIdeal.defs (F := Ideal)) (onTc (τ := Cert.RXattnIdeal.τ) (Cert.RXattnIdeal.main (F := Ideal))) ⟨m, fun _ => 0, g⟩ (fun r => (∀ c : Dev Cert.RXattnIdeal.nD,
      r.2.mem ((c.tc : Thread Cert.RXattnIdeal.nD Cert.RXattnIdeal.τ).loc Cert.RXattnIdeal.main_arg0) = m ((c.tc : Thread Cert.RXattnIdeal.nD Cert.RXattnIdeal.τ).loc Cert.RXattnIdeal.main_arg0)
      ∧ r.2.mem ((c.tc : Thread Cert.RXattnIdeal.nD Cert.RXattnIdeal.τ).loc Cert.RXattnIdeal.main_arg1) = m ((c.tc : Thread Cert.RXattnIdeal.nD Cert.RXattnIdeal.τ).loc Cert.RXattnIdeal.main_arg1)
      ∧ r.2.mem ((c.tc : Thread Cert.RXattnIdeal.nD Cert.RXattnIdeal.τ).loc Cert.RXattnIdeal.main_arg2) = m ((c.tc : Thread Cert.RXattnIdeal.nD Cert.RXattnIdeal.τ).loc Cert.RXattnIdeal.main_arg2)
      ∧ r.2.mem ((c.tc : Thread Cert.RXattnIdeal.nD Cert.RXattnIdeal.τ).loc Cert.RXattnIdeal.main_arg3) = m ((c.tc : Thread Cert.RXattnIdeal.nD Cert.RXattnIdeal.τ).loc Cert.RXattnIdeal.main_arg3))
      ∧ r.2.sem = fun _ => 0)

def quiescent_KLn2 [hKLn2 : Cert.KLn2.Facts] : Prop :=
  ∀ (m : (ℓ : Loc Cert.KLn2.nD Cert.KLn2.τ Cert.KLn2.sig) → Buf (Elt Bits) ℓ) (g : Dev Cert.KLn2.nD → PrngReg), Pre_KLn2 m →
    θ_run (Cert.KLn2.defs (F := Bits)) (onTc (τ := Cert.KLn2.τ) (Cert.KLn2.main (F := Bits))) ⟨m, fun _ => 0, g⟩ (fun r => (∀ c : Dev Cert.KLn2.nD,
      r.2.mem ((c.tc : Thread Cert.KLn2.nD Cert.KLn2.τ).loc Cert.KLn2.main_arg0) = m ((c.tc : Thread Cert.KLn2.nD Cert.KLn2.τ).loc Cert.KLn2.main_arg0)
      ∧ r.2.mem ((c.tc : Thread Cert.KLn2.nD Cert.KLn2.τ).loc Cert.KLn2.main_arg1) = m ((c.tc : Thread Cert.KLn2.nD Cert.KLn2.τ).loc Cert.KLn2.main_arg1)
      ∧ r.2.mem ((c.tc : Thread Cert.KLn2.nD Cert.KLn2.τ).loc Cert.KLn2.main_arg2) = m ((c.tc : Thread Cert.KLn2.nD Cert.KLn2.τ).loc Cert.KLn2.main_arg2)
      ∧ r.2.mem ((c.tc : Thread Cert.KLn2.nD Cert.KLn2.τ).loc Cert.KLn2.main_arg3) = m ((c.tc : Thread Cert.KLn2.nD Cert.KLn2.τ).loc Cert.KLn2.main_arg3))
      ∧ r.2.sem = fun _ => 0)

def quiescent_KLn2Ideal [hKLn2Ideal : Cert.KLn2Ideal.Facts] : Prop :=
  ∀ (m : (ℓ : Loc Cert.KLn2Ideal.nD Cert.KLn2Ideal.τ Cert.KLn2Ideal.sig) → Buf (Elt Ideal) ℓ) (g : Dev Cert.KLn2Ideal.nD → PrngReg), Pre_KLn2Ideal m →
    θ_run (Cert.KLn2Ideal.defs (F := Ideal)) (onTc (τ := Cert.KLn2Ideal.τ) (Cert.KLn2Ideal.main (F := Ideal))) ⟨m, fun _ => 0, g⟩ (fun r => (∀ c : Dev Cert.KLn2Ideal.nD,
      r.2.mem ((c.tc : Thread Cert.KLn2Ideal.nD Cert.KLn2Ideal.τ).loc Cert.KLn2Ideal.main_arg0) = m ((c.tc : Thread Cert.KLn2Ideal.nD Cert.KLn2Ideal.τ).loc Cert.KLn2Ideal.main_arg0)
      ∧ r.2.mem ((c.tc : Thread Cert.KLn2Ideal.nD Cert.KLn2Ideal.τ).loc Cert.KLn2Ideal.main_arg1) = m ((c.tc : Thread Cert.KLn2Ideal.nD Cert.KLn2Ideal.τ).loc Cert.KLn2Ideal.main_arg1)
      ∧ r.2.mem ((c.tc : Thread Cert.KLn2Ideal.nD Cert.KLn2Ideal.τ).loc Cert.KLn2Ideal.main_arg2) = m ((c.tc : Thread Cert.KLn2Ideal.nD Cert.KLn2Ideal.τ).loc Cert.KLn2Ideal.main_arg2)
      ∧ r.2.mem ((c.tc : Thread Cert.KLn2Ideal.nD Cert.KLn2Ideal.τ).loc Cert.KLn2Ideal.main_arg3) = m ((c.tc : Thread Cert.KLn2Ideal.nD Cert.KLn2Ideal.τ).loc Cert.KLn2Ideal.main_arg3))
      ∧ r.2.sem = fun _ => 0)

def quiescent_KLn2Ideal_pre_finite_ln2 [hKLn2Ideal : Cert.KLn2Ideal.Facts] [hPre_finite_ln2 : Cert.Pre_finite_ln2.Facts] : Prop :=
  ∀ (m : (ℓ : Loc Cert.KLn2Ideal.nD Cert.KLn2Ideal.τ Cert.KLn2Ideal.sig) → Buf (Elt Ideal) ℓ) (g : Dev Cert.KLn2Ideal.nD → PrngReg), Pre_KLn2Ideal_finite_ln2 m →
    θ_run (Cert.KLn2Ideal.defs (F := Ideal)) (onTc (τ := Cert.KLn2Ideal.τ) (Cert.KLn2Ideal.main (F := Ideal))) ⟨m, fun _ => 0, g⟩ (fun r => (∀ c : Dev Cert.KLn2Ideal.nD,
      r.2.mem ((c.tc : Thread Cert.KLn2Ideal.nD Cert.KLn2Ideal.τ).loc Cert.KLn2Ideal.main_arg0) = m ((c.tc : Thread Cert.KLn2Ideal.nD Cert.KLn2Ideal.τ).loc Cert.KLn2Ideal.main_arg0)
      ∧ r.2.mem ((c.tc : Thread Cert.KLn2Ideal.nD Cert.KLn2Ideal.τ).loc Cert.KLn2Ideal.main_arg1) = m ((c.tc : Thread Cert.KLn2Ideal.nD Cert.KLn2Ideal.τ).loc Cert.KLn2Ideal.main_arg1)
      ∧ r.2.mem ((c.tc : Thread Cert.KLn2Ideal.nD Cert.KLn2Ideal.τ).loc Cert.KLn2Ideal.main_arg2) = m ((c.tc : Thread Cert.KLn2Ideal.nD Cert.KLn2Ideal.τ).loc Cert.KLn2Ideal.main_arg2)
      ∧ r.2.mem ((c.tc : Thread Cert.KLn2Ideal.nD Cert.KLn2Ideal.τ).loc Cert.KLn2Ideal.main_arg3) = m ((c.tc : Thread Cert.KLn2Ideal.nD Cert.KLn2Ideal.τ).loc Cert.KLn2Ideal.main_arg3))
      ∧ r.2.sem = fun _ => 0)

def quiescent_RLn2Ideal [hRLn2Ideal : Cert.RLn2Ideal.Facts] : Prop :=
  ∀ (m : (ℓ : Loc Cert.RLn2Ideal.nD Cert.RLn2Ideal.τ Cert.RLn2Ideal.sig) → Buf (Elt Ideal) ℓ) (g : Dev Cert.RLn2Ideal.nD → PrngReg), Pre_RLn2Ideal m →
    θ_run (Cert.RLn2Ideal.defs (F := Ideal)) (onTc (τ := Cert.RLn2Ideal.τ) (Cert.RLn2Ideal.main (F := Ideal))) ⟨m, fun _ => 0, g⟩ (fun r => (∀ c : Dev Cert.RLn2Ideal.nD,
      r.2.mem ((c.tc : Thread Cert.RLn2Ideal.nD Cert.RLn2Ideal.τ).loc Cert.RLn2Ideal.main_arg0) = m ((c.tc : Thread Cert.RLn2Ideal.nD Cert.RLn2Ideal.τ).loc Cert.RLn2Ideal.main_arg0)
      ∧ r.2.mem ((c.tc : Thread Cert.RLn2Ideal.nD Cert.RLn2Ideal.τ).loc Cert.RLn2Ideal.main_arg1) = m ((c.tc : Thread Cert.RLn2Ideal.nD Cert.RLn2Ideal.τ).loc Cert.RLn2Ideal.main_arg1)
      ∧ r.2.mem ((c.tc : Thread Cert.RLn2Ideal.nD Cert.RLn2Ideal.τ).loc Cert.RLn2Ideal.main_arg2) = m ((c.tc : Thread Cert.RLn2Ideal.nD Cert.RLn2Ideal.τ).loc Cert.RLn2Ideal.main_arg2)
      ∧ r.2.mem ((c.tc : Thread Cert.RLn2Ideal.nD Cert.RLn2Ideal.τ).loc Cert.RLn2Ideal.main_arg3) = m ((c.tc : Thread Cert.RLn2Ideal.nD Cert.RLn2Ideal.τ).loc Cert.RLn2Ideal.main_arg3))
      ∧ r.2.sem = fun _ => 0)

def quiescent_RLn2Ideal_pre_finite_ln2 [hRLn2Ideal : Cert.RLn2Ideal.Facts] [hPre_finite_ln2 : Cert.Pre_finite_ln2.Facts] : Prop :=
  ∀ (m : (ℓ : Loc Cert.RLn2Ideal.nD Cert.RLn2Ideal.τ Cert.RLn2Ideal.sig) → Buf (Elt Ideal) ℓ) (g : Dev Cert.RLn2Ideal.nD → PrngReg), Pre_RLn2Ideal_finite_ln2 m →
    θ_run (Cert.RLn2Ideal.defs (F := Ideal)) (onTc (τ := Cert.RLn2Ideal.τ) (Cert.RLn2Ideal.main (F := Ideal))) ⟨m, fun _ => 0, g⟩ (fun r => (∀ c : Dev Cert.RLn2Ideal.nD,
      r.2.mem ((c.tc : Thread Cert.RLn2Ideal.nD Cert.RLn2Ideal.τ).loc Cert.RLn2Ideal.main_arg0) = m ((c.tc : Thread Cert.RLn2Ideal.nD Cert.RLn2Ideal.τ).loc Cert.RLn2Ideal.main_arg0)
      ∧ r.2.mem ((c.tc : Thread Cert.RLn2Ideal.nD Cert.RLn2Ideal.τ).loc Cert.RLn2Ideal.main_arg1) = m ((c.tc : Thread Cert.RLn2Ideal.nD Cert.RLn2Ideal.τ).loc Cert.RLn2Ideal.main_arg1)
      ∧ r.2.mem ((c.tc : Thread Cert.RLn2Ideal.nD Cert.RLn2Ideal.τ).loc Cert.RLn2Ideal.main_arg2) = m ((c.tc : Thread Cert.RLn2Ideal.nD Cert.RLn2Ideal.τ).loc Cert.RLn2Ideal.main_arg2)
      ∧ r.2.mem ((c.tc : Thread Cert.RLn2Ideal.nD Cert.RLn2Ideal.τ).loc Cert.RLn2Ideal.main_arg3) = m ((c.tc : Thread Cert.RLn2Ideal.nD Cert.RLn2Ideal.τ).loc Cert.RLn2Ideal.main_arg3))
      ∧ r.2.sem = fun _ => 0)

def quiescent_KLoss [hKLoss : Cert.KLoss.Facts] : Prop :=
  ∀ (m : (ℓ : Loc Cert.KLoss.nD Cert.KLoss.τ Cert.KLoss.sig) → Buf (Elt Bits) ℓ) (g : Dev Cert.KLoss.nD → PrngReg), Pre_KLoss m →
    θ_run (Cert.KLoss.defs (F := Bits)) (onTc (τ := Cert.KLoss.τ) (Cert.KLoss.main (F := Bits))) ⟨m, fun _ => 0, g⟩ (fun r => (∀ c : Dev Cert.KLoss.nD,
      r.2.mem ((c.tc : Thread Cert.KLoss.nD Cert.KLoss.τ).loc Cert.KLoss.main_arg0) = m ((c.tc : Thread Cert.KLoss.nD Cert.KLoss.τ).loc Cert.KLoss.main_arg0)
      ∧ r.2.mem ((c.tc : Thread Cert.KLoss.nD Cert.KLoss.τ).loc Cert.KLoss.main_arg1) = m ((c.tc : Thread Cert.KLoss.nD Cert.KLoss.τ).loc Cert.KLoss.main_arg1)
      ∧ r.2.mem ((c.tc : Thread Cert.KLoss.nD Cert.KLoss.τ).loc Cert.KLoss.main_arg2) = m ((c.tc : Thread Cert.KLoss.nD Cert.KLoss.τ).loc Cert.KLoss.main_arg2)
      ∧ r.2.mem ((c.tc : Thread Cert.KLoss.nD Cert.KLoss.τ).loc Cert.KLoss.main_arg3) = m ((c.tc : Thread Cert.KLoss.nD Cert.KLoss.τ).loc Cert.KLoss.main_arg3))
      ∧ r.2.sem = fun _ => 0)

def quiescent_KLossIdeal [hKLossIdeal : Cert.KLossIdeal.Facts] : Prop :=
  ∀ (m : (ℓ : Loc Cert.KLossIdeal.nD Cert.KLossIdeal.τ Cert.KLossIdeal.sig) → Buf (Elt Ideal) ℓ) (g : Dev Cert.KLossIdeal.nD → PrngReg), Pre_KLossIdeal m →
    θ_run (Cert.KLossIdeal.defs (F := Ideal)) (onTc (τ := Cert.KLossIdeal.τ) (Cert.KLossIdeal.main (F := Ideal))) ⟨m, fun _ => 0, g⟩ (fun r => (∀ c : Dev Cert.KLossIdeal.nD,
      r.2.mem ((c.tc : Thread Cert.KLossIdeal.nD Cert.KLossIdeal.τ).loc Cert.KLossIdeal.main_arg0) = m ((c.tc : Thread Cert.KLossIdeal.nD Cert.KLossIdeal.τ).loc Cert.KLossIdeal.main_arg0)
      ∧ r.2.mem ((c.tc : Thread Cert.KLossIdeal.nD Cert.KLossIdeal.τ).loc Cert.KLossIdeal.main_arg1) = m ((c.tc : Thread Cert.KLossIdeal.nD Cert.KLossIdeal.τ).loc Cert.KLossIdeal.main_arg1)
      ∧ r.2.mem ((c.tc : Thread Cert.KLossIdeal.nD Cert.KLossIdeal.τ).loc Cert.KLossIdeal.main_arg2) = m ((c.tc : Thread Cert.KLossIdeal.nD Cert.KLossIdeal.τ).loc Cert.KLossIdeal.main_arg2)
      ∧ r.2.mem ((c.tc : Thread Cert.KLossIdeal.nD Cert.KLossIdeal.τ).loc Cert.KLossIdeal.main_arg3) = m ((c.tc : Thread Cert.KLossIdeal.nD Cert.KLossIdeal.τ).loc Cert.KLossIdeal.main_arg3))
      ∧ r.2.sem = fun _ => 0)

def quiescent_KLossIdeal_pre_finite_loss [hKLossIdeal : Cert.KLossIdeal.Facts] [hPre_finite_loss : Cert.Pre_finite_loss.Facts] : Prop :=
  ∀ (m : (ℓ : Loc Cert.KLossIdeal.nD Cert.KLossIdeal.τ Cert.KLossIdeal.sig) → Buf (Elt Ideal) ℓ) (g : Dev Cert.KLossIdeal.nD → PrngReg), Pre_KLossIdeal_finite_loss m →
    θ_run (Cert.KLossIdeal.defs (F := Ideal)) (onTc (τ := Cert.KLossIdeal.τ) (Cert.KLossIdeal.main (F := Ideal))) ⟨m, fun _ => 0, g⟩ (fun r => (∀ c : Dev Cert.KLossIdeal.nD,
      r.2.mem ((c.tc : Thread Cert.KLossIdeal.nD Cert.KLossIdeal.τ).loc Cert.KLossIdeal.main_arg0) = m ((c.tc : Thread Cert.KLossIdeal.nD Cert.KLossIdeal.τ).loc Cert.KLossIdeal.main_arg0)
      ∧ r.2.mem ((c.tc : Thread Cert.KLossIdeal.nD Cert.KLossIdeal.τ).loc Cert.KLossIdeal.main_arg1) = m ((c.tc : Thread Cert.KLossIdeal.nD Cert.KLossIdeal.τ).loc Cert.KLossIdeal.main_arg1)
      ∧ r.2.mem ((c.tc : Thread Cert.KLossIdeal.nD Cert.KLossIdeal.τ).loc Cert.KLossIdeal.main_arg2) = m ((c.tc : Thread Cert.KLossIdeal.nD Cert.KLossIdeal.τ).loc Cert.KLossIdeal.main_arg2)
      ∧ r.2.mem ((c.tc : Thread Cert.KLossIdeal.nD Cert.KLossIdeal.τ).loc Cert.KLossIdeal.main_arg3) = m ((c.tc : Thread Cert.KLossIdeal.nD Cert.KLossIdeal.τ).loc Cert.KLossIdeal.main_arg3))
      ∧ r.2.sem = fun _ => 0)

def quiescent_RLossIdeal [hRLossIdeal : Cert.RLossIdeal.Facts] : Prop :=
  ∀ (m : (ℓ : Loc Cert.RLossIdeal.nD Cert.RLossIdeal.τ Cert.RLossIdeal.sig) → Buf (Elt Ideal) ℓ) (g : Dev Cert.RLossIdeal.nD → PrngReg), Pre_RLossIdeal m →
    θ_run (Cert.RLossIdeal.defs (F := Ideal)) (onTc (τ := Cert.RLossIdeal.τ) (Cert.RLossIdeal.main (F := Ideal))) ⟨m, fun _ => 0, g⟩ (fun r => (∀ c : Dev Cert.RLossIdeal.nD,
      r.2.mem ((c.tc : Thread Cert.RLossIdeal.nD Cert.RLossIdeal.τ).loc Cert.RLossIdeal.main_arg0) = m ((c.tc : Thread Cert.RLossIdeal.nD Cert.RLossIdeal.τ).loc Cert.RLossIdeal.main_arg0)
      ∧ r.2.mem ((c.tc : Thread Cert.RLossIdeal.nD Cert.RLossIdeal.τ).loc Cert.RLossIdeal.main_arg1) = m ((c.tc : Thread Cert.RLossIdeal.nD Cert.RLossIdeal.τ).loc Cert.RLossIdeal.main_arg1)
      ∧ r.2.mem ((c.tc : Thread Cert.RLossIdeal.nD Cert.RLossIdeal.τ).loc Cert.RLossIdeal.main_arg2) = m ((c.tc : Thread Cert.RLossIdeal.nD Cert.RLossIdeal.τ).loc Cert.RLossIdeal.main_arg2)
      ∧ r.2.mem ((c.tc : Thread Cert.RLossIdeal.nD Cert.RLossIdeal.τ).loc Cert.RLossIdeal.main_arg3) = m ((c.tc : Thread Cert.RLossIdeal.nD Cert.RLossIdeal.τ).loc Cert.RLossIdeal.main_arg3))
      ∧ r.2.sem = fun _ => 0)

def quiescent_RLossIdeal_pre_finite_loss [hRLossIdeal : Cert.RLossIdeal.Facts] [hPre_finite_loss : Cert.Pre_finite_loss.Facts] : Prop :=
  ∀ (m : (ℓ : Loc Cert.RLossIdeal.nD Cert.RLossIdeal.τ Cert.RLossIdeal.sig) → Buf (Elt Ideal) ℓ) (g : Dev Cert.RLossIdeal.nD → PrngReg), Pre_RLossIdeal_finite_loss m →
    θ_run (Cert.RLossIdeal.defs (F := Ideal)) (onTc (τ := Cert.RLossIdeal.τ) (Cert.RLossIdeal.main (F := Ideal))) ⟨m, fun _ => 0, g⟩ (fun r => (∀ c : Dev Cert.RLossIdeal.nD,
      r.2.mem ((c.tc : Thread Cert.RLossIdeal.nD Cert.RLossIdeal.τ).loc Cert.RLossIdeal.main_arg0) = m ((c.tc : Thread Cert.RLossIdeal.nD Cert.RLossIdeal.τ).loc Cert.RLossIdeal.main_arg0)
      ∧ r.2.mem ((c.tc : Thread Cert.RLossIdeal.nD Cert.RLossIdeal.τ).loc Cert.RLossIdeal.main_arg1) = m ((c.tc : Thread Cert.RLossIdeal.nD Cert.RLossIdeal.τ).loc Cert.RLossIdeal.main_arg1)
      ∧ r.2.mem ((c.tc : Thread Cert.RLossIdeal.nD Cert.RLossIdeal.τ).loc Cert.RLossIdeal.main_arg2) = m ((c.tc : Thread Cert.RLossIdeal.nD Cert.RLossIdeal.τ).loc Cert.RLossIdeal.main_arg2)
      ∧ r.2.mem ((c.tc : Thread Cert.RLossIdeal.nD Cert.RLossIdeal.τ).loc Cert.RLossIdeal.main_arg3) = m ((c.tc : Thread Cert.RLossIdeal.nD Cert.RLossIdeal.τ).loc Cert.RLossIdeal.main_arg3))
      ∧ r.2.sem = fun _ => 0)

def quiescent_KGates [hKGates : Cert.KGates.Facts] : Prop :=
  ∀ (m : (ℓ : Loc Cert.KGates.nD Cert.KGates.τ Cert.KGates.sig) → Buf (Elt Bits) ℓ) (g : Dev Cert.KGates.nD → PrngReg), Pre_KGates m →
    θ_run (Cert.KGates.defs (F := Bits)) (onTc (τ := Cert.KGates.τ) (Cert.KGates.main (F := Bits))) ⟨m, fun _ => 0, g⟩ (fun r => (∀ c : Dev Cert.KGates.nD,
      r.2.mem ((c.tc : Thread Cert.KGates.nD Cert.KGates.τ).loc Cert.KGates.main_arg0) = m ((c.tc : Thread Cert.KGates.nD Cert.KGates.τ).loc Cert.KGates.main_arg0)
      ∧ r.2.mem ((c.tc : Thread Cert.KGates.nD Cert.KGates.τ).loc Cert.KGates.main_arg1) = m ((c.tc : Thread Cert.KGates.nD Cert.KGates.τ).loc Cert.KGates.main_arg1)
      ∧ r.2.mem ((c.tc : Thread Cert.KGates.nD Cert.KGates.τ).loc Cert.KGates.main_arg2) = m ((c.tc : Thread Cert.KGates.nD Cert.KGates.τ).loc Cert.KGates.main_arg2)
      ∧ r.2.mem ((c.tc : Thread Cert.KGates.nD Cert.KGates.τ).loc Cert.KGates.main_arg3) = m ((c.tc : Thread Cert.KGates.nD Cert.KGates.τ).loc Cert.KGates.main_arg3)
      ∧ r.2.mem ((c.tc : Thread Cert.KGates.nD Cert.KGates.τ).loc Cert.KGates.main_arg4) = m ((c.tc : Thread Cert.KGates.nD Cert.KGates.τ).loc Cert.KGates.main_arg4)
      ∧ r.2.mem ((c.tc : Thread Cert.KGates.nD Cert.KGates.τ).loc Cert.KGates.main_arg5) = m ((c.tc : Thread Cert.KGates.nD Cert.KGates.τ).loc Cert.KGates.main_arg5))
      ∧ r.2.sem = fun _ => 0)

def quiescent_KGatesIdeal [hKGatesIdeal : Cert.KGatesIdeal.Facts] : Prop :=
  ∀ (m : (ℓ : Loc Cert.KGatesIdeal.nD Cert.KGatesIdeal.τ Cert.KGatesIdeal.sig) → Buf (Elt Ideal) ℓ) (g : Dev Cert.KGatesIdeal.nD → PrngReg), Pre_KGatesIdeal m →
    θ_run (Cert.KGatesIdeal.defs (F := Ideal)) (onTc (τ := Cert.KGatesIdeal.τ) (Cert.KGatesIdeal.main (F := Ideal))) ⟨m, fun _ => 0, g⟩ (fun r => (∀ c : Dev Cert.KGatesIdeal.nD,
      r.2.mem ((c.tc : Thread Cert.KGatesIdeal.nD Cert.KGatesIdeal.τ).loc Cert.KGatesIdeal.main_arg0) = m ((c.tc : Thread Cert.KGatesIdeal.nD Cert.KGatesIdeal.τ).loc Cert.KGatesIdeal.main_arg0)
      ∧ r.2.mem ((c.tc : Thread Cert.KGatesIdeal.nD Cert.KGatesIdeal.τ).loc Cert.KGatesIdeal.main_arg1) = m ((c.tc : Thread Cert.KGatesIdeal.nD Cert.KGatesIdeal.τ).loc Cert.KGatesIdeal.main_arg1)
      ∧ r.2.mem ((c.tc : Thread Cert.KGatesIdeal.nD Cert.KGatesIdeal.τ).loc Cert.KGatesIdeal.main_arg2) = m ((c.tc : Thread Cert.KGatesIdeal.nD Cert.KGatesIdeal.τ).loc Cert.KGatesIdeal.main_arg2)
      ∧ r.2.mem ((c.tc : Thread Cert.KGatesIdeal.nD Cert.KGatesIdeal.τ).loc Cert.KGatesIdeal.main_arg3) = m ((c.tc : Thread Cert.KGatesIdeal.nD Cert.KGatesIdeal.τ).loc Cert.KGatesIdeal.main_arg3)
      ∧ r.2.mem ((c.tc : Thread Cert.KGatesIdeal.nD Cert.KGatesIdeal.τ).loc Cert.KGatesIdeal.main_arg4) = m ((c.tc : Thread Cert.KGatesIdeal.nD Cert.KGatesIdeal.τ).loc Cert.KGatesIdeal.main_arg4)
      ∧ r.2.mem ((c.tc : Thread Cert.KGatesIdeal.nD Cert.KGatesIdeal.τ).loc Cert.KGatesIdeal.main_arg5) = m ((c.tc : Thread Cert.KGatesIdeal.nD Cert.KGatesIdeal.τ).loc Cert.KGatesIdeal.main_arg5))
      ∧ r.2.sem = fun _ => 0)

def quiescent_KGatesIdeal_pre_finite_gates [hKGatesIdeal : Cert.KGatesIdeal.Facts] [hPre_finite_gates : Cert.Pre_finite_gates.Facts] : Prop :=
  ∀ (m : (ℓ : Loc Cert.KGatesIdeal.nD Cert.KGatesIdeal.τ Cert.KGatesIdeal.sig) → Buf (Elt Ideal) ℓ) (g : Dev Cert.KGatesIdeal.nD → PrngReg), Pre_KGatesIdeal_finite_gates m →
    θ_run (Cert.KGatesIdeal.defs (F := Ideal)) (onTc (τ := Cert.KGatesIdeal.τ) (Cert.KGatesIdeal.main (F := Ideal))) ⟨m, fun _ => 0, g⟩ (fun r => (∀ c : Dev Cert.KGatesIdeal.nD,
      r.2.mem ((c.tc : Thread Cert.KGatesIdeal.nD Cert.KGatesIdeal.τ).loc Cert.KGatesIdeal.main_arg0) = m ((c.tc : Thread Cert.KGatesIdeal.nD Cert.KGatesIdeal.τ).loc Cert.KGatesIdeal.main_arg0)
      ∧ r.2.mem ((c.tc : Thread Cert.KGatesIdeal.nD Cert.KGatesIdeal.τ).loc Cert.KGatesIdeal.main_arg1) = m ((c.tc : Thread Cert.KGatesIdeal.nD Cert.KGatesIdeal.τ).loc Cert.KGatesIdeal.main_arg1)
      ∧ r.2.mem ((c.tc : Thread Cert.KGatesIdeal.nD Cert.KGatesIdeal.τ).loc Cert.KGatesIdeal.main_arg2) = m ((c.tc : Thread Cert.KGatesIdeal.nD Cert.KGatesIdeal.τ).loc Cert.KGatesIdeal.main_arg2)
      ∧ r.2.mem ((c.tc : Thread Cert.KGatesIdeal.nD Cert.KGatesIdeal.τ).loc Cert.KGatesIdeal.main_arg3) = m ((c.tc : Thread Cert.KGatesIdeal.nD Cert.KGatesIdeal.τ).loc Cert.KGatesIdeal.main_arg3)
      ∧ r.2.mem ((c.tc : Thread Cert.KGatesIdeal.nD Cert.KGatesIdeal.τ).loc Cert.KGatesIdeal.main_arg4) = m ((c.tc : Thread Cert.KGatesIdeal.nD Cert.KGatesIdeal.τ).loc Cert.KGatesIdeal.main_arg4)
      ∧ r.2.mem ((c.tc : Thread Cert.KGatesIdeal.nD Cert.KGatesIdeal.τ).loc Cert.KGatesIdeal.main_arg5) = m ((c.tc : Thread Cert.KGatesIdeal.nD Cert.KGatesIdeal.τ).loc Cert.KGatesIdeal.main_arg5))
      ∧ r.2.sem = fun _ => 0)

def quiescent_RGatesIdeal [hRGatesIdeal : Cert.RGatesIdeal.Facts] : Prop :=
  ∀ (m : (ℓ : Loc Cert.RGatesIdeal.nD Cert.RGatesIdeal.τ Cert.RGatesIdeal.sig) → Buf (Elt Ideal) ℓ) (g : Dev Cert.RGatesIdeal.nD → PrngReg), Pre_RGatesIdeal m →
    θ_run (Cert.RGatesIdeal.defs (F := Ideal)) (onTc (τ := Cert.RGatesIdeal.τ) (Cert.RGatesIdeal.main (F := Ideal))) ⟨m, fun _ => 0, g⟩ (fun r => (∀ c : Dev Cert.RGatesIdeal.nD,
      r.2.mem ((c.tc : Thread Cert.RGatesIdeal.nD Cert.RGatesIdeal.τ).loc Cert.RGatesIdeal.main_arg0) = m ((c.tc : Thread Cert.RGatesIdeal.nD Cert.RGatesIdeal.τ).loc Cert.RGatesIdeal.main_arg0)
      ∧ r.2.mem ((c.tc : Thread Cert.RGatesIdeal.nD Cert.RGatesIdeal.τ).loc Cert.RGatesIdeal.main_arg1) = m ((c.tc : Thread Cert.RGatesIdeal.nD Cert.RGatesIdeal.τ).loc Cert.RGatesIdeal.main_arg1)
      ∧ r.2.mem ((c.tc : Thread Cert.RGatesIdeal.nD Cert.RGatesIdeal.τ).loc Cert.RGatesIdeal.main_arg2) = m ((c.tc : Thread Cert.RGatesIdeal.nD Cert.RGatesIdeal.τ).loc Cert.RGatesIdeal.main_arg2)
      ∧ r.2.mem ((c.tc : Thread Cert.RGatesIdeal.nD Cert.RGatesIdeal.τ).loc Cert.RGatesIdeal.main_arg3) = m ((c.tc : Thread Cert.RGatesIdeal.nD Cert.RGatesIdeal.τ).loc Cert.RGatesIdeal.main_arg3)
      ∧ r.2.mem ((c.tc : Thread Cert.RGatesIdeal.nD Cert.RGatesIdeal.τ).loc Cert.RGatesIdeal.main_arg4) = m ((c.tc : Thread Cert.RGatesIdeal.nD Cert.RGatesIdeal.τ).loc Cert.RGatesIdeal.main_arg4)
      ∧ r.2.mem ((c.tc : Thread Cert.RGatesIdeal.nD Cert.RGatesIdeal.τ).loc Cert.RGatesIdeal.main_arg5) = m ((c.tc : Thread Cert.RGatesIdeal.nD Cert.RGatesIdeal.τ).loc Cert.RGatesIdeal.main_arg5))
      ∧ r.2.sem = fun _ => 0)

def quiescent_RGatesIdeal_pre_finite_gates [hRGatesIdeal : Cert.RGatesIdeal.Facts] [hPre_finite_gates : Cert.Pre_finite_gates.Facts] : Prop :=
  ∀ (m : (ℓ : Loc Cert.RGatesIdeal.nD Cert.RGatesIdeal.τ Cert.RGatesIdeal.sig) → Buf (Elt Ideal) ℓ) (g : Dev Cert.RGatesIdeal.nD → PrngReg), Pre_RGatesIdeal_finite_gates m →
    θ_run (Cert.RGatesIdeal.defs (F := Ideal)) (onTc (τ := Cert.RGatesIdeal.τ) (Cert.RGatesIdeal.main (F := Ideal))) ⟨m, fun _ => 0, g⟩ (fun r => (∀ c : Dev Cert.RGatesIdeal.nD,
      r.2.mem ((c.tc : Thread Cert.RGatesIdeal.nD Cert.RGatesIdeal.τ).loc Cert.RGatesIdeal.main_arg0) = m ((c.tc : Thread Cert.RGatesIdeal.nD Cert.RGatesIdeal.τ).loc Cert.RGatesIdeal.main_arg0)
      ∧ r.2.mem ((c.tc : Thread Cert.RGatesIdeal.nD Cert.RGatesIdeal.τ).loc Cert.RGatesIdeal.main_arg1) = m ((c.tc : Thread Cert.RGatesIdeal.nD Cert.RGatesIdeal.τ).loc Cert.RGatesIdeal.main_arg1)
      ∧ r.2.mem ((c.tc : Thread Cert.RGatesIdeal.nD Cert.RGatesIdeal.τ).loc Cert.RGatesIdeal.main_arg2) = m ((c.tc : Thread Cert.RGatesIdeal.nD Cert.RGatesIdeal.τ).loc Cert.RGatesIdeal.main_arg2)
      ∧ r.2.mem ((c.tc : Thread Cert.RGatesIdeal.nD Cert.RGatesIdeal.τ).loc Cert.RGatesIdeal.main_arg3) = m ((c.tc : Thread Cert.RGatesIdeal.nD Cert.RGatesIdeal.τ).loc Cert.RGatesIdeal.main_arg3)
      ∧ r.2.mem ((c.tc : Thread Cert.RGatesIdeal.nD Cert.RGatesIdeal.τ).loc Cert.RGatesIdeal.main_arg4) = m ((c.tc : Thread Cert.RGatesIdeal.nD Cert.RGatesIdeal.τ).loc Cert.RGatesIdeal.main_arg4)
      ∧ r.2.mem ((c.tc : Thread Cert.RGatesIdeal.nD Cert.RGatesIdeal.τ).loc Cert.RGatesIdeal.main_arg5) = m ((c.tc : Thread Cert.RGatesIdeal.nD Cert.RGatesIdeal.τ).loc Cert.RGatesIdeal.main_arg5))
      ∧ r.2.sem = fun _ => 0)

def quiescent_KPool [hKPool : Cert.KPool.Facts] : Prop :=
  ∀ (m : (ℓ : Loc Cert.KPool.nD Cert.KPool.τ Cert.KPool.sig) → Buf (Elt Bits) ℓ) (g : Dev Cert.KPool.nD → PrngReg), Pre_KPool m →
    θ_run (Cert.KPool.defs (F := Bits)) (onTc (τ := Cert.KPool.τ) (Cert.KPool.main (F := Bits))) ⟨m, fun _ => 0, g⟩ (fun r => (∀ c : Dev Cert.KPool.nD,
      r.2.mem ((c.tc : Thread Cert.KPool.nD Cert.KPool.τ).loc Cert.KPool.main_arg0) = m ((c.tc : Thread Cert.KPool.nD Cert.KPool.τ).loc Cert.KPool.main_arg0)
      ∧ r.2.mem ((c.tc : Thread Cert.KPool.nD Cert.KPool.τ).loc Cert.KPool.main_arg1) = m ((c.tc : Thread Cert.KPool.nD Cert.KPool.τ).loc Cert.KPool.main_arg1)
      ∧ r.2.mem ((c.tc : Thread Cert.KPool.nD Cert.KPool.τ).loc Cert.KPool.main_arg2) = m ((c.tc : Thread Cert.KPool.nD Cert.KPool.τ).loc Cert.KPool.main_arg2)
      ∧ r.2.mem ((c.tc : Thread Cert.KPool.nD Cert.KPool.τ).loc Cert.KPool.main_arg3) = m ((c.tc : Thread Cert.KPool.nD Cert.KPool.τ).loc Cert.KPool.main_arg3))
      ∧ r.2.sem = fun _ => 0)

def quiescent_KPoolIdeal [hKPoolIdeal : Cert.KPoolIdeal.Facts] : Prop :=
  ∀ (m : (ℓ : Loc Cert.KPoolIdeal.nD Cert.KPoolIdeal.τ Cert.KPoolIdeal.sig) → Buf (Elt Ideal) ℓ) (g : Dev Cert.KPoolIdeal.nD → PrngReg), Pre_KPoolIdeal m →
    θ_run (Cert.KPoolIdeal.defs (F := Ideal)) (onTc (τ := Cert.KPoolIdeal.τ) (Cert.KPoolIdeal.main (F := Ideal))) ⟨m, fun _ => 0, g⟩ (fun r => (∀ c : Dev Cert.KPoolIdeal.nD,
      r.2.mem ((c.tc : Thread Cert.KPoolIdeal.nD Cert.KPoolIdeal.τ).loc Cert.KPoolIdeal.main_arg0) = m ((c.tc : Thread Cert.KPoolIdeal.nD Cert.KPoolIdeal.τ).loc Cert.KPoolIdeal.main_arg0)
      ∧ r.2.mem ((c.tc : Thread Cert.KPoolIdeal.nD Cert.KPoolIdeal.τ).loc Cert.KPoolIdeal.main_arg1) = m ((c.tc : Thread Cert.KPoolIdeal.nD Cert.KPoolIdeal.τ).loc Cert.KPoolIdeal.main_arg1)
      ∧ r.2.mem ((c.tc : Thread Cert.KPoolIdeal.nD Cert.KPoolIdeal.τ).loc Cert.KPoolIdeal.main_arg2) = m ((c.tc : Thread Cert.KPoolIdeal.nD Cert.KPoolIdeal.τ).loc Cert.KPoolIdeal.main_arg2)
      ∧ r.2.mem ((c.tc : Thread Cert.KPoolIdeal.nD Cert.KPoolIdeal.τ).loc Cert.KPoolIdeal.main_arg3) = m ((c.tc : Thread Cert.KPoolIdeal.nD Cert.KPoolIdeal.τ).loc Cert.KPoolIdeal.main_arg3))
      ∧ r.2.sem = fun _ => 0)

def quiescent_KPoolIdeal_pre_finite_pool [hKPoolIdeal : Cert.KPoolIdeal.Facts] [hPre_finite_pool : Cert.Pre_finite_pool.Facts] : Prop :=
  ∀ (m : (ℓ : Loc Cert.KPoolIdeal.nD Cert.KPoolIdeal.τ Cert.KPoolIdeal.sig) → Buf (Elt Ideal) ℓ) (g : Dev Cert.KPoolIdeal.nD → PrngReg), Pre_KPoolIdeal_finite_pool m →
    θ_run (Cert.KPoolIdeal.defs (F := Ideal)) (onTc (τ := Cert.KPoolIdeal.τ) (Cert.KPoolIdeal.main (F := Ideal))) ⟨m, fun _ => 0, g⟩ (fun r => (∀ c : Dev Cert.KPoolIdeal.nD,
      r.2.mem ((c.tc : Thread Cert.KPoolIdeal.nD Cert.KPoolIdeal.τ).loc Cert.KPoolIdeal.main_arg0) = m ((c.tc : Thread Cert.KPoolIdeal.nD Cert.KPoolIdeal.τ).loc Cert.KPoolIdeal.main_arg0)
      ∧ r.2.mem ((c.tc : Thread Cert.KPoolIdeal.nD Cert.KPoolIdeal.τ).loc Cert.KPoolIdeal.main_arg1) = m ((c.tc : Thread Cert.KPoolIdeal.nD Cert.KPoolIdeal.τ).loc Cert.KPoolIdeal.main_arg1)
      ∧ r.2.mem ((c.tc : Thread Cert.KPoolIdeal.nD Cert.KPoolIdeal.τ).loc Cert.KPoolIdeal.main_arg2) = m ((c.tc : Thread Cert.KPoolIdeal.nD Cert.KPoolIdeal.τ).loc Cert.KPoolIdeal.main_arg2)
      ∧ r.2.mem ((c.tc : Thread Cert.KPoolIdeal.nD Cert.KPoolIdeal.τ).loc Cert.KPoolIdeal.main_arg3) = m ((c.tc : Thread Cert.KPoolIdeal.nD Cert.KPoolIdeal.τ).loc Cert.KPoolIdeal.main_arg3))
      ∧ r.2.sem = fun _ => 0)

def quiescent_RPoolIdeal [hRPoolIdeal : Cert.RPoolIdeal.Facts] : Prop :=
  ∀ (m : (ℓ : Loc Cert.RPoolIdeal.nD Cert.RPoolIdeal.τ Cert.RPoolIdeal.sig) → Buf (Elt Ideal) ℓ) (g : Dev Cert.RPoolIdeal.nD → PrngReg), Pre_RPoolIdeal m →
    θ_run (Cert.RPoolIdeal.defs (F := Ideal)) (onTc (τ := Cert.RPoolIdeal.τ) (Cert.RPoolIdeal.main (F := Ideal))) ⟨m, fun _ => 0, g⟩ (fun r => (∀ c : Dev Cert.RPoolIdeal.nD,
      r.2.mem ((c.tc : Thread Cert.RPoolIdeal.nD Cert.RPoolIdeal.τ).loc Cert.RPoolIdeal.main_arg0) = m ((c.tc : Thread Cert.RPoolIdeal.nD Cert.RPoolIdeal.τ).loc Cert.RPoolIdeal.main_arg0)
      ∧ r.2.mem ((c.tc : Thread Cert.RPoolIdeal.nD Cert.RPoolIdeal.τ).loc Cert.RPoolIdeal.main_arg1) = m ((c.tc : Thread Cert.RPoolIdeal.nD Cert.RPoolIdeal.τ).loc Cert.RPoolIdeal.main_arg1)
      ∧ r.2.mem ((c.tc : Thread Cert.RPoolIdeal.nD Cert.RPoolIdeal.τ).loc Cert.RPoolIdeal.main_arg2) = m ((c.tc : Thread Cert.RPoolIdeal.nD Cert.RPoolIdeal.τ).loc Cert.RPoolIdeal.main_arg2)
      ∧ r.2.mem ((c.tc : Thread Cert.RPoolIdeal.nD Cert.RPoolIdeal.τ).loc Cert.RPoolIdeal.main_arg3) = m ((c.tc : Thread Cert.RPoolIdeal.nD Cert.RPoolIdeal.τ).loc Cert.RPoolIdeal.main_arg3))
      ∧ r.2.sem = fun _ => 0)

def quiescent_RPoolIdeal_pre_finite_pool [hRPoolIdeal : Cert.RPoolIdeal.Facts] [hPre_finite_pool : Cert.Pre_finite_pool.Facts] : Prop :=
  ∀ (m : (ℓ : Loc Cert.RPoolIdeal.nD Cert.RPoolIdeal.τ Cert.RPoolIdeal.sig) → Buf (Elt Ideal) ℓ) (g : Dev Cert.RPoolIdeal.nD → PrngReg), Pre_RPoolIdeal_finite_pool m →
    θ_run (Cert.RPoolIdeal.defs (F := Ideal)) (onTc (τ := Cert.RPoolIdeal.τ) (Cert.RPoolIdeal.main (F := Ideal))) ⟨m, fun _ => 0, g⟩ (fun r => (∀ c : Dev Cert.RPoolIdeal.nD,
      r.2.mem ((c.tc : Thread Cert.RPoolIdeal.nD Cert.RPoolIdeal.τ).loc Cert.RPoolIdeal.main_arg0) = m ((c.tc : Thread Cert.RPoolIdeal.nD Cert.RPoolIdeal.τ).loc Cert.RPoolIdeal.main_arg0)
      ∧ r.2.mem ((c.tc : Thread Cert.RPoolIdeal.nD Cert.RPoolIdeal.τ).loc Cert.RPoolIdeal.main_arg1) = m ((c.tc : Thread Cert.RPoolIdeal.nD Cert.RPoolIdeal.τ).loc Cert.RPoolIdeal.main_arg1)
      ∧ r.2.mem ((c.tc : Thread Cert.RPoolIdeal.nD Cert.RPoolIdeal.τ).loc Cert.RPoolIdeal.main_arg2) = m ((c.tc : Thread Cert.RPoolIdeal.nD Cert.RPoolIdeal.τ).loc Cert.RPoolIdeal.main_arg2)
      ∧ r.2.mem ((c.tc : Thread Cert.RPoolIdeal.nD Cert.RPoolIdeal.τ).loc Cert.RPoolIdeal.main_arg3) = m ((c.tc : Thread Cert.RPoolIdeal.nD Cert.RPoolIdeal.τ).loc Cert.RPoolIdeal.main_arg3))
      ∧ r.2.sem = fun _ => 0)

def quiescent_KPre [hKPre : Cert.KPre.Facts] : Prop :=
  ∀ (m : (ℓ : Loc Cert.KPre.nD Cert.KPre.τ Cert.KPre.sig) → Buf (Elt Bits) ℓ) (g : Dev Cert.KPre.nD → PrngReg), Pre_KPre m →
    θ_run (Cert.KPre.defs (F := Bits)) (onTc (τ := Cert.KPre.τ) (Cert.KPre.main (F := Bits))) ⟨m, fun _ => 0, g⟩ (fun r => (∀ c : Dev Cert.KPre.nD,
      r.2.mem ((c.tc : Thread Cert.KPre.nD Cert.KPre.τ).loc Cert.KPre.main_arg0) = m ((c.tc : Thread Cert.KPre.nD Cert.KPre.τ).loc Cert.KPre.main_arg0)
      ∧ r.2.mem ((c.tc : Thread Cert.KPre.nD Cert.KPre.τ).loc Cert.KPre.main_arg1) = m ((c.tc : Thread Cert.KPre.nD Cert.KPre.τ).loc Cert.KPre.main_arg1)
      ∧ r.2.mem ((c.tc : Thread Cert.KPre.nD Cert.KPre.τ).loc Cert.KPre.main_arg2) = m ((c.tc : Thread Cert.KPre.nD Cert.KPre.τ).loc Cert.KPre.main_arg2))
      ∧ r.2.sem = fun _ => 0)

def quiescent_KPreIdeal [hKPreIdeal : Cert.KPreIdeal.Facts] : Prop :=
  ∀ (m : (ℓ : Loc Cert.KPreIdeal.nD Cert.KPreIdeal.τ Cert.KPreIdeal.sig) → Buf (Elt Ideal) ℓ) (g : Dev Cert.KPreIdeal.nD → PrngReg), Pre_KPreIdeal m →
    θ_run (Cert.KPreIdeal.defs (F := Ideal)) (onTc (τ := Cert.KPreIdeal.τ) (Cert.KPreIdeal.main (F := Ideal))) ⟨m, fun _ => 0, g⟩ (fun r => (∀ c : Dev Cert.KPreIdeal.nD,
      r.2.mem ((c.tc : Thread Cert.KPreIdeal.nD Cert.KPreIdeal.τ).loc Cert.KPreIdeal.main_arg0) = m ((c.tc : Thread Cert.KPreIdeal.nD Cert.KPreIdeal.τ).loc Cert.KPreIdeal.main_arg0)
      ∧ r.2.mem ((c.tc : Thread Cert.KPreIdeal.nD Cert.KPreIdeal.τ).loc Cert.KPreIdeal.main_arg1) = m ((c.tc : Thread Cert.KPreIdeal.nD Cert.KPreIdeal.τ).loc Cert.KPreIdeal.main_arg1)
      ∧ r.2.mem ((c.tc : Thread Cert.KPreIdeal.nD Cert.KPreIdeal.τ).loc Cert.KPreIdeal.main_arg2) = m ((c.tc : Thread Cert.KPreIdeal.nD Cert.KPreIdeal.τ).loc Cert.KPreIdeal.main_arg2))
      ∧ r.2.sem = fun _ => 0)

def quiescent_KPreIdeal_pre_finite_pre [hKPreIdeal : Cert.KPreIdeal.Facts] [hPre_finite_pre : Cert.Pre_finite_pre.Facts] : Prop :=
  ∀ (m : (ℓ : Loc Cert.KPreIdeal.nD Cert.KPreIdeal.τ Cert.KPreIdeal.sig) → Buf (Elt Ideal) ℓ) (g : Dev Cert.KPreIdeal.nD → PrngReg), Pre_KPreIdeal_finite_pre m →
    θ_run (Cert.KPreIdeal.defs (F := Ideal)) (onTc (τ := Cert.KPreIdeal.τ) (Cert.KPreIdeal.main (F := Ideal))) ⟨m, fun _ => 0, g⟩ (fun r => (∀ c : Dev Cert.KPreIdeal.nD,
      r.2.mem ((c.tc : Thread Cert.KPreIdeal.nD Cert.KPreIdeal.τ).loc Cert.KPreIdeal.main_arg0) = m ((c.tc : Thread Cert.KPreIdeal.nD Cert.KPreIdeal.τ).loc Cert.KPreIdeal.main_arg0)
      ∧ r.2.mem ((c.tc : Thread Cert.KPreIdeal.nD Cert.KPreIdeal.τ).loc Cert.KPreIdeal.main_arg1) = m ((c.tc : Thread Cert.KPreIdeal.nD Cert.KPreIdeal.τ).loc Cert.KPreIdeal.main_arg1)
      ∧ r.2.mem ((c.tc : Thread Cert.KPreIdeal.nD Cert.KPreIdeal.τ).loc Cert.KPreIdeal.main_arg2) = m ((c.tc : Thread Cert.KPreIdeal.nD Cert.KPreIdeal.τ).loc Cert.KPreIdeal.main_arg2))
      ∧ r.2.sem = fun _ => 0)

def quiescent_RPreIdeal [hRPreIdeal : Cert.RPreIdeal.Facts] : Prop :=
  ∀ (m : (ℓ : Loc Cert.RPreIdeal.nD Cert.RPreIdeal.τ Cert.RPreIdeal.sig) → Buf (Elt Ideal) ℓ) (g : Dev Cert.RPreIdeal.nD → PrngReg), Pre_RPreIdeal m →
    θ_run (Cert.RPreIdeal.defs (F := Ideal)) (onTc (τ := Cert.RPreIdeal.τ) (Cert.RPreIdeal.main (F := Ideal))) ⟨m, fun _ => 0, g⟩ (fun r => (∀ c : Dev Cert.RPreIdeal.nD,
      r.2.mem ((c.tc : Thread Cert.RPreIdeal.nD Cert.RPreIdeal.τ).loc Cert.RPreIdeal.main_arg0) = m ((c.tc : Thread Cert.RPreIdeal.nD Cert.RPreIdeal.τ).loc Cert.RPreIdeal.main_arg0)
      ∧ r.2.mem ((c.tc : Thread Cert.RPreIdeal.nD Cert.RPreIdeal.τ).loc Cert.RPreIdeal.main_arg1) = m ((c.tc : Thread Cert.RPreIdeal.nD Cert.RPreIdeal.τ).loc Cert.RPreIdeal.main_arg1)
      ∧ r.2.mem ((c.tc : Thread Cert.RPreIdeal.nD Cert.RPreIdeal.τ).loc Cert.RPreIdeal.main_arg2) = m ((c.tc : Thread Cert.RPreIdeal.nD Cert.RPreIdeal.τ).loc Cert.RPreIdeal.main_arg2))
      ∧ r.2.sem = fun _ => 0)

def quiescent_RPreIdeal_pre_finite_pre [hRPreIdeal : Cert.RPreIdeal.Facts] [hPre_finite_pre : Cert.Pre_finite_pre.Facts] : Prop :=
  ∀ (m : (ℓ : Loc Cert.RPreIdeal.nD Cert.RPreIdeal.τ Cert.RPreIdeal.sig) → Buf (Elt Ideal) ℓ) (g : Dev Cert.RPreIdeal.nD → PrngReg), Pre_RPreIdeal_finite_pre m →
    θ_run (Cert.RPreIdeal.defs (F := Ideal)) (onTc (τ := Cert.RPreIdeal.τ) (Cert.RPreIdeal.main (F := Ideal))) ⟨m, fun _ => 0, g⟩ (fun r => (∀ c : Dev Cert.RPreIdeal.nD,
      r.2.mem ((c.tc : Thread Cert.RPreIdeal.nD Cert.RPreIdeal.τ).loc Cert.RPreIdeal.main_arg0) = m ((c.tc : Thread Cert.RPreIdeal.nD Cert.RPreIdeal.τ).loc Cert.RPreIdeal.main_arg0)
      ∧ r.2.mem ((c.tc : Thread Cert.RPreIdeal.nD Cert.RPreIdeal.τ).loc Cert.RPreIdeal.main_arg1) = m ((c.tc : Thread Cert.RPreIdeal.nD Cert.RPreIdeal.τ).loc Cert.RPreIdeal.main_arg1)
      ∧ r.2.mem ((c.tc : Thread Cert.RPreIdeal.nD Cert.RPreIdeal.τ).loc Cert.RPreIdeal.main_arg2) = m ((c.tc : Thread Cert.RPreIdeal.nD Cert.RPreIdeal.τ).loc Cert.RPreIdeal.main_arg2))
      ∧ r.2.sem = fun _ => 0)

def quiescent_KXattnf [hKXattnf : Cert.KXattnf.Facts] : Prop :=
  ∀ (m : (ℓ : Loc Cert.KXattnf.nD Cert.KXattnf.τ Cert.KXattnf.sig) → Buf (Elt Bits) ℓ) (g : Dev Cert.KXattnf.nD → PrngReg), Pre_KXattnf m →
    θ_run (Cert.KXattnf.defs (F := Bits)) (onTc (τ := Cert.KXattnf.τ) (Cert.KXattnf.main (F := Bits))) ⟨m, fun _ => 0, g⟩ (fun r => (∀ c : Dev Cert.KXattnf.nD,
      r.2.mem ((c.tc : Thread Cert.KXattnf.nD Cert.KXattnf.τ).loc Cert.KXattnf.main_arg0) = m ((c.tc : Thread Cert.KXattnf.nD Cert.KXattnf.τ).loc Cert.KXattnf.main_arg0)
      ∧ r.2.mem ((c.tc : Thread Cert.KXattnf.nD Cert.KXattnf.τ).loc Cert.KXattnf.main_arg1) = m ((c.tc : Thread Cert.KXattnf.nD Cert.KXattnf.τ).loc Cert.KXattnf.main_arg1)
      ∧ r.2.mem ((c.tc : Thread Cert.KXattnf.nD Cert.KXattnf.τ).loc Cert.KXattnf.main_arg2) = m ((c.tc : Thread Cert.KXattnf.nD Cert.KXattnf.τ).loc Cert.KXattnf.main_arg2))
      ∧ r.2.sem = fun _ => 0)

def quiescent_KXattnfIdeal [hKXattnfIdeal : Cert.KXattnfIdeal.Facts] : Prop :=
  ∀ (m : (ℓ : Loc Cert.KXattnfIdeal.nD Cert.KXattnfIdeal.τ Cert.KXattnfIdeal.sig) → Buf (Elt Ideal) ℓ) (g : Dev Cert.KXattnfIdeal.nD → PrngReg), Pre_KXattnfIdeal m →
    θ_run (Cert.KXattnfIdeal.defs (F := Ideal)) (onTc (τ := Cert.KXattnfIdeal.τ) (Cert.KXattnfIdeal.main (F := Ideal))) ⟨m, fun _ => 0, g⟩ (fun r => (∀ c : Dev Cert.KXattnfIdeal.nD,
      r.2.mem ((c.tc : Thread Cert.KXattnfIdeal.nD Cert.KXattnfIdeal.τ).loc Cert.KXattnfIdeal.main_arg0) = m ((c.tc : Thread Cert.KXattnfIdeal.nD Cert.KXattnfIdeal.τ).loc Cert.KXattnfIdeal.main_arg0)
      ∧ r.2.mem ((c.tc : Thread Cert.KXattnfIdeal.nD Cert.KXattnfIdeal.τ).loc Cert.KXattnfIdeal.main_arg1) = m ((c.tc : Thread Cert.KXattnfIdeal.nD Cert.KXattnfIdeal.τ).loc Cert.KXattnfIdeal.main_arg1)
      ∧ r.2.mem ((c.tc : Thread Cert.KXattnfIdeal.nD Cert.KXattnfIdeal.τ).loc Cert.KXattnfIdeal.main_arg2) = m ((c.tc : Thread Cert.KXattnfIdeal.nD Cert.KXattnfIdeal.τ).loc Cert.KXattnfIdeal.main_arg2))
      ∧ r.2.sem = fun _ => 0)

def quiescent_KXattnfIdeal_pre_finite_xattnf [hKXattnfIdeal : Cert.KXattnfIdeal.Facts] [hPre_finite_xattnf : Cert.Pre_finite_xattnf.Facts] : Prop :=
  ∀ (m : (ℓ : Loc Cert.KXattnfIdeal.nD Cert.KXattnfIdeal.τ Cert.KXattnfIdeal.sig) → Buf (Elt Ideal) ℓ) (g : Dev Cert.KXattnfIdeal.nD → PrngReg), Pre_KXattnfIdeal_finite_xattnf m →
    θ_run (Cert.KXattnfIdeal.defs (F := Ideal)) (onTc (τ := Cert.KXattnfIdeal.τ) (Cert.KXattnfIdeal.main (F := Ideal))) ⟨m, fun _ => 0, g⟩ (fun r => (∀ c : Dev Cert.KXattnfIdeal.nD,
      r.2.mem ((c.tc : Thread Cert.KXattnfIdeal.nD Cert.KXattnfIdeal.τ).loc Cert.KXattnfIdeal.main_arg0) = m ((c.tc : Thread Cert.KXattnfIdeal.nD Cert.KXattnfIdeal.τ).loc Cert.KXattnfIdeal.main_arg0)
      ∧ r.2.mem ((c.tc : Thread Cert.KXattnfIdeal.nD Cert.KXattnfIdeal.τ).loc Cert.KXattnfIdeal.main_arg1) = m ((c.tc : Thread Cert.KXattnfIdeal.nD Cert.KXattnfIdeal.τ).loc Cert.KXattnfIdeal.main_arg1)
      ∧ r.2.mem ((c.tc : Thread Cert.KXattnfIdeal.nD Cert.KXattnfIdeal.τ).loc Cert.KXattnfIdeal.main_arg2) = m ((c.tc : Thread Cert.KXattnfIdeal.nD Cert.KXattnfIdeal.τ).loc Cert.KXattnfIdeal.main_arg2))
      ∧ r.2.sem = fun _ => 0)

def quiescent_RXattnfIdeal [hRXattnfIdeal : Cert.RXattnfIdeal.Facts] : Prop :=
  ∀ (m : (ℓ : Loc Cert.RXattnfIdeal.nD Cert.RXattnfIdeal.τ Cert.RXattnfIdeal.sig) → Buf (Elt Ideal) ℓ) (g : Dev Cert.RXattnfIdeal.nD → PrngReg), Pre_RXattnfIdeal m →
    θ_run (Cert.RXattnfIdeal.defs (F := Ideal)) (onTc (τ := Cert.RXattnfIdeal.τ) (Cert.RXattnfIdeal.main (F := Ideal))) ⟨m, fun _ => 0, g⟩ (fun r => (∀ c : Dev Cert.RXattnfIdeal.nD,
      r.2.mem ((c.tc : Thread Cert.RXattnfIdeal.nD Cert.RXattnfIdeal.τ).loc Cert.RXattnfIdeal.main_arg0) = m ((c.tc : Thread Cert.RXattnfIdeal.nD Cert.RXattnfIdeal.τ).loc Cert.RXattnfIdeal.main_arg0)
      ∧ r.2.mem ((c.tc : Thread Cert.RXattnfIdeal.nD Cert.RXattnfIdeal.τ).loc Cert.RXattnfIdeal.main_arg1) = m ((c.tc : Thread Cert.RXattnfIdeal.nD Cert.RXattnfIdeal.τ).loc Cert.RXattnfIdeal.main_arg1)
      ∧ r.2.mem ((c.tc : Thread Cert.RXattnfIdeal.nD Cert.RXattnfIdeal.τ).loc Cert.RXattnfIdeal.main_arg2) = m ((c.tc : Thread Cert.RXattnfIdeal.nD Cert.RXattnfIdeal.τ).loc Cert.RXattnfIdeal.main_arg2))
      ∧ r.2.sem = fun _ => 0)

def quiescent_RXattnfIdeal_pre_finite_xattnf [hRXattnfIdeal : Cert.RXattnfIdeal.Facts] [hPre_finite_xattnf : Cert.Pre_finite_xattnf.Facts] : Prop :=
  ∀ (m : (ℓ : Loc Cert.RXattnfIdeal.nD Cert.RXattnfIdeal.τ Cert.RXattnfIdeal.sig) → Buf (Elt Ideal) ℓ) (g : Dev Cert.RXattnfIdeal.nD → PrngReg), Pre_RXattnfIdeal_finite_xattnf m →
    θ_run (Cert.RXattnfIdeal.defs (F := Ideal)) (onTc (τ := Cert.RXattnfIdeal.τ) (Cert.RXattnfIdeal.main (F := Ideal))) ⟨m, fun _ => 0, g⟩ (fun r => (∀ c : Dev Cert.RXattnfIdeal.nD,
      r.2.mem ((c.tc : Thread Cert.RXattnfIdeal.nD Cert.RXattnfIdeal.τ).loc Cert.RXattnfIdeal.main_arg0) = m ((c.tc : Thread Cert.RXattnfIdeal.nD Cert.RXattnfIdeal.τ).loc Cert.RXattnfIdeal.main_arg0)
      ∧ r.2.mem ((c.tc : Thread Cert.RXattnfIdeal.nD Cert.RXattnfIdeal.τ).loc Cert.RXattnfIdeal.main_arg1) = m ((c.tc : Thread Cert.RXattnfIdeal.nD Cert.RXattnfIdeal.τ).loc Cert.RXattnfIdeal.main_arg1)
      ∧ r.2.mem ((c.tc : Thread Cert.RXattnfIdeal.nD Cert.RXattnfIdeal.τ).loc Cert.RXattnfIdeal.main_arg2) = m ((c.tc : Thread Cert.RXattnfIdeal.nD Cert.RXattnfIdeal.τ).loc Cert.RXattnfIdeal.main_arg2))
      ∧ r.2.sem = fun _ => 0)

def quiescent_KPoolf [hKPoolf : Cert.KPoolf.Facts] : Prop :=
  ∀ (m : (ℓ : Loc Cert.KPoolf.nD Cert.KPoolf.τ Cert.KPoolf.sig) → Buf (Elt Bits) ℓ) (g : Dev Cert.KPoolf.nD → PrngReg), Pre_KPoolf m →
    θ_run (Cert.KPoolf.defs (F := Bits)) (onTc (τ := Cert.KPoolf.τ) (Cert.KPoolf.main (F := Bits))) ⟨m, fun _ => 0, g⟩ (fun r => (∀ c : Dev Cert.KPoolf.nD,
      r.2.mem ((c.tc : Thread Cert.KPoolf.nD Cert.KPoolf.τ).loc Cert.KPoolf.main_arg0) = m ((c.tc : Thread Cert.KPoolf.nD Cert.KPoolf.τ).loc Cert.KPoolf.main_arg0)
      ∧ r.2.mem ((c.tc : Thread Cert.KPoolf.nD Cert.KPoolf.τ).loc Cert.KPoolf.main_arg1) = m ((c.tc : Thread Cert.KPoolf.nD Cert.KPoolf.τ).loc Cert.KPoolf.main_arg1)
      ∧ r.2.mem ((c.tc : Thread Cert.KPoolf.nD Cert.KPoolf.τ).loc Cert.KPoolf.main_arg2) = m ((c.tc : Thread Cert.KPoolf.nD Cert.KPoolf.τ).loc Cert.KPoolf.main_arg2))
      ∧ r.2.sem = fun _ => 0)

def quiescent_KPoolfIdeal [hKPoolfIdeal : Cert.KPoolfIdeal.Facts] : Prop :=
  ∀ (m : (ℓ : Loc Cert.KPoolfIdeal.nD Cert.KPoolfIdeal.τ Cert.KPoolfIdeal.sig) → Buf (Elt Ideal) ℓ) (g : Dev Cert.KPoolfIdeal.nD → PrngReg), Pre_KPoolfIdeal m →
    θ_run (Cert.KPoolfIdeal.defs (F := Ideal)) (onTc (τ := Cert.KPoolfIdeal.τ) (Cert.KPoolfIdeal.main (F := Ideal))) ⟨m, fun _ => 0, g⟩ (fun r => (∀ c : Dev Cert.KPoolfIdeal.nD,
      r.2.mem ((c.tc : Thread Cert.KPoolfIdeal.nD Cert.KPoolfIdeal.τ).loc Cert.KPoolfIdeal.main_arg0) = m ((c.tc : Thread Cert.KPoolfIdeal.nD Cert.KPoolfIdeal.τ).loc Cert.KPoolfIdeal.main_arg0)
      ∧ r.2.mem ((c.tc : Thread Cert.KPoolfIdeal.nD Cert.KPoolfIdeal.τ).loc Cert.KPoolfIdeal.main_arg1) = m ((c.tc : Thread Cert.KPoolfIdeal.nD Cert.KPoolfIdeal.τ).loc Cert.KPoolfIdeal.main_arg1)
      ∧ r.2.mem ((c.tc : Thread Cert.KPoolfIdeal.nD Cert.KPoolfIdeal.τ).loc Cert.KPoolfIdeal.main_arg2) = m ((c.tc : Thread Cert.KPoolfIdeal.nD Cert.KPoolfIdeal.τ).loc Cert.KPoolfIdeal.main_arg2))
      ∧ r.2.sem = fun _ => 0)

def quiescent_KPoolfIdeal_pre_finite_poolf [hKPoolfIdeal : Cert.KPoolfIdeal.Facts] [hPre_finite_poolf : Cert.Pre_finite_poolf.Facts] : Prop :=
  ∀ (m : (ℓ : Loc Cert.KPoolfIdeal.nD Cert.KPoolfIdeal.τ Cert.KPoolfIdeal.sig) → Buf (Elt Ideal) ℓ) (g : Dev Cert.KPoolfIdeal.nD → PrngReg), Pre_KPoolfIdeal_finite_poolf m →
    θ_run (Cert.KPoolfIdeal.defs (F := Ideal)) (onTc (τ := Cert.KPoolfIdeal.τ) (Cert.KPoolfIdeal.main (F := Ideal))) ⟨m, fun _ => 0, g⟩ (fun r => (∀ c : Dev Cert.KPoolfIdeal.nD,
      r.2.mem ((c.tc : Thread Cert.KPoolfIdeal.nD Cert.KPoolfIdeal.τ).loc Cert.KPoolfIdeal.main_arg0) = m ((c.tc : Thread Cert.KPoolfIdeal.nD Cert.KPoolfIdeal.τ).loc Cert.KPoolfIdeal.main_arg0)
      ∧ r.2.mem ((c.tc : Thread Cert.KPoolfIdeal.nD Cert.KPoolfIdeal.τ).loc Cert.KPoolfIdeal.main_arg1) = m ((c.tc : Thread Cert.KPoolfIdeal.nD Cert.KPoolfIdeal.τ).loc Cert.KPoolfIdeal.main_arg1)
      ∧ r.2.mem ((c.tc : Thread Cert.KPoolfIdeal.nD Cert.KPoolfIdeal.τ).loc Cert.KPoolfIdeal.main_arg2) = m ((c.tc : Thread Cert.KPoolfIdeal.nD Cert.KPoolfIdeal.τ).loc Cert.KPoolfIdeal.main_arg2))
      ∧ r.2.sem = fun _ => 0)

def quiescent_RPoolfIdeal [hRPoolfIdeal : Cert.RPoolfIdeal.Facts] : Prop :=
  ∀ (m : (ℓ : Loc Cert.RPoolfIdeal.nD Cert.RPoolfIdeal.τ Cert.RPoolfIdeal.sig) → Buf (Elt Ideal) ℓ) (g : Dev Cert.RPoolfIdeal.nD → PrngReg), Pre_RPoolfIdeal m →
    θ_run (Cert.RPoolfIdeal.defs (F := Ideal)) (onTc (τ := Cert.RPoolfIdeal.τ) (Cert.RPoolfIdeal.main (F := Ideal))) ⟨m, fun _ => 0, g⟩ (fun r => (∀ c : Dev Cert.RPoolfIdeal.nD,
      r.2.mem ((c.tc : Thread Cert.RPoolfIdeal.nD Cert.RPoolfIdeal.τ).loc Cert.RPoolfIdeal.main_arg0) = m ((c.tc : Thread Cert.RPoolfIdeal.nD Cert.RPoolfIdeal.τ).loc Cert.RPoolfIdeal.main_arg0)
      ∧ r.2.mem ((c.tc : Thread Cert.RPoolfIdeal.nD Cert.RPoolfIdeal.τ).loc Cert.RPoolfIdeal.main_arg1) = m ((c.tc : Thread Cert.RPoolfIdeal.nD Cert.RPoolfIdeal.τ).loc Cert.RPoolfIdeal.main_arg1)
      ∧ r.2.mem ((c.tc : Thread Cert.RPoolfIdeal.nD Cert.RPoolfIdeal.τ).loc Cert.RPoolfIdeal.main_arg2) = m ((c.tc : Thread Cert.RPoolfIdeal.nD Cert.RPoolfIdeal.τ).loc Cert.RPoolfIdeal.main_arg2))
      ∧ r.2.sem = fun _ => 0)

def quiescent_RPoolfIdeal_pre_finite_poolf [hRPoolfIdeal : Cert.RPoolfIdeal.Facts] [hPre_finite_poolf : Cert.Pre_finite_poolf.Facts] : Prop :=
  ∀ (m : (ℓ : Loc Cert.RPoolfIdeal.nD Cert.RPoolfIdeal.τ Cert.RPoolfIdeal.sig) → Buf (Elt Ideal) ℓ) (g : Dev Cert.RPoolfIdeal.nD → PrngReg), Pre_RPoolfIdeal_finite_poolf m →
    θ_run (Cert.RPoolfIdeal.defs (F := Ideal)) (onTc (τ := Cert.RPoolfIdeal.τ) (Cert.RPoolfIdeal.main (F := Ideal))) ⟨m, fun _ => 0, g⟩ (fun r => (∀ c : Dev Cert.RPoolfIdeal.nD,
      r.2.mem ((c.tc : Thread Cert.RPoolfIdeal.nD Cert.RPoolfIdeal.τ).loc Cert.RPoolfIdeal.main_arg0) = m ((c.tc : Thread Cert.RPoolfIdeal.nD Cert.RPoolfIdeal.τ).loc Cert.RPoolfIdeal.main_arg0)
      ∧ r.2.mem ((c.tc : Thread Cert.RPoolfIdeal.nD Cert.RPoolfIdeal.τ).loc Cert.RPoolfIdeal.main_arg1) = m ((c.tc : Thread Cert.RPoolfIdeal.nD Cert.RPoolfIdeal.τ).loc Cert.RPoolfIdeal.main_arg1)
      ∧ r.2.mem ((c.tc : Thread Cert.RPoolfIdeal.nD Cert.RPoolfIdeal.τ).loc Cert.RPoolfIdeal.main_arg2) = m ((c.tc : Thread Cert.RPoolfIdeal.nD Cert.RPoolfIdeal.τ).loc Cert.RPoolfIdeal.main_arg2))
      ∧ r.2.sem = fun _ => 0)

def quiescent_KPostf [hKPostf : Cert.KPostf.Facts] : Prop :=
  ∀ (m : (ℓ : Loc Cert.KPostf.nD Cert.KPostf.τ Cert.KPostf.sig) → Buf (Elt Bits) ℓ) (g : Dev Cert.KPostf.nD → PrngReg), Pre_KPostf m →
    θ_run (Cert.KPostf.defs (F := Bits)) (onTc (τ := Cert.KPostf.τ) (Cert.KPostf.main (F := Bits))) ⟨m, fun _ => 0, g⟩ (fun r => (∀ c : Dev Cert.KPostf.nD,
      r.2.mem ((c.tc : Thread Cert.KPostf.nD Cert.KPostf.τ).loc Cert.KPostf.main_arg0) = m ((c.tc : Thread Cert.KPostf.nD Cert.KPostf.τ).loc Cert.KPostf.main_arg0)
      ∧ r.2.mem ((c.tc : Thread Cert.KPostf.nD Cert.KPostf.τ).loc Cert.KPostf.main_arg1) = m ((c.tc : Thread Cert.KPostf.nD Cert.KPostf.τ).loc Cert.KPostf.main_arg1)
      ∧ r.2.mem ((c.tc : Thread Cert.KPostf.nD Cert.KPostf.τ).loc Cert.KPostf.main_arg2) = m ((c.tc : Thread Cert.KPostf.nD Cert.KPostf.τ).loc Cert.KPostf.main_arg2))
      ∧ r.2.sem = fun _ => 0)

def quiescent_KPostfIdeal [hKPostfIdeal : Cert.KPostfIdeal.Facts] : Prop :=
  ∀ (m : (ℓ : Loc Cert.KPostfIdeal.nD Cert.KPostfIdeal.τ Cert.KPostfIdeal.sig) → Buf (Elt Ideal) ℓ) (g : Dev Cert.KPostfIdeal.nD → PrngReg), Pre_KPostfIdeal m →
    θ_run (Cert.KPostfIdeal.defs (F := Ideal)) (onTc (τ := Cert.KPostfIdeal.τ) (Cert.KPostfIdeal.main (F := Ideal))) ⟨m, fun _ => 0, g⟩ (fun r => (∀ c : Dev Cert.KPostfIdeal.nD,
      r.2.mem ((c.tc : Thread Cert.KPostfIdeal.nD Cert.KPostfIdeal.τ).loc Cert.KPostfIdeal.main_arg0) = m ((c.tc : Thread Cert.KPostfIdeal.nD Cert.KPostfIdeal.τ).loc Cert.KPostfIdeal.main_arg0)
      ∧ r.2.mem ((c.tc : Thread Cert.KPostfIdeal.nD Cert.KPostfIdeal.τ).loc Cert.KPostfIdeal.main_arg1) = m ((c.tc : Thread Cert.KPostfIdeal.nD Cert.KPostfIdeal.τ).loc Cert.KPostfIdeal.main_arg1)
      ∧ r.2.mem ((c.tc : Thread Cert.KPostfIdeal.nD Cert.KPostfIdeal.τ).loc Cert.KPostfIdeal.main_arg2) = m ((c.tc : Thread Cert.KPostfIdeal.nD Cert.KPostfIdeal.τ).loc Cert.KPostfIdeal.main_arg2))
      ∧ r.2.sem = fun _ => 0)

def quiescent_RPostfIdeal [hRPostfIdeal : Cert.RPostfIdeal.Facts] : Prop :=
  ∀ (m : (ℓ : Loc Cert.RPostfIdeal.nD Cert.RPostfIdeal.τ Cert.RPostfIdeal.sig) → Buf (Elt Ideal) ℓ) (g : Dev Cert.RPostfIdeal.nD → PrngReg), Pre_RPostfIdeal m →
    θ_run (Cert.RPostfIdeal.defs (F := Ideal)) (onTc (τ := Cert.RPostfIdeal.τ) (Cert.RPostfIdeal.main (F := Ideal))) ⟨m, fun _ => 0, g⟩ (fun r => (∀ c : Dev Cert.RPostfIdeal.nD,
      r.2.mem ((c.tc : Thread Cert.RPostfIdeal.nD Cert.RPostfIdeal.τ).loc Cert.RPostfIdeal.main_arg0) = m ((c.tc : Thread Cert.RPostfIdeal.nD Cert.RPostfIdeal.τ).loc Cert.RPostfIdeal.main_arg0)
      ∧ r.2.mem ((c.tc : Thread Cert.RPostfIdeal.nD Cert.RPostfIdeal.τ).loc Cert.RPostfIdeal.main_arg1) = m ((c.tc : Thread Cert.RPostfIdeal.nD Cert.RPostfIdeal.τ).loc Cert.RPostfIdeal.main_arg1)
      ∧ r.2.mem ((c.tc : Thread Cert.RPostfIdeal.nD Cert.RPostfIdeal.τ).loc Cert.RPostfIdeal.main_arg2) = m ((c.tc : Thread Cert.RPostfIdeal.nD Cert.RPostfIdeal.τ).loc Cert.RPostfIdeal.main_arg2))
      ∧ r.2.sem = fun _ => 0)

def quiescent_KPref [hKPref : Cert.KPref.Facts] : Prop :=
  ∀ (m : (ℓ : Loc Cert.KPref.nD Cert.KPref.τ Cert.KPref.sig) → Buf (Elt Bits) ℓ) (g : Dev Cert.KPref.nD → PrngReg), Pre_KPref m →
    θ_run (Cert.KPref.defs (F := Bits)) (onTc (τ := Cert.KPref.τ) (Cert.KPref.main (F := Bits))) ⟨m, fun _ => 0, g⟩ (fun r => (∀ c : Dev Cert.KPref.nD,
      r.2.mem ((c.tc : Thread Cert.KPref.nD Cert.KPref.τ).loc Cert.KPref.main_arg0) = m ((c.tc : Thread Cert.KPref.nD Cert.KPref.τ).loc Cert.KPref.main_arg0)
      ∧ r.2.mem ((c.tc : Thread Cert.KPref.nD Cert.KPref.τ).loc Cert.KPref.main_arg1) = m ((c.tc : Thread Cert.KPref.nD Cert.KPref.τ).loc Cert.KPref.main_arg1))
      ∧ r.2.sem = fun _ => 0)

def quiescent_KPrefIdeal [hKPrefIdeal : Cert.KPrefIdeal.Facts] : Prop :=
  ∀ (m : (ℓ : Loc Cert.KPrefIdeal.nD Cert.KPrefIdeal.τ Cert.KPrefIdeal.sig) → Buf (Elt Ideal) ℓ) (g : Dev Cert.KPrefIdeal.nD → PrngReg), Pre_KPrefIdeal m →
    θ_run (Cert.KPrefIdeal.defs (F := Ideal)) (onTc (τ := Cert.KPrefIdeal.τ) (Cert.KPrefIdeal.main (F := Ideal))) ⟨m, fun _ => 0, g⟩ (fun r => (∀ c : Dev Cert.KPrefIdeal.nD,
      r.2.mem ((c.tc : Thread Cert.KPrefIdeal.nD Cert.KPrefIdeal.τ).loc Cert.KPrefIdeal.main_arg0) = m ((c.tc : Thread Cert.KPrefIdeal.nD Cert.KPrefIdeal.τ).loc Cert.KPrefIdeal.main_arg0)
      ∧ r.2.mem ((c.tc : Thread Cert.KPrefIdeal.nD Cert.KPrefIdeal.τ).loc Cert.KPrefIdeal.main_arg1) = m ((c.tc : Thread Cert.KPrefIdeal.nD Cert.KPrefIdeal.τ).loc Cert.KPrefIdeal.main_arg1))
      ∧ r.2.sem = fun _ => 0)

def quiescent_RPrefIdeal [hRPrefIdeal : Cert.RPrefIdeal.Facts] : Prop :=
  ∀ (m : (ℓ : Loc Cert.RPrefIdeal.nD Cert.RPrefIdeal.τ Cert.RPrefIdeal.sig) → Buf (Elt Ideal) ℓ) (g : Dev Cert.RPrefIdeal.nD → PrngReg), Pre_RPrefIdeal m →
    θ_run (Cert.RPrefIdeal.defs (F := Ideal)) (onTc (τ := Cert.RPrefIdeal.τ) (Cert.RPrefIdeal.main (F := Ideal))) ⟨m, fun _ => 0, g⟩ (fun r => (∀ c : Dev Cert.RPrefIdeal.nD,
      r.2.mem ((c.tc : Thread Cert.RPrefIdeal.nD Cert.RPrefIdeal.τ).loc Cert.RPrefIdeal.main_arg0) = m ((c.tc : Thread Cert.RPrefIdeal.nD Cert.RPrefIdeal.τ).loc Cert.RPrefIdeal.main_arg0)
      ∧ r.2.mem ((c.tc : Thread Cert.RPrefIdeal.nD Cert.RPrefIdeal.τ).loc Cert.RPrefIdeal.main_arg1) = m ((c.tc : Thread Cert.RPrefIdeal.nD Cert.RPrefIdeal.τ).loc Cert.RPrefIdeal.main_arg1))
      ∧ r.2.sem = fun _ => 0)

def quiescent_KXqdx [hKXqdx : Cert.KXqdx.Facts] : Prop :=
  ∀ (m : (ℓ : Loc Cert.KXqdx.nD Cert.KXqdx.τ Cert.KXqdx.sig) → Buf (Elt Bits) ℓ) (g : Dev Cert.KXqdx.nD → PrngReg), Pre_KXqdx m →
    θ_run (Cert.KXqdx.defs (F := Bits)) (onTc (τ := Cert.KXqdx.τ) (Cert.KXqdx.main (F := Bits))) ⟨m, fun _ => 0, g⟩ (fun r => (∀ c : Dev Cert.KXqdx.nD,
      r.2.mem ((c.tc : Thread Cert.KXqdx.nD Cert.KXqdx.τ).loc Cert.KXqdx.main_arg0) = m ((c.tc : Thread Cert.KXqdx.nD Cert.KXqdx.τ).loc Cert.KXqdx.main_arg0)
      ∧ r.2.mem ((c.tc : Thread Cert.KXqdx.nD Cert.KXqdx.τ).loc Cert.KXqdx.main_arg1) = m ((c.tc : Thread Cert.KXqdx.nD Cert.KXqdx.τ).loc Cert.KXqdx.main_arg1)
      ∧ r.2.mem ((c.tc : Thread Cert.KXqdx.nD Cert.KXqdx.τ).loc Cert.KXqdx.main_arg2) = m ((c.tc : Thread Cert.KXqdx.nD Cert.KXqdx.τ).loc Cert.KXqdx.main_arg2)
      ∧ r.2.mem ((c.tc : Thread Cert.KXqdx.nD Cert.KXqdx.τ).loc Cert.KXqdx.main_arg3) = m ((c.tc : Thread Cert.KXqdx.nD Cert.KXqdx.τ).loc Cert.KXqdx.main_arg3)
      ∧ r.2.mem ((c.tc : Thread Cert.KXqdx.nD Cert.KXqdx.τ).loc Cert.KXqdx.main_arg4) = m ((c.tc : Thread Cert.KXqdx.nD Cert.KXqdx.τ).loc Cert.KXqdx.main_arg4))
      ∧ r.2.sem = fun _ => 0)

def quiescent_KXqdxIdeal [hKXqdxIdeal : Cert.KXqdxIdeal.Facts] : Prop :=
  ∀ (m : (ℓ : Loc Cert.KXqdxIdeal.nD Cert.KXqdxIdeal.τ Cert.KXqdxIdeal.sig) → Buf (Elt Ideal) ℓ) (g : Dev Cert.KXqdxIdeal.nD → PrngReg), Pre_KXqdxIdeal m →
    θ_run (Cert.KXqdxIdeal.defs (F := Ideal)) (onTc (τ := Cert.KXqdxIdeal.τ) (Cert.KXqdxIdeal.main (F := Ideal))) ⟨m, fun _ => 0, g⟩ (fun r => (∀ c : Dev Cert.KXqdxIdeal.nD,
      r.2.mem ((c.tc : Thread Cert.KXqdxIdeal.nD Cert.KXqdxIdeal.τ).loc Cert.KXqdxIdeal.main_arg0) = m ((c.tc : Thread Cert.KXqdxIdeal.nD Cert.KXqdxIdeal.τ).loc Cert.KXqdxIdeal.main_arg0)
      ∧ r.2.mem ((c.tc : Thread Cert.KXqdxIdeal.nD Cert.KXqdxIdeal.τ).loc Cert.KXqdxIdeal.main_arg1) = m ((c.tc : Thread Cert.KXqdxIdeal.nD Cert.KXqdxIdeal.τ).loc Cert.KXqdxIdeal.main_arg1)
      ∧ r.2.mem ((c.tc : Thread Cert.KXqdxIdeal.nD Cert.KXqdxIdeal.τ).loc Cert.KXqdxIdeal.main_arg2) = m ((c.tc : Thread Cert.KXqdxIdeal.nD Cert.KXqdxIdeal.τ).loc Cert.KXqdxIdeal.main_arg2)
      ∧ r.2.mem ((c.tc : Thread Cert.KXqdxIdeal.nD Cert.KXqdxIdeal.τ).loc Cert.KXqdxIdeal.main_arg3) = m ((c.tc : Thread Cert.KXqdxIdeal.nD Cert.KXqdxIdeal.τ).loc Cert.KXqdxIdeal.main_arg3)
      ∧ r.2.mem ((c.tc : Thread Cert.KXqdxIdeal.nD Cert.KXqdxIdeal.τ).loc Cert.KXqdxIdeal.main_arg4) = m ((c.tc : Thread Cert.KXqdxIdeal.nD Cert.KXqdxIdeal.τ).loc Cert.KXqdxIdeal.main_arg4))
      ∧ r.2.sem = fun _ => 0)

def quiescent_KXqdxIdeal_pre_finite_xqdx [hKXqdxIdeal : Cert.KXqdxIdeal.Facts] [hPre_finite_xqdx : Cert.Pre_finite_xqdx.Facts] : Prop :=
  ∀ (m : (ℓ : Loc Cert.KXqdxIdeal.nD Cert.KXqdxIdeal.τ Cert.KXqdxIdeal.sig) → Buf (Elt Ideal) ℓ) (g : Dev Cert.KXqdxIdeal.nD → PrngReg), Pre_KXqdxIdeal_finite_xqdx m →
    θ_run (Cert.KXqdxIdeal.defs (F := Ideal)) (onTc (τ := Cert.KXqdxIdeal.τ) (Cert.KXqdxIdeal.main (F := Ideal))) ⟨m, fun _ => 0, g⟩ (fun r => (∀ c : Dev Cert.KXqdxIdeal.nD,
      r.2.mem ((c.tc : Thread Cert.KXqdxIdeal.nD Cert.KXqdxIdeal.τ).loc Cert.KXqdxIdeal.main_arg0) = m ((c.tc : Thread Cert.KXqdxIdeal.nD Cert.KXqdxIdeal.τ).loc Cert.KXqdxIdeal.main_arg0)
      ∧ r.2.mem ((c.tc : Thread Cert.KXqdxIdeal.nD Cert.KXqdxIdeal.τ).loc Cert.KXqdxIdeal.main_arg1) = m ((c.tc : Thread Cert.KXqdxIdeal.nD Cert.KXqdxIdeal.τ).loc Cert.KXqdxIdeal.main_arg1)
      ∧ r.2.mem ((c.tc : Thread Cert.KXqdxIdeal.nD Cert.KXqdxIdeal.τ).loc Cert.KXqdxIdeal.main_arg2) = m ((c.tc : Thread Cert.KXqdxIdeal.nD Cert.KXqdxIdeal.τ).loc Cert.KXqdxIdeal.main_arg2)
      ∧ r.2.mem ((c.tc : Thread Cert.KXqdxIdeal.nD Cert.KXqdxIdeal.τ).loc Cert.KXqdxIdeal.main_arg3) = m ((c.tc : Thread Cert.KXqdxIdeal.nD Cert.KXqdxIdeal.τ).loc Cert.KXqdxIdeal.main_arg3)
      ∧ r.2.mem ((c.tc : Thread Cert.KXqdxIdeal.nD Cert.KXqdxIdeal.τ).loc Cert.KXqdxIdeal.main_arg4) = m ((c.tc : Thread Cert.KXqdxIdeal.nD Cert.KXqdxIdeal.τ).loc Cert.KXqdxIdeal.main_arg4))
      ∧ r.2.sem = fun _ => 0)

def quiescent_RXqdxIdeal [hRXqdxIdeal : Cert.RXqdxIdeal.Facts] : Prop :=
  ∀ (m : (ℓ : Loc Cert.RXqdxIdeal.nD Cert.RXqdxIdeal.τ Cert.RXqdxIdeal.sig) → Buf (Elt Ideal) ℓ) (g : Dev Cert.RXqdxIdeal.nD → PrngReg), Pre_RXqdxIdeal m →
    θ_run (Cert.RXqdxIdeal.defs (F := Ideal)) (onTc (τ := Cert.RXqdxIdeal.τ) (Cert.RXqdxIdeal.main (F := Ideal))) ⟨m, fun _ => 0, g⟩ (fun r => (∀ c : Dev Cert.RXqdxIdeal.nD,
      r.2.mem ((c.tc : Thread Cert.RXqdxIdeal.nD Cert.RXqdxIdeal.τ).loc Cert.RXqdxIdeal.main_arg0) = m ((c.tc : Thread Cert.RXqdxIdeal.nD Cert.RXqdxIdeal.τ).loc Cert.RXqdxIdeal.main_arg0)
      ∧ r.2.mem ((c.tc : Thread Cert.RXqdxIdeal.nD Cert.RXqdxIdeal.τ).loc Cert.RXqdxIdeal.main_arg1) = m ((c.tc : Thread Cert.RXqdxIdeal.nD Cert.RXqdxIdeal.τ).loc Cert.RXqdxIdeal.main_arg1)
      ∧ r.2.mem ((c.tc : Thread Cert.RXqdxIdeal.nD Cert.RXqdxIdeal.τ).loc Cert.RXqdxIdeal.main_arg2) = m ((c.tc : Thread Cert.RXqdxIdeal.nD Cert.RXqdxIdeal.τ).loc Cert.RXqdxIdeal.main_arg2)
      ∧ r.2.mem ((c.tc : Thread Cert.RXqdxIdeal.nD Cert.RXqdxIdeal.τ).loc Cert.RXqdxIdeal.main_arg3) = m ((c.tc : Thread Cert.RXqdxIdeal.nD Cert.RXqdxIdeal.τ).loc Cert.RXqdxIdeal.main_arg3)
      ∧ r.2.mem ((c.tc : Thread Cert.RXqdxIdeal.nD Cert.RXqdxIdeal.τ).loc Cert.RXqdxIdeal.main_arg4) = m ((c.tc : Thread Cert.RXqdxIdeal.nD Cert.RXqdxIdeal.τ).loc Cert.RXqdxIdeal.main_arg4))
      ∧ r.2.sem = fun _ => 0)

def quiescent_RXqdxIdeal_pre_finite_xqdx [hRXqdxIdeal : Cert.RXqdxIdeal.Facts] [hPre_finite_xqdx : Cert.Pre_finite_xqdx.Facts] : Prop :=
  ∀ (m : (ℓ : Loc Cert.RXqdxIdeal.nD Cert.RXqdxIdeal.τ Cert.RXqdxIdeal.sig) → Buf (Elt Ideal) ℓ) (g : Dev Cert.RXqdxIdeal.nD → PrngReg), Pre_RXqdxIdeal_finite_xqdx m →
    θ_run (Cert.RXqdxIdeal.defs (F := Ideal)) (onTc (τ := Cert.RXqdxIdeal.τ) (Cert.RXqdxIdeal.main (F := Ideal))) ⟨m, fun _ => 0, g⟩ (fun r => (∀ c : Dev Cert.RXqdxIdeal.nD,
      r.2.mem ((c.tc : Thread Cert.RXqdxIdeal.nD Cert.RXqdxIdeal.τ).loc Cert.RXqdxIdeal.main_arg0) = m ((c.tc : Thread Cert.RXqdxIdeal.nD Cert.RXqdxIdeal.τ).loc Cert.RXqdxIdeal.main_arg0)
      ∧ r.2.mem ((c.tc : Thread Cert.RXqdxIdeal.nD Cert.RXqdxIdeal.τ).loc Cert.RXqdxIdeal.main_arg1) = m ((c.tc : Thread Cert.RXqdxIdeal.nD Cert.RXqdxIdeal.τ).loc Cert.RXqdxIdeal.main_arg1)
      ∧ r.2.mem ((c.tc : Thread Cert.RXqdxIdeal.nD Cert.RXqdxIdeal.τ).loc Cert.RXqdxIdeal.main_arg2) = m ((c.tc : Thread Cert.RXqdxIdeal.nD Cert.RXqdxIdeal.τ).loc Cert.RXqdxIdeal.main_arg2)
      ∧ r.2.mem ((c.tc : Thread Cert.RXqdxIdeal.nD Cert.RXqdxIdeal.τ).loc Cert.RXqdxIdeal.main_arg3) = m ((c.tc : Thread Cert.RXqdxIdeal.nD Cert.RXqdxIdeal.τ).loc Cert.RXqdxIdeal.main_arg3)
      ∧ r.2.mem ((c.tc : Thread Cert.RXqdxIdeal.nD Cert.RXqdxIdeal.τ).loc Cert.RXqdxIdeal.main_arg4) = m ((c.tc : Thread Cert.RXqdxIdeal.nD Cert.RXqdxIdeal.τ).loc Cert.RXqdxIdeal.main_arg4))
      ∧ r.2.sem = fun _ => 0)

def quiescent_KMlpdx [hKMlpdx : Cert.KMlpdx.Facts] : Prop :=
  ∀ (m : (ℓ : Loc Cert.KMlpdx.nD Cert.KMlpdx.τ Cert.KMlpdx.sig) → Buf (Elt Bits) ℓ) (g : Dev Cert.KMlpdx.nD → PrngReg), Pre_KMlpdx m →
    θ_run (Cert.KMlpdx.defs (F := Bits)) (onTc (τ := Cert.KMlpdx.τ) (Cert.KMlpdx.main (F := Bits))) ⟨m, fun _ => 0, g⟩ (fun r => (∀ c : Dev Cert.KMlpdx.nD,
      r.2.mem ((c.tc : Thread Cert.KMlpdx.nD Cert.KMlpdx.τ).loc Cert.KMlpdx.main_arg0) = m ((c.tc : Thread Cert.KMlpdx.nD Cert.KMlpdx.τ).loc Cert.KMlpdx.main_arg0)
      ∧ r.2.mem ((c.tc : Thread Cert.KMlpdx.nD Cert.KMlpdx.τ).loc Cert.KMlpdx.main_arg1) = m ((c.tc : Thread Cert.KMlpdx.nD Cert.KMlpdx.τ).loc Cert.KMlpdx.main_arg1)
      ∧ r.2.mem ((c.tc : Thread Cert.KMlpdx.nD Cert.KMlpdx.τ).loc Cert.KMlpdx.main_arg2) = m ((c.tc : Thread Cert.KMlpdx.nD Cert.KMlpdx.τ).loc Cert.KMlpdx.main_arg2))
      ∧ r.2.sem = fun _ => 0)

def quiescent_KMlpdxIdeal [hKMlpdxIdeal : Cert.KMlpdxIdeal.Facts] : Prop :=
  ∀ (m : (ℓ : Loc Cert.KMlpdxIdeal.nD Cert.KMlpdxIdeal.τ Cert.KMlpdxIdeal.sig) → Buf (Elt Ideal) ℓ) (g : Dev Cert.KMlpdxIdeal.nD → PrngReg), Pre_KMlpdxIdeal m →
    θ_run (Cert.KMlpdxIdeal.defs (F := Ideal)) (onTc (τ := Cert.KMlpdxIdeal.τ) (Cert.KMlpdxIdeal.main (F := Ideal))) ⟨m, fun _ => 0, g⟩ (fun r => (∀ c : Dev Cert.KMlpdxIdeal.nD,
      r.2.mem ((c.tc : Thread Cert.KMlpdxIdeal.nD Cert.KMlpdxIdeal.τ).loc Cert.KMlpdxIdeal.main_arg0) = m ((c.tc : Thread Cert.KMlpdxIdeal.nD Cert.KMlpdxIdeal.τ).loc Cert.KMlpdxIdeal.main_arg0)
      ∧ r.2.mem ((c.tc : Thread Cert.KMlpdxIdeal.nD Cert.KMlpdxIdeal.τ).loc Cert.KMlpdxIdeal.main_arg1) = m ((c.tc : Thread Cert.KMlpdxIdeal.nD Cert.KMlpdxIdeal.τ).loc Cert.KMlpdxIdeal.main_arg1)
      ∧ r.2.mem ((c.tc : Thread Cert.KMlpdxIdeal.nD Cert.KMlpdxIdeal.τ).loc Cert.KMlpdxIdeal.main_arg2) = m ((c.tc : Thread Cert.KMlpdxIdeal.nD Cert.KMlpdxIdeal.τ).loc Cert.KMlpdxIdeal.main_arg2))
      ∧ r.2.sem = fun _ => 0)

def quiescent_RMlpdxIdeal [hRMlpdxIdeal : Cert.RMlpdxIdeal.Facts] : Prop :=
  ∀ (m : (ℓ : Loc Cert.RMlpdxIdeal.nD Cert.RMlpdxIdeal.τ Cert.RMlpdxIdeal.sig) → Buf (Elt Ideal) ℓ) (g : Dev Cert.RMlpdxIdeal.nD → PrngReg), Pre_RMlpdxIdeal m →
    θ_run (Cert.RMlpdxIdeal.defs (F := Ideal)) (onTc (τ := Cert.RMlpdxIdeal.τ) (Cert.RMlpdxIdeal.main (F := Ideal))) ⟨m, fun _ => 0, g⟩ (fun r => (∀ c : Dev Cert.RMlpdxIdeal.nD,
      r.2.mem ((c.tc : Thread Cert.RMlpdxIdeal.nD Cert.RMlpdxIdeal.τ).loc Cert.RMlpdxIdeal.main_arg0) = m ((c.tc : Thread Cert.RMlpdxIdeal.nD Cert.RMlpdxIdeal.τ).loc Cert.RMlpdxIdeal.main_arg0)
      ∧ r.2.mem ((c.tc : Thread Cert.RMlpdxIdeal.nD Cert.RMlpdxIdeal.τ).loc Cert.RMlpdxIdeal.main_arg1) = m ((c.tc : Thread Cert.RMlpdxIdeal.nD Cert.RMlpdxIdeal.τ).loc Cert.RMlpdxIdeal.main_arg1)
      ∧ r.2.mem ((c.tc : Thread Cert.RMlpdxIdeal.nD Cert.RMlpdxIdeal.τ).loc Cert.RMlpdxIdeal.main_arg2) = m ((c.tc : Thread Cert.RMlpdxIdeal.nD Cert.RMlpdxIdeal.τ).loc Cert.RMlpdxIdeal.main_arg2))
      ∧ r.2.sem = fun _ => 0)

def quiescent_KLnf [hKLnf : Cert.KLnf.Facts] : Prop :=
  ∀ (m : (ℓ : Loc Cert.KLnf.nD Cert.KLnf.τ Cert.KLnf.sig) → Buf (Elt Bits) ℓ) (g : Dev Cert.KLnf.nD → PrngReg), Pre_KLnf m →
    θ_run (Cert.KLnf.defs (F := Bits)) (onTc (τ := Cert.KLnf.τ) (Cert.KLnf.main (F := Bits))) ⟨m, fun _ => 0, g⟩ (fun r => (∀ c : Dev Cert.KLnf.nD,
      r.2.mem ((c.tc : Thread Cert.KLnf.nD Cert.KLnf.τ).loc Cert.KLnf.main_arg0) = m ((c.tc : Thread Cert.KLnf.nD Cert.KLnf.τ).loc Cert.KLnf.main_arg0)
      ∧ r.2.mem ((c.tc : Thread Cert.KLnf.nD Cert.KLnf.τ).loc Cert.KLnf.main_arg1) = m ((c.tc : Thread Cert.KLnf.nD Cert.KLnf.τ).loc Cert.KLnf.main_arg1)
      ∧ r.2.mem ((c.tc : Thread Cert.KLnf.nD Cert.KLnf.τ).loc Cert.KLnf.main_arg2) = m ((c.tc : Thread Cert.KLnf.nD Cert.KLnf.τ).loc Cert.KLnf.main_arg2)
      ∧ r.2.mem ((c.tc : Thread Cert.KLnf.nD Cert.KLnf.τ).loc Cert.KLnf.main_arg3) = m ((c.tc : Thread Cert.KLnf.nD Cert.KLnf.τ).loc Cert.KLnf.main_arg3)
      ∧ r.2.mem ((c.tc : Thread Cert.KLnf.nD Cert.KLnf.τ).loc Cert.KLnf.main_arg4) = m ((c.tc : Thread Cert.KLnf.nD Cert.KLnf.τ).loc Cert.KLnf.main_arg4))
      ∧ r.2.sem = fun _ => 0)

def quiescent_KLnfIdeal [hKLnfIdeal : Cert.KLnfIdeal.Facts] : Prop :=
  ∀ (m : (ℓ : Loc Cert.KLnfIdeal.nD Cert.KLnfIdeal.τ Cert.KLnfIdeal.sig) → Buf (Elt Ideal) ℓ) (g : Dev Cert.KLnfIdeal.nD → PrngReg), Pre_KLnfIdeal m →
    θ_run (Cert.KLnfIdeal.defs (F := Ideal)) (onTc (τ := Cert.KLnfIdeal.τ) (Cert.KLnfIdeal.main (F := Ideal))) ⟨m, fun _ => 0, g⟩ (fun r => (∀ c : Dev Cert.KLnfIdeal.nD,
      r.2.mem ((c.tc : Thread Cert.KLnfIdeal.nD Cert.KLnfIdeal.τ).loc Cert.KLnfIdeal.main_arg0) = m ((c.tc : Thread Cert.KLnfIdeal.nD Cert.KLnfIdeal.τ).loc Cert.KLnfIdeal.main_arg0)
      ∧ r.2.mem ((c.tc : Thread Cert.KLnfIdeal.nD Cert.KLnfIdeal.τ).loc Cert.KLnfIdeal.main_arg1) = m ((c.tc : Thread Cert.KLnfIdeal.nD Cert.KLnfIdeal.τ).loc Cert.KLnfIdeal.main_arg1)
      ∧ r.2.mem ((c.tc : Thread Cert.KLnfIdeal.nD Cert.KLnfIdeal.τ).loc Cert.KLnfIdeal.main_arg2) = m ((c.tc : Thread Cert.KLnfIdeal.nD Cert.KLnfIdeal.τ).loc Cert.KLnfIdeal.main_arg2)
      ∧ r.2.mem ((c.tc : Thread Cert.KLnfIdeal.nD Cert.KLnfIdeal.τ).loc Cert.KLnfIdeal.main_arg3) = m ((c.tc : Thread Cert.KLnfIdeal.nD Cert.KLnfIdeal.τ).loc Cert.KLnfIdeal.main_arg3)
      ∧ r.2.mem ((c.tc : Thread Cert.KLnfIdeal.nD Cert.KLnfIdeal.τ).loc Cert.KLnfIdeal.main_arg4) = m ((c.tc : Thread Cert.KLnfIdeal.nD Cert.KLnfIdeal.τ).loc Cert.KLnfIdeal.main_arg4))
      ∧ r.2.sem = fun _ => 0)

def quiescent_RLnfIdeal [hRLnfIdeal : Cert.RLnfIdeal.Facts] : Prop :=
  ∀ (m : (ℓ : Loc Cert.RLnfIdeal.nD Cert.RLnfIdeal.τ Cert.RLnfIdeal.sig) → Buf (Elt Ideal) ℓ) (g : Dev Cert.RLnfIdeal.nD → PrngReg), Pre_RLnfIdeal m →
    θ_run (Cert.RLnfIdeal.defs (F := Ideal)) (onTc (τ := Cert.RLnfIdeal.τ) (Cert.RLnfIdeal.main (F := Ideal))) ⟨m, fun _ => 0, g⟩ (fun r => (∀ c : Dev Cert.RLnfIdeal.nD,
      r.2.mem ((c.tc : Thread Cert.RLnfIdeal.nD Cert.RLnfIdeal.τ).loc Cert.RLnfIdeal.main_arg0) = m ((c.tc : Thread Cert.RLnfIdeal.nD Cert.RLnfIdeal.τ).loc Cert.RLnfIdeal.main_arg0)
      ∧ r.2.mem ((c.tc : Thread Cert.RLnfIdeal.nD Cert.RLnfIdeal.τ).loc Cert.RLnfIdeal.main_arg1) = m ((c.tc : Thread Cert.RLnfIdeal.nD Cert.RLnfIdeal.τ).loc Cert.RLnfIdeal.main_arg1)
      ∧ r.2.mem ((c.tc : Thread Cert.RLnfIdeal.nD Cert.RLnfIdeal.τ).loc Cert.RLnfIdeal.main_arg2) = m ((c.tc : Thread Cert.RLnfIdeal.nD Cert.RLnfIdeal.τ).loc Cert.RLnfIdeal.main_arg2)
      ∧ r.2.mem ((c.tc : Thread Cert.RLnfIdeal.nD Cert.RLnfIdeal.τ).loc Cert.RLnfIdeal.main_arg3) = m ((c.tc : Thread Cert.RLnfIdeal.nD Cert.RLnfIdeal.τ).loc Cert.RLnfIdeal.main_arg3)
      ∧ r.2.mem ((c.tc : Thread Cert.RLnfIdeal.nD Cert.RLnfIdeal.τ).loc Cert.RLnfIdeal.main_arg4) = m ((c.tc : Thread Cert.RLnfIdeal.nD Cert.RLnfIdeal.τ).loc Cert.RLnfIdeal.main_arg4))
      ∧ r.2.sem = fun _ => 0)

def quiescent_KUpf [hKUpf : Cert.KUpf.Facts] : Prop :=
  ∀ (m : (ℓ : Loc Cert.KUpf.nD Cert.KUpf.τ Cert.KUpf.sig) → Buf (Elt Bits) ℓ) (g : Dev Cert.KUpf.nD → PrngReg), Pre_KUpf m →
    θ_run (Cert.KUpf.defs (F := Bits)) (onTc (τ := Cert.KUpf.τ) (Cert.KUpf.main (F := Bits))) ⟨m, fun _ => 0, g⟩ (fun r => (∀ c : Dev Cert.KUpf.nD,
      r.2.mem ((c.tc : Thread Cert.KUpf.nD Cert.KUpf.τ).loc Cert.KUpf.main_arg0) = m ((c.tc : Thread Cert.KUpf.nD Cert.KUpf.τ).loc Cert.KUpf.main_arg0)
      ∧ r.2.mem ((c.tc : Thread Cert.KUpf.nD Cert.KUpf.τ).loc Cert.KUpf.main_arg1) = m ((c.tc : Thread Cert.KUpf.nD Cert.KUpf.τ).loc Cert.KUpf.main_arg1))
      ∧ r.2.sem = fun _ => 0)

def quiescent_KUpfIdeal [hKUpfIdeal : Cert.KUpfIdeal.Facts] : Prop :=
  ∀ (m : (ℓ : Loc Cert.KUpfIdeal.nD Cert.KUpfIdeal.τ Cert.KUpfIdeal.sig) → Buf (Elt Ideal) ℓ) (g : Dev Cert.KUpfIdeal.nD → PrngReg), Pre_KUpfIdeal m →
    θ_run (Cert.KUpfIdeal.defs (F := Ideal)) (onTc (τ := Cert.KUpfIdeal.τ) (Cert.KUpfIdeal.main (F := Ideal))) ⟨m, fun _ => 0, g⟩ (fun r => (∀ c : Dev Cert.KUpfIdeal.nD,
      r.2.mem ((c.tc : Thread Cert.KUpfIdeal.nD Cert.KUpfIdeal.τ).loc Cert.KUpfIdeal.main_arg0) = m ((c.tc : Thread Cert.KUpfIdeal.nD Cert.KUpfIdeal.τ).loc Cert.KUpfIdeal.main_arg0)
      ∧ r.2.mem ((c.tc : Thread Cert.KUpfIdeal.nD Cert.KUpfIdeal.τ).loc Cert.KUpfIdeal.main_arg1) = m ((c.tc : Thread Cert.KUpfIdeal.nD Cert.KUpfIdeal.τ).loc Cert.KUpfIdeal.main_arg1))
      ∧ r.2.sem = fun _ => 0)

def quiescent_RUpfIdeal [hRUpfIdeal : Cert.RUpfIdeal.Facts] : Prop :=
  ∀ (m : (ℓ : Loc Cert.RUpfIdeal.nD Cert.RUpfIdeal.τ Cert.RUpfIdeal.sig) → Buf (Elt Ideal) ℓ) (g : Dev Cert.RUpfIdeal.nD → PrngReg), Pre_RUpfIdeal m →
    θ_run (Cert.RUpfIdeal.defs (F := Ideal)) (onTc (τ := Cert.RUpfIdeal.τ) (Cert.RUpfIdeal.main (F := Ideal))) ⟨m, fun _ => 0, g⟩ (fun r => (∀ c : Dev Cert.RUpfIdeal.nD,
      r.2.mem ((c.tc : Thread Cert.RUpfIdeal.nD Cert.RUpfIdeal.τ).loc Cert.RUpfIdeal.main_arg0) = m ((c.tc : Thread Cert.RUpfIdeal.nD Cert.RUpfIdeal.τ).loc Cert.RUpfIdeal.main_arg0)
      ∧ r.2.mem ((c.tc : Thread Cert.RUpfIdeal.nD Cert.RUpfIdeal.τ).loc Cert.RUpfIdeal.main_arg1) = m ((c.tc : Thread Cert.RUpfIdeal.nD Cert.RUpfIdeal.τ).loc Cert.RUpfIdeal.main_arg1))
      ∧ r.2.sem = fun _ => 0)

def quiescent_KGatesf [hKGatesf : Cert.KGatesf.Facts] : Prop :=
  ∀ (m : (ℓ : Loc Cert.KGatesf.nD Cert.KGatesf.τ Cert.KGatesf.sig) → Buf (Elt Bits) ℓ) (g : Dev Cert.KGatesf.nD → PrngReg), Pre_KGatesf m →
    θ_run (Cert.KGatesf.defs (F := Bits)) (onTc (τ := Cert.KGatesf.τ) (Cert.KGatesf.main (F := Bits))) ⟨m, fun _ => 0, g⟩ (fun r => (∀ c : Dev Cert.KGatesf.nD,
      r.2.mem ((c.tc : Thread Cert.KGatesf.nD Cert.KGatesf.τ).loc Cert.KGatesf.main_arg0) = m ((c.tc : Thread Cert.KGatesf.nD Cert.KGatesf.τ).loc Cert.KGatesf.main_arg0)
      ∧ r.2.mem ((c.tc : Thread Cert.KGatesf.nD Cert.KGatesf.τ).loc Cert.KGatesf.main_arg1) = m ((c.tc : Thread Cert.KGatesf.nD Cert.KGatesf.τ).loc Cert.KGatesf.main_arg1)
      ∧ r.2.mem ((c.tc : Thread Cert.KGatesf.nD Cert.KGatesf.τ).loc Cert.KGatesf.main_arg2) = m ((c.tc : Thread Cert.KGatesf.nD Cert.KGatesf.τ).loc Cert.KGatesf.main_arg2)
      ∧ r.2.mem ((c.tc : Thread Cert.KGatesf.nD Cert.KGatesf.τ).loc Cert.KGatesf.main_arg3) = m ((c.tc : Thread Cert.KGatesf.nD Cert.KGatesf.τ).loc Cert.KGatesf.main_arg3))
      ∧ r.2.sem = fun _ => 0)

def quiescent_KGatesfIdeal [hKGatesfIdeal : Cert.KGatesfIdeal.Facts] : Prop :=
  ∀ (m : (ℓ : Loc Cert.KGatesfIdeal.nD Cert.KGatesfIdeal.τ Cert.KGatesfIdeal.sig) → Buf (Elt Ideal) ℓ) (g : Dev Cert.KGatesfIdeal.nD → PrngReg), Pre_KGatesfIdeal m →
    θ_run (Cert.KGatesfIdeal.defs (F := Ideal)) (onTc (τ := Cert.KGatesfIdeal.τ) (Cert.KGatesfIdeal.main (F := Ideal))) ⟨m, fun _ => 0, g⟩ (fun r => (∀ c : Dev Cert.KGatesfIdeal.nD,
      r.2.mem ((c.tc : Thread Cert.KGatesfIdeal.nD Cert.KGatesfIdeal.τ).loc Cert.KGatesfIdeal.main_arg0) = m ((c.tc : Thread Cert.KGatesfIdeal.nD Cert.KGatesfIdeal.τ).loc Cert.KGatesfIdeal.main_arg0)
      ∧ r.2.mem ((c.tc : Thread Cert.KGatesfIdeal.nD Cert.KGatesfIdeal.τ).loc Cert.KGatesfIdeal.main_arg1) = m ((c.tc : Thread Cert.KGatesfIdeal.nD Cert.KGatesfIdeal.τ).loc Cert.KGatesfIdeal.main_arg1)
      ∧ r.2.mem ((c.tc : Thread Cert.KGatesfIdeal.nD Cert.KGatesfIdeal.τ).loc Cert.KGatesfIdeal.main_arg2) = m ((c.tc : Thread Cert.KGatesfIdeal.nD Cert.KGatesfIdeal.τ).loc Cert.KGatesfIdeal.main_arg2)
      ∧ r.2.mem ((c.tc : Thread Cert.KGatesfIdeal.nD Cert.KGatesfIdeal.τ).loc Cert.KGatesfIdeal.main_arg3) = m ((c.tc : Thread Cert.KGatesfIdeal.nD Cert.KGatesfIdeal.τ).loc Cert.KGatesfIdeal.main_arg3))
      ∧ r.2.sem = fun _ => 0)

def quiescent_RGatesfIdeal [hRGatesfIdeal : Cert.RGatesfIdeal.Facts] : Prop :=
  ∀ (m : (ℓ : Loc Cert.RGatesfIdeal.nD Cert.RGatesfIdeal.τ Cert.RGatesfIdeal.sig) → Buf (Elt Ideal) ℓ) (g : Dev Cert.RGatesfIdeal.nD → PrngReg), Pre_RGatesfIdeal m →
    θ_run (Cert.RGatesfIdeal.defs (F := Ideal)) (onTc (τ := Cert.RGatesfIdeal.τ) (Cert.RGatesfIdeal.main (F := Ideal))) ⟨m, fun _ => 0, g⟩ (fun r => (∀ c : Dev Cert.RGatesfIdeal.nD,
      r.2.mem ((c.tc : Thread Cert.RGatesfIdeal.nD Cert.RGatesfIdeal.τ).loc Cert.RGatesfIdeal.main_arg0) = m ((c.tc : Thread Cert.RGatesfIdeal.nD Cert.RGatesfIdeal.τ).loc Cert.RGatesfIdeal.main_arg0)
      ∧ r.2.mem ((c.tc : Thread Cert.RGatesfIdeal.nD Cert.RGatesfIdeal.τ).loc Cert.RGatesfIdeal.main_arg1) = m ((c.tc : Thread Cert.RGatesfIdeal.nD Cert.RGatesfIdeal.τ).loc Cert.RGatesfIdeal.main_arg1)
      ∧ r.2.mem ((c.tc : Thread Cert.RGatesfIdeal.nD Cert.RGatesfIdeal.τ).loc Cert.RGatesfIdeal.main_arg2) = m ((c.tc : Thread Cert.RGatesfIdeal.nD Cert.RGatesfIdeal.τ).loc Cert.RGatesfIdeal.main_arg2)
      ∧ r.2.mem ((c.tc : Thread Cert.RGatesfIdeal.nD Cert.RGatesfIdeal.τ).loc Cert.RGatesfIdeal.main_arg3) = m ((c.tc : Thread Cert.RGatesfIdeal.nD Cert.RGatesfIdeal.τ).loc Cert.RGatesfIdeal.main_arg3))
      ∧ r.2.sem = fun _ => 0)

def quiescent_KDownf [hKDownf : Cert.KDownf.Facts] : Prop :=
  ∀ (m : (ℓ : Loc Cert.KDownf.nD Cert.KDownf.τ Cert.KDownf.sig) → Buf (Elt Bits) ℓ) (g : Dev Cert.KDownf.nD → PrngReg), Pre_KDownf m →
    θ_run (Cert.KDownf.defs (F := Bits)) (onTc (τ := Cert.KDownf.τ) (Cert.KDownf.main (F := Bits))) ⟨m, fun _ => 0, g⟩ (fun r => (∀ c : Dev Cert.KDownf.nD,
      r.2.mem ((c.tc : Thread Cert.KDownf.nD Cert.KDownf.τ).loc Cert.KDownf.main_arg0) = m ((c.tc : Thread Cert.KDownf.nD Cert.KDownf.τ).loc Cert.KDownf.main_arg0)
      ∧ r.2.mem ((c.tc : Thread Cert.KDownf.nD Cert.KDownf.τ).loc Cert.KDownf.main_arg1) = m ((c.tc : Thread Cert.KDownf.nD Cert.KDownf.τ).loc Cert.KDownf.main_arg1)
      ∧ r.2.mem ((c.tc : Thread Cert.KDownf.nD Cert.KDownf.τ).loc Cert.KDownf.main_arg2) = m ((c.tc : Thread Cert.KDownf.nD Cert.KDownf.τ).loc Cert.KDownf.main_arg2)
      ∧ r.2.mem ((c.tc : Thread Cert.KDownf.nD Cert.KDownf.τ).loc Cert.KDownf.main_arg3) = m ((c.tc : Thread Cert.KDownf.nD Cert.KDownf.τ).loc Cert.KDownf.main_arg3)
      ∧ r.2.mem ((c.tc : Thread Cert.KDownf.nD Cert.KDownf.τ).loc Cert.KDownf.main_arg4) = m ((c.tc : Thread Cert.KDownf.nD Cert.KDownf.τ).loc Cert.KDownf.main_arg4))
      ∧ r.2.sem = fun _ => 0)

def quiescent_KDownfIdeal [hKDownfIdeal : Cert.KDownfIdeal.Facts] : Prop :=
  ∀ (m : (ℓ : Loc Cert.KDownfIdeal.nD Cert.KDownfIdeal.τ Cert.KDownfIdeal.sig) → Buf (Elt Ideal) ℓ) (g : Dev Cert.KDownfIdeal.nD → PrngReg), Pre_KDownfIdeal m →
    θ_run (Cert.KDownfIdeal.defs (F := Ideal)) (onTc (τ := Cert.KDownfIdeal.τ) (Cert.KDownfIdeal.main (F := Ideal))) ⟨m, fun _ => 0, g⟩ (fun r => (∀ c : Dev Cert.KDownfIdeal.nD,
      r.2.mem ((c.tc : Thread Cert.KDownfIdeal.nD Cert.KDownfIdeal.τ).loc Cert.KDownfIdeal.main_arg0) = m ((c.tc : Thread Cert.KDownfIdeal.nD Cert.KDownfIdeal.τ).loc Cert.KDownfIdeal.main_arg0)
      ∧ r.2.mem ((c.tc : Thread Cert.KDownfIdeal.nD Cert.KDownfIdeal.τ).loc Cert.KDownfIdeal.main_arg1) = m ((c.tc : Thread Cert.KDownfIdeal.nD Cert.KDownfIdeal.τ).loc Cert.KDownfIdeal.main_arg1)
      ∧ r.2.mem ((c.tc : Thread Cert.KDownfIdeal.nD Cert.KDownfIdeal.τ).loc Cert.KDownfIdeal.main_arg2) = m ((c.tc : Thread Cert.KDownfIdeal.nD Cert.KDownfIdeal.τ).loc Cert.KDownfIdeal.main_arg2)
      ∧ r.2.mem ((c.tc : Thread Cert.KDownfIdeal.nD Cert.KDownfIdeal.τ).loc Cert.KDownfIdeal.main_arg3) = m ((c.tc : Thread Cert.KDownfIdeal.nD Cert.KDownfIdeal.τ).loc Cert.KDownfIdeal.main_arg3)
      ∧ r.2.mem ((c.tc : Thread Cert.KDownfIdeal.nD Cert.KDownfIdeal.τ).loc Cert.KDownfIdeal.main_arg4) = m ((c.tc : Thread Cert.KDownfIdeal.nD Cert.KDownfIdeal.τ).loc Cert.KDownfIdeal.main_arg4))
      ∧ r.2.sem = fun _ => 0)

def quiescent_RDownfIdeal [hRDownfIdeal : Cert.RDownfIdeal.Facts] : Prop :=
  ∀ (m : (ℓ : Loc Cert.RDownfIdeal.nD Cert.RDownfIdeal.τ Cert.RDownfIdeal.sig) → Buf (Elt Ideal) ℓ) (g : Dev Cert.RDownfIdeal.nD → PrngReg), Pre_RDownfIdeal m →
    θ_run (Cert.RDownfIdeal.defs (F := Ideal)) (onTc (τ := Cert.RDownfIdeal.τ) (Cert.RDownfIdeal.main (F := Ideal))) ⟨m, fun _ => 0, g⟩ (fun r => (∀ c : Dev Cert.RDownfIdeal.nD,
      r.2.mem ((c.tc : Thread Cert.RDownfIdeal.nD Cert.RDownfIdeal.τ).loc Cert.RDownfIdeal.main_arg0) = m ((c.tc : Thread Cert.RDownfIdeal.nD Cert.RDownfIdeal.τ).loc Cert.RDownfIdeal.main_arg0)
      ∧ r.2.mem ((c.tc : Thread Cert.RDownfIdeal.nD Cert.RDownfIdeal.τ).loc Cert.RDownfIdeal.main_arg1) = m ((c.tc : Thread Cert.RDownfIdeal.nD Cert.RDownfIdeal.τ).loc Cert.RDownfIdeal.main_arg1)
      ∧ r.2.mem ((c.tc : Thread Cert.RDownfIdeal.nD Cert.RDownfIdeal.τ).loc Cert.RDownfIdeal.main_arg2) = m ((c.tc : Thread Cert.RDownfIdeal.nD Cert.RDownfIdeal.τ).loc Cert.RDownfIdeal.main_arg2)
      ∧ r.2.mem ((c.tc : Thread Cert.RDownfIdeal.nD Cert.RDownfIdeal.τ).loc Cert.RDownfIdeal.main_arg3) = m ((c.tc : Thread Cert.RDownfIdeal.nD Cert.RDownfIdeal.τ).loc Cert.RDownfIdeal.main_arg3)
      ∧ r.2.mem ((c.tc : Thread Cert.RDownfIdeal.nD Cert.RDownfIdeal.τ).loc Cert.RDownfIdeal.main_arg4) = m ((c.tc : Thread Cert.RDownfIdeal.nD Cert.RDownfIdeal.τ).loc Cert.RDownfIdeal.main_arg4))
      ∧ r.2.sem = fun _ => 0)

def quiescent_KProjdx [hKProjdx : Cert.KProjdx.Facts] : Prop :=
  ∀ (m : (ℓ : Loc Cert.KProjdx.nD Cert.KProjdx.τ Cert.KProjdx.sig) → Buf (Elt Bits) ℓ) (g : Dev Cert.KProjdx.nD → PrngReg), Pre_KProjdx m →
    θ_run (Cert.KProjdx.defs (F := Bits)) (onTc (τ := Cert.KProjdx.τ) (Cert.KProjdx.main (F := Bits))) ⟨m, fun _ => 0, g⟩ (fun r => (∀ c : Dev Cert.KProjdx.nD,
      r.2.mem ((c.tc : Thread Cert.KProjdx.nD Cert.KProjdx.τ).loc Cert.KProjdx.main_arg0) = m ((c.tc : Thread Cert.KProjdx.nD Cert.KProjdx.τ).loc Cert.KProjdx.main_arg0)
      ∧ r.2.mem ((c.tc : Thread Cert.KProjdx.nD Cert.KProjdx.τ).loc Cert.KProjdx.main_arg1) = m ((c.tc : Thread Cert.KProjdx.nD Cert.KProjdx.τ).loc Cert.KProjdx.main_arg1)
      ∧ r.2.mem ((c.tc : Thread Cert.KProjdx.nD Cert.KProjdx.τ).loc Cert.KProjdx.main_arg2) = m ((c.tc : Thread Cert.KProjdx.nD Cert.KProjdx.τ).loc Cert.KProjdx.main_arg2)
      ∧ r.2.mem ((c.tc : Thread Cert.KProjdx.nD Cert.KProjdx.τ).loc Cert.KProjdx.main_arg3) = m ((c.tc : Thread Cert.KProjdx.nD Cert.KProjdx.τ).loc Cert.KProjdx.main_arg3)
      ∧ r.2.mem ((c.tc : Thread Cert.KProjdx.nD Cert.KProjdx.τ).loc Cert.KProjdx.main_arg4) = m ((c.tc : Thread Cert.KProjdx.nD Cert.KProjdx.τ).loc Cert.KProjdx.main_arg4)
      ∧ r.2.mem ((c.tc : Thread Cert.KProjdx.nD Cert.KProjdx.τ).loc Cert.KProjdx.main_arg5) = m ((c.tc : Thread Cert.KProjdx.nD Cert.KProjdx.τ).loc Cert.KProjdx.main_arg5))
      ∧ r.2.sem = fun _ => 0)

def quiescent_KProjdxIdeal [hKProjdxIdeal : Cert.KProjdxIdeal.Facts] : Prop :=
  ∀ (m : (ℓ : Loc Cert.KProjdxIdeal.nD Cert.KProjdxIdeal.τ Cert.KProjdxIdeal.sig) → Buf (Elt Ideal) ℓ) (g : Dev Cert.KProjdxIdeal.nD → PrngReg), Pre_KProjdxIdeal m →
    θ_run (Cert.KProjdxIdeal.defs (F := Ideal)) (onTc (τ := Cert.KProjdxIdeal.τ) (Cert.KProjdxIdeal.main (F := Ideal))) ⟨m, fun _ => 0, g⟩ (fun r => (∀ c : Dev Cert.KProjdxIdeal.nD,
      r.2.mem ((c.tc : Thread Cert.KProjdxIdeal.nD Cert.KProjdxIdeal.τ).loc Cert.KProjdxIdeal.main_arg0) = m ((c.tc : Thread Cert.KProjdxIdeal.nD Cert.KProjdxIdeal.τ).loc Cert.KProjdxIdeal.main_arg0)
      ∧ r.2.mem ((c.tc : Thread Cert.KProjdxIdeal.nD Cert.KProjdxIdeal.τ).loc Cert.KProjdxIdeal.main_arg1) = m ((c.tc : Thread Cert.KProjdxIdeal.nD Cert.KProjdxIdeal.τ).loc Cert.KProjdxIdeal.main_arg1)
      ∧ r.2.mem ((c.tc : Thread Cert.KProjdxIdeal.nD Cert.KProjdxIdeal.τ).loc Cert.KProjdxIdeal.main_arg2) = m ((c.tc : Thread Cert.KProjdxIdeal.nD Cert.KProjdxIdeal.τ).loc Cert.KProjdxIdeal.main_arg2)
      ∧ r.2.mem ((c.tc : Thread Cert.KProjdxIdeal.nD Cert.KProjdxIdeal.τ).loc Cert.KProjdxIdeal.main_arg3) = m ((c.tc : Thread Cert.KProjdxIdeal.nD Cert.KProjdxIdeal.τ).loc Cert.KProjdxIdeal.main_arg3)
      ∧ r.2.mem ((c.tc : Thread Cert.KProjdxIdeal.nD Cert.KProjdxIdeal.τ).loc Cert.KProjdxIdeal.main_arg4) = m ((c.tc : Thread Cert.KProjdxIdeal.nD Cert.KProjdxIdeal.τ).loc Cert.KProjdxIdeal.main_arg4)
      ∧ r.2.mem ((c.tc : Thread Cert.KProjdxIdeal.nD Cert.KProjdxIdeal.τ).loc Cert.KProjdxIdeal.main_arg5) = m ((c.tc : Thread Cert.KProjdxIdeal.nD Cert.KProjdxIdeal.τ).loc Cert.KProjdxIdeal.main_arg5))
      ∧ r.2.sem = fun _ => 0)

def quiescent_RProjdxIdeal [hRProjdxIdeal : Cert.RProjdxIdeal.Facts] : Prop :=
  ∀ (m : (ℓ : Loc Cert.RProjdxIdeal.nD Cert.RProjdxIdeal.τ Cert.RProjdxIdeal.sig) → Buf (Elt Ideal) ℓ) (g : Dev Cert.RProjdxIdeal.nD → PrngReg), Pre_RProjdxIdeal m →
    θ_run (Cert.RProjdxIdeal.defs (F := Ideal)) (onTc (τ := Cert.RProjdxIdeal.τ) (Cert.RProjdxIdeal.main (F := Ideal))) ⟨m, fun _ => 0, g⟩ (fun r => (∀ c : Dev Cert.RProjdxIdeal.nD,
      r.2.mem ((c.tc : Thread Cert.RProjdxIdeal.nD Cert.RProjdxIdeal.τ).loc Cert.RProjdxIdeal.main_arg0) = m ((c.tc : Thread Cert.RProjdxIdeal.nD Cert.RProjdxIdeal.τ).loc Cert.RProjdxIdeal.main_arg0)
      ∧ r.2.mem ((c.tc : Thread Cert.RProjdxIdeal.nD Cert.RProjdxIdeal.τ).loc Cert.RProjdxIdeal.main_arg1) = m ((c.tc : Thread Cert.RProjdxIdeal.nD Cert.RProjdxIdeal.τ).loc Cert.RProjdxIdeal.main_arg1)
      ∧ r.2.mem ((c.tc : Thread Cert.RProjdxIdeal.nD Cert.RProjdxIdeal.τ).loc Cert.RProjdxIdeal.main_arg2) = m ((c.tc : Thread Cert.RProjdxIdeal.nD Cert.RProjdxIdeal.τ).loc Cert.RProjdxIdeal.main_arg2)
      ∧ r.2.mem ((c.tc : Thread Cert.RProjdxIdeal.nD Cert.RProjdxIdeal.τ).loc Cert.RProjdxIdeal.main_arg3) = m ((c.tc : Thread Cert.RProjdxIdeal.nD Cert.RProjdxIdeal.τ).loc Cert.RProjdxIdeal.main_arg3)
      ∧ r.2.mem ((c.tc : Thread Cert.RProjdxIdeal.nD Cert.RProjdxIdeal.τ).loc Cert.RProjdxIdeal.main_arg4) = m ((c.tc : Thread Cert.RProjdxIdeal.nD Cert.RProjdxIdeal.τ).loc Cert.RProjdxIdeal.main_arg4)
      ∧ r.2.mem ((c.tc : Thread Cert.RProjdxIdeal.nD Cert.RProjdxIdeal.τ).loc Cert.RProjdxIdeal.main_arg5) = m ((c.tc : Thread Cert.RProjdxIdeal.nD Cert.RProjdxIdeal.τ).loc Cert.RProjdxIdeal.main_arg5))
      ∧ r.2.sem = fun _ => 0)

def quiescent_KDowndw [hKDowndw : Cert.KDowndw.Facts] : Prop :=
  ∀ (m : (ℓ : Loc Cert.KDowndw.nD Cert.KDowndw.τ Cert.KDowndw.sig) → Buf (Elt Bits) ℓ) (g : Dev Cert.KDowndw.nD → PrngReg), Pre_KDowndw m →
    θ_run (Cert.KDowndw.defs (F := Bits)) (onTc (τ := Cert.KDowndw.τ) (Cert.KDowndw.main (F := Bits))) ⟨m, fun _ => 0, g⟩ (fun r => (∀ c : Dev Cert.KDowndw.nD,
      r.2.mem ((c.tc : Thread Cert.KDowndw.nD Cert.KDowndw.τ).loc Cert.KDowndw.main_arg0) = m ((c.tc : Thread Cert.KDowndw.nD Cert.KDowndw.τ).loc Cert.KDowndw.main_arg0)
      ∧ r.2.mem ((c.tc : Thread Cert.KDowndw.nD Cert.KDowndw.τ).loc Cert.KDowndw.main_arg1) = m ((c.tc : Thread Cert.KDowndw.nD Cert.KDowndw.τ).loc Cert.KDowndw.main_arg1))
      ∧ r.2.sem = fun _ => 0)

def quiescent_KDowndwIdeal [hKDowndwIdeal : Cert.KDowndwIdeal.Facts] : Prop :=
  ∀ (m : (ℓ : Loc Cert.KDowndwIdeal.nD Cert.KDowndwIdeal.τ Cert.KDowndwIdeal.sig) → Buf (Elt Ideal) ℓ) (g : Dev Cert.KDowndwIdeal.nD → PrngReg), Pre_KDowndwIdeal m →
    θ_run (Cert.KDowndwIdeal.defs (F := Ideal)) (onTc (τ := Cert.KDowndwIdeal.τ) (Cert.KDowndwIdeal.main (F := Ideal))) ⟨m, fun _ => 0, g⟩ (fun r => (∀ c : Dev Cert.KDowndwIdeal.nD,
      r.2.mem ((c.tc : Thread Cert.KDowndwIdeal.nD Cert.KDowndwIdeal.τ).loc Cert.KDowndwIdeal.main_arg0) = m ((c.tc : Thread Cert.KDowndwIdeal.nD Cert.KDowndwIdeal.τ).loc Cert.KDowndwIdeal.main_arg0)
      ∧ r.2.mem ((c.tc : Thread Cert.KDowndwIdeal.nD Cert.KDowndwIdeal.τ).loc Cert.KDowndwIdeal.main_arg1) = m ((c.tc : Thread Cert.KDowndwIdeal.nD Cert.KDowndwIdeal.τ).loc Cert.KDowndwIdeal.main_arg1))
      ∧ r.2.sem = fun _ => 0)

def quiescent_RDowndwIdeal [hRDowndwIdeal : Cert.RDowndwIdeal.Facts] : Prop :=
  ∀ (m : (ℓ : Loc Cert.RDowndwIdeal.nD Cert.RDowndwIdeal.τ Cert.RDowndwIdeal.sig) → Buf (Elt Ideal) ℓ) (g : Dev Cert.RDowndwIdeal.nD → PrngReg), Pre_RDowndwIdeal m →
    θ_run (Cert.RDowndwIdeal.defs (F := Ideal)) (onTc (τ := Cert.RDowndwIdeal.τ) (Cert.RDowndwIdeal.main (F := Ideal))) ⟨m, fun _ => 0, g⟩ (fun r => (∀ c : Dev Cert.RDowndwIdeal.nD,
      r.2.mem ((c.tc : Thread Cert.RDowndwIdeal.nD Cert.RDowndwIdeal.τ).loc Cert.RDowndwIdeal.main_arg0) = m ((c.tc : Thread Cert.RDowndwIdeal.nD Cert.RDowndwIdeal.τ).loc Cert.RDowndwIdeal.main_arg0)
      ∧ r.2.mem ((c.tc : Thread Cert.RDowndwIdeal.nD Cert.RDowndwIdeal.τ).loc Cert.RDowndwIdeal.main_arg1) = m ((c.tc : Thread Cert.RDowndwIdeal.nD Cert.RDowndwIdeal.τ).loc Cert.RDowndwIdeal.main_arg1))
      ∧ r.2.sem = fun _ => 0)

def quiescent_KAdam [hKAdam : Cert.KAdam.Facts] : Prop :=
  ∀ (m : (ℓ : Loc Cert.KAdam.nD Cert.KAdam.τ Cert.KAdam.sig) → Buf (Elt Bits) ℓ) (g : Dev Cert.KAdam.nD → PrngReg), Pre_KAdam m →
    θ_run (Cert.KAdam.defs (F := Bits)) (onTc (τ := Cert.KAdam.τ) (Cert.KAdam.main (F := Bits))) ⟨m, fun _ => 0, g⟩ (fun r => (∀ c : Dev Cert.KAdam.nD,
      r.2.mem ((c.tc : Thread Cert.KAdam.nD Cert.KAdam.τ).loc Cert.KAdam.main_arg0) = m ((c.tc : Thread Cert.KAdam.nD Cert.KAdam.τ).loc Cert.KAdam.main_arg0)
      ∧ r.2.mem ((c.tc : Thread Cert.KAdam.nD Cert.KAdam.τ).loc Cert.KAdam.main_arg1) = m ((c.tc : Thread Cert.KAdam.nD Cert.KAdam.τ).loc Cert.KAdam.main_arg1)
      ∧ r.2.mem ((c.tc : Thread Cert.KAdam.nD Cert.KAdam.τ).loc Cert.KAdam.main_arg2) = m ((c.tc : Thread Cert.KAdam.nD Cert.KAdam.τ).loc Cert.KAdam.main_arg2)
      ∧ r.2.mem ((c.tc : Thread Cert.KAdam.nD Cert.KAdam.τ).loc Cert.KAdam.main_arg3) = m ((c.tc : Thread Cert.KAdam.nD Cert.KAdam.τ).loc Cert.KAdam.main_arg3))
      ∧ r.2.sem = fun _ => 0)

def quiescent_KAdamIdeal [hKAdamIdeal : Cert.KAdamIdeal.Facts] : Prop :=
  ∀ (m : (ℓ : Loc Cert.KAdamIdeal.nD Cert.KAdamIdeal.τ Cert.KAdamIdeal.sig) → Buf (Elt Ideal) ℓ) (g : Dev Cert.KAdamIdeal.nD → PrngReg), Pre_KAdamIdeal m →
    θ_run (Cert.KAdamIdeal.defs (F := Ideal)) (onTc (τ := Cert.KAdamIdeal.τ) (Cert.KAdamIdeal.main (F := Ideal))) ⟨m, fun _ => 0, g⟩ (fun r => (∀ c : Dev Cert.KAdamIdeal.nD,
      r.2.mem ((c.tc : Thread Cert.KAdamIdeal.nD Cert.KAdamIdeal.τ).loc Cert.KAdamIdeal.main_arg0) = m ((c.tc : Thread Cert.KAdamIdeal.nD Cert.KAdamIdeal.τ).loc Cert.KAdamIdeal.main_arg0)
      ∧ r.2.mem ((c.tc : Thread Cert.KAdamIdeal.nD Cert.KAdamIdeal.τ).loc Cert.KAdamIdeal.main_arg1) = m ((c.tc : Thread Cert.KAdamIdeal.nD Cert.KAdamIdeal.τ).loc Cert.KAdamIdeal.main_arg1)
      ∧ r.2.mem ((c.tc : Thread Cert.KAdamIdeal.nD Cert.KAdamIdeal.τ).loc Cert.KAdamIdeal.main_arg2) = m ((c.tc : Thread Cert.KAdamIdeal.nD Cert.KAdamIdeal.τ).loc Cert.KAdamIdeal.main_arg2)
      ∧ r.2.mem ((c.tc : Thread Cert.KAdamIdeal.nD Cert.KAdamIdeal.τ).loc Cert.KAdamIdeal.main_arg3) = m ((c.tc : Thread Cert.KAdamIdeal.nD Cert.KAdamIdeal.τ).loc Cert.KAdamIdeal.main_arg3))
      ∧ r.2.sem = fun _ => 0)

def quiescent_RAdamIdeal [hRAdamIdeal : Cert.RAdamIdeal.Facts] : Prop :=
  ∀ (m : (ℓ : Loc Cert.RAdamIdeal.nD Cert.RAdamIdeal.τ Cert.RAdamIdeal.sig) → Buf (Elt Ideal) ℓ) (g : Dev Cert.RAdamIdeal.nD → PrngReg), Pre_RAdamIdeal m →
    θ_run (Cert.RAdamIdeal.defs (F := Ideal)) (onTc (τ := Cert.RAdamIdeal.τ) (Cert.RAdamIdeal.main (F := Ideal))) ⟨m, fun _ => 0, g⟩ (fun r => (∀ c : Dev Cert.RAdamIdeal.nD,
      r.2.mem ((c.tc : Thread Cert.RAdamIdeal.nD Cert.RAdamIdeal.τ).loc Cert.RAdamIdeal.main_arg0) = m ((c.tc : Thread Cert.RAdamIdeal.nD Cert.RAdamIdeal.τ).loc Cert.RAdamIdeal.main_arg0)
      ∧ r.2.mem ((c.tc : Thread Cert.RAdamIdeal.nD Cert.RAdamIdeal.τ).loc Cert.RAdamIdeal.main_arg1) = m ((c.tc : Thread Cert.RAdamIdeal.nD Cert.RAdamIdeal.τ).loc Cert.RAdamIdeal.main_arg1)
      ∧ r.2.mem ((c.tc : Thread Cert.RAdamIdeal.nD Cert.RAdamIdeal.τ).loc Cert.RAdamIdeal.main_arg2) = m ((c.tc : Thread Cert.RAdamIdeal.nD Cert.RAdamIdeal.τ).loc Cert.RAdamIdeal.main_arg2)
      ∧ r.2.mem ((c.tc : Thread Cert.RAdamIdeal.nD Cert.RAdamIdeal.τ).loc Cert.RAdamIdeal.main_arg3) = m ((c.tc : Thread Cert.RAdamIdeal.nD Cert.RAdamIdeal.τ).loc Cert.RAdamIdeal.main_arg3))
      ∧ r.2.sem = fun _ => 0)

def quiescent_KChippart [hKChippart : Cert.KChippart.Facts] [hPre_core_below_two : Cert.Pre_core_below_two.Facts] : Prop :=
  ∀ (m : (ℓ : Loc Cert.KChippart.nD Cert.KChippart.τ Cert.KChippart.sig) → Buf (Elt Bits) ℓ) (g : Dev Cert.KChippart.nD → PrngReg), Pre_KChippart m →
    θ_run (Cert.KChippart.defs (F := Bits)) (onTc (τ := Cert.KChippart.τ) (Cert.KChippart.main (F := Bits))) ⟨m, fun _ => 0, g⟩ (fun r => (∀ c : Dev Cert.KChippart.nD,
      r.2.mem ((c.tc : Thread Cert.KChippart.nD Cert.KChippart.τ).loc Cert.KChippart.main_arg0) = m ((c.tc : Thread Cert.KChippart.nD Cert.KChippart.τ).loc Cert.KChippart.main_arg0)
      ∧ r.2.mem ((c.tc : Thread Cert.KChippart.nD Cert.KChippart.τ).loc Cert.KChippart.main_arg1) = m ((c.tc : Thread Cert.KChippart.nD Cert.KChippart.τ).loc Cert.KChippart.main_arg1)
      ∧ r.2.mem ((c.tc : Thread Cert.KChippart.nD Cert.KChippart.τ).loc Cert.KChippart.main_arg2) = m ((c.tc : Thread Cert.KChippart.nD Cert.KChippart.τ).loc Cert.KChippart.main_arg2))
      ∧ r.2.sem = fun _ => 0)

def quiescent_KChippartIdeal [hKChippartIdeal : Cert.KChippartIdeal.Facts] [hPre_core_below_two : Cert.Pre_core_below_two.Facts] : Prop :=
  ∀ (m : (ℓ : Loc Cert.KChippartIdeal.nD Cert.KChippartIdeal.τ Cert.KChippartIdeal.sig) → Buf (Elt Ideal) ℓ) (g : Dev Cert.KChippartIdeal.nD → PrngReg), Pre_KChippartIdeal m →
    θ_run (Cert.KChippartIdeal.defs (F := Ideal)) (onTc (τ := Cert.KChippartIdeal.τ) (Cert.KChippartIdeal.main (F := Ideal))) ⟨m, fun _ => 0, g⟩ (fun r => (∀ c : Dev Cert.KChippartIdeal.nD,
      r.2.mem ((c.tc : Thread Cert.KChippartIdeal.nD Cert.KChippartIdeal.τ).loc Cert.KChippartIdeal.main_arg0) = m ((c.tc : Thread Cert.KChippartIdeal.nD Cert.KChippartIdeal.τ).loc Cert.KChippartIdeal.main_arg0)
      ∧ r.2.mem ((c.tc : Thread Cert.KChippartIdeal.nD Cert.KChippartIdeal.τ).loc Cert.KChippartIdeal.main_arg1) = m ((c.tc : Thread Cert.KChippartIdeal.nD Cert.KChippartIdeal.τ).loc Cert.KChippartIdeal.main_arg1)
      ∧ r.2.mem ((c.tc : Thread Cert.KChippartIdeal.nD Cert.KChippartIdeal.τ).loc Cert.KChippartIdeal.main_arg2) = m ((c.tc : Thread Cert.KChippartIdeal.nD Cert.KChippartIdeal.τ).loc Cert.KChippartIdeal.main_arg2))
      ∧ r.2.sem = fun _ => 0)

def quiescent_RChippartIdeal [hRChippartIdeal : Cert.RChippartIdeal.Facts] [hPre_core_below_two : Cert.Pre_core_below_two.Facts] : Prop :=
  ∀ (m : (ℓ : Loc Cert.RChippartIdeal.nD Cert.RChippartIdeal.τ Cert.RChippartIdeal.sig) → Buf (Elt Ideal) ℓ) (g : Dev Cert.RChippartIdeal.nD → PrngReg), Pre_RChippartIdeal m →
    θ_run (Cert.RChippartIdeal.defs (F := Ideal)) (onTc (τ := Cert.RChippartIdeal.τ) (Cert.RChippartIdeal.main (F := Ideal))) ⟨m, fun _ => 0, g⟩ (fun r => (∀ c : Dev Cert.RChippartIdeal.nD,
      r.2.mem ((c.tc : Thread Cert.RChippartIdeal.nD Cert.RChippartIdeal.τ).loc Cert.RChippartIdeal.main_arg0) = m ((c.tc : Thread Cert.RChippartIdeal.nD Cert.RChippartIdeal.τ).loc Cert.RChippartIdeal.main_arg0)
      ∧ r.2.mem ((c.tc : Thread Cert.RChippartIdeal.nD Cert.RChippartIdeal.τ).loc Cert.RChippartIdeal.main_arg1) = m ((c.tc : Thread Cert.RChippartIdeal.nD Cert.RChippartIdeal.τ).loc Cert.RChippartIdeal.main_arg1)
      ∧ r.2.mem ((c.tc : Thread Cert.RChippartIdeal.nD Cert.RChippartIdeal.τ).loc Cert.RChippartIdeal.main_arg2) = m ((c.tc : Thread Cert.RChippartIdeal.nD Cert.RChippartIdeal.τ).loc Cert.RChippartIdeal.main_arg2))
      ∧ r.2.sem = fun _ => 0)

def quiescent_KSmall [hKSmall : Cert.KSmall.Facts] : Prop :=
  ∀ (m : (ℓ : Loc Cert.KSmall.nD Cert.KSmall.τ Cert.KSmall.sig) → Buf (Elt Bits) ℓ) (g : Dev Cert.KSmall.nD → PrngReg), Pre_KSmall m →
    θ_run (Cert.KSmall.defs (F := Bits)) (onTc (τ := Cert.KSmall.τ) (Cert.KSmall.main (F := Bits))) ⟨m, fun _ => 0, g⟩ (fun r => (∀ c : Dev Cert.KSmall.nD,
      r.2.mem ((c.tc : Thread Cert.KSmall.nD Cert.KSmall.τ).loc Cert.KSmall.main_arg0) = m ((c.tc : Thread Cert.KSmall.nD Cert.KSmall.τ).loc Cert.KSmall.main_arg0)
      ∧ r.2.mem ((c.tc : Thread Cert.KSmall.nD Cert.KSmall.τ).loc Cert.KSmall.main_arg1) = m ((c.tc : Thread Cert.KSmall.nD Cert.KSmall.τ).loc Cert.KSmall.main_arg1)
      ∧ r.2.mem ((c.tc : Thread Cert.KSmall.nD Cert.KSmall.τ).loc Cert.KSmall.main_arg2) = m ((c.tc : Thread Cert.KSmall.nD Cert.KSmall.τ).loc Cert.KSmall.main_arg2)
      ∧ r.2.mem ((c.tc : Thread Cert.KSmall.nD Cert.KSmall.τ).loc Cert.KSmall.main_arg3) = m ((c.tc : Thread Cert.KSmall.nD Cert.KSmall.τ).loc Cert.KSmall.main_arg3)
      ∧ r.2.mem ((c.tc : Thread Cert.KSmall.nD Cert.KSmall.τ).loc Cert.KSmall.main_arg4) = m ((c.tc : Thread Cert.KSmall.nD Cert.KSmall.τ).loc Cert.KSmall.main_arg4)
      ∧ r.2.mem ((c.tc : Thread Cert.KSmall.nD Cert.KSmall.τ).loc Cert.KSmall.main_arg5) = m ((c.tc : Thread Cert.KSmall.nD Cert.KSmall.τ).loc Cert.KSmall.main_arg5)
      ∧ r.2.mem ((c.tc : Thread Cert.KSmall.nD Cert.KSmall.τ).loc Cert.KSmall.main_arg6) = m ((c.tc : Thread Cert.KSmall.nD Cert.KSmall.τ).loc Cert.KSmall.main_arg6)
      ∧ r.2.mem ((c.tc : Thread Cert.KSmall.nD Cert.KSmall.τ).loc Cert.KSmall.main_arg7) = m ((c.tc : Thread Cert.KSmall.nD Cert.KSmall.τ).loc Cert.KSmall.main_arg7)
      ∧ r.2.mem ((c.tc : Thread Cert.KSmall.nD Cert.KSmall.τ).loc Cert.KSmall.main_arg8) = m ((c.tc : Thread Cert.KSmall.nD Cert.KSmall.τ).loc Cert.KSmall.main_arg8)
      ∧ r.2.mem ((c.tc : Thread Cert.KSmall.nD Cert.KSmall.τ).loc Cert.KSmall.main_arg9) = m ((c.tc : Thread Cert.KSmall.nD Cert.KSmall.τ).loc Cert.KSmall.main_arg9)
      ∧ r.2.mem ((c.tc : Thread Cert.KSmall.nD Cert.KSmall.τ).loc Cert.KSmall.main_arg10) = m ((c.tc : Thread Cert.KSmall.nD Cert.KSmall.τ).loc Cert.KSmall.main_arg10)
      ∧ r.2.mem ((c.tc : Thread Cert.KSmall.nD Cert.KSmall.τ).loc Cert.KSmall.main_arg11) = m ((c.tc : Thread Cert.KSmall.nD Cert.KSmall.τ).loc Cert.KSmall.main_arg11)
      ∧ r.2.mem ((c.tc : Thread Cert.KSmall.nD Cert.KSmall.τ).loc Cert.KSmall.main_arg12) = m ((c.tc : Thread Cert.KSmall.nD Cert.KSmall.τ).loc Cert.KSmall.main_arg12)
      ∧ r.2.mem ((c.tc : Thread Cert.KSmall.nD Cert.KSmall.τ).loc Cert.KSmall.main_arg13) = m ((c.tc : Thread Cert.KSmall.nD Cert.KSmall.τ).loc Cert.KSmall.main_arg13)
      ∧ r.2.mem ((c.tc : Thread Cert.KSmall.nD Cert.KSmall.τ).loc Cert.KSmall.main_arg14) = m ((c.tc : Thread Cert.KSmall.nD Cert.KSmall.τ).loc Cert.KSmall.main_arg14)
      ∧ r.2.mem ((c.tc : Thread Cert.KSmall.nD Cert.KSmall.τ).loc Cert.KSmall.main_arg15) = m ((c.tc : Thread Cert.KSmall.nD Cert.KSmall.τ).loc Cert.KSmall.main_arg15)
      ∧ r.2.mem ((c.tc : Thread Cert.KSmall.nD Cert.KSmall.τ).loc Cert.KSmall.main_arg16) = m ((c.tc : Thread Cert.KSmall.nD Cert.KSmall.τ).loc Cert.KSmall.main_arg16)
      ∧ r.2.mem ((c.tc : Thread Cert.KSmall.nD Cert.KSmall.τ).loc Cert.KSmall.main_arg17) = m ((c.tc : Thread Cert.KSmall.nD Cert.KSmall.τ).loc Cert.KSmall.main_arg17)
      ∧ r.2.mem ((c.tc : Thread Cert.KSmall.nD Cert.KSmall.τ).loc Cert.KSmall.main_arg18) = m ((c.tc : Thread Cert.KSmall.nD Cert.KSmall.τ).loc Cert.KSmall.main_arg18)
      ∧ r.2.mem ((c.tc : Thread Cert.KSmall.nD Cert.KSmall.τ).loc Cert.KSmall.main_arg19) = m ((c.tc : Thread Cert.KSmall.nD Cert.KSmall.τ).loc Cert.KSmall.main_arg19)
      ∧ r.2.mem ((c.tc : Thread Cert.KSmall.nD Cert.KSmall.τ).loc Cert.KSmall.main_arg20) = m ((c.tc : Thread Cert.KSmall.nD Cert.KSmall.τ).loc Cert.KSmall.main_arg20)
      ∧ r.2.mem ((c.tc : Thread Cert.KSmall.nD Cert.KSmall.τ).loc Cert.KSmall.main_arg21) = m ((c.tc : Thread Cert.KSmall.nD Cert.KSmall.τ).loc Cert.KSmall.main_arg21)
      ∧ r.2.mem ((c.tc : Thread Cert.KSmall.nD Cert.KSmall.τ).loc Cert.KSmall.main_arg22) = m ((c.tc : Thread Cert.KSmall.nD Cert.KSmall.τ).loc Cert.KSmall.main_arg22)
      ∧ r.2.mem ((c.tc : Thread Cert.KSmall.nD Cert.KSmall.τ).loc Cert.KSmall.main_arg23) = m ((c.tc : Thread Cert.KSmall.nD Cert.KSmall.τ).loc Cert.KSmall.main_arg23)
      ∧ r.2.mem ((c.tc : Thread Cert.KSmall.nD Cert.KSmall.τ).loc Cert.KSmall.main_arg24) = m ((c.tc : Thread Cert.KSmall.nD Cert.KSmall.τ).loc Cert.KSmall.main_arg24)
      ∧ r.2.mem ((c.tc : Thread Cert.KSmall.nD Cert.KSmall.τ).loc Cert.KSmall.main_arg25) = m ((c.tc : Thread Cert.KSmall.nD Cert.KSmall.τ).loc Cert.KSmall.main_arg25)
      ∧ r.2.mem ((c.tc : Thread Cert.KSmall.nD Cert.KSmall.τ).loc Cert.KSmall.main_arg26) = m ((c.tc : Thread Cert.KSmall.nD Cert.KSmall.τ).loc Cert.KSmall.main_arg26)
      ∧ r.2.mem ((c.tc : Thread Cert.KSmall.nD Cert.KSmall.τ).loc Cert.KSmall.main_arg27) = m ((c.tc : Thread Cert.KSmall.nD Cert.KSmall.τ).loc Cert.KSmall.main_arg27)
      ∧ r.2.mem ((c.tc : Thread Cert.KSmall.nD Cert.KSmall.τ).loc Cert.KSmall.main_arg28) = m ((c.tc : Thread Cert.KSmall.nD Cert.KSmall.τ).loc Cert.KSmall.main_arg28)
      ∧ r.2.mem ((c.tc : Thread Cert.KSmall.nD Cert.KSmall.τ).loc Cert.KSmall.main_arg29) = m ((c.tc : Thread Cert.KSmall.nD Cert.KSmall.τ).loc Cert.KSmall.main_arg29)
      ∧ r.2.mem ((c.tc : Thread Cert.KSmall.nD Cert.KSmall.τ).loc Cert.KSmall.main_arg30) = m ((c.tc : Thread Cert.KSmall.nD Cert.KSmall.τ).loc Cert.KSmall.main_arg30)
      ∧ r.2.mem ((c.tc : Thread Cert.KSmall.nD Cert.KSmall.τ).loc Cert.KSmall.main_arg31) = m ((c.tc : Thread Cert.KSmall.nD Cert.KSmall.τ).loc Cert.KSmall.main_arg31)
      ∧ r.2.mem ((c.tc : Thread Cert.KSmall.nD Cert.KSmall.τ).loc Cert.KSmall.main_arg32) = m ((c.tc : Thread Cert.KSmall.nD Cert.KSmall.τ).loc Cert.KSmall.main_arg32)
      ∧ r.2.mem ((c.tc : Thread Cert.KSmall.nD Cert.KSmall.τ).loc Cert.KSmall.main_arg33) = m ((c.tc : Thread Cert.KSmall.nD Cert.KSmall.τ).loc Cert.KSmall.main_arg33)
      ∧ r.2.mem ((c.tc : Thread Cert.KSmall.nD Cert.KSmall.τ).loc Cert.KSmall.main_arg34) = m ((c.tc : Thread Cert.KSmall.nD Cert.KSmall.τ).loc Cert.KSmall.main_arg34)
      ∧ r.2.mem ((c.tc : Thread Cert.KSmall.nD Cert.KSmall.τ).loc Cert.KSmall.main_arg35) = m ((c.tc : Thread Cert.KSmall.nD Cert.KSmall.τ).loc Cert.KSmall.main_arg35)
      ∧ r.2.mem ((c.tc : Thread Cert.KSmall.nD Cert.KSmall.τ).loc Cert.KSmall.main_arg36) = m ((c.tc : Thread Cert.KSmall.nD Cert.KSmall.τ).loc Cert.KSmall.main_arg36)
      ∧ r.2.mem ((c.tc : Thread Cert.KSmall.nD Cert.KSmall.τ).loc Cert.KSmall.main_arg37) = m ((c.tc : Thread Cert.KSmall.nD Cert.KSmall.τ).loc Cert.KSmall.main_arg37)
      ∧ r.2.mem ((c.tc : Thread Cert.KSmall.nD Cert.KSmall.τ).loc Cert.KSmall.main_arg38) = m ((c.tc : Thread Cert.KSmall.nD Cert.KSmall.τ).loc Cert.KSmall.main_arg38)
      ∧ r.2.mem ((c.tc : Thread Cert.KSmall.nD Cert.KSmall.τ).loc Cert.KSmall.main_arg39) = m ((c.tc : Thread Cert.KSmall.nD Cert.KSmall.τ).loc Cert.KSmall.main_arg39)
      ∧ r.2.mem ((c.tc : Thread Cert.KSmall.nD Cert.KSmall.τ).loc Cert.KSmall.main_arg40) = m ((c.tc : Thread Cert.KSmall.nD Cert.KSmall.τ).loc Cert.KSmall.main_arg40)
      ∧ r.2.mem ((c.tc : Thread Cert.KSmall.nD Cert.KSmall.τ).loc Cert.KSmall.main_arg41) = m ((c.tc : Thread Cert.KSmall.nD Cert.KSmall.τ).loc Cert.KSmall.main_arg41)
      ∧ r.2.mem ((c.tc : Thread Cert.KSmall.nD Cert.KSmall.τ).loc Cert.KSmall.main_arg42) = m ((c.tc : Thread Cert.KSmall.nD Cert.KSmall.τ).loc Cert.KSmall.main_arg42)
      ∧ r.2.mem ((c.tc : Thread Cert.KSmall.nD Cert.KSmall.τ).loc Cert.KSmall.main_arg43) = m ((c.tc : Thread Cert.KSmall.nD Cert.KSmall.τ).loc Cert.KSmall.main_arg43))
      ∧ r.2.sem = fun _ => 0)

def quiescent_KSmallIdeal [hKSmallIdeal : Cert.KSmallIdeal.Facts] : Prop :=
  ∀ (m : (ℓ : Loc Cert.KSmallIdeal.nD Cert.KSmallIdeal.τ Cert.KSmallIdeal.sig) → Buf (Elt Ideal) ℓ) (g : Dev Cert.KSmallIdeal.nD → PrngReg), Pre_KSmallIdeal m →
    θ_run (Cert.KSmallIdeal.defs (F := Ideal)) (onTc (τ := Cert.KSmallIdeal.τ) (Cert.KSmallIdeal.main (F := Ideal))) ⟨m, fun _ => 0, g⟩ (fun r => (∀ c : Dev Cert.KSmallIdeal.nD,
      r.2.mem ((c.tc : Thread Cert.KSmallIdeal.nD Cert.KSmallIdeal.τ).loc Cert.KSmallIdeal.main_arg0) = m ((c.tc : Thread Cert.KSmallIdeal.nD Cert.KSmallIdeal.τ).loc Cert.KSmallIdeal.main_arg0)
      ∧ r.2.mem ((c.tc : Thread Cert.KSmallIdeal.nD Cert.KSmallIdeal.τ).loc Cert.KSmallIdeal.main_arg1) = m ((c.tc : Thread Cert.KSmallIdeal.nD Cert.KSmallIdeal.τ).loc Cert.KSmallIdeal.main_arg1)
      ∧ r.2.mem ((c.tc : Thread Cert.KSmallIdeal.nD Cert.KSmallIdeal.τ).loc Cert.KSmallIdeal.main_arg2) = m ((c.tc : Thread Cert.KSmallIdeal.nD Cert.KSmallIdeal.τ).loc Cert.KSmallIdeal.main_arg2)
      ∧ r.2.mem ((c.tc : Thread Cert.KSmallIdeal.nD Cert.KSmallIdeal.τ).loc Cert.KSmallIdeal.main_arg3) = m ((c.tc : Thread Cert.KSmallIdeal.nD Cert.KSmallIdeal.τ).loc Cert.KSmallIdeal.main_arg3)
      ∧ r.2.mem ((c.tc : Thread Cert.KSmallIdeal.nD Cert.KSmallIdeal.τ).loc Cert.KSmallIdeal.main_arg4) = m ((c.tc : Thread Cert.KSmallIdeal.nD Cert.KSmallIdeal.τ).loc Cert.KSmallIdeal.main_arg4)
      ∧ r.2.mem ((c.tc : Thread Cert.KSmallIdeal.nD Cert.KSmallIdeal.τ).loc Cert.KSmallIdeal.main_arg5) = m ((c.tc : Thread Cert.KSmallIdeal.nD Cert.KSmallIdeal.τ).loc Cert.KSmallIdeal.main_arg5)
      ∧ r.2.mem ((c.tc : Thread Cert.KSmallIdeal.nD Cert.KSmallIdeal.τ).loc Cert.KSmallIdeal.main_arg6) = m ((c.tc : Thread Cert.KSmallIdeal.nD Cert.KSmallIdeal.τ).loc Cert.KSmallIdeal.main_arg6)
      ∧ r.2.mem ((c.tc : Thread Cert.KSmallIdeal.nD Cert.KSmallIdeal.τ).loc Cert.KSmallIdeal.main_arg7) = m ((c.tc : Thread Cert.KSmallIdeal.nD Cert.KSmallIdeal.τ).loc Cert.KSmallIdeal.main_arg7)
      ∧ r.2.mem ((c.tc : Thread Cert.KSmallIdeal.nD Cert.KSmallIdeal.τ).loc Cert.KSmallIdeal.main_arg8) = m ((c.tc : Thread Cert.KSmallIdeal.nD Cert.KSmallIdeal.τ).loc Cert.KSmallIdeal.main_arg8)
      ∧ r.2.mem ((c.tc : Thread Cert.KSmallIdeal.nD Cert.KSmallIdeal.τ).loc Cert.KSmallIdeal.main_arg9) = m ((c.tc : Thread Cert.KSmallIdeal.nD Cert.KSmallIdeal.τ).loc Cert.KSmallIdeal.main_arg9)
      ∧ r.2.mem ((c.tc : Thread Cert.KSmallIdeal.nD Cert.KSmallIdeal.τ).loc Cert.KSmallIdeal.main_arg10) = m ((c.tc : Thread Cert.KSmallIdeal.nD Cert.KSmallIdeal.τ).loc Cert.KSmallIdeal.main_arg10)
      ∧ r.2.mem ((c.tc : Thread Cert.KSmallIdeal.nD Cert.KSmallIdeal.τ).loc Cert.KSmallIdeal.main_arg11) = m ((c.tc : Thread Cert.KSmallIdeal.nD Cert.KSmallIdeal.τ).loc Cert.KSmallIdeal.main_arg11)
      ∧ r.2.mem ((c.tc : Thread Cert.KSmallIdeal.nD Cert.KSmallIdeal.τ).loc Cert.KSmallIdeal.main_arg12) = m ((c.tc : Thread Cert.KSmallIdeal.nD Cert.KSmallIdeal.τ).loc Cert.KSmallIdeal.main_arg12)
      ∧ r.2.mem ((c.tc : Thread Cert.KSmallIdeal.nD Cert.KSmallIdeal.τ).loc Cert.KSmallIdeal.main_arg13) = m ((c.tc : Thread Cert.KSmallIdeal.nD Cert.KSmallIdeal.τ).loc Cert.KSmallIdeal.main_arg13)
      ∧ r.2.mem ((c.tc : Thread Cert.KSmallIdeal.nD Cert.KSmallIdeal.τ).loc Cert.KSmallIdeal.main_arg14) = m ((c.tc : Thread Cert.KSmallIdeal.nD Cert.KSmallIdeal.τ).loc Cert.KSmallIdeal.main_arg14)
      ∧ r.2.mem ((c.tc : Thread Cert.KSmallIdeal.nD Cert.KSmallIdeal.τ).loc Cert.KSmallIdeal.main_arg15) = m ((c.tc : Thread Cert.KSmallIdeal.nD Cert.KSmallIdeal.τ).loc Cert.KSmallIdeal.main_arg15)
      ∧ r.2.mem ((c.tc : Thread Cert.KSmallIdeal.nD Cert.KSmallIdeal.τ).loc Cert.KSmallIdeal.main_arg16) = m ((c.tc : Thread Cert.KSmallIdeal.nD Cert.KSmallIdeal.τ).loc Cert.KSmallIdeal.main_arg16)
      ∧ r.2.mem ((c.tc : Thread Cert.KSmallIdeal.nD Cert.KSmallIdeal.τ).loc Cert.KSmallIdeal.main_arg17) = m ((c.tc : Thread Cert.KSmallIdeal.nD Cert.KSmallIdeal.τ).loc Cert.KSmallIdeal.main_arg17)
      ∧ r.2.mem ((c.tc : Thread Cert.KSmallIdeal.nD Cert.KSmallIdeal.τ).loc Cert.KSmallIdeal.main_arg18) = m ((c.tc : Thread Cert.KSmallIdeal.nD Cert.KSmallIdeal.τ).loc Cert.KSmallIdeal.main_arg18)
      ∧ r.2.mem ((c.tc : Thread Cert.KSmallIdeal.nD Cert.KSmallIdeal.τ).loc Cert.KSmallIdeal.main_arg19) = m ((c.tc : Thread Cert.KSmallIdeal.nD Cert.KSmallIdeal.τ).loc Cert.KSmallIdeal.main_arg19)
      ∧ r.2.mem ((c.tc : Thread Cert.KSmallIdeal.nD Cert.KSmallIdeal.τ).loc Cert.KSmallIdeal.main_arg20) = m ((c.tc : Thread Cert.KSmallIdeal.nD Cert.KSmallIdeal.τ).loc Cert.KSmallIdeal.main_arg20)
      ∧ r.2.mem ((c.tc : Thread Cert.KSmallIdeal.nD Cert.KSmallIdeal.τ).loc Cert.KSmallIdeal.main_arg21) = m ((c.tc : Thread Cert.KSmallIdeal.nD Cert.KSmallIdeal.τ).loc Cert.KSmallIdeal.main_arg21)
      ∧ r.2.mem ((c.tc : Thread Cert.KSmallIdeal.nD Cert.KSmallIdeal.τ).loc Cert.KSmallIdeal.main_arg22) = m ((c.tc : Thread Cert.KSmallIdeal.nD Cert.KSmallIdeal.τ).loc Cert.KSmallIdeal.main_arg22)
      ∧ r.2.mem ((c.tc : Thread Cert.KSmallIdeal.nD Cert.KSmallIdeal.τ).loc Cert.KSmallIdeal.main_arg23) = m ((c.tc : Thread Cert.KSmallIdeal.nD Cert.KSmallIdeal.τ).loc Cert.KSmallIdeal.main_arg23)
      ∧ r.2.mem ((c.tc : Thread Cert.KSmallIdeal.nD Cert.KSmallIdeal.τ).loc Cert.KSmallIdeal.main_arg24) = m ((c.tc : Thread Cert.KSmallIdeal.nD Cert.KSmallIdeal.τ).loc Cert.KSmallIdeal.main_arg24)
      ∧ r.2.mem ((c.tc : Thread Cert.KSmallIdeal.nD Cert.KSmallIdeal.τ).loc Cert.KSmallIdeal.main_arg25) = m ((c.tc : Thread Cert.KSmallIdeal.nD Cert.KSmallIdeal.τ).loc Cert.KSmallIdeal.main_arg25)
      ∧ r.2.mem ((c.tc : Thread Cert.KSmallIdeal.nD Cert.KSmallIdeal.τ).loc Cert.KSmallIdeal.main_arg26) = m ((c.tc : Thread Cert.KSmallIdeal.nD Cert.KSmallIdeal.τ).loc Cert.KSmallIdeal.main_arg26)
      ∧ r.2.mem ((c.tc : Thread Cert.KSmallIdeal.nD Cert.KSmallIdeal.τ).loc Cert.KSmallIdeal.main_arg27) = m ((c.tc : Thread Cert.KSmallIdeal.nD Cert.KSmallIdeal.τ).loc Cert.KSmallIdeal.main_arg27)
      ∧ r.2.mem ((c.tc : Thread Cert.KSmallIdeal.nD Cert.KSmallIdeal.τ).loc Cert.KSmallIdeal.main_arg28) = m ((c.tc : Thread Cert.KSmallIdeal.nD Cert.KSmallIdeal.τ).loc Cert.KSmallIdeal.main_arg28)
      ∧ r.2.mem ((c.tc : Thread Cert.KSmallIdeal.nD Cert.KSmallIdeal.τ).loc Cert.KSmallIdeal.main_arg29) = m ((c.tc : Thread Cert.KSmallIdeal.nD Cert.KSmallIdeal.τ).loc Cert.KSmallIdeal.main_arg29)
      ∧ r.2.mem ((c.tc : Thread Cert.KSmallIdeal.nD Cert.KSmallIdeal.τ).loc Cert.KSmallIdeal.main_arg30) = m ((c.tc : Thread Cert.KSmallIdeal.nD Cert.KSmallIdeal.τ).loc Cert.KSmallIdeal.main_arg30)
      ∧ r.2.mem ((c.tc : Thread Cert.KSmallIdeal.nD Cert.KSmallIdeal.τ).loc Cert.KSmallIdeal.main_arg31) = m ((c.tc : Thread Cert.KSmallIdeal.nD Cert.KSmallIdeal.τ).loc Cert.KSmallIdeal.main_arg31)
      ∧ r.2.mem ((c.tc : Thread Cert.KSmallIdeal.nD Cert.KSmallIdeal.τ).loc Cert.KSmallIdeal.main_arg32) = m ((c.tc : Thread Cert.KSmallIdeal.nD Cert.KSmallIdeal.τ).loc Cert.KSmallIdeal.main_arg32)
      ∧ r.2.mem ((c.tc : Thread Cert.KSmallIdeal.nD Cert.KSmallIdeal.τ).loc Cert.KSmallIdeal.main_arg33) = m ((c.tc : Thread Cert.KSmallIdeal.nD Cert.KSmallIdeal.τ).loc Cert.KSmallIdeal.main_arg33)
      ∧ r.2.mem ((c.tc : Thread Cert.KSmallIdeal.nD Cert.KSmallIdeal.τ).loc Cert.KSmallIdeal.main_arg34) = m ((c.tc : Thread Cert.KSmallIdeal.nD Cert.KSmallIdeal.τ).loc Cert.KSmallIdeal.main_arg34)
      ∧ r.2.mem ((c.tc : Thread Cert.KSmallIdeal.nD Cert.KSmallIdeal.τ).loc Cert.KSmallIdeal.main_arg35) = m ((c.tc : Thread Cert.KSmallIdeal.nD Cert.KSmallIdeal.τ).loc Cert.KSmallIdeal.main_arg35)
      ∧ r.2.mem ((c.tc : Thread Cert.KSmallIdeal.nD Cert.KSmallIdeal.τ).loc Cert.KSmallIdeal.main_arg36) = m ((c.tc : Thread Cert.KSmallIdeal.nD Cert.KSmallIdeal.τ).loc Cert.KSmallIdeal.main_arg36)
      ∧ r.2.mem ((c.tc : Thread Cert.KSmallIdeal.nD Cert.KSmallIdeal.τ).loc Cert.KSmallIdeal.main_arg37) = m ((c.tc : Thread Cert.KSmallIdeal.nD Cert.KSmallIdeal.τ).loc Cert.KSmallIdeal.main_arg37)
      ∧ r.2.mem ((c.tc : Thread Cert.KSmallIdeal.nD Cert.KSmallIdeal.τ).loc Cert.KSmallIdeal.main_arg38) = m ((c.tc : Thread Cert.KSmallIdeal.nD Cert.KSmallIdeal.τ).loc Cert.KSmallIdeal.main_arg38)
      ∧ r.2.mem ((c.tc : Thread Cert.KSmallIdeal.nD Cert.KSmallIdeal.τ).loc Cert.KSmallIdeal.main_arg39) = m ((c.tc : Thread Cert.KSmallIdeal.nD Cert.KSmallIdeal.τ).loc Cert.KSmallIdeal.main_arg39)
      ∧ r.2.mem ((c.tc : Thread Cert.KSmallIdeal.nD Cert.KSmallIdeal.τ).loc Cert.KSmallIdeal.main_arg40) = m ((c.tc : Thread Cert.KSmallIdeal.nD Cert.KSmallIdeal.τ).loc Cert.KSmallIdeal.main_arg40)
      ∧ r.2.mem ((c.tc : Thread Cert.KSmallIdeal.nD Cert.KSmallIdeal.τ).loc Cert.KSmallIdeal.main_arg41) = m ((c.tc : Thread Cert.KSmallIdeal.nD Cert.KSmallIdeal.τ).loc Cert.KSmallIdeal.main_arg41)
      ∧ r.2.mem ((c.tc : Thread Cert.KSmallIdeal.nD Cert.KSmallIdeal.τ).loc Cert.KSmallIdeal.main_arg42) = m ((c.tc : Thread Cert.KSmallIdeal.nD Cert.KSmallIdeal.τ).loc Cert.KSmallIdeal.main_arg42)
      ∧ r.2.mem ((c.tc : Thread Cert.KSmallIdeal.nD Cert.KSmallIdeal.τ).loc Cert.KSmallIdeal.main_arg43) = m ((c.tc : Thread Cert.KSmallIdeal.nD Cert.KSmallIdeal.τ).loc Cert.KSmallIdeal.main_arg43))
      ∧ r.2.sem = fun _ => 0)

def quiescent_RSmallIdeal [hRSmallIdeal : Cert.RSmallIdeal.Facts] : Prop :=
  ∀ (m : (ℓ : Loc Cert.RSmallIdeal.nD Cert.RSmallIdeal.τ Cert.RSmallIdeal.sig) → Buf (Elt Ideal) ℓ) (g : Dev Cert.RSmallIdeal.nD → PrngReg), Pre_RSmallIdeal m →
    θ_run (Cert.RSmallIdeal.defs (F := Ideal)) (onTc (τ := Cert.RSmallIdeal.τ) (Cert.RSmallIdeal.main (F := Ideal))) ⟨m, fun _ => 0, g⟩ (fun r => (∀ c : Dev Cert.RSmallIdeal.nD,
      r.2.mem ((c.tc : Thread Cert.RSmallIdeal.nD Cert.RSmallIdeal.τ).loc Cert.RSmallIdeal.main_arg0) = m ((c.tc : Thread Cert.RSmallIdeal.nD Cert.RSmallIdeal.τ).loc Cert.RSmallIdeal.main_arg0)
      ∧ r.2.mem ((c.tc : Thread Cert.RSmallIdeal.nD Cert.RSmallIdeal.τ).loc Cert.RSmallIdeal.main_arg1) = m ((c.tc : Thread Cert.RSmallIdeal.nD Cert.RSmallIdeal.τ).loc Cert.RSmallIdeal.main_arg1)
      ∧ r.2.mem ((c.tc : Thread Cert.RSmallIdeal.nD Cert.RSmallIdeal.τ).loc Cert.RSmallIdeal.main_arg2) = m ((c.tc : Thread Cert.RSmallIdeal.nD Cert.RSmallIdeal.τ).loc Cert.RSmallIdeal.main_arg2)
      ∧ r.2.mem ((c.tc : Thread Cert.RSmallIdeal.nD Cert.RSmallIdeal.τ).loc Cert.RSmallIdeal.main_arg3) = m ((c.tc : Thread Cert.RSmallIdeal.nD Cert.RSmallIdeal.τ).loc Cert.RSmallIdeal.main_arg3)
      ∧ r.2.mem ((c.tc : Thread Cert.RSmallIdeal.nD Cert.RSmallIdeal.τ).loc Cert.RSmallIdeal.main_arg4) = m ((c.tc : Thread Cert.RSmallIdeal.nD Cert.RSmallIdeal.τ).loc Cert.RSmallIdeal.main_arg4)
      ∧ r.2.mem ((c.tc : Thread Cert.RSmallIdeal.nD Cert.RSmallIdeal.τ).loc Cert.RSmallIdeal.main_arg5) = m ((c.tc : Thread Cert.RSmallIdeal.nD Cert.RSmallIdeal.τ).loc Cert.RSmallIdeal.main_arg5)
      ∧ r.2.mem ((c.tc : Thread Cert.RSmallIdeal.nD Cert.RSmallIdeal.τ).loc Cert.RSmallIdeal.main_arg6) = m ((c.tc : Thread Cert.RSmallIdeal.nD Cert.RSmallIdeal.τ).loc Cert.RSmallIdeal.main_arg6)
      ∧ r.2.mem ((c.tc : Thread Cert.RSmallIdeal.nD Cert.RSmallIdeal.τ).loc Cert.RSmallIdeal.main_arg7) = m ((c.tc : Thread Cert.RSmallIdeal.nD Cert.RSmallIdeal.τ).loc Cert.RSmallIdeal.main_arg7)
      ∧ r.2.mem ((c.tc : Thread Cert.RSmallIdeal.nD Cert.RSmallIdeal.τ).loc Cert.RSmallIdeal.main_arg8) = m ((c.tc : Thread Cert.RSmallIdeal.nD Cert.RSmallIdeal.τ).loc Cert.RSmallIdeal.main_arg8)
      ∧ r.2.mem ((c.tc : Thread Cert.RSmallIdeal.nD Cert.RSmallIdeal.τ).loc Cert.RSmallIdeal.main_arg9) = m ((c.tc : Thread Cert.RSmallIdeal.nD Cert.RSmallIdeal.τ).loc Cert.RSmallIdeal.main_arg9)
      ∧ r.2.mem ((c.tc : Thread Cert.RSmallIdeal.nD Cert.RSmallIdeal.τ).loc Cert.RSmallIdeal.main_arg10) = m ((c.tc : Thread Cert.RSmallIdeal.nD Cert.RSmallIdeal.τ).loc Cert.RSmallIdeal.main_arg10)
      ∧ r.2.mem ((c.tc : Thread Cert.RSmallIdeal.nD Cert.RSmallIdeal.τ).loc Cert.RSmallIdeal.main_arg11) = m ((c.tc : Thread Cert.RSmallIdeal.nD Cert.RSmallIdeal.τ).loc Cert.RSmallIdeal.main_arg11)
      ∧ r.2.mem ((c.tc : Thread Cert.RSmallIdeal.nD Cert.RSmallIdeal.τ).loc Cert.RSmallIdeal.main_arg12) = m ((c.tc : Thread Cert.RSmallIdeal.nD Cert.RSmallIdeal.τ).loc Cert.RSmallIdeal.main_arg12)
      ∧ r.2.mem ((c.tc : Thread Cert.RSmallIdeal.nD Cert.RSmallIdeal.τ).loc Cert.RSmallIdeal.main_arg13) = m ((c.tc : Thread Cert.RSmallIdeal.nD Cert.RSmallIdeal.τ).loc Cert.RSmallIdeal.main_arg13)
      ∧ r.2.mem ((c.tc : Thread Cert.RSmallIdeal.nD Cert.RSmallIdeal.τ).loc Cert.RSmallIdeal.main_arg14) = m ((c.tc : Thread Cert.RSmallIdeal.nD Cert.RSmallIdeal.τ).loc Cert.RSmallIdeal.main_arg14)
      ∧ r.2.mem ((c.tc : Thread Cert.RSmallIdeal.nD Cert.RSmallIdeal.τ).loc Cert.RSmallIdeal.main_arg15) = m ((c.tc : Thread Cert.RSmallIdeal.nD Cert.RSmallIdeal.τ).loc Cert.RSmallIdeal.main_arg15)
      ∧ r.2.mem ((c.tc : Thread Cert.RSmallIdeal.nD Cert.RSmallIdeal.τ).loc Cert.RSmallIdeal.main_arg16) = m ((c.tc : Thread Cert.RSmallIdeal.nD Cert.RSmallIdeal.τ).loc Cert.RSmallIdeal.main_arg16)
      ∧ r.2.mem ((c.tc : Thread Cert.RSmallIdeal.nD Cert.RSmallIdeal.τ).loc Cert.RSmallIdeal.main_arg17) = m ((c.tc : Thread Cert.RSmallIdeal.nD Cert.RSmallIdeal.τ).loc Cert.RSmallIdeal.main_arg17)
      ∧ r.2.mem ((c.tc : Thread Cert.RSmallIdeal.nD Cert.RSmallIdeal.τ).loc Cert.RSmallIdeal.main_arg18) = m ((c.tc : Thread Cert.RSmallIdeal.nD Cert.RSmallIdeal.τ).loc Cert.RSmallIdeal.main_arg18)
      ∧ r.2.mem ((c.tc : Thread Cert.RSmallIdeal.nD Cert.RSmallIdeal.τ).loc Cert.RSmallIdeal.main_arg19) = m ((c.tc : Thread Cert.RSmallIdeal.nD Cert.RSmallIdeal.τ).loc Cert.RSmallIdeal.main_arg19)
      ∧ r.2.mem ((c.tc : Thread Cert.RSmallIdeal.nD Cert.RSmallIdeal.τ).loc Cert.RSmallIdeal.main_arg20) = m ((c.tc : Thread Cert.RSmallIdeal.nD Cert.RSmallIdeal.τ).loc Cert.RSmallIdeal.main_arg20)
      ∧ r.2.mem ((c.tc : Thread Cert.RSmallIdeal.nD Cert.RSmallIdeal.τ).loc Cert.RSmallIdeal.main_arg21) = m ((c.tc : Thread Cert.RSmallIdeal.nD Cert.RSmallIdeal.τ).loc Cert.RSmallIdeal.main_arg21)
      ∧ r.2.mem ((c.tc : Thread Cert.RSmallIdeal.nD Cert.RSmallIdeal.τ).loc Cert.RSmallIdeal.main_arg22) = m ((c.tc : Thread Cert.RSmallIdeal.nD Cert.RSmallIdeal.τ).loc Cert.RSmallIdeal.main_arg22)
      ∧ r.2.mem ((c.tc : Thread Cert.RSmallIdeal.nD Cert.RSmallIdeal.τ).loc Cert.RSmallIdeal.main_arg23) = m ((c.tc : Thread Cert.RSmallIdeal.nD Cert.RSmallIdeal.τ).loc Cert.RSmallIdeal.main_arg23)
      ∧ r.2.mem ((c.tc : Thread Cert.RSmallIdeal.nD Cert.RSmallIdeal.τ).loc Cert.RSmallIdeal.main_arg24) = m ((c.tc : Thread Cert.RSmallIdeal.nD Cert.RSmallIdeal.τ).loc Cert.RSmallIdeal.main_arg24)
      ∧ r.2.mem ((c.tc : Thread Cert.RSmallIdeal.nD Cert.RSmallIdeal.τ).loc Cert.RSmallIdeal.main_arg25) = m ((c.tc : Thread Cert.RSmallIdeal.nD Cert.RSmallIdeal.τ).loc Cert.RSmallIdeal.main_arg25)
      ∧ r.2.mem ((c.tc : Thread Cert.RSmallIdeal.nD Cert.RSmallIdeal.τ).loc Cert.RSmallIdeal.main_arg26) = m ((c.tc : Thread Cert.RSmallIdeal.nD Cert.RSmallIdeal.τ).loc Cert.RSmallIdeal.main_arg26)
      ∧ r.2.mem ((c.tc : Thread Cert.RSmallIdeal.nD Cert.RSmallIdeal.τ).loc Cert.RSmallIdeal.main_arg27) = m ((c.tc : Thread Cert.RSmallIdeal.nD Cert.RSmallIdeal.τ).loc Cert.RSmallIdeal.main_arg27)
      ∧ r.2.mem ((c.tc : Thread Cert.RSmallIdeal.nD Cert.RSmallIdeal.τ).loc Cert.RSmallIdeal.main_arg28) = m ((c.tc : Thread Cert.RSmallIdeal.nD Cert.RSmallIdeal.τ).loc Cert.RSmallIdeal.main_arg28)
      ∧ r.2.mem ((c.tc : Thread Cert.RSmallIdeal.nD Cert.RSmallIdeal.τ).loc Cert.RSmallIdeal.main_arg29) = m ((c.tc : Thread Cert.RSmallIdeal.nD Cert.RSmallIdeal.τ).loc Cert.RSmallIdeal.main_arg29)
      ∧ r.2.mem ((c.tc : Thread Cert.RSmallIdeal.nD Cert.RSmallIdeal.τ).loc Cert.RSmallIdeal.main_arg30) = m ((c.tc : Thread Cert.RSmallIdeal.nD Cert.RSmallIdeal.τ).loc Cert.RSmallIdeal.main_arg30)
      ∧ r.2.mem ((c.tc : Thread Cert.RSmallIdeal.nD Cert.RSmallIdeal.τ).loc Cert.RSmallIdeal.main_arg31) = m ((c.tc : Thread Cert.RSmallIdeal.nD Cert.RSmallIdeal.τ).loc Cert.RSmallIdeal.main_arg31)
      ∧ r.2.mem ((c.tc : Thread Cert.RSmallIdeal.nD Cert.RSmallIdeal.τ).loc Cert.RSmallIdeal.main_arg32) = m ((c.tc : Thread Cert.RSmallIdeal.nD Cert.RSmallIdeal.τ).loc Cert.RSmallIdeal.main_arg32)
      ∧ r.2.mem ((c.tc : Thread Cert.RSmallIdeal.nD Cert.RSmallIdeal.τ).loc Cert.RSmallIdeal.main_arg33) = m ((c.tc : Thread Cert.RSmallIdeal.nD Cert.RSmallIdeal.τ).loc Cert.RSmallIdeal.main_arg33)
      ∧ r.2.mem ((c.tc : Thread Cert.RSmallIdeal.nD Cert.RSmallIdeal.τ).loc Cert.RSmallIdeal.main_arg34) = m ((c.tc : Thread Cert.RSmallIdeal.nD Cert.RSmallIdeal.τ).loc Cert.RSmallIdeal.main_arg34)
      ∧ r.2.mem ((c.tc : Thread Cert.RSmallIdeal.nD Cert.RSmallIdeal.τ).loc Cert.RSmallIdeal.main_arg35) = m ((c.tc : Thread Cert.RSmallIdeal.nD Cert.RSmallIdeal.τ).loc Cert.RSmallIdeal.main_arg35)
      ∧ r.2.mem ((c.tc : Thread Cert.RSmallIdeal.nD Cert.RSmallIdeal.τ).loc Cert.RSmallIdeal.main_arg36) = m ((c.tc : Thread Cert.RSmallIdeal.nD Cert.RSmallIdeal.τ).loc Cert.RSmallIdeal.main_arg36)
      ∧ r.2.mem ((c.tc : Thread Cert.RSmallIdeal.nD Cert.RSmallIdeal.τ).loc Cert.RSmallIdeal.main_arg37) = m ((c.tc : Thread Cert.RSmallIdeal.nD Cert.RSmallIdeal.τ).loc Cert.RSmallIdeal.main_arg37)
      ∧ r.2.mem ((c.tc : Thread Cert.RSmallIdeal.nD Cert.RSmallIdeal.τ).loc Cert.RSmallIdeal.main_arg38) = m ((c.tc : Thread Cert.RSmallIdeal.nD Cert.RSmallIdeal.τ).loc Cert.RSmallIdeal.main_arg38)
      ∧ r.2.mem ((c.tc : Thread Cert.RSmallIdeal.nD Cert.RSmallIdeal.τ).loc Cert.RSmallIdeal.main_arg39) = m ((c.tc : Thread Cert.RSmallIdeal.nD Cert.RSmallIdeal.τ).loc Cert.RSmallIdeal.main_arg39)
      ∧ r.2.mem ((c.tc : Thread Cert.RSmallIdeal.nD Cert.RSmallIdeal.τ).loc Cert.RSmallIdeal.main_arg40) = m ((c.tc : Thread Cert.RSmallIdeal.nD Cert.RSmallIdeal.τ).loc Cert.RSmallIdeal.main_arg40)
      ∧ r.2.mem ((c.tc : Thread Cert.RSmallIdeal.nD Cert.RSmallIdeal.τ).loc Cert.RSmallIdeal.main_arg41) = m ((c.tc : Thread Cert.RSmallIdeal.nD Cert.RSmallIdeal.τ).loc Cert.RSmallIdeal.main_arg41)
      ∧ r.2.mem ((c.tc : Thread Cert.RSmallIdeal.nD Cert.RSmallIdeal.τ).loc Cert.RSmallIdeal.main_arg42) = m ((c.tc : Thread Cert.RSmallIdeal.nD Cert.RSmallIdeal.τ).loc Cert.RSmallIdeal.main_arg42)
      ∧ r.2.mem ((c.tc : Thread Cert.RSmallIdeal.nD Cert.RSmallIdeal.τ).loc Cert.RSmallIdeal.main_arg43) = m ((c.tc : Thread Cert.RSmallIdeal.nD Cert.RSmallIdeal.τ).loc Cert.RSmallIdeal.main_arg43))
      ∧ r.2.sem = fun _ => 0)

def quiescent_KOwn [hKOwn : Cert.KOwn.Facts] [hPre_a_slice_and_a_core : Cert.Pre_a_slice_and_a_core.Facts] : Prop :=
  ∀ (m : (ℓ : Loc Cert.KOwn.nD Cert.KOwn.τ Cert.KOwn.sig) → Buf (Elt Bits) ℓ) (g : Dev Cert.KOwn.nD → PrngReg), Pre_KOwn m →
    θ_run (Cert.KOwn.defs (F := Bits)) (onTc (τ := Cert.KOwn.τ) (Cert.KOwn.main (F := Bits))) ⟨m, fun _ => 0, g⟩ (fun r => (∀ c : Dev Cert.KOwn.nD,
      r.2.mem ((c.tc : Thread Cert.KOwn.nD Cert.KOwn.τ).loc Cert.KOwn.main_arg0) = m ((c.tc : Thread Cert.KOwn.nD Cert.KOwn.τ).loc Cert.KOwn.main_arg0)
      ∧ r.2.mem ((c.tc : Thread Cert.KOwn.nD Cert.KOwn.τ).loc Cert.KOwn.main_arg1) = m ((c.tc : Thread Cert.KOwn.nD Cert.KOwn.τ).loc Cert.KOwn.main_arg1)
      ∧ r.2.mem ((c.tc : Thread Cert.KOwn.nD Cert.KOwn.τ).loc Cert.KOwn.main_arg2) = m ((c.tc : Thread Cert.KOwn.nD Cert.KOwn.τ).loc Cert.KOwn.main_arg2)
      ∧ r.2.mem ((c.tc : Thread Cert.KOwn.nD Cert.KOwn.τ).loc Cert.KOwn.main_arg3) = m ((c.tc : Thread Cert.KOwn.nD Cert.KOwn.τ).loc Cert.KOwn.main_arg3)
      ∧ r.2.mem ((c.tc : Thread Cert.KOwn.nD Cert.KOwn.τ).loc Cert.KOwn.main_arg4) = m ((c.tc : Thread Cert.KOwn.nD Cert.KOwn.τ).loc Cert.KOwn.main_arg4))
      ∧ r.2.sem = fun _ => 0)

def quiescent_KOwnIdeal [hKOwnIdeal : Cert.KOwnIdeal.Facts] [hPre_a_slice_and_a_core : Cert.Pre_a_slice_and_a_core.Facts] : Prop :=
  ∀ (m : (ℓ : Loc Cert.KOwnIdeal.nD Cert.KOwnIdeal.τ Cert.KOwnIdeal.sig) → Buf (Elt Ideal) ℓ) (g : Dev Cert.KOwnIdeal.nD → PrngReg), Pre_KOwnIdeal m →
    θ_run (Cert.KOwnIdeal.defs (F := Ideal)) (onTc (τ := Cert.KOwnIdeal.τ) (Cert.KOwnIdeal.main (F := Ideal))) ⟨m, fun _ => 0, g⟩ (fun r => (∀ c : Dev Cert.KOwnIdeal.nD,
      r.2.mem ((c.tc : Thread Cert.KOwnIdeal.nD Cert.KOwnIdeal.τ).loc Cert.KOwnIdeal.main_arg0) = m ((c.tc : Thread Cert.KOwnIdeal.nD Cert.KOwnIdeal.τ).loc Cert.KOwnIdeal.main_arg0)
      ∧ r.2.mem ((c.tc : Thread Cert.KOwnIdeal.nD Cert.KOwnIdeal.τ).loc Cert.KOwnIdeal.main_arg1) = m ((c.tc : Thread Cert.KOwnIdeal.nD Cert.KOwnIdeal.τ).loc Cert.KOwnIdeal.main_arg1)
      ∧ r.2.mem ((c.tc : Thread Cert.KOwnIdeal.nD Cert.KOwnIdeal.τ).loc Cert.KOwnIdeal.main_arg2) = m ((c.tc : Thread Cert.KOwnIdeal.nD Cert.KOwnIdeal.τ).loc Cert.KOwnIdeal.main_arg2)
      ∧ r.2.mem ((c.tc : Thread Cert.KOwnIdeal.nD Cert.KOwnIdeal.τ).loc Cert.KOwnIdeal.main_arg3) = m ((c.tc : Thread Cert.KOwnIdeal.nD Cert.KOwnIdeal.τ).loc Cert.KOwnIdeal.main_arg3)
      ∧ r.2.mem ((c.tc : Thread Cert.KOwnIdeal.nD Cert.KOwnIdeal.τ).loc Cert.KOwnIdeal.main_arg4) = m ((c.tc : Thread Cert.KOwnIdeal.nD Cert.KOwnIdeal.τ).loc Cert.KOwnIdeal.main_arg4))
      ∧ r.2.sem = fun _ => 0)

def quiescent_ROwnIdeal [hROwnIdeal : Cert.ROwnIdeal.Facts] [hPre_a_slice_and_a_core : Cert.Pre_a_slice_and_a_core.Facts] : Prop :=
  ∀ (m : (ℓ : Loc Cert.ROwnIdeal.nD Cert.ROwnIdeal.τ Cert.ROwnIdeal.sig) → Buf (Elt Ideal) ℓ) (g : Dev Cert.ROwnIdeal.nD → PrngReg), Pre_ROwnIdeal m →
    θ_run (Cert.ROwnIdeal.defs (F := Ideal)) (onTc (τ := Cert.ROwnIdeal.τ) (Cert.ROwnIdeal.main (F := Ideal))) ⟨m, fun _ => 0, g⟩ (fun r => (∀ c : Dev Cert.ROwnIdeal.nD,
      r.2.mem ((c.tc : Thread Cert.ROwnIdeal.nD Cert.ROwnIdeal.τ).loc Cert.ROwnIdeal.main_arg0) = m ((c.tc : Thread Cert.ROwnIdeal.nD Cert.ROwnIdeal.τ).loc Cert.ROwnIdeal.main_arg0)
      ∧ r.2.mem ((c.tc : Thread Cert.ROwnIdeal.nD Cert.ROwnIdeal.τ).loc Cert.ROwnIdeal.main_arg1) = m ((c.tc : Thread Cert.ROwnIdeal.nD Cert.ROwnIdeal.τ).loc Cert.ROwnIdeal.main_arg1)
      ∧ r.2.mem ((c.tc : Thread Cert.ROwnIdeal.nD Cert.ROwnIdeal.τ).loc Cert.ROwnIdeal.main_arg2) = m ((c.tc : Thread Cert.ROwnIdeal.nD Cert.ROwnIdeal.τ).loc Cert.ROwnIdeal.main_arg2)
      ∧ r.2.mem ((c.tc : Thread Cert.ROwnIdeal.nD Cert.ROwnIdeal.τ).loc Cert.ROwnIdeal.main_arg3) = m ((c.tc : Thread Cert.ROwnIdeal.nD Cert.ROwnIdeal.τ).loc Cert.ROwnIdeal.main_arg3)
      ∧ r.2.mem ((c.tc : Thread Cert.ROwnIdeal.nD Cert.ROwnIdeal.τ).loc Cert.ROwnIdeal.main_arg4) = m ((c.tc : Thread Cert.ROwnIdeal.nD Cert.ROwnIdeal.τ).loc Cert.ROwnIdeal.main_arg4))
      ∧ r.2.sem = fun _ => 0)

def preserves_KPost_KPostIdeal : Prop :=
  True

def algebraic_KPostIdeal_RPostIdeal_pre_finite_post [hKPostIdeal : Cert.KPostIdeal.Facts] [hRPostIdeal : Cert.RPostIdeal.Facts] [hPre_finite_post : Cert.Pre_finite_post.Facts] : Prop :=
  ∀ (m : (ℓ : Loc Cert.KPostIdeal.nD Cert.KPostIdeal.τ Cert.KPostIdeal.sig) → Buf (Elt Ideal) ℓ) (g : Dev Cert.KPostIdeal.nD → PrngReg)
    (m' : (ℓ : Loc Cert.RPostIdeal.nD Cert.RPostIdeal.τ Cert.RPostIdeal.sig) → Buf (Elt Ideal) ℓ) (g' : Dev Cert.RPostIdeal.nD → PrngReg), Pre_KPostIdeal_finite_post m →
    (∀ c : Dev Cert.KPostIdeal.nD,
      m' ((c.tc : Thread Cert.RPostIdeal.nD Cert.RPostIdeal.τ).loc Cert.RPostIdeal.main_arg0) = m ((c.tc : Thread Cert.KPostIdeal.nD Cert.KPostIdeal.τ).loc Cert.KPostIdeal.main_arg0)
      ∧ m' ((c.tc : Thread Cert.RPostIdeal.nD Cert.RPostIdeal.τ).loc Cert.RPostIdeal.main_arg1) = m ((c.tc : Thread Cert.KPostIdeal.nD Cert.KPostIdeal.τ).loc Cert.KPostIdeal.main_arg1)
      ∧ m' ((c.tc : Thread Cert.RPostIdeal.nD Cert.RPostIdeal.τ).loc Cert.RPostIdeal.main_arg2) = m ((c.tc : Thread Cert.KPostIdeal.nD Cert.KPostIdeal.τ).loc Cert.KPostIdeal.main_arg2)
      ∧ m' ((c.tc : Thread Cert.RPostIdeal.nD Cert.RPostIdeal.τ).loc Cert.RPostIdeal.main_arg3) = m ((c.tc : Thread Cert.KPostIdeal.nD Cert.KPostIdeal.τ).loc Cert.KPostIdeal.main_arg3)) →
    ∃ (v0 : (c : Dev Cert.KPostIdeal.nD) → Buf (Elt Ideal) ((c.tc : Thread Cert.KPostIdeal.nD Cert.KPostIdeal.τ).loc Cert.KPostIdeal.main_v0_0)) (v1 : (c : Dev Cert.KPostIdeal.nD) → Buf (Elt Ideal) ((c.tc : Thread Cert.KPostIdeal.nD Cert.KPostIdeal.τ).loc Cert.KPostIdeal.main_v0_1)) (v2 : (c : Dev Cert.KPostIdeal.nD) → Buf (Elt Ideal) ((c.tc : Thread Cert.KPostIdeal.nD Cert.KPostIdeal.τ).loc Cert.KPostIdeal.main_v0_2)),
      θ_run (Cert.KPostIdeal.defs (F := Ideal)) (onTc (τ := Cert.KPostIdeal.τ) (Cert.KPostIdeal.main (F := Ideal))) ⟨m, fun _ => 0, g⟩ (fun r => ∀ c : Dev Cert.KPostIdeal.nD,
          r.2.mem ((c.tc : Thread Cert.KPostIdeal.nD Cert.KPostIdeal.τ).loc Cert.KPostIdeal.main_v0_0) = v0 c
          ∧ r.2.mem ((c.tc : Thread Cert.KPostIdeal.nD Cert.KPostIdeal.τ).loc Cert.KPostIdeal.main_v0_1) = v1 c
          ∧ r.2.mem ((c.tc : Thread Cert.KPostIdeal.nD Cert.KPostIdeal.τ).loc Cert.KPostIdeal.main_v0_2) = v2 c
          ∧ r.2.mem ((c.tc : Thread Cert.KPostIdeal.nD Cert.KPostIdeal.τ).loc Cert.KPostIdeal.main_arg0) = m ((c.tc : Thread Cert.KPostIdeal.nD Cert.KPostIdeal.τ).loc Cert.KPostIdeal.main_arg0)
          ∧ r.2.mem ((c.tc : Thread Cert.KPostIdeal.nD Cert.KPostIdeal.τ).loc Cert.KPostIdeal.main_arg1) = m ((c.tc : Thread Cert.KPostIdeal.nD Cert.KPostIdeal.τ).loc Cert.KPostIdeal.main_arg1)
          ∧ r.2.mem ((c.tc : Thread Cert.KPostIdeal.nD Cert.KPostIdeal.τ).loc Cert.KPostIdeal.main_arg2) = m ((c.tc : Thread Cert.KPostIdeal.nD Cert.KPostIdeal.τ).loc Cert.KPostIdeal.main_arg2)
          ∧ r.2.mem ((c.tc : Thread Cert.KPostIdeal.nD Cert.KPostIdeal.τ).loc Cert.KPostIdeal.main_arg3) = m ((c.tc : Thread Cert.KPostIdeal.nD Cert.KPostIdeal.τ).loc Cert.KPostIdeal.main_arg3))
      ∧ θ_run (Cert.RPostIdeal.defs (F := Ideal)) (onTc (τ := Cert.RPostIdeal.τ) (Cert.RPostIdeal.main (F := Ideal))) ⟨m', fun _ => 0, g'⟩ (fun r => ∀ c : Dev Cert.RPostIdeal.nD,
          r.2.mem ((c.tc : Thread Cert.RPostIdeal.nD Cert.RPostIdeal.τ).loc Cert.RPostIdeal.main_v52) = v0 c
          ∧ r.2.mem ((c.tc : Thread Cert.RPostIdeal.nD Cert.RPostIdeal.τ).loc Cert.RPostIdeal.main_v54) = v1 c
          ∧ r.2.mem ((c.tc : Thread Cert.RPostIdeal.nD Cert.RPostIdeal.τ).loc Cert.RPostIdeal.main_v55) = v2 c
          ∧ r.2.mem ((c.tc : Thread Cert.RPostIdeal.nD Cert.RPostIdeal.τ).loc Cert.RPostIdeal.main_arg0) = m' ((c.tc : Thread Cert.RPostIdeal.nD Cert.RPostIdeal.τ).loc Cert.RPostIdeal.main_arg0)
          ∧ r.2.mem ((c.tc : Thread Cert.RPostIdeal.nD Cert.RPostIdeal.τ).loc Cert.RPostIdeal.main_arg1) = m' ((c.tc : Thread Cert.RPostIdeal.nD Cert.RPostIdeal.τ).loc Cert.RPostIdeal.main_arg1)
          ∧ r.2.mem ((c.tc : Thread Cert.RPostIdeal.nD Cert.RPostIdeal.τ).loc Cert.RPostIdeal.main_arg2) = m' ((c.tc : Thread Cert.RPostIdeal.nD Cert.RPostIdeal.τ).loc Cert.RPostIdeal.main_arg2)
          ∧ r.2.mem ((c.tc : Thread Cert.RPostIdeal.nD Cert.RPostIdeal.τ).loc Cert.RPostIdeal.main_arg3) = m' ((c.tc : Thread Cert.RPostIdeal.nD Cert.RPostIdeal.τ).loc Cert.RPostIdeal.main_arg3))

def preserves_KXattn_KXattnIdeal : Prop :=
  True

def algebraic_KXattnIdeal_RXattnIdeal_pre_finite_xattn [hKXattnIdeal : Cert.KXattnIdeal.Facts] [hRXattnIdeal : Cert.RXattnIdeal.Facts] [hPre_finite_xattn : Cert.Pre_finite_xattn.Facts] : Prop :=
  ∀ (m : (ℓ : Loc Cert.KXattnIdeal.nD Cert.KXattnIdeal.τ Cert.KXattnIdeal.sig) → Buf (Elt Ideal) ℓ) (g : Dev Cert.KXattnIdeal.nD → PrngReg)
    (m' : (ℓ : Loc Cert.RXattnIdeal.nD Cert.RXattnIdeal.τ Cert.RXattnIdeal.sig) → Buf (Elt Ideal) ℓ) (g' : Dev Cert.RXattnIdeal.nD → PrngReg), Pre_KXattnIdeal_finite_xattn m →
    (∀ c : Dev Cert.KXattnIdeal.nD,
      m' ((c.tc : Thread Cert.RXattnIdeal.nD Cert.RXattnIdeal.τ).loc Cert.RXattnIdeal.main_arg0) = m ((c.tc : Thread Cert.KXattnIdeal.nD Cert.KXattnIdeal.τ).loc Cert.KXattnIdeal.main_arg0)
      ∧ m' ((c.tc : Thread Cert.RXattnIdeal.nD Cert.RXattnIdeal.τ).loc Cert.RXattnIdeal.main_arg1) = m ((c.tc : Thread Cert.KXattnIdeal.nD Cert.KXattnIdeal.τ).loc Cert.KXattnIdeal.main_arg1)
      ∧ m' ((c.tc : Thread Cert.RXattnIdeal.nD Cert.RXattnIdeal.τ).loc Cert.RXattnIdeal.main_arg2) = m ((c.tc : Thread Cert.KXattnIdeal.nD Cert.KXattnIdeal.τ).loc Cert.KXattnIdeal.main_arg2)
      ∧ m' ((c.tc : Thread Cert.RXattnIdeal.nD Cert.RXattnIdeal.τ).loc Cert.RXattnIdeal.main_arg3) = m ((c.tc : Thread Cert.KXattnIdeal.nD Cert.KXattnIdeal.τ).loc Cert.KXattnIdeal.main_arg3)) →
    ∃ (v0 : (c : Dev Cert.KXattnIdeal.nD) → Buf (Elt Ideal) ((c.tc : Thread Cert.KXattnIdeal.nD Cert.KXattnIdeal.τ).loc Cert.KXattnIdeal.main_v0_0)) (v1 : (c : Dev Cert.KXattnIdeal.nD) → Buf (Elt Ideal) ((c.tc : Thread Cert.KXattnIdeal.nD Cert.KXattnIdeal.τ).loc Cert.KXattnIdeal.main_v0_1)) (v2 : (c : Dev Cert.KXattnIdeal.nD) → Buf (Elt Ideal) ((c.tc : Thread Cert.KXattnIdeal.nD Cert.KXattnIdeal.τ).loc Cert.KXattnIdeal.main_v0_2)),
      θ_run (Cert.KXattnIdeal.defs (F := Ideal)) (onTc (τ := Cert.KXattnIdeal.τ) (Cert.KXattnIdeal.main (F := Ideal))) ⟨m, fun _ => 0, g⟩ (fun r => ∀ c : Dev Cert.KXattnIdeal.nD,
          r.2.mem ((c.tc : Thread Cert.KXattnIdeal.nD Cert.KXattnIdeal.τ).loc Cert.KXattnIdeal.main_v0_0) = v0 c
          ∧ r.2.mem ((c.tc : Thread Cert.KXattnIdeal.nD Cert.KXattnIdeal.τ).loc Cert.KXattnIdeal.main_v0_1) = v1 c
          ∧ r.2.mem ((c.tc : Thread Cert.KXattnIdeal.nD Cert.KXattnIdeal.τ).loc Cert.KXattnIdeal.main_v0_2) = v2 c
          ∧ r.2.mem ((c.tc : Thread Cert.KXattnIdeal.nD Cert.KXattnIdeal.τ).loc Cert.KXattnIdeal.main_arg0) = m ((c.tc : Thread Cert.KXattnIdeal.nD Cert.KXattnIdeal.τ).loc Cert.KXattnIdeal.main_arg0)
          ∧ r.2.mem ((c.tc : Thread Cert.KXattnIdeal.nD Cert.KXattnIdeal.τ).loc Cert.KXattnIdeal.main_arg1) = m ((c.tc : Thread Cert.KXattnIdeal.nD Cert.KXattnIdeal.τ).loc Cert.KXattnIdeal.main_arg1)
          ∧ r.2.mem ((c.tc : Thread Cert.KXattnIdeal.nD Cert.KXattnIdeal.τ).loc Cert.KXattnIdeal.main_arg2) = m ((c.tc : Thread Cert.KXattnIdeal.nD Cert.KXattnIdeal.τ).loc Cert.KXattnIdeal.main_arg2)
          ∧ r.2.mem ((c.tc : Thread Cert.KXattnIdeal.nD Cert.KXattnIdeal.τ).loc Cert.KXattnIdeal.main_arg3) = m ((c.tc : Thread Cert.KXattnIdeal.nD Cert.KXattnIdeal.τ).loc Cert.KXattnIdeal.main_arg3))
      ∧ θ_run (Cert.RXattnIdeal.defs (F := Ideal)) (onTc (τ := Cert.RXattnIdeal.τ) (Cert.RXattnIdeal.main (F := Ideal))) ⟨m', fun _ => 0, g'⟩ (fun r => ∀ c : Dev Cert.RXattnIdeal.nD,
          r.2.mem ((c.tc : Thread Cert.RXattnIdeal.nD Cert.RXattnIdeal.τ).loc Cert.RXattnIdeal.main_v67) = v0 c
          ∧ r.2.mem ((c.tc : Thread Cert.RXattnIdeal.nD Cert.RXattnIdeal.τ).loc Cert.RXattnIdeal.main_v69) = v1 c
          ∧ r.2.mem ((c.tc : Thread Cert.RXattnIdeal.nD Cert.RXattnIdeal.τ).loc Cert.RXattnIdeal.main_v71) = v2 c
          ∧ r.2.mem ((c.tc : Thread Cert.RXattnIdeal.nD Cert.RXattnIdeal.τ).loc Cert.RXattnIdeal.main_arg0) = m' ((c.tc : Thread Cert.RXattnIdeal.nD Cert.RXattnIdeal.τ).loc Cert.RXattnIdeal.main_arg0)
          ∧ r.2.mem ((c.tc : Thread Cert.RXattnIdeal.nD Cert.RXattnIdeal.τ).loc Cert.RXattnIdeal.main_arg1) = m' ((c.tc : Thread Cert.RXattnIdeal.nD Cert.RXattnIdeal.τ).loc Cert.RXattnIdeal.main_arg1)
          ∧ r.2.mem ((c.tc : Thread Cert.RXattnIdeal.nD Cert.RXattnIdeal.τ).loc Cert.RXattnIdeal.main_arg2) = m' ((c.tc : Thread Cert.RXattnIdeal.nD Cert.RXattnIdeal.τ).loc Cert.RXattnIdeal.main_arg2)
          ∧ r.2.mem ((c.tc : Thread Cert.RXattnIdeal.nD Cert.RXattnIdeal.τ).loc Cert.RXattnIdeal.main_arg3) = m' ((c.tc : Thread Cert.RXattnIdeal.nD Cert.RXattnIdeal.τ).loc Cert.RXattnIdeal.main_arg3))

def preserves_KLn2_KLn2Ideal : Prop :=
  True

def algebraic_KLn2Ideal_RLn2Ideal_pre_finite_ln2 [hKLn2Ideal : Cert.KLn2Ideal.Facts] [hRLn2Ideal : Cert.RLn2Ideal.Facts] [hPre_finite_ln2 : Cert.Pre_finite_ln2.Facts] : Prop :=
  ∀ (m : (ℓ : Loc Cert.KLn2Ideal.nD Cert.KLn2Ideal.τ Cert.KLn2Ideal.sig) → Buf (Elt Ideal) ℓ) (g : Dev Cert.KLn2Ideal.nD → PrngReg)
    (m' : (ℓ : Loc Cert.RLn2Ideal.nD Cert.RLn2Ideal.τ Cert.RLn2Ideal.sig) → Buf (Elt Ideal) ℓ) (g' : Dev Cert.RLn2Ideal.nD → PrngReg), Pre_KLn2Ideal_finite_ln2 m →
    (∀ c : Dev Cert.KLn2Ideal.nD,
      m' ((c.tc : Thread Cert.RLn2Ideal.nD Cert.RLn2Ideal.τ).loc Cert.RLn2Ideal.main_arg0) = m ((c.tc : Thread Cert.KLn2Ideal.nD Cert.KLn2Ideal.τ).loc Cert.KLn2Ideal.main_arg0)
      ∧ m' ((c.tc : Thread Cert.RLn2Ideal.nD Cert.RLn2Ideal.τ).loc Cert.RLn2Ideal.main_arg1) = m ((c.tc : Thread Cert.KLn2Ideal.nD Cert.KLn2Ideal.τ).loc Cert.KLn2Ideal.main_arg1)
      ∧ m' ((c.tc : Thread Cert.RLn2Ideal.nD Cert.RLn2Ideal.τ).loc Cert.RLn2Ideal.main_arg2) = m ((c.tc : Thread Cert.KLn2Ideal.nD Cert.KLn2Ideal.τ).loc Cert.KLn2Ideal.main_arg2)
      ∧ m' ((c.tc : Thread Cert.RLn2Ideal.nD Cert.RLn2Ideal.τ).loc Cert.RLn2Ideal.main_arg3) = m ((c.tc : Thread Cert.KLn2Ideal.nD Cert.KLn2Ideal.τ).loc Cert.KLn2Ideal.main_arg3)) →
    ∃ (v0 : (c : Dev Cert.KLn2Ideal.nD) → Buf (Elt Ideal) ((c.tc : Thread Cert.KLn2Ideal.nD Cert.KLn2Ideal.τ).loc Cert.KLn2Ideal.main_v16_0)) (v1 : (c : Dev Cert.KLn2Ideal.nD) → Buf (Elt Ideal) ((c.tc : Thread Cert.KLn2Ideal.nD Cert.KLn2Ideal.τ).loc Cert.KLn2Ideal.main_v16_1)) (v2 : (c : Dev Cert.KLn2Ideal.nD) → Buf (Elt Ideal) ((c.tc : Thread Cert.KLn2Ideal.nD Cert.KLn2Ideal.τ).loc Cert.KLn2Ideal.main_v16_2)) (v3 : (c : Dev Cert.KLn2Ideal.nD) → Buf (Elt Ideal) ((c.tc : Thread Cert.KLn2Ideal.nD Cert.KLn2Ideal.τ).loc Cert.KLn2Ideal.main_v16_3)),
      θ_run (Cert.KLn2Ideal.defs (F := Ideal)) (onTc (τ := Cert.KLn2Ideal.τ) (Cert.KLn2Ideal.main (F := Ideal))) ⟨m, fun _ => 0, g⟩ (fun r => ∀ c : Dev Cert.KLn2Ideal.nD,
          r.2.mem ((c.tc : Thread Cert.KLn2Ideal.nD Cert.KLn2Ideal.τ).loc Cert.KLn2Ideal.main_v16_0) = v0 c
          ∧ r.2.mem ((c.tc : Thread Cert.KLn2Ideal.nD Cert.KLn2Ideal.τ).loc Cert.KLn2Ideal.main_v16_1) = v1 c
          ∧ r.2.mem ((c.tc : Thread Cert.KLn2Ideal.nD Cert.KLn2Ideal.τ).loc Cert.KLn2Ideal.main_v16_2) = v2 c
          ∧ r.2.mem ((c.tc : Thread Cert.KLn2Ideal.nD Cert.KLn2Ideal.τ).loc Cert.KLn2Ideal.main_v16_3) = v3 c
          ∧ r.2.mem ((c.tc : Thread Cert.KLn2Ideal.nD Cert.KLn2Ideal.τ).loc Cert.KLn2Ideal.main_arg0) = m ((c.tc : Thread Cert.KLn2Ideal.nD Cert.KLn2Ideal.τ).loc Cert.KLn2Ideal.main_arg0)
          ∧ r.2.mem ((c.tc : Thread Cert.KLn2Ideal.nD Cert.KLn2Ideal.τ).loc Cert.KLn2Ideal.main_arg1) = m ((c.tc : Thread Cert.KLn2Ideal.nD Cert.KLn2Ideal.τ).loc Cert.KLn2Ideal.main_arg1)
          ∧ r.2.mem ((c.tc : Thread Cert.KLn2Ideal.nD Cert.KLn2Ideal.τ).loc Cert.KLn2Ideal.main_arg2) = m ((c.tc : Thread Cert.KLn2Ideal.nD Cert.KLn2Ideal.τ).loc Cert.KLn2Ideal.main_arg2)
          ∧ r.2.mem ((c.tc : Thread Cert.KLn2Ideal.nD Cert.KLn2Ideal.τ).loc Cert.KLn2Ideal.main_arg3) = m ((c.tc : Thread Cert.KLn2Ideal.nD Cert.KLn2Ideal.τ).loc Cert.KLn2Ideal.main_arg3))
      ∧ θ_run (Cert.RLn2Ideal.defs (F := Ideal)) (onTc (τ := Cert.RLn2Ideal.τ) (Cert.RLn2Ideal.main (F := Ideal))) ⟨m', fun _ => 0, g'⟩ (fun r => ∀ c : Dev Cert.RLn2Ideal.nD,
          r.2.mem ((c.tc : Thread Cert.RLn2Ideal.nD Cert.RLn2Ideal.τ).loc Cert.RLn2Ideal.main_v65) = v0 c
          ∧ r.2.mem ((c.tc : Thread Cert.RLn2Ideal.nD Cert.RLn2Ideal.τ).loc Cert.RLn2Ideal.main_v67) = v1 c
          ∧ r.2.mem ((c.tc : Thread Cert.RLn2Ideal.nD Cert.RLn2Ideal.τ).loc Cert.RLn2Ideal.main_v68) = v2 c
          ∧ r.2.mem ((c.tc : Thread Cert.RLn2Ideal.nD Cert.RLn2Ideal.τ).loc Cert.RLn2Ideal.main_v69) = v3 c
          ∧ r.2.mem ((c.tc : Thread Cert.RLn2Ideal.nD Cert.RLn2Ideal.τ).loc Cert.RLn2Ideal.main_arg0) = m' ((c.tc : Thread Cert.RLn2Ideal.nD Cert.RLn2Ideal.τ).loc Cert.RLn2Ideal.main_arg0)
          ∧ r.2.mem ((c.tc : Thread Cert.RLn2Ideal.nD Cert.RLn2Ideal.τ).loc Cert.RLn2Ideal.main_arg1) = m' ((c.tc : Thread Cert.RLn2Ideal.nD Cert.RLn2Ideal.τ).loc Cert.RLn2Ideal.main_arg1)
          ∧ r.2.mem ((c.tc : Thread Cert.RLn2Ideal.nD Cert.RLn2Ideal.τ).loc Cert.RLn2Ideal.main_arg2) = m' ((c.tc : Thread Cert.RLn2Ideal.nD Cert.RLn2Ideal.τ).loc Cert.RLn2Ideal.main_arg2)
          ∧ r.2.mem ((c.tc : Thread Cert.RLn2Ideal.nD Cert.RLn2Ideal.τ).loc Cert.RLn2Ideal.main_arg3) = m' ((c.tc : Thread Cert.RLn2Ideal.nD Cert.RLn2Ideal.τ).loc Cert.RLn2Ideal.main_arg3))

def preserves_KLoss_KLossIdeal : Prop :=
  True

def algebraic_KLossIdeal_RLossIdeal_pre_finite_loss [hKLossIdeal : Cert.KLossIdeal.Facts] [hRLossIdeal : Cert.RLossIdeal.Facts] [hPre_finite_loss : Cert.Pre_finite_loss.Facts] : Prop :=
  ∀ (m : (ℓ : Loc Cert.KLossIdeal.nD Cert.KLossIdeal.τ Cert.KLossIdeal.sig) → Buf (Elt Ideal) ℓ) (g : Dev Cert.KLossIdeal.nD → PrngReg)
    (m' : (ℓ : Loc Cert.RLossIdeal.nD Cert.RLossIdeal.τ Cert.RLossIdeal.sig) → Buf (Elt Ideal) ℓ) (g' : Dev Cert.RLossIdeal.nD → PrngReg), Pre_KLossIdeal_finite_loss m →
    (∀ c : Dev Cert.KLossIdeal.nD,
      m' ((c.tc : Thread Cert.RLossIdeal.nD Cert.RLossIdeal.τ).loc Cert.RLossIdeal.main_arg0) = m ((c.tc : Thread Cert.KLossIdeal.nD Cert.KLossIdeal.τ).loc Cert.KLossIdeal.main_arg0)
      ∧ m' ((c.tc : Thread Cert.RLossIdeal.nD Cert.RLossIdeal.τ).loc Cert.RLossIdeal.main_arg1) = m ((c.tc : Thread Cert.KLossIdeal.nD Cert.KLossIdeal.τ).loc Cert.KLossIdeal.main_arg1)
      ∧ m' ((c.tc : Thread Cert.RLossIdeal.nD Cert.RLossIdeal.τ).loc Cert.RLossIdeal.main_arg2) = m ((c.tc : Thread Cert.KLossIdeal.nD Cert.KLossIdeal.τ).loc Cert.KLossIdeal.main_arg2)
      ∧ m' ((c.tc : Thread Cert.RLossIdeal.nD Cert.RLossIdeal.τ).loc Cert.RLossIdeal.main_arg3) = m ((c.tc : Thread Cert.KLossIdeal.nD Cert.KLossIdeal.τ).loc Cert.KLossIdeal.main_arg3)) →
    ∃ (v0 : (c : Dev Cert.KLossIdeal.nD) → Buf (Elt Ideal) ((c.tc : Thread Cert.KLossIdeal.nD Cert.KLossIdeal.τ).loc Cert.KLossIdeal.main_v16_0)) (v1 : (c : Dev Cert.KLossIdeal.nD) → Buf (Elt Ideal) ((c.tc : Thread Cert.KLossIdeal.nD Cert.KLossIdeal.τ).loc Cert.KLossIdeal.main_v16_1)) (v2 : (c : Dev Cert.KLossIdeal.nD) → Buf (Elt Ideal) ((c.tc : Thread Cert.KLossIdeal.nD Cert.KLossIdeal.τ).loc Cert.KLossIdeal.main_v16_2)) (v3 : (c : Dev Cert.KLossIdeal.nD) → Buf (Elt Ideal) ((c.tc : Thread Cert.KLossIdeal.nD Cert.KLossIdeal.τ).loc Cert.KLossIdeal.main_v16_3)) (v4 : (c : Dev Cert.KLossIdeal.nD) → Buf (Elt Ideal) ((c.tc : Thread Cert.KLossIdeal.nD Cert.KLossIdeal.τ).loc Cert.KLossIdeal.main_v16_4)),
      θ_run (Cert.KLossIdeal.defs (F := Ideal)) (onTc (τ := Cert.KLossIdeal.τ) (Cert.KLossIdeal.main (F := Ideal))) ⟨m, fun _ => 0, g⟩ (fun r => ∀ c : Dev Cert.KLossIdeal.nD,
          r.2.mem ((c.tc : Thread Cert.KLossIdeal.nD Cert.KLossIdeal.τ).loc Cert.KLossIdeal.main_v16_0) = v0 c
          ∧ r.2.mem ((c.tc : Thread Cert.KLossIdeal.nD Cert.KLossIdeal.τ).loc Cert.KLossIdeal.main_v16_1) = v1 c
          ∧ r.2.mem ((c.tc : Thread Cert.KLossIdeal.nD Cert.KLossIdeal.τ).loc Cert.KLossIdeal.main_v16_2) = v2 c
          ∧ r.2.mem ((c.tc : Thread Cert.KLossIdeal.nD Cert.KLossIdeal.τ).loc Cert.KLossIdeal.main_v16_3) = v3 c
          ∧ r.2.mem ((c.tc : Thread Cert.KLossIdeal.nD Cert.KLossIdeal.τ).loc Cert.KLossIdeal.main_v16_4) = v4 c
          ∧ r.2.mem ((c.tc : Thread Cert.KLossIdeal.nD Cert.KLossIdeal.τ).loc Cert.KLossIdeal.main_arg0) = m ((c.tc : Thread Cert.KLossIdeal.nD Cert.KLossIdeal.τ).loc Cert.KLossIdeal.main_arg0)
          ∧ r.2.mem ((c.tc : Thread Cert.KLossIdeal.nD Cert.KLossIdeal.τ).loc Cert.KLossIdeal.main_arg1) = m ((c.tc : Thread Cert.KLossIdeal.nD Cert.KLossIdeal.τ).loc Cert.KLossIdeal.main_arg1)
          ∧ r.2.mem ((c.tc : Thread Cert.KLossIdeal.nD Cert.KLossIdeal.τ).loc Cert.KLossIdeal.main_arg2) = m ((c.tc : Thread Cert.KLossIdeal.nD Cert.KLossIdeal.τ).loc Cert.KLossIdeal.main_arg2)
          ∧ r.2.mem ((c.tc : Thread Cert.KLossIdeal.nD Cert.KLossIdeal.τ).loc Cert.KLossIdeal.main_arg3) = m ((c.tc : Thread Cert.KLossIdeal.nD Cert.KLossIdeal.τ).loc Cert.KLossIdeal.main_arg3))
      ∧ θ_run (Cert.RLossIdeal.defs (F := Ideal)) (onTc (τ := Cert.RLossIdeal.τ) (Cert.RLossIdeal.main (F := Ideal))) ⟨m', fun _ => 0, g'⟩ (fun r => ∀ c : Dev Cert.RLossIdeal.nD,
          r.2.mem ((c.tc : Thread Cert.RLossIdeal.nD Cert.RLossIdeal.τ).loc Cert.RLossIdeal.main_v77) = v0 c
          ∧ r.2.mem ((c.tc : Thread Cert.RLossIdeal.nD Cert.RLossIdeal.τ).loc Cert.RLossIdeal.main_v79) = v1 c
          ∧ r.2.mem ((c.tc : Thread Cert.RLossIdeal.nD Cert.RLossIdeal.τ).loc Cert.RLossIdeal.main_v80) = v2 c
          ∧ r.2.mem ((c.tc : Thread Cert.RLossIdeal.nD Cert.RLossIdeal.τ).loc Cert.RLossIdeal.main_v81) = v3 c
          ∧ r.2.mem ((c.tc : Thread Cert.RLossIdeal.nD Cert.RLossIdeal.τ).loc Cert.RLossIdeal.main_v82) = v4 c
          ∧ r.2.mem ((c.tc : Thread Cert.RLossIdeal.nD Cert.RLossIdeal.τ).loc Cert.RLossIdeal.main_arg0) = m' ((c.tc : Thread Cert.RLossIdeal.nD Cert.RLossIdeal.τ).loc Cert.RLossIdeal.main_arg0)
          ∧ r.2.mem ((c.tc : Thread Cert.RLossIdeal.nD Cert.RLossIdeal.τ).loc Cert.RLossIdeal.main_arg1) = m' ((c.tc : Thread Cert.RLossIdeal.nD Cert.RLossIdeal.τ).loc Cert.RLossIdeal.main_arg1)
          ∧ r.2.mem ((c.tc : Thread Cert.RLossIdeal.nD Cert.RLossIdeal.τ).loc Cert.RLossIdeal.main_arg2) = m' ((c.tc : Thread Cert.RLossIdeal.nD Cert.RLossIdeal.τ).loc Cert.RLossIdeal.main_arg2)
          ∧ r.2.mem ((c.tc : Thread Cert.RLossIdeal.nD Cert.RLossIdeal.τ).loc Cert.RLossIdeal.main_arg3) = m' ((c.tc : Thread Cert.RLossIdeal.nD Cert.RLossIdeal.τ).loc Cert.RLossIdeal.main_arg3))

def preserves_KGates_KGatesIdeal : Prop :=
  True

def algebraic_KGatesIdeal_RGatesIdeal_pre_finite_gates [hKGatesIdeal : Cert.KGatesIdeal.Facts] [hRGatesIdeal : Cert.RGatesIdeal.Facts] [hPre_finite_gates : Cert.Pre_finite_gates.Facts] : Prop :=
  ∀ (m : (ℓ : Loc Cert.KGatesIdeal.nD Cert.KGatesIdeal.τ Cert.KGatesIdeal.sig) → Buf (Elt Ideal) ℓ) (g : Dev Cert.KGatesIdeal.nD → PrngReg)
    (m' : (ℓ : Loc Cert.RGatesIdeal.nD Cert.RGatesIdeal.τ Cert.RGatesIdeal.sig) → Buf (Elt Ideal) ℓ) (g' : Dev Cert.RGatesIdeal.nD → PrngReg), Pre_KGatesIdeal_finite_gates m →
    (∀ c : Dev Cert.KGatesIdeal.nD,
      m' ((c.tc : Thread Cert.RGatesIdeal.nD Cert.RGatesIdeal.τ).loc Cert.RGatesIdeal.main_arg0) = m ((c.tc : Thread Cert.KGatesIdeal.nD Cert.KGatesIdeal.τ).loc Cert.KGatesIdeal.main_arg0)
      ∧ m' ((c.tc : Thread Cert.RGatesIdeal.nD Cert.RGatesIdeal.τ).loc Cert.RGatesIdeal.main_arg1) = m ((c.tc : Thread Cert.KGatesIdeal.nD Cert.KGatesIdeal.τ).loc Cert.KGatesIdeal.main_arg1)
      ∧ m' ((c.tc : Thread Cert.RGatesIdeal.nD Cert.RGatesIdeal.τ).loc Cert.RGatesIdeal.main_arg2) = m ((c.tc : Thread Cert.KGatesIdeal.nD Cert.KGatesIdeal.τ).loc Cert.KGatesIdeal.main_arg2)
      ∧ m' ((c.tc : Thread Cert.RGatesIdeal.nD Cert.RGatesIdeal.τ).loc Cert.RGatesIdeal.main_arg3) = m ((c.tc : Thread Cert.KGatesIdeal.nD Cert.KGatesIdeal.τ).loc Cert.KGatesIdeal.main_arg3)
      ∧ m' ((c.tc : Thread Cert.RGatesIdeal.nD Cert.RGatesIdeal.τ).loc Cert.RGatesIdeal.main_arg4) = m ((c.tc : Thread Cert.KGatesIdeal.nD Cert.KGatesIdeal.τ).loc Cert.KGatesIdeal.main_arg4)
      ∧ m' ((c.tc : Thread Cert.RGatesIdeal.nD Cert.RGatesIdeal.τ).loc Cert.RGatesIdeal.main_arg5) = m ((c.tc : Thread Cert.KGatesIdeal.nD Cert.KGatesIdeal.τ).loc Cert.KGatesIdeal.main_arg5)) →
    ∃ (v0 : (c : Dev Cert.KGatesIdeal.nD) → Buf (Elt Ideal) ((c.tc : Thread Cert.KGatesIdeal.nD Cert.KGatesIdeal.τ).loc Cert.KGatesIdeal.main_v22_0)) (v1 : (c : Dev Cert.KGatesIdeal.nD) → Buf (Elt Ideal) ((c.tc : Thread Cert.KGatesIdeal.nD Cert.KGatesIdeal.τ).loc Cert.KGatesIdeal.main_v22_1)) (v2 : (c : Dev Cert.KGatesIdeal.nD) → Buf (Elt Ideal) ((c.tc : Thread Cert.KGatesIdeal.nD Cert.KGatesIdeal.τ).loc Cert.KGatesIdeal.main_v22_2)),
      θ_run (Cert.KGatesIdeal.defs (F := Ideal)) (onTc (τ := Cert.KGatesIdeal.τ) (Cert.KGatesIdeal.main (F := Ideal))) ⟨m, fun _ => 0, g⟩ (fun r => ∀ c : Dev Cert.KGatesIdeal.nD,
          r.2.mem ((c.tc : Thread Cert.KGatesIdeal.nD Cert.KGatesIdeal.τ).loc Cert.KGatesIdeal.main_v22_0) = v0 c
          ∧ r.2.mem ((c.tc : Thread Cert.KGatesIdeal.nD Cert.KGatesIdeal.τ).loc Cert.KGatesIdeal.main_v22_1) = v1 c
          ∧ r.2.mem ((c.tc : Thread Cert.KGatesIdeal.nD Cert.KGatesIdeal.τ).loc Cert.KGatesIdeal.main_v22_2) = v2 c
          ∧ r.2.mem ((c.tc : Thread Cert.KGatesIdeal.nD Cert.KGatesIdeal.τ).loc Cert.KGatesIdeal.main_arg0) = m ((c.tc : Thread Cert.KGatesIdeal.nD Cert.KGatesIdeal.τ).loc Cert.KGatesIdeal.main_arg0)
          ∧ r.2.mem ((c.tc : Thread Cert.KGatesIdeal.nD Cert.KGatesIdeal.τ).loc Cert.KGatesIdeal.main_arg1) = m ((c.tc : Thread Cert.KGatesIdeal.nD Cert.KGatesIdeal.τ).loc Cert.KGatesIdeal.main_arg1)
          ∧ r.2.mem ((c.tc : Thread Cert.KGatesIdeal.nD Cert.KGatesIdeal.τ).loc Cert.KGatesIdeal.main_arg2) = m ((c.tc : Thread Cert.KGatesIdeal.nD Cert.KGatesIdeal.τ).loc Cert.KGatesIdeal.main_arg2)
          ∧ r.2.mem ((c.tc : Thread Cert.KGatesIdeal.nD Cert.KGatesIdeal.τ).loc Cert.KGatesIdeal.main_arg3) = m ((c.tc : Thread Cert.KGatesIdeal.nD Cert.KGatesIdeal.τ).loc Cert.KGatesIdeal.main_arg3)
          ∧ r.2.mem ((c.tc : Thread Cert.KGatesIdeal.nD Cert.KGatesIdeal.τ).loc Cert.KGatesIdeal.main_arg4) = m ((c.tc : Thread Cert.KGatesIdeal.nD Cert.KGatesIdeal.τ).loc Cert.KGatesIdeal.main_arg4)
          ∧ r.2.mem ((c.tc : Thread Cert.KGatesIdeal.nD Cert.KGatesIdeal.τ).loc Cert.KGatesIdeal.main_arg5) = m ((c.tc : Thread Cert.KGatesIdeal.nD Cert.KGatesIdeal.τ).loc Cert.KGatesIdeal.main_arg5))
      ∧ θ_run (Cert.RGatesIdeal.defs (F := Ideal)) (onTc (τ := Cert.RGatesIdeal.τ) (Cert.RGatesIdeal.main (F := Ideal))) ⟨m', fun _ => 0, g'⟩ (fun r => ∀ c : Dev Cert.RGatesIdeal.nD,
          r.2.mem ((c.tc : Thread Cert.RGatesIdeal.nD Cert.RGatesIdeal.τ).loc Cert.RGatesIdeal.main_v41) = v0 c
          ∧ r.2.mem ((c.tc : Thread Cert.RGatesIdeal.nD Cert.RGatesIdeal.τ).loc Cert.RGatesIdeal.main_v43) = v1 c
          ∧ r.2.mem ((c.tc : Thread Cert.RGatesIdeal.nD Cert.RGatesIdeal.τ).loc Cert.RGatesIdeal.main_v45) = v2 c
          ∧ r.2.mem ((c.tc : Thread Cert.RGatesIdeal.nD Cert.RGatesIdeal.τ).loc Cert.RGatesIdeal.main_arg0) = m' ((c.tc : Thread Cert.RGatesIdeal.nD Cert.RGatesIdeal.τ).loc Cert.RGatesIdeal.main_arg0)
          ∧ r.2.mem ((c.tc : Thread Cert.RGatesIdeal.nD Cert.RGatesIdeal.τ).loc Cert.RGatesIdeal.main_arg1) = m' ((c.tc : Thread Cert.RGatesIdeal.nD Cert.RGatesIdeal.τ).loc Cert.RGatesIdeal.main_arg1)
          ∧ r.2.mem ((c.tc : Thread Cert.RGatesIdeal.nD Cert.RGatesIdeal.τ).loc Cert.RGatesIdeal.main_arg2) = m' ((c.tc : Thread Cert.RGatesIdeal.nD Cert.RGatesIdeal.τ).loc Cert.RGatesIdeal.main_arg2)
          ∧ r.2.mem ((c.tc : Thread Cert.RGatesIdeal.nD Cert.RGatesIdeal.τ).loc Cert.RGatesIdeal.main_arg3) = m' ((c.tc : Thread Cert.RGatesIdeal.nD Cert.RGatesIdeal.τ).loc Cert.RGatesIdeal.main_arg3)
          ∧ r.2.mem ((c.tc : Thread Cert.RGatesIdeal.nD Cert.RGatesIdeal.τ).loc Cert.RGatesIdeal.main_arg4) = m' ((c.tc : Thread Cert.RGatesIdeal.nD Cert.RGatesIdeal.τ).loc Cert.RGatesIdeal.main_arg4)
          ∧ r.2.mem ((c.tc : Thread Cert.RGatesIdeal.nD Cert.RGatesIdeal.τ).loc Cert.RGatesIdeal.main_arg5) = m' ((c.tc : Thread Cert.RGatesIdeal.nD Cert.RGatesIdeal.τ).loc Cert.RGatesIdeal.main_arg5))

def preserves_KPool_KPoolIdeal : Prop :=
  True

def algebraic_KPoolIdeal_RPoolIdeal_pre_finite_pool [hKPoolIdeal : Cert.KPoolIdeal.Facts] [hRPoolIdeal : Cert.RPoolIdeal.Facts] [hPre_finite_pool : Cert.Pre_finite_pool.Facts] : Prop :=
  ∀ (m : (ℓ : Loc Cert.KPoolIdeal.nD Cert.KPoolIdeal.τ Cert.KPoolIdeal.sig) → Buf (Elt Ideal) ℓ) (g : Dev Cert.KPoolIdeal.nD → PrngReg)
    (m' : (ℓ : Loc Cert.RPoolIdeal.nD Cert.RPoolIdeal.τ Cert.RPoolIdeal.sig) → Buf (Elt Ideal) ℓ) (g' : Dev Cert.RPoolIdeal.nD → PrngReg), Pre_KPoolIdeal_finite_pool m →
    (∀ c : Dev Cert.KPoolIdeal.nD,
      m' ((c.tc : Thread Cert.RPoolIdeal.nD Cert.RPoolIdeal.τ).loc Cert.RPoolIdeal.main_arg0) = m ((c.tc : Thread Cert.KPoolIdeal.nD Cert.KPoolIdeal.τ).loc Cert.KPoolIdeal.main_arg0)
      ∧ m' ((c.tc : Thread Cert.RPoolIdeal.nD Cert.RPoolIdeal.τ).loc Cert.RPoolIdeal.main_arg1) = m ((c.tc : Thread Cert.KPoolIdeal.nD Cert.KPoolIdeal.τ).loc Cert.KPoolIdeal.main_arg1)
      ∧ m' ((c.tc : Thread Cert.RPoolIdeal.nD Cert.RPoolIdeal.τ).loc Cert.RPoolIdeal.main_arg2) = m ((c.tc : Thread Cert.KPoolIdeal.nD Cert.KPoolIdeal.τ).loc Cert.KPoolIdeal.main_arg2)
      ∧ m' ((c.tc : Thread Cert.RPoolIdeal.nD Cert.RPoolIdeal.τ).loc Cert.RPoolIdeal.main_arg3) = m ((c.tc : Thread Cert.KPoolIdeal.nD Cert.KPoolIdeal.τ).loc Cert.KPoolIdeal.main_arg3)) →
    ∃ (v0 : (c : Dev Cert.KPoolIdeal.nD) → Buf (Elt Ideal) ((c.tc : Thread Cert.KPoolIdeal.nD Cert.KPoolIdeal.τ).loc Cert.KPoolIdeal.main_v0_0)) (v1 : (c : Dev Cert.KPoolIdeal.nD) → Buf (Elt Ideal) ((c.tc : Thread Cert.KPoolIdeal.nD Cert.KPoolIdeal.τ).loc Cert.KPoolIdeal.main_v0_1)) (v2 : (c : Dev Cert.KPoolIdeal.nD) → Buf (Elt Ideal) ((c.tc : Thread Cert.KPoolIdeal.nD Cert.KPoolIdeal.τ).loc Cert.KPoolIdeal.main_v0_2)),
      θ_run (Cert.KPoolIdeal.defs (F := Ideal)) (onTc (τ := Cert.KPoolIdeal.τ) (Cert.KPoolIdeal.main (F := Ideal))) ⟨m, fun _ => 0, g⟩ (fun r => ∀ c : Dev Cert.KPoolIdeal.nD,
          r.2.mem ((c.tc : Thread Cert.KPoolIdeal.nD Cert.KPoolIdeal.τ).loc Cert.KPoolIdeal.main_v0_0) = v0 c
          ∧ r.2.mem ((c.tc : Thread Cert.KPoolIdeal.nD Cert.KPoolIdeal.τ).loc Cert.KPoolIdeal.main_v0_1) = v1 c
          ∧ r.2.mem ((c.tc : Thread Cert.KPoolIdeal.nD Cert.KPoolIdeal.τ).loc Cert.KPoolIdeal.main_v0_2) = v2 c
          ∧ r.2.mem ((c.tc : Thread Cert.KPoolIdeal.nD Cert.KPoolIdeal.τ).loc Cert.KPoolIdeal.main_arg0) = m ((c.tc : Thread Cert.KPoolIdeal.nD Cert.KPoolIdeal.τ).loc Cert.KPoolIdeal.main_arg0)
          ∧ r.2.mem ((c.tc : Thread Cert.KPoolIdeal.nD Cert.KPoolIdeal.τ).loc Cert.KPoolIdeal.main_arg1) = m ((c.tc : Thread Cert.KPoolIdeal.nD Cert.KPoolIdeal.τ).loc Cert.KPoolIdeal.main_arg1)
          ∧ r.2.mem ((c.tc : Thread Cert.KPoolIdeal.nD Cert.KPoolIdeal.τ).loc Cert.KPoolIdeal.main_arg2) = m ((c.tc : Thread Cert.KPoolIdeal.nD Cert.KPoolIdeal.τ).loc Cert.KPoolIdeal.main_arg2)
          ∧ r.2.mem ((c.tc : Thread Cert.KPoolIdeal.nD Cert.KPoolIdeal.τ).loc Cert.KPoolIdeal.main_arg3) = m ((c.tc : Thread Cert.KPoolIdeal.nD Cert.KPoolIdeal.τ).loc Cert.KPoolIdeal.main_arg3))
      ∧ θ_run (Cert.RPoolIdeal.defs (F := Ideal)) (onTc (τ := Cert.RPoolIdeal.τ) (Cert.RPoolIdeal.main (F := Ideal))) ⟨m', fun _ => 0, g'⟩ (fun r => ∀ c : Dev Cert.RPoolIdeal.nD,
          r.2.mem ((c.tc : Thread Cert.RPoolIdeal.nD Cert.RPoolIdeal.τ).loc Cert.RPoolIdeal.main_v144) = v0 c
          ∧ r.2.mem ((c.tc : Thread Cert.RPoolIdeal.nD Cert.RPoolIdeal.τ).loc Cert.RPoolIdeal.main_v91) = v1 c
          ∧ r.2.mem ((c.tc : Thread Cert.RPoolIdeal.nD Cert.RPoolIdeal.τ).loc Cert.RPoolIdeal.main_v145) = v2 c
          ∧ r.2.mem ((c.tc : Thread Cert.RPoolIdeal.nD Cert.RPoolIdeal.τ).loc Cert.RPoolIdeal.main_arg0) = m' ((c.tc : Thread Cert.RPoolIdeal.nD Cert.RPoolIdeal.τ).loc Cert.RPoolIdeal.main_arg0)
          ∧ r.2.mem ((c.tc : Thread Cert.RPoolIdeal.nD Cert.RPoolIdeal.τ).loc Cert.RPoolIdeal.main_arg1) = m' ((c.tc : Thread Cert.RPoolIdeal.nD Cert.RPoolIdeal.τ).loc Cert.RPoolIdeal.main_arg1)
          ∧ r.2.mem ((c.tc : Thread Cert.RPoolIdeal.nD Cert.RPoolIdeal.τ).loc Cert.RPoolIdeal.main_arg2) = m' ((c.tc : Thread Cert.RPoolIdeal.nD Cert.RPoolIdeal.τ).loc Cert.RPoolIdeal.main_arg2)
          ∧ r.2.mem ((c.tc : Thread Cert.RPoolIdeal.nD Cert.RPoolIdeal.τ).loc Cert.RPoolIdeal.main_arg3) = m' ((c.tc : Thread Cert.RPoolIdeal.nD Cert.RPoolIdeal.τ).loc Cert.RPoolIdeal.main_arg3))

def preserves_KPre_KPreIdeal : Prop :=
  True

def algebraic_KPreIdeal_RPreIdeal_pre_finite_pre [hKPreIdeal : Cert.KPreIdeal.Facts] [hRPreIdeal : Cert.RPreIdeal.Facts] [hPre_finite_pre : Cert.Pre_finite_pre.Facts] : Prop :=
  ∀ (m : (ℓ : Loc Cert.KPreIdeal.nD Cert.KPreIdeal.τ Cert.KPreIdeal.sig) → Buf (Elt Ideal) ℓ) (g : Dev Cert.KPreIdeal.nD → PrngReg)
    (m' : (ℓ : Loc Cert.RPreIdeal.nD Cert.RPreIdeal.τ Cert.RPreIdeal.sig) → Buf (Elt Ideal) ℓ) (g' : Dev Cert.RPreIdeal.nD → PrngReg), Pre_KPreIdeal_finite_pre m →
    (∀ c : Dev Cert.KPreIdeal.nD,
      m' ((c.tc : Thread Cert.RPreIdeal.nD Cert.RPreIdeal.τ).loc Cert.RPreIdeal.main_arg0) = m ((c.tc : Thread Cert.KPreIdeal.nD Cert.KPreIdeal.τ).loc Cert.KPreIdeal.main_arg0)
      ∧ m' ((c.tc : Thread Cert.RPreIdeal.nD Cert.RPreIdeal.τ).loc Cert.RPreIdeal.main_arg1) = m ((c.tc : Thread Cert.KPreIdeal.nD Cert.KPreIdeal.τ).loc Cert.KPreIdeal.main_arg1)
      ∧ m' ((c.tc : Thread Cert.RPreIdeal.nD Cert.RPreIdeal.τ).loc Cert.RPreIdeal.main_arg2) = m ((c.tc : Thread Cert.KPreIdeal.nD Cert.KPreIdeal.τ).loc Cert.KPreIdeal.main_arg2)) →
    ∃ (v0 : (c : Dev Cert.KPreIdeal.nD) → Buf (Elt Ideal) ((c.tc : Thread Cert.KPreIdeal.nD Cert.KPreIdeal.τ).loc Cert.KPreIdeal.main_v0_0)) (v1 : (c : Dev Cert.KPreIdeal.nD) → Buf (Elt Ideal) ((c.tc : Thread Cert.KPreIdeal.nD Cert.KPreIdeal.τ).loc Cert.KPreIdeal.main_v0_1)),
      θ_run (Cert.KPreIdeal.defs (F := Ideal)) (onTc (τ := Cert.KPreIdeal.τ) (Cert.KPreIdeal.main (F := Ideal))) ⟨m, fun _ => 0, g⟩ (fun r => ∀ c : Dev Cert.KPreIdeal.nD,
          r.2.mem ((c.tc : Thread Cert.KPreIdeal.nD Cert.KPreIdeal.τ).loc Cert.KPreIdeal.main_v0_0) = v0 c
          ∧ r.2.mem ((c.tc : Thread Cert.KPreIdeal.nD Cert.KPreIdeal.τ).loc Cert.KPreIdeal.main_v0_1) = v1 c
          ∧ r.2.mem ((c.tc : Thread Cert.KPreIdeal.nD Cert.KPreIdeal.τ).loc Cert.KPreIdeal.main_arg0) = m ((c.tc : Thread Cert.KPreIdeal.nD Cert.KPreIdeal.τ).loc Cert.KPreIdeal.main_arg0)
          ∧ r.2.mem ((c.tc : Thread Cert.KPreIdeal.nD Cert.KPreIdeal.τ).loc Cert.KPreIdeal.main_arg1) = m ((c.tc : Thread Cert.KPreIdeal.nD Cert.KPreIdeal.τ).loc Cert.KPreIdeal.main_arg1)
          ∧ r.2.mem ((c.tc : Thread Cert.KPreIdeal.nD Cert.KPreIdeal.τ).loc Cert.KPreIdeal.main_arg2) = m ((c.tc : Thread Cert.KPreIdeal.nD Cert.KPreIdeal.τ).loc Cert.KPreIdeal.main_arg2))
      ∧ θ_run (Cert.RPreIdeal.defs (F := Ideal)) (onTc (τ := Cert.RPreIdeal.τ) (Cert.RPreIdeal.main (F := Ideal))) ⟨m', fun _ => 0, g'⟩ (fun r => ∀ c : Dev Cert.RPreIdeal.nD,
          r.2.mem ((c.tc : Thread Cert.RPreIdeal.nD Cert.RPreIdeal.τ).loc Cert.RPreIdeal.main_v145) = v0 c
          ∧ r.2.mem ((c.tc : Thread Cert.RPreIdeal.nD Cert.RPreIdeal.τ).loc Cert.RPreIdeal.main_v141) = v1 c
          ∧ r.2.mem ((c.tc : Thread Cert.RPreIdeal.nD Cert.RPreIdeal.τ).loc Cert.RPreIdeal.main_arg0) = m' ((c.tc : Thread Cert.RPreIdeal.nD Cert.RPreIdeal.τ).loc Cert.RPreIdeal.main_arg0)
          ∧ r.2.mem ((c.tc : Thread Cert.RPreIdeal.nD Cert.RPreIdeal.τ).loc Cert.RPreIdeal.main_arg1) = m' ((c.tc : Thread Cert.RPreIdeal.nD Cert.RPreIdeal.τ).loc Cert.RPreIdeal.main_arg1)
          ∧ r.2.mem ((c.tc : Thread Cert.RPreIdeal.nD Cert.RPreIdeal.τ).loc Cert.RPreIdeal.main_arg2) = m' ((c.tc : Thread Cert.RPreIdeal.nD Cert.RPreIdeal.τ).loc Cert.RPreIdeal.main_arg2))

def preserves_KXattnf_KXattnfIdeal : Prop :=
  True

def algebraic_KXattnfIdeal_RXattnfIdeal_pre_finite_xattnf [hKXattnfIdeal : Cert.KXattnfIdeal.Facts] [hRXattnfIdeal : Cert.RXattnfIdeal.Facts] [hPre_finite_xattnf : Cert.Pre_finite_xattnf.Facts] : Prop :=
  ∀ (m : (ℓ : Loc Cert.KXattnfIdeal.nD Cert.KXattnfIdeal.τ Cert.KXattnfIdeal.sig) → Buf (Elt Ideal) ℓ) (g : Dev Cert.KXattnfIdeal.nD → PrngReg)
    (m' : (ℓ : Loc Cert.RXattnfIdeal.nD Cert.RXattnfIdeal.τ Cert.RXattnfIdeal.sig) → Buf (Elt Ideal) ℓ) (g' : Dev Cert.RXattnfIdeal.nD → PrngReg), Pre_KXattnfIdeal_finite_xattnf m →
    (∀ c : Dev Cert.KXattnfIdeal.nD,
      m' ((c.tc : Thread Cert.RXattnfIdeal.nD Cert.RXattnfIdeal.τ).loc Cert.RXattnfIdeal.main_arg0) = m ((c.tc : Thread Cert.KXattnfIdeal.nD Cert.KXattnfIdeal.τ).loc Cert.KXattnfIdeal.main_arg0)
      ∧ m' ((c.tc : Thread Cert.RXattnfIdeal.nD Cert.RXattnfIdeal.τ).loc Cert.RXattnfIdeal.main_arg1) = m ((c.tc : Thread Cert.KXattnfIdeal.nD Cert.KXattnfIdeal.τ).loc Cert.KXattnfIdeal.main_arg1)
      ∧ m' ((c.tc : Thread Cert.RXattnfIdeal.nD Cert.RXattnfIdeal.τ).loc Cert.RXattnfIdeal.main_arg2) = m ((c.tc : Thread Cert.KXattnfIdeal.nD Cert.KXattnfIdeal.τ).loc Cert.KXattnfIdeal.main_arg2)) →
    ∃ (v0 : (c : Dev Cert.KXattnfIdeal.nD) → Buf (Elt Ideal) ((c.tc : Thread Cert.KXattnfIdeal.nD Cert.KXattnfIdeal.τ).loc Cert.KXattnfIdeal.main_v0)),
      θ_run (Cert.KXattnfIdeal.defs (F := Ideal)) (onTc (τ := Cert.KXattnfIdeal.τ) (Cert.KXattnfIdeal.main (F := Ideal))) ⟨m, fun _ => 0, g⟩ (fun r => ∀ c : Dev Cert.KXattnfIdeal.nD,
          r.2.mem ((c.tc : Thread Cert.KXattnfIdeal.nD Cert.KXattnfIdeal.τ).loc Cert.KXattnfIdeal.main_v0) = v0 c
          ∧ r.2.mem ((c.tc : Thread Cert.KXattnfIdeal.nD Cert.KXattnfIdeal.τ).loc Cert.KXattnfIdeal.main_arg0) = m ((c.tc : Thread Cert.KXattnfIdeal.nD Cert.KXattnfIdeal.τ).loc Cert.KXattnfIdeal.main_arg0)
          ∧ r.2.mem ((c.tc : Thread Cert.KXattnfIdeal.nD Cert.KXattnfIdeal.τ).loc Cert.KXattnfIdeal.main_arg1) = m ((c.tc : Thread Cert.KXattnfIdeal.nD Cert.KXattnfIdeal.τ).loc Cert.KXattnfIdeal.main_arg1)
          ∧ r.2.mem ((c.tc : Thread Cert.KXattnfIdeal.nD Cert.KXattnfIdeal.τ).loc Cert.KXattnfIdeal.main_arg2) = m ((c.tc : Thread Cert.KXattnfIdeal.nD Cert.KXattnfIdeal.τ).loc Cert.KXattnfIdeal.main_arg2))
      ∧ θ_run (Cert.RXattnfIdeal.defs (F := Ideal)) (onTc (τ := Cert.RXattnfIdeal.τ) (Cert.RXattnfIdeal.main (F := Ideal))) ⟨m', fun _ => 0, g'⟩ (fun r => ∀ c : Dev Cert.RXattnfIdeal.nD,
          r.2.mem ((c.tc : Thread Cert.RXattnfIdeal.nD Cert.RXattnfIdeal.τ).loc Cert.RXattnfIdeal.main_v24) = v0 c
          ∧ r.2.mem ((c.tc : Thread Cert.RXattnfIdeal.nD Cert.RXattnfIdeal.τ).loc Cert.RXattnfIdeal.main_arg0) = m' ((c.tc : Thread Cert.RXattnfIdeal.nD Cert.RXattnfIdeal.τ).loc Cert.RXattnfIdeal.main_arg0)
          ∧ r.2.mem ((c.tc : Thread Cert.RXattnfIdeal.nD Cert.RXattnfIdeal.τ).loc Cert.RXattnfIdeal.main_arg1) = m' ((c.tc : Thread Cert.RXattnfIdeal.nD Cert.RXattnfIdeal.τ).loc Cert.RXattnfIdeal.main_arg1)
          ∧ r.2.mem ((c.tc : Thread Cert.RXattnfIdeal.nD Cert.RXattnfIdeal.τ).loc Cert.RXattnfIdeal.main_arg2) = m' ((c.tc : Thread Cert.RXattnfIdeal.nD Cert.RXattnfIdeal.τ).loc Cert.RXattnfIdeal.main_arg2))

def preserves_KPoolf_KPoolfIdeal : Prop :=
  True

def algebraic_KPoolfIdeal_RPoolfIdeal_pre_finite_poolf [hKPoolfIdeal : Cert.KPoolfIdeal.Facts] [hRPoolfIdeal : Cert.RPoolfIdeal.Facts] [hPre_finite_poolf : Cert.Pre_finite_poolf.Facts] : Prop :=
  ∀ (m : (ℓ : Loc Cert.KPoolfIdeal.nD Cert.KPoolfIdeal.τ Cert.KPoolfIdeal.sig) → Buf (Elt Ideal) ℓ) (g : Dev Cert.KPoolfIdeal.nD → PrngReg)
    (m' : (ℓ : Loc Cert.RPoolfIdeal.nD Cert.RPoolfIdeal.τ Cert.RPoolfIdeal.sig) → Buf (Elt Ideal) ℓ) (g' : Dev Cert.RPoolfIdeal.nD → PrngReg), Pre_KPoolfIdeal_finite_poolf m →
    (∀ c : Dev Cert.KPoolfIdeal.nD,
      m' ((c.tc : Thread Cert.RPoolfIdeal.nD Cert.RPoolfIdeal.τ).loc Cert.RPoolfIdeal.main_arg0) = m ((c.tc : Thread Cert.KPoolfIdeal.nD Cert.KPoolfIdeal.τ).loc Cert.KPoolfIdeal.main_arg0)
      ∧ m' ((c.tc : Thread Cert.RPoolfIdeal.nD Cert.RPoolfIdeal.τ).loc Cert.RPoolfIdeal.main_arg1) = m ((c.tc : Thread Cert.KPoolfIdeal.nD Cert.KPoolfIdeal.τ).loc Cert.KPoolfIdeal.main_arg1)
      ∧ m' ((c.tc : Thread Cert.RPoolfIdeal.nD Cert.RPoolfIdeal.τ).loc Cert.RPoolfIdeal.main_arg2) = m ((c.tc : Thread Cert.KPoolfIdeal.nD Cert.KPoolfIdeal.τ).loc Cert.KPoolfIdeal.main_arg2)) →
    ∃ (v0 : (c : Dev Cert.KPoolfIdeal.nD) → Buf (Elt Ideal) ((c.tc : Thread Cert.KPoolfIdeal.nD Cert.KPoolfIdeal.τ).loc Cert.KPoolfIdeal.main_v0)),
      θ_run (Cert.KPoolfIdeal.defs (F := Ideal)) (onTc (τ := Cert.KPoolfIdeal.τ) (Cert.KPoolfIdeal.main (F := Ideal))) ⟨m, fun _ => 0, g⟩ (fun r => ∀ c : Dev Cert.KPoolfIdeal.nD,
          r.2.mem ((c.tc : Thread Cert.KPoolfIdeal.nD Cert.KPoolfIdeal.τ).loc Cert.KPoolfIdeal.main_v0) = v0 c
          ∧ r.2.mem ((c.tc : Thread Cert.KPoolfIdeal.nD Cert.KPoolfIdeal.τ).loc Cert.KPoolfIdeal.main_arg0) = m ((c.tc : Thread Cert.KPoolfIdeal.nD Cert.KPoolfIdeal.τ).loc Cert.KPoolfIdeal.main_arg0)
          ∧ r.2.mem ((c.tc : Thread Cert.KPoolfIdeal.nD Cert.KPoolfIdeal.τ).loc Cert.KPoolfIdeal.main_arg1) = m ((c.tc : Thread Cert.KPoolfIdeal.nD Cert.KPoolfIdeal.τ).loc Cert.KPoolfIdeal.main_arg1)
          ∧ r.2.mem ((c.tc : Thread Cert.KPoolfIdeal.nD Cert.KPoolfIdeal.τ).loc Cert.KPoolfIdeal.main_arg2) = m ((c.tc : Thread Cert.KPoolfIdeal.nD Cert.KPoolfIdeal.τ).loc Cert.KPoolfIdeal.main_arg2))
      ∧ θ_run (Cert.RPoolfIdeal.defs (F := Ideal)) (onTc (τ := Cert.RPoolfIdeal.τ) (Cert.RPoolfIdeal.main (F := Ideal))) ⟨m', fun _ => 0, g'⟩ (fun r => ∀ c : Dev Cert.RPoolfIdeal.nD,
          r.2.mem ((c.tc : Thread Cert.RPoolfIdeal.nD Cert.RPoolfIdeal.τ).loc Cert.RPoolfIdeal.main_v71) = v0 c
          ∧ r.2.mem ((c.tc : Thread Cert.RPoolfIdeal.nD Cert.RPoolfIdeal.τ).loc Cert.RPoolfIdeal.main_arg0) = m' ((c.tc : Thread Cert.RPoolfIdeal.nD Cert.RPoolfIdeal.τ).loc Cert.RPoolfIdeal.main_arg0)
          ∧ r.2.mem ((c.tc : Thread Cert.RPoolfIdeal.nD Cert.RPoolfIdeal.τ).loc Cert.RPoolfIdeal.main_arg1) = m' ((c.tc : Thread Cert.RPoolfIdeal.nD Cert.RPoolfIdeal.τ).loc Cert.RPoolfIdeal.main_arg1)
          ∧ r.2.mem ((c.tc : Thread Cert.RPoolfIdeal.nD Cert.RPoolfIdeal.τ).loc Cert.RPoolfIdeal.main_arg2) = m' ((c.tc : Thread Cert.RPoolfIdeal.nD Cert.RPoolfIdeal.τ).loc Cert.RPoolfIdeal.main_arg2))

def preserves_KPostf_KPostfIdeal : Prop :=
  True

def algebraic_KPostfIdeal_RPostfIdeal [hKPostfIdeal : Cert.KPostfIdeal.Facts] [hRPostfIdeal : Cert.RPostfIdeal.Facts] : Prop :=
  ∀ (m : (ℓ : Loc Cert.KPostfIdeal.nD Cert.KPostfIdeal.τ Cert.KPostfIdeal.sig) → Buf (Elt Ideal) ℓ) (g : Dev Cert.KPostfIdeal.nD → PrngReg)
    (m' : (ℓ : Loc Cert.RPostfIdeal.nD Cert.RPostfIdeal.τ Cert.RPostfIdeal.sig) → Buf (Elt Ideal) ℓ) (g' : Dev Cert.RPostfIdeal.nD → PrngReg), Pre_KPostfIdeal m →
    (∀ c : Dev Cert.KPostfIdeal.nD,
      m' ((c.tc : Thread Cert.RPostfIdeal.nD Cert.RPostfIdeal.τ).loc Cert.RPostfIdeal.main_arg0) = m ((c.tc : Thread Cert.KPostfIdeal.nD Cert.KPostfIdeal.τ).loc Cert.KPostfIdeal.main_arg0)
      ∧ m' ((c.tc : Thread Cert.RPostfIdeal.nD Cert.RPostfIdeal.τ).loc Cert.RPostfIdeal.main_arg1) = m ((c.tc : Thread Cert.KPostfIdeal.nD Cert.KPostfIdeal.τ).loc Cert.KPostfIdeal.main_arg1)
      ∧ m' ((c.tc : Thread Cert.RPostfIdeal.nD Cert.RPostfIdeal.τ).loc Cert.RPostfIdeal.main_arg2) = m ((c.tc : Thread Cert.KPostfIdeal.nD Cert.KPostfIdeal.τ).loc Cert.KPostfIdeal.main_arg2)) →
    ∃ (v0 : (c : Dev Cert.KPostfIdeal.nD) → Buf (Elt Ideal) ((c.tc : Thread Cert.KPostfIdeal.nD Cert.KPostfIdeal.τ).loc Cert.KPostfIdeal.main_v0)),
      θ_run (Cert.KPostfIdeal.defs (F := Ideal)) (onTc (τ := Cert.KPostfIdeal.τ) (Cert.KPostfIdeal.main (F := Ideal))) ⟨m, fun _ => 0, g⟩ (fun r => ∀ c : Dev Cert.KPostfIdeal.nD,
          r.2.mem ((c.tc : Thread Cert.KPostfIdeal.nD Cert.KPostfIdeal.τ).loc Cert.KPostfIdeal.main_v0) = v0 c
          ∧ r.2.mem ((c.tc : Thread Cert.KPostfIdeal.nD Cert.KPostfIdeal.τ).loc Cert.KPostfIdeal.main_arg0) = m ((c.tc : Thread Cert.KPostfIdeal.nD Cert.KPostfIdeal.τ).loc Cert.KPostfIdeal.main_arg0)
          ∧ r.2.mem ((c.tc : Thread Cert.KPostfIdeal.nD Cert.KPostfIdeal.τ).loc Cert.KPostfIdeal.main_arg1) = m ((c.tc : Thread Cert.KPostfIdeal.nD Cert.KPostfIdeal.τ).loc Cert.KPostfIdeal.main_arg1)
          ∧ r.2.mem ((c.tc : Thread Cert.KPostfIdeal.nD Cert.KPostfIdeal.τ).loc Cert.KPostfIdeal.main_arg2) = m ((c.tc : Thread Cert.KPostfIdeal.nD Cert.KPostfIdeal.τ).loc Cert.KPostfIdeal.main_arg2))
      ∧ θ_run (Cert.RPostfIdeal.defs (F := Ideal)) (onTc (τ := Cert.RPostfIdeal.τ) (Cert.RPostfIdeal.main (F := Ideal))) ⟨m', fun _ => 0, g'⟩ (fun r => ∀ c : Dev Cert.RPostfIdeal.nD,
          r.2.mem ((c.tc : Thread Cert.RPostfIdeal.nD Cert.RPostfIdeal.τ).loc Cert.RPostfIdeal.main_v22) = v0 c
          ∧ r.2.mem ((c.tc : Thread Cert.RPostfIdeal.nD Cert.RPostfIdeal.τ).loc Cert.RPostfIdeal.main_arg0) = m' ((c.tc : Thread Cert.RPostfIdeal.nD Cert.RPostfIdeal.τ).loc Cert.RPostfIdeal.main_arg0)
          ∧ r.2.mem ((c.tc : Thread Cert.RPostfIdeal.nD Cert.RPostfIdeal.τ).loc Cert.RPostfIdeal.main_arg1) = m' ((c.tc : Thread Cert.RPostfIdeal.nD Cert.RPostfIdeal.τ).loc Cert.RPostfIdeal.main_arg1)
          ∧ r.2.mem ((c.tc : Thread Cert.RPostfIdeal.nD Cert.RPostfIdeal.τ).loc Cert.RPostfIdeal.main_arg2) = m' ((c.tc : Thread Cert.RPostfIdeal.nD Cert.RPostfIdeal.τ).loc Cert.RPostfIdeal.main_arg2))

def preserves_KPref_KPrefIdeal : Prop :=
  True

def algebraic_KPrefIdeal_RPrefIdeal [hKPrefIdeal : Cert.KPrefIdeal.Facts] [hRPrefIdeal : Cert.RPrefIdeal.Facts] : Prop :=
  ∀ (m : (ℓ : Loc Cert.KPrefIdeal.nD Cert.KPrefIdeal.τ Cert.KPrefIdeal.sig) → Buf (Elt Ideal) ℓ) (g : Dev Cert.KPrefIdeal.nD → PrngReg)
    (m' : (ℓ : Loc Cert.RPrefIdeal.nD Cert.RPrefIdeal.τ Cert.RPrefIdeal.sig) → Buf (Elt Ideal) ℓ) (g' : Dev Cert.RPrefIdeal.nD → PrngReg), Pre_KPrefIdeal m →
    (∀ c : Dev Cert.KPrefIdeal.nD,
      m' ((c.tc : Thread Cert.RPrefIdeal.nD Cert.RPrefIdeal.τ).loc Cert.RPrefIdeal.main_arg0) = m ((c.tc : Thread Cert.KPrefIdeal.nD Cert.KPrefIdeal.τ).loc Cert.KPrefIdeal.main_arg0)
      ∧ m' ((c.tc : Thread Cert.RPrefIdeal.nD Cert.RPrefIdeal.τ).loc Cert.RPrefIdeal.main_arg1) = m ((c.tc : Thread Cert.KPrefIdeal.nD Cert.KPrefIdeal.τ).loc Cert.KPrefIdeal.main_arg1)) →
    ∃ (v0 : (c : Dev Cert.KPrefIdeal.nD) → Buf (Elt Ideal) ((c.tc : Thread Cert.KPrefIdeal.nD Cert.KPrefIdeal.τ).loc Cert.KPrefIdeal.main_v0)),
      θ_run (Cert.KPrefIdeal.defs (F := Ideal)) (onTc (τ := Cert.KPrefIdeal.τ) (Cert.KPrefIdeal.main (F := Ideal))) ⟨m, fun _ => 0, g⟩ (fun r => ∀ c : Dev Cert.KPrefIdeal.nD,
          r.2.mem ((c.tc : Thread Cert.KPrefIdeal.nD Cert.KPrefIdeal.τ).loc Cert.KPrefIdeal.main_v0) = v0 c
          ∧ r.2.mem ((c.tc : Thread Cert.KPrefIdeal.nD Cert.KPrefIdeal.τ).loc Cert.KPrefIdeal.main_arg0) = m ((c.tc : Thread Cert.KPrefIdeal.nD Cert.KPrefIdeal.τ).loc Cert.KPrefIdeal.main_arg0)
          ∧ r.2.mem ((c.tc : Thread Cert.KPrefIdeal.nD Cert.KPrefIdeal.τ).loc Cert.KPrefIdeal.main_arg1) = m ((c.tc : Thread Cert.KPrefIdeal.nD Cert.KPrefIdeal.τ).loc Cert.KPrefIdeal.main_arg1))
      ∧ θ_run (Cert.RPrefIdeal.defs (F := Ideal)) (onTc (τ := Cert.RPrefIdeal.τ) (Cert.RPrefIdeal.main (F := Ideal))) ⟨m', fun _ => 0, g'⟩ (fun r => ∀ c : Dev Cert.RPrefIdeal.nD,
          r.2.mem ((c.tc : Thread Cert.RPrefIdeal.nD Cert.RPrefIdeal.τ).loc Cert.RPrefIdeal.main_v59) = v0 c
          ∧ r.2.mem ((c.tc : Thread Cert.RPrefIdeal.nD Cert.RPrefIdeal.τ).loc Cert.RPrefIdeal.main_arg0) = m' ((c.tc : Thread Cert.RPrefIdeal.nD Cert.RPrefIdeal.τ).loc Cert.RPrefIdeal.main_arg0)
          ∧ r.2.mem ((c.tc : Thread Cert.RPrefIdeal.nD Cert.RPrefIdeal.τ).loc Cert.RPrefIdeal.main_arg1) = m' ((c.tc : Thread Cert.RPrefIdeal.nD Cert.RPrefIdeal.τ).loc Cert.RPrefIdeal.main_arg1))

def preserves_KXqdx_KXqdxIdeal : Prop :=
  True

def algebraic_KXqdxIdeal_RXqdxIdeal_pre_finite_xqdx [hKXqdxIdeal : Cert.KXqdxIdeal.Facts] [hRXqdxIdeal : Cert.RXqdxIdeal.Facts] [hPre_finite_xqdx : Cert.Pre_finite_xqdx.Facts] : Prop :=
  ∀ (m : (ℓ : Loc Cert.KXqdxIdeal.nD Cert.KXqdxIdeal.τ Cert.KXqdxIdeal.sig) → Buf (Elt Ideal) ℓ) (g : Dev Cert.KXqdxIdeal.nD → PrngReg)
    (m' : (ℓ : Loc Cert.RXqdxIdeal.nD Cert.RXqdxIdeal.τ Cert.RXqdxIdeal.sig) → Buf (Elt Ideal) ℓ) (g' : Dev Cert.RXqdxIdeal.nD → PrngReg), Pre_KXqdxIdeal_finite_xqdx m →
    (∀ c : Dev Cert.KXqdxIdeal.nD,
      m' ((c.tc : Thread Cert.RXqdxIdeal.nD Cert.RXqdxIdeal.τ).loc Cert.RXqdxIdeal.main_arg0) = m ((c.tc : Thread Cert.KXqdxIdeal.nD Cert.KXqdxIdeal.τ).loc Cert.KXqdxIdeal.main_arg0)
      ∧ m' ((c.tc : Thread Cert.RXqdxIdeal.nD Cert.RXqdxIdeal.τ).loc Cert.RXqdxIdeal.main_arg1) = m ((c.tc : Thread Cert.KXqdxIdeal.nD Cert.KXqdxIdeal.τ).loc Cert.KXqdxIdeal.main_arg1)
      ∧ m' ((c.tc : Thread Cert.RXqdxIdeal.nD Cert.RXqdxIdeal.τ).loc Cert.RXqdxIdeal.main_arg2) = m ((c.tc : Thread Cert.KXqdxIdeal.nD Cert.KXqdxIdeal.τ).loc Cert.KXqdxIdeal.main_arg2)
      ∧ m' ((c.tc : Thread Cert.RXqdxIdeal.nD Cert.RXqdxIdeal.τ).loc Cert.RXqdxIdeal.main_arg3) = m ((c.tc : Thread Cert.KXqdxIdeal.nD Cert.KXqdxIdeal.τ).loc Cert.KXqdxIdeal.main_arg3)
      ∧ m' ((c.tc : Thread Cert.RXqdxIdeal.nD Cert.RXqdxIdeal.τ).loc Cert.RXqdxIdeal.main_arg4) = m ((c.tc : Thread Cert.KXqdxIdeal.nD Cert.KXqdxIdeal.τ).loc Cert.KXqdxIdeal.main_arg4)) →
    ∃ (v0 : (c : Dev Cert.KXqdxIdeal.nD) → Buf (Elt Ideal) ((c.tc : Thread Cert.KXqdxIdeal.nD Cert.KXqdxIdeal.τ).loc Cert.KXqdxIdeal.main_v16_0)) (v1 : (c : Dev Cert.KXqdxIdeal.nD) → Buf (Elt Ideal) ((c.tc : Thread Cert.KXqdxIdeal.nD Cert.KXqdxIdeal.τ).loc Cert.KXqdxIdeal.main_v16_1)) (v2 : (c : Dev Cert.KXqdxIdeal.nD) → Buf (Elt Ideal) ((c.tc : Thread Cert.KXqdxIdeal.nD Cert.KXqdxIdeal.τ).loc Cert.KXqdxIdeal.main_v16_2)) (v3 : (c : Dev Cert.KXqdxIdeal.nD) → Buf (Elt Ideal) ((c.tc : Thread Cert.KXqdxIdeal.nD Cert.KXqdxIdeal.τ).loc Cert.KXqdxIdeal.main_v16_3)),
      θ_run (Cert.KXqdxIdeal.defs (F := Ideal)) (onTc (τ := Cert.KXqdxIdeal.τ) (Cert.KXqdxIdeal.main (F := Ideal))) ⟨m, fun _ => 0, g⟩ (fun r => ∀ c : Dev Cert.KXqdxIdeal.nD,
          r.2.mem ((c.tc : Thread Cert.KXqdxIdeal.nD Cert.KXqdxIdeal.τ).loc Cert.KXqdxIdeal.main_v16_0) = v0 c
          ∧ r.2.mem ((c.tc : Thread Cert.KXqdxIdeal.nD Cert.KXqdxIdeal.τ).loc Cert.KXqdxIdeal.main_v16_1) = v1 c
          ∧ r.2.mem ((c.tc : Thread Cert.KXqdxIdeal.nD Cert.KXqdxIdeal.τ).loc Cert.KXqdxIdeal.main_v16_2) = v2 c
          ∧ r.2.mem ((c.tc : Thread Cert.KXqdxIdeal.nD Cert.KXqdxIdeal.τ).loc Cert.KXqdxIdeal.main_v16_3) = v3 c
          ∧ r.2.mem ((c.tc : Thread Cert.KXqdxIdeal.nD Cert.KXqdxIdeal.τ).loc Cert.KXqdxIdeal.main_arg0) = m ((c.tc : Thread Cert.KXqdxIdeal.nD Cert.KXqdxIdeal.τ).loc Cert.KXqdxIdeal.main_arg0)
          ∧ r.2.mem ((c.tc : Thread Cert.KXqdxIdeal.nD Cert.KXqdxIdeal.τ).loc Cert.KXqdxIdeal.main_arg1) = m ((c.tc : Thread Cert.KXqdxIdeal.nD Cert.KXqdxIdeal.τ).loc Cert.KXqdxIdeal.main_arg1)
          ∧ r.2.mem ((c.tc : Thread Cert.KXqdxIdeal.nD Cert.KXqdxIdeal.τ).loc Cert.KXqdxIdeal.main_arg2) = m ((c.tc : Thread Cert.KXqdxIdeal.nD Cert.KXqdxIdeal.τ).loc Cert.KXqdxIdeal.main_arg2)
          ∧ r.2.mem ((c.tc : Thread Cert.KXqdxIdeal.nD Cert.KXqdxIdeal.τ).loc Cert.KXqdxIdeal.main_arg3) = m ((c.tc : Thread Cert.KXqdxIdeal.nD Cert.KXqdxIdeal.τ).loc Cert.KXqdxIdeal.main_arg3)
          ∧ r.2.mem ((c.tc : Thread Cert.KXqdxIdeal.nD Cert.KXqdxIdeal.τ).loc Cert.KXqdxIdeal.main_arg4) = m ((c.tc : Thread Cert.KXqdxIdeal.nD Cert.KXqdxIdeal.τ).loc Cert.KXqdxIdeal.main_arg4))
      ∧ θ_run (Cert.RXqdxIdeal.defs (F := Ideal)) (onTc (τ := Cert.RXqdxIdeal.τ) (Cert.RXqdxIdeal.main (F := Ideal))) ⟨m', fun _ => 0, g'⟩ (fun r => ∀ c : Dev Cert.RXqdxIdeal.nD,
          r.2.mem ((c.tc : Thread Cert.RXqdxIdeal.nD Cert.RXqdxIdeal.τ).loc Cert.RXqdxIdeal.main_v66) = v0 c
          ∧ r.2.mem ((c.tc : Thread Cert.RXqdxIdeal.nD Cert.RXqdxIdeal.τ).loc Cert.RXqdxIdeal.main_v67) = v1 c
          ∧ r.2.mem ((c.tc : Thread Cert.RXqdxIdeal.nD Cert.RXqdxIdeal.τ).loc Cert.RXqdxIdeal.main_v68) = v2 c
          ∧ r.2.mem ((c.tc : Thread Cert.RXqdxIdeal.nD Cert.RXqdxIdeal.τ).loc Cert.RXqdxIdeal.main_v69) = v3 c
          ∧ r.2.mem ((c.tc : Thread Cert.RXqdxIdeal.nD Cert.RXqdxIdeal.τ).loc Cert.RXqdxIdeal.main_arg0) = m' ((c.tc : Thread Cert.RXqdxIdeal.nD Cert.RXqdxIdeal.τ).loc Cert.RXqdxIdeal.main_arg0)
          ∧ r.2.mem ((c.tc : Thread Cert.RXqdxIdeal.nD Cert.RXqdxIdeal.τ).loc Cert.RXqdxIdeal.main_arg1) = m' ((c.tc : Thread Cert.RXqdxIdeal.nD Cert.RXqdxIdeal.τ).loc Cert.RXqdxIdeal.main_arg1)
          ∧ r.2.mem ((c.tc : Thread Cert.RXqdxIdeal.nD Cert.RXqdxIdeal.τ).loc Cert.RXqdxIdeal.main_arg2) = m' ((c.tc : Thread Cert.RXqdxIdeal.nD Cert.RXqdxIdeal.τ).loc Cert.RXqdxIdeal.main_arg2)
          ∧ r.2.mem ((c.tc : Thread Cert.RXqdxIdeal.nD Cert.RXqdxIdeal.τ).loc Cert.RXqdxIdeal.main_arg3) = m' ((c.tc : Thread Cert.RXqdxIdeal.nD Cert.RXqdxIdeal.τ).loc Cert.RXqdxIdeal.main_arg3)
          ∧ r.2.mem ((c.tc : Thread Cert.RXqdxIdeal.nD Cert.RXqdxIdeal.τ).loc Cert.RXqdxIdeal.main_arg4) = m' ((c.tc : Thread Cert.RXqdxIdeal.nD Cert.RXqdxIdeal.τ).loc Cert.RXqdxIdeal.main_arg4))

def preserves_KMlpdx_KMlpdxIdeal : Prop :=
  True

def algebraic_KMlpdxIdeal_RMlpdxIdeal [hKMlpdxIdeal : Cert.KMlpdxIdeal.Facts] [hRMlpdxIdeal : Cert.RMlpdxIdeal.Facts] : Prop :=
  ∀ (m : (ℓ : Loc Cert.KMlpdxIdeal.nD Cert.KMlpdxIdeal.τ Cert.KMlpdxIdeal.sig) → Buf (Elt Ideal) ℓ) (g : Dev Cert.KMlpdxIdeal.nD → PrngReg)
    (m' : (ℓ : Loc Cert.RMlpdxIdeal.nD Cert.RMlpdxIdeal.τ Cert.RMlpdxIdeal.sig) → Buf (Elt Ideal) ℓ) (g' : Dev Cert.RMlpdxIdeal.nD → PrngReg), Pre_KMlpdxIdeal m →
    (∀ c : Dev Cert.KMlpdxIdeal.nD,
      m' ((c.tc : Thread Cert.RMlpdxIdeal.nD Cert.RMlpdxIdeal.τ).loc Cert.RMlpdxIdeal.main_arg0) = m ((c.tc : Thread Cert.KMlpdxIdeal.nD Cert.KMlpdxIdeal.τ).loc Cert.KMlpdxIdeal.main_arg0)
      ∧ m' ((c.tc : Thread Cert.RMlpdxIdeal.nD Cert.RMlpdxIdeal.τ).loc Cert.RMlpdxIdeal.main_arg1) = m ((c.tc : Thread Cert.KMlpdxIdeal.nD Cert.KMlpdxIdeal.τ).loc Cert.KMlpdxIdeal.main_arg1)
      ∧ m' ((c.tc : Thread Cert.RMlpdxIdeal.nD Cert.RMlpdxIdeal.τ).loc Cert.RMlpdxIdeal.main_arg2) = m ((c.tc : Thread Cert.KMlpdxIdeal.nD Cert.KMlpdxIdeal.τ).loc Cert.KMlpdxIdeal.main_arg2)) →
    ∃ (v0 : (c : Dev Cert.KMlpdxIdeal.nD) → Buf (Elt Ideal) ((c.tc : Thread Cert.KMlpdxIdeal.nD Cert.KMlpdxIdeal.τ).loc Cert.KMlpdxIdeal.main_v4)),
      θ_run (Cert.KMlpdxIdeal.defs (F := Ideal)) (onTc (τ := Cert.KMlpdxIdeal.τ) (Cert.KMlpdxIdeal.main (F := Ideal))) ⟨m, fun _ => 0, g⟩ (fun r => ∀ c : Dev Cert.KMlpdxIdeal.nD,
          r.2.mem ((c.tc : Thread Cert.KMlpdxIdeal.nD Cert.KMlpdxIdeal.τ).loc Cert.KMlpdxIdeal.main_v4) = v0 c
          ∧ r.2.mem ((c.tc : Thread Cert.KMlpdxIdeal.nD Cert.KMlpdxIdeal.τ).loc Cert.KMlpdxIdeal.main_arg0) = m ((c.tc : Thread Cert.KMlpdxIdeal.nD Cert.KMlpdxIdeal.τ).loc Cert.KMlpdxIdeal.main_arg0)
          ∧ r.2.mem ((c.tc : Thread Cert.KMlpdxIdeal.nD Cert.KMlpdxIdeal.τ).loc Cert.KMlpdxIdeal.main_arg1) = m ((c.tc : Thread Cert.KMlpdxIdeal.nD Cert.KMlpdxIdeal.τ).loc Cert.KMlpdxIdeal.main_arg1)
          ∧ r.2.mem ((c.tc : Thread Cert.KMlpdxIdeal.nD Cert.KMlpdxIdeal.τ).loc Cert.KMlpdxIdeal.main_arg2) = m ((c.tc : Thread Cert.KMlpdxIdeal.nD Cert.KMlpdxIdeal.τ).loc Cert.KMlpdxIdeal.main_arg2))
      ∧ θ_run (Cert.RMlpdxIdeal.defs (F := Ideal)) (onTc (τ := Cert.RMlpdxIdeal.τ) (Cert.RMlpdxIdeal.main (F := Ideal))) ⟨m', fun _ => 0, g'⟩ (fun r => ∀ c : Dev Cert.RMlpdxIdeal.nD,
          r.2.mem ((c.tc : Thread Cert.RMlpdxIdeal.nD Cert.RMlpdxIdeal.τ).loc Cert.RMlpdxIdeal.main_v14) = v0 c
          ∧ r.2.mem ((c.tc : Thread Cert.RMlpdxIdeal.nD Cert.RMlpdxIdeal.τ).loc Cert.RMlpdxIdeal.main_arg0) = m' ((c.tc : Thread Cert.RMlpdxIdeal.nD Cert.RMlpdxIdeal.τ).loc Cert.RMlpdxIdeal.main_arg0)
          ∧ r.2.mem ((c.tc : Thread Cert.RMlpdxIdeal.nD Cert.RMlpdxIdeal.τ).loc Cert.RMlpdxIdeal.main_arg1) = m' ((c.tc : Thread Cert.RMlpdxIdeal.nD Cert.RMlpdxIdeal.τ).loc Cert.RMlpdxIdeal.main_arg1)
          ∧ r.2.mem ((c.tc : Thread Cert.RMlpdxIdeal.nD Cert.RMlpdxIdeal.τ).loc Cert.RMlpdxIdeal.main_arg2) = m' ((c.tc : Thread Cert.RMlpdxIdeal.nD Cert.RMlpdxIdeal.τ).loc Cert.RMlpdxIdeal.main_arg2))

def preserves_KLnf_KLnfIdeal : Prop :=
  True

def algebraic_KLnfIdeal_RLnfIdeal [hKLnfIdeal : Cert.KLnfIdeal.Facts] [hRLnfIdeal : Cert.RLnfIdeal.Facts] : Prop :=
  ∀ (m : (ℓ : Loc Cert.KLnfIdeal.nD Cert.KLnfIdeal.τ Cert.KLnfIdeal.sig) → Buf (Elt Ideal) ℓ) (g : Dev Cert.KLnfIdeal.nD → PrngReg)
    (m' : (ℓ : Loc Cert.RLnfIdeal.nD Cert.RLnfIdeal.τ Cert.RLnfIdeal.sig) → Buf (Elt Ideal) ℓ) (g' : Dev Cert.RLnfIdeal.nD → PrngReg), Pre_KLnfIdeal m →
    (∀ c : Dev Cert.KLnfIdeal.nD,
      m' ((c.tc : Thread Cert.RLnfIdeal.nD Cert.RLnfIdeal.τ).loc Cert.RLnfIdeal.main_arg0) = m ((c.tc : Thread Cert.KLnfIdeal.nD Cert.KLnfIdeal.τ).loc Cert.KLnfIdeal.main_arg0)
      ∧ m' ((c.tc : Thread Cert.RLnfIdeal.nD Cert.RLnfIdeal.τ).loc Cert.RLnfIdeal.main_arg1) = m ((c.tc : Thread Cert.KLnfIdeal.nD Cert.KLnfIdeal.τ).loc Cert.KLnfIdeal.main_arg1)
      ∧ m' ((c.tc : Thread Cert.RLnfIdeal.nD Cert.RLnfIdeal.τ).loc Cert.RLnfIdeal.main_arg2) = m ((c.tc : Thread Cert.KLnfIdeal.nD Cert.KLnfIdeal.τ).loc Cert.KLnfIdeal.main_arg2)
      ∧ m' ((c.tc : Thread Cert.RLnfIdeal.nD Cert.RLnfIdeal.τ).loc Cert.RLnfIdeal.main_arg3) = m ((c.tc : Thread Cert.KLnfIdeal.nD Cert.KLnfIdeal.τ).loc Cert.KLnfIdeal.main_arg3)
      ∧ m' ((c.tc : Thread Cert.RLnfIdeal.nD Cert.RLnfIdeal.τ).loc Cert.RLnfIdeal.main_arg4) = m ((c.tc : Thread Cert.KLnfIdeal.nD Cert.KLnfIdeal.τ).loc Cert.KLnfIdeal.main_arg4)) →
    ∃ (v0 : (c : Dev Cert.KLnfIdeal.nD) → Buf (Elt Ideal) ((c.tc : Thread Cert.KLnfIdeal.nD Cert.KLnfIdeal.τ).loc Cert.KLnfIdeal.main_v0_0)) (v1 : (c : Dev Cert.KLnfIdeal.nD) → Buf (Elt Ideal) ((c.tc : Thread Cert.KLnfIdeal.nD Cert.KLnfIdeal.τ).loc Cert.KLnfIdeal.main_v0_1)) (v2 : (c : Dev Cert.KLnfIdeal.nD) → Buf (Elt Ideal) ((c.tc : Thread Cert.KLnfIdeal.nD Cert.KLnfIdeal.τ).loc Cert.KLnfIdeal.main_v0_2)) (v3 : (c : Dev Cert.KLnfIdeal.nD) → Buf (Elt Ideal) ((c.tc : Thread Cert.KLnfIdeal.nD Cert.KLnfIdeal.τ).loc Cert.KLnfIdeal.main_v0_3)),
      θ_run (Cert.KLnfIdeal.defs (F := Ideal)) (onTc (τ := Cert.KLnfIdeal.τ) (Cert.KLnfIdeal.main (F := Ideal))) ⟨m, fun _ => 0, g⟩ (fun r => ∀ c : Dev Cert.KLnfIdeal.nD,
          r.2.mem ((c.tc : Thread Cert.KLnfIdeal.nD Cert.KLnfIdeal.τ).loc Cert.KLnfIdeal.main_v0_0) = v0 c
          ∧ r.2.mem ((c.tc : Thread Cert.KLnfIdeal.nD Cert.KLnfIdeal.τ).loc Cert.KLnfIdeal.main_v0_1) = v1 c
          ∧ r.2.mem ((c.tc : Thread Cert.KLnfIdeal.nD Cert.KLnfIdeal.τ).loc Cert.KLnfIdeal.main_v0_2) = v2 c
          ∧ r.2.mem ((c.tc : Thread Cert.KLnfIdeal.nD Cert.KLnfIdeal.τ).loc Cert.KLnfIdeal.main_v0_3) = v3 c
          ∧ r.2.mem ((c.tc : Thread Cert.KLnfIdeal.nD Cert.KLnfIdeal.τ).loc Cert.KLnfIdeal.main_arg0) = m ((c.tc : Thread Cert.KLnfIdeal.nD Cert.KLnfIdeal.τ).loc Cert.KLnfIdeal.main_arg0)
          ∧ r.2.mem ((c.tc : Thread Cert.KLnfIdeal.nD Cert.KLnfIdeal.τ).loc Cert.KLnfIdeal.main_arg1) = m ((c.tc : Thread Cert.KLnfIdeal.nD Cert.KLnfIdeal.τ).loc Cert.KLnfIdeal.main_arg1)
          ∧ r.2.mem ((c.tc : Thread Cert.KLnfIdeal.nD Cert.KLnfIdeal.τ).loc Cert.KLnfIdeal.main_arg2) = m ((c.tc : Thread Cert.KLnfIdeal.nD Cert.KLnfIdeal.τ).loc Cert.KLnfIdeal.main_arg2)
          ∧ r.2.mem ((c.tc : Thread Cert.KLnfIdeal.nD Cert.KLnfIdeal.τ).loc Cert.KLnfIdeal.main_arg3) = m ((c.tc : Thread Cert.KLnfIdeal.nD Cert.KLnfIdeal.τ).loc Cert.KLnfIdeal.main_arg3)
          ∧ r.2.mem ((c.tc : Thread Cert.KLnfIdeal.nD Cert.KLnfIdeal.τ).loc Cert.KLnfIdeal.main_arg4) = m ((c.tc : Thread Cert.KLnfIdeal.nD Cert.KLnfIdeal.τ).loc Cert.KLnfIdeal.main_arg4))
      ∧ θ_run (Cert.RLnfIdeal.defs (F := Ideal)) (onTc (τ := Cert.RLnfIdeal.τ) (Cert.RLnfIdeal.main (F := Ideal))) ⟨m', fun _ => 0, g'⟩ (fun r => ∀ c : Dev Cert.RLnfIdeal.nD,
          r.2.mem ((c.tc : Thread Cert.RLnfIdeal.nD Cert.RLnfIdeal.τ).loc Cert.RLnfIdeal.main_v29) = v0 c
          ∧ r.2.mem ((c.tc : Thread Cert.RLnfIdeal.nD Cert.RLnfIdeal.τ).loc Cert.RLnfIdeal.main_v30) = v1 c
          ∧ r.2.mem ((c.tc : Thread Cert.RLnfIdeal.nD Cert.RLnfIdeal.τ).loc Cert.RLnfIdeal.main_v46) = v2 c
          ∧ r.2.mem ((c.tc : Thread Cert.RLnfIdeal.nD Cert.RLnfIdeal.τ).loc Cert.RLnfIdeal.main_v44) = v3 c
          ∧ r.2.mem ((c.tc : Thread Cert.RLnfIdeal.nD Cert.RLnfIdeal.τ).loc Cert.RLnfIdeal.main_arg0) = m' ((c.tc : Thread Cert.RLnfIdeal.nD Cert.RLnfIdeal.τ).loc Cert.RLnfIdeal.main_arg0)
          ∧ r.2.mem ((c.tc : Thread Cert.RLnfIdeal.nD Cert.RLnfIdeal.τ).loc Cert.RLnfIdeal.main_arg1) = m' ((c.tc : Thread Cert.RLnfIdeal.nD Cert.RLnfIdeal.τ).loc Cert.RLnfIdeal.main_arg1)
          ∧ r.2.mem ((c.tc : Thread Cert.RLnfIdeal.nD Cert.RLnfIdeal.τ).loc Cert.RLnfIdeal.main_arg2) = m' ((c.tc : Thread Cert.RLnfIdeal.nD Cert.RLnfIdeal.τ).loc Cert.RLnfIdeal.main_arg2)
          ∧ r.2.mem ((c.tc : Thread Cert.RLnfIdeal.nD Cert.RLnfIdeal.τ).loc Cert.RLnfIdeal.main_arg3) = m' ((c.tc : Thread Cert.RLnfIdeal.nD Cert.RLnfIdeal.τ).loc Cert.RLnfIdeal.main_arg3)
          ∧ r.2.mem ((c.tc : Thread Cert.RLnfIdeal.nD Cert.RLnfIdeal.τ).loc Cert.RLnfIdeal.main_arg4) = m' ((c.tc : Thread Cert.RLnfIdeal.nD Cert.RLnfIdeal.τ).loc Cert.RLnfIdeal.main_arg4))

def preserves_KUpf_KUpfIdeal : Prop :=
  True

def algebraic_KUpfIdeal_RUpfIdeal [hKUpfIdeal : Cert.KUpfIdeal.Facts] [hRUpfIdeal : Cert.RUpfIdeal.Facts] : Prop :=
  ∀ (m : (ℓ : Loc Cert.KUpfIdeal.nD Cert.KUpfIdeal.τ Cert.KUpfIdeal.sig) → Buf (Elt Ideal) ℓ) (g : Dev Cert.KUpfIdeal.nD → PrngReg)
    (m' : (ℓ : Loc Cert.RUpfIdeal.nD Cert.RUpfIdeal.τ Cert.RUpfIdeal.sig) → Buf (Elt Ideal) ℓ) (g' : Dev Cert.RUpfIdeal.nD → PrngReg), Pre_KUpfIdeal m →
    (∀ c : Dev Cert.KUpfIdeal.nD,
      m' ((c.tc : Thread Cert.RUpfIdeal.nD Cert.RUpfIdeal.τ).loc Cert.RUpfIdeal.main_arg0) = m ((c.tc : Thread Cert.KUpfIdeal.nD Cert.KUpfIdeal.τ).loc Cert.KUpfIdeal.main_arg0)
      ∧ m' ((c.tc : Thread Cert.RUpfIdeal.nD Cert.RUpfIdeal.τ).loc Cert.RUpfIdeal.main_arg1) = m ((c.tc : Thread Cert.KUpfIdeal.nD Cert.KUpfIdeal.τ).loc Cert.KUpfIdeal.main_arg1)) →
    ∃ (v0 : (c : Dev Cert.KUpfIdeal.nD) → Buf (Elt Ideal) ((c.tc : Thread Cert.KUpfIdeal.nD Cert.KUpfIdeal.τ).loc Cert.KUpfIdeal.main_v0_0)) (v1 : (c : Dev Cert.KUpfIdeal.nD) → Buf (Elt Ideal) ((c.tc : Thread Cert.KUpfIdeal.nD Cert.KUpfIdeal.τ).loc Cert.KUpfIdeal.main_v0_1)),
      θ_run (Cert.KUpfIdeal.defs (F := Ideal)) (onTc (τ := Cert.KUpfIdeal.τ) (Cert.KUpfIdeal.main (F := Ideal))) ⟨m, fun _ => 0, g⟩ (fun r => ∀ c : Dev Cert.KUpfIdeal.nD,
          r.2.mem ((c.tc : Thread Cert.KUpfIdeal.nD Cert.KUpfIdeal.τ).loc Cert.KUpfIdeal.main_v0_0) = v0 c
          ∧ r.2.mem ((c.tc : Thread Cert.KUpfIdeal.nD Cert.KUpfIdeal.τ).loc Cert.KUpfIdeal.main_v0_1) = v1 c
          ∧ r.2.mem ((c.tc : Thread Cert.KUpfIdeal.nD Cert.KUpfIdeal.τ).loc Cert.KUpfIdeal.main_arg0) = m ((c.tc : Thread Cert.KUpfIdeal.nD Cert.KUpfIdeal.τ).loc Cert.KUpfIdeal.main_arg0)
          ∧ r.2.mem ((c.tc : Thread Cert.KUpfIdeal.nD Cert.KUpfIdeal.τ).loc Cert.KUpfIdeal.main_arg1) = m ((c.tc : Thread Cert.KUpfIdeal.nD Cert.KUpfIdeal.τ).loc Cert.KUpfIdeal.main_arg1))
      ∧ θ_run (Cert.RUpfIdeal.defs (F := Ideal)) (onTc (τ := Cert.RUpfIdeal.τ) (Cert.RUpfIdeal.main (F := Ideal))) ⟨m', fun _ => 0, g'⟩ (fun r => ∀ c : Dev Cert.RUpfIdeal.nD,
          r.2.mem ((c.tc : Thread Cert.RUpfIdeal.nD Cert.RUpfIdeal.τ).loc Cert.RUpfIdeal.main_v12) = v0 c
          ∧ r.2.mem ((c.tc : Thread Cert.RUpfIdeal.nD Cert.RUpfIdeal.τ).loc Cert.RUpfIdeal.main_v17) = v1 c
          ∧ r.2.mem ((c.tc : Thread Cert.RUpfIdeal.nD Cert.RUpfIdeal.τ).loc Cert.RUpfIdeal.main_arg0) = m' ((c.tc : Thread Cert.RUpfIdeal.nD Cert.RUpfIdeal.τ).loc Cert.RUpfIdeal.main_arg0)
          ∧ r.2.mem ((c.tc : Thread Cert.RUpfIdeal.nD Cert.RUpfIdeal.τ).loc Cert.RUpfIdeal.main_arg1) = m' ((c.tc : Thread Cert.RUpfIdeal.nD Cert.RUpfIdeal.τ).loc Cert.RUpfIdeal.main_arg1))

def preserves_KGatesf_KGatesfIdeal : Prop :=
  True

def algebraic_KGatesfIdeal_RGatesfIdeal [hKGatesfIdeal : Cert.KGatesfIdeal.Facts] [hRGatesfIdeal : Cert.RGatesfIdeal.Facts] : Prop :=
  ∀ (m : (ℓ : Loc Cert.KGatesfIdeal.nD Cert.KGatesfIdeal.τ Cert.KGatesfIdeal.sig) → Buf (Elt Ideal) ℓ) (g : Dev Cert.KGatesfIdeal.nD → PrngReg)
    (m' : (ℓ : Loc Cert.RGatesfIdeal.nD Cert.RGatesfIdeal.τ Cert.RGatesfIdeal.sig) → Buf (Elt Ideal) ℓ) (g' : Dev Cert.RGatesfIdeal.nD → PrngReg), Pre_KGatesfIdeal m →
    (∀ c : Dev Cert.KGatesfIdeal.nD,
      m' ((c.tc : Thread Cert.RGatesfIdeal.nD Cert.RGatesfIdeal.τ).loc Cert.RGatesfIdeal.main_arg0) = m ((c.tc : Thread Cert.KGatesfIdeal.nD Cert.KGatesfIdeal.τ).loc Cert.KGatesfIdeal.main_arg0)
      ∧ m' ((c.tc : Thread Cert.RGatesfIdeal.nD Cert.RGatesfIdeal.τ).loc Cert.RGatesfIdeal.main_arg1) = m ((c.tc : Thread Cert.KGatesfIdeal.nD Cert.KGatesfIdeal.τ).loc Cert.KGatesfIdeal.main_arg1)
      ∧ m' ((c.tc : Thread Cert.RGatesfIdeal.nD Cert.RGatesfIdeal.τ).loc Cert.RGatesfIdeal.main_arg2) = m ((c.tc : Thread Cert.KGatesfIdeal.nD Cert.KGatesfIdeal.τ).loc Cert.KGatesfIdeal.main_arg2)
      ∧ m' ((c.tc : Thread Cert.RGatesfIdeal.nD Cert.RGatesfIdeal.τ).loc Cert.RGatesfIdeal.main_arg3) = m ((c.tc : Thread Cert.KGatesfIdeal.nD Cert.KGatesfIdeal.τ).loc Cert.KGatesfIdeal.main_arg3)) →
    ∃ (v0 : (c : Dev Cert.KGatesfIdeal.nD) → Buf (Elt Ideal) ((c.tc : Thread Cert.KGatesfIdeal.nD Cert.KGatesfIdeal.τ).loc Cert.KGatesfIdeal.main_v4_0)) (v1 : (c : Dev Cert.KGatesfIdeal.nD) → Buf (Elt Ideal) ((c.tc : Thread Cert.KGatesfIdeal.nD Cert.KGatesfIdeal.τ).loc Cert.KGatesfIdeal.main_v4_1)),
      θ_run (Cert.KGatesfIdeal.defs (F := Ideal)) (onTc (τ := Cert.KGatesfIdeal.τ) (Cert.KGatesfIdeal.main (F := Ideal))) ⟨m, fun _ => 0, g⟩ (fun r => ∀ c : Dev Cert.KGatesfIdeal.nD,
          r.2.mem ((c.tc : Thread Cert.KGatesfIdeal.nD Cert.KGatesfIdeal.τ).loc Cert.KGatesfIdeal.main_v4_0) = v0 c
          ∧ r.2.mem ((c.tc : Thread Cert.KGatesfIdeal.nD Cert.KGatesfIdeal.τ).loc Cert.KGatesfIdeal.main_v4_1) = v1 c
          ∧ r.2.mem ((c.tc : Thread Cert.KGatesfIdeal.nD Cert.KGatesfIdeal.τ).loc Cert.KGatesfIdeal.main_arg0) = m ((c.tc : Thread Cert.KGatesfIdeal.nD Cert.KGatesfIdeal.τ).loc Cert.KGatesfIdeal.main_arg0)
          ∧ r.2.mem ((c.tc : Thread Cert.KGatesfIdeal.nD Cert.KGatesfIdeal.τ).loc Cert.KGatesfIdeal.main_arg1) = m ((c.tc : Thread Cert.KGatesfIdeal.nD Cert.KGatesfIdeal.τ).loc Cert.KGatesfIdeal.main_arg1)
          ∧ r.2.mem ((c.tc : Thread Cert.KGatesfIdeal.nD Cert.KGatesfIdeal.τ).loc Cert.KGatesfIdeal.main_arg2) = m ((c.tc : Thread Cert.KGatesfIdeal.nD Cert.KGatesfIdeal.τ).loc Cert.KGatesfIdeal.main_arg2)
          ∧ r.2.mem ((c.tc : Thread Cert.KGatesfIdeal.nD Cert.KGatesfIdeal.τ).loc Cert.KGatesfIdeal.main_arg3) = m ((c.tc : Thread Cert.KGatesfIdeal.nD Cert.KGatesfIdeal.τ).loc Cert.KGatesfIdeal.main_arg3))
      ∧ θ_run (Cert.RGatesfIdeal.defs (F := Ideal)) (onTc (τ := Cert.RGatesfIdeal.τ) (Cert.RGatesfIdeal.main (F := Ideal))) ⟨m', fun _ => 0, g'⟩ (fun r => ∀ c : Dev Cert.RGatesfIdeal.nD,
          r.2.mem ((c.tc : Thread Cert.RGatesfIdeal.nD Cert.RGatesfIdeal.τ).loc Cert.RGatesfIdeal.main_v25) = v0 c
          ∧ r.2.mem ((c.tc : Thread Cert.RGatesfIdeal.nD Cert.RGatesfIdeal.τ).loc Cert.RGatesfIdeal.main_v29) = v1 c
          ∧ r.2.mem ((c.tc : Thread Cert.RGatesfIdeal.nD Cert.RGatesfIdeal.τ).loc Cert.RGatesfIdeal.main_arg0) = m' ((c.tc : Thread Cert.RGatesfIdeal.nD Cert.RGatesfIdeal.τ).loc Cert.RGatesfIdeal.main_arg0)
          ∧ r.2.mem ((c.tc : Thread Cert.RGatesfIdeal.nD Cert.RGatesfIdeal.τ).loc Cert.RGatesfIdeal.main_arg1) = m' ((c.tc : Thread Cert.RGatesfIdeal.nD Cert.RGatesfIdeal.τ).loc Cert.RGatesfIdeal.main_arg1)
          ∧ r.2.mem ((c.tc : Thread Cert.RGatesfIdeal.nD Cert.RGatesfIdeal.τ).loc Cert.RGatesfIdeal.main_arg2) = m' ((c.tc : Thread Cert.RGatesfIdeal.nD Cert.RGatesfIdeal.τ).loc Cert.RGatesfIdeal.main_arg2)
          ∧ r.2.mem ((c.tc : Thread Cert.RGatesfIdeal.nD Cert.RGatesfIdeal.τ).loc Cert.RGatesfIdeal.main_arg3) = m' ((c.tc : Thread Cert.RGatesfIdeal.nD Cert.RGatesfIdeal.τ).loc Cert.RGatesfIdeal.main_arg3))

def preserves_KDownf_KDownfIdeal : Prop :=
  True

def algebraic_KDownfIdeal_RDownfIdeal [hKDownfIdeal : Cert.KDownfIdeal.Facts] [hRDownfIdeal : Cert.RDownfIdeal.Facts] : Prop :=
  ∀ (m : (ℓ : Loc Cert.KDownfIdeal.nD Cert.KDownfIdeal.τ Cert.KDownfIdeal.sig) → Buf (Elt Ideal) ℓ) (g : Dev Cert.KDownfIdeal.nD → PrngReg)
    (m' : (ℓ : Loc Cert.RDownfIdeal.nD Cert.RDownfIdeal.τ Cert.RDownfIdeal.sig) → Buf (Elt Ideal) ℓ) (g' : Dev Cert.RDownfIdeal.nD → PrngReg), Pre_KDownfIdeal m →
    (∀ c : Dev Cert.KDownfIdeal.nD,
      m' ((c.tc : Thread Cert.RDownfIdeal.nD Cert.RDownfIdeal.τ).loc Cert.RDownfIdeal.main_arg0) = m ((c.tc : Thread Cert.KDownfIdeal.nD Cert.KDownfIdeal.τ).loc Cert.KDownfIdeal.main_arg0)
      ∧ m' ((c.tc : Thread Cert.RDownfIdeal.nD Cert.RDownfIdeal.τ).loc Cert.RDownfIdeal.main_arg1) = m ((c.tc : Thread Cert.KDownfIdeal.nD Cert.KDownfIdeal.τ).loc Cert.KDownfIdeal.main_arg1)
      ∧ m' ((c.tc : Thread Cert.RDownfIdeal.nD Cert.RDownfIdeal.τ).loc Cert.RDownfIdeal.main_arg2) = m ((c.tc : Thread Cert.KDownfIdeal.nD Cert.KDownfIdeal.τ).loc Cert.KDownfIdeal.main_arg2)
      ∧ m' ((c.tc : Thread Cert.RDownfIdeal.nD Cert.RDownfIdeal.τ).loc Cert.RDownfIdeal.main_arg3) = m ((c.tc : Thread Cert.KDownfIdeal.nD Cert.KDownfIdeal.τ).loc Cert.KDownfIdeal.main_arg3)
      ∧ m' ((c.tc : Thread Cert.RDownfIdeal.nD Cert.RDownfIdeal.τ).loc Cert.RDownfIdeal.main_arg4) = m ((c.tc : Thread Cert.KDownfIdeal.nD Cert.KDownfIdeal.τ).loc Cert.KDownfIdeal.main_arg4)) →
    ∃ (v0 : (c : Dev Cert.KDownfIdeal.nD) → Buf (Elt Ideal) ((c.tc : Thread Cert.KDownfIdeal.nD Cert.KDownfIdeal.τ).loc Cert.KDownfIdeal.main_v0_0)) (v1 : (c : Dev Cert.KDownfIdeal.nD) → Buf (Elt Ideal) ((c.tc : Thread Cert.KDownfIdeal.nD Cert.KDownfIdeal.τ).loc Cert.KDownfIdeal.main_v0_1)),
      θ_run (Cert.KDownfIdeal.defs (F := Ideal)) (onTc (τ := Cert.KDownfIdeal.τ) (Cert.KDownfIdeal.main (F := Ideal))) ⟨m, fun _ => 0, g⟩ (fun r => ∀ c : Dev Cert.KDownfIdeal.nD,
          r.2.mem ((c.tc : Thread Cert.KDownfIdeal.nD Cert.KDownfIdeal.τ).loc Cert.KDownfIdeal.main_v0_0) = v0 c
          ∧ r.2.mem ((c.tc : Thread Cert.KDownfIdeal.nD Cert.KDownfIdeal.τ).loc Cert.KDownfIdeal.main_v0_1) = v1 c
          ∧ r.2.mem ((c.tc : Thread Cert.KDownfIdeal.nD Cert.KDownfIdeal.τ).loc Cert.KDownfIdeal.main_arg0) = m ((c.tc : Thread Cert.KDownfIdeal.nD Cert.KDownfIdeal.τ).loc Cert.KDownfIdeal.main_arg0)
          ∧ r.2.mem ((c.tc : Thread Cert.KDownfIdeal.nD Cert.KDownfIdeal.τ).loc Cert.KDownfIdeal.main_arg1) = m ((c.tc : Thread Cert.KDownfIdeal.nD Cert.KDownfIdeal.τ).loc Cert.KDownfIdeal.main_arg1)
          ∧ r.2.mem ((c.tc : Thread Cert.KDownfIdeal.nD Cert.KDownfIdeal.τ).loc Cert.KDownfIdeal.main_arg2) = m ((c.tc : Thread Cert.KDownfIdeal.nD Cert.KDownfIdeal.τ).loc Cert.KDownfIdeal.main_arg2)
          ∧ r.2.mem ((c.tc : Thread Cert.KDownfIdeal.nD Cert.KDownfIdeal.τ).loc Cert.KDownfIdeal.main_arg3) = m ((c.tc : Thread Cert.KDownfIdeal.nD Cert.KDownfIdeal.τ).loc Cert.KDownfIdeal.main_arg3)
          ∧ r.2.mem ((c.tc : Thread Cert.KDownfIdeal.nD Cert.KDownfIdeal.τ).loc Cert.KDownfIdeal.main_arg4) = m ((c.tc : Thread Cert.KDownfIdeal.nD Cert.KDownfIdeal.τ).loc Cert.KDownfIdeal.main_arg4))
      ∧ θ_run (Cert.RDownfIdeal.defs (F := Ideal)) (onTc (τ := Cert.RDownfIdeal.τ) (Cert.RDownfIdeal.main (F := Ideal))) ⟨m', fun _ => 0, g'⟩ (fun r => ∀ c : Dev Cert.RDownfIdeal.nD,
          r.2.mem ((c.tc : Thread Cert.RDownfIdeal.nD Cert.RDownfIdeal.τ).loc Cert.RDownfIdeal.main_v21) = v0 c
          ∧ r.2.mem ((c.tc : Thread Cert.RDownfIdeal.nD Cert.RDownfIdeal.τ).loc Cert.RDownfIdeal.main_v19) = v1 c
          ∧ r.2.mem ((c.tc : Thread Cert.RDownfIdeal.nD Cert.RDownfIdeal.τ).loc Cert.RDownfIdeal.main_arg0) = m' ((c.tc : Thread Cert.RDownfIdeal.nD Cert.RDownfIdeal.τ).loc Cert.RDownfIdeal.main_arg0)
          ∧ r.2.mem ((c.tc : Thread Cert.RDownfIdeal.nD Cert.RDownfIdeal.τ).loc Cert.RDownfIdeal.main_arg1) = m' ((c.tc : Thread Cert.RDownfIdeal.nD Cert.RDownfIdeal.τ).loc Cert.RDownfIdeal.main_arg1)
          ∧ r.2.mem ((c.tc : Thread Cert.RDownfIdeal.nD Cert.RDownfIdeal.τ).loc Cert.RDownfIdeal.main_arg2) = m' ((c.tc : Thread Cert.RDownfIdeal.nD Cert.RDownfIdeal.τ).loc Cert.RDownfIdeal.main_arg2)
          ∧ r.2.mem ((c.tc : Thread Cert.RDownfIdeal.nD Cert.RDownfIdeal.τ).loc Cert.RDownfIdeal.main_arg3) = m' ((c.tc : Thread Cert.RDownfIdeal.nD Cert.RDownfIdeal.τ).loc Cert.RDownfIdeal.main_arg3)
          ∧ r.2.mem ((c.tc : Thread Cert.RDownfIdeal.nD Cert.RDownfIdeal.τ).loc Cert.RDownfIdeal.main_arg4) = m' ((c.tc : Thread Cert.RDownfIdeal.nD Cert.RDownfIdeal.τ).loc Cert.RDownfIdeal.main_arg4))

def preserves_KProjdx_KProjdxIdeal : Prop :=
  True

def algebraic_KProjdxIdeal_RProjdxIdeal [hKProjdxIdeal : Cert.KProjdxIdeal.Facts] [hRProjdxIdeal : Cert.RProjdxIdeal.Facts] : Prop :=
  ∀ (m : (ℓ : Loc Cert.KProjdxIdeal.nD Cert.KProjdxIdeal.τ Cert.KProjdxIdeal.sig) → Buf (Elt Ideal) ℓ) (g : Dev Cert.KProjdxIdeal.nD → PrngReg)
    (m' : (ℓ : Loc Cert.RProjdxIdeal.nD Cert.RProjdxIdeal.τ Cert.RProjdxIdeal.sig) → Buf (Elt Ideal) ℓ) (g' : Dev Cert.RProjdxIdeal.nD → PrngReg), Pre_KProjdxIdeal m →
    (∀ c : Dev Cert.KProjdxIdeal.nD,
      m' ((c.tc : Thread Cert.RProjdxIdeal.nD Cert.RProjdxIdeal.τ).loc Cert.RProjdxIdeal.main_arg0) = m ((c.tc : Thread Cert.KProjdxIdeal.nD Cert.KProjdxIdeal.τ).loc Cert.KProjdxIdeal.main_arg0)
      ∧ m' ((c.tc : Thread Cert.RProjdxIdeal.nD Cert.RProjdxIdeal.τ).loc Cert.RProjdxIdeal.main_arg1) = m ((c.tc : Thread Cert.KProjdxIdeal.nD Cert.KProjdxIdeal.τ).loc Cert.KProjdxIdeal.main_arg1)
      ∧ m' ((c.tc : Thread Cert.RProjdxIdeal.nD Cert.RProjdxIdeal.τ).loc Cert.RProjdxIdeal.main_arg2) = m ((c.tc : Thread Cert.KProjdxIdeal.nD Cert.KProjdxIdeal.τ).loc Cert.KProjdxIdeal.main_arg2)
      ∧ m' ((c.tc : Thread Cert.RProjdxIdeal.nD Cert.RProjdxIdeal.τ).loc Cert.RProjdxIdeal.main_arg3) = m ((c.tc : Thread Cert.KProjdxIdeal.nD Cert.KProjdxIdeal.τ).loc Cert.KProjdxIdeal.main_arg3)
      ∧ m' ((c.tc : Thread Cert.RProjdxIdeal.nD Cert.RProjdxIdeal.τ).loc Cert.RProjdxIdeal.main_arg4) = m ((c.tc : Thread Cert.KProjdxIdeal.nD Cert.KProjdxIdeal.τ).loc Cert.KProjdxIdeal.main_arg4)
      ∧ m' ((c.tc : Thread Cert.RProjdxIdeal.nD Cert.RProjdxIdeal.τ).loc Cert.RProjdxIdeal.main_arg5) = m ((c.tc : Thread Cert.KProjdxIdeal.nD Cert.KProjdxIdeal.τ).loc Cert.KProjdxIdeal.main_arg5)) →
    ∃ (v0 : (c : Dev Cert.KProjdxIdeal.nD) → Buf (Elt Ideal) ((c.tc : Thread Cert.KProjdxIdeal.nD Cert.KProjdxIdeal.τ).loc Cert.KProjdxIdeal.main_v5)),
      θ_run (Cert.KProjdxIdeal.defs (F := Ideal)) (onTc (τ := Cert.KProjdxIdeal.τ) (Cert.KProjdxIdeal.main (F := Ideal))) ⟨m, fun _ => 0, g⟩ (fun r => ∀ c : Dev Cert.KProjdxIdeal.nD,
          r.2.mem ((c.tc : Thread Cert.KProjdxIdeal.nD Cert.KProjdxIdeal.τ).loc Cert.KProjdxIdeal.main_v5) = v0 c
          ∧ r.2.mem ((c.tc : Thread Cert.KProjdxIdeal.nD Cert.KProjdxIdeal.τ).loc Cert.KProjdxIdeal.main_arg0) = m ((c.tc : Thread Cert.KProjdxIdeal.nD Cert.KProjdxIdeal.τ).loc Cert.KProjdxIdeal.main_arg0)
          ∧ r.2.mem ((c.tc : Thread Cert.KProjdxIdeal.nD Cert.KProjdxIdeal.τ).loc Cert.KProjdxIdeal.main_arg1) = m ((c.tc : Thread Cert.KProjdxIdeal.nD Cert.KProjdxIdeal.τ).loc Cert.KProjdxIdeal.main_arg1)
          ∧ r.2.mem ((c.tc : Thread Cert.KProjdxIdeal.nD Cert.KProjdxIdeal.τ).loc Cert.KProjdxIdeal.main_arg2) = m ((c.tc : Thread Cert.KProjdxIdeal.nD Cert.KProjdxIdeal.τ).loc Cert.KProjdxIdeal.main_arg2)
          ∧ r.2.mem ((c.tc : Thread Cert.KProjdxIdeal.nD Cert.KProjdxIdeal.τ).loc Cert.KProjdxIdeal.main_arg3) = m ((c.tc : Thread Cert.KProjdxIdeal.nD Cert.KProjdxIdeal.τ).loc Cert.KProjdxIdeal.main_arg3)
          ∧ r.2.mem ((c.tc : Thread Cert.KProjdxIdeal.nD Cert.KProjdxIdeal.τ).loc Cert.KProjdxIdeal.main_arg4) = m ((c.tc : Thread Cert.KProjdxIdeal.nD Cert.KProjdxIdeal.τ).loc Cert.KProjdxIdeal.main_arg4)
          ∧ r.2.mem ((c.tc : Thread Cert.KProjdxIdeal.nD Cert.KProjdxIdeal.τ).loc Cert.KProjdxIdeal.main_arg5) = m ((c.tc : Thread Cert.KProjdxIdeal.nD Cert.KProjdxIdeal.τ).loc Cert.KProjdxIdeal.main_arg5))
      ∧ θ_run (Cert.RProjdxIdeal.defs (F := Ideal)) (onTc (τ := Cert.RProjdxIdeal.τ) (Cert.RProjdxIdeal.main (F := Ideal))) ⟨m', fun _ => 0, g'⟩ (fun r => ∀ c : Dev Cert.RProjdxIdeal.nD,
          r.2.mem ((c.tc : Thread Cert.RProjdxIdeal.nD Cert.RProjdxIdeal.τ).loc Cert.RProjdxIdeal.main_v25) = v0 c
          ∧ r.2.mem ((c.tc : Thread Cert.RProjdxIdeal.nD Cert.RProjdxIdeal.τ).loc Cert.RProjdxIdeal.main_arg0) = m' ((c.tc : Thread Cert.RProjdxIdeal.nD Cert.RProjdxIdeal.τ).loc Cert.RProjdxIdeal.main_arg0)
          ∧ r.2.mem ((c.tc : Thread Cert.RProjdxIdeal.nD Cert.RProjdxIdeal.τ).loc Cert.RProjdxIdeal.main_arg1) = m' ((c.tc : Thread Cert.RProjdxIdeal.nD Cert.RProjdxIdeal.τ).loc Cert.RProjdxIdeal.main_arg1)
          ∧ r.2.mem ((c.tc : Thread Cert.RProjdxIdeal.nD Cert.RProjdxIdeal.τ).loc Cert.RProjdxIdeal.main_arg2) = m' ((c.tc : Thread Cert.RProjdxIdeal.nD Cert.RProjdxIdeal.τ).loc Cert.RProjdxIdeal.main_arg2)
          ∧ r.2.mem ((c.tc : Thread Cert.RProjdxIdeal.nD Cert.RProjdxIdeal.τ).loc Cert.RProjdxIdeal.main_arg3) = m' ((c.tc : Thread Cert.RProjdxIdeal.nD Cert.RProjdxIdeal.τ).loc Cert.RProjdxIdeal.main_arg3)
          ∧ r.2.mem ((c.tc : Thread Cert.RProjdxIdeal.nD Cert.RProjdxIdeal.τ).loc Cert.RProjdxIdeal.main_arg4) = m' ((c.tc : Thread Cert.RProjdxIdeal.nD Cert.RProjdxIdeal.τ).loc Cert.RProjdxIdeal.main_arg4)
          ∧ r.2.mem ((c.tc : Thread Cert.RProjdxIdeal.nD Cert.RProjdxIdeal.τ).loc Cert.RProjdxIdeal.main_arg5) = m' ((c.tc : Thread Cert.RProjdxIdeal.nD Cert.RProjdxIdeal.τ).loc Cert.RProjdxIdeal.main_arg5))

def preserves_KDowndw_KDowndwIdeal : Prop :=
  True

def algebraic_KDowndwIdeal_RDowndwIdeal [hKDowndwIdeal : Cert.KDowndwIdeal.Facts] [hRDowndwIdeal : Cert.RDowndwIdeal.Facts] : Prop :=
  ∀ (m : (ℓ : Loc Cert.KDowndwIdeal.nD Cert.KDowndwIdeal.τ Cert.KDowndwIdeal.sig) → Buf (Elt Ideal) ℓ) (g : Dev Cert.KDowndwIdeal.nD → PrngReg)
    (m' : (ℓ : Loc Cert.RDowndwIdeal.nD Cert.RDowndwIdeal.τ Cert.RDowndwIdeal.sig) → Buf (Elt Ideal) ℓ) (g' : Dev Cert.RDowndwIdeal.nD → PrngReg), Pre_KDowndwIdeal m →
    (∀ c : Dev Cert.KDowndwIdeal.nD,
      m' ((c.tc : Thread Cert.RDowndwIdeal.nD Cert.RDowndwIdeal.τ).loc Cert.RDowndwIdeal.main_arg0) = m ((c.tc : Thread Cert.KDowndwIdeal.nD Cert.KDowndwIdeal.τ).loc Cert.KDowndwIdeal.main_arg0)
      ∧ m' ((c.tc : Thread Cert.RDowndwIdeal.nD Cert.RDowndwIdeal.τ).loc Cert.RDowndwIdeal.main_arg1) = m ((c.tc : Thread Cert.KDowndwIdeal.nD Cert.KDowndwIdeal.τ).loc Cert.KDowndwIdeal.main_arg1)) →
    ∃ (v0 : (c : Dev Cert.KDowndwIdeal.nD) → Buf (Elt Ideal) ((c.tc : Thread Cert.KDowndwIdeal.nD Cert.KDowndwIdeal.τ).loc Cert.KDowndwIdeal.main_v0)),
      θ_run (Cert.KDowndwIdeal.defs (F := Ideal)) (onTc (τ := Cert.KDowndwIdeal.τ) (Cert.KDowndwIdeal.main (F := Ideal))) ⟨m, fun _ => 0, g⟩ (fun r => ∀ c : Dev Cert.KDowndwIdeal.nD,
          r.2.mem ((c.tc : Thread Cert.KDowndwIdeal.nD Cert.KDowndwIdeal.τ).loc Cert.KDowndwIdeal.main_v0) = v0 c
          ∧ r.2.mem ((c.tc : Thread Cert.KDowndwIdeal.nD Cert.KDowndwIdeal.τ).loc Cert.KDowndwIdeal.main_arg0) = m ((c.tc : Thread Cert.KDowndwIdeal.nD Cert.KDowndwIdeal.τ).loc Cert.KDowndwIdeal.main_arg0)
          ∧ r.2.mem ((c.tc : Thread Cert.KDowndwIdeal.nD Cert.KDowndwIdeal.τ).loc Cert.KDowndwIdeal.main_arg1) = m ((c.tc : Thread Cert.KDowndwIdeal.nD Cert.KDowndwIdeal.τ).loc Cert.KDowndwIdeal.main_arg1))
      ∧ θ_run (Cert.RDowndwIdeal.defs (F := Ideal)) (onTc (τ := Cert.RDowndwIdeal.τ) (Cert.RDowndwIdeal.main (F := Ideal))) ⟨m', fun _ => 0, g'⟩ (fun r => ∀ c : Dev Cert.RDowndwIdeal.nD,
          r.2.mem ((c.tc : Thread Cert.RDowndwIdeal.nD Cert.RDowndwIdeal.τ).loc Cert.RDowndwIdeal.main_v5) = v0 c
          ∧ r.2.mem ((c.tc : Thread Cert.RDowndwIdeal.nD Cert.RDowndwIdeal.τ).loc Cert.RDowndwIdeal.main_arg0) = m' ((c.tc : Thread Cert.RDowndwIdeal.nD Cert.RDowndwIdeal.τ).loc Cert.RDowndwIdeal.main_arg0)
          ∧ r.2.mem ((c.tc : Thread Cert.RDowndwIdeal.nD Cert.RDowndwIdeal.τ).loc Cert.RDowndwIdeal.main_arg1) = m' ((c.tc : Thread Cert.RDowndwIdeal.nD Cert.RDowndwIdeal.τ).loc Cert.RDowndwIdeal.main_arg1))

def preserves_KAdam_KAdamIdeal : Prop :=
  True

def algebraic_KAdamIdeal_RAdamIdeal [hKAdamIdeal : Cert.KAdamIdeal.Facts] [hRAdamIdeal : Cert.RAdamIdeal.Facts] : Prop :=
  ∀ (m : (ℓ : Loc Cert.KAdamIdeal.nD Cert.KAdamIdeal.τ Cert.KAdamIdeal.sig) → Buf (Elt Ideal) ℓ) (g : Dev Cert.KAdamIdeal.nD → PrngReg)
    (m' : (ℓ : Loc Cert.RAdamIdeal.nD Cert.RAdamIdeal.τ Cert.RAdamIdeal.sig) → Buf (Elt Ideal) ℓ) (g' : Dev Cert.RAdamIdeal.nD → PrngReg), Pre_KAdamIdeal m →
    (∀ c : Dev Cert.KAdamIdeal.nD,
      m' ((c.tc : Thread Cert.RAdamIdeal.nD Cert.RAdamIdeal.τ).loc Cert.RAdamIdeal.main_arg0) = m ((c.tc : Thread Cert.KAdamIdeal.nD Cert.KAdamIdeal.τ).loc Cert.KAdamIdeal.main_arg0)
      ∧ m' ((c.tc : Thread Cert.RAdamIdeal.nD Cert.RAdamIdeal.τ).loc Cert.RAdamIdeal.main_arg1) = m ((c.tc : Thread Cert.KAdamIdeal.nD Cert.KAdamIdeal.τ).loc Cert.KAdamIdeal.main_arg1)
      ∧ m' ((c.tc : Thread Cert.RAdamIdeal.nD Cert.RAdamIdeal.τ).loc Cert.RAdamIdeal.main_arg2) = m ((c.tc : Thread Cert.KAdamIdeal.nD Cert.KAdamIdeal.τ).loc Cert.KAdamIdeal.main_arg2)
      ∧ m' ((c.tc : Thread Cert.RAdamIdeal.nD Cert.RAdamIdeal.τ).loc Cert.RAdamIdeal.main_arg3) = m ((c.tc : Thread Cert.KAdamIdeal.nD Cert.KAdamIdeal.τ).loc Cert.KAdamIdeal.main_arg3)) →
    ∃ (v0 : (c : Dev Cert.KAdamIdeal.nD) → Buf (Elt Ideal) ((c.tc : Thread Cert.KAdamIdeal.nD Cert.KAdamIdeal.τ).loc Cert.KAdamIdeal.main_v0_0)) (v1 : (c : Dev Cert.KAdamIdeal.nD) → Buf (Elt Ideal) ((c.tc : Thread Cert.KAdamIdeal.nD Cert.KAdamIdeal.τ).loc Cert.KAdamIdeal.main_v0_1)) (v2 : (c : Dev Cert.KAdamIdeal.nD) → Buf (Elt Ideal) ((c.tc : Thread Cert.KAdamIdeal.nD Cert.KAdamIdeal.τ).loc Cert.KAdamIdeal.main_v0_2)) (v3 : (c : Dev Cert.KAdamIdeal.nD) → Buf (Elt Ideal) ((c.tc : Thread Cert.KAdamIdeal.nD Cert.KAdamIdeal.τ).loc Cert.KAdamIdeal.main_v0_3)),
      θ_run (Cert.KAdamIdeal.defs (F := Ideal)) (onTc (τ := Cert.KAdamIdeal.τ) (Cert.KAdamIdeal.main (F := Ideal))) ⟨m, fun _ => 0, g⟩ (fun r => ∀ c : Dev Cert.KAdamIdeal.nD,
          r.2.mem ((c.tc : Thread Cert.KAdamIdeal.nD Cert.KAdamIdeal.τ).loc Cert.KAdamIdeal.main_v0_0) = v0 c
          ∧ r.2.mem ((c.tc : Thread Cert.KAdamIdeal.nD Cert.KAdamIdeal.τ).loc Cert.KAdamIdeal.main_v0_1) = v1 c
          ∧ r.2.mem ((c.tc : Thread Cert.KAdamIdeal.nD Cert.KAdamIdeal.τ).loc Cert.KAdamIdeal.main_v0_2) = v2 c
          ∧ r.2.mem ((c.tc : Thread Cert.KAdamIdeal.nD Cert.KAdamIdeal.τ).loc Cert.KAdamIdeal.main_v0_3) = v3 c
          ∧ r.2.mem ((c.tc : Thread Cert.KAdamIdeal.nD Cert.KAdamIdeal.τ).loc Cert.KAdamIdeal.main_arg0) = m ((c.tc : Thread Cert.KAdamIdeal.nD Cert.KAdamIdeal.τ).loc Cert.KAdamIdeal.main_arg0)
          ∧ r.2.mem ((c.tc : Thread Cert.KAdamIdeal.nD Cert.KAdamIdeal.τ).loc Cert.KAdamIdeal.main_arg1) = m ((c.tc : Thread Cert.KAdamIdeal.nD Cert.KAdamIdeal.τ).loc Cert.KAdamIdeal.main_arg1)
          ∧ r.2.mem ((c.tc : Thread Cert.KAdamIdeal.nD Cert.KAdamIdeal.τ).loc Cert.KAdamIdeal.main_arg2) = m ((c.tc : Thread Cert.KAdamIdeal.nD Cert.KAdamIdeal.τ).loc Cert.KAdamIdeal.main_arg2)
          ∧ r.2.mem ((c.tc : Thread Cert.KAdamIdeal.nD Cert.KAdamIdeal.τ).loc Cert.KAdamIdeal.main_arg3) = m ((c.tc : Thread Cert.KAdamIdeal.nD Cert.KAdamIdeal.τ).loc Cert.KAdamIdeal.main_arg3))
      ∧ θ_run (Cert.RAdamIdeal.defs (F := Ideal)) (onTc (τ := Cert.RAdamIdeal.τ) (Cert.RAdamIdeal.main (F := Ideal))) ⟨m', fun _ => 0, g'⟩ (fun r => ∀ c : Dev Cert.RAdamIdeal.nD,
          r.2.mem ((c.tc : Thread Cert.RAdamIdeal.nD Cert.RAdamIdeal.τ).loc Cert.RAdamIdeal.main_v23) = v0 c
          ∧ r.2.mem ((c.tc : Thread Cert.RAdamIdeal.nD Cert.RAdamIdeal.τ).loc Cert.RAdamIdeal.main_v4) = v1 c
          ∧ r.2.mem ((c.tc : Thread Cert.RAdamIdeal.nD Cert.RAdamIdeal.τ).loc Cert.RAdamIdeal.main_v10) = v2 c
          ∧ r.2.mem ((c.tc : Thread Cert.RAdamIdeal.nD Cert.RAdamIdeal.τ).loc Cert.RAdamIdeal.main_arg1) = v3 c
          ∧ r.2.mem ((c.tc : Thread Cert.RAdamIdeal.nD Cert.RAdamIdeal.τ).loc Cert.RAdamIdeal.main_arg0) = m' ((c.tc : Thread Cert.RAdamIdeal.nD Cert.RAdamIdeal.τ).loc Cert.RAdamIdeal.main_arg0)
          ∧ r.2.mem ((c.tc : Thread Cert.RAdamIdeal.nD Cert.RAdamIdeal.τ).loc Cert.RAdamIdeal.main_arg1) = m' ((c.tc : Thread Cert.RAdamIdeal.nD Cert.RAdamIdeal.τ).loc Cert.RAdamIdeal.main_arg1)
          ∧ r.2.mem ((c.tc : Thread Cert.RAdamIdeal.nD Cert.RAdamIdeal.τ).loc Cert.RAdamIdeal.main_arg2) = m' ((c.tc : Thread Cert.RAdamIdeal.nD Cert.RAdamIdeal.τ).loc Cert.RAdamIdeal.main_arg2)
          ∧ r.2.mem ((c.tc : Thread Cert.RAdamIdeal.nD Cert.RAdamIdeal.τ).loc Cert.RAdamIdeal.main_arg3) = m' ((c.tc : Thread Cert.RAdamIdeal.nD Cert.RAdamIdeal.τ).loc Cert.RAdamIdeal.main_arg3))

def preserves_KChippart_KChippartIdeal : Prop :=
  True

def algebraic_KChippartIdeal_RChippartIdeal [hKChippartIdeal : Cert.KChippartIdeal.Facts] [hRChippartIdeal : Cert.RChippartIdeal.Facts] [hPre_core_below_two : Cert.Pre_core_below_two.Facts] : Prop :=
  ∀ (m : (ℓ : Loc Cert.KChippartIdeal.nD Cert.KChippartIdeal.τ Cert.KChippartIdeal.sig) → Buf (Elt Ideal) ℓ) (g : Dev Cert.KChippartIdeal.nD → PrngReg)
    (m' : (ℓ : Loc Cert.RChippartIdeal.nD Cert.RChippartIdeal.τ Cert.RChippartIdeal.sig) → Buf (Elt Ideal) ℓ) (g' : Dev Cert.RChippartIdeal.nD → PrngReg), Pre_KChippartIdeal m →
    (∀ c : Dev Cert.KChippartIdeal.nD,
      m' ((c.tc : Thread Cert.RChippartIdeal.nD Cert.RChippartIdeal.τ).loc Cert.RChippartIdeal.main_arg0) = m ((c.tc : Thread Cert.KChippartIdeal.nD Cert.KChippartIdeal.τ).loc Cert.KChippartIdeal.main_arg0)
      ∧ m' ((c.tc : Thread Cert.RChippartIdeal.nD Cert.RChippartIdeal.τ).loc Cert.RChippartIdeal.main_arg1) = m ((c.tc : Thread Cert.KChippartIdeal.nD Cert.KChippartIdeal.τ).loc Cert.KChippartIdeal.main_arg1)
      ∧ m' ((c.tc : Thread Cert.RChippartIdeal.nD Cert.RChippartIdeal.τ).loc Cert.RChippartIdeal.main_arg2) = m ((c.tc : Thread Cert.KChippartIdeal.nD Cert.KChippartIdeal.τ).loc Cert.KChippartIdeal.main_arg2)) →
    ∃ (v0 : (c : Dev Cert.KChippartIdeal.nD) → Buf (Elt Ideal) ((c.tc : Thread Cert.KChippartIdeal.nD Cert.KChippartIdeal.τ).loc Cert.KChippartIdeal.main_v0)),
      θ_run (Cert.KChippartIdeal.defs (F := Ideal)) (onTc (τ := Cert.KChippartIdeal.τ) (Cert.KChippartIdeal.main (F := Ideal))) ⟨m, fun _ => 0, g⟩ (fun r => ∀ c : Dev Cert.KChippartIdeal.nD,
          r.2.mem ((c.tc : Thread Cert.KChippartIdeal.nD Cert.KChippartIdeal.τ).loc Cert.KChippartIdeal.main_v0) = v0 c
          ∧ r.2.mem ((c.tc : Thread Cert.KChippartIdeal.nD Cert.KChippartIdeal.τ).loc Cert.KChippartIdeal.main_arg0) = m ((c.tc : Thread Cert.KChippartIdeal.nD Cert.KChippartIdeal.τ).loc Cert.KChippartIdeal.main_arg0)
          ∧ r.2.mem ((c.tc : Thread Cert.KChippartIdeal.nD Cert.KChippartIdeal.τ).loc Cert.KChippartIdeal.main_arg1) = m ((c.tc : Thread Cert.KChippartIdeal.nD Cert.KChippartIdeal.τ).loc Cert.KChippartIdeal.main_arg1)
          ∧ r.2.mem ((c.tc : Thread Cert.KChippartIdeal.nD Cert.KChippartIdeal.τ).loc Cert.KChippartIdeal.main_arg2) = m ((c.tc : Thread Cert.KChippartIdeal.nD Cert.KChippartIdeal.τ).loc Cert.KChippartIdeal.main_arg2))
      ∧ θ_run (Cert.RChippartIdeal.defs (F := Ideal)) (onTc (τ := Cert.RChippartIdeal.τ) (Cert.RChippartIdeal.main (F := Ideal))) ⟨m', fun _ => 0, g'⟩ (fun r => ∀ c : Dev Cert.RChippartIdeal.nD,
          r.2.mem ((c.tc : Thread Cert.RChippartIdeal.nD Cert.RChippartIdeal.τ).loc Cert.RChippartIdeal.main_v7) = v0 c
          ∧ r.2.mem ((c.tc : Thread Cert.RChippartIdeal.nD Cert.RChippartIdeal.τ).loc Cert.RChippartIdeal.main_arg0) = m' ((c.tc : Thread Cert.RChippartIdeal.nD Cert.RChippartIdeal.τ).loc Cert.RChippartIdeal.main_arg0)
          ∧ r.2.mem ((c.tc : Thread Cert.RChippartIdeal.nD Cert.RChippartIdeal.τ).loc Cert.RChippartIdeal.main_arg1) = m' ((c.tc : Thread Cert.RChippartIdeal.nD Cert.RChippartIdeal.τ).loc Cert.RChippartIdeal.main_arg1)
          ∧ r.2.mem ((c.tc : Thread Cert.RChippartIdeal.nD Cert.RChippartIdeal.τ).loc Cert.RChippartIdeal.main_arg2) = m' ((c.tc : Thread Cert.RChippartIdeal.nD Cert.RChippartIdeal.τ).loc Cert.RChippartIdeal.main_arg2))

def preserves_KSmall_KSmallIdeal : Prop :=
  True

def algebraic_KSmallIdeal_RSmallIdeal [hKSmallIdeal : Cert.KSmallIdeal.Facts] [hRSmallIdeal : Cert.RSmallIdeal.Facts] : Prop :=
  ∀ (m : (ℓ : Loc Cert.KSmallIdeal.nD Cert.KSmallIdeal.τ Cert.KSmallIdeal.sig) → Buf (Elt Ideal) ℓ) (g : Dev Cert.KSmallIdeal.nD → PrngReg)
    (m' : (ℓ : Loc Cert.RSmallIdeal.nD Cert.RSmallIdeal.τ Cert.RSmallIdeal.sig) → Buf (Elt Ideal) ℓ) (g' : Dev Cert.RSmallIdeal.nD → PrngReg), Pre_KSmallIdeal m →
    (∀ c : Dev Cert.KSmallIdeal.nD,
      m' ((c.tc : Thread Cert.RSmallIdeal.nD Cert.RSmallIdeal.τ).loc Cert.RSmallIdeal.main_arg0) = m ((c.tc : Thread Cert.KSmallIdeal.nD Cert.KSmallIdeal.τ).loc Cert.KSmallIdeal.main_arg0)
      ∧ m' ((c.tc : Thread Cert.RSmallIdeal.nD Cert.RSmallIdeal.τ).loc Cert.RSmallIdeal.main_arg1) = m ((c.tc : Thread Cert.KSmallIdeal.nD Cert.KSmallIdeal.τ).loc Cert.KSmallIdeal.main_arg1)
      ∧ m' ((c.tc : Thread Cert.RSmallIdeal.nD Cert.RSmallIdeal.τ).loc Cert.RSmallIdeal.main_arg2) = m ((c.tc : Thread Cert.KSmallIdeal.nD Cert.KSmallIdeal.τ).loc Cert.KSmallIdeal.main_arg2)
      ∧ m' ((c.tc : Thread Cert.RSmallIdeal.nD Cert.RSmallIdeal.τ).loc Cert.RSmallIdeal.main_arg3) = m ((c.tc : Thread Cert.KSmallIdeal.nD Cert.KSmallIdeal.τ).loc Cert.KSmallIdeal.main_arg3)
      ∧ m' ((c.tc : Thread Cert.RSmallIdeal.nD Cert.RSmallIdeal.τ).loc Cert.RSmallIdeal.main_arg4) = m ((c.tc : Thread Cert.KSmallIdeal.nD Cert.KSmallIdeal.τ).loc Cert.KSmallIdeal.main_arg4)
      ∧ m' ((c.tc : Thread Cert.RSmallIdeal.nD Cert.RSmallIdeal.τ).loc Cert.RSmallIdeal.main_arg5) = m ((c.tc : Thread Cert.KSmallIdeal.nD Cert.KSmallIdeal.τ).loc Cert.KSmallIdeal.main_arg5)
      ∧ m' ((c.tc : Thread Cert.RSmallIdeal.nD Cert.RSmallIdeal.τ).loc Cert.RSmallIdeal.main_arg6) = m ((c.tc : Thread Cert.KSmallIdeal.nD Cert.KSmallIdeal.τ).loc Cert.KSmallIdeal.main_arg6)
      ∧ m' ((c.tc : Thread Cert.RSmallIdeal.nD Cert.RSmallIdeal.τ).loc Cert.RSmallIdeal.main_arg7) = m ((c.tc : Thread Cert.KSmallIdeal.nD Cert.KSmallIdeal.τ).loc Cert.KSmallIdeal.main_arg7)
      ∧ m' ((c.tc : Thread Cert.RSmallIdeal.nD Cert.RSmallIdeal.τ).loc Cert.RSmallIdeal.main_arg8) = m ((c.tc : Thread Cert.KSmallIdeal.nD Cert.KSmallIdeal.τ).loc Cert.KSmallIdeal.main_arg8)
      ∧ m' ((c.tc : Thread Cert.RSmallIdeal.nD Cert.RSmallIdeal.τ).loc Cert.RSmallIdeal.main_arg9) = m ((c.tc : Thread Cert.KSmallIdeal.nD Cert.KSmallIdeal.τ).loc Cert.KSmallIdeal.main_arg9)
      ∧ m' ((c.tc : Thread Cert.RSmallIdeal.nD Cert.RSmallIdeal.τ).loc Cert.RSmallIdeal.main_arg10) = m ((c.tc : Thread Cert.KSmallIdeal.nD Cert.KSmallIdeal.τ).loc Cert.KSmallIdeal.main_arg10)
      ∧ m' ((c.tc : Thread Cert.RSmallIdeal.nD Cert.RSmallIdeal.τ).loc Cert.RSmallIdeal.main_arg11) = m ((c.tc : Thread Cert.KSmallIdeal.nD Cert.KSmallIdeal.τ).loc Cert.KSmallIdeal.main_arg11)
      ∧ m' ((c.tc : Thread Cert.RSmallIdeal.nD Cert.RSmallIdeal.τ).loc Cert.RSmallIdeal.main_arg12) = m ((c.tc : Thread Cert.KSmallIdeal.nD Cert.KSmallIdeal.τ).loc Cert.KSmallIdeal.main_arg12)
      ∧ m' ((c.tc : Thread Cert.RSmallIdeal.nD Cert.RSmallIdeal.τ).loc Cert.RSmallIdeal.main_arg13) = m ((c.tc : Thread Cert.KSmallIdeal.nD Cert.KSmallIdeal.τ).loc Cert.KSmallIdeal.main_arg13)
      ∧ m' ((c.tc : Thread Cert.RSmallIdeal.nD Cert.RSmallIdeal.τ).loc Cert.RSmallIdeal.main_arg14) = m ((c.tc : Thread Cert.KSmallIdeal.nD Cert.KSmallIdeal.τ).loc Cert.KSmallIdeal.main_arg14)
      ∧ m' ((c.tc : Thread Cert.RSmallIdeal.nD Cert.RSmallIdeal.τ).loc Cert.RSmallIdeal.main_arg15) = m ((c.tc : Thread Cert.KSmallIdeal.nD Cert.KSmallIdeal.τ).loc Cert.KSmallIdeal.main_arg15)
      ∧ m' ((c.tc : Thread Cert.RSmallIdeal.nD Cert.RSmallIdeal.τ).loc Cert.RSmallIdeal.main_arg16) = m ((c.tc : Thread Cert.KSmallIdeal.nD Cert.KSmallIdeal.τ).loc Cert.KSmallIdeal.main_arg16)
      ∧ m' ((c.tc : Thread Cert.RSmallIdeal.nD Cert.RSmallIdeal.τ).loc Cert.RSmallIdeal.main_arg17) = m ((c.tc : Thread Cert.KSmallIdeal.nD Cert.KSmallIdeal.τ).loc Cert.KSmallIdeal.main_arg17)
      ∧ m' ((c.tc : Thread Cert.RSmallIdeal.nD Cert.RSmallIdeal.τ).loc Cert.RSmallIdeal.main_arg18) = m ((c.tc : Thread Cert.KSmallIdeal.nD Cert.KSmallIdeal.τ).loc Cert.KSmallIdeal.main_arg18)
      ∧ m' ((c.tc : Thread Cert.RSmallIdeal.nD Cert.RSmallIdeal.τ).loc Cert.RSmallIdeal.main_arg19) = m ((c.tc : Thread Cert.KSmallIdeal.nD Cert.KSmallIdeal.τ).loc Cert.KSmallIdeal.main_arg19)
      ∧ m' ((c.tc : Thread Cert.RSmallIdeal.nD Cert.RSmallIdeal.τ).loc Cert.RSmallIdeal.main_arg20) = m ((c.tc : Thread Cert.KSmallIdeal.nD Cert.KSmallIdeal.τ).loc Cert.KSmallIdeal.main_arg20)
      ∧ m' ((c.tc : Thread Cert.RSmallIdeal.nD Cert.RSmallIdeal.τ).loc Cert.RSmallIdeal.main_arg21) = m ((c.tc : Thread Cert.KSmallIdeal.nD Cert.KSmallIdeal.τ).loc Cert.KSmallIdeal.main_arg21)
      ∧ m' ((c.tc : Thread Cert.RSmallIdeal.nD Cert.RSmallIdeal.τ).loc Cert.RSmallIdeal.main_arg22) = m ((c.tc : Thread Cert.KSmallIdeal.nD Cert.KSmallIdeal.τ).loc Cert.KSmallIdeal.main_arg22)
      ∧ m' ((c.tc : Thread Cert.RSmallIdeal.nD Cert.RSmallIdeal.τ).loc Cert.RSmallIdeal.main_arg23) = m ((c.tc : Thread Cert.KSmallIdeal.nD Cert.KSmallIdeal.τ).loc Cert.KSmallIdeal.main_arg23)
      ∧ m' ((c.tc : Thread Cert.RSmallIdeal.nD Cert.RSmallIdeal.τ).loc Cert.RSmallIdeal.main_arg24) = m ((c.tc : Thread Cert.KSmallIdeal.nD Cert.KSmallIdeal.τ).loc Cert.KSmallIdeal.main_arg24)
      ∧ m' ((c.tc : Thread Cert.RSmallIdeal.nD Cert.RSmallIdeal.τ).loc Cert.RSmallIdeal.main_arg25) = m ((c.tc : Thread Cert.KSmallIdeal.nD Cert.KSmallIdeal.τ).loc Cert.KSmallIdeal.main_arg25)
      ∧ m' ((c.tc : Thread Cert.RSmallIdeal.nD Cert.RSmallIdeal.τ).loc Cert.RSmallIdeal.main_arg26) = m ((c.tc : Thread Cert.KSmallIdeal.nD Cert.KSmallIdeal.τ).loc Cert.KSmallIdeal.main_arg26)
      ∧ m' ((c.tc : Thread Cert.RSmallIdeal.nD Cert.RSmallIdeal.τ).loc Cert.RSmallIdeal.main_arg27) = m ((c.tc : Thread Cert.KSmallIdeal.nD Cert.KSmallIdeal.τ).loc Cert.KSmallIdeal.main_arg27)
      ∧ m' ((c.tc : Thread Cert.RSmallIdeal.nD Cert.RSmallIdeal.τ).loc Cert.RSmallIdeal.main_arg28) = m ((c.tc : Thread Cert.KSmallIdeal.nD Cert.KSmallIdeal.τ).loc Cert.KSmallIdeal.main_arg28)
      ∧ m' ((c.tc : Thread Cert.RSmallIdeal.nD Cert.RSmallIdeal.τ).loc Cert.RSmallIdeal.main_arg29) = m ((c.tc : Thread Cert.KSmallIdeal.nD Cert.KSmallIdeal.τ).loc Cert.KSmallIdeal.main_arg29)
      ∧ m' ((c.tc : Thread Cert.RSmallIdeal.nD Cert.RSmallIdeal.τ).loc Cert.RSmallIdeal.main_arg30) = m ((c.tc : Thread Cert.KSmallIdeal.nD Cert.KSmallIdeal.τ).loc Cert.KSmallIdeal.main_arg30)
      ∧ m' ((c.tc : Thread Cert.RSmallIdeal.nD Cert.RSmallIdeal.τ).loc Cert.RSmallIdeal.main_arg31) = m ((c.tc : Thread Cert.KSmallIdeal.nD Cert.KSmallIdeal.τ).loc Cert.KSmallIdeal.main_arg31)
      ∧ m' ((c.tc : Thread Cert.RSmallIdeal.nD Cert.RSmallIdeal.τ).loc Cert.RSmallIdeal.main_arg32) = m ((c.tc : Thread Cert.KSmallIdeal.nD Cert.KSmallIdeal.τ).loc Cert.KSmallIdeal.main_arg32)
      ∧ m' ((c.tc : Thread Cert.RSmallIdeal.nD Cert.RSmallIdeal.τ).loc Cert.RSmallIdeal.main_arg33) = m ((c.tc : Thread Cert.KSmallIdeal.nD Cert.KSmallIdeal.τ).loc Cert.KSmallIdeal.main_arg33)
      ∧ m' ((c.tc : Thread Cert.RSmallIdeal.nD Cert.RSmallIdeal.τ).loc Cert.RSmallIdeal.main_arg34) = m ((c.tc : Thread Cert.KSmallIdeal.nD Cert.KSmallIdeal.τ).loc Cert.KSmallIdeal.main_arg34)
      ∧ m' ((c.tc : Thread Cert.RSmallIdeal.nD Cert.RSmallIdeal.τ).loc Cert.RSmallIdeal.main_arg35) = m ((c.tc : Thread Cert.KSmallIdeal.nD Cert.KSmallIdeal.τ).loc Cert.KSmallIdeal.main_arg35)
      ∧ m' ((c.tc : Thread Cert.RSmallIdeal.nD Cert.RSmallIdeal.τ).loc Cert.RSmallIdeal.main_arg36) = m ((c.tc : Thread Cert.KSmallIdeal.nD Cert.KSmallIdeal.τ).loc Cert.KSmallIdeal.main_arg36)
      ∧ m' ((c.tc : Thread Cert.RSmallIdeal.nD Cert.RSmallIdeal.τ).loc Cert.RSmallIdeal.main_arg37) = m ((c.tc : Thread Cert.KSmallIdeal.nD Cert.KSmallIdeal.τ).loc Cert.KSmallIdeal.main_arg37)
      ∧ m' ((c.tc : Thread Cert.RSmallIdeal.nD Cert.RSmallIdeal.τ).loc Cert.RSmallIdeal.main_arg38) = m ((c.tc : Thread Cert.KSmallIdeal.nD Cert.KSmallIdeal.τ).loc Cert.KSmallIdeal.main_arg38)
      ∧ m' ((c.tc : Thread Cert.RSmallIdeal.nD Cert.RSmallIdeal.τ).loc Cert.RSmallIdeal.main_arg39) = m ((c.tc : Thread Cert.KSmallIdeal.nD Cert.KSmallIdeal.τ).loc Cert.KSmallIdeal.main_arg39)
      ∧ m' ((c.tc : Thread Cert.RSmallIdeal.nD Cert.RSmallIdeal.τ).loc Cert.RSmallIdeal.main_arg40) = m ((c.tc : Thread Cert.KSmallIdeal.nD Cert.KSmallIdeal.τ).loc Cert.KSmallIdeal.main_arg40)
      ∧ m' ((c.tc : Thread Cert.RSmallIdeal.nD Cert.RSmallIdeal.τ).loc Cert.RSmallIdeal.main_arg41) = m ((c.tc : Thread Cert.KSmallIdeal.nD Cert.KSmallIdeal.τ).loc Cert.KSmallIdeal.main_arg41)
      ∧ m' ((c.tc : Thread Cert.RSmallIdeal.nD Cert.RSmallIdeal.τ).loc Cert.RSmallIdeal.main_arg42) = m ((c.tc : Thread Cert.KSmallIdeal.nD Cert.KSmallIdeal.τ).loc Cert.KSmallIdeal.main_arg42)
      ∧ m' ((c.tc : Thread Cert.RSmallIdeal.nD Cert.RSmallIdeal.τ).loc Cert.RSmallIdeal.main_arg43) = m ((c.tc : Thread Cert.KSmallIdeal.nD Cert.KSmallIdeal.τ).loc Cert.KSmallIdeal.main_arg43)) →
    ∃ (v0 : (c : Dev Cert.KSmallIdeal.nD) → Buf (Elt Ideal) ((c.tc : Thread Cert.KSmallIdeal.nD Cert.KSmallIdeal.τ).loc Cert.KSmallIdeal.main_v143)) (v1 : (c : Dev Cert.KSmallIdeal.nD) → Buf (Elt Ideal) ((c.tc : Thread Cert.KSmallIdeal.nD Cert.KSmallIdeal.τ).loc Cert.KSmallIdeal.main_v182)) (v2 : (c : Dev Cert.KSmallIdeal.nD) → Buf (Elt Ideal) ((c.tc : Thread Cert.KSmallIdeal.nD Cert.KSmallIdeal.τ).loc Cert.KSmallIdeal.main_v224)) (v3 : (c : Dev Cert.KSmallIdeal.nD) → Buf (Elt Ideal) ((c.tc : Thread Cert.KSmallIdeal.nD Cert.KSmallIdeal.τ).loc Cert.KSmallIdeal.main_v248)) (v4 : (c : Dev Cert.KSmallIdeal.nD) → Buf (Elt Ideal) ((c.tc : Thread Cert.KSmallIdeal.nD Cert.KSmallIdeal.τ).loc Cert.KSmallIdeal.main_v287)) (v5 : (c : Dev Cert.KSmallIdeal.nD) → Buf (Elt Ideal) ((c.tc : Thread Cert.KSmallIdeal.nD Cert.KSmallIdeal.τ).loc Cert.KSmallIdeal.main_v329)) (v6 : (c : Dev Cert.KSmallIdeal.nD) → Buf (Elt Ideal) ((c.tc : Thread Cert.KSmallIdeal.nD Cert.KSmallIdeal.τ).loc Cert.KSmallIdeal.main_v353)) (v7 : (c : Dev Cert.KSmallIdeal.nD) → Buf (Elt Ideal) ((c.tc : Thread Cert.KSmallIdeal.nD Cert.KSmallIdeal.τ).loc Cert.KSmallIdeal.main_v392)) (v8 : (c : Dev Cert.KSmallIdeal.nD) → Buf (Elt Ideal) ((c.tc : Thread Cert.KSmallIdeal.nD Cert.KSmallIdeal.τ).loc Cert.KSmallIdeal.main_v434)),
      θ_run (Cert.KSmallIdeal.defs (F := Ideal)) (onTc (τ := Cert.KSmallIdeal.τ) (Cert.KSmallIdeal.main (F := Ideal))) ⟨m, fun _ => 0, g⟩ (fun r => ∀ c : Dev Cert.KSmallIdeal.nD,
          r.2.mem ((c.tc : Thread Cert.KSmallIdeal.nD Cert.KSmallIdeal.τ).loc Cert.KSmallIdeal.main_v143) = v0 c
          ∧ r.2.mem ((c.tc : Thread Cert.KSmallIdeal.nD Cert.KSmallIdeal.τ).loc Cert.KSmallIdeal.main_v182) = v1 c
          ∧ r.2.mem ((c.tc : Thread Cert.KSmallIdeal.nD Cert.KSmallIdeal.τ).loc Cert.KSmallIdeal.main_v224) = v2 c
          ∧ r.2.mem ((c.tc : Thread Cert.KSmallIdeal.nD Cert.KSmallIdeal.τ).loc Cert.KSmallIdeal.main_v248) = v3 c
          ∧ r.2.mem ((c.tc : Thread Cert.KSmallIdeal.nD Cert.KSmallIdeal.τ).loc Cert.KSmallIdeal.main_v287) = v4 c
          ∧ r.2.mem ((c.tc : Thread Cert.KSmallIdeal.nD Cert.KSmallIdeal.τ).loc Cert.KSmallIdeal.main_v329) = v5 c
          ∧ r.2.mem ((c.tc : Thread Cert.KSmallIdeal.nD Cert.KSmallIdeal.τ).loc Cert.KSmallIdeal.main_v353) = v6 c
          ∧ r.2.mem ((c.tc : Thread Cert.KSmallIdeal.nD Cert.KSmallIdeal.τ).loc Cert.KSmallIdeal.main_v392) = v7 c
          ∧ r.2.mem ((c.tc : Thread Cert.KSmallIdeal.nD Cert.KSmallIdeal.τ).loc Cert.KSmallIdeal.main_v434) = v8 c
          ∧ r.2.mem ((c.tc : Thread Cert.KSmallIdeal.nD Cert.KSmallIdeal.τ).loc Cert.KSmallIdeal.main_arg0) = m ((c.tc : Thread Cert.KSmallIdeal.nD Cert.KSmallIdeal.τ).loc Cert.KSmallIdeal.main_arg0)
          ∧ r.2.mem ((c.tc : Thread Cert.KSmallIdeal.nD Cert.KSmallIdeal.τ).loc Cert.KSmallIdeal.main_arg1) = m ((c.tc : Thread Cert.KSmallIdeal.nD Cert.KSmallIdeal.τ).loc Cert.KSmallIdeal.main_arg1)
          ∧ r.2.mem ((c.tc : Thread Cert.KSmallIdeal.nD Cert.KSmallIdeal.τ).loc Cert.KSmallIdeal.main_arg2) = m ((c.tc : Thread Cert.KSmallIdeal.nD Cert.KSmallIdeal.τ).loc Cert.KSmallIdeal.main_arg2)
          ∧ r.2.mem ((c.tc : Thread Cert.KSmallIdeal.nD Cert.KSmallIdeal.τ).loc Cert.KSmallIdeal.main_arg3) = m ((c.tc : Thread Cert.KSmallIdeal.nD Cert.KSmallIdeal.τ).loc Cert.KSmallIdeal.main_arg3)
          ∧ r.2.mem ((c.tc : Thread Cert.KSmallIdeal.nD Cert.KSmallIdeal.τ).loc Cert.KSmallIdeal.main_arg4) = m ((c.tc : Thread Cert.KSmallIdeal.nD Cert.KSmallIdeal.τ).loc Cert.KSmallIdeal.main_arg4)
          ∧ r.2.mem ((c.tc : Thread Cert.KSmallIdeal.nD Cert.KSmallIdeal.τ).loc Cert.KSmallIdeal.main_arg5) = m ((c.tc : Thread Cert.KSmallIdeal.nD Cert.KSmallIdeal.τ).loc Cert.KSmallIdeal.main_arg5)
          ∧ r.2.mem ((c.tc : Thread Cert.KSmallIdeal.nD Cert.KSmallIdeal.τ).loc Cert.KSmallIdeal.main_arg6) = m ((c.tc : Thread Cert.KSmallIdeal.nD Cert.KSmallIdeal.τ).loc Cert.KSmallIdeal.main_arg6)
          ∧ r.2.mem ((c.tc : Thread Cert.KSmallIdeal.nD Cert.KSmallIdeal.τ).loc Cert.KSmallIdeal.main_arg7) = m ((c.tc : Thread Cert.KSmallIdeal.nD Cert.KSmallIdeal.τ).loc Cert.KSmallIdeal.main_arg7)
          ∧ r.2.mem ((c.tc : Thread Cert.KSmallIdeal.nD Cert.KSmallIdeal.τ).loc Cert.KSmallIdeal.main_arg8) = m ((c.tc : Thread Cert.KSmallIdeal.nD Cert.KSmallIdeal.τ).loc Cert.KSmallIdeal.main_arg8)
          ∧ r.2.mem ((c.tc : Thread Cert.KSmallIdeal.nD Cert.KSmallIdeal.τ).loc Cert.KSmallIdeal.main_arg9) = m ((c.tc : Thread Cert.KSmallIdeal.nD Cert.KSmallIdeal.τ).loc Cert.KSmallIdeal.main_arg9)
          ∧ r.2.mem ((c.tc : Thread Cert.KSmallIdeal.nD Cert.KSmallIdeal.τ).loc Cert.KSmallIdeal.main_arg10) = m ((c.tc : Thread Cert.KSmallIdeal.nD Cert.KSmallIdeal.τ).loc Cert.KSmallIdeal.main_arg10)
          ∧ r.2.mem ((c.tc : Thread Cert.KSmallIdeal.nD Cert.KSmallIdeal.τ).loc Cert.KSmallIdeal.main_arg11) = m ((c.tc : Thread Cert.KSmallIdeal.nD Cert.KSmallIdeal.τ).loc Cert.KSmallIdeal.main_arg11)
          ∧ r.2.mem ((c.tc : Thread Cert.KSmallIdeal.nD Cert.KSmallIdeal.τ).loc Cert.KSmallIdeal.main_arg12) = m ((c.tc : Thread Cert.KSmallIdeal.nD Cert.KSmallIdeal.τ).loc Cert.KSmallIdeal.main_arg12)
          ∧ r.2.mem ((c.tc : Thread Cert.KSmallIdeal.nD Cert.KSmallIdeal.τ).loc Cert.KSmallIdeal.main_arg13) = m ((c.tc : Thread Cert.KSmallIdeal.nD Cert.KSmallIdeal.τ).loc Cert.KSmallIdeal.main_arg13)
          ∧ r.2.mem ((c.tc : Thread Cert.KSmallIdeal.nD Cert.KSmallIdeal.τ).loc Cert.KSmallIdeal.main_arg14) = m ((c.tc : Thread Cert.KSmallIdeal.nD Cert.KSmallIdeal.τ).loc Cert.KSmallIdeal.main_arg14)
          ∧ r.2.mem ((c.tc : Thread Cert.KSmallIdeal.nD Cert.KSmallIdeal.τ).loc Cert.KSmallIdeal.main_arg15) = m ((c.tc : Thread Cert.KSmallIdeal.nD Cert.KSmallIdeal.τ).loc Cert.KSmallIdeal.main_arg15)
          ∧ r.2.mem ((c.tc : Thread Cert.KSmallIdeal.nD Cert.KSmallIdeal.τ).loc Cert.KSmallIdeal.main_arg16) = m ((c.tc : Thread Cert.KSmallIdeal.nD Cert.KSmallIdeal.τ).loc Cert.KSmallIdeal.main_arg16)
          ∧ r.2.mem ((c.tc : Thread Cert.KSmallIdeal.nD Cert.KSmallIdeal.τ).loc Cert.KSmallIdeal.main_arg17) = m ((c.tc : Thread Cert.KSmallIdeal.nD Cert.KSmallIdeal.τ).loc Cert.KSmallIdeal.main_arg17)
          ∧ r.2.mem ((c.tc : Thread Cert.KSmallIdeal.nD Cert.KSmallIdeal.τ).loc Cert.KSmallIdeal.main_arg18) = m ((c.tc : Thread Cert.KSmallIdeal.nD Cert.KSmallIdeal.τ).loc Cert.KSmallIdeal.main_arg18)
          ∧ r.2.mem ((c.tc : Thread Cert.KSmallIdeal.nD Cert.KSmallIdeal.τ).loc Cert.KSmallIdeal.main_arg19) = m ((c.tc : Thread Cert.KSmallIdeal.nD Cert.KSmallIdeal.τ).loc Cert.KSmallIdeal.main_arg19)
          ∧ r.2.mem ((c.tc : Thread Cert.KSmallIdeal.nD Cert.KSmallIdeal.τ).loc Cert.KSmallIdeal.main_arg20) = m ((c.tc : Thread Cert.KSmallIdeal.nD Cert.KSmallIdeal.τ).loc Cert.KSmallIdeal.main_arg20)
          ∧ r.2.mem ((c.tc : Thread Cert.KSmallIdeal.nD Cert.KSmallIdeal.τ).loc Cert.KSmallIdeal.main_arg21) = m ((c.tc : Thread Cert.KSmallIdeal.nD Cert.KSmallIdeal.τ).loc Cert.KSmallIdeal.main_arg21)
          ∧ r.2.mem ((c.tc : Thread Cert.KSmallIdeal.nD Cert.KSmallIdeal.τ).loc Cert.KSmallIdeal.main_arg22) = m ((c.tc : Thread Cert.KSmallIdeal.nD Cert.KSmallIdeal.τ).loc Cert.KSmallIdeal.main_arg22)
          ∧ r.2.mem ((c.tc : Thread Cert.KSmallIdeal.nD Cert.KSmallIdeal.τ).loc Cert.KSmallIdeal.main_arg23) = m ((c.tc : Thread Cert.KSmallIdeal.nD Cert.KSmallIdeal.τ).loc Cert.KSmallIdeal.main_arg23)
          ∧ r.2.mem ((c.tc : Thread Cert.KSmallIdeal.nD Cert.KSmallIdeal.τ).loc Cert.KSmallIdeal.main_arg24) = m ((c.tc : Thread Cert.KSmallIdeal.nD Cert.KSmallIdeal.τ).loc Cert.KSmallIdeal.main_arg24)
          ∧ r.2.mem ((c.tc : Thread Cert.KSmallIdeal.nD Cert.KSmallIdeal.τ).loc Cert.KSmallIdeal.main_arg25) = m ((c.tc : Thread Cert.KSmallIdeal.nD Cert.KSmallIdeal.τ).loc Cert.KSmallIdeal.main_arg25)
          ∧ r.2.mem ((c.tc : Thread Cert.KSmallIdeal.nD Cert.KSmallIdeal.τ).loc Cert.KSmallIdeal.main_arg26) = m ((c.tc : Thread Cert.KSmallIdeal.nD Cert.KSmallIdeal.τ).loc Cert.KSmallIdeal.main_arg26)
          ∧ r.2.mem ((c.tc : Thread Cert.KSmallIdeal.nD Cert.KSmallIdeal.τ).loc Cert.KSmallIdeal.main_arg27) = m ((c.tc : Thread Cert.KSmallIdeal.nD Cert.KSmallIdeal.τ).loc Cert.KSmallIdeal.main_arg27)
          ∧ r.2.mem ((c.tc : Thread Cert.KSmallIdeal.nD Cert.KSmallIdeal.τ).loc Cert.KSmallIdeal.main_arg28) = m ((c.tc : Thread Cert.KSmallIdeal.nD Cert.KSmallIdeal.τ).loc Cert.KSmallIdeal.main_arg28)
          ∧ r.2.mem ((c.tc : Thread Cert.KSmallIdeal.nD Cert.KSmallIdeal.τ).loc Cert.KSmallIdeal.main_arg29) = m ((c.tc : Thread Cert.KSmallIdeal.nD Cert.KSmallIdeal.τ).loc Cert.KSmallIdeal.main_arg29)
          ∧ r.2.mem ((c.tc : Thread Cert.KSmallIdeal.nD Cert.KSmallIdeal.τ).loc Cert.KSmallIdeal.main_arg30) = m ((c.tc : Thread Cert.KSmallIdeal.nD Cert.KSmallIdeal.τ).loc Cert.KSmallIdeal.main_arg30)
          ∧ r.2.mem ((c.tc : Thread Cert.KSmallIdeal.nD Cert.KSmallIdeal.τ).loc Cert.KSmallIdeal.main_arg31) = m ((c.tc : Thread Cert.KSmallIdeal.nD Cert.KSmallIdeal.τ).loc Cert.KSmallIdeal.main_arg31)
          ∧ r.2.mem ((c.tc : Thread Cert.KSmallIdeal.nD Cert.KSmallIdeal.τ).loc Cert.KSmallIdeal.main_arg32) = m ((c.tc : Thread Cert.KSmallIdeal.nD Cert.KSmallIdeal.τ).loc Cert.KSmallIdeal.main_arg32)
          ∧ r.2.mem ((c.tc : Thread Cert.KSmallIdeal.nD Cert.KSmallIdeal.τ).loc Cert.KSmallIdeal.main_arg33) = m ((c.tc : Thread Cert.KSmallIdeal.nD Cert.KSmallIdeal.τ).loc Cert.KSmallIdeal.main_arg33)
          ∧ r.2.mem ((c.tc : Thread Cert.KSmallIdeal.nD Cert.KSmallIdeal.τ).loc Cert.KSmallIdeal.main_arg34) = m ((c.tc : Thread Cert.KSmallIdeal.nD Cert.KSmallIdeal.τ).loc Cert.KSmallIdeal.main_arg34)
          ∧ r.2.mem ((c.tc : Thread Cert.KSmallIdeal.nD Cert.KSmallIdeal.τ).loc Cert.KSmallIdeal.main_arg35) = m ((c.tc : Thread Cert.KSmallIdeal.nD Cert.KSmallIdeal.τ).loc Cert.KSmallIdeal.main_arg35)
          ∧ r.2.mem ((c.tc : Thread Cert.KSmallIdeal.nD Cert.KSmallIdeal.τ).loc Cert.KSmallIdeal.main_arg36) = m ((c.tc : Thread Cert.KSmallIdeal.nD Cert.KSmallIdeal.τ).loc Cert.KSmallIdeal.main_arg36)
          ∧ r.2.mem ((c.tc : Thread Cert.KSmallIdeal.nD Cert.KSmallIdeal.τ).loc Cert.KSmallIdeal.main_arg37) = m ((c.tc : Thread Cert.KSmallIdeal.nD Cert.KSmallIdeal.τ).loc Cert.KSmallIdeal.main_arg37)
          ∧ r.2.mem ((c.tc : Thread Cert.KSmallIdeal.nD Cert.KSmallIdeal.τ).loc Cert.KSmallIdeal.main_arg38) = m ((c.tc : Thread Cert.KSmallIdeal.nD Cert.KSmallIdeal.τ).loc Cert.KSmallIdeal.main_arg38)
          ∧ r.2.mem ((c.tc : Thread Cert.KSmallIdeal.nD Cert.KSmallIdeal.τ).loc Cert.KSmallIdeal.main_arg39) = m ((c.tc : Thread Cert.KSmallIdeal.nD Cert.KSmallIdeal.τ).loc Cert.KSmallIdeal.main_arg39)
          ∧ r.2.mem ((c.tc : Thread Cert.KSmallIdeal.nD Cert.KSmallIdeal.τ).loc Cert.KSmallIdeal.main_arg40) = m ((c.tc : Thread Cert.KSmallIdeal.nD Cert.KSmallIdeal.τ).loc Cert.KSmallIdeal.main_arg40)
          ∧ r.2.mem ((c.tc : Thread Cert.KSmallIdeal.nD Cert.KSmallIdeal.τ).loc Cert.KSmallIdeal.main_arg41) = m ((c.tc : Thread Cert.KSmallIdeal.nD Cert.KSmallIdeal.τ).loc Cert.KSmallIdeal.main_arg41)
          ∧ r.2.mem ((c.tc : Thread Cert.KSmallIdeal.nD Cert.KSmallIdeal.τ).loc Cert.KSmallIdeal.main_arg42) = m ((c.tc : Thread Cert.KSmallIdeal.nD Cert.KSmallIdeal.τ).loc Cert.KSmallIdeal.main_arg42)
          ∧ r.2.mem ((c.tc : Thread Cert.KSmallIdeal.nD Cert.KSmallIdeal.τ).loc Cert.KSmallIdeal.main_arg43) = m ((c.tc : Thread Cert.KSmallIdeal.nD Cert.KSmallIdeal.τ).loc Cert.KSmallIdeal.main_arg43))
      ∧ θ_run (Cert.RSmallIdeal.defs (F := Ideal)) (onTc (τ := Cert.RSmallIdeal.τ) (Cert.RSmallIdeal.main (F := Ideal))) ⟨m', fun _ => 0, g'⟩ (fun r => ∀ c : Dev Cert.RSmallIdeal.nD,
          r.2.mem ((c.tc : Thread Cert.RSmallIdeal.nD Cert.RSmallIdeal.τ).loc Cert.RSmallIdeal.main_v23) = v0 c
          ∧ r.2.mem ((c.tc : Thread Cert.RSmallIdeal.nD Cert.RSmallIdeal.τ).loc Cert.RSmallIdeal.main_v47) = v1 c
          ∧ r.2.mem ((c.tc : Thread Cert.RSmallIdeal.nD Cert.RSmallIdeal.τ).loc Cert.RSmallIdeal.main_v71) = v2 c
          ∧ r.2.mem ((c.tc : Thread Cert.RSmallIdeal.nD Cert.RSmallIdeal.τ).loc Cert.RSmallIdeal.main_v4) = v3 c
          ∧ r.2.mem ((c.tc : Thread Cert.RSmallIdeal.nD Cert.RSmallIdeal.τ).loc Cert.RSmallIdeal.main_v28) = v4 c
          ∧ r.2.mem ((c.tc : Thread Cert.RSmallIdeal.nD Cert.RSmallIdeal.τ).loc Cert.RSmallIdeal.main_v52) = v5 c
          ∧ r.2.mem ((c.tc : Thread Cert.RSmallIdeal.nD Cert.RSmallIdeal.τ).loc Cert.RSmallIdeal.main_v10) = v6 c
          ∧ r.2.mem ((c.tc : Thread Cert.RSmallIdeal.nD Cert.RSmallIdeal.τ).loc Cert.RSmallIdeal.main_v34) = v7 c
          ∧ r.2.mem ((c.tc : Thread Cert.RSmallIdeal.nD Cert.RSmallIdeal.τ).loc Cert.RSmallIdeal.main_v58) = v8 c
          ∧ r.2.mem ((c.tc : Thread Cert.RSmallIdeal.nD Cert.RSmallIdeal.τ).loc Cert.RSmallIdeal.main_arg0) = m' ((c.tc : Thread Cert.RSmallIdeal.nD Cert.RSmallIdeal.τ).loc Cert.RSmallIdeal.main_arg0)
          ∧ r.2.mem ((c.tc : Thread Cert.RSmallIdeal.nD Cert.RSmallIdeal.τ).loc Cert.RSmallIdeal.main_arg1) = m' ((c.tc : Thread Cert.RSmallIdeal.nD Cert.RSmallIdeal.τ).loc Cert.RSmallIdeal.main_arg1)
          ∧ r.2.mem ((c.tc : Thread Cert.RSmallIdeal.nD Cert.RSmallIdeal.τ).loc Cert.RSmallIdeal.main_arg2) = m' ((c.tc : Thread Cert.RSmallIdeal.nD Cert.RSmallIdeal.τ).loc Cert.RSmallIdeal.main_arg2)
          ∧ r.2.mem ((c.tc : Thread Cert.RSmallIdeal.nD Cert.RSmallIdeal.τ).loc Cert.RSmallIdeal.main_arg3) = m' ((c.tc : Thread Cert.RSmallIdeal.nD Cert.RSmallIdeal.τ).loc Cert.RSmallIdeal.main_arg3)
          ∧ r.2.mem ((c.tc : Thread Cert.RSmallIdeal.nD Cert.RSmallIdeal.τ).loc Cert.RSmallIdeal.main_arg4) = m' ((c.tc : Thread Cert.RSmallIdeal.nD Cert.RSmallIdeal.τ).loc Cert.RSmallIdeal.main_arg4)
          ∧ r.2.mem ((c.tc : Thread Cert.RSmallIdeal.nD Cert.RSmallIdeal.τ).loc Cert.RSmallIdeal.main_arg5) = m' ((c.tc : Thread Cert.RSmallIdeal.nD Cert.RSmallIdeal.τ).loc Cert.RSmallIdeal.main_arg5)
          ∧ r.2.mem ((c.tc : Thread Cert.RSmallIdeal.nD Cert.RSmallIdeal.τ).loc Cert.RSmallIdeal.main_arg6) = m' ((c.tc : Thread Cert.RSmallIdeal.nD Cert.RSmallIdeal.τ).loc Cert.RSmallIdeal.main_arg6)
          ∧ r.2.mem ((c.tc : Thread Cert.RSmallIdeal.nD Cert.RSmallIdeal.τ).loc Cert.RSmallIdeal.main_arg7) = m' ((c.tc : Thread Cert.RSmallIdeal.nD Cert.RSmallIdeal.τ).loc Cert.RSmallIdeal.main_arg7)
          ∧ r.2.mem ((c.tc : Thread Cert.RSmallIdeal.nD Cert.RSmallIdeal.τ).loc Cert.RSmallIdeal.main_arg8) = m' ((c.tc : Thread Cert.RSmallIdeal.nD Cert.RSmallIdeal.τ).loc Cert.RSmallIdeal.main_arg8)
          ∧ r.2.mem ((c.tc : Thread Cert.RSmallIdeal.nD Cert.RSmallIdeal.τ).loc Cert.RSmallIdeal.main_arg9) = m' ((c.tc : Thread Cert.RSmallIdeal.nD Cert.RSmallIdeal.τ).loc Cert.RSmallIdeal.main_arg9)
          ∧ r.2.mem ((c.tc : Thread Cert.RSmallIdeal.nD Cert.RSmallIdeal.τ).loc Cert.RSmallIdeal.main_arg10) = m' ((c.tc : Thread Cert.RSmallIdeal.nD Cert.RSmallIdeal.τ).loc Cert.RSmallIdeal.main_arg10)
          ∧ r.2.mem ((c.tc : Thread Cert.RSmallIdeal.nD Cert.RSmallIdeal.τ).loc Cert.RSmallIdeal.main_arg11) = m' ((c.tc : Thread Cert.RSmallIdeal.nD Cert.RSmallIdeal.τ).loc Cert.RSmallIdeal.main_arg11)
          ∧ r.2.mem ((c.tc : Thread Cert.RSmallIdeal.nD Cert.RSmallIdeal.τ).loc Cert.RSmallIdeal.main_arg12) = m' ((c.tc : Thread Cert.RSmallIdeal.nD Cert.RSmallIdeal.τ).loc Cert.RSmallIdeal.main_arg12)
          ∧ r.2.mem ((c.tc : Thread Cert.RSmallIdeal.nD Cert.RSmallIdeal.τ).loc Cert.RSmallIdeal.main_arg13) = m' ((c.tc : Thread Cert.RSmallIdeal.nD Cert.RSmallIdeal.τ).loc Cert.RSmallIdeal.main_arg13)
          ∧ r.2.mem ((c.tc : Thread Cert.RSmallIdeal.nD Cert.RSmallIdeal.τ).loc Cert.RSmallIdeal.main_arg14) = m' ((c.tc : Thread Cert.RSmallIdeal.nD Cert.RSmallIdeal.τ).loc Cert.RSmallIdeal.main_arg14)
          ∧ r.2.mem ((c.tc : Thread Cert.RSmallIdeal.nD Cert.RSmallIdeal.τ).loc Cert.RSmallIdeal.main_arg15) = m' ((c.tc : Thread Cert.RSmallIdeal.nD Cert.RSmallIdeal.τ).loc Cert.RSmallIdeal.main_arg15)
          ∧ r.2.mem ((c.tc : Thread Cert.RSmallIdeal.nD Cert.RSmallIdeal.τ).loc Cert.RSmallIdeal.main_arg16) = m' ((c.tc : Thread Cert.RSmallIdeal.nD Cert.RSmallIdeal.τ).loc Cert.RSmallIdeal.main_arg16)
          ∧ r.2.mem ((c.tc : Thread Cert.RSmallIdeal.nD Cert.RSmallIdeal.τ).loc Cert.RSmallIdeal.main_arg17) = m' ((c.tc : Thread Cert.RSmallIdeal.nD Cert.RSmallIdeal.τ).loc Cert.RSmallIdeal.main_arg17)
          ∧ r.2.mem ((c.tc : Thread Cert.RSmallIdeal.nD Cert.RSmallIdeal.τ).loc Cert.RSmallIdeal.main_arg18) = m' ((c.tc : Thread Cert.RSmallIdeal.nD Cert.RSmallIdeal.τ).loc Cert.RSmallIdeal.main_arg18)
          ∧ r.2.mem ((c.tc : Thread Cert.RSmallIdeal.nD Cert.RSmallIdeal.τ).loc Cert.RSmallIdeal.main_arg19) = m' ((c.tc : Thread Cert.RSmallIdeal.nD Cert.RSmallIdeal.τ).loc Cert.RSmallIdeal.main_arg19)
          ∧ r.2.mem ((c.tc : Thread Cert.RSmallIdeal.nD Cert.RSmallIdeal.τ).loc Cert.RSmallIdeal.main_arg20) = m' ((c.tc : Thread Cert.RSmallIdeal.nD Cert.RSmallIdeal.τ).loc Cert.RSmallIdeal.main_arg20)
          ∧ r.2.mem ((c.tc : Thread Cert.RSmallIdeal.nD Cert.RSmallIdeal.τ).loc Cert.RSmallIdeal.main_arg21) = m' ((c.tc : Thread Cert.RSmallIdeal.nD Cert.RSmallIdeal.τ).loc Cert.RSmallIdeal.main_arg21)
          ∧ r.2.mem ((c.tc : Thread Cert.RSmallIdeal.nD Cert.RSmallIdeal.τ).loc Cert.RSmallIdeal.main_arg22) = m' ((c.tc : Thread Cert.RSmallIdeal.nD Cert.RSmallIdeal.τ).loc Cert.RSmallIdeal.main_arg22)
          ∧ r.2.mem ((c.tc : Thread Cert.RSmallIdeal.nD Cert.RSmallIdeal.τ).loc Cert.RSmallIdeal.main_arg23) = m' ((c.tc : Thread Cert.RSmallIdeal.nD Cert.RSmallIdeal.τ).loc Cert.RSmallIdeal.main_arg23)
          ∧ r.2.mem ((c.tc : Thread Cert.RSmallIdeal.nD Cert.RSmallIdeal.τ).loc Cert.RSmallIdeal.main_arg24) = m' ((c.tc : Thread Cert.RSmallIdeal.nD Cert.RSmallIdeal.τ).loc Cert.RSmallIdeal.main_arg24)
          ∧ r.2.mem ((c.tc : Thread Cert.RSmallIdeal.nD Cert.RSmallIdeal.τ).loc Cert.RSmallIdeal.main_arg25) = m' ((c.tc : Thread Cert.RSmallIdeal.nD Cert.RSmallIdeal.τ).loc Cert.RSmallIdeal.main_arg25)
          ∧ r.2.mem ((c.tc : Thread Cert.RSmallIdeal.nD Cert.RSmallIdeal.τ).loc Cert.RSmallIdeal.main_arg26) = m' ((c.tc : Thread Cert.RSmallIdeal.nD Cert.RSmallIdeal.τ).loc Cert.RSmallIdeal.main_arg26)
          ∧ r.2.mem ((c.tc : Thread Cert.RSmallIdeal.nD Cert.RSmallIdeal.τ).loc Cert.RSmallIdeal.main_arg27) = m' ((c.tc : Thread Cert.RSmallIdeal.nD Cert.RSmallIdeal.τ).loc Cert.RSmallIdeal.main_arg27)
          ∧ r.2.mem ((c.tc : Thread Cert.RSmallIdeal.nD Cert.RSmallIdeal.τ).loc Cert.RSmallIdeal.main_arg28) = m' ((c.tc : Thread Cert.RSmallIdeal.nD Cert.RSmallIdeal.τ).loc Cert.RSmallIdeal.main_arg28)
          ∧ r.2.mem ((c.tc : Thread Cert.RSmallIdeal.nD Cert.RSmallIdeal.τ).loc Cert.RSmallIdeal.main_arg29) = m' ((c.tc : Thread Cert.RSmallIdeal.nD Cert.RSmallIdeal.τ).loc Cert.RSmallIdeal.main_arg29)
          ∧ r.2.mem ((c.tc : Thread Cert.RSmallIdeal.nD Cert.RSmallIdeal.τ).loc Cert.RSmallIdeal.main_arg30) = m' ((c.tc : Thread Cert.RSmallIdeal.nD Cert.RSmallIdeal.τ).loc Cert.RSmallIdeal.main_arg30)
          ∧ r.2.mem ((c.tc : Thread Cert.RSmallIdeal.nD Cert.RSmallIdeal.τ).loc Cert.RSmallIdeal.main_arg31) = m' ((c.tc : Thread Cert.RSmallIdeal.nD Cert.RSmallIdeal.τ).loc Cert.RSmallIdeal.main_arg31)
          ∧ r.2.mem ((c.tc : Thread Cert.RSmallIdeal.nD Cert.RSmallIdeal.τ).loc Cert.RSmallIdeal.main_arg32) = m' ((c.tc : Thread Cert.RSmallIdeal.nD Cert.RSmallIdeal.τ).loc Cert.RSmallIdeal.main_arg32)
          ∧ r.2.mem ((c.tc : Thread Cert.RSmallIdeal.nD Cert.RSmallIdeal.τ).loc Cert.RSmallIdeal.main_arg33) = m' ((c.tc : Thread Cert.RSmallIdeal.nD Cert.RSmallIdeal.τ).loc Cert.RSmallIdeal.main_arg33)
          ∧ r.2.mem ((c.tc : Thread Cert.RSmallIdeal.nD Cert.RSmallIdeal.τ).loc Cert.RSmallIdeal.main_arg34) = m' ((c.tc : Thread Cert.RSmallIdeal.nD Cert.RSmallIdeal.τ).loc Cert.RSmallIdeal.main_arg34)
          ∧ r.2.mem ((c.tc : Thread Cert.RSmallIdeal.nD Cert.RSmallIdeal.τ).loc Cert.RSmallIdeal.main_arg35) = m' ((c.tc : Thread Cert.RSmallIdeal.nD Cert.RSmallIdeal.τ).loc Cert.RSmallIdeal.main_arg35)
          ∧ r.2.mem ((c.tc : Thread Cert.RSmallIdeal.nD Cert.RSmallIdeal.τ).loc Cert.RSmallIdeal.main_arg36) = m' ((c.tc : Thread Cert.RSmallIdeal.nD Cert.RSmallIdeal.τ).loc Cert.RSmallIdeal.main_arg36)
          ∧ r.2.mem ((c.tc : Thread Cert.RSmallIdeal.nD Cert.RSmallIdeal.τ).loc Cert.RSmallIdeal.main_arg37) = m' ((c.tc : Thread Cert.RSmallIdeal.nD Cert.RSmallIdeal.τ).loc Cert.RSmallIdeal.main_arg37)
          ∧ r.2.mem ((c.tc : Thread Cert.RSmallIdeal.nD Cert.RSmallIdeal.τ).loc Cert.RSmallIdeal.main_arg38) = m' ((c.tc : Thread Cert.RSmallIdeal.nD Cert.RSmallIdeal.τ).loc Cert.RSmallIdeal.main_arg38)
          ∧ r.2.mem ((c.tc : Thread Cert.RSmallIdeal.nD Cert.RSmallIdeal.τ).loc Cert.RSmallIdeal.main_arg39) = m' ((c.tc : Thread Cert.RSmallIdeal.nD Cert.RSmallIdeal.τ).loc Cert.RSmallIdeal.main_arg39)
          ∧ r.2.mem ((c.tc : Thread Cert.RSmallIdeal.nD Cert.RSmallIdeal.τ).loc Cert.RSmallIdeal.main_arg40) = m' ((c.tc : Thread Cert.RSmallIdeal.nD Cert.RSmallIdeal.τ).loc Cert.RSmallIdeal.main_arg40)
          ∧ r.2.mem ((c.tc : Thread Cert.RSmallIdeal.nD Cert.RSmallIdeal.τ).loc Cert.RSmallIdeal.main_arg41) = m' ((c.tc : Thread Cert.RSmallIdeal.nD Cert.RSmallIdeal.τ).loc Cert.RSmallIdeal.main_arg41)
          ∧ r.2.mem ((c.tc : Thread Cert.RSmallIdeal.nD Cert.RSmallIdeal.τ).loc Cert.RSmallIdeal.main_arg42) = m' ((c.tc : Thread Cert.RSmallIdeal.nD Cert.RSmallIdeal.τ).loc Cert.RSmallIdeal.main_arg42)
          ∧ r.2.mem ((c.tc : Thread Cert.RSmallIdeal.nD Cert.RSmallIdeal.τ).loc Cert.RSmallIdeal.main_arg43) = m' ((c.tc : Thread Cert.RSmallIdeal.nD Cert.RSmallIdeal.τ).loc Cert.RSmallIdeal.main_arg43))

def preserves_KOwn_KOwnIdeal : Prop :=
  True

def algebraic_KOwnIdeal_ROwnIdeal [hKOwnIdeal : Cert.KOwnIdeal.Facts] [hROwnIdeal : Cert.ROwnIdeal.Facts] [hPre_a_slice_and_a_core : Cert.Pre_a_slice_and_a_core.Facts] : Prop :=
  ∀ (m : (ℓ : Loc Cert.KOwnIdeal.nD Cert.KOwnIdeal.τ Cert.KOwnIdeal.sig) → Buf (Elt Ideal) ℓ) (g : Dev Cert.KOwnIdeal.nD → PrngReg)
    (m' : (ℓ : Loc Cert.ROwnIdeal.nD Cert.ROwnIdeal.τ Cert.ROwnIdeal.sig) → Buf (Elt Ideal) ℓ) (g' : Dev Cert.ROwnIdeal.nD → PrngReg), Pre_KOwnIdeal m →
    (∀ c : Dev Cert.KOwnIdeal.nD,
      m' ((c.tc : Thread Cert.ROwnIdeal.nD Cert.ROwnIdeal.τ).loc Cert.ROwnIdeal.main_arg0) = m ((c.tc : Thread Cert.KOwnIdeal.nD Cert.KOwnIdeal.τ).loc Cert.KOwnIdeal.main_arg0)
      ∧ m' ((c.tc : Thread Cert.ROwnIdeal.nD Cert.ROwnIdeal.τ).loc Cert.ROwnIdeal.main_arg1) = m ((c.tc : Thread Cert.KOwnIdeal.nD Cert.KOwnIdeal.τ).loc Cert.KOwnIdeal.main_arg1)
      ∧ m' ((c.tc : Thread Cert.ROwnIdeal.nD Cert.ROwnIdeal.τ).loc Cert.ROwnIdeal.main_arg2) = m ((c.tc : Thread Cert.KOwnIdeal.nD Cert.KOwnIdeal.τ).loc Cert.KOwnIdeal.main_arg2)
      ∧ m' ((c.tc : Thread Cert.ROwnIdeal.nD Cert.ROwnIdeal.τ).loc Cert.ROwnIdeal.main_arg3) = m ((c.tc : Thread Cert.KOwnIdeal.nD Cert.KOwnIdeal.τ).loc Cert.KOwnIdeal.main_arg3)
      ∧ m' ((c.tc : Thread Cert.ROwnIdeal.nD Cert.ROwnIdeal.τ).loc Cert.ROwnIdeal.main_arg4) = m ((c.tc : Thread Cert.KOwnIdeal.nD Cert.KOwnIdeal.τ).loc Cert.KOwnIdeal.main_arg4)) →
    ∃ (v0 : (c : Dev Cert.KOwnIdeal.nD) → Buf (Elt Ideal) ((c.tc : Thread Cert.KOwnIdeal.nD Cert.KOwnIdeal.τ).loc Cert.KOwnIdeal.main_v7)),
      θ_run (Cert.KOwnIdeal.defs (F := Ideal)) (onTc (τ := Cert.KOwnIdeal.τ) (Cert.KOwnIdeal.main (F := Ideal))) ⟨m, fun _ => 0, g⟩ (fun r => ∀ c : Dev Cert.KOwnIdeal.nD,
          r.2.mem ((c.tc : Thread Cert.KOwnIdeal.nD Cert.KOwnIdeal.τ).loc Cert.KOwnIdeal.main_v7) = v0 c
          ∧ r.2.mem ((c.tc : Thread Cert.KOwnIdeal.nD Cert.KOwnIdeal.τ).loc Cert.KOwnIdeal.main_arg0) = m ((c.tc : Thread Cert.KOwnIdeal.nD Cert.KOwnIdeal.τ).loc Cert.KOwnIdeal.main_arg0)
          ∧ r.2.mem ((c.tc : Thread Cert.KOwnIdeal.nD Cert.KOwnIdeal.τ).loc Cert.KOwnIdeal.main_arg1) = m ((c.tc : Thread Cert.KOwnIdeal.nD Cert.KOwnIdeal.τ).loc Cert.KOwnIdeal.main_arg1)
          ∧ r.2.mem ((c.tc : Thread Cert.KOwnIdeal.nD Cert.KOwnIdeal.τ).loc Cert.KOwnIdeal.main_arg2) = m ((c.tc : Thread Cert.KOwnIdeal.nD Cert.KOwnIdeal.τ).loc Cert.KOwnIdeal.main_arg2)
          ∧ r.2.mem ((c.tc : Thread Cert.KOwnIdeal.nD Cert.KOwnIdeal.τ).loc Cert.KOwnIdeal.main_arg3) = m ((c.tc : Thread Cert.KOwnIdeal.nD Cert.KOwnIdeal.τ).loc Cert.KOwnIdeal.main_arg3)
          ∧ r.2.mem ((c.tc : Thread Cert.KOwnIdeal.nD Cert.KOwnIdeal.τ).loc Cert.KOwnIdeal.main_arg4) = m ((c.tc : Thread Cert.KOwnIdeal.nD Cert.KOwnIdeal.τ).loc Cert.KOwnIdeal.main_arg4))
      ∧ θ_run (Cert.ROwnIdeal.defs (F := Ideal)) (onTc (τ := Cert.ROwnIdeal.τ) (Cert.ROwnIdeal.main (F := Ideal))) ⟨m', fun _ => 0, g'⟩ (fun r => ∀ c : Dev Cert.ROwnIdeal.nD,
          r.2.mem ((c.tc : Thread Cert.ROwnIdeal.nD Cert.ROwnIdeal.τ).loc Cert.ROwnIdeal.main_v68) = v0 c
          ∧ r.2.mem ((c.tc : Thread Cert.ROwnIdeal.nD Cert.ROwnIdeal.τ).loc Cert.ROwnIdeal.main_arg0) = m' ((c.tc : Thread Cert.ROwnIdeal.nD Cert.ROwnIdeal.τ).loc Cert.ROwnIdeal.main_arg0)
          ∧ r.2.mem ((c.tc : Thread Cert.ROwnIdeal.nD Cert.ROwnIdeal.τ).loc Cert.ROwnIdeal.main_arg1) = m' ((c.tc : Thread Cert.ROwnIdeal.nD Cert.ROwnIdeal.τ).loc Cert.ROwnIdeal.main_arg1)
          ∧ r.2.mem ((c.tc : Thread Cert.ROwnIdeal.nD Cert.ROwnIdeal.τ).loc Cert.ROwnIdeal.main_arg2) = m' ((c.tc : Thread Cert.ROwnIdeal.nD Cert.ROwnIdeal.τ).loc Cert.ROwnIdeal.main_arg2)
          ∧ r.2.mem ((c.tc : Thread Cert.ROwnIdeal.nD Cert.ROwnIdeal.τ).loc Cert.ROwnIdeal.main_arg3) = m' ((c.tc : Thread Cert.ROwnIdeal.nD Cert.ROwnIdeal.τ).loc Cert.ROwnIdeal.main_arg3)
          ∧ r.2.mem ((c.tc : Thread Cert.ROwnIdeal.nD Cert.ROwnIdeal.τ).loc Cert.ROwnIdeal.main_arg4) = m' ((c.tc : Thread Cert.ROwnIdeal.nD Cert.ROwnIdeal.τ).loc Cert.ROwnIdeal.main_arg4))

def Claim : Prop :=
  ∃ (hKPost : Cert.KPost.Facts) (hKPostIdeal : Cert.KPostIdeal.Facts) (hRPostIdeal : Cert.RPostIdeal.Facts) (hKXattn : Cert.KXattn.Facts) (hKXattnIdeal : Cert.KXattnIdeal.Facts) (hRXattnIdeal : Cert.RXattnIdeal.Facts) (hKLn2 : Cert.KLn2.Facts) (hKLn2Ideal : Cert.KLn2Ideal.Facts) (hRLn2Ideal : Cert.RLn2Ideal.Facts) (hKLoss : Cert.KLoss.Facts) (hKLossIdeal : Cert.KLossIdeal.Facts) (hRLossIdeal : Cert.RLossIdeal.Facts) (hKGates : Cert.KGates.Facts) (hKGatesIdeal : Cert.KGatesIdeal.Facts) (hRGatesIdeal : Cert.RGatesIdeal.Facts) (hKPool : Cert.KPool.Facts) (hKPoolIdeal : Cert.KPoolIdeal.Facts) (hRPoolIdeal : Cert.RPoolIdeal.Facts) (hKPre : Cert.KPre.Facts) (hKPreIdeal : Cert.KPreIdeal.Facts) (hRPreIdeal : Cert.RPreIdeal.Facts) (hKXattnf : Cert.KXattnf.Facts) (hKXattnfIdeal : Cert.KXattnfIdeal.Facts) (hRXattnfIdeal : Cert.RXattnfIdeal.Facts) (hKPoolf : Cert.KPoolf.Facts) (hKPoolfIdeal : Cert.KPoolfIdeal.Facts) (hRPoolfIdeal : Cert.RPoolfIdeal.Facts) (hKPostf : Cert.KPostf.Facts) (hKPostfIdeal : Cert.KPostfIdeal.Facts) (hRPostfIdeal : Cert.RPostfIdeal.Facts) (hKPref : Cert.KPref.Facts) (hKPrefIdeal : Cert.KPrefIdeal.Facts) (hRPrefIdeal : Cert.RPrefIdeal.Facts) (hKXqdx : Cert.KXqdx.Facts) (hKXqdxIdeal : Cert.KXqdxIdeal.Facts) (hRXqdxIdeal : Cert.RXqdxIdeal.Facts) (hKMlpdx : Cert.KMlpdx.Facts) (hKMlpdxIdeal : Cert.KMlpdxIdeal.Facts) (hRMlpdxIdeal : Cert.RMlpdxIdeal.Facts) (hKLnf : Cert.KLnf.Facts) (hKLnfIdeal : Cert.KLnfIdeal.Facts) (hRLnfIdeal : Cert.RLnfIdeal.Facts) (hKUpf : Cert.KUpf.Facts) (hKUpfIdeal : Cert.KUpfIdeal.Facts) (hRUpfIdeal : Cert.RUpfIdeal.Facts) (hKGatesf : Cert.KGatesf.Facts) (hKGatesfIdeal : Cert.KGatesfIdeal.Facts) (hRGatesfIdeal : Cert.RGatesfIdeal.Facts) (hKDownf : Cert.KDownf.Facts) (hKDownfIdeal : Cert.KDownfIdeal.Facts) (hRDownfIdeal : Cert.RDownfIdeal.Facts) (hKProjdx : Cert.KProjdx.Facts) (hKProjdxIdeal : Cert.KProjdxIdeal.Facts) (hRProjdxIdeal : Cert.RProjdxIdeal.Facts) (hKDowndw : Cert.KDowndw.Facts) (hKDowndwIdeal : Cert.KDowndwIdeal.Facts) (hRDowndwIdeal : Cert.RDowndwIdeal.Facts) (hKAdam : Cert.KAdam.Facts) (hKAdamIdeal : Cert.KAdamIdeal.Facts) (hRAdamIdeal : Cert.RAdamIdeal.Facts) (hKChippart : Cert.KChippart.Facts) (hKChippartIdeal : Cert.KChippartIdeal.Facts) (hRChippartIdeal : Cert.RChippartIdeal.Facts) (hKSmall : Cert.KSmall.Facts) (hKSmallIdeal : Cert.KSmallIdeal.Facts) (hRSmallIdeal : Cert.RSmallIdeal.Facts) (hKOwn : Cert.KOwn.Facts) (hKOwnIdeal : Cert.KOwnIdeal.Facts) (hROwnIdeal : Cert.ROwnIdeal.Facts) (hPre_finite_post : Cert.Pre_finite_post.Facts) (hPre_finite_xattn : Cert.Pre_finite_xattn.Facts) (hPre_finite_ln2 : Cert.Pre_finite_ln2.Facts) (hPre_finite_loss : Cert.Pre_finite_loss.Facts) (hPre_finite_gates : Cert.Pre_finite_gates.Facts) (hPre_finite_pool : Cert.Pre_finite_pool.Facts) (hPre_finite_pre : Cert.Pre_finite_pre.Facts) (hPre_finite_xattnf : Cert.Pre_finite_xattnf.Facts) (hPre_finite_poolf : Cert.Pre_finite_poolf.Facts) (hPre_finite_xqdx : Cert.Pre_finite_xqdx.Facts) (hPre_core_below_two : Cert.Pre_core_below_two.Facts) (hPre_a_slice_and_a_core : Cert.Pre_a_slice_and_a_core.Facts),
    quiescent_KPost (hKPost := hKPost)
    ∧ quiescent_KPostIdeal (hKPostIdeal := hKPostIdeal)
    ∧ quiescent_KPostIdeal_pre_finite_post (hKPostIdeal := hKPostIdeal) (hPre_finite_post := hPre_finite_post)
    ∧ quiescent_RPostIdeal (hRPostIdeal := hRPostIdeal)
    ∧ quiescent_RPostIdeal_pre_finite_post (hRPostIdeal := hRPostIdeal) (hPre_finite_post := hPre_finite_post)
    ∧ quiescent_KXattn (hKXattn := hKXattn)
    ∧ quiescent_KXattnIdeal (hKXattnIdeal := hKXattnIdeal)
    ∧ quiescent_KXattnIdeal_pre_finite_xattn (hKXattnIdeal := hKXattnIdeal) (hPre_finite_xattn := hPre_finite_xattn)
    ∧ quiescent_RXattnIdeal (hRXattnIdeal := hRXattnIdeal)
    ∧ quiescent_RXattnIdeal_pre_finite_xattn (hRXattnIdeal := hRXattnIdeal) (hPre_finite_xattn := hPre_finite_xattn)
    ∧ quiescent_KLn2 (hKLn2 := hKLn2)
    ∧ quiescent_KLn2Ideal (hKLn2Ideal := hKLn2Ideal)
    ∧ quiescent_KLn2Ideal_pre_finite_ln2 (hKLn2Ideal := hKLn2Ideal) (hPre_finite_ln2 := hPre_finite_ln2)
    ∧ quiescent_RLn2Ideal (hRLn2Ideal := hRLn2Ideal)
    ∧ quiescent_RLn2Ideal_pre_finite_ln2 (hRLn2Ideal := hRLn2Ideal) (hPre_finite_ln2 := hPre_finite_ln2)
    ∧ quiescent_KLoss (hKLoss := hKLoss)
    ∧ quiescent_KLossIdeal (hKLossIdeal := hKLossIdeal)
    ∧ quiescent_KLossIdeal_pre_finite_loss (hKLossIdeal := hKLossIdeal) (hPre_finite_loss := hPre_finite_loss)
    ∧ quiescent_RLossIdeal (hRLossIdeal := hRLossIdeal)
    ∧ quiescent_RLossIdeal_pre_finite_loss (hRLossIdeal := hRLossIdeal) (hPre_finite_loss := hPre_finite_loss)
    ∧ quiescent_KGates (hKGates := hKGates)
    ∧ quiescent_KGatesIdeal (hKGatesIdeal := hKGatesIdeal)
    ∧ quiescent_KGatesIdeal_pre_finite_gates (hKGatesIdeal := hKGatesIdeal) (hPre_finite_gates := hPre_finite_gates)
    ∧ quiescent_RGatesIdeal (hRGatesIdeal := hRGatesIdeal)
    ∧ quiescent_RGatesIdeal_pre_finite_gates (hRGatesIdeal := hRGatesIdeal) (hPre_finite_gates := hPre_finite_gates)
    ∧ quiescent_KPool (hKPool := hKPool)
    ∧ quiescent_KPoolIdeal (hKPoolIdeal := hKPoolIdeal)
    ∧ quiescent_KPoolIdeal_pre_finite_pool (hKPoolIdeal := hKPoolIdeal) (hPre_finite_pool := hPre_finite_pool)
    ∧ quiescent_RPoolIdeal (hRPoolIdeal := hRPoolIdeal)
    ∧ quiescent_RPoolIdeal_pre_finite_pool (hRPoolIdeal := hRPoolIdeal) (hPre_finite_pool := hPre_finite_pool)
    ∧ quiescent_KPre (hKPre := hKPre)
    ∧ quiescent_KPreIdeal (hKPreIdeal := hKPreIdeal)
    ∧ quiescent_KPreIdeal_pre_finite_pre (hKPreIdeal := hKPreIdeal) (hPre_finite_pre := hPre_finite_pre)
    ∧ quiescent_RPreIdeal (hRPreIdeal := hRPreIdeal)
    ∧ quiescent_RPreIdeal_pre_finite_pre (hRPreIdeal := hRPreIdeal) (hPre_finite_pre := hPre_finite_pre)
    ∧ quiescent_KXattnf (hKXattnf := hKXattnf)
    ∧ quiescent_KXattnfIdeal (hKXattnfIdeal := hKXattnfIdeal)
    ∧ quiescent_KXattnfIdeal_pre_finite_xattnf (hKXattnfIdeal := hKXattnfIdeal) (hPre_finite_xattnf := hPre_finite_xattnf)
    ∧ quiescent_RXattnfIdeal (hRXattnfIdeal := hRXattnfIdeal)
    ∧ quiescent_RXattnfIdeal_pre_finite_xattnf (hRXattnfIdeal := hRXattnfIdeal) (hPre_finite_xattnf := hPre_finite_xattnf)
    ∧ quiescent_KPoolf (hKPoolf := hKPoolf)
    ∧ quiescent_KPoolfIdeal (hKPoolfIdeal := hKPoolfIdeal)
    ∧ quiescent_KPoolfIdeal_pre_finite_poolf (hKPoolfIdeal := hKPoolfIdeal) (hPre_finite_poolf := hPre_finite_poolf)
    ∧ quiescent_RPoolfIdeal (hRPoolfIdeal := hRPoolfIdeal)
    ∧ quiescent_RPoolfIdeal_pre_finite_poolf (hRPoolfIdeal := hRPoolfIdeal) (hPre_finite_poolf := hPre_finite_poolf)
    ∧ quiescent_KPostf (hKPostf := hKPostf)
    ∧ quiescent_KPostfIdeal (hKPostfIdeal := hKPostfIdeal)
    ∧ quiescent_RPostfIdeal (hRPostfIdeal := hRPostfIdeal)
    ∧ quiescent_KPref (hKPref := hKPref)
    ∧ quiescent_KPrefIdeal (hKPrefIdeal := hKPrefIdeal)
    ∧ quiescent_RPrefIdeal (hRPrefIdeal := hRPrefIdeal)
    ∧ quiescent_KXqdx (hKXqdx := hKXqdx)
    ∧ quiescent_KXqdxIdeal (hKXqdxIdeal := hKXqdxIdeal)
    ∧ quiescent_KXqdxIdeal_pre_finite_xqdx (hKXqdxIdeal := hKXqdxIdeal) (hPre_finite_xqdx := hPre_finite_xqdx)
    ∧ quiescent_RXqdxIdeal (hRXqdxIdeal := hRXqdxIdeal)
    ∧ quiescent_RXqdxIdeal_pre_finite_xqdx (hRXqdxIdeal := hRXqdxIdeal) (hPre_finite_xqdx := hPre_finite_xqdx)
    ∧ quiescent_KMlpdx (hKMlpdx := hKMlpdx)
    ∧ quiescent_KMlpdxIdeal (hKMlpdxIdeal := hKMlpdxIdeal)
    ∧ quiescent_RMlpdxIdeal (hRMlpdxIdeal := hRMlpdxIdeal)
    ∧ quiescent_KLnf (hKLnf := hKLnf)
    ∧ quiescent_KLnfIdeal (hKLnfIdeal := hKLnfIdeal)
    ∧ quiescent_RLnfIdeal (hRLnfIdeal := hRLnfIdeal)
    ∧ quiescent_KUpf (hKUpf := hKUpf)
    ∧ quiescent_KUpfIdeal (hKUpfIdeal := hKUpfIdeal)
    ∧ quiescent_RUpfIdeal (hRUpfIdeal := hRUpfIdeal)
    ∧ quiescent_KGatesf (hKGatesf := hKGatesf)
    ∧ quiescent_KGatesfIdeal (hKGatesfIdeal := hKGatesfIdeal)
    ∧ quiescent_RGatesfIdeal (hRGatesfIdeal := hRGatesfIdeal)
    ∧ quiescent_KDownf (hKDownf := hKDownf)
    ∧ quiescent_KDownfIdeal (hKDownfIdeal := hKDownfIdeal)
    ∧ quiescent_RDownfIdeal (hRDownfIdeal := hRDownfIdeal)
    ∧ quiescent_KProjdx (hKProjdx := hKProjdx)
    ∧ quiescent_KProjdxIdeal (hKProjdxIdeal := hKProjdxIdeal)
    ∧ quiescent_RProjdxIdeal (hRProjdxIdeal := hRProjdxIdeal)
    ∧ quiescent_KDowndw (hKDowndw := hKDowndw)
    ∧ quiescent_KDowndwIdeal (hKDowndwIdeal := hKDowndwIdeal)
    ∧ quiescent_RDowndwIdeal (hRDowndwIdeal := hRDowndwIdeal)
    ∧ quiescent_KAdam (hKAdam := hKAdam)
    ∧ quiescent_KAdamIdeal (hKAdamIdeal := hKAdamIdeal)
    ∧ quiescent_RAdamIdeal (hRAdamIdeal := hRAdamIdeal)
    ∧ quiescent_KChippart (hKChippart := hKChippart) (hPre_core_below_two := hPre_core_below_two)
    ∧ quiescent_KChippartIdeal (hKChippartIdeal := hKChippartIdeal) (hPre_core_below_two := hPre_core_below_two)
    ∧ quiescent_RChippartIdeal (hRChippartIdeal := hRChippartIdeal) (hPre_core_below_two := hPre_core_below_two)
    ∧ quiescent_KSmall (hKSmall := hKSmall)
    ∧ quiescent_KSmallIdeal (hKSmallIdeal := hKSmallIdeal)
    ∧ quiescent_RSmallIdeal (hRSmallIdeal := hRSmallIdeal)
    ∧ quiescent_KOwn (hKOwn := hKOwn) (hPre_a_slice_and_a_core := hPre_a_slice_and_a_core)
    ∧ quiescent_KOwnIdeal (hKOwnIdeal := hKOwnIdeal) (hPre_a_slice_and_a_core := hPre_a_slice_and_a_core)
    ∧ quiescent_ROwnIdeal (hROwnIdeal := hROwnIdeal) (hPre_a_slice_and_a_core := hPre_a_slice_and_a_core)
    ∧ preserves_KPost_KPostIdeal
    ∧ algebraic_KPostIdeal_RPostIdeal_pre_finite_post (hKPostIdeal := hKPostIdeal) (hRPostIdeal := hRPostIdeal) (hPre_finite_post := hPre_finite_post)
    ∧ preserves_KXattn_KXattnIdeal
    ∧ algebraic_KXattnIdeal_RXattnIdeal_pre_finite_xattn (hKXattnIdeal := hKXattnIdeal) (hRXattnIdeal := hRXattnIdeal) (hPre_finite_xattn := hPre_finite_xattn)
    ∧ preserves_KLn2_KLn2Ideal
    ∧ algebraic_KLn2Ideal_RLn2Ideal_pre_finite_ln2 (hKLn2Ideal := hKLn2Ideal) (hRLn2Ideal := hRLn2Ideal) (hPre_finite_ln2 := hPre_finite_ln2)
    ∧ preserves_KLoss_KLossIdeal
    ∧ algebraic_KLossIdeal_RLossIdeal_pre_finite_loss (hKLossIdeal := hKLossIdeal) (hRLossIdeal := hRLossIdeal) (hPre_finite_loss := hPre_finite_loss)
    ∧ preserves_KGates_KGatesIdeal
    ∧ algebraic_KGatesIdeal_RGatesIdeal_pre_finite_gates (hKGatesIdeal := hKGatesIdeal) (hRGatesIdeal := hRGatesIdeal) (hPre_finite_gates := hPre_finite_gates)
    ∧ preserves_KPool_KPoolIdeal
    ∧ algebraic_KPoolIdeal_RPoolIdeal_pre_finite_pool (hKPoolIdeal := hKPoolIdeal) (hRPoolIdeal := hRPoolIdeal) (hPre_finite_pool := hPre_finite_pool)
    ∧ preserves_KPre_KPreIdeal
    ∧ algebraic_KPreIdeal_RPreIdeal_pre_finite_pre (hKPreIdeal := hKPreIdeal) (hRPreIdeal := hRPreIdeal) (hPre_finite_pre := hPre_finite_pre)
    ∧ preserves_KXattnf_KXattnfIdeal
    ∧ algebraic_KXattnfIdeal_RXattnfIdeal_pre_finite_xattnf (hKXattnfIdeal := hKXattnfIdeal) (hRXattnfIdeal := hRXattnfIdeal) (hPre_finite_xattnf := hPre_finite_xattnf)
    ∧ preserves_KPoolf_KPoolfIdeal
    ∧ algebraic_KPoolfIdeal_RPoolfIdeal_pre_finite_poolf (hKPoolfIdeal := hKPoolfIdeal) (hRPoolfIdeal := hRPoolfIdeal) (hPre_finite_poolf := hPre_finite_poolf)
    ∧ preserves_KPostf_KPostfIdeal
    ∧ algebraic_KPostfIdeal_RPostfIdeal (hKPostfIdeal := hKPostfIdeal) (hRPostfIdeal := hRPostfIdeal)
    ∧ preserves_KPref_KPrefIdeal
    ∧ algebraic_KPrefIdeal_RPrefIdeal (hKPrefIdeal := hKPrefIdeal) (hRPrefIdeal := hRPrefIdeal)
    ∧ preserves_KXqdx_KXqdxIdeal
    ∧ algebraic_KXqdxIdeal_RXqdxIdeal_pre_finite_xqdx (hKXqdxIdeal := hKXqdxIdeal) (hRXqdxIdeal := hRXqdxIdeal) (hPre_finite_xqdx := hPre_finite_xqdx)
    ∧ preserves_KMlpdx_KMlpdxIdeal
    ∧ algebraic_KMlpdxIdeal_RMlpdxIdeal (hKMlpdxIdeal := hKMlpdxIdeal) (hRMlpdxIdeal := hRMlpdxIdeal)
    ∧ preserves_KLnf_KLnfIdeal
    ∧ algebraic_KLnfIdeal_RLnfIdeal (hKLnfIdeal := hKLnfIdeal) (hRLnfIdeal := hRLnfIdeal)
    ∧ preserves_KUpf_KUpfIdeal
    ∧ algebraic_KUpfIdeal_RUpfIdeal (hKUpfIdeal := hKUpfIdeal) (hRUpfIdeal := hRUpfIdeal)
    ∧ preserves_KGatesf_KGatesfIdeal
    ∧ algebraic_KGatesfIdeal_RGatesfIdeal (hKGatesfIdeal := hKGatesfIdeal) (hRGatesfIdeal := hRGatesfIdeal)
    ∧ preserves_KDownf_KDownfIdeal
    ∧ algebraic_KDownfIdeal_RDownfIdeal (hKDownfIdeal := hKDownfIdeal) (hRDownfIdeal := hRDownfIdeal)
    ∧ preserves_KProjdx_KProjdxIdeal
    ∧ algebraic_KProjdxIdeal_RProjdxIdeal (hKProjdxIdeal := hKProjdxIdeal) (hRProjdxIdeal := hRProjdxIdeal)
    ∧ preserves_KDowndw_KDowndwIdeal
    ∧ algebraic_KDowndwIdeal_RDowndwIdeal (hKDowndwIdeal := hKDowndwIdeal) (hRDowndwIdeal := hRDowndwIdeal)
    ∧ preserves_KAdam_KAdamIdeal
    ∧ algebraic_KAdamIdeal_RAdamIdeal (hKAdamIdeal := hKAdamIdeal) (hRAdamIdeal := hRAdamIdeal)
    ∧ preserves_KChippart_KChippartIdeal
    ∧ algebraic_KChippartIdeal_RChippartIdeal (hKChippartIdeal := hKChippartIdeal) (hRChippartIdeal := hRChippartIdeal) (hPre_core_below_two := hPre_core_below_two)
    ∧ preserves_KSmall_KSmallIdeal
    ∧ algebraic_KSmallIdeal_RSmallIdeal (hKSmallIdeal := hKSmallIdeal) (hRSmallIdeal := hRSmallIdeal)
    ∧ preserves_KOwn_KOwnIdeal
    ∧ algebraic_KOwnIdeal_ROwnIdeal (hKOwnIdeal := hKOwnIdeal) (hROwnIdeal := hROwnIdeal) (hPre_a_slice_and_a_core := hPre_a_slice_and_a_core)
-- ==== Pre_a_slice_and_a_core.lean ====
abbrev S4x2048x2048 : Shape := ⟨3, ![4, 2048, 2048]⟩
abbrev S4x1024x2048 : Shape := ⟨3, ![4, 1024, 2048]⟩
abbrev S3x1024x2048 : Shape := ⟨3, ![3, 1024, 2048]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4x2048x2048 .f32) (main_arg1 : FVec F S4x1024x2048 .f32) (main_arg2 : FVec F S3x1024x2048 .bf16) (main_arg3 : IVec S1 32) (main_arg4 : IVec S1 32) : IVec S1 1 × IVec S1 1 :=
  let main_c : IVec S_ 32 := constantI S_ 32 0#32
  let main_v0 : IVec S1 32 := broadcastInDim S1 ![] bcast_S_S1 main_c
  let main_v1 : IVec S1 1 := cmpi .sge main_arg3 main_v0
  let main_c_0 : IVec S_ 32 := constantI S_ 32 3#32
  let main_v2 : IVec S1 32 := broadcastInDim S1 ![] bcast_S_S1 main_c_0
  let main_v3 : IVec S1 1 := cmpi .sle main_arg3 main_v2
  let main_v4 : IVec S1 1 := andi main_v1 main_v3
  let main_c_1 : IVec S_ 32 := constantI S_ 32 0#32
  let main_v5 : IVec S1 32 := broadcastInDim S1 ![] bcast_S_S1 main_c_1
  let main_v6 : IVec S1 1 := cmpi .sge main_arg4 main_v5
  let main_c_2 : IVec S_ 32 := constantI S_ 32 1#32
  let main_v7 : IVec S1 32 := broadcastInDim S1 ![] bcast_S_S1 main_c_2
  let main_v8 : IVec S1 1 := cmpi .sle main_arg4 main_v7
  let main_v9 : IVec S1 1 := andi main_v6 main_v8
  (main_v4, main_v9)
-- ==== Pre_core_below_two.lean ====
abbrev S4x2048x2048 : Shape := ⟨3, ![4, 2048, 2048]⟩
abbrev S4x1024x2048 : Shape := ⟨3, ![4, 1024, 2048]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4x2048x2048 .f32) (main_arg1 : FVec F S4x1024x2048 .f32) (main_arg2 : IVec S1 32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 1#32
  let main_v2 : IVec S1 32 := broadcastInDim S1 ![] bcast_S_S1 main_c_0
  let main_v3 : IVec S1 1 := cmpi .sle main_arg2 main_v2
  let main_v4 : IVec S1 1 := andi main_v1 main_v3
  main_v4
-- ==== Pre_finite_gates.lean ====
abbrev S2048x8 : Shape := ⟨2, ![2048, 8]⟩
abbrev S1x8 : Shape := ⟨2, ![1, 8]⟩
abbrev S_ : Shape := ⟨0, ![]⟩

class Facts : Prop where
  bcast_S_S2048x8 : S_.BroadcastsInDim S2048x8 (![] : Fin 0 → Fin S2048x8.rank)
  bcast_S_S1x8 : S_.BroadcastsInDim S1x8 (![] : Fin 0 → Fin S1x8.rank)

variable [Facts]

def fn {F : FTy → Type} [FloatOps F] (main_arg0 : FVec F S2048x8 .f32) (main_arg1 : FVec F S2048x8 .f32) (main_arg2 : FVec F S1x8 .f32) (main_arg3 : FVec F S1x8 .f32) (main_arg4 : FVec F S2048x8 .f32) (main_arg5 : FVec F S2048x8 .f32) : IVec S2048x8 1 × IVec S1x8 1 × IVec S1x8 1 × IVec S2048x8 1 :=
  let main_v0 : FVec F S2048x8 .f32 := Host.absf main_arg1
  let main_cst : FVec F S_ .f32 := constant S_ .f32 0x7F800000#32
  let main_v1 : FVec F S2048x8 .f32 := broadcastInDim S2048x8 ![] bcast_S_S2048x8 main_cst
  let main_v2 : IVec S2048x8 1 := cmpf .olt main_v0 main_v1
  let main_v3 : FVec F S1x8 .f32 := Host.absf main_arg2
  let main_cst_0 : FVec F S_ .f32 := constant S_ .f32 0x7F800000#32
  let main_v4 : FVec F S1x8 .f32 := broadcastInDim S1x8 ![] bcast_S_S1x8 main_cst_0
  let main_v5 : IVec S1x8 1 := cmpf .olt main_v3 main_v4
  let main_v6 : FVec F S1x8 .f32 := Host.absf main_arg3
  let main_cst_1 : FVec F S_ .f32 := constant S_ .f32 0x7F800000#32
  let main_v7 : FVec F S1x8 .f32 := broadcastInDim S1x8 ![] bcast_S_S1x8 main_cst_1
  let main_v8 : IVec S1x8 1 := cmpf .olt main_v6 main_v7
  let main_v9 : FVec F S2048x8 .f32 := Host.absf main_arg5
  let main_cst_2 : FVec F S_ .f32 := constant S_ .f32 0x7F800000#32
  let main_v10 : FVec F S2048x8 .f32 := broadcastInDim S2048x8 ![] bcast_S_S2048x8 main_cst_2
  let main_v11 : IVec S2048x8 1 := cmpf .olt main_v9 main_v10
  (main_v2, main_v5, main_v8, main_v11)
-- ==== Pre_finite_ln2.lean ====
abbrev S2048x2048 : Shape := ⟨2, ![2048, 2048]⟩
abbrev S1x2048 : Shape := ⟨2, ![1, 2048]⟩
abbrev S_ : Shape := ⟨0, ![]⟩

class Facts : Prop where
  bcast_S_S2048x2048 : S_.BroadcastsInDim S2048x2048 (![] : Fin 0 → Fin S2048x2048.rank)
  bcast_S_S1x2048 : S_.BroadcastsInDim S1x2048 (![] : Fin 0 → Fin S1x2048.rank)

variable [Facts]

def fn {F : FTy → Type} [FloatOps F] (main_arg0 : FVec F S2048x2048 .f32) (main_arg1 : FVec F S1x2048 .f32) (main_arg2 : FVec F S2048x2048 .f32) (main_arg3 : FVec F S2048x2048 .f32) : IVec S2048x2048 1 × IVec S1x2048 1 × IVec S2048x2048 1 × IVec S2048x2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S2048x2048 .f32 := Host.absf main_arg2
  let main_cst_1 : FVec F S_ .f32 := constant S_ .f32 0x7F800000#32
  let main_v7 : FVec F S2048x2048 .f32 := broadcastInDim S2048x2048 ![] bcast_S_S2048x2048 main_cst_1
  let main_v8 : IVec S2048x2048 1 := cmpf .olt main_v6 main_v7
  let main_v9 : FVec F S2048x2048 .f32 := Host.absf main_arg3
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  (main_v2, main_v5, main_v8, main_v11)
-- ==== Pre_finite_loss.lean ====
abbrev S2048x2048 : Shape := ⟨2, ![2048, 2048]⟩
abbrev S1x2048 : Shape := ⟨2, ![1, 2048]⟩
abbrev S_ : Shape := ⟨0, ![]⟩

class Facts : Prop where
  bcast_S_S2048x2048 : S_.BroadcastsInDim S2048x2048 (![] : Fin 0 → Fin S2048x2048.rank)
  bcast_S_S1x2048 : S_.BroadcastsInDim S1x2048 (![] : Fin 0 → Fin S1x2048.rank)

variable [Facts]

def fn {F : FTy → Type} [FloatOps F] (main_arg0 : FVec F S2048x2048 .f32) (main_arg1 : FVec F S1x2048 .f32) (main_arg2 : FVec F S1x2048 .f32) (main_arg3 : FVec F S2048x2048 .f32) : IVec S2048x2048 1 × IVec S1x2048 1 × IVec S1x2048 1 × IVec S2048x2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S2048x2048 .f32 := Host.absf main_arg3
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  (main_v2, main_v5, main_v8, main_v11)
-- ==== Pre_finite_pool.lean ====
abbrev S2048x2048 : Shape := ⟨2, ![2048, 2048]⟩
abbrev S2048x1024 : Shape := ⟨2, ![2048, 1024]⟩
abbrev S4x256x256 : Shape := ⟨3, ![4, 256, 256]⟩
abbrev S1x1024 : Shape := ⟨2, ![1, 1024]⟩
abbrev S_ : Shape := ⟨0, ![]⟩

class Facts : Prop where
  bcast_S_S2048x2048 : S_.BroadcastsInDim S2048x2048 (![] : Fin 0 → Fin S2048x2048.rank)
  bcast_S_S2048x1024 : S_.BroadcastsInDim S2048x1024 (![] : Fin 0 → Fin S2048x1024.rank)
  bcast_S_S4x256x256 : S_.BroadcastsInDim S4x256x256 (![] : Fin 0 → Fin S4x256x256.rank)
  bcast_S_S1x1024 : S_.BroadcastsInDim S1x1024 (![] : Fin 0 → Fin S1x1024.rank)

variable [Facts]

def fn {F : FTy → Type} [FloatOps F] (main_arg0 : FVec F S2048x2048 .f32) (main_arg1 : FVec F S2048x1024 .f32) (main_arg2 : FVec F S4x256x256 .bf16) (main_arg3 : FVec F S1x1024 .f32) : IVec S2048x2048 1 × IVec S2048x1024 1 × IVec S4x256x256 1 × IVec S1x1024 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S4x256x256 .bf16 := Host.absf main_arg2
  let main_cst_1 : FVec F S_ .bf16 := constant S_ .bf16 0x7F80#16
  let main_v7 : FVec F S4x256x256 .bf16 := broadcastInDim S4x256x256 ![] bcast_S_S4x256x256 main_cst_1
  let main_v8 : IVec S4x256x256 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  (main_v2, main_v5, main_v8, main_v11)
-- ==== Pre_finite_poolf.lean ====
abbrev S2048x1024 : Shape := ⟨2, ![2048, 1024]⟩
abbrev S4x256x256 : Shape := ⟨3, ![4, 256, 256]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)

variable [Facts]

def fn {F : FTy → Type} [FloatOps F] (main_arg0 : FVec F S2048x1024 .f32) (main_arg1 : FVec F S4x256x256 .bf16) (main_arg2 : FVec F S1x1024 .f32) : IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  main_v2
-- ==== Pre_finite_post.lean ====
abbrev S2048x2048 : Shape := ⟨2, ![2048, 2048]⟩
abbrev S2048x1024 : Shape := ⟨2, ![2048, 1024]⟩
abbrev S2048x4096 : Shape := ⟨2, ![2048, 4096]⟩
abbrev S1x128 : Shape := ⟨2, ![1, 128]⟩
abbrev S_ : Shape := ⟨0, ![]⟩

class Facts : Prop where
  bcast_S_S2048x2048 : S_.BroadcastsInDim S2048x2048 (![] : Fin 0 → Fin S2048x2048.rank)
  bcast_S_S2048x1024 : S_.BroadcastsInDim S2048x1024 (![] : Fin 0 → Fin S2048x1024.rank)
  bcast_S_S2048x4096 : S_.BroadcastsInDim S2048x4096 (![] : Fin 0 → Fin S2048x4096.rank)
  bcast_S_S1x128 : S_.BroadcastsInDim S1x128 (![] : Fin 0 → Fin S1x128.rank)

variable [Facts]

def fn {F : FTy → Type} [FloatOps F] (main_arg0 : FVec F S2048x2048 .f32) (main_arg1 : FVec F S2048x1024 .f32) (main_arg2 : FVec F S2048x4096 .f32) (main_arg3 : FVec F S1x128 .f32) : IVec S2048x2048 1 × IVec S2048x1024 1 × IVec S2048x4096 1 × IVec S1x128 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S2048x4096 .f32 := Host.absf main_arg2
  let main_cst_1 : FVec F S_ .f32 := constant S_ .f32 0x7F800000#32
  let main_v7 : FVec F S2048x4096 .f32 := broadcastInDim S2048x4096 ![] bcast_S_S2048x4096 main_cst_1
  let main_v8 : IVec S2048x4096 1 := cmpf .olt main_v6 main_v7
  let main_v9 : FVec F S1x128 .f32 := Host.absf main_arg3
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  (main_v2, main_v5, main_v8, main_v11)
-- ==== Pre_finite_pre.lean ====
abbrev S2048x4096 : Shape := ⟨2, ![2048, 4096]⟩
abbrev S4x3072 : Shape := ⟨2, ![4, 3072]⟩
abbrev S2048x3072 : Shape := ⟨2, ![2048, 3072]⟩
abbrev S_ : Shape := ⟨0, ![]⟩

class Facts : Prop where
  bcast_S_S2048x4096 : S_.BroadcastsInDim S2048x4096 (![] : Fin 0 → Fin S2048x4096.rank)
  bcast_S_S4x3072 : S_.BroadcastsInDim S4x3072 (![] : Fin 0 → Fin S4x3072.rank)
  bcast_S_S2048x3072 : S_.BroadcastsInDim S2048x3072 (![] : Fin 0 → Fin S2048x3072.rank)

variable [Facts]

def fn {F : FTy → Type} [FloatOps F] (main_arg0 : FVec F S2048x4096 .f32) (main_arg1 : FVec F S4x3072 .f32) (main_arg2 : FVec F S2048x3072 .f32) : IVec S2048x4096 1 × IVec S4x3072 1 × IVec S2048x3072 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_v3 : FVec F S4x3072 .f32 := Host.absf main_arg1
  let main_cst_0 : FVec F S_ .f32 := constant S_ .f32 0x7F800000#32
  let main_v4 : FVec F S4x3072 .f32 := broadcastInDim S4x3072 ![] bcast_S_S4x3072 main_cst_0
  let main_v5 : IVec S4x3072 1 := cmpf .olt main_v3 main_v4
  let main_v6 : FVec F S2048x3072 .f32 := Host.absf main_arg2
  let main_cst_1 : FVec F S_ .f32 := constant S_ .f32 0x7F800000#32
  let main_v7 : FVec F S2048x3072 .f32 := broadcastInDim S2048x3072 ![] bcast_S_S2048x3072 main_cst_1
  let main_v8 : IVec S2048x3072 1 := cmpf .olt main_v6 main_v7
  (main_v2, main_v5, main_v8)
-- ==== Pre_finite_xattn.lean ====
abbrev S2048x2048 : Shape := ⟨2, ![2048, 2048]⟩
abbrev S256x2048 : Shape := ⟨2, ![256, 2048]⟩
abbrev S_ : Shape := ⟨0, ![]⟩

class Facts : Prop where
  bcast_S_S2048x2048 : S_.BroadcastsInDim S2048x2048 (![] : Fin 0 → Fin S2048x2048.rank)
  bcast_S_S256x2048 : S_.BroadcastsInDim S256x2048 (![] : Fin 0 → Fin S256x2048.rank)

variable [Facts]

def fn {F : FTy → Type} [FloatOps F] (main_arg0 : FVec F S2048x2048 .bf16) (main_arg1 : FVec F S256x2048 .bf16) (main_arg2 : FVec F S256x2048 .bf16) (main_arg3 : FVec F S2048x2048 .bf16) : IVec S2048x2048 1 × IVec S256x2048 1 :=
  let main_v0 : FVec F S2048x2048 .bf16 := Host.absf main_arg0
  let main_cst : FVec F S_ .bf16 := constant S_ .bf16 0x7F80#16
  let main_v1 : FVec F S2048x2048 .bf16 := broadcastInDim S2048x2048 ![] bcast_S_S2048x2048 main_cst
  let main_v2 : IVec S2048x2048 1 := cmpf .olt main_v0 main_v1
  let main_v3 : FVec F S256x2048 .bf16 := Host.absf main_arg1
  let main_cst_0 : FVec F S_ .bf16 := constant S_ .bf16 0x7F80#16
  let main_v4 : FVec F S256x2048 .bf16 := broadcastInDim S256x2048 ![] bcast_S_S256x2048 main_cst_0
  let main_v5 : IVec S256x2048 1 := cmpf .olt main_v3 main_v4
  (main_v2, main_v5)
-- ==== Pre_finite_xattnf.lean ====
abbrev S2048x2048 : Shape := ⟨2, ![2048, 2048]⟩
abbrev S256x2048 : Shape := ⟨2, ![256, 2048]⟩
abbrev S_ : Shape := ⟨0, ![]⟩

class Facts : Prop where
  bcast_S_S2048x2048 : S_.BroadcastsInDim S2048x2048 (![] : Fin 0 → Fin S2048x2048.rank)
  bcast_S_S256x2048 : S_.BroadcastsInDim S256x2048 (![] : Fin 0 → Fin S256x2048.rank)

variable [Facts]

def fn {F : FTy → Type} [FloatOps F] (main_arg0 : FVec F S2048x2048 .bf16) (main_arg1 : FVec F S256x2048 .bf16) (main_arg2 : FVec F S256x2048 .bf16) : IVec S2048x2048 1 × IVec S256x2048 1 :=
  let main_v0 : FVec F S2048x2048 .bf16 := Host.absf main_arg0
  let main_cst : FVec F S_ .bf16 := constant S_ .bf16 0x7F80#16
  let main_v1 : FVec F S2048x2048 .bf16 := broadcastInDim S2048x2048 ![] bcast_S_S2048x2048 main_cst
  let main_v2 : IVec S2048x2048 1 := cmpf .olt main_v0 main_v1
  let main_v3 : FVec F S256x2048 .bf16 := Host.absf main_arg1
  let main_cst_0 : FVec F S_ .bf16 := constant S_ .bf16 0x7F80#16
  let main_v4 : FVec F S256x2048 .bf16 := broadcastInDim S256x2048 ![] bcast_S_S256x2048 main_cst_0
  let main_v5 : IVec S256x2048 1 := cmpf .olt main_v3 main_v4
  (main_v2, main_v5)
-- ==== Pre_finite_xqdx.lean ====
abbrev S2048x2048 : Shape := ⟨2, ![2048, 2048]⟩
abbrev S1x2048 : Shape := ⟨2, ![1, 2048]⟩
abbrev S_ : Shape := ⟨0, ![]⟩

class Facts : Prop where
  bcast_S_S2048x2048 : S_.BroadcastsInDim S2048x2048 (![] : Fin 0 → Fin S2048x2048.rank)
  bcast_S_S1x2048 : S_.BroadcastsInDim S1x2048 (![] : Fin 0 → Fin S1x2048.rank)

variable [Facts]

def fn {F : FTy → Type} [FloatOps F] (main_arg0 : FVec F S2048x2048 .f32) (main_arg1 : FVec F S1x2048 .f32) (main_arg2 : FVec F S2048x2048 .bf16) (main_arg3 : FVec F S2048x2048 .bf16) (main_arg4 : FVec F S2048x2048 .f32) : IVec S2048x2048 1 × IVec S1x2048 1 × IVec S2048x2048 1 × IVec S2048x2048 1 × IVec S2048x2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S2048x2048 .bf16 := Host.absf main_arg2
  let main_cst_1 : FVec F S_ .bf16 := constant S_ .bf16 0x7F80#16
  let main_v7 : FVec F S2048x2048 .bf16 := broadcastInDim S2048x2048 ![] bcast_S_S2048x2048 main_cst_1
  let main_v8 : IVec S2048x2048 1 := cmpf .olt main_v6 main_v7
  let main_v9 : FVec F S2048x2048 .bf16 := Host.absf main_arg3
  let main_cst_2 : FVec F S_ .bf16 := constant S_ .bf16 0x7F80#16
  let main_v10 : FVec F S2048x2048 .bf16 := broadcastInDim S2048x2048 ![] bcast_S_S2048x2048 main_cst_2
  let main_v11 : IVec S2048x2048 1 := cmpf .olt main_v9 main_v10
  let main_v12 : FVec F S2048x2048 .f32 := Host.absf main_arg4
  let main_cst_3 : FVec F S_ .f32 := constant S_ .f32 0x7F800000#32
  let main_v13 : FVec F S2048x2048 .f32 := broadcastInDim S2048x2048 ![] bcast_S_S2048x2048 main_cst_3
  let main_v14 : IVec S2048x2048 1 := cmpf .olt main_v12 main_v13
  (main_v2, main_v5, main_v8, main_v11, main_v14)
-- ==== KPost.lean ====
abbrev S2048x2048 : Shape := ⟨2, ![2048, 2048]⟩
abbrev S2048x1024 : Shape := ⟨2, ![2048, 1024]⟩
abbrev S2048x4096 : Shape := ⟨2, ![2048, 4096]⟩
abbrev S1x128 : Shape := ⟨2, ![1, 128]⟩
abbrev S1024x128 : Shape := ⟨2, ![1024, 128]⟩
abbrev S1024 : Shape := ⟨1, ![1024]⟩
abbrev S1024x1 : Shape := ⟨2, ![1024, 1]⟩
abbrev S128 : Shape := ⟨1, ![128]⟩

abbrev nBuf : Space → Nat
  | .hbm => 7
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x4096, .f32⟩
  | .hbm, ⟨3, _⟩ => ⟨S1x128, .f32⟩
  | .hbm, ⟨4, _⟩ => ⟨S2048x1024, .f32⟩
  | .hbm, ⟨5, _⟩ => ⟨S2048x1024, .bf16⟩
  | .hbm, ⟨6, _⟩ => ⟨S1x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1x128, .f32⟩
  | .local _ .vmem, ⟨7, _⟩ => ⟨S1024x128, .f32⟩
  | .local _ .vmem, ⟨8, _⟩ => ⟨S1024x128, .f32⟩
  | .local _ .vmem, ⟨9, _⟩ => ⟨S1024x128, .bf16⟩
  | .local _ .vmem, ⟨10, _⟩ => ⟨S1024x128, .bf16⟩
  | .local _ .vmem, ⟨11, _⟩ => ⟨S1x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v51 : BitVec 1 := Scalar.cmpi .eq arg0 c0_i32
  let arg1 : BitVec 32 := BitVec.ofNat 32 (i 1).val
  let c0_i32_21 : BitVec 32 := 0#32
  let v52 : BitVec 1 := Scalar.cmpi .eq arg1 c0_i32_21
  let v53 : BitVec 1 := Scalar.andi v51 v52
  let v54 : BitVec 32 := Scalar.extui v53
  let c0_i32_22 : BitVec 32 := 0#32
  let v55 : BitVec 1 := Scalar.cmpi .ne v54 c0_i32_22
  v55

def k0_cond2 (i : grid0.Coords) : BitVec 1 :=
  let arg0 : BitVec 32 := BitVec.ofNat 32 (i 0).val
  let c0_i32 : BitVec 32 := 0#32
  let v51 : BitVec 1 := Scalar.cmpi .eq arg0 c0_i32
  let arg1 : BitVec 32 := BitVec.ofNat 32 (i 1).val
  let c0_i32_21 : BitVec 32 := 0#32
  let v52 : BitVec 1 := Scalar.cmpi .eq arg1 c0_i32_21
  let v53 : BitVec 1 := Scalar.andi v51 v52
  let v_true : BitVec 1 := 1#1
  let v56 : BitVec 1 := Scalar.xori v53 v_true
  let v57 : BitVec 32 := Scalar.extui v56
  let c0_i32_23 : BitVec 32 := 0#32
  let v58 : BitVec 1 := Scalar.cmpi .ne v57 c0_i32_23
  v58

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== RPostIdeal.lean ====
abbrev S2048x2048 : Shape := ⟨2, ![2048, 2048]⟩
abbrev S2048x1024 : Shape := ⟨2, ![2048, 1024]⟩
abbrev S2048x4096 : Shape := ⟨2, ![2048, 4096]⟩
abbrev S1x128 : Shape := ⟨2, ![1, 128]⟩
abbrev S1x2048x1024 : Shape := ⟨3, ![1, 2048, 1024]⟩
abbrev S128 : Shape := ⟨1, ![128]⟩
abbrev S1x2048x8x128 : Shape := ⟨4, ![1, 2048, 8, 128]⟩
abbrev S_ : Shape := ⟨0, ![]⟩
abbrev S1x2048x8 : Shape := ⟨3, ![1, 2048, 8]⟩
abbrev S1x2048x8x1 : Shape := ⟨4, ![1, 2048, 8, 1]⟩
abbrev S1x1x1x128 : Shape := ⟨4, ![1, 1, 1, 128]⟩
abbrev S2048x8 : Shape := ⟨2, ![2048, 8]⟩

abbrev nBuf : Space → Nat
  | .hbm => 84
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x4096, .f32⟩
  | .hbm, ⟨3, _⟩ => ⟨S1x128, .f32⟩
  | .hbm, ⟨4, _⟩ => ⟨S2048x1024, .f32⟩
  | .hbm, ⟨5, _⟩ => ⟨S1x2048x1024, .f32⟩
  | .hbm, ⟨6, _⟩ => ⟨S128, .f32⟩
  | .hbm, ⟨7, _⟩ => ⟨S1x2048x8x128, .f32⟩
  | .hbm, ⟨8, _⟩ => ⟨S1x2048x8x128, .f32⟩
  | .hbm, ⟨9, _⟩ => ⟨S_, .f32⟩
  | .hbm, ⟨10, _⟩ => ⟨S1x2048x8, .f32⟩
  | .hbm, ⟨11, _⟩ => ⟨S1x2048x8x1, .f32⟩
  | .hbm, ⟨12, _⟩ => ⟨S_, .f32⟩
  | .hbm, ⟨13, _⟩ => ⟨S1x2048x8x1, .f32⟩
  | .hbm, ⟨14, _⟩ => ⟨S1x2048x8x1, .f32⟩
  | .hbm, ⟨15, _⟩ => ⟨S_, .f32⟩
  | .hbm, ⟨16, _⟩ => ⟨S1x2048x8x1, .f32⟩
  | .hbm, ⟨17, _⟩ => ⟨S1x2048x8x1, .f32⟩
  | .hbm, ⟨18, _⟩ => ⟨S1x2048x8x1, .f32⟩
  | .hbm, ⟨19, _⟩ => ⟨S1x2048x8x1, .f32⟩
  | .hbm, ⟨20, _⟩ => ⟨S_, .f32⟩
  | .hbm, ⟨21, _⟩ => ⟨S1x2048x8x1, .f32⟩
  | .hbm, ⟨22, _⟩ => ⟨S1x2048x8x1, .f32⟩
  | .hbm, ⟨23, _⟩ => ⟨S1x2048x8x128, .f32⟩
  | .hbm, ⟨24, _⟩ => ⟨S1x2048x8x128, .f32⟩
  | .hbm, ⟨25, _⟩ => ⟨S1x1x1x128, .f32⟩
  | .hbm, ⟨26, _⟩ => ⟨S1x2048x8x128, .f32⟩
  | .hbm, ⟨27, _⟩ => ⟨S1x2048x8x128, .f32⟩
  | .hbm, ⟨28, _⟩ => ⟨S1x2048x8x128, .f32⟩
  | .hbm, ⟨29, _⟩ => ⟨S1x2048x8x128, .f32⟩
  | .hbm, ⟨30, _⟩ => ⟨S1x2048x8x128, .f32⟩
  | .hbm, ⟨31, _⟩ => ⟨S_, .f32⟩
  | .hbm, ⟨32, _⟩ => ⟨S1x2048x8x128, .f32⟩
  | .hbm, ⟨33, _⟩ => ⟨S1x2048x8x128, .f32⟩
  | .hbm, ⟨34, _⟩ => ⟨S_, .f32⟩
  | .hbm, ⟨35, _⟩ => ⟨S1x2048x8x128, .f32⟩
  | .hbm, ⟨36, _⟩ => ⟨S1x2048x8x128, .f32⟩
  | .hbm, ⟨37, _⟩ => ⟨S_, .f32⟩
  | .hbm, ⟨38, _⟩ => ⟨S1x2048x8x128, .f32⟩
  | .hbm, ⟨39, _⟩ => ⟨S1x2048x8x128, .f32⟩
  | .hbm, ⟨40, _⟩ => ⟨S1x2048x8x128, .f32⟩
  | .hbm, ⟨41, _⟩ => ⟨S1x2048x8x128, .f32⟩
  | .hbm, ⟨42, _⟩ => ⟨S1x2048x8x128, .f32⟩
  | .hbm, ⟨43, _⟩ => ⟨S1x2048x1024, .f32⟩
  | .hbm, ⟨44, _⟩ => ⟨S2048x1024, .f32⟩
  | .hbm, ⟨45, _⟩ => ⟨S1x2048x1024, .f32⟩
  | .hbm, ⟨46, _⟩ => ⟨S1x2048x8x128, .f32⟩
  | .hbm, ⟨47, _⟩ => ⟨S1x2048x8x128, .f32⟩
  | .hbm, ⟨48, _⟩ => ⟨S1x2048x8x128, .f32⟩
  | .hbm, ⟨49, _⟩ => ⟨S1x2048x8x128, .f32⟩
  | .hbm, ⟨50, _⟩ => ⟨S1x2048x8x128, .f32⟩
  | .hbm, ⟨51, _⟩ => ⟨S1x2048x8x128, .f32⟩
  | .hbm, ⟨52, _⟩ => ⟨S1x2048x8x128, .f32⟩
  | .hbm, ⟨53, _⟩ => ⟨S1x2048x1024, .f32⟩
  | .hbm, ⟨54, _⟩ => ⟨S1x2048x8x128, .f32⟩
  | .hbm, ⟨55, _⟩ => ⟨S_, .f32⟩
  | .hbm, ⟨56, _⟩ => ⟨S1x128, .f32⟩
  | .hbm, ⟨57, _⟩ => ⟨S1x1x1x128, .f32⟩
  | .hbm, ⟨58, _⟩ => ⟨S1x2048x8x128, .f32⟩
  | .hbm, ⟨59, _⟩ => ⟨S1x2048x8x128, .f32⟩
  | .hbm, ⟨60, _⟩ => ⟨S_, .f32⟩
  | .hbm, ⟨61, _⟩ => ⟨S128, .f32⟩
  | .hbm, ⟨62, _⟩ => ⟨S1x2048x8x128, .f32⟩
  | .hbm, ⟨63, _⟩ => ⟨S_, .f32⟩
  | .hbm, ⟨64, _⟩ => ⟨S1x2048x8, .f32⟩
  | .hbm, ⟨65, _⟩ => ⟨S1x2048x8x1, .f32⟩
  | .hbm, ⟨66, _⟩ => ⟨S1x2048x8x128, .f32⟩
  | .hbm, ⟨67, _⟩ => ⟨S1x2048x8x128, .f32⟩
  | .hbm, ⟨68, _⟩ => ⟨S1x2048x8x1, .f32⟩
  | .hbm, ⟨69, _⟩ => ⟨S_, .f32⟩
  | .hbm, ⟨70, _⟩ => ⟨S1x2048x8x1, .f32⟩
  | .hbm, ⟨71, _⟩ => ⟨S1x2048x8x1, .f32⟩
  | .hbm, ⟨72, _⟩ => ⟨S_, .f32⟩
  | .hbm, ⟨73, _⟩ => ⟨S2048x8, .f32⟩
  | .hbm, ⟨74, _⟩ => ⟨S1x2048x8, .f32⟩
  | .hbm, ⟨75, _⟩ => ⟨S1x2048x8x128, .f32⟩
  | .hbm, ⟨76, _⟩ => ⟨S1x2048x8x128, .f32⟩
  | .hbm, ⟨77, _⟩ => ⟨S1x2048x8x128, .f32⟩
  | .hbm, ⟨78, _⟩ => ⟨S1x2048x8x128, .f32⟩
  | .hbm, ⟨79, _⟩ => ⟨S1x2048x8x128, .f32⟩
  | .hbm, ⟨80, _⟩ => ⟨S2048x1024, .f32⟩
  | .hbm, ⟨81, _⟩ => ⟨S2048x1024, .f32⟩
  | .hbm, ⟨82, _⟩ => ⟨S2048x1024, .bf16⟩
  | .hbm, ⟨83, _⟩ => ⟨S1x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v21_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v21_1 : Ref sig .tc := ⟨.hbm, 40, rfl⟩
abbrev main_v21_0 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_4 : Ref sig .tc := ⟨.hbm, 60, rfl⟩
abbrev main_v36 : Ref sig .tc := ⟨.hbm, 61, rfl⟩
abbrev main_v37 : Ref sig .tc := ⟨.hbm, 62, rfl⟩
abbrev main_cst_5 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_6 : Ref sig .tc := ⟨.hbm, 69, rfl⟩
abbrev main_v43 : Ref sig .tc := ⟨.hbm, 70, rfl⟩
abbrev main_v44 : Ref sig .tc := ⟨.hbm, 71, rfl⟩
abbrev main_cst_7 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩

abbrev nD : Nat := 1
abbrev τ : Topo := Topo.v7x

variable {F : FTy → Type} [FloatOps F]
-- ==== KXattn.lean ====
abbrev S2048x2048 : Shape := ⟨2, ![2048, 2048]⟩
abbrev S256x2048 : Shape := ⟨2, ![256, 2048]⟩
abbrev S1024x512 : Shape := ⟨2, ![1024, 512]⟩
abbrev S256x512 : Shape := ⟨2, ![256, 512]⟩
abbrev S1024x256 : Shape := ⟨2, ![1024, 256]⟩
abbrev S1024 : Shape := ⟨1, ![1024]⟩
abbrev S1024x1 : Shape := ⟨2, ![1024, 1]⟩

abbrev nBuf : Space → Nat
  | .hbm => 7
  | .vmem => 16
  | .smem => 0
  | _ => 0

abbrev bufTy : (tb : Table) → Fin (tcTables nBuf tb) → BufTy
  | .hbm, ⟨0, _⟩ => ⟨S2048x2048, .bf16⟩
  | .hbm, ⟨1, _⟩ => ⟨S256x2048, .bf16⟩
  | .hbm, ⟨2, _⟩ => ⟨S256x2048, .bf16⟩
  | .hbm, ⟨3, _⟩ => ⟨S2048x2048, .bf16⟩
  | .hbm, ⟨4, _⟩ => ⟨S2048x2048, .bf16⟩
  | .hbm, ⟨5, _⟩ => ⟨S256x2048, .bf16⟩
  | .hbm, ⟨6, _⟩ => ⟨S256x2048, .bf16⟩
  | .local _ .vmem, ⟨0, _⟩ => ⟨S1024x512, .bf16⟩
  | .local _ .vmem, ⟨1, _⟩ => ⟨S1024x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .f32⟩
  | .local _ .vmem, ⟨15, _⟩ => ⟨S256x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v39 : BitVec 1 := Scalar.cmpi .eq arg1 c1_i32
  let v40 : BitVec 32 := Scalar.extui v39
  let c0_i32_21 : BitVec 32 := 0#32
  let v41 : BitVec 1 := Scalar.cmpi .ne v40 c0_i32_21
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== RXattnIdeal.lean ====
abbrev S2048x2048 : Shape := ⟨2, ![2048, 2048]⟩
abbrev S256x2048 : Shape := ⟨2, ![256, 2048]⟩
abbrev S1x2048x4x512 : Shape := ⟨4, ![1, 2048, 4, 512]⟩
abbrev S1x256x4x512 : Shape := ⟨4, ![1, 256, 4, 512]⟩
abbrev S1x4x2048x256 : Shape := ⟨4, ![1, 4, 2048, 256]⟩
abbrev S_ : Shape := ⟨0, ![]⟩
abbrev S1x4x2048 : Shape := ⟨3, ![1, 4, 2048]⟩
abbrev S1x4x2048x1 : Shape := ⟨4, ![1, 4, 2048, 1]⟩
abbrev S1x4x512x2048 : Shape := ⟨4, ![1, 4, 512, 2048]⟩
abbrev S1x2048x2048 : Shape := ⟨3, ![1, 2048, 2048]⟩
abbrev S1x4x512x256 : Shape := ⟨4, ![1, 4, 512, 256]⟩
abbrev S4x2048 : Shape := ⟨2, ![4, 2048]⟩
abbrev S1x4x256x512 : Shape := ⟨4, ![1, 4, 256, 512]⟩
abbrev S1x4x2048x512 : Shape := ⟨4, ![1, 4, 2048, 512]⟩

abbrev nBuf : Space → Nat
  | .hbm => 90
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S256x2048, .bf16⟩
  | .hbm, ⟨2, _⟩ => ⟨S256x2048, .bf16⟩
  | .hbm, ⟨3, _⟩ => ⟨S2048x2048, .bf16⟩
  | .hbm, ⟨4, _⟩ => ⟨S2048x2048, .f32⟩
  | .hbm, ⟨5, _⟩ => ⟨S1x2048x4x512, .f32⟩
  | .hbm, ⟨6, _⟩ => ⟨S256x2048, .f32⟩
  | .hbm, ⟨7, _⟩ => ⟨S1x256x4x512, .f32⟩
  | .hbm, ⟨8, _⟩ => ⟨S256x2048, .f32⟩
  | .hbm, ⟨9, _⟩ => ⟨S1x256x4x512, .f32⟩
  | .hbm, ⟨10, _⟩ => ⟨S1x4x2048x256, .f32⟩
  | .hbm, ⟨11, _⟩ => ⟨S_, .f32⟩
  | .hbm, ⟨12, _⟩ => ⟨S1x4x2048x256, .f32⟩
  | .hbm, ⟨13, _⟩ => ⟨S1x4x2048x256, .f32⟩
  | .hbm, ⟨14, _⟩ => ⟨S_, .f32⟩
  | .hbm, ⟨15, _⟩ => ⟨S1x4x2048, .f32⟩
  | .hbm, ⟨16, _⟩ => ⟨S1x4x2048x1, .f32⟩
  | .hbm, ⟨17, _⟩ => ⟨S1x4x2048x256, .f32⟩
  | .hbm, ⟨18, _⟩ => ⟨S1x4x2048x256, .i1⟩
  | .hbm, ⟨19, _⟩ => ⟨S1x4x2048x256, .f32⟩
  | .hbm, ⟨20, _⟩ => ⟨S_, .f32⟩
  | .hbm, ⟨21, _⟩ => ⟨S1x4x2048, .f32⟩
  | .hbm, ⟨22, _⟩ => ⟨S_, .f32⟩
  | .hbm, ⟨23, _⟩ => ⟨S1x4x2048, .f32⟩
  | .hbm, ⟨24, _⟩ => ⟨S1x4x2048, .f32⟩
  | .hbm, ⟨25, _⟩ => ⟨S_, .f32⟩
  | .hbm, ⟨26, _⟩ => ⟨S1x4x2048, .f32⟩
  | .hbm, ⟨27, _⟩ => ⟨S1x4x2048, .i1⟩
  | .hbm, ⟨28, _⟩ => ⟨S_, .f32⟩
  | .hbm, ⟨29, _⟩ => ⟨S1x4x2048, .f32⟩
  | .hbm, ⟨30, _⟩ => ⟨S1x4x2048, .i1⟩
  | .hbm, ⟨31, _⟩ => ⟨S_, .f32⟩
  | .hbm, ⟨32, _⟩ => ⟨S1x4x2048, .f32⟩
  | .hbm, ⟨33, _⟩ => ⟨S_, .f32⟩
  | .hbm, ⟨34, _⟩ => ⟨S1x4x2048, .f32⟩
  | .hbm, ⟨35, _⟩ => ⟨S_, .f32⟩
  | .hbm, ⟨36, _⟩ => ⟨S1x4x2048, .f32⟩
  | .hbm, ⟨37, _⟩ => ⟨S1x4x2048, .f32⟩
  | .hbm, ⟨38, _⟩ => ⟨S1x4x2048, .f32⟩
  | .hbm, ⟨39, _⟩ => ⟨S1x4x2048x1, .f32⟩
  | .hbm, ⟨40, _⟩ => ⟨S1x4x2048x256, .f32⟩
  | .hbm, ⟨41, _⟩ => ⟨S1x4x2048x256, .f32⟩
  | .hbm, ⟨42, _⟩ => ⟨S1x4x2048x256, .f32⟩
  | .hbm, ⟨43, _⟩ => ⟨S_, .f32⟩
  | .hbm, ⟨44, _⟩ => ⟨S1x4x2048, .f32⟩
  | .hbm, ⟨45, _⟩ => ⟨S1x4x2048x1, .f32⟩
  | .hbm, ⟨46, _⟩ => ⟨S1x4x2048x256, .f32⟩
  | .hbm, ⟨47, _⟩ => ⟨S1x4x2048x256, .f32⟩
  | .hbm, ⟨48, _⟩ => ⟨S1x4x2048x1, .f32⟩
  | .hbm, ⟨49, _⟩ => ⟨S_, .f32⟩
  | .hbm, ⟨50, _⟩ => ⟨S1x4x2048x1, .f32⟩
  | .hbm, ⟨51, _⟩ => ⟨S1x4x2048x1, .f32⟩
  | .hbm, ⟨52, _⟩ => ⟨S1x4x512x2048, .f32⟩
  | .hbm, ⟨53, _⟩ => ⟨S1x2048x4x512, .f32⟩
  | .hbm, ⟨54, _⟩ => ⟨S1x2048x2048, .f32⟩
  | .hbm, ⟨55, _⟩ => ⟨S2048x2048, .f32⟩
  | .hbm, ⟨56, _⟩ => ⟨S1x2048x2048, .f32⟩
  | .hbm, ⟨57, _⟩ => ⟨S1x2048x4x512, .f32⟩
  | .hbm, ⟨58, _⟩ => ⟨S1x4x512x2048, .f32⟩
  | .hbm, ⟨59, _⟩ => ⟨S1x4x2048x256, .f32⟩
  | .hbm, ⟨60, _⟩ => ⟨S1x4x512x256, .f32⟩
  | .hbm, ⟨61, _⟩ => ⟨S1x256x4x512, .f32⟩
  | .hbm, ⟨62, _⟩ => ⟨S1x4x2048x256, .f32⟩
  | .hbm, ⟨63, _⟩ => ⟨S1x4x2048x256, .f32⟩
  | .hbm, ⟨64, _⟩ => ⟨S1x4x2048x256, .f32⟩
  | .hbm, ⟨65, _⟩ => ⟨S_, .f32⟩
  | .hbm, ⟨66, _⟩ => ⟨S1x4x2048, .f32⟩
  | .hbm, ⟨67, _⟩ => ⟨S1x4x2048x1, .f32⟩
  | .hbm, ⟨68, _⟩ => ⟨S1x4x2048x1, .f32⟩
  | .hbm, ⟨69, _⟩ => ⟨S1x4x2048x256, .f32⟩
  | .hbm, ⟨70, _⟩ => ⟨S1x4x2048x256, .f32⟩
  | .hbm, ⟨71, _⟩ => ⟨S_, .f32⟩
  | .hbm, ⟨72, _⟩ => ⟨S4x2048, .f32⟩
  | .hbm, ⟨73, _⟩ => ⟨S1x4x2048, .f32⟩
  | .hbm, ⟨74, _⟩ => ⟨S1x4x2048x256, .f32⟩
  | .hbm, ⟨75, _⟩ => ⟨S1x4x2048x256, .f32⟩
  | .hbm, ⟨76, _⟩ => ⟨S1x4x2048x256, .f32⟩
  | .hbm, ⟨77, _⟩ => ⟨S_, .f32⟩
  | .hbm, ⟨78, _⟩ => ⟨S1x4x2048x256, .f32⟩
  | .hbm, ⟨79, _⟩ => ⟨S1x4x2048x256, .f32⟩
  | .hbm, ⟨80, _⟩ => ⟨S1x4x256x512, .f32⟩
  | .hbm, ⟨81, _⟩ => ⟨S1x256x4x512, .f32⟩
  | .hbm, ⟨82, _⟩ => ⟨S1x4x2048x512, .f32⟩
  | .hbm, ⟨83, _⟩ => ⟨S1x2048x4x512, .f32⟩
  | .hbm, ⟨84, _⟩ => ⟨S2048x2048, .f32⟩
  | .hbm, ⟨85, _⟩ => ⟨S2048x2048, .bf16⟩
  | .hbm, ⟨86, _⟩ => ⟨S256x2048, .f32⟩
  | .hbm, ⟨87, _⟩ => ⟨S256x2048, .bf16⟩
  | .hbm, ⟨88, _⟩ => ⟨S256x2048, .f32⟩
  | .hbm, ⟨89, _⟩ => ⟨S256x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_10 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_11 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_12 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]
-- ==== KLn2.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S512x2048 : Shape := ⟨2, ![512, 2048]⟩
abbrev S512x1 : Shape := ⟨2, ![512, 1]⟩
abbrev S512 : Shape := ⟨1, ![512]⟩

abbrev nBuf : Space → Nat
  | .hbm => 29
  | .vmem => 15
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .bf16⟩
  | .hbm, ⟨27, _⟩ => ⟨S1x2048, .f32⟩
  | .hbm, ⟨28, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x1, .f32⟩
  | .local _ .vmem, ⟨7, _⟩ => ⟨S512x1, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S1x2048, .f32⟩
  | .local _ .vmem, ⟨14, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v16_3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v36 : BitVec 1 := Scalar.cmpi .eq arg0 c0_i32
  let v37 : BitVec 32 := Scalar.extui v36
  let c0_i32_19 : BitVec 32 := 0#32
  let v38 : BitVec 1 := Scalar.cmpi .ne v37 c0_i32_19
  v38

def k0_cond2 (i : grid0.Coords) : BitVec 1 :=
  let arg0 : BitVec 32 := BitVec.ofNat 32 (i 0).val
  let c0_i32 : BitVec 32 := 0#32
  let v36 : BitVec 1 := Scalar.cmpi .eq arg0 c0_i32
  let v_true : BitVec 1 := 1#1
  let v39 : BitVec 1 := Scalar.xori v36 v_true
  let v40 : BitVec 32 := Scalar.extui v39
  let c0_i32_20 : BitVec 32 := 0#32
  let v41 : BitVec 1 := Scalar.cmpi .ne v40 c0_i32_20
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== RLn2Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S1x2048x2048 : Shape := ⟨3, ![1, 2048, 2048]⟩
abbrev S1x2048x1 : Shape := ⟨3, ![1, 2048, 1]⟩
abbrev S1x1x2048 : Shape := ⟨3, ![1, 1, 2048]⟩

abbrev nBuf : Space → Nat
  | .hbm => 92
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S1x2048x2048, .f32⟩
  | .hbm, ⟨11, _⟩ => ⟨S2048, .f32⟩
  | .hbm, ⟨12, _⟩ => ⟨S_, .f32⟩
  | .hbm, ⟨13, _⟩ => ⟨S1x2048, .f32⟩
  | .hbm, ⟨14, _⟩ => ⟨S1x2048x1, .f32⟩
  | .hbm, ⟨15, _⟩ => ⟨S_, .f32⟩
  | .hbm, ⟨16, _⟩ => ⟨S1x2048x1, .f32⟩
  | .hbm, ⟨17, _⟩ => ⟨S1x2048x1, .f32⟩
  | .hbm, ⟨18, _⟩ => ⟨S1x2048x2048, .f32⟩
  | .hbm, ⟨19, _⟩ => ⟨S1x2048x2048, .f32⟩
  | .hbm, ⟨20, _⟩ => ⟨S1x2048x2048, .f32⟩
  | .hbm, ⟨21, _⟩ => ⟨S_, .f32⟩
  | .hbm, ⟨22, _⟩ => ⟨S1x2048, .f32⟩
  | .hbm, ⟨23, _⟩ => ⟨S1x2048x1, .f32⟩
  | .hbm, ⟨24, _⟩ => ⟨S_, .f32⟩
  | .hbm, ⟨25, _⟩ => ⟨S1x2048x1, .f32⟩
  | .hbm, ⟨26, _⟩ => ⟨S1x2048x1, .f32⟩
  | .hbm, ⟨27, _⟩ => ⟨S_, .f32⟩
  | .hbm, ⟨28, _⟩ => ⟨S1x2048x1, .f32⟩
  | .hbm, ⟨29, _⟩ => ⟨S1x2048x1, .f32⟩
  | .hbm, ⟨30, _⟩ => ⟨S1x2048x1, .f32⟩
  | .hbm, ⟨31, _⟩ => ⟨S1x2048x1, .f32⟩
  | .hbm, ⟨32, _⟩ => ⟨S_, .f32⟩
  | .hbm, ⟨33, _⟩ => ⟨S1x2048x1, .f32⟩
  | .hbm, ⟨34, _⟩ => ⟨S1x2048x1, .f32⟩
  | .hbm, ⟨35, _⟩ => ⟨S1x2048x2048, .f32⟩
  | .hbm, ⟨36, _⟩ => ⟨S1x2048x2048, .f32⟩
  | .hbm, ⟨37, _⟩ => ⟨S1x1x2048, .f32⟩
  | .hbm, ⟨38, _⟩ => ⟨S1x2048x2048, .f32⟩
  | .hbm, ⟨39, _⟩ => ⟨S1x2048x2048, .f32⟩
  | .hbm, ⟨40, _⟩ => ⟨S1x1x2048, .f32⟩
  | .hbm, ⟨41, _⟩ => ⟨S1x2048x2048, .f32⟩
  | .hbm, ⟨42, _⟩ => ⟨S1x2048x2048, .f32⟩
  | .hbm, ⟨43, _⟩ => ⟨S1x2048x2048, .f32⟩
  | .hbm, ⟨44, _⟩ => ⟨S_, .f32⟩
  | .hbm, ⟨45, _⟩ => ⟨S1x2048, .f32⟩
  | .hbm, ⟨46, _⟩ => ⟨S1x1x2048, .f32⟩
  | .hbm, ⟨47, _⟩ => ⟨S_, .f32⟩
  | .hbm, ⟨48, _⟩ => ⟨S2048, .f32⟩
  | .hbm, ⟨49, _⟩ => ⟨S1x2048x2048, .f32⟩
  | .hbm, ⟨50, _⟩ => ⟨S_, .f32⟩
  | .hbm, ⟨51, _⟩ => ⟨S1x2048, .f32⟩
  | .hbm, ⟨52, _⟩ => ⟨S1x1x2048, .f32⟩
  | .hbm, ⟨53, _⟩ => ⟨S1x2048x2048, .f32⟩
  | .hbm, ⟨54, _⟩ => ⟨S1x2048x2048, .f32⟩
  | .hbm, ⟨55, _⟩ => ⟨S_, .f32⟩
  | .hbm, ⟨56, _⟩ => ⟨S2048, .f32⟩
  | .hbm, ⟨57, _⟩ => ⟨S1x2048x2048, .f32⟩
  | .hbm, ⟨58, _⟩ => ⟨S_, .f32⟩
  | .hbm, ⟨59, _⟩ => ⟨S1x2048, .f32⟩
  | .hbm, ⟨60, _⟩ => ⟨S1x2048x1, .f32⟩
  | .hbm, ⟨61, _⟩ => ⟨S1x2048x2048, .f32⟩
  | .hbm, ⟨62, _⟩ => ⟨S1x2048x2048, .f32⟩
  | .hbm, ⟨63, _⟩ => ⟨S1x2048x1, .f32⟩
  | .hbm, ⟨64, _⟩ => ⟨S_, .f32⟩
  | .hbm, ⟨65, _⟩ => ⟨S1x2048x1, .f32⟩
  | .hbm, ⟨66, _⟩ => ⟨S1x2048x1, .f32⟩
  | .hbm, ⟨67, _⟩ => ⟨S_, .f32⟩
  | .hbm, ⟨68, _⟩ => ⟨S2048, .f32⟩
  | .hbm, ⟨69, _⟩ => ⟨S1x2048, .f32⟩
  | .hbm, ⟨70, _⟩ => ⟨S1x2048x2048, .f32⟩
  | .hbm, ⟨71, _⟩ => ⟨S1x2048x2048, .f32⟩
  | .hbm, ⟨72, _⟩ => ⟨S1x2048x2048, .f32⟩
  | .hbm, ⟨73, _⟩ => ⟨S1x2048x2048, .f32⟩
  | .hbm, ⟨74, _⟩ => ⟨S1x2048x2048, .f32⟩
  | .hbm, ⟨75, _⟩ => ⟨S1x2048x2048, .f32⟩
  | .hbm, ⟨76, _⟩ => ⟨S_, .f32⟩
  | .hbm, ⟨77, _⟩ => ⟨S1x2048, .f32⟩
  | .hbm, ⟨78, _⟩ => ⟨S1x2048x1, .f32⟩
  | .hbm, ⟨79, _⟩ => ⟨S_, .f32⟩
  | .hbm, ⟨80, _⟩ => ⟨S1x2048x1, .f32⟩
  | .hbm, ⟨81, _⟩ => ⟨S1x2048x1, .f32⟩
  | .hbm, ⟨82, _⟩ => ⟨S_, .f32⟩
  | .hbm, ⟨83, _⟩ => ⟨S2048, .f32⟩
  | .hbm, ⟨84, _⟩ => ⟨S1x2048, .f32⟩
  | .hbm, ⟨85, _⟩ => ⟨S1x2048x2048, .f32⟩
  | .hbm, ⟨86, _⟩ => ⟨S1x2048x2048, .f32⟩
  | .hbm, ⟨87, _⟩ => ⟨S2048x2048, .f32⟩
  | .hbm, ⟨88, _⟩ => ⟨S2048x2048, .f32⟩
  | .hbm, ⟨89, _⟩ => ⟨S2048x2048, .bf16⟩
  | .hbm, ⟨90, _⟩ => ⟨S1x2048, .f32⟩
  | .hbm, ⟨91, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_cst_11 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_12 : Ref sig .tc := ⟨.hbm, 64, rfl⟩
abbrev main_v47 : Ref sig .tc := ⟨.hbm, 65, rfl⟩
abbrev main_v48 : Ref sig .tc := ⟨.hbm, 66, rfl⟩
abbrev main_cst_13 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_14 : Ref sig .tc := ⟨.hbm, 76, rfl⟩
abbrev main_v57 : Ref sig .tc := ⟨.hbm, 77, rfl⟩
abbrev main_v58 : Ref sig .tc := ⟨.hbm, 78, rfl⟩
abbrev main_cst_15 : Ref sig .tc := ⟨.hbm, 79, rfl⟩
abbrev main_v59 : Ref sig .tc := ⟨.hbm, 80, rfl⟩
abbrev main_v60 : Ref sig .tc := ⟨.hbm, 81, rfl⟩
abbrev main_cst_16 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩

abbrev nD : Nat := 1
abbrev τ : Topo := Topo.v7x

variable {F : FTy → Type} [FloatOps F]
-- ==== KLoss.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S1x128 : Shape := ⟨2, ![1, 128]⟩
abbrev S512x2048 : Shape := ⟨2, ![512, 2048]⟩
abbrev S512x1 : Shape := ⟨2, ![512, 1]⟩
abbrev S512 : Shape := ⟨1, ![512]⟩
abbrev S1 : Shape := ⟨1, ![1]⟩
abbrev S1x1 : Shape := ⟨2, ![1, 1]⟩

abbrev nBuf : Space → Nat
  | .hbm => 30
  | .vmem => 15
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .bf16⟩
  | .hbm, ⟨27, _⟩ => ⟨S1x2048, .f32⟩
  | .hbm, ⟨28, _⟩ => ⟨S1x2048, .f32⟩
  | .hbm, ⟨29, _⟩ => ⟨S1x128, .f32⟩
  | .local _ .vmem, ⟨0, _⟩ => ⟨S512x2048, .f32⟩
  | .local _ .vmem, ⟨1, _⟩ => ⟨S512x2048, .f32⟩
  | .local _ .vmem, ⟨2, _⟩ => ⟨S512x1, .f32⟩
  | .local _ .vmem, ⟨3, _⟩ => ⟨S512x1, .f32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S1x2048, .f32⟩
  | .local _ .vmem, ⟨13, _⟩ => ⟨S1x2048, .f32⟩
  | .local _ .vmem, ⟨14, _⟩ => ⟨S1x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v16_3 : Ref sig .tc := ⟨.hbm, 28, rfl⟩
abbrev main_v16_4 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v49 : BitVec 1 := Scalar.cmpi .eq arg0 c0_i32
  let v50 : BitVec 32 := Scalar.extui v49
  let c0_i32_22 : BitVec 32 := 0#32
  let v51 : BitVec 1 := Scalar.cmpi .ne v50 c0_i32_22
  v51

def k0_cond2 (i : grid0.Coords) : BitVec 1 :=
  let arg0 : BitVec 32 := BitVec.ofNat 32 (i 0).val
  let c0_i32 : BitVec 32 := 0#32
  let v49 : BitVec 1 := Scalar.cmpi .eq arg0 c0_i32
  let v_true : BitVec 1 := 1#1
  let v52 : BitVec 1 := Scalar.xori v49 v_true
  let v53 : BitVec 32 := Scalar.extui v52
  let c0_i32_23 : BitVec 32 := 0#32
  let v54 : BitVec 1 := Scalar.cmpi .ne v53 c0_i32_23
  v54

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== RLossIdeal.lean ====
abbrev S2048x2048 : Shape := ⟨2, ![2048, 2048]⟩
abbrev S1x2048 : Shape := ⟨2, ![1, 2048]⟩
abbrev S1x2048x2048 : Shape := ⟨3, ![1, 2048, 2048]⟩
abbrev S2048 : Shape := ⟨1, ![2048]⟩
abbrev S_ : Shape := ⟨0, ![]⟩
abbrev S1x2048x1 : Shape := ⟨3, ![1, 2048, 1]⟩
abbrev S1x1x2048 : Shape := ⟨3, ![1, 1, 2048]⟩
abbrev S1x128 : Shape := ⟨2, ![1, 128]⟩

abbrev nBuf : Space → Nat
  | .hbm => 111
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S2048x2048, .f32⟩
  | .hbm, ⟨4, _⟩ => ⟨S1x2048x2048, .f32⟩
  | .hbm, ⟨5, _⟩ => ⟨S2048, .f32⟩
  | .hbm, ⟨6, _⟩ => ⟨S2048, .f32⟩
  | .hbm, ⟨7, _⟩ => ⟨S1x2048x2048, .f32⟩
  | .hbm, ⟨8, _⟩ => ⟨S_, .f32⟩
  | .hbm, ⟨9, _⟩ => ⟨S1x2048, .f32⟩
  | .hbm, ⟨10, _⟩ => ⟨S1x2048x1, .f32⟩
  | .hbm, ⟨11, _⟩ => ⟨S_, .f32⟩
  | .hbm, ⟨12, _⟩ => ⟨S1x2048x1, .f32⟩
  | .hbm, ⟨13, _⟩ => ⟨S1x2048x1, .f32⟩
  | .hbm, ⟨14, _⟩ => ⟨S1x2048x2048, .f32⟩
  | .hbm, ⟨15, _⟩ => ⟨S1x2048x2048, .f32⟩
  | .hbm, ⟨16, _⟩ => ⟨S1x2048x2048, .f32⟩
  | .hbm, ⟨17, _⟩ => ⟨S_, .f32⟩
  | .hbm, ⟨18, _⟩ => ⟨S1x2048, .f32⟩
  | .hbm, ⟨19, _⟩ => ⟨S1x2048x1, .f32⟩
  | .hbm, ⟨20, _⟩ => ⟨S_, .f32⟩
  | .hbm, ⟨21, _⟩ => ⟨S1x2048x1, .f32⟩
  | .hbm, ⟨22, _⟩ => ⟨S1x2048x1, .f32⟩
  | .hbm, ⟨23, _⟩ => ⟨S_, .f32⟩
  | .hbm, ⟨24, _⟩ => ⟨S1x2048x1, .f32⟩
  | .hbm, ⟨25, _⟩ => ⟨S1x2048x1, .f32⟩
  | .hbm, ⟨26, _⟩ => ⟨S1x2048x1, .f32⟩
  | .hbm, ⟨27, _⟩ => ⟨S1x2048x1, .f32⟩
  | .hbm, ⟨28, _⟩ => ⟨S_, .f32⟩
  | .hbm, ⟨29, _⟩ => ⟨S1x2048x1, .f32⟩
  | .hbm, ⟨30, _⟩ => ⟨S1x2048x1, .f32⟩
  | .hbm, ⟨31, _⟩ => ⟨S1x2048x2048, .f32⟩
  | .hbm, ⟨32, _⟩ => ⟨S1x2048x2048, .f32⟩
  | .hbm, ⟨33, _⟩ => ⟨S1x1x2048, .f32⟩
  | .hbm, ⟨34, _⟩ => ⟨S1x2048x2048, .f32⟩
  | .hbm, ⟨35, _⟩ => ⟨S1x2048x2048, .f32⟩
  | .hbm, ⟨36, _⟩ => ⟨S1x1x2048, .f32⟩
  | .hbm, ⟨37, _⟩ => ⟨S1x2048x2048, .f32⟩
  | .hbm, ⟨38, _⟩ => ⟨S1x2048x2048, .f32⟩
  | .hbm, ⟨39, _⟩ => ⟨S1x2048x2048, .f32⟩
  | .hbm, ⟨40, _⟩ => ⟨S1x2048x2048, .f32⟩
  | .hbm, ⟨41, _⟩ => ⟨S_, .f32⟩
  | .hbm, ⟨42, _⟩ => ⟨S1x2048x2048, .f32⟩
  | .hbm, ⟨43, _⟩ => ⟨S1x2048x2048, .f32⟩
  | .hbm, ⟨44, _⟩ => ⟨S_, .f32⟩
  | .hbm, ⟨45, _⟩ => ⟨S1x2048, .f32⟩
  | .hbm, ⟨46, _⟩ => ⟨S_, .f32⟩
  | .hbm, ⟨47, _⟩ => ⟨S1x2048, .f32⟩
  | .hbm, ⟨48, _⟩ => ⟨S1x2048, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S1x2048, .f32⟩
  | .hbm, ⟨57, _⟩ => ⟨S_, .f32⟩
  | .hbm, ⟨58, _⟩ => ⟨S1x2048, .f32⟩
  | .hbm, ⟨59, _⟩ => ⟨S1x2048, .f32⟩
  | .hbm, ⟨60, _⟩ => ⟨S1x2048x2048, .f32⟩
  | .hbm, ⟨61, _⟩ => ⟨S1x2048x2048, .f32⟩
  | .hbm, ⟨62, _⟩ => ⟨S_, .f32⟩
  | .hbm, ⟨63, _⟩ => ⟨S1x2048, .f32⟩
  | .hbm, ⟨64, _⟩ => ⟨S1x1x2048, .f32⟩
  | .hbm, ⟨65, _⟩ => ⟨S_, .f32⟩
  | .hbm, ⟨66, _⟩ => ⟨S2048, .f32⟩
  | .hbm, ⟨67, _⟩ => ⟨S1x2048x2048, .f32⟩
  | .hbm, ⟨68, _⟩ => ⟨S_, .f32⟩
  | .hbm, ⟨69, _⟩ => ⟨S1x2048, .f32⟩
  | .hbm, ⟨70, _⟩ => ⟨S1x1x2048, .f32⟩
  | .hbm, ⟨71, _⟩ => ⟨S1x2048x2048, .f32⟩
  | .hbm, ⟨72, _⟩ => ⟨S1x2048x2048, .f32⟩
  | .hbm, ⟨73, _⟩ => ⟨S_, .f32⟩
  | .hbm, ⟨74, _⟩ => ⟨S2048, .f32⟩
  | .hbm, ⟨75, _⟩ => ⟨S1x2048x2048, .f32⟩
  | .hbm, ⟨76, _⟩ => ⟨S_, .f32⟩
  | .hbm, ⟨77, _⟩ => ⟨S1x2048, .f32⟩
  | .hbm, ⟨78, _⟩ => ⟨S1x2048x1, .f32⟩
  | .hbm, ⟨79, _⟩ => ⟨S1x2048x2048, .f32⟩
  | .hbm, ⟨80, _⟩ => ⟨S1x2048x2048, .f32⟩
  | .hbm, ⟨81, _⟩ => ⟨S1x2048x1, .f32⟩
  | .hbm, ⟨82, _⟩ => ⟨S_, .f32⟩
  | .hbm, ⟨83, _⟩ => ⟨S1x2048x1, .f32⟩
  | .hbm, ⟨84, _⟩ => ⟨S1x2048x1, .f32⟩
  | .hbm, ⟨85, _⟩ => ⟨S_, .f32⟩
  | .hbm, ⟨86, _⟩ => ⟨S2048, .f32⟩
  | .hbm, ⟨87, _⟩ => ⟨S1x2048, .f32⟩
  | .hbm, ⟨88, _⟩ => ⟨S1x2048x2048, .f32⟩
  | .hbm, ⟨89, _⟩ => ⟨S1x2048x2048, .f32⟩
  | .hbm, ⟨90, _⟩ => ⟨S1x2048x2048, .f32⟩
  | .hbm, ⟨91, _⟩ => ⟨S1x2048x2048, .f32⟩
  | .hbm, ⟨92, _⟩ => ⟨S1x2048x2048, .f32⟩
  | .hbm, ⟨93, _⟩ => ⟨S1x2048x2048, .f32⟩
  | .hbm, ⟨94, _⟩ => ⟨S_, .f32⟩
  | .hbm, ⟨95, _⟩ => ⟨S1x2048, .f32⟩
  | .hbm, ⟨96, _⟩ => ⟨S1x2048x1, .f32⟩
  | .hbm, ⟨97, _⟩ => ⟨S_, .f32⟩
  | .hbm, ⟨98, _⟩ => ⟨S1x2048x1, .f32⟩
  | .hbm, ⟨99, _⟩ => ⟨S1x2048x1, .f32⟩
  | .hbm, ⟨100, _⟩ => ⟨S_, .f32⟩
  | .hbm, ⟨101, _⟩ => ⟨S2048, .f32⟩
  | .hbm, ⟨102, _⟩ => ⟨S1x2048, .f32⟩
  | .hbm, ⟨103, _⟩ => ⟨S1x2048x2048, .f32⟩
  | .hbm, ⟨104, _⟩ => ⟨S1x2048x2048, .f32⟩
  | .hbm, ⟨105, _⟩ => ⟨S2048x2048, .f32⟩
  | .hbm, ⟨106, _⟩ => ⟨S2048x2048, .f32⟩
  | .hbm, ⟨107, _⟩ => ⟨S2048x2048, .bf16⟩
  | .hbm, ⟨108, _⟩ => ⟨S1x2048, .f32⟩
  | .hbm, ⟨109, _⟩ => ⟨S1x2048, .f32⟩
  | .hbm, ⟨110, _⟩ => ⟨S1x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_cst_10 : Ref sig .tc := ⟨.hbm, 53, rfl⟩
abbrev main_cst_11 : Ref sig .tc := ⟨.hbm, 54, rfl⟩
abbrev main_v38 : Ref sig .tc := ⟨.hbm, 55, rfl⟩
abbrev main_v39 : Ref sig .tc := ⟨.hbm, 56, rfl⟩
abbrev main_cst_12 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_13 : Ref sig .tc := ⟨.hbm, 62, rfl⟩
abbrev main_v44 : Ref sig .tc := ⟨.hbm, 63, rfl⟩
abbrev main_v45 : Ref sig .tc := ⟨.hbm, 64, rfl⟩
abbrev main_cst_14 : Ref sig .tc := ⟨.hbm, 65, rfl⟩
abbrev main_v46 : Ref sig .tc := ⟨.hbm, 66, rfl⟩
abbrev main_v47 : Ref sig .tc := ⟨.hbm, 67, rfl⟩
abbrev main_cst_15 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_16 : Ref sig .tc := ⟨.hbm, 73, rfl⟩
abbrev main_v52 : Ref sig .tc := ⟨.hbm, 74, rfl⟩
abbrev main_v53 : Ref sig .tc := ⟨.hbm, 75, rfl⟩
abbrev main_cst_17 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_18 : Ref sig .tc := ⟨.hbm, 82, rfl⟩
abbrev main_v59 : Ref sig .tc := ⟨.hbm, 83, rfl⟩
abbrev main_v60 : Ref sig .tc := ⟨.hbm, 84, rfl⟩
abbrev main_cst_19 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_20 : Ref sig .tc := ⟨.hbm, 94, rfl⟩
abbrev main_v69 : Ref sig .tc := ⟨.hbm, 95, rfl⟩
abbrev main_v70 : Ref sig .tc := ⟨.hbm, 96, rfl⟩
abbrev main_cst_21 : Ref sig .tc := ⟨.hbm, 97, rfl⟩
abbrev main_v71 : Ref sig .tc := ⟨.hbm, 98, rfl⟩
abbrev main_v72 : Ref sig .tc := ⟨.hbm, 99, rfl⟩
abbrev main_cst_22 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩

abbrev nD : Nat := 1
abbrev τ : Topo := Topo.v7x

variable {F : FTy → Type} [FloatOps F]
-- ==== KGates.lean ====
abbrev S2048x8 : Shape := ⟨2, ![2048, 8]⟩
abbrev S1x8 : Shape := ⟨2, ![1, 8]⟩
abbrev S_ : Shape := ⟨0, ![]⟩
abbrev S1x128 : Shape := ⟨2, ![1, 128]⟩
abbrev S2048x16 : Shape := ⟨2, ![2048, 16]⟩
abbrev S2048x128 : Shape := ⟨2, ![2048, 128]⟩
abbrev S128 : Shape := ⟨1, ![128]⟩

abbrev nBuf : Space → Nat
  | .hbm => 56
  | .vmem => 8
  | .smem => 0
  | _ => 0

abbrev bufTy : (tb : Table) → Fin (tcTables nBuf tb) → BufTy
  | .hbm, ⟨0, _⟩ => ⟨S2048x8, .f32⟩
  | .hbm, ⟨1, _⟩ => ⟨S2048x8, .f32⟩
  | .hbm, ⟨2, _⟩ => ⟨S1x8, .f32⟩
  | .hbm, ⟨3, _⟩ => ⟨S1x8, .f32⟩
  | .hbm, ⟨4, _⟩ => ⟨S2048x8, .f32⟩
  | .hbm, ⟨5, _⟩ => ⟨S2048x8, .f32⟩
  | .hbm, ⟨6, _⟩ => ⟨S1x8, .f32⟩
  | .hbm, ⟨7, _⟩ => ⟨S_, .i32⟩
  | .hbm, ⟨8, _⟩ => ⟨S_, .f32⟩
  | .hbm, ⟨9, _⟩ => ⟨S1x128, .f32⟩
  | .hbm, ⟨10, _⟩ => ⟨S_, .i32⟩
  | .hbm, ⟨11, _⟩ => ⟨S_, .f32⟩
  | .hbm, ⟨12, _⟩ => ⟨S1x128, .f32⟩
  | .hbm, ⟨13, _⟩ => ⟨S2048x8, .f32⟩
  | .hbm, ⟨14, _⟩ => ⟨S2048x8, .f32⟩
  | .hbm, ⟨15, _⟩ => ⟨S_, .f32⟩
  | .hbm, ⟨16, _⟩ => ⟨S2048x8, .f32⟩
  | .hbm, ⟨17, _⟩ => ⟨S2048x8, .f32⟩
  | .hbm, ⟨18, _⟩ => ⟨S_, .f32⟩
  | .hbm, ⟨19, _⟩ => ⟨S2048x8, .f32⟩
  | .hbm, ⟨20, _⟩ => ⟨S2048x8, .f32⟩
  | .hbm, ⟨21, _⟩ => ⟨S1x8, .f32⟩
  | .hbm, ⟨22, _⟩ => ⟨S1x8, .f32⟩
  | .hbm, ⟨23, _⟩ => ⟨S2048x8, .f32⟩
  | .hbm, ⟨24, _⟩ => ⟨S2048x8, .f32⟩
  | .hbm, ⟨25, _⟩ => ⟨S_, .f32⟩
  | .hbm, ⟨26, _⟩ => ⟨S2048x8, .f32⟩
  | .hbm, ⟨27, _⟩ => ⟨S2048x8, .f32⟩
  | .hbm, ⟨28, _⟩ => ⟨S2048x8, .f32⟩
  | .hbm, ⟨29, _⟩ => ⟨S2048x8, .f32⟩
  | .hbm, ⟨30, _⟩ => ⟨S2048x8, .i1⟩
  | .hbm, ⟨31, _⟩ => ⟨S2048x8, .f32⟩
  | .hbm, ⟨32, _⟩ => ⟨S2048x8, .f32⟩
  | .hbm, ⟨33, _⟩ => ⟨S2048x8, .f32⟩
  | .hbm, ⟨34, _⟩ => ⟨S2048x8, .f32⟩
  | .hbm, ⟨35, _⟩ => ⟨S2048x8, .f32⟩
  | .hbm, ⟨36, _⟩ => ⟨S2048x8, .f32⟩
  | .hbm, ⟨37, _⟩ => ⟨S2048x8, .f32⟩
  | .hbm, ⟨38, _⟩ => ⟨S2048x8, .f32⟩
  | .hbm, ⟨39, _⟩ => ⟨S2048x8, .f32⟩
  | .hbm, ⟨40, _⟩ => ⟨S2048x8, .f32⟩
  | .hbm, ⟨41, _⟩ => ⟨S2048x16, .f32⟩
  | .hbm, ⟨42, _⟩ => ⟨S_, .i32⟩
  | .hbm, ⟨43, _⟩ => ⟨S_, .f32⟩
  | .hbm, ⟨44, _⟩ => ⟨S2048x128, .f32⟩
  | .hbm, ⟨45, _⟩ => ⟨S2048x16, .f32⟩
  | .hbm, ⟨46, _⟩ => ⟨S_, .i32⟩
  | .hbm, ⟨47, _⟩ => ⟨S_, .f32⟩
  | .hbm, ⟨48, _⟩ => ⟨S2048x128, .f32⟩
  | .hbm, ⟨49, _⟩ => ⟨S2048x16, .f32⟩
  | .hbm, ⟨50, _⟩ => ⟨S_, .i32⟩
  | .hbm, ⟨51, _⟩ => ⟨S_, .f32⟩
  | .hbm, ⟨52, _⟩ => ⟨S2048x128, .f32⟩
  | .hbm, ⟨53, _⟩ => ⟨S2048x128, .bf16⟩
  | .hbm, ⟨54, _⟩ => ⟨S1x128, .f32⟩
  | .hbm, ⟨55, _⟩ => ⟨S1x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S1x128, .f32⟩
  | .local _ .vmem, ⟨4, _⟩ => ⟨S1x128, .f32⟩
  | .local _ .vmem, ⟨5, _⟩ => ⟨S2048x128, .bf16⟩
  | .local _ .vmem, ⟨6, _⟩ => ⟨S1x128, .f32⟩
  | .local _ .vmem, ⟨7, _⟩ => ⟨S1x128, .f32⟩
  | _, _ => ⟨S2048x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_c_0 : Ref sig .tc := ⟨.hbm, 10, rfl⟩
abbrev main_call1_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call2_cst : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_call2_v5 : Ref sig .tc := ⟨.hbm, 31, rfl⟩
abbrev main_call2_v6 : Ref sig .tc := ⟨.hbm, 32, rfl⟩
abbrev main_call2_v7 : Ref sig .tc := ⟨.hbm, 33, rfl⟩
abbrev main_call2_v8 : Ref sig .tc := ⟨.hbm, 34, rfl⟩
abbrev main_call2_v9 : Ref sig .tc := ⟨.hbm, 35, rfl⟩
abbrev main_call2_v10 : Ref sig .tc := ⟨.hbm, 36, rfl⟩
abbrev main_call2_v11 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_c_2 : Ref sig .tc := ⟨.hbm, 42, rfl⟩
abbrev main_call3_v0 : Ref sig .tc := ⟨.hbm, 43, rfl⟩
abbrev main_v17 : Ref sig .tc := ⟨.hbm, 44, rfl⟩
abbrev main_v18 : Ref sig .tc := ⟨.hbm, 45, rfl⟩
abbrev main_c_3 : Ref sig .tc := ⟨.hbm, 46, rfl⟩
abbrev main_call4_v0 : Ref sig .tc := ⟨.hbm, 47, rfl⟩
abbrev main_v19 : Ref sig .tc := ⟨.hbm, 48, rfl⟩
abbrev main_v20 : Ref sig .tc := ⟨.hbm, 49, rfl⟩
abbrev main_c_4 : Ref sig .tc := ⟨.hbm, 50, rfl⟩
abbrev main_call5_v0 : Ref sig .tc := ⟨.hbm, 51, rfl⟩
abbrev main_v21 : Ref sig .tc := ⟨.hbm, 52, rfl⟩
abbrev main_v22_0 : Ref sig .tc := ⟨.hbm, 53, rfl⟩
abbrev main_v22_1 : Ref sig .tc := ⟨.hbm, 54, rfl⟩
abbrev main_v22_2 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== RGatesIdeal.lean ====
abbrev S2048x8 : Shape := ⟨2, ![2048, 8]⟩
abbrev S1x8 : Shape := ⟨2, ![1, 8]⟩
abbrev S1x2048x8 : Shape := ⟨3, ![1, 2048, 8]⟩
abbrev S8 : Shape := ⟨1, ![8]⟩
abbrev S_ : Shape := ⟨0, ![]⟩
abbrev S1x1x8 : Shape := ⟨3, ![1, 1, 8]⟩
abbrev S2048x16 : Shape := ⟨2, ![2048, 16]⟩
abbrev S2048x128 : Shape := ⟨2, ![2048, 128]⟩
abbrev S1x128 : Shape := ⟨2, ![1, 128]⟩

abbrev nBuf : Space → Nat
  | .hbm => 110
  | .vmem => 0
  | .smem => 0
  | _ => 0

abbrev bufTy : (tb : Table) → Fin (tcTables nBuf tb) → BufTy
  | .hbm, ⟨0, _⟩ => ⟨S2048x8, .f32⟩
  | .hbm, ⟨1, _⟩ => ⟨S2048x8, .f32⟩
  | .hbm, ⟨2, _⟩ => ⟨S1x8, .f32⟩
  | .hbm, ⟨3, _⟩ => ⟨S1x8, .f32⟩
  | .hbm, ⟨4, _⟩ => ⟨S2048x8, .f32⟩
  | .hbm, ⟨5, _⟩ => ⟨S2048x8, .f32⟩
  | .hbm, ⟨6, _⟩ => ⟨S1x2048x8, .f32⟩
  | .hbm, ⟨7, _⟩ => ⟨S1x2048x8, .f32⟩
  | .hbm, ⟨8, _⟩ => ⟨S8, .f32⟩
  | .hbm, ⟨9, _⟩ => ⟨S8, .f32⟩
  | .hbm, ⟨10, _⟩ => ⟨S1x2048x8, .f32⟩
  | .hbm, ⟨11, _⟩ => ⟨S1x2048x8, .f32⟩
  | .hbm, ⟨12, _⟩ => ⟨S_, .f32⟩
  | .hbm, ⟨13, _⟩ => ⟨S1x2048x8, .f32⟩
  | .hbm, ⟨14, _⟩ => ⟨S1x2048x8, .f32⟩
  | .hbm, ⟨15, _⟩ => ⟨S_, .f32⟩
  | .hbm, ⟨16, _⟩ => ⟨S1x2048x8, .f32⟩
  | .hbm, ⟨17, _⟩ => ⟨S1x2048x8, .f32⟩
  | .hbm, ⟨18, _⟩ => ⟨S_, .f32⟩
  | .hbm, ⟨19, _⟩ => ⟨S1x2048x8, .f32⟩
  | .hbm, ⟨20, _⟩ => ⟨S1x2048x8, .f32⟩
  | .hbm, ⟨21, _⟩ => ⟨S1x2048x8, .f32⟩
  | .hbm, ⟨22, _⟩ => ⟨S8, .f32⟩
  | .hbm, ⟨23, _⟩ => ⟨S8, .f32⟩
  | .hbm, ⟨24, _⟩ => ⟨S1x1x8, .f32⟩
  | .hbm, ⟨25, _⟩ => ⟨S1x2048x8, .f32⟩
  | .hbm, ⟨26, _⟩ => ⟨S1x2048x8, .f32⟩
  | .hbm, ⟨27, _⟩ => ⟨S_, .f32⟩
  | .hbm, ⟨28, _⟩ => ⟨S1x2048x8, .f32⟩
  | .hbm, ⟨29, _⟩ => ⟨S1x2048x8, .f32⟩
  | .hbm, ⟨30, _⟩ => ⟨S1x2048x8, .f32⟩
  | .hbm, ⟨31, _⟩ => ⟨S1x2048x8, .f32⟩
  | .hbm, ⟨32, _⟩ => ⟨S1x2048x8, .i1⟩
  | .hbm, ⟨33, _⟩ => ⟨S1x2048x8, .f32⟩
  | .hbm, ⟨34, _⟩ => ⟨S1x2048x8, .f32⟩
  | .hbm, ⟨35, _⟩ => ⟨S1x2048x8, .f32⟩
  | .hbm, ⟨36, _⟩ => ⟨S1x2048x8, .f32⟩
  | .hbm, ⟨37, _⟩ => ⟨S1x2048x8, .f32⟩
  | .hbm, ⟨38, _⟩ => ⟨S1x2048x8, .f32⟩
  | .hbm, ⟨39, _⟩ => ⟨S1x2048x8, .f32⟩
  | .hbm, ⟨40, _⟩ => ⟨S1x2048x8, .f32⟩
  | .hbm, ⟨41, _⟩ => ⟨S_, .f32⟩
  | .hbm, ⟨42, _⟩ => ⟨S1x2048x8, .f32⟩
  | .hbm, ⟨43, _⟩ => ⟨S1x2048x8, .i1⟩
  | .hbm, ⟨44, _⟩ => ⟨S_, .f32⟩
  | .hbm, ⟨45, _⟩ => ⟨S1x2048x8, .f32⟩
  | .hbm, ⟨46, _⟩ => ⟨S1x2048x8, .f32⟩
  | .hbm, ⟨47, _⟩ => ⟨S_, .f32⟩
  | .hbm, ⟨48, _⟩ => ⟨S1x2048x8, .f32⟩
  | .hbm, ⟨49, _⟩ => ⟨S1x2048x8, .i1⟩
  | .hbm, ⟨50, _⟩ => ⟨S_, .f32⟩
  | .hbm, ⟨51, _⟩ => ⟨S1x2048x8, .f32⟩
  | .hbm, ⟨52, _⟩ => ⟨S1x2048x8, .f32⟩
  | .hbm, ⟨53, _⟩ => ⟨S1x2048x8, .f32⟩
  | .hbm, ⟨54, _⟩ => ⟨S1x2048x8, .f32⟩
  | .hbm, ⟨55, _⟩ => ⟨S_, .f32⟩
  | .hbm, ⟨56, _⟩ => ⟨S_, .f32⟩
  | .hbm, ⟨57, _⟩ => ⟨S_, .i1⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S1x2048x8, .f32⟩
  | .hbm, ⟨63, _⟩ => ⟨S1x2048x8, .i1⟩
  | .hbm, ⟨64, _⟩ => ⟨S_, .f32⟩
  | .hbm, ⟨65, _⟩ => ⟨S1x2048x8, .f32⟩
  | .hbm, ⟨66, _⟩ => ⟨S1x2048x8, .f32⟩
  | .hbm, ⟨67, _⟩ => ⟨S1x2048x8, .f32⟩
  | .hbm, ⟨68, _⟩ => ⟨S1x2048x8, .f32⟩
  | .hbm, ⟨69, _⟩ => ⟨S1x2048x8, .f32⟩
  | .hbm, ⟨70, _⟩ => ⟨S_, .f32⟩
  | .hbm, ⟨71, _⟩ => ⟨S1x2048x8, .f32⟩
  | .hbm, ⟨72, _⟩ => ⟨S1x2048x8, .f32⟩
  | .hbm, ⟨73, _⟩ => ⟨S1x1x8, .f32⟩
  | .hbm, ⟨74, _⟩ => ⟨S1x2048x8, .f32⟩
  | .hbm, ⟨75, _⟩ => ⟨S1x2048x8, .f32⟩
  | .hbm, ⟨76, _⟩ => ⟨S1x2048x8, .f32⟩
  | .hbm, ⟨77, _⟩ => ⟨S1x2048x8, .f32⟩
  | .hbm, ⟨78, _⟩ => ⟨S1x2048x8, .f32⟩
  | .hbm, ⟨79, _⟩ => ⟨S1x2048x8, .f32⟩
  | .hbm, ⟨80, _⟩ => ⟨S1x2048x8, .f32⟩
  | .hbm, ⟨81, _⟩ => ⟨S_, .f32⟩
  | .hbm, ⟨82, _⟩ => ⟨S1x8, .f32⟩
  | .hbm, ⟨83, _⟩ => ⟨S1x1x8, .f32⟩
  | .hbm, ⟨84, _⟩ => ⟨S_, .f32⟩
  | .hbm, ⟨85, _⟩ => ⟨S8, .f32⟩
  | .hbm, ⟨86, _⟩ => ⟨S1x2048x8, .f32⟩
  | .hbm, ⟨87, _⟩ => ⟨S_, .f32⟩
  | .hbm, ⟨88, _⟩ => ⟨S1x8, .f32⟩
  | .hbm, ⟨89, _⟩ => ⟨S1x1x8, .f32⟩
  | .hbm, ⟨90, _⟩ => ⟨S_, .f32⟩
  | .hbm, ⟨91, _⟩ => ⟨S8, .f32⟩
  | .hbm, ⟨92, _⟩ => ⟨S8, .f32⟩
  | .hbm, ⟨93, _⟩ => ⟨S8, .f32⟩
  | .hbm, ⟨94, _⟩ => ⟨S1x2048x8, .f32⟩
  | .hbm, ⟨95, _⟩ => ⟨S2048x8, .f32⟩
  | .hbm, ⟨96, _⟩ => ⟨S2048x8, .f32⟩
  | .hbm, ⟨97, _⟩ => ⟨S2048x16, .f32⟩
  | .hbm, ⟨98, _⟩ => ⟨S_, .i32⟩
  | .hbm, ⟨99, _⟩ => ⟨S_, .f32⟩
  | .hbm, ⟨100, _⟩ => ⟨S2048x128, .f32⟩
  | .hbm, ⟨101, _⟩ => ⟨S2048x128, .bf16⟩
  | .hbm, ⟨102, _⟩ => ⟨S1x8, .f32⟩
  | .hbm, ⟨103, _⟩ => ⟨S_, .i32⟩
  | .hbm, ⟨104, _⟩ => ⟨S_, .f32⟩
  | .hbm, ⟨105, _⟩ => ⟨S1x128, .f32⟩
  | .hbm, ⟨106, _⟩ => ⟨S1x8, .f32⟩
  | .hbm, ⟨107, _⟩ => ⟨S_, .i32⟩
  | .hbm, ⟨108, _⟩ => ⟨S_, .f32⟩
  | .hbm, ⟨109, _⟩ => ⟨S1x128, .f32⟩
  | _, _ => ⟨S2048x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_v18_0 : Ref sig .tc := ⟨.hbm, 40, rfl⟩
abbrev main_call0_cst_0 : Ref sig .tc := ⟨.hbm, 41, rfl⟩
abbrev main_call0_v13 : Ref sig .tc := ⟨.hbm, 42, rfl⟩
abbrev main_call0_v14 : Ref sig .tc := ⟨.hbm, 43, rfl⟩
abbrev main_call0_cst_1 : Ref sig .tc := ⟨.hbm, 44, rfl⟩
abbrev main_call0_v15 : Ref sig .tc := ⟨.hbm, 45, rfl⟩
abbrev main_call0_v16 : Ref sig .tc := ⟨.hbm, 46, rfl⟩
abbrev main_call0_cst_2 : Ref sig .tc := ⟨.hbm, 47, rfl⟩
abbrev main_call0_v17 : Ref sig .tc := ⟨.hbm, 48, rfl⟩
abbrev main_call0_v18 : Ref sig .tc := ⟨.hbm, 49, rfl⟩
abbrev main_call0_cst_3 : Ref sig .tc := ⟨.hbm, 50, rfl⟩
abbrev main_call0_v19 : Ref sig .tc := ⟨.hbm, 51, rfl⟩
abbrev main_call0_v20 : Ref sig .tc := ⟨.hbm, 52, rfl⟩
abbrev main_call0_v21 : Ref sig .tc := ⟨.hbm, 53, rfl⟩
abbrev main_v18_1 : Ref sig .tc := ⟨.hbm, 54, rfl⟩
abbrev main_call0_cst_4 : Ref sig .tc := ⟨.hbm, 55, rfl⟩
abbrev main_call0_cst_5 : Ref sig .tc := ⟨.hbm, 56, rfl⟩
abbrev main_call0_v23 : Ref sig .tc := ⟨.hbm, 57, rfl⟩
abbrev main_call0_cst_6 : Ref sig .tc := ⟨.hbm, 58, rfl⟩
abbrev main_call0_cst_7 : Ref sig .tc := ⟨.hbm, 59, rfl⟩
abbrev main_call0_v24 : Ref sig .tc := ⟨.hbm, 60, rfl⟩
abbrev main_call0_cst_8 : Ref sig .tc := ⟨.hbm, 61, rfl⟩
abbrev main_call0_v25 : Ref sig .tc := ⟨.hbm, 62, rfl⟩
abbrev main_call0_v26 : Ref sig .tc := ⟨.hbm, 63, rfl⟩
abbrev main_call0_cst_9 : Ref sig .tc := ⟨.hbm, 64, rfl⟩
abbrev main_call0_v27 : Ref sig .tc := ⟨.hbm, 65, rfl⟩
abbrev main_call0_v28 : Ref sig .tc := ⟨.hbm, 66, rfl⟩
abbrev main_call0_v29 : Ref sig .tc := ⟨.hbm, 67, rfl⟩
abbrev main_call0_v30 : Ref sig .tc := ⟨.hbm, 68, rfl⟩
abbrev main_call0_v31 : Ref sig .tc := ⟨.hbm, 69, rfl⟩
abbrev main_call0_cst_10 : Ref sig .tc := ⟨.hbm, 70, rfl⟩
abbrev main_call0_v32 : Ref sig .tc := ⟨.hbm, 71, rfl⟩
abbrev main_v18_2 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_cst_2 : Ref sig .tc := ⟨.hbm, 81, rfl⟩
abbrev main_v27 : Ref sig .tc := ⟨.hbm, 82, rfl⟩
abbrev main_v28 : Ref sig .tc := ⟨.hbm, 83, rfl⟩
abbrev main_cst_3 : Ref sig .tc := ⟨.hbm, 84, rfl⟩
abbrev main_v29 : Ref sig .tc := ⟨.hbm, 85, rfl⟩
abbrev main_v30 : Ref sig .tc := ⟨.hbm, 86, rfl⟩
abbrev main_cst_4 : Ref sig .tc := ⟨.hbm, 87, rfl⟩
abbrev main_v31 : Ref sig .tc := ⟨.hbm, 88, rfl⟩
abbrev main_v32 : Ref sig .tc := ⟨.hbm, 89, rfl⟩
abbrev main_cst_5 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_c : Ref sig .tc := ⟨.hbm, 98, rfl⟩
abbrev main_call2_v0 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_c_6 : Ref sig .tc := ⟨.hbm, 103, rfl⟩
abbrev main_call3_v0 : Ref sig .tc := ⟨.hbm, 104, rfl⟩
abbrev main_v43 : Ref sig .tc := ⟨.hbm, 105, rfl⟩
abbrev main_v44 : Ref sig .tc := ⟨.hbm, 106, rfl⟩
abbrev main_c_7 : Ref sig .tc := ⟨.hbm, 107, rfl⟩
abbrev main_call4_v0 : Ref sig .tc := ⟨.hbm, 108, rfl⟩
abbrev main_v45 : Ref sig .tc := ⟨.hbm, 109, rfl⟩

abbrev nD : Nat := 1
abbrev τ : Topo := Topo.v7x

variable {F : FTy → Type} [FloatOps F]
-- ==== KPool.lean ====
abbrev S2048x2048 : Shape := ⟨2, ![2048, 2048]⟩
abbrev S2048x1024 : Shape := ⟨2, ![2048, 1024]⟩
abbrev S4x256x256 : Shape := ⟨3, ![4, 256, 256]⟩
abbrev S1x1024 : Shape := ⟨2, ![1, 1024]⟩
abbrev S2048x256 : Shape := ⟨2, ![2048, 256]⟩
abbrev S1x256x256 : Shape := ⟨3, ![1, 256, 256]⟩
abbrev S1x256 : Shape := ⟨2, ![1, 256]⟩
abbrev S256x256 : Shape := ⟨2, ![256, 256]⟩
abbrev S256 : Shape := ⟨1, ![256]⟩

abbrev nBuf : Space → Nat
  | .hbm => 7
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S4x256x256, .bf16⟩
  | .hbm, ⟨3, _⟩ => ⟨S1x1024, .f32⟩
  | .hbm, ⟨4, _⟩ => ⟨S2048x1024, .bf16⟩
  | .hbm, ⟨5, _⟩ => ⟨S4x256x256, .f32⟩
  | .hbm, ⟨6, _⟩ => ⟨S1x1024, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S1x256x256, .bf16⟩
  | .local _ .vmem, ⟨5, _⟩ => ⟨S1x256x256, .bf16⟩
  | .local _ .vmem, ⟨6, _⟩ => ⟨S1x256, .f32⟩
  | .local _ .vmem, ⟨7, _⟩ => ⟨S1x256, .f32⟩
  | .local _ .vmem, ⟨8, _⟩ => ⟨S2048x256, .bf16⟩
  | .local _ .vmem, ⟨9, _⟩ => ⟨S2048x256, .bf16⟩
  | .local _ .vmem, ⟨10, _⟩ => ⟨S1x256x256, .f32⟩
  | .local _ .vmem, ⟨11, _⟩ => ⟨S1x256x256, .f32⟩
  | .local _ .vmem, ⟨12, _⟩ => ⟨S1x256, .f32⟩
  | .local _ .vmem, ⟨13, _⟩ => ⟨S1x256, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RPoolIdeal.lean ====
abbrev S2048x2048 : Shape := ⟨2, ![2048, 2048]⟩
abbrev S2048x1024 : Shape := ⟨2, ![2048, 1024]⟩
abbrev S4x256x256 : Shape := ⟨3, ![4, 256, 256]⟩
abbrev S1x1024 : Shape := ⟨2, ![1, 1024]⟩
abbrev S1x2048x1024 : Shape := ⟨3, ![1, 2048, 1024]⟩
abbrev S1024 : Shape := ⟨1, ![1024]⟩
abbrev S1x2048x4x256 : Shape := ⟨4, ![1, 2048, 4, 256]⟩
abbrev S_ : Shape := ⟨0, ![]⟩
abbrev S2048 : Shape := ⟨1, ![2048]⟩
abbrev S1x2048x1x256 : Shape := ⟨4, ![1, 2048, 1, 256]⟩
abbrev S1x2048x256 : Shape := ⟨3, ![1, 2048, 256]⟩
abbrev S1x2x256 : Shape := ⟨3, ![1, 2, 256]⟩
abbrev S1x2046x256 : Shape := ⟨3, ![1, 2046, 256]⟩
abbrev S1x2048x1 : Shape := ⟨3, ![1, 2048, 1]⟩
abbrev S1x4x256 : Shape := ⟨3, ![1, 4, 256]⟩
abbrev S1x2044x256 : Shape := ⟨3, ![1, 2044, 256]⟩
abbrev S1x8x256 : Shape := ⟨3, ![1, 8, 256]⟩
abbrev S1x2040x256 : Shape := ⟨3, ![1, 2040, 256]⟩
abbrev S1x16x256 : Shape := ⟨3, ![1, 16, 256]⟩
abbrev S1x2032x256 : Shape := ⟨3, ![1, 2032, 256]⟩
abbrev S4x256x1x2048 : Shape := ⟨4, ![4, 256, 1, 2048]⟩
abbrev S1x1x1024 : Shape := ⟨3, ![1, 1, 1024]⟩
abbrev S4x1x2048x256 : Shape := ⟨4, ![4, 1, 2048, 256]⟩

abbrev nBuf : Space → Nat
  | .hbm => 180
  | .vmem => 0
  | .smem => 0
  | _ => 0

abbrev hbmTy0_0 (i : Nat) : BufTy := match i % 128 with
  | 0 => ⟨S2048x2048, .f32⟩
  | 1 => ⟨S2048x1024, .f32⟩
  | 2 => ⟨S4x256x256, .bf16⟩
  | 3 => ⟨S1x1024, .f32⟩
  | 4 => ⟨S4x256x256, .f32⟩
  | 5 => ⟨S1x2048x1024, .f32⟩
  | 6 => ⟨S1024, .f32⟩
  | 7 => ⟨S1x2048x4x256, .f32⟩
  | 8 => ⟨S_, .f32⟩
  | 9 => ⟨S_, .f32⟩
  | 10 => ⟨S1x2048x4x256, .f32⟩
  | 11 => ⟨S2048, .i32⟩
  | 12 => ⟨S1x2048x1x256, .f32⟩
  | 13 => ⟨S1x2048x256, .f32⟩
  | 14 => ⟨S_, .f32⟩
  | 15 => ⟨S1x2x256, .f32⟩
  | 16 => ⟨S1x2046x256, .f32⟩
  | 17 => ⟨S1x2048x256, .f32⟩
  | 18 => ⟨S_, .f32⟩
  | 19 => ⟨S1x2x256, .f32⟩
  | 20 => ⟨S_, .i32⟩
  | 21 => ⟨S2048, .i32⟩
  | 22 => ⟨S2048, .i32⟩
  | 23 => ⟨S_, .i32⟩
  | 24 => ⟨S2048, .i32⟩
  | 25 => ⟨S2048, .i32⟩
  | 26 => ⟨S2048, .f32⟩
  | 27 => ⟨S1x2048x1, .f32⟩
  | 28 => ⟨S1x2048x256, .f32⟩
  | 29 => ⟨S1x2048x256, .f32⟩
  | 30 => ⟨S1x2048x256, .f32⟩
  | 31 => ⟨S1x2048x1x256, .f32⟩
  | 32 => ⟨S1x2048x256, .f32⟩
  | 33 => ⟨S_, .f32⟩
  | 34 => ⟨S1x4x256, .f32⟩
  | 35 => ⟨S1x2044x256, .f32⟩
  | 36 => ⟨S1x2048x256, .f32⟩
  | 37 => ⟨S_, .f32⟩
  | 38 => ⟨S1x4x256, .f32⟩
  | 39 => ⟨S_, .i32⟩
  | 40 => ⟨S2048, .i32⟩
  | 41 => ⟨S2048, .i32⟩
  | 42 => ⟨S_, .i32⟩
  | 43 => ⟨S2048, .i32⟩
  | 44 => ⟨S2048, .i32⟩
  | 45 => ⟨S2048, .f32⟩
  | 46 => ⟨S1x2048x1, .f32⟩
  | 47 => ⟨S1x2048x256, .f32⟩
  | 48 => ⟨S1x2048x256, .f32⟩
  | 49 => ⟨S1x2048x256, .f32⟩
  | 50 => ⟨S1x2048x1x256, .f32⟩
  | 51 => ⟨S1x2048x256, .f32⟩
  | 52 => ⟨S_, .f32⟩
  | 53 => ⟨S1x8x256, .f32⟩
  | 54 => ⟨S1x2040x256, .f32⟩
  | 55 => ⟨S1x2048x256, .f32⟩
  | 56 => ⟨S_, .f32⟩
  | 57 => ⟨S1x8x256, .f32⟩
  | 58 => ⟨S_, .i32⟩
  | 59 => ⟨S2048, .i32⟩
  | 60 => ⟨S2048, .i32⟩
  | 61 => ⟨S_, .i32⟩
  | 62 => ⟨S2048, .i32⟩
  | 63 => ⟨S2048, .i32⟩
  | 64 => ⟨S2048, .f32⟩
  | 65 => ⟨S1x2048x1, .f32⟩
  | 66 => ⟨S1x2048x256, .f32⟩
  | 67 => ⟨S1x2048x256, .f32⟩
  | 68 => ⟨S1x2048x256, .f32⟩
  | 69 => ⟨S1x2048x1x256, .f32⟩
  | 70 => ⟨S1x2048x256, .f32⟩
  | 71 => ⟨S_, .f32⟩
  | 72 => ⟨S1x16x256, .f32⟩
  | 73 => ⟨S1x2032x256, .f32⟩
  | 74 => ⟨S1x2048x256, .f32⟩
  | 75 => ⟨S_, .f32⟩
  | 76 => ⟨S1x16x256, .f32⟩
  | 77 => ⟨S_, .i32⟩
  | 78 => ⟨S2048, .i32⟩
  | 79 => ⟨S2048, .i32⟩
  | 80 => ⟨S_, .i32⟩
  | 81 => ⟨S2048, .i32⟩
  | 82 => ⟨S2048, .i32⟩
  | 83 => ⟨S2048, .f32⟩
  | 84 => ⟨S1x2048x1, .f32⟩
  | 85 => ⟨S1x2048x256, .f32⟩
  | 86 => ⟨S1x2048x256, .f32⟩
  | 87 => ⟨S1x2048x256, .f32⟩
  | 88 => ⟨S1x2048x1x256, .f32⟩
  | 89 => ⟨S1x2048x1x256, .f32⟩
  | 90 => ⟨S1x2048x1x256, .f32⟩
  | 91 => ⟨S1x2048x1x256, .f32⟩
  | 92 => ⟨S1x2048x4x256, .f32⟩
  | 93 => ⟨S1x2048x4x256, .f32⟩
  | 94 => ⟨S4x256x1x2048, .f32⟩
  | 95 => ⟨S1x2048x4x256, .f32⟩
  | 96 => ⟨S1x2048x1024, .f32⟩
  | 97 => ⟨S1x1x1024, .f32⟩
  | 98 => ⟨S1x2048x1024, .f32⟩
  | 99 => ⟨S1x2048x1024, .f32⟩
  | 100 => ⟨S2048x1024, .f32⟩
  | 101 => ⟨S1x2048x1024, .f32⟩
  | 102 => ⟨S1x2048x1024, .f32⟩
  | 103 => ⟨S_, .f32⟩
  | 104 => ⟨S1x1024, .f32⟩
  | 105 => ⟨S1x1x1024, .f32⟩
  | 106 => ⟨S1x2048x1024, .f32⟩
  | 107 => ⟨S1x2048x1024, .f32⟩
  | 108 => ⟨S_, .f32⟩
  | 109 => ⟨S1024, .f32⟩
  | 110 => ⟨S1x2048x4x256, .f32⟩
  | 111 => ⟨S4x256x1x2048, .f32⟩
  | 112 => ⟨S4x1x2048x256, .f32⟩
  | 113 => ⟨S1x2048x4x256, .f32⟩
  | 114 => ⟨S4x256x256, .f32⟩
  | 115 => ⟨S4x256x256, .f32⟩
  | 116 => ⟨S1x2048x4x256, .f32⟩
  | 117 => ⟨S1x2048x1x256, .f32⟩
  | 118 => ⟨S1x2048x256, .f32⟩
  | 119 => ⟨S1x2048x1x256, .f32⟩
  | 120 => ⟨S1x2048x256, .f32⟩
  | 121 => ⟨S1x2048x1x256, .f32⟩
  | 122 => ⟨S1x2048x256, .f32⟩
  | 123 => ⟨S1x2048x1x256, .f32⟩
  | 124 => ⟨S1x2048x256, .f32⟩
  | 125 => ⟨S1x2048x256, .f32⟩
  | 126 => ⟨S1x2048x256, .f32⟩
  | 127 => ⟨S1x2048x256, .f32⟩
  | _ => ⟨S2048x2048, .f32⟩

abbrev hbmTy0_1 (i : Nat) : BufTy := match i % 128 with
  | 0 => ⟨S1x16x256, .f32⟩
  | 1 => ⟨S1x2032x256, .f32⟩
  | 2 => ⟨S_, .f32⟩
  | 3 => ⟨S1x2048x256, .f32⟩
  | 4 => ⟨S1x2048x256, .f32⟩
  | 5 => ⟨S1x2048x1x256, .f32⟩
  | 6 => ⟨S_, .f32⟩
  | 7 => ⟨S1x2048x4x256, .f32⟩
  | 8 => ⟨S1x2048x256, .f32⟩
  | 9 => ⟨S1x2048x256, .f32⟩
  | 10 => ⟨S1x2048x256, .f32⟩
  | 11 => ⟨S1x8x256, .f32⟩
  | 12 => ⟨S1x2040x256, .f32⟩
  | 13 => ⟨S_, .f32⟩
  | 14 => ⟨S1x2048x256, .f32⟩
  | 15 => ⟨S1x2048x256, .f32⟩
  | 16 => ⟨S1x2048x1x256, .f32⟩
  | 17 => ⟨S_, .f32⟩
  | 18 => ⟨S1x2048x4x256, .f32⟩
  | 19 => ⟨S1x2048x4x256, .f32⟩
  | 20 => ⟨S1x2048x256, .f32⟩
  | 21 => ⟨S1x2048x256, .f32⟩
  | 22 => ⟨S1x2048x256, .f32⟩
  | 23 => ⟨S1x4x256, .f32⟩
  | 24 => ⟨S1x2044x256, .f32⟩
  | 25 => ⟨S_, .f32⟩
  | 26 => ⟨S1x2048x256, .f32⟩
  | 27 => ⟨S1x2048x256, .f32⟩
  | 28 => ⟨S1x2048x1x256, .f32⟩
  | 29 => ⟨S_, .f32⟩
  | 30 => ⟨S1x2048x4x256, .f32⟩
  | 31 => ⟨S1x2048x4x256, .f32⟩
  | 32 => ⟨S1x2048x256, .f32⟩
  | 33 => ⟨S1x2048x256, .f32⟩
  | 34 => ⟨S1x2048x256, .f32⟩
  | 35 => ⟨S1x2x256, .f32⟩
  | 36 => ⟨S1x2046x256, .f32⟩
  | 37 => ⟨S_, .f32⟩
  | 38 => ⟨S1x2048x256, .f32⟩
  | 39 => ⟨S1x2048x256, .f32⟩
  | 40 => ⟨S1x2048x1x256, .f32⟩
  | 41 => ⟨S_, .f32⟩
  | 42 => ⟨S1x2048x4x256, .f32⟩
  | 43 => ⟨S1x2048x4x256, .f32⟩
  | 44 => ⟨S_, .f32⟩
  | 45 => ⟨S_, .f32⟩
  | 46 => ⟨S1x2048x4x256, .f32⟩
  | 47 => ⟨S1x2048x4x256, .f32⟩
  | 48 => ⟨S1x2048x1024, .f32⟩
  | 49 => ⟨S2048x1024, .f32⟩
  | 50 => ⟨S2048x1024, .bf16⟩
  | 51 => ⟨S1x1024, .f32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_call0_cst : Ref sig .tc := ⟨.hbm, 8, rfl⟩
abbrev main_call0_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_c_4 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_c_8 : Ref sig .tc := ⟨.hbm, 58, rfl⟩
abbrev main_v42 : Ref sig .tc := ⟨.hbm, 59, rfl⟩
abbrev main_v43 : Ref sig .tc := ⟨.hbm, 60, rfl⟩
abbrev main_c_9 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_c_12 : Ref sig .tc := ⟨.hbm, 77, rfl⟩
abbrev main_v57 : Ref sig .tc := ⟨.hbm, 78, rfl⟩
abbrev main_v58 : Ref sig .tc := ⟨.hbm, 79, rfl⟩
abbrev main_c_13 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_14 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_15 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_cst_16 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_cst_17 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_cst_18 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_cst_19 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_cst_20 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_cst_21 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_cst_22 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_cst_23 : Ref sig .tc := ⟨.hbm, 169, rfl⟩
abbrev main_v138 : Ref sig .tc := ⟨.hbm, 170, rfl⟩
abbrev main_v139 : Ref sig .tc := ⟨.hbm, 171, rfl⟩
abbrev main_call1_call0_cst : Ref sig .tc := ⟨.hbm, 172, rfl⟩
abbrev main_call1_call0_v0 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩

abbrev nD : Nat := 1
abbrev τ : Topo := Topo.v7x

variable {F : FTy → Type} [FloatOps F]
-- ==== KPre.lean ====
abbrev S2048x4096 : Shape := ⟨2, ![2048, 4096]⟩
abbrev S4x3072 : Shape := ⟨2, ![4, 3072]⟩
abbrev S2048x3072 : Shape := ⟨2, ![2048, 3072]⟩
abbrev S2048x128 : Shape := ⟨2, ![2048, 128]⟩
abbrev S4x128 : Shape := ⟨2, ![4, 128]⟩
abbrev S1x128 : Shape := ⟨2, ![1, 128]⟩
abbrev S2048 : Shape := ⟨1, ![2048]⟩
abbrev S2048x1 : Shape := ⟨2, ![2048, 1]⟩
abbrev S128 : Shape := ⟨1, ![128]⟩

abbrev nBuf : Space → Nat
  | .hbm => 5
  | .vmem => 10
  | .smem => 0
  | _ => 0

abbrev bufTy : (tb : Table) → Fin (tcTables nBuf tb) → BufTy
  | .hbm, ⟨0, _⟩ => ⟨S2048x4096, .f32⟩
  | .hbm, ⟨1, _⟩ => ⟨S4x3072, .f32⟩
  | .hbm, ⟨2, _⟩ => ⟨S2048x3072, .f32⟩
  | .hbm, ⟨3, _⟩ => ⟨S2048x3072, .bf16⟩
  | .hbm, ⟨4, _⟩ => ⟨S4x3072, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | .local _ .vmem, ⟨6, _⟩ => ⟨S2048x128, .bf16⟩
  | .local _ .vmem, ⟨7, _⟩ => ⟨S2048x128, .bf16⟩
  | .local _ .vmem, ⟨8, _⟩ => ⟨S4x128, .f32⟩
  | .local _ .vmem, ⟨9, _⟩ => ⟨S4x128, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RPreIdeal.lean ====
abbrev S2048x4096 : Shape := ⟨2, ![2048, 4096]⟩
abbrev S4x3072 : Shape := ⟨2, ![4, 3072]⟩
abbrev S2048x3072 : Shape := ⟨2, ![2048, 3072]⟩
abbrev S2048x1024 : Shape := ⟨2, ![2048, 1024]⟩
abbrev S1x2048x8x128 : Shape := ⟨4, ![1, 2048, 8, 128]⟩
abbrev S1x2048x3072 : Shape := ⟨3, ![1, 2048, 3072]⟩
abbrev S_ : Shape := ⟨0, ![]⟩
abbrev S1x3x3072 : Shape := ⟨3, ![1, 3, 3072]⟩
abbrev S1x2051x3072 : Shape := ⟨3, ![1, 2051, 3072]⟩
abbrev S1x3072 : Shape := ⟨2, ![1, 3072]⟩
abbrev S3072 : Shape := ⟨1, ![3072]⟩
abbrev S1x1x3072 : Shape := ⟨3, ![1, 1, 3072]⟩
abbrev S1x2048x1024 : Shape := ⟨3, ![1, 2048, 1024]⟩
abbrev S1x2048x8 : Shape := ⟨3, ![1, 2048, 8]⟩
abbrev S1x2048x8x1 : Shape := ⟨4, ![1, 2048, 8, 1]⟩
abbrev S2048x8 : Shape := ⟨2, ![2048, 8]⟩

abbrev nBuf : Space → Nat
  | .hbm => 193
  | .vmem => 0
  | .smem => 0
  | _ => 0

abbrev hbmTy0_0 (i : Nat) : BufTy := match i % 128 with
  | 0 => ⟨S2048x4096, .f32⟩
  | 1 => ⟨S4x3072, .f32⟩
  | 2 => ⟨S2048x3072, .f32⟩
  | 3 => ⟨S2048x1024, .f32⟩
  | 4 => ⟨S1x2048x8x128, .f32⟩
  | 5 => ⟨S2048x1024, .f32⟩
  | 6 => ⟨S1x2048x8x128, .f32⟩
  | 7 => ⟨S2048x1024, .f32⟩
  | 8 => ⟨S1x2048x8x128, .f32⟩
  | 9 => ⟨S2048x3072, .f32⟩
  | 10 => ⟨S1x2048x3072, .f32⟩
  | 11 => ⟨S_, .f32⟩
  | 12 => ⟨S1x3x3072, .f32⟩
  | 13 => ⟨S1x2051x3072, .f32⟩
  | 14 => ⟨S_, .f32⟩
  | 15 => ⟨S1x3x3072, .f32⟩
  | 16 => ⟨S1x3072, .f32⟩
  | 17 => ⟨S3072, .f32⟩
  | 18 => ⟨S1x2048x3072, .f32⟩
  | 19 => ⟨S1x1x3072, .f32⟩
  | 20 => ⟨S1x2048x3072, .f32⟩
  | 21 => ⟨S1x2048x3072, .f32⟩
  | 22 => ⟨S_, .f32⟩
  | 23 => ⟨S1x2048x3072, .f32⟩
  | 24 => ⟨S1x2048x3072, .f32⟩
  | 25 => ⟨S1x3072, .f32⟩
  | 26 => ⟨S3072, .f32⟩
  | 27 => ⟨S1x2048x3072, .f32⟩
  | 28 => ⟨S1x1x3072, .f32⟩
  | 29 => ⟨S1x2048x3072, .f32⟩
  | 30 => ⟨S1x2048x3072, .f32⟩
  | 31 => ⟨S1x2048x3072, .f32⟩
  | 32 => ⟨S1x3072, .f32⟩
  | 33 => ⟨S3072, .f32⟩
  | 34 => ⟨S1x2048x3072, .f32⟩
  | 35 => ⟨S1x1x3072, .f32⟩
  | 36 => ⟨S1x2048x3072, .f32⟩
  | 37 => ⟨S1x2048x3072, .f32⟩
  | 38 => ⟨S1x2048x3072, .f32⟩
  | 39 => ⟨S1x3072, .f32⟩
  | 40 => ⟨S3072, .f32⟩
  | 41 => ⟨S1x2048x3072, .f32⟩
  | 42 => ⟨S1x1x3072, .f32⟩
  | 43 => ⟨S1x2048x3072, .f32⟩
  | 44 => ⟨S1x2048x3072, .f32⟩
  | 45 => ⟨S1x2048x3072, .f32⟩
  | 46 => ⟨S1x2048x3072, .f32⟩
  | 47 => ⟨S1x2048x3072, .f32⟩
  | 48 => ⟨S_, .f32⟩
  | 49 => ⟨S1x2048x3072, .f32⟩
  | 50 => ⟨S1x2048x3072, .f32⟩
  | 51 => ⟨S_, .f32⟩
  | 52 => ⟨S1x2048x3072, .f32⟩
  | 53 => ⟨S1x2048x3072, .f32⟩
  | 54 => ⟨S_, .f32⟩
  | 55 => ⟨S1x2048x3072, .f32⟩
  | 56 => ⟨S1x2048x3072, .f32⟩
  | 57 => ⟨S1x2048x3072, .f32⟩
  | 58 => ⟨S1x2048x3072, .f32⟩
  | 59 => ⟨S1x2048x1024, .f32⟩
  | 60 => ⟨S1x2048x1024, .f32⟩
  | 61 => ⟨S1x2048x1024, .f32⟩
  | 62 => ⟨S1x2048x8x128, .f32⟩
  | 63 => ⟨S1x2048x8x128, .f32⟩
  | 64 => ⟨S_, .f32⟩
  | 65 => ⟨S1x2048x8, .f32⟩
  | 66 => ⟨S1x2048x8x1, .f32⟩
  | 67 => ⟨S_, .f32⟩
  | 68 => ⟨S1x2048x8x1, .f32⟩
  | 69 => ⟨S1x2048x8x1, .f32⟩
  | 70 => ⟨S1x2048x8x1, .f32⟩
  | 71 => ⟨S1x2048x8x1, .f32⟩
  | 72 => ⟨S_, .f32⟩
  | 73 => ⟨S1x2048x8x1, .f32⟩
  | 74 => ⟨S1x2048x8x1, .f32⟩
  | 75 => ⟨S1x2048x8x128, .f32⟩
  | 76 => ⟨S1x2048x8x128, .f32⟩
  | 77 => ⟨S1x2048x8x128, .f32⟩
  | 78 => ⟨S1x2048x8x128, .f32⟩
  | 79 => ⟨S_, .f32⟩
  | 80 => ⟨S1x2048x8, .f32⟩
  | 81 => ⟨S1x2048x8x1, .f32⟩
  | 82 => ⟨S_, .f32⟩
  | 83 => ⟨S1x2048x8x1, .f32⟩
  | 84 => ⟨S1x2048x8x1, .f32⟩
  | 85 => ⟨S1x2048x8x1, .f32⟩
  | 86 => ⟨S1x2048x8x1, .f32⟩
  | 87 => ⟨S_, .f32⟩
  | 88 => ⟨S1x2048x8x1, .f32⟩
  | 89 => ⟨S1x2048x8x1, .f32⟩
  | 90 => ⟨S1x2048x8x128, .f32⟩
  | 91 => ⟨S1x2048x8x128, .f32⟩
  | 92 => ⟨S1x2048x8x128, .f32⟩
  | 93 => ⟨S1x2048x1024, .f32⟩
  | 94 => ⟨S1x2048x8x128, .f32⟩
  | 95 => ⟨S_, .f32⟩
  | 96 => ⟨S1x2048x8, .f32⟩
  | 97 => ⟨S1x2048x8x1, .f32⟩
  | 98 => ⟨S1x2048x8x128, .f32⟩
  | 99 => ⟨S1x2048x8x128, .f32⟩
  | 100 => ⟨S1x2048x8x1, .f32⟩
  | 101 => ⟨S_, .f32⟩
  | 102 => ⟨S2048x8, .f32⟩
  | 103 => ⟨S1x2048x8, .f32⟩
  | 104 => ⟨S1x2048x8x128, .f32⟩
  | 105 => ⟨S1x2048x8x128, .f32⟩
  | 106 => ⟨S1x2048x8x128, .f32⟩
  | 107 => ⟨S1x2048x8x128, .f32⟩
  | 108 => ⟨S1x2048x8x128, .f32⟩
  | 109 => ⟨S1x2048x1024, .f32⟩
  | 110 => ⟨S1x2048x8x128, .f32⟩
  | 111 => ⟨S_, .f32⟩
  | 112 => ⟨S1x2048x8, .f32⟩
  | 113 => ⟨S1x2048x8x1, .f32⟩
  | 114 => ⟨S1x2048x8x128, .f32⟩
  | 115 => ⟨S1x2048x8x128, .f32⟩
  | 116 => ⟨S1x2048x8x1, .f32⟩
  | 117 => ⟨S_, .f32⟩
  | 118 => ⟨S2048x8, .f32⟩
  | 119 => ⟨S1x2048x8, .f32⟩
  | 120 => ⟨S1x2048x8x128, .f32⟩
  | 121 => ⟨S1x2048x8x128, .f32⟩
  | 122 => ⟨S1x2048x8x128, .f32⟩
  | 123 => ⟨S1x2048x8x128, .f32⟩
  | 124 => ⟨S1x2048x8x128, .f32⟩
  | 125 => ⟨S1x2048x1024, .f32⟩
  | 126 => ⟨S1x2048x3072, .f32⟩
  | 127 => ⟨S1x2048x3072, .f32⟩
  | _ => ⟨S2048x4096, .f32⟩

abbrev hbmTy0_1 (i : Nat) : BufTy := match i % 128 with
  | 0 => ⟨S1x2048x3072, .f32⟩
  | 1 => ⟨S1x2048x3072, .f32⟩
  | 2 => ⟨S1x2048x3072, .f32⟩
  | 3 => ⟨S1x2048x3072, .f32⟩
  | 4 => ⟨S1x2048x3072, .f32⟩
  | 5 => ⟨S1x2048x3072, .f32⟩
  | 6 => ⟨S_, .f32⟩
  | 7 => ⟨S1x3072, .f32⟩
  | 8 => ⟨S1x1x3072, .f32⟩
  | 9 => ⟨S_, .f32⟩
  | 10 => ⟨S3072, .f32⟩
  | 11 => ⟨S_, .f32⟩
  | 12 => ⟨S1x2051x3072, .f32⟩
  | 13 => ⟨S1x3072, .f32⟩
  | 14 => ⟨S_, .f32⟩
  | 15 => ⟨S4x3072, .f32⟩
  | 16 => ⟨S1x2048x3072, .f32⟩
  | 17 => ⟨S1x2048x3072, .f32⟩
  | 18 => ⟨S1x2048x3072, .f32⟩
  | 19 => ⟨S_, .f32⟩
  | 20 => ⟨S1x3072, .f32⟩
  | 21 => ⟨S1x1x3072, .f32⟩
  | 22 => ⟨S_, .f32⟩
  | 23 => ⟨S3072, .f32⟩
  | 24 => ⟨S_, .f32⟩
  | 25 => ⟨S1x2051x3072, .f32⟩
  | 26 => ⟨S1x2051x3072, .f32⟩
  | 27 => ⟨S1x3072, .f32⟩
  | 28 => ⟨S_, .f32⟩
  | 29 => ⟨S4x3072, .f32⟩
  | 30 => ⟨S4x3072, .f32⟩
  | 31 => ⟨S1x2048x3072, .f32⟩
  | 32 => ⟨S1x2048x3072, .f32⟩
  | 33 => ⟨S1x2048x3072, .f32⟩
  | 34 => ⟨S_, .f32⟩
  | 35 => ⟨S1x3072, .f32⟩
  | 36 => ⟨S1x1x3072, .f32⟩
  | 37 => ⟨S_, .f32⟩
  | 38 => ⟨S3072, .f32⟩
  | 39 => ⟨S_, .f32⟩
  | 40 => ⟨S1x2051x3072, .f32⟩
  | 41 => ⟨S1x2051x3072, .f32⟩
  | 42 => ⟨S1x3072, .f32⟩
  | 43 => ⟨S_, .f32⟩
  | 44 => ⟨S4x3072, .f32⟩
  | 45 => ⟨S4x3072, .f32⟩
  | 46 => ⟨S1x2048x3072, .f32⟩
  | 47 => ⟨S1x2048x3072, .f32⟩
  | 48 => ⟨S1x2048x3072, .f32⟩
  | 49 => ⟨S_, .f32⟩
  | 50 => ⟨S1x3072, .f32⟩
  | 51 => ⟨S1x1x3072, .f32⟩
  | 52 => ⟨S_, .f32⟩
  | 53 => ⟨S3072, .f32⟩
  | 54 => ⟨S_, .f32⟩
  | 55 => ⟨S1x2051x3072, .f32⟩
  | 56 => ⟨S1x2051x3072, .f32⟩
  | 57 => ⟨S1x3072, .f32⟩
  | 58 => ⟨S_, .f32⟩
  | 59 => ⟨S4x3072, .f32⟩
  | 60 => ⟨S4x3072, .f32⟩
  | 61 => ⟨S1x3x3072, .f32⟩
  | 62 => ⟨S1x2048x3072, .f32⟩
  | 63 => ⟨S2048x3072, .f32⟩
  | 64 => ⟨S2048x3072, .bf16⟩
  | _ => ⟨S2048x4096, .f32⟩

abbrev hbmTy (i : Nat) : BufTy := match i / 128 with
  | 0 => hbmTy0_0 i
  | 1 => hbmTy0_1 i
  | _ => ⟨S2048x4096, .f32⟩

abbrev bufTy : (tb : Table) → Fin (tcTables nBuf tb) → BufTy
  | .hbm, ⟨i, _⟩ => hbmTy i
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_v40_2 : Ref sig .tc := ⟨.hbm, 53, rfl⟩
abbrev main_call0_cst_1 : Ref sig .tc := ⟨.hbm, 54, rfl⟩
abbrev main_call0_v6 : Ref sig .tc := ⟨.hbm, 55, rfl⟩
abbrev main_call0_v7 : Ref sig .tc := ⟨.hbm, 56, rfl⟩
abbrev main_v40_1 : Ref sig .tc := ⟨.hbm, 57, rfl⟩
abbrev main_v40_0 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_2 : Ref sig .tc := ⟨.hbm, 64, rfl⟩
abbrev main_v46 : Ref sig .tc := ⟨.hbm, 65, rfl⟩
abbrev main_v47 : Ref sig .tc := ⟨.hbm, 66, rfl⟩
abbrev main_cst_3 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_4 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_5 : Ref sig .tc := ⟨.hbm, 79, rfl⟩
abbrev main_v58 : Ref sig .tc := ⟨.hbm, 80, rfl⟩
abbrev main_v59 : Ref sig .tc := ⟨.hbm, 81, rfl⟩
abbrev main_cst_6 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_7 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_8 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_9 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_10 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_11 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_call1_v0 : Ref sig .tc := ⟨.hbm, 127, rfl⟩
abbrev main_call1_v1 : Ref sig .tc := ⟨.hbm, 128, rfl⟩
abbrev main_call1_v2 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_cst_12 : Ref sig .tc := ⟨.hbm, 134, rfl⟩
abbrev main_v103 : Ref sig .tc := ⟨.hbm, 135, rfl⟩
abbrev main_v104 : Ref sig .tc := ⟨.hbm, 136, rfl⟩
abbrev main_cst_13 : Ref sig .tc := ⟨.hbm, 137, rfl⟩
abbrev main_v105 : Ref sig .tc := ⟨.hbm, 138, rfl⟩
abbrev main_cst_14 : Ref sig .tc := ⟨.hbm, 139, rfl⟩
abbrev main_v106 : Ref sig .tc := ⟨.hbm, 140, rfl⟩
abbrev main_v107 : Ref sig .tc := ⟨.hbm, 141, rfl⟩
abbrev main_cst_15 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_cst_16 : Ref sig .tc := ⟨.hbm, 147, rfl⟩
abbrev main_v112 : Ref sig .tc := ⟨.hbm, 148, rfl⟩
abbrev main_v113 : Ref sig .tc := ⟨.hbm, 149, rfl⟩
abbrev main_cst_17 : Ref sig .tc := ⟨.hbm, 150, rfl⟩
abbrev main_v114 : Ref sig .tc := ⟨.hbm, 151, rfl⟩
abbrev main_cst_18 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_cst_19 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_cst_20 : Ref sig .tc := ⟨.hbm, 162, rfl⟩
abbrev main_v123 : Ref sig .tc := ⟨.hbm, 163, rfl⟩
abbrev main_v124 : Ref sig .tc := ⟨.hbm, 164, rfl⟩
abbrev main_cst_21 : Ref sig .tc := ⟨.hbm, 165, rfl⟩
abbrev main_v125 : Ref sig .tc := ⟨.hbm, 166, rfl⟩
abbrev main_cst_22 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_cst_23 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_cst_24 : Ref sig .tc := ⟨.hbm, 177, rfl⟩
abbrev main_v134 : Ref sig .tc := ⟨.hbm, 178, rfl⟩
abbrev main_v135 : Ref sig .tc := ⟨.hbm, 179, rfl⟩
abbrev main_cst_25 : Ref sig .tc := ⟨.hbm, 180, rfl⟩
abbrev main_v136 : Ref sig .tc := ⟨.hbm, 181, rfl⟩
abbrev main_cst_26 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_cst_27 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩

abbrev nD : Nat := 1
abbrev τ : Topo := Topo.v7x

variable {F : FTy → Type} [FloatOps F]
-- ==== KXattnf.lean ====
abbrev S2048x2048 : Shape := ⟨2, ![2048, 2048]⟩
abbrev S256x2048 : Shape := ⟨2, ![256, 2048]⟩
abbrev S1024x512 : Shape := ⟨2, ![1024, 512]⟩
abbrev S256x512 : Shape := ⟨2, ![256, 512]⟩
abbrev S1024x256 : Shape := ⟨2, ![1024, 256]⟩
abbrev S1024 : Shape := ⟨1, ![1024]⟩
abbrev S1024x1 : Shape := ⟨2, ![1024, 1]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S256x2048, .bf16⟩
  | .hbm, ⟨2, _⟩ => ⟨S256x2048, .bf16⟩
  | .hbm, ⟨3, _⟩ => ⟨S2048x2048, .bf16⟩
  | .local _ .vmem, ⟨0, _⟩ => ⟨S1024x512, .bf16⟩
  | .local _ .vmem, ⟨1, _⟩ => ⟨S1024x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S1024x512, .bf16⟩
  | .local _ .vmem, ⟨7, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RXattnfIdeal.lean ====
abbrev S2048x2048 : Shape := ⟨2, ![2048, 2048]⟩
abbrev S256x2048 : Shape := ⟨2, ![256, 2048]⟩
abbrev S1x2048x4x512 : Shape := ⟨4, ![1, 2048, 4, 512]⟩
abbrev S1x256x4x512 : Shape := ⟨4, ![1, 256, 4, 512]⟩
abbrev S1x4x2048x256 : Shape := ⟨4, ![1, 4, 2048, 256]⟩
abbrev S_ : Shape := ⟨0, ![]⟩
abbrev S1x4x2048 : Shape := ⟨3, ![1, 4, 2048]⟩
abbrev S1x4x2048x1 : Shape := ⟨4, ![1, 4, 2048, 1]⟩
abbrev S1x4x512x2048 : Shape := ⟨4, ![1, 4, 512, 2048]⟩
abbrev S1x2048x2048 : Shape := ⟨3, ![1, 2048, 2048]⟩

abbrev nBuf : Space → Nat
  | .hbm => 32
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S256x2048, .bf16⟩
  | .hbm, ⟨2, _⟩ => ⟨S256x2048, .bf16⟩
  | .hbm, ⟨3, _⟩ => ⟨S2048x2048, .f32⟩
  | .hbm, ⟨4, _⟩ => ⟨S1x2048x4x512, .f32⟩
  | .hbm, ⟨5, _⟩ => ⟨S256x2048, .f32⟩
  | .hbm, ⟨6, _⟩ => ⟨S1x256x4x512, .f32⟩
  | .hbm, ⟨7, _⟩ => ⟨S256x2048, .f32⟩
  | .hbm, ⟨8, _⟩ => ⟨S1x256x4x512, .f32⟩
  | .hbm, ⟨9, _⟩ => ⟨S1x4x2048x256, .f32⟩
  | .hbm, ⟨10, _⟩ => ⟨S_, .f32⟩
  | .hbm, ⟨11, _⟩ => ⟨S1x4x2048x256, .f32⟩
  | .hbm, ⟨12, _⟩ => ⟨S1x4x2048x256, .f32⟩
  | .hbm, ⟨13, _⟩ => ⟨S_, .f32⟩
  | .hbm, ⟨14, _⟩ => ⟨S1x4x2048, .f32⟩
  | .hbm, ⟨15, _⟩ => ⟨S_, .f32⟩
  | .hbm, ⟨16, _⟩ => ⟨S1x4x2048, .f32⟩
  | .hbm, ⟨17, _⟩ => ⟨S1x4x2048, .f32⟩
  | .hbm, ⟨18, _⟩ => ⟨S1x4x2048x1, .f32⟩
  | .hbm, ⟨19, _⟩ => ⟨S1x4x2048x256, .f32⟩
  | .hbm, ⟨20, _⟩ => ⟨S1x4x2048x256, .f32⟩
  | .hbm, ⟨21, _⟩ => ⟨S1x4x2048x256, .f32⟩
  | .hbm, ⟨22, _⟩ => ⟨S_, .f32⟩
  | .hbm, ⟨23, _⟩ => ⟨S1x4x2048, .f32⟩
  | .hbm, ⟨24, _⟩ => ⟨S1x4x2048x1, .f32⟩
  | .hbm, ⟨25, _⟩ => ⟨S1x4x2048x256, .f32⟩
  | .hbm, ⟨26, _⟩ => ⟨S1x4x2048x256, .f32⟩
  | .hbm, ⟨27, _⟩ => ⟨S1x4x512x2048, .f32⟩
  | .hbm, ⟨28, _⟩ => ⟨S1x2048x4x512, .f32⟩
  | .hbm, ⟨29, _⟩ => ⟨S1x2048x2048, .f32⟩
  | .hbm, ⟨30, _⟩ => ⟨S2048x2048, .f32⟩
  | .hbm, ⟨31, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== KPoolf.lean ====
abbrev S2048x1024 : Shape := ⟨2, ![2048, 1024]⟩
abbrev S4x256x256 : Shape := ⟨3, ![4, 256, 256]⟩
abbrev S1x1024 : Shape := ⟨2, ![1, 1024]⟩
abbrev S2048x256 : Shape := ⟨2, ![2048, 256]⟩
abbrev S1x256x256 : Shape := ⟨3, ![1, 256, 256]⟩
abbrev S1x256 : Shape := ⟨2, ![1, 256]⟩
abbrev S256x256 : Shape := ⟨2, ![256, 256]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S4x256x256, .bf16⟩
  | .hbm, ⟨2, _⟩ => ⟨S1x1024, .f32⟩
  | .hbm, ⟨3, _⟩ => ⟨S2048x1024, .bf16⟩
  | .local _ .vmem, ⟨0, _⟩ => ⟨S2048x256, .f32⟩
  | .local _ .vmem, ⟨1, _⟩ => ⟨S2048x256, .f32⟩
  | .local _ .vmem, ⟨2, _⟩ => ⟨S1x256x256, .bf16⟩
  | .local _ .vmem, ⟨3, _⟩ => ⟨S1x256x256, .bf16⟩
  | .local _ .vmem, ⟨4, _⟩ => ⟨S1x256, .f32⟩
  | .local _ .vmem, ⟨5, _⟩ => ⟨S1x256, .f32⟩
  | .local _ .vmem, ⟨6, _⟩ => ⟨S2048x256, .bf16⟩
  | .local _ .vmem, ⟨7, _⟩ => ⟨S2048x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RPoolfIdeal.lean ====
abbrev S2048x1024 : Shape := ⟨2, ![2048, 1024]⟩
abbrev S4x256x256 : Shape := ⟨3, ![4, 256, 256]⟩
abbrev S1x1024 : Shape := ⟨2, ![1, 1024]⟩
abbrev S1x2048x1024 : Shape := ⟨3, ![1, 2048, 1024]⟩
abbrev S1024 : Shape := ⟨1, ![1024]⟩
abbrev S1x2048x4x256 : Shape := ⟨4, ![1, 2048, 4, 256]⟩
abbrev S_ : Shape := ⟨0, ![]⟩
abbrev S2048 : Shape := ⟨1, ![2048]⟩
abbrev S1x2048x1x256 : Shape := ⟨4, ![1, 2048, 1, 256]⟩
abbrev S1x2048x256 : Shape := ⟨3, ![1, 2048, 256]⟩
abbrev S1x2046x256 : Shape := ⟨3, ![1, 2046, 256]⟩
abbrev S1x2048x1 : Shape := ⟨3, ![1, 2048, 1]⟩
abbrev S1x2044x256 : Shape := ⟨3, ![1, 2044, 256]⟩
abbrev S1x2040x256 : Shape := ⟨3, ![1, 2040, 256]⟩
abbrev S1x2032x256 : Shape := ⟨3, ![1, 2032, 256]⟩
abbrev S4x256x1x2048 : Shape := ⟨4, ![4, 256, 1, 2048]⟩
abbrev S1x1x1024 : Shape := ⟨3, ![1, 1, 1024]⟩

abbrev nBuf : Space → Nat
  | .hbm => 93
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4x256x256, .bf16⟩
  | .hbm, ⟨2, _⟩ => ⟨S1x1024, .f32⟩
  | .hbm, ⟨3, _⟩ => ⟨S1x2048x1024, .f32⟩
  | .hbm, ⟨4, _⟩ => ⟨S4x256x256, .f32⟩
  | .hbm, ⟨5, _⟩ => ⟨S1024, .f32⟩
  | .hbm, ⟨6, _⟩ => ⟨S1x2048x4x256, .f32⟩
  | .hbm, ⟨7, _⟩ => ⟨S_, .f32⟩
  | .hbm, ⟨8, _⟩ => ⟨S_, .f32⟩
  | .hbm, ⟨9, _⟩ => ⟨S1x2048x4x256, .f32⟩
  | .hbm, ⟨10, _⟩ => ⟨S2048, .i32⟩
  | .hbm, ⟨11, _⟩ => ⟨S1x2048x1x256, .f32⟩
  | .hbm, ⟨12, _⟩ => ⟨S1x2048x256, .f32⟩
  | .hbm, ⟨13, _⟩ => ⟨S1x2046x256, .f32⟩
  | .hbm, ⟨14, _⟩ => ⟨S_, .i32⟩
  | .hbm, ⟨15, _⟩ => ⟨S_, .f32⟩
  | .hbm, ⟨16, _⟩ => ⟨S1x2048x256, .f32⟩
  | .hbm, ⟨17, _⟩ => ⟨S_, .i32⟩
  | .hbm, ⟨18, _⟩ => ⟨S2048, .i32⟩
  | .hbm, ⟨19, _⟩ => ⟨S2048, .i32⟩
  | .hbm, ⟨20, _⟩ => ⟨S_, .i32⟩
  | .hbm, ⟨21, _⟩ => ⟨S2048, .i32⟩
  | .hbm, ⟨22, _⟩ => ⟨S2048, .i32⟩
  | .hbm, ⟨23, _⟩ => ⟨S2048, .f32⟩
  | .hbm, ⟨24, _⟩ => ⟨S1x2048x1, .f32⟩
  | .hbm, ⟨25, _⟩ => ⟨S1x2048x256, .f32⟩
  | .hbm, ⟨26, _⟩ => ⟨S1x2048x256, .f32⟩
  | .hbm, ⟨27, _⟩ => ⟨S1x2048x256, .f32⟩
  | .hbm, ⟨28, _⟩ => ⟨S1x2048x1x256, .f32⟩
  | .hbm, ⟨29, _⟩ => ⟨S1x2048x256, .f32⟩
  | .hbm, ⟨30, _⟩ => ⟨S1x2044x256, .f32⟩
  | .hbm, ⟨31, _⟩ => ⟨S_, .i32⟩
  | .hbm, ⟨32, _⟩ => ⟨S_, .f32⟩
  | .hbm, ⟨33, _⟩ => ⟨S1x2048x256, .f32⟩
  | .hbm, ⟨34, _⟩ => ⟨S_, .i32⟩
  | .hbm, ⟨35, _⟩ => ⟨S2048, .i32⟩
  | .hbm, ⟨36, _⟩ => ⟨S2048, .i32⟩
  | .hbm, ⟨37, _⟩ => ⟨S_, .i32⟩
  | .hbm, ⟨38, _⟩ => ⟨S2048, .i32⟩
  | .hbm, ⟨39, _⟩ => ⟨S2048, .i32⟩
  | .hbm, ⟨40, _⟩ => ⟨S2048, .f32⟩
  | .hbm, ⟨41, _⟩ => ⟨S1x2048x1, .f32⟩
  | .hbm, ⟨42, _⟩ => ⟨S1x2048x256, .f32⟩
  | .hbm, ⟨43, _⟩ => ⟨S1x2048x256, .f32⟩
  | .hbm, ⟨44, _⟩ => ⟨S1x2048x256, .f32⟩
  | .hbm, ⟨45, _⟩ => ⟨S1x2048x1x256, .f32⟩
  | .hbm, ⟨46, _⟩ => ⟨S1x2048x256, .f32⟩
  | .hbm, ⟨47, _⟩ => ⟨S1x2040x256, .f32⟩
  | .hbm, ⟨48, _⟩ => ⟨S_, .i32⟩
  | .hbm, ⟨49, _⟩ => ⟨S_, .f32⟩
  | .hbm, ⟨50, _⟩ => ⟨S1x2048x256, .f32⟩
  | .hbm, ⟨51, _⟩ => ⟨S_, .i32⟩
  | .hbm, ⟨52, _⟩ => ⟨S2048, .i32⟩
  | .hbm, ⟨53, _⟩ => ⟨S2048, .i32⟩
  | .hbm, ⟨54, _⟩ => ⟨S_, .i32⟩
  | .hbm, ⟨55, _⟩ => ⟨S2048, .i32⟩
  | .hbm, ⟨56, _⟩ => ⟨S2048, .i32⟩
  | .hbm, ⟨57, _⟩ => ⟨S2048, .f32⟩
  | .hbm, ⟨58, _⟩ => ⟨S1x2048x1, .f32⟩
  | .hbm, ⟨59, _⟩ => ⟨S1x2048x256, .f32⟩
  | .hbm, ⟨60, _⟩ => ⟨S1x2048x256, .f32⟩
  | .hbm, ⟨61, _⟩ => ⟨S1x2048x256, .f32⟩
  | .hbm, ⟨62, _⟩ => ⟨S1x2048x1x256, .f32⟩
  | .hbm, ⟨63, _⟩ => ⟨S1x2048x256, .f32⟩
  | .hbm, ⟨64, _⟩ => ⟨S1x2032x256, .f32⟩
  | .hbm, ⟨65, _⟩ => ⟨S_, .i32⟩
  | .hbm, ⟨66, _⟩ => ⟨S_, .f32⟩
  | .hbm, ⟨67, _⟩ => ⟨S1x2048x256, .f32⟩
  | .hbm, ⟨68, _⟩ => ⟨S_, .i32⟩
  | .hbm, ⟨69, _⟩ => ⟨S2048, .i32⟩
  | .hbm, ⟨70, _⟩ => ⟨S2048, .i32⟩
  | .hbm, ⟨71, _⟩ => ⟨S_, .i32⟩
  | .hbm, ⟨72, _⟩ => ⟨S2048, .i32⟩
  | .hbm, ⟨73, _⟩ => ⟨S2048, .i32⟩
  | .hbm, ⟨74, _⟩ => ⟨S2048, .f32⟩
  | .hbm, ⟨75, _⟩ => ⟨S1x2048x1, .f32⟩
  | .hbm, ⟨76, _⟩ => ⟨S1x2048x256, .f32⟩
  | .hbm, ⟨77, _⟩ => ⟨S1x2048x256, .f32⟩
  | .hbm, ⟨78, _⟩ => ⟨S1x2048x256, .f32⟩
  | .hbm, ⟨79, _⟩ => ⟨S1x2048x1x256, .f32⟩
  | .hbm, ⟨80, _⟩ => ⟨S1x2048x1x256, .f32⟩
  | .hbm, ⟨81, _⟩ => ⟨S1x2048x1x256, .f32⟩
  | .hbm, ⟨82, _⟩ => ⟨S1x2048x1x256, .f32⟩
  | .hbm, ⟨83, _⟩ => ⟨S1x2048x4x256, .f32⟩
  | .hbm, ⟨84, _⟩ => ⟨S1x2048x4x256, .f32⟩
  | .hbm, ⟨85, _⟩ => ⟨S4x256x1x2048, .f32⟩
  | .hbm, ⟨86, _⟩ => ⟨S1x2048x4x256, .f32⟩
  | .hbm, ⟨87, _⟩ => ⟨S1x2048x1024, .f32⟩
  | .hbm, ⟨88, _⟩ => ⟨S1x1x1024, .f32⟩
  | .hbm, ⟨89, _⟩ => ⟨S1x2048x1024, .f32⟩
  | .hbm, ⟨90, _⟩ => ⟨S1x2048x1024, .f32⟩
  | .hbm, ⟨91, _⟩ => ⟨S2048x1024, .f32⟩
  | .hbm, ⟨92, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_call0_cst : Ref sig .tc := ⟨.hbm, 7, rfl⟩
abbrev main_call0_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call1_v0 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_call2_v0 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_5 : Ref sig .tc := ⟨.hbm, 48, rfl⟩
abbrev main_call3_v0 : Ref sig .tc := ⟨.hbm, 49, rfl⟩
abbrev main_v35 : Ref sig .tc := ⟨.hbm, 50, rfl⟩
abbrev main_c_6 : Ref sig .tc := ⟨.hbm, 51, rfl⟩
abbrev main_v36 : Ref sig .tc := ⟨.hbm, 52, rfl⟩
abbrev main_v37 : Ref sig .tc := ⟨.hbm, 53, rfl⟩
abbrev main_c_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_8 : Ref sig .tc := ⟨.hbm, 65, rfl⟩
abbrev main_call4_v0 : Ref sig .tc := ⟨.hbm, 66, rfl⟩
abbrev main_v48 : Ref sig .tc := ⟨.hbm, 67, rfl⟩
abbrev main_c_9 : Ref sig .tc := ⟨.hbm, 68, rfl⟩
abbrev main_v49 : Ref sig .tc := ⟨.hbm, 69, rfl⟩
abbrev main_v50 : Ref sig .tc := ⟨.hbm, 70, rfl⟩
abbrev main_c_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩

abbrev nD : Nat := 1
abbrev τ : Topo := Topo.v7x

variable {F : FTy → Type} [FloatOps F]
-- ==== KPostf.lean ====
abbrev S2048x1024 : Shape := ⟨2, ![2048, 1024]⟩
abbrev S2048x4096 : Shape := ⟨2, ![2048, 4096]⟩
abbrev S1x128 : Shape := ⟨2, ![1, 128]⟩
abbrev S1024x128 : Shape := ⟨2, ![1024, 128]⟩
abbrev S1024 : Shape := ⟨1, ![1024]⟩
abbrev S1024x1 : Shape := ⟨2, ![1024, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S1x128, .f32⟩
  | .hbm, ⟨3, _⟩ => ⟨S2048x1024, .bf16⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1x128, .f32⟩
  | .local _ .vmem, ⟨5, _⟩ => ⟨S1024x128, .bf16⟩
  | .local _ .vmem, ⟨6, _⟩ => ⟨S1024x128, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RPostfIdeal.lean ====
abbrev S2048x1024 : Shape := ⟨2, ![2048, 1024]⟩
abbrev S2048x4096 : Shape := ⟨2, ![2048, 4096]⟩
abbrev S1x128 : Shape := ⟨2, ![1, 128]⟩
abbrev S1x2048x1024 : Shape := ⟨3, ![1, 2048, 1024]⟩
abbrev S128 : Shape := ⟨1, ![128]⟩
abbrev S1x2048x8x128 : Shape := ⟨4, ![1, 2048, 8, 128]⟩
abbrev S_ : Shape := ⟨0, ![]⟩
abbrev S1x2048x8 : Shape := ⟨3, ![1, 2048, 8]⟩
abbrev S1x2048x8x1 : Shape := ⟨4, ![1, 2048, 8, 1]⟩
abbrev S1x1x1x128 : Shape := ⟨4, ![1, 1, 1, 128]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S1x128, .f32⟩
  | .hbm, ⟨3, _⟩ => ⟨S2048x1024, .f32⟩
  | .hbm, ⟨4, _⟩ => ⟨S1x2048x1024, .f32⟩
  | .hbm, ⟨5, _⟩ => ⟨S128, .f32⟩
  | .hbm, ⟨6, _⟩ => ⟨S1x2048x8x128, .f32⟩
  | .hbm, ⟨7, _⟩ => ⟨S1x2048x8x128, .f32⟩
  | .hbm, ⟨8, _⟩ => ⟨S_, .f32⟩
  | .hbm, ⟨9, _⟩ => ⟨S1x2048x8, .f32⟩
  | .hbm, ⟨10, _⟩ => ⟨S1x2048x8x1, .f32⟩
  | .hbm, ⟨11, _⟩ => ⟨S_, .f32⟩
  | .hbm, ⟨12, _⟩ => ⟨S1x2048x8x1, .f32⟩
  | .hbm, ⟨13, _⟩ => ⟨S1x2048x8x1, .f32⟩
  | .hbm, ⟨14, _⟩ => ⟨S_, .f32⟩
  | .hbm, ⟨15, _⟩ => ⟨S1x2048x8x1, .f32⟩
  | .hbm, ⟨16, _⟩ => ⟨S1x2048x8x1, .f32⟩
  | .hbm, ⟨17, _⟩ => ⟨S1x2048x8x1, .f32⟩
  | .hbm, ⟨18, _⟩ => ⟨S1x2048x8x128, .f32⟩
  | .hbm, ⟨19, _⟩ => ⟨S1x2048x8x128, .f32⟩
  | .hbm, ⟨20, _⟩ => ⟨S1x1x1x128, .f32⟩
  | .hbm, ⟨21, _⟩ => ⟨S1x2048x8x128, .f32⟩
  | .hbm, ⟨22, _⟩ => ⟨S1x2048x8x128, .f32⟩
  | .hbm, ⟨23, _⟩ => ⟨S1x2048x8x128, .f32⟩
  | .hbm, ⟨24, _⟩ => ⟨S1x2048x8x128, .f32⟩
  | .hbm, ⟨25, _⟩ => ⟨S1x2048x8x128, .f32⟩
  | .hbm, ⟨26, _⟩ => ⟨S_, .f32⟩
  | .hbm, ⟨27, _⟩ => ⟨S1x2048x8x128, .f32⟩
  | .hbm, ⟨28, _⟩ => ⟨S1x2048x8x128, .f32⟩
  | .hbm, ⟨29, _⟩ => ⟨S_, .f32⟩
  | .hbm, ⟨30, _⟩ => ⟨S1x2048x8x128, .f32⟩
  | .hbm, ⟨31, _⟩ => ⟨S1x2048x8x128, .f32⟩
  | .hbm, ⟨32, _⟩ => ⟨S1x2048x8x128, .f32⟩
  | .hbm, ⟨33, _⟩ => ⟨S1x2048x8x128, .f32⟩
  | .hbm, ⟨34, _⟩ => ⟨S1x2048x1024, .f32⟩
  | .hbm, ⟨35, _⟩ => ⟨S2048x1024, .f32⟩
  | .hbm, ⟨36, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]
-- ==== KPref.lean ====
abbrev S2048x4096 : Shape := ⟨2, ![2048, 4096]⟩
abbrev S4x3072 : Shape := ⟨2, ![4, 3072]⟩
abbrev S2048x3072 : Shape := ⟨2, ![2048, 3072]⟩
abbrev S2048x128 : Shape := ⟨2, ![2048, 128]⟩
abbrev S4x128 : Shape := ⟨2, ![4, 128]⟩
abbrev S1x128 : Shape := ⟨2, ![1, 128]⟩
abbrev S2048 : Shape := ⟨1, ![2048]⟩
abbrev S2048x1 : Shape := ⟨2, ![2048, 1]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .f32⟩
  | .hbm, ⟨1, _⟩ => ⟨S4x3072, .f32⟩
  | .hbm, ⟨2, _⟩ => ⟨S2048x3072, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RPrefIdeal.lean ====
abbrev S2048x4096 : Shape := ⟨2, ![2048, 4096]⟩
abbrev S4x3072 : Shape := ⟨2, ![4, 3072]⟩
abbrev S2048x3072 : Shape := ⟨2, ![2048, 3072]⟩
abbrev S1x2048x3072 : Shape := ⟨3, ![1, 2048, 3072]⟩
abbrev S_ : Shape := ⟨0, ![]⟩
abbrev S1x3x3072 : Shape := ⟨3, ![1, 3, 3072]⟩
abbrev S1x2051x3072 : Shape := ⟨3, ![1, 2051, 3072]⟩
abbrev S1x3072 : Shape := ⟨2, ![1, 3072]⟩
abbrev S3072 : Shape := ⟨1, ![3072]⟩
abbrev S1x1x3072 : Shape := ⟨3, ![1, 1, 3072]⟩
abbrev S1x2048x1024 : Shape := ⟨3, ![1, 2048, 1024]⟩
abbrev S1x2048x8x128 : Shape := ⟨4, ![1, 2048, 8, 128]⟩
abbrev S1x2048x8 : Shape := ⟨3, ![1, 2048, 8]⟩
abbrev S1x2048x8x1 : Shape := ⟨4, ![1, 2048, 8, 1]⟩
abbrev S2048x1024 : Shape := ⟨2, ![2048, 1024]⟩

abbrev nBuf : Space → Nat
  | .hbm => 76
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4x3072, .f32⟩
  | .hbm, ⟨2, _⟩ => ⟨S2048x3072, .f32⟩
  | .hbm, ⟨3, _⟩ => ⟨S1x2048x3072, .f32⟩
  | .hbm, ⟨4, _⟩ => ⟨S_, .f32⟩
  | .hbm, ⟨5, _⟩ => ⟨S1x3x3072, .f32⟩
  | .hbm, ⟨6, _⟩ => ⟨S1x2051x3072, .f32⟩
  | .hbm, ⟨7, _⟩ => ⟨S1x3072, .f32⟩
  | .hbm, ⟨8, _⟩ => ⟨S3072, .f32⟩
  | .hbm, ⟨9, _⟩ => ⟨S1x2048x3072, .f32⟩
  | .hbm, ⟨10, _⟩ => ⟨S1x1x3072, .f32⟩
  | .hbm, ⟨11, _⟩ => ⟨S1x2048x3072, .f32⟩
  | .hbm, ⟨12, _⟩ => ⟨S1x2048x3072, .f32⟩
  | .hbm, ⟨13, _⟩ => ⟨S_, .f32⟩
  | .hbm, ⟨14, _⟩ => ⟨S1x2048x3072, .f32⟩
  | .hbm, ⟨15, _⟩ => ⟨S1x2048x3072, .f32⟩
  | .hbm, ⟨16, _⟩ => ⟨S1x3072, .f32⟩
  | .hbm, ⟨17, _⟩ => ⟨S3072, .f32⟩
  | .hbm, ⟨18, _⟩ => ⟨S1x2048x3072, .f32⟩
  | .hbm, ⟨19, _⟩ => ⟨S1x1x3072, .f32⟩
  | .hbm, ⟨20, _⟩ => ⟨S1x2048x3072, .f32⟩
  | .hbm, ⟨21, _⟩ => ⟨S1x2048x3072, .f32⟩
  | .hbm, ⟨22, _⟩ => ⟨S1x2048x3072, .f32⟩
  | .hbm, ⟨23, _⟩ => ⟨S1x3072, .f32⟩
  | .hbm, ⟨24, _⟩ => ⟨S3072, .f32⟩
  | .hbm, ⟨25, _⟩ => ⟨S1x2048x3072, .f32⟩
  | .hbm, ⟨26, _⟩ => ⟨S1x1x3072, .f32⟩
  | .hbm, ⟨27, _⟩ => ⟨S1x2048x3072, .f32⟩
  | .hbm, ⟨28, _⟩ => ⟨S1x2048x3072, .f32⟩
  | .hbm, ⟨29, _⟩ => ⟨S1x2048x3072, .f32⟩
  | .hbm, ⟨30, _⟩ => ⟨S1x3072, .f32⟩
  | .hbm, ⟨31, _⟩ => ⟨S3072, .f32⟩
  | .hbm, ⟨32, _⟩ => ⟨S1x2048x3072, .f32⟩
  | .hbm, ⟨33, _⟩ => ⟨S1x1x3072, .f32⟩
  | .hbm, ⟨34, _⟩ => ⟨S1x2048x3072, .f32⟩
  | .hbm, ⟨35, _⟩ => ⟨S1x2048x3072, .f32⟩
  | .hbm, ⟨36, _⟩ => ⟨S1x2048x3072, .f32⟩
  | .hbm, ⟨37, _⟩ => ⟨S1x2048x3072, .f32⟩
  | .hbm, ⟨38, _⟩ => ⟨S1x2048x3072, .f32⟩
  | .hbm, ⟨39, _⟩ => ⟨S_, .f32⟩
  | .hbm, ⟨40, _⟩ => ⟨S1x2048x3072, .f32⟩
  | .hbm, ⟨41, _⟩ => ⟨S1x2048x3072, .f32⟩
  | .hbm, ⟨42, _⟩ => ⟨S_, .f32⟩
  | .hbm, ⟨43, _⟩ => ⟨S1x2048x3072, .f32⟩
  | .hbm, ⟨44, _⟩ => ⟨S1x2048x3072, .f32⟩
  | .hbm, ⟨45, _⟩ => ⟨S1x2048x3072, .f32⟩
  | .hbm, ⟨46, _⟩ => ⟨S1x2048x1024, .f32⟩
  | .hbm, ⟨47, _⟩ => ⟨S1x2048x1024, .f32⟩
  | .hbm, ⟨48, _⟩ => ⟨S1x2048x1024, .f32⟩
  | .hbm, ⟨49, _⟩ => ⟨S1x2048x8x128, .f32⟩
  | .hbm, ⟨50, _⟩ => ⟨S1x2048x8x128, .f32⟩
  | .hbm, ⟨51, _⟩ => ⟨S_, .f32⟩
  | .hbm, ⟨52, _⟩ => ⟨S1x2048x8, .f32⟩
  | .hbm, ⟨53, _⟩ => ⟨S1x2048x8x1, .f32⟩
  | .hbm, ⟨54, _⟩ => ⟨S_, .f32⟩
  | .hbm, ⟨55, _⟩ => ⟨S1x2048x8x1, .f32⟩
  | .hbm, ⟨56, _⟩ => ⟨S1x2048x8x1, .f32⟩
  | .hbm, ⟨57, _⟩ => ⟨S1x2048x8x1, .f32⟩
  | .hbm, ⟨58, _⟩ => ⟨S1x2048x8x128, .f32⟩
  | .hbm, ⟨59, _⟩ => ⟨S1x2048x8x128, .f32⟩
  | .hbm, ⟨60, _⟩ => ⟨S1x2048x8x128, .f32⟩
  | .hbm, ⟨61, _⟩ => ⟨S1x2048x8x128, .f32⟩
  | .hbm, ⟨62, _⟩ => ⟨S_, .f32⟩
  | .hbm, ⟨63, _⟩ => ⟨S1x2048x8, .f32⟩
  | .hbm, ⟨64, _⟩ => ⟨S1x2048x8x1, .f32⟩
  | .hbm, ⟨65, _⟩ => ⟨S_, .f32⟩
  | .hbm, ⟨66, _⟩ => ⟨S1x2048x8x1, .f32⟩
  | .hbm, ⟨67, _⟩ => ⟨S1x2048x8x1, .f32⟩
  | .hbm, ⟨68, _⟩ => ⟨S1x2048x8x1, .f32⟩
  | .hbm, ⟨69, _⟩ => ⟨S1x2048x8x128, .f32⟩
  | .hbm, ⟨70, _⟩ => ⟨S1x2048x8x128, .f32⟩
  | .hbm, ⟨71, _⟩ => ⟨S1x2048x8x128, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x3072, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_1 : Ref sig .tc := ⟨.hbm, 51, rfl⟩
abbrev main_v39 : Ref sig .tc := ⟨.hbm, 52, rfl⟩
abbrev main_v40 : Ref sig .tc := ⟨.hbm, 53, rfl⟩
abbrev main_cst_2 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_3 : Ref sig .tc := ⟨.hbm, 62, rfl⟩
abbrev main_v48 : Ref sig .tc := ⟨.hbm, 63, rfl⟩
abbrev main_v49 : Ref sig .tc := ⟨.hbm, 64, rfl⟩
abbrev main_cst_4 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩

abbrev nD : Nat := 1
abbrev τ : Topo := Topo.v7x

variable {F : FTy → Type} [FloatOps F]
-- ==== KXqdx.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S256x2048 : Shape := ⟨2, ![256, 2048]⟩
abbrev S256x1 : Shape := ⟨2, ![256, 1]⟩
abbrev S256 : Shape := ⟨1, ![256]⟩

abbrev nBuf : Space → Nat
  | .hbm => 30
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .hbm, ⟨3, _⟩ => ⟨S2048x2048, .bf16⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .bf16⟩
  | .hbm, ⟨28, _⟩ => ⟨S1x2048, .f32⟩
  | .hbm, ⟨29, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x1, .f32⟩
  | .local _ .vmem, ⟨8, _⟩ => ⟨S256x1, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S1x2048, .f32⟩
  | .local _ .vmem, ⟨15, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v38 : BitVec 1 := Scalar.cmpi .eq arg0 c0_i32
  let v39 : BitVec 32 := Scalar.extui v38
  let c0_i32_22 : BitVec 32 := 0#32
  let v40 : BitVec 1 := Scalar.cmpi .ne v39 c0_i32_22
  v40

def k0_cond2 (i : grid0.Coords) : BitVec 1 :=
  let arg0 : BitVec 32 := BitVec.ofNat 32 (i 0).val
  let c0_i32 : BitVec 32 := 0#32
  let v38 : BitVec 1 := Scalar.cmpi .eq arg0 c0_i32
  let v_true : BitVec 1 := 1#1
  let v41 : BitVec 1 := Scalar.xori v38 v_true
  let v42 : BitVec 32 := Scalar.extui v41
  let c0_i32_23 : BitVec 32 := 0#32
  let v43 : BitVec 1 := Scalar.cmpi .ne v42 c0_i32_23
  v43

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]
-- ==== RXqdxIdeal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 94
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .hbm, ⟨3, _⟩ => ⟨S2048x2048, .bf16⟩
  | .hbm, ⟨4, _⟩ => ⟨S2048x2048, .f32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S2048x2048, .f32⟩
  | .hbm, ⟨32, _⟩ => ⟨S2048x2048, .f32⟩
  | .hbm, ⟨33, _⟩ => ⟨S1x2048, .f32⟩
  | .hbm, ⟨34, _⟩ => ⟨S2048x2048, .f32⟩
  | .hbm, ⟨35, _⟩ => ⟨S2048x2048, .f32⟩
  | .hbm, ⟨36, _⟩ => ⟨S1x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S_, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S_, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S_, .f32⟩
  | .hbm, ⟨51, _⟩ => ⟨S2048, .f32⟩
  | .hbm, ⟨52, _⟩ => ⟨S1x2048, .f32⟩
  | .hbm, ⟨53, _⟩ => ⟨S_, .f32⟩
  | .hbm, ⟨54, _⟩ => ⟨S2048, .f32⟩
  | .hbm, ⟨55, _⟩ => ⟨S2048x2048, .f32⟩
  | .hbm, ⟨56, _⟩ => ⟨S_, .f32⟩
  | .hbm, ⟨57, _⟩ => ⟨S2048, .f32⟩
  | .hbm, ⟨58, _⟩ => ⟨S1x2048, .f32⟩
  | .hbm, ⟨59, _⟩ => ⟨S2048x2048, .f32⟩
  | .hbm, ⟨60, _⟩ => ⟨S2048x2048, .f32⟩
  | .hbm, ⟨61, _⟩ => ⟨S_, .f32⟩
  | .hbm, ⟨62, _⟩ => ⟨S2048, .f32⟩
  | .hbm, ⟨63, _⟩ => ⟨S2048x2048, .f32⟩
  | .hbm, ⟨64, _⟩ => ⟨S_, .f32⟩
  | .hbm, ⟨65, _⟩ => ⟨S2048, .f32⟩
  | .hbm, ⟨66, _⟩ => ⟨S2048x1, .f32⟩
  | .hbm, ⟨67, _⟩ => ⟨S2048x2048, .f32⟩
  | .hbm, ⟨68, _⟩ => ⟨S2048x2048, .f32⟩
  | .hbm, ⟨69, _⟩ => ⟨S2048x1, .f32⟩
  | .hbm, ⟨70, _⟩ => ⟨S_, .f32⟩
  | .hbm, ⟨71, _⟩ => ⟨S2048x1, .f32⟩
  | .hbm, ⟨72, _⟩ => ⟨S2048x1, .f32⟩
  | .hbm, ⟨73, _⟩ => ⟨S_, .f32⟩
  | .hbm, ⟨74, _⟩ => ⟨S2048, .f32⟩
  | .hbm, ⟨75, _⟩ => ⟨S2048x2048, .f32⟩
  | .hbm, ⟨76, _⟩ => ⟨S2048x2048, .f32⟩
  | .hbm, ⟨77, _⟩ => ⟨S2048x2048, .f32⟩
  | .hbm, ⟨78, _⟩ => ⟨S2048x2048, .f32⟩
  | .hbm, ⟨79, _⟩ => ⟨S2048x2048, .f32⟩
  | .hbm, ⟨80, _⟩ => ⟨S2048x2048, .f32⟩
  | .hbm, ⟨81, _⟩ => ⟨S_, .f32⟩
  | .hbm, ⟨82, _⟩ => ⟨S2048, .f32⟩
  | .hbm, ⟨83, _⟩ => ⟨S2048x1, .f32⟩
  | .hbm, ⟨84, _⟩ => ⟨S_, .f32⟩
  | .hbm, ⟨85, _⟩ => ⟨S2048x1, .f32⟩
  | .hbm, ⟨86, _⟩ => ⟨S2048x1, .f32⟩
  | .hbm, ⟨87, _⟩ => ⟨S_, .f32⟩
  | .hbm, ⟨88, _⟩ => ⟨S2048, .f32⟩
  | .hbm, ⟨89, _⟩ => ⟨S2048x2048, .f32⟩
  | .hbm, ⟨90, _⟩ => ⟨S2048x2048, .f32⟩
  | .hbm, ⟨91, _⟩ => ⟨S2048x2048, .bf16⟩
  | .hbm, ⟨92, _⟩ => ⟨S1x2048, .f32⟩
  | .hbm, ⟨93, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_11 : Ref sig .tc := ⟨.hbm, 61, rfl⟩
abbrev main_v44 : Ref sig .tc := ⟨.hbm, 62, rfl⟩
abbrev main_v45 : Ref sig .tc := ⟨.hbm, 63, rfl⟩
abbrev main_cst_12 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_13 : Ref sig .tc := ⟨.hbm, 70, rfl⟩
abbrev main_v51 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_15 : Ref sig .tc := ⟨.hbm, 81, rfl⟩
abbrev main_v60 : Ref sig .tc := ⟨.hbm, 82, rfl⟩
abbrev main_v61 : Ref sig .tc := ⟨.hbm, 83, rfl⟩
abbrev main_cst_16 : Ref sig .tc := ⟨.hbm, 84, rfl⟩
abbrev main_v62 : Ref sig .tc := ⟨.hbm, 85, rfl⟩
abbrev main_v63 : Ref sig .tc := ⟨.hbm, 86, rfl⟩
abbrev main_cst_17 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩

abbrev nD : Nat := 1
abbrev τ : Topo := Topo.v7x

variable {F : FTy → Type} [FloatOps F]
-- ==== KMlpdx.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩
abbrev S1024x2048 : Shape := ⟨2, ![1024, 2048]⟩
abbrev S1024x1024 : Shape := ⟨2, ![1024, 1024]⟩

abbrev nBuf : Space → Nat
  | .hbm => 11
  | .vmem => 8
  | .smem => 0
  | _ => 0

abbrev bufTy : (tb : Table) → Fin (tcTables nBuf tb) → BufTy
  | .hbm, ⟨0, _⟩ => ⟨S2048x8192, .f32⟩
  | .hbm, ⟨1, _⟩ => ⟨S8192x2048, .bf16⟩
  | .hbm, ⟨2, _⟩ => ⟨S2048x2048, .bf16⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S_, .f32⟩
  | .hbm, ⟨7, _⟩ => ⟨S2048x8192, .f32⟩
  | .hbm, ⟨8, _⟩ => ⟨S2048x8192, .f32⟩
  | .hbm, ⟨9, _⟩ => ⟨S2048x8192, .bf16⟩
  | .hbm, ⟨10, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RMlpdxIdeal.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .bf16⟩
  | .hbm, ⟨2, _⟩ => ⟨S2048x2048, .bf16⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S_, .f32⟩
  | .hbm, ⟨7, _⟩ => ⟨S2048x8192, .f32⟩
  | .hbm, ⟨8, _⟩ => ⟨S2048x8192, .i1⟩
  | .hbm, ⟨9, _⟩ => ⟨S_, .f32⟩
  | .hbm, ⟨10, _⟩ => ⟨S2048x8192, .f32⟩
  | .hbm, ⟨11, _⟩ => ⟨S2048x8192, .f32⟩
  | .hbm, ⟨12, _⟩ => ⟨S_, .f32⟩
  | .hbm, ⟨13, _⟩ => ⟨S2048x8192, .f32⟩
  | .hbm, ⟨14, _⟩ => ⟨S2048x8192, .f32⟩
  | .hbm, ⟨15, _⟩ => ⟨S8192x2048, .f32⟩
  | .hbm, ⟨16, _⟩ => ⟨S2048x2048, .f32⟩
  | .hbm, ⟨17, _⟩ => ⟨S2048x2048, .f32⟩
  | .hbm, ⟨18, _⟩ => ⟨S2048x8192, .f32⟩
  | .hbm, ⟨19, _⟩ => ⟨S2048x8192, .f32⟩
  | .hbm, ⟨20, _⟩ => ⟨S_, .f32⟩
  | .hbm, ⟨21, _⟩ => ⟨S2048x8192, .f32⟩
  | .hbm, ⟨22, _⟩ => ⟨S2048x8192, .f32⟩
  | .hbm, ⟨23, _⟩ => ⟨S2048x8192, .bf16⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== KLnf.lean ====
abbrev S2048x2048 : Shape := ⟨2, ![2048, 2048]⟩
abbrev S1x2048 : Shape := ⟨2, ![1, 2048]⟩
abbrev S2048x1 : Shape := ⟨2, ![2048, 1]⟩
abbrev S256x2048 : Shape := ⟨2, ![256, 2048]⟩
abbrev S256x1 : Shape := ⟨2, ![256, 1]⟩
abbrev S256 : Shape := ⟨1, ![256]⟩

abbrev nBuf : Space → Nat
  | .hbm => 9
  | .vmem => 15
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S2048x2048, .f32⟩
  | .hbm, ⟨8, _⟩ => ⟨S2048x1, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S256x2048, .f32⟩
  | .local _ .vmem, ⟨12, _⟩ => ⟨S256x2048, .f32⟩
  | .local _ .vmem, ⟨13, _⟩ => ⟨S256x1, .f32⟩
  | .local _ .vmem, ⟨14, _⟩ => ⟨S256x1, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== RLnfIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 63
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048, .f32⟩
  | .hbm, ⟨13, _⟩ => ⟨S2048, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S2048, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S1x2048, .f32⟩
  | .hbm, ⟨36, _⟩ => ⟨S2048x2048, .f32⟩
  | .hbm, ⟨37, _⟩ => ⟨S2048x2048, .f32⟩
  | .hbm, ⟨38, _⟩ => ⟨S1x2048, .f32⟩
  | .hbm, ⟨39, _⟩ => ⟨S2048x2048, .f32⟩
  | .hbm, ⟨40, _⟩ => ⟨S2048x2048, .f32⟩
  | .hbm, ⟨41, _⟩ => ⟨S2048x2048, .bf16⟩
  | .hbm, ⟨42, _⟩ => ⟨S_, .f32⟩
  | .hbm, ⟨43, _⟩ => ⟨S2048, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S_, .f32⟩
  | .hbm, ⟨52, _⟩ => ⟨S2048, .f32⟩
  | .hbm, ⟨53, _⟩ => ⟨S2048x1, .f32⟩
  | .hbm, ⟨54, _⟩ => ⟨S_, .f32⟩
  | .hbm, ⟨55, _⟩ => ⟨S2048x1, .f32⟩
  | .hbm, ⟨56, _⟩ => ⟨S2048x1, .f32⟩
  | .hbm, ⟨57, _⟩ => ⟨S_, .f32⟩
  | .hbm, ⟨58, _⟩ => ⟨S2048x1, .f32⟩
  | .hbm, ⟨59, _⟩ => ⟨S2048x1, .f32⟩
  | .hbm, ⟨60, _⟩ => ⟨S2048x1, .f32⟩
  | .hbm, ⟨61, _⟩ => ⟨S2048x2048, .f32⟩
  | .hbm, ⟨62, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== KUpf.lean ====
abbrev S2048x2048 : Shape := ⟨2, ![2048, 2048]⟩
abbrev S4x2048x2048 : Shape := ⟨3, ![4, 2048, 2048]⟩
abbrev S2048x8192 : Shape := ⟨2, ![2048, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S4x2048x2048, .bf16⟩
  | .hbm, ⟨2, _⟩ => ⟨S2048x8192, .bf16⟩
  | .hbm, ⟨3, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RUpfIdeal.lean ====
abbrev S2048x2048 : Shape := ⟨2, ![2048, 2048]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x2048, .bf16⟩
  | .hbm, ⟨2, _⟩ => ⟨S2048x2048, .f32⟩
  | .hbm, ⟨3, _⟩ => ⟨S4x2048x2048, .f32⟩
  | .hbm, ⟨4, _⟩ => ⟨S2048x4x2048, .f32⟩
  | .hbm, ⟨5, _⟩ => ⟨S2048x8192, .f32⟩
  | .hbm, ⟨6, _⟩ => ⟨S2048x8192, .f32⟩
  | .hbm, ⟨7, _⟩ => ⟨S_, .f32⟩
  | .hbm, ⟨8, _⟩ => ⟨S2048x8192, .f32⟩
  | .hbm, ⟨9, _⟩ => ⟨S2048x8192, .f32⟩
  | .hbm, ⟨10, _⟩ => ⟨S_, .f32⟩
  | .hbm, ⟨11, _⟩ => ⟨S2048x8192, .f32⟩
  | .hbm, ⟨12, _⟩ => ⟨S2048x8192, .i1⟩
  | .hbm, ⟨13, _⟩ => ⟨S_, .f32⟩
  | .hbm, ⟨14, _⟩ => ⟨S2048x8192, .f32⟩
  | .hbm, ⟨15, _⟩ => ⟨S2048x8192, .f32⟩
  | .hbm, ⟨16, _⟩ => ⟨S_, .f32⟩
  | .hbm, ⟨17, _⟩ => ⟨S2048x8192, .f32⟩
  | .hbm, ⟨18, _⟩ => ⟨S2048x8192, .f32⟩
  | .hbm, ⟨19, _⟩ => ⟨S2048x8192, .bf16⟩
  | .hbm, ⟨20, _⟩ => ⟨S_, .f32⟩
  | .hbm, ⟨21, _⟩ => ⟨S2048x8192, .f32⟩
  | .hbm, ⟨22, _⟩ => ⟨S2048x8192, .f32⟩
  | .hbm, ⟨23, _⟩ => ⟨S_, .f32⟩
  | .hbm, ⟨24, _⟩ => ⟨S2048x8192, .f32⟩
  | .hbm, ⟨25, _⟩ => ⟨S2048x8192, .f32⟩
  | .hbm, ⟨26, _⟩ => ⟨S2048x8192, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== KGatesf.lean ====
abbrev S2048x2048 : Shape := ⟨2, ![2048, 2048]⟩
abbrev S16x2048 : Shape := ⟨2, ![16, 2048]⟩
abbrev S1x8 : Shape := ⟨2, ![1, 8]⟩
abbrev S_ : Shape := ⟨0, ![]⟩
abbrev S128x2048 : Shape := ⟨2, ![128, 2048]⟩
abbrev S1x128 : Shape := ⟨2, ![1, 128]⟩
abbrev S2048x128 : Shape := ⟨2, ![2048, 128]⟩
abbrev S512x2048 : Shape := ⟨2, ![512, 2048]⟩
abbrev S512x128 : Shape := ⟨2, ![512, 128]⟩

abbrev nBuf : Space → Nat
  | .hbm => 16
  | .vmem => 9
  | .smem => 0
  | _ => 0

abbrev bufTy : (tb : Table) → Fin (tcTables nBuf tb) → BufTy
  | .hbm, ⟨0, _⟩ => ⟨S2048x2048, .bf16⟩
  | .hbm, ⟨1, _⟩ => ⟨S16x2048, .bf16⟩
  | .hbm, ⟨2, _⟩ => ⟨S1x8, .f32⟩
  | .hbm, ⟨3, _⟩ => ⟨S1x8, .f32⟩
  | .hbm, ⟨4, _⟩ => ⟨S_, .i32⟩
  | .hbm, ⟨5, _⟩ => ⟨S_, .bf16⟩
  | .hbm, ⟨6, _⟩ => ⟨S128x2048, .bf16⟩
  | .hbm, ⟨7, _⟩ => ⟨S1x8, .f32⟩
  | .hbm, ⟨8, _⟩ => ⟨S_, .i32⟩
  | .hbm, ⟨9, _⟩ => ⟨S_, .f32⟩
  | .hbm, ⟨10, _⟩ => ⟨S1x128, .f32⟩
  | .hbm, ⟨11, _⟩ => ⟨S_, .i32⟩
  | .hbm, ⟨12, _⟩ => ⟨S_, .f32⟩
  | .hbm, ⟨13, _⟩ => ⟨S1x128, .f32⟩
  | .hbm, ⟨14, _⟩ => ⟨S2048x128, .f32⟩
  | .hbm, ⟨15, _⟩ => ⟨S2048x128, .f32⟩
  | .local _ .vmem, ⟨0, _⟩ => ⟨S512x2048, .bf16⟩
  | .local _ .vmem, ⟨1, _⟩ => ⟨S512x2048, .bf16⟩
  | .local _ .vmem, ⟨2, _⟩ => ⟨S128x2048, .bf16⟩
  | .local _ .vmem, ⟨3, _⟩ => ⟨S1x128, .f32⟩
  | .local _ .vmem, ⟨4, _⟩ => ⟨S1x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call1_v0 : Ref sig .tc := ⟨.hbm, 9, rfl⟩
abbrev main_v2 : Ref sig .tc := ⟨.hbm, 10, rfl⟩
abbrev main_c_1 : Ref sig .tc := ⟨.hbm, 11, rfl⟩
abbrev main_call2_v0 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== RGatesfIdeal.lean ====
abbrev S2048x2048 : Shape := ⟨2, ![2048, 2048]⟩
abbrev S16x2048 : Shape := ⟨2, ![16, 2048]⟩
abbrev S1x8 : Shape := ⟨2, ![1, 8]⟩
abbrev S2048x16 : Shape := ⟨2, ![2048, 16]⟩
abbrev S2048x8 : Shape := ⟨2, ![2048, 8]⟩
abbrev S1x2048x8 : Shape := ⟨3, ![1, 2048, 8]⟩
abbrev S8 : Shape := ⟨1, ![8]⟩
abbrev S_ : Shape := ⟨0, ![]⟩
abbrev S1x1x8 : Shape := ⟨3, ![1, 1, 8]⟩
abbrev S2048x128 : Shape := ⟨2, ![2048, 128]⟩

abbrev nBuf : Space → Nat
  | .hbm => 53
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S16x2048, .bf16⟩
  | .hbm, ⟨2, _⟩ => ⟨S1x8, .f32⟩
  | .hbm, ⟨3, _⟩ => ⟨S1x8, .f32⟩
  | .hbm, ⟨4, _⟩ => ⟨S2048x2048, .f32⟩
  | .hbm, ⟨5, _⟩ => ⟨S16x2048, .f32⟩
  | .hbm, ⟨6, _⟩ => ⟨S2048x16, .f32⟩
  | .hbm, ⟨7, _⟩ => ⟨S2048x16, .f32⟩
  | .hbm, ⟨8, _⟩ => ⟨S2048x8, .f32⟩
  | .hbm, ⟨9, _⟩ => ⟨S1x2048x8, .f32⟩
  | .hbm, ⟨10, _⟩ => ⟨S2048x8, .f32⟩
  | .hbm, ⟨11, _⟩ => ⟨S1x2048x8, .f32⟩
  | .hbm, ⟨12, _⟩ => ⟨S8, .f32⟩
  | .hbm, ⟨13, _⟩ => ⟨S8, .f32⟩
  | .hbm, ⟨14, _⟩ => ⟨S1x2048x8, .f32⟩
  | .hbm, ⟨15, _⟩ => ⟨S1x2048x8, .f32⟩
  | .hbm, ⟨16, _⟩ => ⟨S_, .f32⟩
  | .hbm, ⟨17, _⟩ => ⟨S1x2048x8, .f32⟩
  | .hbm, ⟨18, _⟩ => ⟨S1x2048x8, .f32⟩
  | .hbm, ⟨19, _⟩ => ⟨S_, .f32⟩
  | .hbm, ⟨20, _⟩ => ⟨S1x2048x8, .f32⟩
  | .hbm, ⟨21, _⟩ => ⟨S1x2048x8, .f32⟩
  | .hbm, ⟨22, _⟩ => ⟨S8, .f32⟩
  | .hbm, ⟨23, _⟩ => ⟨S8, .f32⟩
  | .hbm, ⟨24, _⟩ => ⟨S1x1x8, .f32⟩
  | .hbm, ⟨25, _⟩ => ⟨S1x2048x8, .f32⟩
  | .hbm, ⟨26, _⟩ => ⟨S1x2048x8, .f32⟩
  | .hbm, ⟨27, _⟩ => ⟨S_, .f32⟩
  | .hbm, ⟨28, _⟩ => ⟨S1x2048x8, .f32⟩
  | .hbm, ⟨29, _⟩ => ⟨S1x2048x8, .f32⟩
  | .hbm, ⟨30, _⟩ => ⟨S1x2048x8, .f32⟩
  | .hbm, ⟨31, _⟩ => ⟨S1x2048x8, .f32⟩
  | .hbm, ⟨32, _⟩ => ⟨S1x2048x8, .i1⟩
  | .hbm, ⟨33, _⟩ => ⟨S1x2048x8, .f32⟩
  | .hbm, ⟨34, _⟩ => ⟨S1x2048x8, .f32⟩
  | .hbm, ⟨35, _⟩ => ⟨S1x2048x8, .f32⟩
  | .hbm, ⟨36, _⟩ => ⟨S1x2048x8, .f32⟩
  | .hbm, ⟨37, _⟩ => ⟨S1x2048x8, .f32⟩
  | .hbm, ⟨38, _⟩ => ⟨S1x2048x8, .f32⟩
  | .hbm, ⟨39, _⟩ => ⟨S1x2048x8, .f32⟩
  | .hbm, ⟨40, _⟩ => ⟨S1x2048x8, .f32⟩
  | .hbm, ⟨41, _⟩ => ⟨S1x1x8, .f32⟩
  | .hbm, ⟨42, _⟩ => ⟨S1x2048x8, .f32⟩
  | .hbm, ⟨43, _⟩ => ⟨S1x2048x8, .f32⟩
  | .hbm, ⟨44, _⟩ => ⟨S_, .i32⟩
  | .hbm, ⟨45, _⟩ => ⟨S_, .f32⟩
  | .hbm, ⟨46, _⟩ => ⟨S2048x128, .f32⟩
  | .hbm, ⟨47, _⟩ => ⟨S2048x8, .f32⟩
  | .hbm, ⟨48, _⟩ => ⟨S2048x8, .f32⟩
  | .hbm, ⟨49, _⟩ => ⟨S2048x16, .f32⟩
  | .hbm, ⟨50, _⟩ => ⟨S_, .i32⟩
  | .hbm, ⟨51, _⟩ => ⟨S_, .f32⟩
  | .hbm, ⟨52, _⟩ => ⟨S2048x128, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c : Ref sig .tc := ⟨.hbm, 44, rfl⟩
abbrev main_call1_v0 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_1 : Ref sig .tc := ⟨.hbm, 50, rfl⟩
abbrev main_call2_v0 : Ref sig .tc := ⟨.hbm, 51, rfl⟩
abbrev main_v29 : Ref sig .tc := ⟨.hbm, 52, rfl⟩

abbrev nD : Nat := 1
abbrev τ : Topo := Topo.v7x

variable {F : FTy → Type} [FloatOps F]
-- ==== KDownf.lean ====
abbrev S2048x8192 : Shape := ⟨2, ![2048, 8192]⟩
abbrev S8192x2048 : Shape := ⟨2, ![8192, 2048]⟩
abbrev S2048x2048 : Shape := ⟨2, ![2048, 2048]⟩
abbrev S1x2048 : Shape := ⟨2, ![1, 2048]⟩
abbrev S2048x1 : Shape := ⟨2, ![2048, 1]⟩
abbrev S512x2048 : Shape := ⟨2, ![512, 2048]⟩
abbrev S512x1 : Shape := ⟨2, ![512, 1]⟩
abbrev S512 : Shape := ⟨1, ![512]⟩

abbrev nBuf : Space → Nat
  | .hbm => 7
  | .vmem => 13
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S2048x1, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x1, .f32⟩
  | .local _ .vmem, ⟨11, _⟩ => ⟨S512x1, .f32⟩
  | .local _ .vmem, ⟨12, _⟩ => ⟨S512x2048, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== RDownfIdeal.lean ====
abbrev S2048x8192 : Shape := ⟨2, ![2048, 8192]⟩
abbrev S8192x2048 : Shape := ⟨2, ![8192, 2048]⟩
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 33
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x8192, .f32⟩
  | .hbm, ⟨9, _⟩ => ⟨S8192x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S_, .f32⟩
  | .hbm, ⟨22, _⟩ => ⟨S2048, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S2048x2048, .f32⟩
  | .hbm, ⟨32, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]
-- ==== KProjdx.lean ====
abbrev S2048x3072 : Shape := ⟨2, ![2048, 3072]⟩
abbrev S2048x1024 : Shape := ⟨2, ![2048, 1024]⟩
abbrev S2048x128 : Shape := ⟨2, ![2048, 128]⟩
abbrev S5136x2048 : Shape := ⟨2, ![5136, 2048]⟩
abbrev S2048x2048 : Shape := ⟨2, ![2048, 2048]⟩
abbrev S2048x16 : Shape := ⟨2, ![2048, 16]⟩
abbrev S_ : Shape := ⟨0, ![]⟩
abbrev S2048x240 : Shape := ⟨2, ![2048, 240]⟩
abbrev S2048x5376 : Shape := ⟨2, ![2048, 5376]⟩
abbrev S240x2048 : Shape := ⟨2, ![240, 2048]⟩
abbrev S5376x2048 : Shape := ⟨2, ![5376, 2048]⟩
abbrev S512x5376 : Shape := ⟨2, ![512, 5376]⟩
abbrev S5376x1024 : Shape := ⟨2, ![5376, 1024]⟩
abbrev S512x1024 : Shape := ⟨2, ![512, 1024]⟩

abbrev nBuf : Space → Nat
  | .hbm => 14
  | .vmem => 8
  | .smem => 0
  | _ => 0

abbrev bufTy : (tb : Table) → Fin (tcTables nBuf tb) → BufTy
  | .hbm, ⟨0, _⟩ => ⟨S2048x3072, .bf16⟩
  | .hbm, ⟨1, _⟩ => ⟨S2048x1024, .bf16⟩
  | .hbm, ⟨2, _⟩ => ⟨S2048x128, .bf16⟩
  | .hbm, ⟨3, _⟩ => ⟨S2048x1024, .bf16⟩
  | .hbm, ⟨4, _⟩ => ⟨S5136x2048, .bf16⟩
  | .hbm, ⟨5, _⟩ => ⟨S2048x2048, .f32⟩
  | .hbm, ⟨6, _⟩ => ⟨S2048x16, .bf16⟩
  | .hbm, ⟨7, _⟩ => ⟨S_, .bf16⟩
  | .hbm, ⟨8, _⟩ => ⟨S2048x240, .bf16⟩
  | .hbm, ⟨9, _⟩ => ⟨S2048x5376, .bf16⟩
  | .hbm, ⟨10, _⟩ => ⟨S_, .bf16⟩
  | .hbm, ⟨11, _⟩ => ⟨S240x2048, .bf16⟩
  | .hbm, ⟨12, _⟩ => ⟨S5376x2048, .bf16⟩
  | .hbm, ⟨13, _⟩ => ⟨S2048x2048, .f32⟩
  | .local _ .vmem, ⟨0, _⟩ => ⟨S512x5376, .bf16⟩
  | .local _ .vmem, ⟨1, _⟩ => ⟨S512x5376, .bf16⟩
  | .local _ .vmem, ⟨2, _⟩ => ⟨S5376x1024, .bf16⟩
  | .local _ .vmem, ⟨3, _⟩ => ⟨S5376x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5376x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RProjdxIdeal.lean ====
abbrev S2048x3072 : Shape := ⟨2, ![2048, 3072]⟩
abbrev S2048x1024 : Shape := ⟨2, ![2048, 1024]⟩
abbrev S2048x128 : Shape := ⟨2, ![2048, 128]⟩
abbrev S5136x2048 : Shape := ⟨2, ![5136, 2048]⟩
abbrev S2048x2048 : Shape := ⟨2, ![2048, 2048]⟩
abbrev S_ : Shape := ⟨0, ![]⟩
abbrev S2048x5136 : Shape := ⟨2, ![2048, 5136]⟩
abbrev S2048x16 : Shape := ⟨2, ![2048, 16]⟩

abbrev nBuf : Space → Nat
  | .hbm => 39
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S2048x1024, .bf16⟩
  | .hbm, ⟨2, _⟩ => ⟨S2048x128, .bf16⟩
  | .hbm, ⟨3, _⟩ => ⟨S2048x1024, .bf16⟩
  | .hbm, ⟨4, _⟩ => ⟨S5136x2048, .bf16⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S5136x2048, .f32⟩
  | .hbm, ⟨9, _⟩ => ⟨S2048x5136, .f32⟩
  | .hbm, ⟨10, _⟩ => ⟨S2048x5136, .f32⟩
  | .hbm, ⟨11, _⟩ => ⟨S2048x3072, .f32⟩
  | .hbm, ⟨12, _⟩ => ⟨S2048x1024, .f32⟩
  | .hbm, ⟨13, _⟩ => ⟨S2048x16, .f32⟩
  | .hbm, ⟨14, _⟩ => ⟨S2048x1024, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x3072, .f32⟩
  | .hbm, ⟨19, _⟩ => ⟨S2048x1024, .f32⟩
  | .hbm, ⟨20, _⟩ => ⟨S2048x16, .bf16⟩
  | .hbm, ⟨21, _⟩ => ⟨S2048x16, .f32⟩
  | .hbm, ⟨22, _⟩ => ⟨S2048x1024, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x5136, .f32⟩
  | .hbm, ⟨28, _⟩ => ⟨S_, .f32⟩
  | .hbm, ⟨29, _⟩ => ⟨S2048x5136, .f32⟩
  | .hbm, ⟨30, _⟩ => ⟨S2048x5136, .f32⟩
  | .hbm, ⟨31, _⟩ => ⟨S_, .f32⟩
  | .hbm, ⟨32, _⟩ => ⟨S2048x5136, .f32⟩
  | .hbm, ⟨33, _⟩ => ⟨S2048x5136, .f32⟩
  | .hbm, ⟨34, _⟩ => ⟨S_, .f32⟩
  | .hbm, ⟨35, _⟩ => ⟨S2048x5136, .f32⟩
  | .hbm, ⟨36, _⟩ => ⟨S2048x5136, .f32⟩
  | .hbm, ⟨37, _⟩ => ⟨S2048x2048, .f32⟩
  | .hbm, ⟨38, _⟩ => ⟨S2048x2048, .f32⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== KDowndw.lean ====
abbrev S2048x8192 : Shape := ⟨2, ![2048, 8192]⟩
abbrev S2048x2048 : Shape := ⟨2, ![2048, 2048]⟩
abbrev S8192x2048 : Shape := ⟨2, ![8192, 2048]⟩
abbrev S2048x512 : Shape := ⟨2, ![2048, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x8192, .bf16⟩
  | .hbm, ⟨1, _⟩ => ⟨S2048x2048, .bf16⟩
  | .hbm, ⟨2, _⟩ => ⟨S8192x2048, .f32⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RDowndwIdeal.lean ====
abbrev S2048x8192 : Shape := ⟨2, ![2048, 8192]⟩
abbrev S2048x2048 : Shape := ⟨2, ![2048, 2048]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2048x2048, .bf16⟩
  | .hbm, ⟨2, _⟩ => ⟨S2048x8192, .f32⟩
  | .hbm, ⟨3, _⟩ => ⟨S2048x2048, .f32⟩
  | .hbm, ⟨4, _⟩ => ⟨S_, .f32⟩
  | .hbm, ⟨5, _⟩ => ⟨S8192x2048, .f32⟩
  | .hbm, ⟨6, _⟩ => ⟨S2048x2048, .f32⟩
  | .hbm, ⟨7, _⟩ => ⟨S2048x8192, .f32⟩
  | .hbm, ⟨8, _⟩ => ⟨S8192x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KAdam.lean ====
abbrev S2048x2048 : Shape := ⟨2, ![2048, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RAdamIdeal.lean ====
abbrev S2048x2048 : Shape := ⟨2, ![2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KChippart.lean ====
abbrev S4x2048x2048 : Shape := ⟨3, ![4, 2048, 2048]⟩
abbrev S4x1024x2048 : Shape := ⟨3, ![4, 1024, 2048]⟩
abbrev S1 : Shape := ⟨1, ![1]⟩
abbrev S1x256x2048 : Shape := ⟨3, ![1, 256, 2048]⟩
abbrev S256x2048 : Shape := ⟨2, ![256, 2048]⟩

abbrev nBuf : Space → Nat
  | .hbm => 3
  | .vmem => 6
  | .smem => 1
  | _ => 0

abbrev bufTy : (tb : Table) → Fin (tcTables nBuf tb) → BufTy
  | .hbm, ⟨0, _⟩ => ⟨S4x2048x2048, .f32⟩
  | .hbm, ⟨1, _⟩ => ⟨S4x1024x2048, .f32⟩
  | .hbm, ⟨2, _⟩ => ⟨S4x1024x2048, .bf16⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .bf16⟩
  | .local _ .vmem, ⟨5, _⟩ => ⟨S1x256x2048, .bf16⟩
  | .local _ .smem, ⟨0, _⟩ => ⟨S1, .i32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c4_i32 : BitVec 32 := 4#32
  let v1 : BitVec 32 := Scalar.muli v0 c4_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RChippartIdeal.lean ====
abbrev S4x2048x2048 : Shape := ⟨3, ![4, 2048, 2048]⟩
abbrev S4x1024x2048 : Shape := ⟨3, ![4, 1024, 2048]⟩
abbrev S1 : Shape := ⟨1, ![1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x1024x2048, .f32⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x1024x2048, .i1⟩
  | .hbm, ⟨7, _⟩ => ⟨S4x1024x2048, .f32⟩
  | .hbm, ⟨8, _⟩ => ⟨S4x1024x2048, .f32⟩
  | .hbm, ⟨9, _⟩ => ⟨S4x1024x2048, .f32⟩
  | .hbm, ⟨10, _⟩ => ⟨S4x1024x2048, .f32⟩
  | .hbm, ⟨11, _⟩ => ⟨S4x1024x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== KSmall.lean ====
abbrev S1x4x768 : Shape := ⟨3, ![1, 4, 768]⟩
abbrev S1x8 : Shape := ⟨2, ![1, 8]⟩
abbrev S1x128 : Shape := ⟨2, ![1, 128]⟩
abbrev S1x1024 : Shape := ⟨2, ![1, 1024]⟩
abbrev S1x2048 : Shape := ⟨2, ![1, 2048]⟩
abbrev S3072 : Shape := ⟨1, ![3072]⟩
abbrev S_ : Shape := ⟨0, ![]⟩
abbrev S24x128 : Shape := ⟨2, ![24, 128]⟩
abbrev S8 : Shape := ⟨1, ![8]⟩
abbrev S128 : Shape := ⟨1, ![128]⟩
abbrev S1024 : Shape := ⟨1, ![1024]⟩
abbrev S8x128 : Shape := ⟨2, ![8, 128]⟩
abbrev S2048 : Shape := ⟨1, ![2048]⟩
abbrev S16x128 : Shape := ⟨2, ![16, 128]⟩
abbrev S131x128 : Shape := ⟨2, ![131, 128]⟩
abbrev S136x128 : Shape := ⟨2, ![136, 128]⟩

abbrev nBuf : Space → Nat
  | .hbm => 599
  | .vmem => 16
  | .smem => 0
  | _ => 0

abbrev hbmTy0_0 (i : Nat) : BufTy := match i % 128 with
  | 0 => ⟨S1x4x768, .f32⟩
  | 1 => ⟨S1x8, .f32⟩
  | 2 => ⟨S1x8, .f32⟩
  | 3 => ⟨S1x128, .f32⟩
  | 4 => ⟨S1x1024, .f32⟩
  | 5 => ⟨S1x2048, .f32⟩
  | 6 => ⟨S1x2048, .f32⟩
  | 7 => ⟨S1x2048, .f32⟩
  | 8 => ⟨S1x2048, .f32⟩
  | 9 => ⟨S1x2048, .f32⟩
  | 10 => ⟨S1x2048, .f32⟩
  | 11 => ⟨S1x4x768, .f32⟩
  | 12 => ⟨S1x8, .f32⟩
  | 13 => ⟨S1x8, .f32⟩
  | 14 => ⟨S1x128, .f32⟩
  | 15 => ⟨S1x1024, .f32⟩
  | 16 => ⟨S1x2048, .f32⟩
  | 17 => ⟨S1x2048, .f32⟩
  | 18 => ⟨S1x2048, .f32⟩
  | 19 => ⟨S1x2048, .f32⟩
  | 20 => ⟨S1x2048, .f32⟩
  | 21 => ⟨S1x2048, .f32⟩
  | 22 => ⟨S1x4x768, .f32⟩
  | 23 => ⟨S1x8, .f32⟩
  | 24 => ⟨S1x8, .f32⟩
  | 25 => ⟨S1x128, .f32⟩
  | 26 => ⟨S1x1024, .f32⟩
  | 27 => ⟨S1x2048, .f32⟩
  | 28 => ⟨S1x2048, .f32⟩
  | 29 => ⟨S1x2048, .f32⟩
  | 30 => ⟨S1x2048, .f32⟩
  | 31 => ⟨S1x2048, .f32⟩
  | 32 => ⟨S1x2048, .f32⟩
  | 33 => ⟨S1x4x768, .f32⟩
  | 34 => ⟨S1x8, .f32⟩
  | 35 => ⟨S1x8, .f32⟩
  | 36 => ⟨S1x128, .f32⟩
  | 37 => ⟨S1x1024, .f32⟩
  | 38 => ⟨S1x2048, .f32⟩
  | 39 => ⟨S1x2048, .f32⟩
  | 40 => ⟨S1x2048, .f32⟩
  | 41 => ⟨S1x2048, .f32⟩
  | 42 => ⟨S1x2048, .f32⟩
  | 43 => ⟨S1x2048, .f32⟩
  | 44 => ⟨S3072, .f32⟩
  | 45 => ⟨S_, .i32⟩
  | 46 => ⟨S_, .f32⟩
  | 47 => ⟨S3072, .f32⟩
  | 48 => ⟨S24x128, .f32⟩
  | 49 => ⟨S8, .f32⟩
  | 50 => ⟨S_, .i32⟩
  | 51 => ⟨S_, .f32⟩
  | 52 => ⟨S128, .f32⟩
  | 53 => ⟨S1x128, .f32⟩
  | 54 => ⟨S8, .f32⟩
  | 55 => ⟨S_, .i32⟩
  | 56 => ⟨S_, .f32⟩
  | 57 => ⟨S128, .f32⟩
  | 58 => ⟨S1x128, .f32⟩
  | 59 => ⟨S128, .f32⟩
  | 60 => ⟨S_, .i32⟩
  | 61 => ⟨S_, .f32⟩
  | 62 => ⟨S128, .f32⟩
  | 63 => ⟨S1x128, .f32⟩
  | 64 => ⟨S1024, .f32⟩
  | 65 => ⟨S_, .i32⟩
  | 66 => ⟨S_, .f32⟩
  | 67 => ⟨S1024, .f32⟩
  | 68 => ⟨S8x128, .f32⟩
  | 69 => ⟨S2048, .f32⟩
  | 70 => ⟨S_, .i32⟩
  | 71 => ⟨S_, .f32⟩
  | 72 => ⟨S2048, .f32⟩
  | 73 => ⟨S16x128, .f32⟩
  | 74 => ⟨S2048, .f32⟩
  | 75 => ⟨S_, .i32⟩
  | 76 => ⟨S_, .f32⟩
  | 77 => ⟨S2048, .f32⟩
  | 78 => ⟨S16x128, .f32⟩
  | 79 => ⟨S2048, .f32⟩
  | 80 => ⟨S_, .i32⟩
  | 81 => ⟨S_, .f32⟩
  | 82 => ⟨S2048, .f32⟩
  | 83 => ⟨S16x128, .f32⟩
  | 84 => ⟨S2048, .f32⟩
  | 85 => ⟨S_, .i32⟩
  | 86 => ⟨S_, .f32⟩
  | 87 => ⟨S2048, .f32⟩
  | 88 => ⟨S16x128, .f32⟩
  | 89 => ⟨S2048, .f32⟩
  | 90 => ⟨S_, .i32⟩
  | 91 => ⟨S_, .f32⟩
  | 92 => ⟨S2048, .f32⟩
  | 93 => ⟨S16x128, .f32⟩
  | 94 => ⟨S2048, .f32⟩
  | 95 => ⟨S_, .i32⟩
  | 96 => ⟨S_, .f32⟩
  | 97 => ⟨S2048, .f32⟩
  | 98 => ⟨S16x128, .f32⟩
  | 99 => ⟨S131x128, .f32⟩
  | 100 => ⟨S_, .i32⟩
  | 101 => ⟨S_, .f32⟩
  | 102 => ⟨S136x128, .f32⟩
  | 103 => ⟨S3072, .f32⟩
  | 104 => ⟨S_, .i32⟩
  | 105 => ⟨S_, .f32⟩
  | 106 => ⟨S3072, .f32⟩
  | 107 => ⟨S24x128, .f32⟩
  | 108 => ⟨S8, .f32⟩
  | 109 => ⟨S_, .i32⟩
  | 110 => ⟨S_, .f32⟩
  | 111 => ⟨S128, .f32⟩
  | 112 => ⟨S1x128, .f32⟩
  | 113 => ⟨S8, .f32⟩
  | 114 => ⟨S_, .i32⟩
  | 115 => ⟨S_, .f32⟩
  | 116 => ⟨S128, .f32⟩
  | 117 => ⟨S1x128, .f32⟩
  | 118 => ⟨S128, .f32⟩
  | 119 => ⟨S_, .i32⟩
  | 120 => ⟨S_, .f32⟩
  | 121 => ⟨S128, .f32⟩
  | 122 => ⟨S1x128, .f32⟩
  | 123 => ⟨S1024, .f32⟩
  | 124 => ⟨S_, .i32⟩
  | 125 => ⟨S_, .f32⟩
  | 126 => ⟨S1024, .f32⟩
  | 127 => ⟨S8x128, .f32⟩
  | _ => ⟨S1x4x768, .f32⟩

abbrev hbmTy0_1 (i : Nat) : BufTy := match i % 128 with
  | 0 => ⟨S2048, .f32⟩
  | 1 => ⟨S_, .i32⟩
  | 2 => ⟨S_, .f32⟩
  | 3 => ⟨S2048, .f32⟩
  | 4 => ⟨S16x128, .f32⟩
  | 5 => ⟨S2048, .f32⟩
  | 6 => ⟨S_, .i32⟩
  | 7 => ⟨S_, .f32⟩
  | 8 => ⟨S2048, .f32⟩
  | 9 => ⟨S16x128, .f32⟩
  | 10 => ⟨S2048, .f32⟩
  | 11 => ⟨S_, .i32⟩
  | 12 => ⟨S_, .f32⟩
  | 13 => ⟨S2048, .f32⟩
  | 14 => ⟨S16x128, .f32⟩
  | 15 => ⟨S2048, .f32⟩
  | 16 => ⟨S_, .i32⟩
  | 17 => ⟨S_, .f32⟩
  | 18 => ⟨S2048, .f32⟩
  | 19 => ⟨S16x128, .f32⟩
  | 20 => ⟨S2048, .f32⟩
  | 21 => ⟨S_, .i32⟩
  | 22 => ⟨S_, .f32⟩
  | 23 => ⟨S2048, .f32⟩
  | 24 => ⟨S16x128, .f32⟩
  | 25 => ⟨S2048, .f32⟩
  | 26 => ⟨S_, .i32⟩
  | 27 => ⟨S_, .f32⟩
  | 28 => ⟨S2048, .f32⟩
  | 29 => ⟨S16x128, .f32⟩
  | 30 => ⟨S131x128, .f32⟩
  | 31 => ⟨S_, .i32⟩
  | 32 => ⟨S_, .f32⟩
  | 33 => ⟨S136x128, .f32⟩
  | 34 => ⟨S3072, .f32⟩
  | 35 => ⟨S_, .i32⟩
  | 36 => ⟨S_, .f32⟩
  | 37 => ⟨S3072, .f32⟩
  | 38 => ⟨S24x128, .f32⟩
  | 39 => ⟨S8, .f32⟩
  | 40 => ⟨S_, .i32⟩
  | 41 => ⟨S_, .f32⟩
  | 42 => ⟨S128, .f32⟩
  | 43 => ⟨S1x128, .f32⟩
  | 44 => ⟨S8, .f32⟩
  | 45 => ⟨S_, .i32⟩
  | 46 => ⟨S_, .f32⟩
  | 47 => ⟨S128, .f32⟩
  | 48 => ⟨S1x128, .f32⟩
  | 49 => ⟨S128, .f32⟩
  | 50 => ⟨S_, .i32⟩
  | 51 => ⟨S_, .f32⟩
  | 52 => ⟨S128, .f32⟩
  | 53 => ⟨S1x128, .f32⟩
  | 54 => ⟨S1024, .f32⟩
  | 55 => ⟨S_, .i32⟩
  | 56 => ⟨S_, .f32⟩
  | 57 => ⟨S1024, .f32⟩
  | 58 => ⟨S8x128, .f32⟩
  | 59 => ⟨S2048, .f32⟩
  | 60 => ⟨S_, .i32⟩
  | 61 => ⟨S_, .f32⟩
  | 62 => ⟨S2048, .f32⟩
  | 63 => ⟨S16x128, .f32⟩
  | 64 => ⟨S2048, .f32⟩
  | 65 => ⟨S_, .i32⟩
  | 66 => ⟨S_, .f32⟩
  | 67 => ⟨S2048, .f32⟩
  | 68 => ⟨S16x128, .f32⟩
  | 69 => ⟨S2048, .f32⟩
  | 70 => ⟨S_, .i32⟩
  | 71 => ⟨S_, .f32⟩
  | 72 => ⟨S2048, .f32⟩
  | 73 => ⟨S16x128, .f32⟩
  | 74 => ⟨S2048, .f32⟩
  | 75 => ⟨S_, .i32⟩
  | 76 => ⟨S_, .f32⟩
  | 77 => ⟨S2048, .f32⟩
  | 78 => ⟨S16x128, .f32⟩
  | 79 => ⟨S2048, .f32⟩
  | 80 => ⟨S_, .i32⟩
  | 81 => ⟨S_, .f32⟩
  | 82 => ⟨S2048, .f32⟩
  | 83 => ⟨S16x128, .f32⟩
  | 84 => ⟨S2048, .f32⟩
  | 85 => ⟨S_, .i32⟩
  | 86 => ⟨S_, .f32⟩
  | 87 => ⟨S2048, .f32⟩
  | 88 => ⟨S16x128, .f32⟩
  | 89 => ⟨S131x128, .f32⟩
  | 90 => ⟨S_, .i32⟩
  | 91 => ⟨S_, .f32⟩
  | 92 => ⟨S136x128, .f32⟩
  | 93 => ⟨S3072, .f32⟩
  | 94 => ⟨S_, .i32⟩
  | 95 => ⟨S_, .f32⟩
  | 96 => ⟨S3072, .f32⟩
  | 97 => ⟨S24x128, .f32⟩
  | 98 => ⟨S8, .f32⟩
  | 99 => ⟨S_, .i32⟩
  | 100 => ⟨S_, .f32⟩
  | 101 => ⟨S128, .f32⟩
  | 102 => ⟨S1x128, .f32⟩
  | 103 => ⟨S8, .f32⟩
  | 104 => ⟨S_, .i32⟩
  | 105 => ⟨S_, .f32⟩
  | 106 => ⟨S128, .f32⟩
  | 107 => ⟨S1x128, .f32⟩
  | 108 => ⟨S128, .f32⟩
  | 109 => ⟨S_, .i32⟩
  | 110 => ⟨S_, .f32⟩
  | 111 => ⟨S128, .f32⟩
  | 112 => ⟨S1x128, .f32⟩
  | 113 => ⟨S1024, .f32⟩
  | 114 => ⟨S_, .i32⟩
  | 115 => ⟨S_, .f32⟩
  | 116 => ⟨S1024, .f32⟩
  | 117 => ⟨S8x128, .f32⟩
  | 118 => ⟨S2048, .f32⟩
  | 119 => ⟨S_, .i32⟩
  | 120 => ⟨S_, .f32⟩
  | 121 => ⟨S2048, .f32⟩
  | 122 => ⟨S16x128, .f32⟩
  | 123 => ⟨S2048, .f32⟩
  | 124 => ⟨S_, .i32⟩
  | 125 => ⟨S_, .f32⟩
  | 126 => ⟨S2048, .f32⟩
  | 127 => ⟨S16x128, .f32⟩
  | _ => ⟨S1x4x768, .f32⟩

abbrev hbmTy0_2 (i : Nat) : BufTy := match i % 128 with
  | 0 => ⟨S2048, .f32⟩
  | 1 => ⟨S_, .i32⟩
  | 2 => ⟨S_, .f32⟩
  | 3 => ⟨S2048, .f32⟩
  | 4 => ⟨S16x128, .f32⟩
  | 5 => ⟨S2048, .f32⟩
  | 6 => ⟨S_, .i32⟩
  | 7 => ⟨S_, .f32⟩
  | 8 => ⟨S2048, .f32⟩
  | 9 => ⟨S16x128, .f32⟩
  | 10 => ⟨S2048, .f32⟩
  | 11 => ⟨S_, .i32⟩
  | 12 => ⟨S_, .f32⟩
  | 13 => ⟨S2048, .f32⟩
  | 14 => ⟨S16x128, .f32⟩
  | 15 => ⟨S2048, .f32⟩
  | 16 => ⟨S_, .i32⟩
  | 17 => ⟨S_, .f32⟩
  | 18 => ⟨S2048, .f32⟩
  | 19 => ⟨S16x128, .f32⟩
  | 20 => ⟨S131x128, .f32⟩
  | 21 => ⟨S_, .i32⟩
  | 22 => ⟨S_, .f32⟩
  | 23 => ⟨S136x128, .f32⟩
  | 24 => ⟨S136x128, .f32⟩
  | 25 => ⟨S136x128, .f32⟩
  | 26 => ⟨S136x128, .f32⟩
  | 27 => ⟨S136x128, .f32⟩
  | 28 => ⟨S24x128, .f32⟩
  | 29 => ⟨S3072, .f32⟩
  | 30 => ⟨S1x4x768, .f32⟩
  | 31 => ⟨S1x128, .f32⟩
  | 32 => ⟨S128, .f32⟩
  | 33 => ⟨S8, .f32⟩
  | 34 => ⟨S1x8, .f32⟩
  | 35 => ⟨S1x128, .f32⟩
  | 36 => ⟨S128, .f32⟩
  | 37 => ⟨S8, .f32⟩
  | 38 => ⟨S1x8, .f32⟩
  | 39 => ⟨S1x128, .f32⟩
  | 40 => ⟨S128, .f32⟩
  | 41 => ⟨S1x128, .f32⟩
  | 42 => ⟨S8x128, .f32⟩
  | 43 => ⟨S1024, .f32⟩
  | 44 => ⟨S1x1024, .f32⟩
  | 45 => ⟨S16x128, .f32⟩
  | 46 => ⟨S2048, .f32⟩
  | 47 => ⟨S1x2048, .f32⟩
  | 48 => ⟨S16x128, .f32⟩
  | 49 => ⟨S2048, .f32⟩
  | 50 => ⟨S1x2048, .f32⟩
  | 51 => ⟨S16x128, .f32⟩
  | 52 => ⟨S2048, .f32⟩
  | 53 => ⟨S1x2048, .f32⟩
  | 54 => ⟨S16x128, .f32⟩
  | 55 => ⟨S2048, .f32⟩
  | 56 => ⟨S1x2048, .f32⟩
  | 57 => ⟨S16x128, .f32⟩
  | 58 => ⟨S2048, .f32⟩
  | 59 => ⟨S1x2048, .f32⟩
  | 60 => ⟨S16x128, .f32⟩
  | 61 => ⟨S2048, .f32⟩
  | 62 => ⟨S1x2048, .f32⟩
  | 63 => ⟨S24x128, .f32⟩
  | 64 => ⟨S3072, .f32⟩
  | 65 => ⟨S1x4x768, .f32⟩
  | 66 => ⟨S1x128, .f32⟩
  | 67 => ⟨S128, .f32⟩
  | 68 => ⟨S8, .f32⟩
  | 69 => ⟨S1x8, .f32⟩
  | 70 => ⟨S1x128, .f32⟩
  | 71 => ⟨S128, .f32⟩
  | 72 => ⟨S8, .f32⟩
  | 73 => ⟨S1x8, .f32⟩
  | 74 => ⟨S1x128, .f32⟩
  | 75 => ⟨S128, .f32⟩
  | 76 => ⟨S1x128, .f32⟩
  | 77 => ⟨S8x128, .f32⟩
  | 78 => ⟨S1024, .f32⟩
  | 79 => ⟨S1x1024, .f32⟩
  | 80 => ⟨S16x128, .f32⟩
  | 81 => ⟨S2048, .f32⟩
  | 82 => ⟨S1x2048, .f32⟩
  | 83 => ⟨S16x128, .f32⟩
  | 84 => ⟨S2048, .f32⟩
  | 85 => ⟨S1x2048, .f32⟩
  | 86 => ⟨S16x128, .f32⟩
  | 87 => ⟨S2048, .f32⟩
  | 88 => ⟨S1x2048, .f32⟩
  | 89 => ⟨S16x128, .f32⟩
  | 90 => ⟨S2048, .f32⟩
  | 91 => ⟨S1x2048, .f32⟩
  | 92 => ⟨S16x128, .f32⟩
  | 93 => ⟨S2048, .f32⟩
  | 94 => ⟨S1x2048, .f32⟩
  | 95 => ⟨S16x128, .f32⟩
  | 96 => ⟨S2048, .f32⟩
  | 97 => ⟨S1x2048, .f32⟩
  | 98 => ⟨S24x128, .f32⟩
  | 99 => ⟨S3072, .f32⟩
  | 100 => ⟨S1x4x768, .f32⟩
  | 101 => ⟨S1x128, .f32⟩
  | 102 => ⟨S128, .f32⟩
  | 103 => ⟨S8, .f32⟩
  | 104 => ⟨S1x8, .f32⟩
  | 105 => ⟨S1x128, .f32⟩
  | 106 => ⟨S128, .f32⟩
  | 107 => ⟨S8, .f32⟩
  | 108 => ⟨S1x8, .f32⟩
  | 109 => ⟨S1x128, .f32⟩
  | 110 => ⟨S128, .f32⟩
  | 111 => ⟨S1x128, .f32⟩
  | 112 => ⟨S8x128, .f32⟩
  | 113 => ⟨S1024, .f32⟩
  | 114 => ⟨S1x1024, .f32⟩
  | 115 => ⟨S16x128, .f32⟩
  | 116 => ⟨S2048, .f32⟩
  | 117 => ⟨S1x2048, .f32⟩
  | 118 => ⟨S16x128, .f32⟩
  | 119 => ⟨S2048, .f32⟩
  | 120 => ⟨S1x2048, .f32⟩
  | 121 => ⟨S16x128, .f32⟩
  | 122 => ⟨S2048, .f32⟩
  | 123 => ⟨S1x2048, .f32⟩
  | 124 => ⟨S16x128, .f32⟩
  | 125 => ⟨S2048, .f32⟩
  | 126 => ⟨S1x2048, .f32⟩
  | 127 => ⟨S16x128, .f32⟩
  | _ => ⟨S1x4x768, .f32⟩

abbrev hbmTy0_3 (i : Nat) : BufTy := match i % 128 with
  | 0 => ⟨S2048, .f32⟩
  | 1 => ⟨S1x2048, .f32⟩
  | 2 => ⟨S16x128, .f32⟩
  | 3 => ⟨S2048, .f32⟩
  | 4 => ⟨S1x2048, .f32⟩
  | 5 => ⟨S24x128, .f32⟩
  | 6 => ⟨S3072, .f32⟩
  | 7 => ⟨S1x4x768, .f32⟩
  | 8 => ⟨S1x128, .f32⟩
  | 9 => ⟨S128, .f32⟩
  | 10 => ⟨S8, .f32⟩
  | 11 => ⟨S1x8, .f32⟩
  | 12 => ⟨S1x128, .f32⟩
  | 13 => ⟨S128, .f32⟩
  | 14 => ⟨S8, .f32⟩
  | 15 => ⟨S1x8, .f32⟩
  | 16 => ⟨S1x128, .f32⟩
  | 17 => ⟨S128, .f32⟩
  | 18 => ⟨S1x128, .f32⟩
  | 19 => ⟨S8x128, .f32⟩
  | 20 => ⟨S1024, .f32⟩
  | 21 => ⟨S1x1024, .f32⟩
  | 22 => ⟨S16x128, .f32⟩
  | 23 => ⟨S2048, .f32⟩
  | 24 => ⟨S1x2048, .f32⟩
  | 25 => ⟨S16x128, .f32⟩
  | 26 => ⟨S2048, .f32⟩
  | 27 => ⟨S1x2048, .f32⟩
  | 28 => ⟨S16x128, .f32⟩
  | 29 => ⟨S2048, .f32⟩
  | 30 => ⟨S1x2048, .f32⟩
  | 31 => ⟨S16x128, .f32⟩
  | 32 => ⟨S2048, .f32⟩
  | 33 => ⟨S1x2048, .f32⟩
  | 34 => ⟨S16x128, .f32⟩
  | 35 => ⟨S2048, .f32⟩
  | 36 => ⟨S1x2048, .f32⟩
  | 37 => ⟨S16x128, .f32⟩
  | 38 => ⟨S2048, .f32⟩
  | 39 => ⟨S1x2048, .f32⟩
  | 40 => ⟨S24x128, .f32⟩
  | 41 => ⟨S3072, .f32⟩
  | 42 => ⟨S1x4x768, .f32⟩
  | 43 => ⟨S1x128, .f32⟩
  | 44 => ⟨S128, .f32⟩
  | 45 => ⟨S8, .f32⟩
  | 46 => ⟨S1x8, .f32⟩
  | 47 => ⟨S1x128, .f32⟩
  | 48 => ⟨S128, .f32⟩
  | 49 => ⟨S8, .f32⟩
  | 50 => ⟨S1x8, .f32⟩
  | 51 => ⟨S1x128, .f32⟩
  | 52 => ⟨S128, .f32⟩
  | 53 => ⟨S1x128, .f32⟩
  | 54 => ⟨S8x128, .f32⟩
  | 55 => ⟨S1024, .f32⟩
  | 56 => ⟨S1x1024, .f32⟩
  | 57 => ⟨S16x128, .f32⟩
  | 58 => ⟨S2048, .f32⟩
  | 59 => ⟨S1x2048, .f32⟩
  | 60 => ⟨S16x128, .f32⟩
  | 61 => ⟨S2048, .f32⟩
  | 62 => ⟨S1x2048, .f32⟩
  | 63 => ⟨S16x128, .f32⟩
  | 64 => ⟨S2048, .f32⟩
  | 65 => ⟨S1x2048, .f32⟩
  | 66 => ⟨S16x128, .f32⟩
  | 67 => ⟨S2048, .f32⟩
  | 68 => ⟨S1x2048, .f32⟩
  | 69 => ⟨S16x128, .f32⟩
  | 70 => ⟨S2048, .f32⟩
  | 71 => ⟨S1x2048, .f32⟩
  | 72 => ⟨S16x128, .f32⟩
  | 73 => ⟨S2048, .f32⟩
  | 74 => ⟨S1x2048, .f32⟩
  | 75 => ⟨S24x128, .f32⟩
  | 76 => ⟨S3072, .f32⟩
  | 77 => ⟨S1x4x768, .f32⟩
  | 78 => ⟨S1x128, .f32⟩
  | 79 => ⟨S128, .f32⟩
  | 80 => ⟨S8, .f32⟩
  | 81 => ⟨S1x8, .f32⟩
  | 82 => ⟨S1x128, .f32⟩
  | 83 => ⟨S128, .f32⟩
  | 84 => ⟨S8, .f32⟩
  | 85 => ⟨S1x8, .f32⟩
  | 86 => ⟨S1x128, .f32⟩
  | 87 => ⟨S128, .f32⟩
  | 88 => ⟨S1x128, .f32⟩
  | 89 => ⟨S8x128, .f32⟩
  | 90 => ⟨S1024, .f32⟩
  | 91 => ⟨S1x1024, .f32⟩
  | 92 => ⟨S16x128, .f32⟩
  | 93 => ⟨S2048, .f32⟩
  | 94 => ⟨S1x2048, .f32⟩
  | 95 => ⟨S16x128, .f32⟩
  | 96 => ⟨S2048, .f32⟩
  | 97 => ⟨S1x2048, .f32⟩
  | 98 => ⟨S16x128, .f32⟩
  | 99 => ⟨S2048, .f32⟩
  | 100 => ⟨S1x2048, .f32⟩
  | 101 => ⟨S16x128, .f32⟩
  | 102 => ⟨S2048, .f32⟩
  | 103 => ⟨S1x2048, .f32⟩
  | 104 => ⟨S16x128, .f32⟩
  | 105 => ⟨S2048, .f32⟩
  | 106 => ⟨S1x2048, .f32⟩
  | 107 => ⟨S16x128, .f32⟩
  | 108 => ⟨S2048, .f32⟩
  | 109 => ⟨S1x2048, .f32⟩
  | 110 => ⟨S24x128, .f32⟩
  | 111 => ⟨S3072, .f32⟩
  | 112 => ⟨S1x4x768, .f32⟩
  | 113 => ⟨S1x128, .f32⟩
  | 114 => ⟨S128, .f32⟩
  | 115 => ⟨S8, .f32⟩
  | 116 => ⟨S1x8, .f32⟩
  | 117 => ⟨S1x128, .f32⟩
  | 118 => ⟨S128, .f32⟩
  | 119 => ⟨S8, .f32⟩
  | 120 => ⟨S1x8, .f32⟩
  | 121 => ⟨S1x128, .f32⟩
  | 122 => ⟨S128, .f32⟩
  | 123 => ⟨S1x128, .f32⟩
  | 124 => ⟨S8x128, .f32⟩
  | 125 => ⟨S1024, .f32⟩
  | 126 => ⟨S1x1024, .f32⟩
  | 127 => ⟨S16x128, .f32⟩
  | _ => ⟨S1x4x768, .f32⟩

abbrev hbmTy0_4 (i : Nat) : BufTy := match i % 128 with
  | 0 => ⟨S2048, .f32⟩
  | 1 => ⟨S1x2048, .f32⟩
  | 2 => ⟨S16x128, .f32⟩
  | 3 => ⟨S2048, .f32⟩
  | 4 => ⟨S1x2048, .f32⟩
  | 5 => ⟨S16x128, .f32⟩
  | 6 => ⟨S2048, .f32⟩
  | 7 => ⟨S1x2048, .f32⟩
  | 8 => ⟨S16x128, .f32⟩
  | 9 => ⟨S2048, .f32⟩
  | 10 => ⟨S1x2048, .f32⟩
  | 11 => ⟨S16x128, .f32⟩
  | 12 => ⟨S2048, .f32⟩
  | 13 => ⟨S1x2048, .f32⟩
  | 14 => ⟨S16x128, .f32⟩
  | 15 => ⟨S2048, .f32⟩
  | 16 => ⟨S1x2048, .f32⟩
  | 17 => ⟨S24x128, .f32⟩
  | 18 => ⟨S3072, .f32⟩
  | 19 => ⟨S1x4x768, .f32⟩
  | 20 => ⟨S1x128, .f32⟩
  | 21 => ⟨S128, .f32⟩
  | 22 => ⟨S8, .f32⟩
  | 23 => ⟨S1x8, .f32⟩
  | 24 => ⟨S1x128, .f32⟩
  | 25 => ⟨S128, .f32⟩
  | 26 => ⟨S8, .f32⟩
  | 27 => ⟨S1x8, .f32⟩
  | 28 => ⟨S1x128, .f32⟩
  | 29 => ⟨S128, .f32⟩
  | 30 => ⟨S1x128, .f32⟩
  | 31 => ⟨S8x128, .f32⟩
  | 32 => ⟨S1024, .f32⟩
  | 33 => ⟨S1x1024, .f32⟩
  | 34 => ⟨S16x128, .f32⟩
  | 35 => ⟨S2048, .f32⟩
  | 36 => ⟨S1x2048, .f32⟩
  | 37 => ⟨S16x128, .f32⟩
  | 38 => ⟨S2048, .f32⟩
  | 39 => ⟨S1x2048, .f32⟩
  | 40 => ⟨S16x128, .f32⟩
  | 41 => ⟨S2048, .f32⟩
  | 42 => ⟨S1x2048, .f32⟩
  | 43 => ⟨S16x128, .f32⟩
  | 44 => ⟨S2048, .f32⟩
  | 45 => ⟨S1x2048, .f32⟩
  | 46 => ⟨S16x128, .f32⟩
  | 47 => ⟨S2048, .f32⟩
  | 48 => ⟨S1x2048, .f32⟩
  | 49 => ⟨S16x128, .f32⟩
  | 50 => ⟨S2048, .f32⟩
  | 51 => ⟨S1x2048, .f32⟩
  | 52 => ⟨S24x128, .f32⟩
  | 53 => ⟨S3072, .f32⟩
  | 54 => ⟨S1x4x768, .f32⟩
  | 55 => ⟨S1x128, .f32⟩
  | 56 => ⟨S128, .f32⟩
  | 57 => ⟨S8, .f32⟩
  | 58 => ⟨S1x8, .f32⟩
  | 59 => ⟨S1x128, .f32⟩
  | 60 => ⟨S128, .f32⟩
  | 61 => ⟨S8, .f32⟩
  | 62 => ⟨S1x8, .f32⟩
  | 63 => ⟨S1x128, .f32⟩
  | 64 => ⟨S128, .f32⟩
  | 65 => ⟨S1x128, .f32⟩
  | 66 => ⟨S8x128, .f32⟩
  | 67 => ⟨S1024, .f32⟩
  | 68 => ⟨S1x1024, .f32⟩
  | 69 => ⟨S16x128, .f32⟩
  | 70 => ⟨S2048, .f32⟩
  | 71 => ⟨S1x2048, .f32⟩
  | 72 => ⟨S16x128, .f32⟩
  | 73 => ⟨S2048, .f32⟩
  | 74 => ⟨S1x2048, .f32⟩
  | 75 => ⟨S16x128, .f32⟩
  | 76 => ⟨S2048, .f32⟩
  | 77 => ⟨S1x2048, .f32⟩
  | 78 => ⟨S16x128, .f32⟩
  | 79 => ⟨S2048, .f32⟩
  | 80 => ⟨S1x2048, .f32⟩
  | 81 => ⟨S16x128, .f32⟩
  | 82 => ⟨S2048, .f32⟩
  | 83 => ⟨S1x2048, .f32⟩
  | 84 => ⟨S16x128, .f32⟩
  | 85 => ⟨S2048, .f32⟩
  | 86 => ⟨S1x2048, .f32⟩
  | _ => ⟨S1x4x768, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1x4x768, .f32⟩

abbrev bufTy : (tb : Table) → Fin (tcTables nBuf tb) → BufTy
  | .hbm, ⟨i, _⟩ => hbmTy i
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | _, _ => ⟨S1x4x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_v0 : Ref sig .tc := ⟨.hbm, 44, rfl⟩
abbrev main_c : Ref sig .tc := ⟨.hbm, 45, rfl⟩
abbrev main_call0_v0 : Ref sig .tc := ⟨.hbm, 46, rfl⟩
abbrev main_v1 : Ref sig .tc := ⟨.hbm, 47, rfl⟩
abbrev main_v2 : Ref sig .tc := ⟨.hbm, 48, rfl⟩
abbrev main_v3 : Ref sig .tc := ⟨.hbm, 49, rfl⟩
abbrev main_c_0 : Ref sig .tc := ⟨.hbm, 50, rfl⟩
abbrev main_call1_v0 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev main_c_1 : Ref sig .tc := ⟨.hbm, 55, rfl⟩
abbrev main_call2_v0 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_c_2 : Ref sig .tc := ⟨.hbm, 60, rfl⟩
abbrev main_call3_v0 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_c_3 : Ref sig .tc := ⟨.hbm, 65, rfl⟩
abbrev main_call4_v0 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_c_4 : Ref sig .tc := ⟨.hbm, 70, rfl⟩
abbrev main_call5_v0 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_c_5 : Ref sig .tc := ⟨.hbm, 75, rfl⟩
abbrev main_call6_v0 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_c_6 : Ref sig .tc := ⟨.hbm, 80, rfl⟩
abbrev main_call7_v0 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_c_7 : Ref sig .tc := ⟨.hbm, 85, rfl⟩
abbrev main_call8_v0 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_c_8 : Ref sig .tc := ⟨.hbm, 90, rfl⟩
abbrev main_call9_v0 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_c_9 : Ref sig .tc := ⟨.hbm, 95, rfl⟩
abbrev main_call10_v0 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_c_10 : Ref sig .tc := ⟨.hbm, 100, rfl⟩
abbrev main_call11_v0 : Ref sig .tc := ⟨.hbm, 101, rfl⟩
abbrev main_v34 : Ref sig .tc := ⟨.hbm, 102, rfl⟩
abbrev main_v35 : Ref sig .tc := ⟨.hbm, 103, rfl⟩
abbrev main_c_11 : Ref sig .tc := ⟨.hbm, 104, rfl⟩
abbrev main_call12_v0 : Ref sig .tc := ⟨.hbm, 105, rfl⟩
abbrev main_v36 : Ref sig .tc := ⟨.hbm, 106, rfl⟩
abbrev main_v37 : Ref sig .tc := ⟨.hbm, 107, rfl⟩
abbrev main_v38 : Ref sig .tc := ⟨.hbm, 108, rfl⟩
abbrev main_c_12 : Ref sig .tc := ⟨.hbm, 109, rfl⟩
abbrev main_call13_v0 : Ref sig .tc := ⟨.hbm, 110, rfl⟩
abbrev main_v39 : Ref sig .tc := ⟨.hbm, 111, rfl⟩
abbrev main_v40 : Ref sig .tc := ⟨.hbm, 112, rfl⟩
abbrev main_v41 : Ref sig .tc := ⟨.hbm, 113, rfl⟩
abbrev main_c_13 : Ref sig .tc := ⟨.hbm, 114, rfl⟩
abbrev main_call14_v0 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_c_14 : Ref sig .tc := ⟨.hbm, 119, rfl⟩
abbrev main_call15_v0 : Ref sig .tc := ⟨.hbm, 120, rfl⟩
abbrev main_v45 : Ref sig .tc := ⟨.hbm, 121, rfl⟩
abbrev main_v46 : Ref sig .tc := ⟨.hbm, 122, rfl⟩
abbrev main_v47 : Ref sig .tc := ⟨.hbm, 123, rfl⟩
abbrev main_c_15 : Ref sig .tc := ⟨.hbm, 124, rfl⟩
abbrev main_call16_v0 : Ref sig .tc := ⟨.hbm, 125, rfl⟩
abbrev main_v48 : Ref sig .tc := ⟨.hbm, 126, rfl⟩
abbrev main_v49 : Ref sig .tc := ⟨.hbm, 127, rfl⟩
abbrev main_v50 : Ref sig .tc := ⟨.hbm, 128, rfl⟩
abbrev main_c_16 : Ref sig .tc := ⟨.hbm, 129, rfl⟩
abbrev main_call17_v0 : Ref sig .tc := ⟨.hbm, 130, rfl⟩
abbrev main_v51 : Ref sig .tc := ⟨.hbm, 131, rfl⟩
abbrev main_v52 : Ref sig .tc := ⟨.hbm, 132, rfl⟩
abbrev main_v53 : Ref sig .tc := ⟨.hbm, 133, rfl⟩
abbrev main_c_17 : Ref sig .tc := ⟨.hbm, 134, rfl⟩
abbrev main_call18_v0 : Ref sig .tc := ⟨.hbm, 135, rfl⟩
abbrev main_v54 : Ref sig .tc := ⟨.hbm, 136, rfl⟩
abbrev main_v55 : Ref sig .tc := ⟨.hbm, 137, rfl⟩
abbrev main_v56 : Ref sig .tc := ⟨.hbm, 138, rfl⟩
abbrev main_c_18 : Ref sig .tc := ⟨.hbm, 139, rfl⟩
abbrev main_call19_v0 : Ref sig .tc := ⟨.hbm, 140, rfl⟩
abbrev main_v57 : Ref sig .tc := ⟨.hbm, 141, rfl⟩
abbrev main_v58 : Ref sig .tc := ⟨.hbm, 142, rfl⟩
abbrev main_v59 : Ref sig .tc := ⟨.hbm, 143, rfl⟩
abbrev main_c_19 : Ref sig .tc := ⟨.hbm, 144, rfl⟩
abbrev main_call20_v0 : Ref sig .tc := ⟨.hbm, 145, rfl⟩
abbrev main_v60 : Ref sig .tc := ⟨.hbm, 146, rfl⟩
abbrev main_v61 : Ref sig .tc := ⟨.hbm, 147, rfl⟩
abbrev main_v62 : Ref sig .tc := ⟨.hbm, 148, rfl⟩
abbrev main_c_20 : Ref sig .tc := ⟨.hbm, 149, rfl⟩
abbrev main_call21_v0 : Ref sig .tc := ⟨.hbm, 150, rfl⟩
abbrev main_v63 : Ref sig .tc := ⟨.hbm, 151, rfl⟩
abbrev main_v64 : Ref sig .tc := ⟨.hbm, 152, rfl⟩
abbrev main_v65 : Ref sig .tc := ⟨.hbm, 153, rfl⟩
abbrev main_c_21 : Ref sig .tc := ⟨.hbm, 154, rfl⟩
abbrev main_call22_v0 : Ref sig .tc := ⟨.hbm, 155, rfl⟩
abbrev main_v66 : Ref sig .tc := ⟨.hbm, 156, rfl⟩
abbrev main_v67 : Ref sig .tc := ⟨.hbm, 157, rfl⟩
abbrev main_v68 : Ref sig .tc := ⟨.hbm, 158, rfl⟩
abbrev main_c_22 : Ref sig .tc := ⟨.hbm, 159, rfl⟩
abbrev main_call23_v0 : Ref sig .tc := ⟨.hbm, 160, rfl⟩
abbrev main_v69 : Ref sig .tc := ⟨.hbm, 161, rfl⟩
abbrev main_v70 : Ref sig .tc := ⟨.hbm, 162, rfl⟩
abbrev main_c_23 : Ref sig .tc := ⟨.hbm, 163, rfl⟩
abbrev main_call24_v0 : Ref sig .tc := ⟨.hbm, 164, rfl⟩
abbrev main_v71 : Ref sig .tc := ⟨.hbm, 165, rfl⟩
abbrev main_v72 : Ref sig .tc := ⟨.hbm, 166, rfl⟩
abbrev main_v73 : Ref sig .tc := ⟨.hbm, 167, rfl⟩
abbrev main_c_24 : Ref sig .tc := ⟨.hbm, 168, rfl⟩
abbrev main_call25_v0 : Ref sig .tc := ⟨.hbm, 169, rfl⟩
abbrev main_v74 : Ref sig .tc := ⟨.hbm, 170, rfl⟩
abbrev main_v75 : Ref sig .tc := ⟨.hbm, 171, rfl⟩
abbrev main_v76 : Ref sig .tc := ⟨.hbm, 172, rfl⟩
abbrev main_c_25 : Ref sig .tc := ⟨.hbm, 173, rfl⟩
abbrev main_call26_v0 : Ref sig .tc := ⟨.hbm, 174, rfl⟩
abbrev main_v77 : Ref sig .tc := ⟨.hbm, 175, rfl⟩
abbrev main_v78 : Ref sig .tc := ⟨.hbm, 176, rfl⟩
abbrev main_v79 : Ref sig .tc := ⟨.hbm, 177, rfl⟩
abbrev main_c_26 : Ref sig .tc := ⟨.hbm, 178, rfl⟩
abbrev main_call27_v0 : Ref sig .tc := ⟨.hbm, 179, rfl⟩
abbrev main_v80 : Ref sig .tc := ⟨.hbm, 180, rfl⟩
abbrev main_v81 : Ref sig .tc := ⟨.hbm, 181, rfl⟩
abbrev main_v82 : Ref sig .tc := ⟨.hbm, 182, rfl⟩
abbrev main_c_27 : Ref sig .tc := ⟨.hbm, 183, rfl⟩
abbrev main_call28_v0 : Ref sig .tc := ⟨.hbm, 184, rfl⟩
abbrev main_v83 : Ref sig .tc := ⟨.hbm, 185, rfl⟩
abbrev main_v84 : Ref sig .tc := ⟨.hbm, 186, rfl⟩
abbrev main_v85 : Ref sig .tc := ⟨.hbm, 187, rfl⟩
abbrev main_c_28 : Ref sig .tc := ⟨.hbm, 188, rfl⟩
abbrev main_call29_v0 : Ref sig .tc := ⟨.hbm, 189, rfl⟩
abbrev main_v86 : Ref sig .tc := ⟨.hbm, 190, rfl⟩
abbrev main_v87 : Ref sig .tc := ⟨.hbm, 191, rfl⟩
abbrev main_v88 : Ref sig .tc := ⟨.hbm, 192, rfl⟩
abbrev main_c_29 : Ref sig .tc := ⟨.hbm, 193, rfl⟩
abbrev main_call30_v0 : Ref sig .tc := ⟨.hbm, 194, rfl⟩
abbrev main_v89 : Ref sig .tc := ⟨.hbm, 195, rfl⟩
abbrev main_v90 : Ref sig .tc := ⟨.hbm, 196, rfl⟩
abbrev main_v91 : Ref sig .tc := ⟨.hbm, 197, rfl⟩
abbrev main_c_30 : Ref sig .tc := ⟨.hbm, 198, rfl⟩
abbrev main_call31_v0 : Ref sig .tc := ⟨.hbm, 199, rfl⟩
abbrev main_v92 : Ref sig .tc := ⟨.hbm, 200, rfl⟩
abbrev main_v93 : Ref sig .tc := ⟨.hbm, 201, rfl⟩
abbrev main_v94 : Ref sig .tc := ⟨.hbm, 202, rfl⟩
abbrev main_c_31 : Ref sig .tc := ⟨.hbm, 203, rfl⟩
abbrev main_call32_v0 : Ref sig .tc := ⟨.hbm, 204, rfl⟩
abbrev main_v95 : Ref sig .tc := ⟨.hbm, 205, rfl⟩
abbrev main_v96 : Ref sig .tc := ⟨.hbm, 206, rfl⟩
abbrev main_v97 : Ref sig .tc := ⟨.hbm, 207, rfl⟩
abbrev main_c_32 : Ref sig .tc := ⟨.hbm, 208, rfl⟩
abbrev main_call33_v0 : Ref sig .tc := ⟨.hbm, 209, rfl⟩
abbrev main_v98 : Ref sig .tc := ⟨.hbm, 210, rfl⟩
abbrev main_v99 : Ref sig .tc := ⟨.hbm, 211, rfl⟩
abbrev main_v100 : Ref sig .tc := ⟨.hbm, 212, rfl⟩
abbrev main_c_33 : Ref sig .tc := ⟨.hbm, 213, rfl⟩
abbrev main_call34_v0 : Ref sig .tc := ⟨.hbm, 214, rfl⟩
abbrev main_v101 : Ref sig .tc := ⟨.hbm, 215, rfl⟩
abbrev main_v102 : Ref sig .tc := ⟨.hbm, 216, rfl⟩
abbrev main_v103 : Ref sig .tc := ⟨.hbm, 217, rfl⟩
abbrev main_c_34 : Ref sig .tc := ⟨.hbm, 218, rfl⟩
abbrev main_call35_v0 : Ref sig .tc := ⟨.hbm, 219, rfl⟩
abbrev main_v104 : Ref sig .tc := ⟨.hbm, 220, rfl⟩
abbrev main_v105 : Ref sig .tc := ⟨.hbm, 221, rfl⟩
abbrev main_c_35 : Ref sig .tc := ⟨.hbm, 222, rfl⟩
abbrev main_call36_v0 : Ref sig .tc := ⟨.hbm, 223, rfl⟩
abbrev main_v106 : Ref sig .tc := ⟨.hbm, 224, rfl⟩
abbrev main_v107 : Ref sig .tc := ⟨.hbm, 225, rfl⟩
abbrev main_v108 : Ref sig .tc := ⟨.hbm, 226, rfl⟩
abbrev main_c_36 : Ref sig .tc := ⟨.hbm, 227, rfl⟩
abbrev main_call37_v0 : Ref sig .tc := ⟨.hbm, 228, rfl⟩
abbrev main_v109 : Ref sig .tc := ⟨.hbm, 229, rfl⟩
abbrev main_v110 : Ref sig .tc := ⟨.hbm, 230, rfl⟩
abbrev main_v111 : Ref sig .tc := ⟨.hbm, 231, rfl⟩
abbrev main_c_37 : Ref sig .tc := ⟨.hbm, 232, rfl⟩
abbrev main_call38_v0 : Ref sig .tc := ⟨.hbm, 233, rfl⟩
abbrev main_v112 : Ref sig .tc := ⟨.hbm, 234, rfl⟩
abbrev main_v113 : Ref sig .tc := ⟨.hbm, 235, rfl⟩
abbrev main_v114 : Ref sig .tc := ⟨.hbm, 236, rfl⟩
abbrev main_c_38 : Ref sig .tc := ⟨.hbm, 237, rfl⟩
abbrev main_call39_v0 : Ref sig .tc := ⟨.hbm, 238, rfl⟩
abbrev main_v115 : Ref sig .tc := ⟨.hbm, 239, rfl⟩
abbrev main_v116 : Ref sig .tc := ⟨.hbm, 240, rfl⟩
abbrev main_v117 : Ref sig .tc := ⟨.hbm, 241, rfl⟩
abbrev main_c_39 : Ref sig .tc := ⟨.hbm, 242, rfl⟩
abbrev main_call40_v0 : Ref sig .tc := ⟨.hbm, 243, rfl⟩
abbrev main_v118 : Ref sig .tc := ⟨.hbm, 244, rfl⟩
abbrev main_v119 : Ref sig .tc := ⟨.hbm, 245, rfl⟩
abbrev main_v120 : Ref sig .tc := ⟨.hbm, 246, rfl⟩
abbrev main_c_40 : Ref sig .tc := ⟨.hbm, 247, rfl⟩
abbrev main_call41_v0 : Ref sig .tc := ⟨.hbm, 248, rfl⟩
abbrev main_v121 : Ref sig .tc := ⟨.hbm, 249, rfl⟩
abbrev main_v122 : Ref sig .tc := ⟨.hbm, 250, rfl⟩
abbrev main_v123 : Ref sig .tc := ⟨.hbm, 251, rfl⟩
abbrev main_c_41 : Ref sig .tc := ⟨.hbm, 252, rfl⟩
abbrev main_call42_v0 : Ref sig .tc := ⟨.hbm, 253, rfl⟩
abbrev main_v124 : Ref sig .tc := ⟨.hbm, 254, rfl⟩
abbrev main_v125 : Ref sig .tc := ⟨.hbm, 255, rfl⟩
abbrev main_v126 : Ref sig .tc := ⟨.hbm, 256, rfl⟩
abbrev main_c_42 : Ref sig .tc := ⟨.hbm, 257, rfl⟩
abbrev main_call43_v0 : Ref sig .tc := ⟨.hbm, 258, rfl⟩
abbrev main_v127 : Ref sig .tc := ⟨.hbm, 259, rfl⟩
abbrev main_v128 : Ref sig .tc := ⟨.hbm, 260, rfl⟩
abbrev main_v129 : Ref sig .tc := ⟨.hbm, 261, rfl⟩
abbrev main_c_43 : Ref sig .tc := ⟨.hbm, 262, rfl⟩
abbrev main_call44_v0 : Ref sig .tc := ⟨.hbm, 263, rfl⟩
abbrev main_v130 : Ref sig .tc := ⟨.hbm, 264, rfl⟩
abbrev main_v131 : Ref sig .tc := ⟨.hbm, 265, rfl⟩
abbrev main_v132 : Ref sig .tc := ⟨.hbm, 266, rfl⟩
abbrev main_c_44 : Ref sig .tc := ⟨.hbm, 267, rfl⟩
abbrev main_call45_v0 : Ref sig .tc := ⟨.hbm, 268, rfl⟩
abbrev main_v133 : Ref sig .tc := ⟨.hbm, 269, rfl⟩
abbrev main_v134 : Ref sig .tc := ⟨.hbm, 270, rfl⟩
abbrev main_v135 : Ref sig .tc := ⟨.hbm, 271, rfl⟩
abbrev main_c_45 : Ref sig .tc := ⟨.hbm, 272, rfl⟩
abbrev main_call46_v0 : Ref sig .tc := ⟨.hbm, 273, rfl⟩
abbrev main_v136 : Ref sig .tc := ⟨.hbm, 274, rfl⟩
abbrev main_v137 : Ref sig .tc := ⟨.hbm, 275, rfl⟩
abbrev main_v138 : Ref sig .tc := ⟨.hbm, 276, rfl⟩
abbrev main_c_46 : Ref sig .tc := ⟨.hbm, 277, rfl⟩
abbrev main_call47_v0 : Ref sig .tc := ⟨.hbm, 278, rfl⟩
abbrev main_v139 : Ref sig .tc := ⟨.hbm, 279, rfl⟩
abbrev main_v140_0 : Ref sig .tc := ⟨.hbm, 280, rfl⟩
abbrev main_v140_1 : Ref sig .tc := ⟨.hbm, 281, rfl⟩
abbrev main_v140_2 : Ref sig .tc := ⟨.hbm, 282, rfl⟩
abbrev main_v140_3 : Ref sig .tc := ⟨.hbm, 283, rfl⟩
abbrev main_v141 : Ref sig .tc := ⟨.hbm, 284, rfl⟩
abbrev main_v142 : Ref sig .tc := ⟨.hbm, 285, rfl⟩
abbrev main_v143 : Ref sig .tc := ⟨.hbm, 286, rfl⟩
abbrev main_v144 : Ref sig .tc := ⟨.hbm, 287, rfl⟩
abbrev main_v145 : Ref sig .tc := ⟨.hbm, 288, rfl⟩
abbrev main_v146 : Ref sig .tc := ⟨.hbm, 289, rfl⟩
abbrev main_v147 : Ref sig .tc := ⟨.hbm, 290, rfl⟩
abbrev main_v148 : Ref sig .tc := ⟨.hbm, 291, rfl⟩
abbrev main_v149 : Ref sig .tc := ⟨.hbm, 292, rfl⟩
abbrev main_v150 : Ref sig .tc := ⟨.hbm, 293, rfl⟩
abbrev main_v151 : Ref sig .tc := ⟨.hbm, 294, rfl⟩
abbrev main_v152 : Ref sig .tc := ⟨.hbm, 295, rfl⟩
abbrev main_v153 : Ref sig .tc := ⟨.hbm, 296, rfl⟩
abbrev main_v154 : Ref sig .tc := ⟨.hbm, 297, rfl⟩
abbrev main_v155 : Ref sig .tc := ⟨.hbm, 298, rfl⟩
abbrev main_v156 : Ref sig .tc := ⟨.hbm, 299, rfl⟩
abbrev main_v157 : Ref sig .tc := ⟨.hbm, 300, rfl⟩
abbrev main_v158 : Ref sig .tc := ⟨.hbm, 301, rfl⟩
abbrev main_v159 : Ref sig .tc := ⟨.hbm, 302, rfl⟩
abbrev main_v160 : Ref sig .tc := ⟨.hbm, 303, rfl⟩
abbrev main_v161 : Ref sig .tc := ⟨.hbm, 304, rfl⟩
abbrev main_v162 : Ref sig .tc := ⟨.hbm, 305, rfl⟩
abbrev main_v163 : Ref sig .tc := ⟨.hbm, 306, rfl⟩
abbrev main_v164 : Ref sig .tc := ⟨.hbm, 307, rfl⟩
abbrev main_v165 : Ref sig .tc := ⟨.hbm, 308, rfl⟩
abbrev main_v166 : Ref sig .tc := ⟨.hbm, 309, rfl⟩
abbrev main_v167 : Ref sig .tc := ⟨.hbm, 310, rfl⟩
abbrev main_v168 : Ref sig .tc := ⟨.hbm, 311, rfl⟩
abbrev main_v169 : Ref sig .tc := ⟨.hbm, 312, rfl⟩
abbrev main_v170 : Ref sig .tc := ⟨.hbm, 313, rfl⟩
abbrev main_v171 : Ref sig .tc := ⟨.hbm, 314, rfl⟩
abbrev main_v172 : Ref sig .tc := ⟨.hbm, 315, rfl⟩
abbrev main_v173 : Ref sig .tc := ⟨.hbm, 316, rfl⟩
abbrev main_v174 : Ref sig .tc := ⟨.hbm, 317, rfl⟩
abbrev main_v175 : Ref sig .tc := ⟨.hbm, 318, rfl⟩
abbrev main_v176 : Ref sig .tc := ⟨.hbm, 319, rfl⟩
abbrev main_v177 : Ref sig .tc := ⟨.hbm, 320, rfl⟩
abbrev main_v178 : Ref sig .tc := ⟨.hbm, 321, rfl⟩
abbrev main_v179 : Ref sig .tc := ⟨.hbm, 322, rfl⟩
abbrev main_v180 : Ref sig .tc := ⟨.hbm, 323, rfl⟩
abbrev main_v181 : Ref sig .tc := ⟨.hbm, 324, rfl⟩
abbrev main_v182 : Ref sig .tc := ⟨.hbm, 325, rfl⟩
abbrev main_v183 : Ref sig .tc := ⟨.hbm, 326, rfl⟩
abbrev main_v184 : Ref sig .tc := ⟨.hbm, 327, rfl⟩
abbrev main_v185 : Ref sig .tc := ⟨.hbm, 328, rfl⟩
abbrev main_v186 : Ref sig .tc := ⟨.hbm, 329, rfl⟩
abbrev main_v187 : Ref sig .tc := ⟨.hbm, 330, rfl⟩
abbrev main_v188 : Ref sig .tc := ⟨.hbm, 331, rfl⟩
abbrev main_v189 : Ref sig .tc := ⟨.hbm, 332, rfl⟩
abbrev main_v190 : Ref sig .tc := ⟨.hbm, 333, rfl⟩
abbrev main_v191 : Ref sig .tc := ⟨.hbm, 334, rfl⟩
abbrev main_v192 : Ref sig .tc := ⟨.hbm, 335, rfl⟩
abbrev main_v193 : Ref sig .tc := ⟨.hbm, 336, rfl⟩
abbrev main_v194 : Ref sig .tc := ⟨.hbm, 337, rfl⟩
abbrev main_v195 : Ref sig .tc := ⟨.hbm, 338, rfl⟩
abbrev main_v196 : Ref sig .tc := ⟨.hbm, 339, rfl⟩
abbrev main_v197 : Ref sig .tc := ⟨.hbm, 340, rfl⟩
abbrev main_v198 : Ref sig .tc := ⟨.hbm, 341, rfl⟩
abbrev main_v199 : Ref sig .tc := ⟨.hbm, 342, rfl⟩
abbrev main_v200 : Ref sig .tc := ⟨.hbm, 343, rfl⟩
abbrev main_v201 : Ref sig .tc := ⟨.hbm, 344, rfl⟩
abbrev main_v202 : Ref sig .tc := ⟨.hbm, 345, rfl⟩
abbrev main_v203 : Ref sig .tc := ⟨.hbm, 346, rfl⟩
abbrev main_v204 : Ref sig .tc := ⟨.hbm, 347, rfl⟩
abbrev main_v205 : Ref sig .tc := ⟨.hbm, 348, rfl⟩
abbrev main_v206 : Ref sig .tc := ⟨.hbm, 349, rfl⟩
abbrev main_v207 : Ref sig .tc := ⟨.hbm, 350, rfl⟩
abbrev main_v208 : Ref sig .tc := ⟨.hbm, 351, rfl⟩
abbrev main_v209 : Ref sig .tc := ⟨.hbm, 352, rfl⟩
abbrev main_v210 : Ref sig .tc := ⟨.hbm, 353, rfl⟩
abbrev main_v211 : Ref sig .tc := ⟨.hbm, 354, rfl⟩
abbrev main_v212 : Ref sig .tc := ⟨.hbm, 355, rfl⟩
abbrev main_v213 : Ref sig .tc := ⟨.hbm, 356, rfl⟩
abbrev main_v214 : Ref sig .tc := ⟨.hbm, 357, rfl⟩
abbrev main_v215 : Ref sig .tc := ⟨.hbm, 358, rfl⟩
abbrev main_v216 : Ref sig .tc := ⟨.hbm, 359, rfl⟩
abbrev main_v217 : Ref sig .tc := ⟨.hbm, 360, rfl⟩
abbrev main_v218 : Ref sig .tc := ⟨.hbm, 361, rfl⟩
abbrev main_v219 : Ref sig .tc := ⟨.hbm, 362, rfl⟩
abbrev main_v220 : Ref sig .tc := ⟨.hbm, 363, rfl⟩
abbrev main_v221 : Ref sig .tc := ⟨.hbm, 364, rfl⟩
abbrev main_v222 : Ref sig .tc := ⟨.hbm, 365, rfl⟩
abbrev main_v223 : Ref sig .tc := ⟨.hbm, 366, rfl⟩
abbrev main_v224 : Ref sig .tc := ⟨.hbm, 367, rfl⟩
abbrev main_v225 : Ref sig .tc := ⟨.hbm, 368, rfl⟩
abbrev main_v226 : Ref sig .tc := ⟨.hbm, 369, rfl⟩
abbrev main_v227 : Ref sig .tc := ⟨.hbm, 370, rfl⟩
abbrev main_v228 : Ref sig .tc := ⟨.hbm, 371, rfl⟩
abbrev main_v229 : Ref sig .tc := ⟨.hbm, 372, rfl⟩
abbrev main_v230 : Ref sig .tc := ⟨.hbm, 373, rfl⟩
abbrev main_v231 : Ref sig .tc := ⟨.hbm, 374, rfl⟩
abbrev main_v232 : Ref sig .tc := ⟨.hbm, 375, rfl⟩
abbrev main_v233 : Ref sig .tc := ⟨.hbm, 376, rfl⟩
abbrev main_v234 : Ref sig .tc := ⟨.hbm, 377, rfl⟩
abbrev main_v235 : Ref sig .tc := ⟨.hbm, 378, rfl⟩
abbrev main_v236 : Ref sig .tc := ⟨.hbm, 379, rfl⟩
abbrev main_v237 : Ref sig .tc := ⟨.hbm, 380, rfl⟩
abbrev main_v238 : Ref sig .tc := ⟨.hbm, 381, rfl⟩
abbrev main_v239 : Ref sig .tc := ⟨.hbm, 382, rfl⟩
abbrev main_v240 : Ref sig .tc := ⟨.hbm, 383, rfl⟩
abbrev main_v241 : Ref sig .tc := ⟨.hbm, 384, rfl⟩
abbrev main_v242 : Ref sig .tc := ⟨.hbm, 385, rfl⟩
abbrev main_v243 : Ref sig .tc := ⟨.hbm, 386, rfl⟩
abbrev main_v244 : Ref sig .tc := ⟨.hbm, 387, rfl⟩
abbrev main_v245 : Ref sig .tc := ⟨.hbm, 388, rfl⟩
abbrev main_v246 : Ref sig .tc := ⟨.hbm, 389, rfl⟩
abbrev main_v247 : Ref sig .tc := ⟨.hbm, 390, rfl⟩
abbrev main_v248 : Ref sig .tc := ⟨.hbm, 391, rfl⟩
abbrev main_v249 : Ref sig .tc := ⟨.hbm, 392, rfl⟩
abbrev main_v250 : Ref sig .tc := ⟨.hbm, 393, rfl⟩
abbrev main_v251 : Ref sig .tc := ⟨.hbm, 394, rfl⟩
abbrev main_v252 : Ref sig .tc := ⟨.hbm, 395, rfl⟩
abbrev main_v253 : Ref sig .tc := ⟨.hbm, 396, rfl⟩
abbrev main_v254 : Ref sig .tc := ⟨.hbm, 397, rfl⟩
abbrev main_v255 : Ref sig .tc := ⟨.hbm, 398, rfl⟩
abbrev main_v256 : Ref sig .tc := ⟨.hbm, 399, rfl⟩
abbrev main_v257 : Ref sig .tc := ⟨.hbm, 400, rfl⟩
abbrev main_v258 : Ref sig .tc := ⟨.hbm, 401, rfl⟩
abbrev main_v259 : Ref sig .tc := ⟨.hbm, 402, rfl⟩
abbrev main_v260 : Ref sig .tc := ⟨.hbm, 403, rfl⟩
abbrev main_v261 : Ref sig .tc := ⟨.hbm, 404, rfl⟩
abbrev main_v262 : Ref sig .tc := ⟨.hbm, 405, rfl⟩
abbrev main_v263 : Ref sig .tc := ⟨.hbm, 406, rfl⟩
abbrev main_v264 : Ref sig .tc := ⟨.hbm, 407, rfl⟩
abbrev main_v265 : Ref sig .tc := ⟨.hbm, 408, rfl⟩
abbrev main_v266 : Ref sig .tc := ⟨.hbm, 409, rfl⟩
abbrev main_v267 : Ref sig .tc := ⟨.hbm, 410, rfl⟩
abbrev main_v268 : Ref sig .tc := ⟨.hbm, 411, rfl⟩
abbrev main_v269 : Ref sig .tc := ⟨.hbm, 412, rfl⟩
abbrev main_v270 : Ref sig .tc := ⟨.hbm, 413, rfl⟩
abbrev main_v271 : Ref sig .tc := ⟨.hbm, 414, rfl⟩
abbrev main_v272 : Ref sig .tc := ⟨.hbm, 415, rfl⟩
abbrev main_v273 : Ref sig .tc := ⟨.hbm, 416, rfl⟩
abbrev main_v274 : Ref sig .tc := ⟨.hbm, 417, rfl⟩
abbrev main_v275 : Ref sig .tc := ⟨.hbm, 418, rfl⟩
abbrev main_v276 : Ref sig .tc := ⟨.hbm, 419, rfl⟩
abbrev main_v277 : Ref sig .tc := ⟨.hbm, 420, rfl⟩
abbrev main_v278 : Ref sig .tc := ⟨.hbm, 421, rfl⟩
abbrev main_v279 : Ref sig .tc := ⟨.hbm, 422, rfl⟩
abbrev main_v280 : Ref sig .tc := ⟨.hbm, 423, rfl⟩
abbrev main_v281 : Ref sig .tc := ⟨.hbm, 424, rfl⟩
abbrev main_v282 : Ref sig .tc := ⟨.hbm, 425, rfl⟩
abbrev main_v283 : Ref sig .tc := ⟨.hbm, 426, rfl⟩
abbrev main_v284 : Ref sig .tc := ⟨.hbm, 427, rfl⟩
abbrev main_v285 : Ref sig .tc := ⟨.hbm, 428, rfl⟩
abbrev main_v286 : Ref sig .tc := ⟨.hbm, 429, rfl⟩
abbrev main_v287 : Ref sig .tc := ⟨.hbm, 430, rfl⟩
abbrev main_v288 : Ref sig .tc := ⟨.hbm, 431, rfl⟩
abbrev main_v289 : Ref sig .tc := ⟨.hbm, 432, rfl⟩
abbrev main_v290 : Ref sig .tc := ⟨.hbm, 433, rfl⟩
abbrev main_v291 : Ref sig .tc := ⟨.hbm, 434, rfl⟩
abbrev main_v292 : Ref sig .tc := ⟨.hbm, 435, rfl⟩
abbrev main_v293 : Ref sig .tc := ⟨.hbm, 436, rfl⟩
abbrev main_v294 : Ref sig .tc := ⟨.hbm, 437, rfl⟩
abbrev main_v295 : Ref sig .tc := ⟨.hbm, 438, rfl⟩
abbrev main_v296 : Ref sig .tc := ⟨.hbm, 439, rfl⟩
abbrev main_v297 : Ref sig .tc := ⟨.hbm, 440, rfl⟩
abbrev main_v298 : Ref sig .tc := ⟨.hbm, 441, rfl⟩
abbrev main_v299 : Ref sig .tc := ⟨.hbm, 442, rfl⟩
abbrev main_v300 : Ref sig .tc := ⟨.hbm, 443, rfl⟩
abbrev main_v301 : Ref sig .tc := ⟨.hbm, 444, rfl⟩
abbrev main_v302 : Ref sig .tc := ⟨.hbm, 445, rfl⟩
abbrev main_v303 : Ref sig .tc := ⟨.hbm, 446, rfl⟩
abbrev main_v304 : Ref sig .tc := ⟨.hbm, 447, rfl⟩
abbrev main_v305 : Ref sig .tc := ⟨.hbm, 448, rfl⟩
abbrev main_v306 : Ref sig .tc := ⟨.hbm, 449, rfl⟩
abbrev main_v307 : Ref sig .tc := ⟨.hbm, 450, rfl⟩
abbrev main_v308 : Ref sig .tc := ⟨.hbm, 451, rfl⟩
abbrev main_v309 : Ref sig .tc := ⟨.hbm, 452, rfl⟩
abbrev main_v310 : Ref sig .tc := ⟨.hbm, 453, rfl⟩
abbrev main_v311 : Ref sig .tc := ⟨.hbm, 454, rfl⟩
abbrev main_v312 : Ref sig .tc := ⟨.hbm, 455, rfl⟩
abbrev main_v313 : Ref sig .tc := ⟨.hbm, 456, rfl⟩
abbrev main_v314 : Ref sig .tc := ⟨.hbm, 457, rfl⟩
abbrev main_v315 : Ref sig .tc := ⟨.hbm, 458, rfl⟩
abbrev main_v316 : Ref sig .tc := ⟨.hbm, 459, rfl⟩
abbrev main_v317 : Ref sig .tc := ⟨.hbm, 460, rfl⟩
abbrev main_v318 : Ref sig .tc := ⟨.hbm, 461, rfl⟩
abbrev main_v319 : Ref sig .tc := ⟨.hbm, 462, rfl⟩
abbrev main_v320 : Ref sig .tc := ⟨.hbm, 463, rfl⟩
abbrev main_v321 : Ref sig .tc := ⟨.hbm, 464, rfl⟩
abbrev main_v322 : Ref sig .tc := ⟨.hbm, 465, rfl⟩
abbrev main_v323 : Ref sig .tc := ⟨.hbm, 466, rfl⟩
abbrev main_v324 : Ref sig .tc := ⟨.hbm, 467, rfl⟩
abbrev main_v325 : Ref sig .tc := ⟨.hbm, 468, rfl⟩
abbrev main_v326 : Ref sig .tc := ⟨.hbm, 469, rfl⟩
abbrev main_v327 : Ref sig .tc := ⟨.hbm, 470, rfl⟩
abbrev main_v328 : Ref sig .tc := ⟨.hbm, 471, rfl⟩
abbrev main_v329 : Ref sig .tc := ⟨.hbm, 472, rfl⟩
abbrev main_v330 : Ref sig .tc := ⟨.hbm, 473, rfl⟩
abbrev main_v331 : Ref sig .tc := ⟨.hbm, 474, rfl⟩
abbrev main_v332 : Ref sig .tc := ⟨.hbm, 475, rfl⟩
abbrev main_v333 : Ref sig .tc := ⟨.hbm, 476, rfl⟩
abbrev main_v334 : Ref sig .tc := ⟨.hbm, 477, rfl⟩
abbrev main_v335 : Ref sig .tc := ⟨.hbm, 478, rfl⟩
abbrev main_v336 : Ref sig .tc := ⟨.hbm, 479, rfl⟩
abbrev main_v337 : Ref sig .tc := ⟨.hbm, 480, rfl⟩
abbrev main_v338 : Ref sig .tc := ⟨.hbm, 481, rfl⟩
abbrev main_v339 : Ref sig .tc := ⟨.hbm, 482, rfl⟩
abbrev main_v340 : Ref sig .tc := ⟨.hbm, 483, rfl⟩
abbrev main_v341 : Ref sig .tc := ⟨.hbm, 484, rfl⟩
abbrev main_v342 : Ref sig .tc := ⟨.hbm, 485, rfl⟩
abbrev main_v343 : Ref sig .tc := ⟨.hbm, 486, rfl⟩
abbrev main_v344 : Ref sig .tc := ⟨.hbm, 487, rfl⟩
abbrev main_v345 : Ref sig .tc := ⟨.hbm, 488, rfl⟩
abbrev main_v346 : Ref sig .tc := ⟨.hbm, 489, rfl⟩
abbrev main_v347 : Ref sig .tc := ⟨.hbm, 490, rfl⟩
abbrev main_v348 : Ref sig .tc := ⟨.hbm, 491, rfl⟩
abbrev main_v349 : Ref sig .tc := ⟨.hbm, 492, rfl⟩
abbrev main_v350 : Ref sig .tc := ⟨.hbm, 493, rfl⟩
abbrev main_v351 : Ref sig .tc := ⟨.hbm, 494, rfl⟩
abbrev main_v352 : Ref sig .tc := ⟨.hbm, 495, rfl⟩
abbrev main_v353 : Ref sig .tc := ⟨.hbm, 496, rfl⟩
abbrev main_v354 : Ref sig .tc := ⟨.hbm, 497, rfl⟩
abbrev main_v355 : Ref sig .tc := ⟨.hbm, 498, rfl⟩
abbrev main_v356 : Ref sig .tc := ⟨.hbm, 499, rfl⟩
abbrev main_v357 : Ref sig .tc := ⟨.hbm, 500, rfl⟩
abbrev main_v358 : Ref sig .tc := ⟨.hbm, 501, rfl⟩
abbrev main_v359 : Ref sig .tc := ⟨.hbm, 502, rfl⟩
abbrev main_v360 : Ref sig .tc := ⟨.hbm, 503, rfl⟩
abbrev main_v361 : Ref sig .tc := ⟨.hbm, 504, rfl⟩
abbrev main_v362 : Ref sig .tc := ⟨.hbm, 505, rfl⟩
abbrev main_v363 : Ref sig .tc := ⟨.hbm, 506, rfl⟩
abbrev main_v364 : Ref sig .tc := ⟨.hbm, 507, rfl⟩
abbrev main_v365 : Ref sig .tc := ⟨.hbm, 508, rfl⟩
abbrev main_v366 : Ref sig .tc := ⟨.hbm, 509, rfl⟩
abbrev main_v367 : Ref sig .tc := ⟨.hbm, 510, rfl⟩
abbrev main_v368 : Ref sig .tc := ⟨.hbm, 511, rfl⟩
abbrev main_v369 : Ref sig .tc := ⟨.hbm, 512, rfl⟩
abbrev main_v370 : Ref sig .tc := ⟨.hbm, 513, rfl⟩
abbrev main_v371 : Ref sig .tc := ⟨.hbm, 514, rfl⟩
abbrev main_v372 : Ref sig .tc := ⟨.hbm, 515, rfl⟩
abbrev main_v373 : Ref sig .tc := ⟨.hbm, 516, rfl⟩
abbrev main_v374 : Ref sig .tc := ⟨.hbm, 517, rfl⟩
abbrev main_v375 : Ref sig .tc := ⟨.hbm, 518, rfl⟩
abbrev main_v376 : Ref sig .tc := ⟨.hbm, 519, rfl⟩
abbrev main_v377 : Ref sig .tc := ⟨.hbm, 520, rfl⟩
abbrev main_v378 : Ref sig .tc := ⟨.hbm, 521, rfl⟩
abbrev main_v379 : Ref sig .tc := ⟨.hbm, 522, rfl⟩
abbrev main_v380 : Ref sig .tc := ⟨.hbm, 523, rfl⟩
abbrev main_v381 : Ref sig .tc := ⟨.hbm, 524, rfl⟩
abbrev main_v382 : Ref sig .tc := ⟨.hbm, 525, rfl⟩
abbrev main_v383 : Ref sig .tc := ⟨.hbm, 526, rfl⟩
abbrev main_v384 : Ref sig .tc := ⟨.hbm, 527, rfl⟩
abbrev main_v385 : Ref sig .tc := ⟨.hbm, 528, rfl⟩
abbrev main_v386 : Ref sig .tc := ⟨.hbm, 529, rfl⟩
abbrev main_v387 : Ref sig .tc := ⟨.hbm, 530, rfl⟩
abbrev main_v388 : Ref sig .tc := ⟨.hbm, 531, rfl⟩
abbrev main_v389 : Ref sig .tc := ⟨.hbm, 532, rfl⟩
abbrev main_v390 : Ref sig .tc := ⟨.hbm, 533, rfl⟩
abbrev main_v391 : Ref sig .tc := ⟨.hbm, 534, rfl⟩
abbrev main_v392 : Ref sig .tc := ⟨.hbm, 535, rfl⟩
abbrev main_v393 : Ref sig .tc := ⟨.hbm, 536, rfl⟩
abbrev main_v394 : Ref sig .tc := ⟨.hbm, 537, rfl⟩
abbrev main_v395 : Ref sig .tc := ⟨.hbm, 538, rfl⟩
abbrev main_v396 : Ref sig .tc := ⟨.hbm, 539, rfl⟩
abbrev main_v397 : Ref sig .tc := ⟨.hbm, 540, rfl⟩
abbrev main_v398 : Ref sig .tc := ⟨.hbm, 541, rfl⟩
abbrev main_v399 : Ref sig .tc := ⟨.hbm, 542, rfl⟩
abbrev main_v400 : Ref sig .tc := ⟨.hbm, 543, rfl⟩
abbrev main_v401 : Ref sig .tc := ⟨.hbm, 544, rfl⟩
abbrev main_v402 : Ref sig .tc := ⟨.hbm, 545, rfl⟩
abbrev main_v403 : Ref sig .tc := ⟨.hbm, 546, rfl⟩
abbrev main_v404 : Ref sig .tc := ⟨.hbm, 547, rfl⟩
abbrev main_v405 : Ref sig .tc := ⟨.hbm, 548, rfl⟩
abbrev main_v406 : Ref sig .tc := ⟨.hbm, 549, rfl⟩
abbrev main_v407 : Ref sig .tc := ⟨.hbm, 550, rfl⟩
abbrev main_v408 : Ref sig .tc := ⟨.hbm, 551, rfl⟩
abbrev main_v409 : Ref sig .tc := ⟨.hbm, 552, rfl⟩
abbrev main_v410 : Ref sig .tc := ⟨.hbm, 553, rfl⟩
abbrev main_v411 : Ref sig .tc := ⟨.hbm, 554, rfl⟩
abbrev main_v412 : Ref sig .tc := ⟨.hbm, 555, rfl⟩
abbrev main_v413 : Ref sig .tc := ⟨.hbm, 556, rfl⟩
abbrev main_v414 : Ref sig .tc := ⟨.hbm, 557, rfl⟩
abbrev main_v415 : Ref sig .tc := ⟨.hbm, 558, rfl⟩
abbrev main_v416 : Ref sig .tc := ⟨.hbm, 559, rfl⟩
abbrev main_v417 : Ref sig .tc := ⟨.hbm, 560, rfl⟩
abbrev main_v418 : Ref sig .tc := ⟨.hbm, 561, rfl⟩
abbrev main_v419 : Ref sig .tc := ⟨.hbm, 562, rfl⟩
abbrev main_v420 : Ref sig .tc := ⟨.hbm, 563, rfl⟩
abbrev main_v421 : Ref sig .tc := ⟨.hbm, 564, rfl⟩
abbrev main_v422 : Ref sig .tc := ⟨.hbm, 565, rfl⟩
abbrev main_v423 : Ref sig .tc := ⟨.hbm, 566, rfl⟩
abbrev main_v424 : Ref sig .tc := ⟨.hbm, 567, rfl⟩
abbrev main_v425 : Ref sig .tc := ⟨.hbm, 568, rfl⟩
abbrev main_v426 : Ref sig .tc := ⟨.hbm, 569, rfl⟩
abbrev main_v427 : Ref sig .tc := ⟨.hbm, 570, rfl⟩
abbrev main_v428 : Ref sig .tc := ⟨.hbm, 571, rfl⟩
abbrev main_v429 : Ref sig .tc := ⟨.hbm, 572, rfl⟩
abbrev main_v430 : Ref sig .tc := ⟨.hbm, 573, rfl⟩
abbrev main_v431 : Ref sig .tc := ⟨.hbm, 574, rfl⟩
abbrev main_v432 : Ref sig .tc := ⟨.hbm, 575, rfl⟩
abbrev main_v433 : Ref sig .tc := ⟨.hbm, 576, rfl⟩
abbrev main_v434 : Ref sig .tc := ⟨.hbm, 577, rfl⟩
abbrev main_v435 : Ref sig .tc := ⟨.hbm, 578, rfl⟩
abbrev main_v436 : Ref sig .tc := ⟨.hbm, 579, rfl⟩
abbrev main_v437 : Ref sig .tc := ⟨.hbm, 580, rfl⟩
abbrev main_v438 : Ref sig .tc := ⟨.hbm, 581, rfl⟩
abbrev main_v439 : Ref sig .tc := ⟨.hbm, 582, rfl⟩
abbrev main_v440 : Ref sig .tc := ⟨.hbm, 583, rfl⟩
abbrev main_v441 : Ref sig .tc := ⟨.hbm, 584, rfl⟩
abbrev main_v442 : Ref sig .tc := ⟨.hbm, 585, rfl⟩
abbrev main_v443 : Ref sig .tc := ⟨.hbm, 586, rfl⟩
abbrev main_v444 : Ref sig .tc := ⟨.hbm, 587, rfl⟩
abbrev main_v445 : Ref sig .tc := ⟨.hbm, 588, rfl⟩
abbrev main_v446 : Ref sig .tc := ⟨.hbm, 589, rfl⟩
abbrev main_v447 : Ref sig .tc := ⟨.hbm, 590, rfl⟩
abbrev main_v448 : Ref sig .tc := ⟨.hbm, 591, rfl⟩
abbrev main_v449 : Ref sig .tc := ⟨.hbm, 592, rfl⟩
abbrev main_v450 : Ref sig .tc := ⟨.hbm, 593, rfl⟩
abbrev main_v451 : Ref sig .tc := ⟨.hbm, 594, rfl⟩
abbrev main_v452 : Ref sig .tc := ⟨.hbm, 595, rfl⟩
abbrev main_v453 : Ref sig .tc := ⟨.hbm, 596, rfl⟩
abbrev main_v454 : Ref sig .tc := ⟨.hbm, 597, rfl⟩
abbrev main_v455 : Ref sig .tc := ⟨.hbm, 598, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RSmallIdeal.lean ====
abbrev S1x4x768 : Shape := ⟨3, ![1, 4, 768]⟩
abbrev S1x8 : Shape := ⟨2, ![1, 8]⟩
abbrev S1x128 : Shape := ⟨2, ![1, 128]⟩
abbrev S1x1024 : Shape := ⟨2, ![1, 1024]⟩
abbrev S1x2048 : Shape := ⟨2, ![1, 2048]⟩
abbrev S_ : Shape := ⟨0, ![]⟩

abbrev nBuf : Space → Nat
  | .hbm => 143
  | .vmem => 0
  | .smem => 0
  | _ => 0

abbrev hbmTy0_0 (i : Nat) : BufTy := match i % 128 with
  | 0 => ⟨S1x4x768, .f32⟩
  | 1 => ⟨S1x8, .f32⟩
  | 2 => ⟨S1x8, .f32⟩
  | 3 => ⟨S1x128, .f32⟩
  | 4 => ⟨S1x1024, .f32⟩
  | 5 => ⟨S1x2048, .f32⟩
  | 6 => ⟨S1x2048, .f32⟩
  | 7 => ⟨S1x2048, .f32⟩
  | 8 => ⟨S1x2048, .f32⟩
  | 9 => ⟨S1x2048, .f32⟩
  | 10 => ⟨S1x2048, .f32⟩
  | 11 => ⟨S1x4x768, .f32⟩
  | 12 => ⟨S1x8, .f32⟩
  | 13 => ⟨S1x8, .f32⟩
  | 14 => ⟨S1x128, .f32⟩
  | 15 => ⟨S1x1024, .f32⟩
  | 16 => ⟨S1x2048, .f32⟩
  | 17 => ⟨S1x2048, .f32⟩
  | 18 => ⟨S1x2048, .f32⟩
  | 19 => ⟨S1x2048, .f32⟩
  | 20 => ⟨S1x2048, .f32⟩
  | 21 => ⟨S1x2048, .f32⟩
  | 22 => ⟨S1x4x768, .f32⟩
  | 23 => ⟨S1x8, .f32⟩
  | 24 => ⟨S1x8, .f32⟩
  | 25 => ⟨S1x128, .f32⟩
  | 26 => ⟨S1x1024, .f32⟩
  | 27 => ⟨S1x2048, .f32⟩
  | 28 => ⟨S1x2048, .f32⟩
  | 29 => ⟨S1x2048, .f32⟩
  | 30 => ⟨S1x2048, .f32⟩
  | 31 => ⟨S1x2048, .f32⟩
  | 32 => ⟨S1x2048, .f32⟩
  | 33 => ⟨S1x4x768, .f32⟩
  | 34 => ⟨S1x8, .f32⟩
  | 35 => ⟨S1x8, .f32⟩
  | 36 => ⟨S1x128, .f32⟩
  | 37 => ⟨S1x1024, .f32⟩
  | 38 => ⟨S1x2048, .f32⟩
  | 39 => ⟨S1x2048, .f32⟩
  | 40 => ⟨S1x2048, .f32⟩
  | 41 => ⟨S1x2048, .f32⟩
  | 42 => ⟨S1x2048, .f32⟩
  | 43 => ⟨S1x2048, .f32⟩
  | 44 => ⟨S_, .f32⟩
  | 45 => ⟨S1x4x768, .f32⟩
  | 46 => ⟨S1x4x768, .f32⟩
  | 47 => ⟨S_, .f32⟩
  | 48 => ⟨S1x4x768, .f32⟩
  | 49 => ⟨S1x4x768, .f32⟩
  | 50 => ⟨S1x4x768, .f32⟩
  | 51 => ⟨S_, .f32⟩
  | 52 => ⟨S1x4x768, .f32⟩
  | 53 => ⟨S1x4x768, .f32⟩
  | 54 => ⟨S1x4x768, .f32⟩
  | 55 => ⟨S_, .f32⟩
  | 56 => ⟨S1x4x768, .f32⟩
  | 57 => ⟨S1x4x768, .f32⟩
  | 58 => ⟨S1x4x768, .f32⟩
  | 59 => ⟨S_, .f32⟩
  | 60 => ⟨S1x4x768, .f32⟩
  | 61 => ⟨S1x4x768, .f32⟩
  | 62 => ⟨S_, .f32⟩
  | 63 => ⟨S1x4x768, .f32⟩
  | 64 => ⟨S1x4x768, .f32⟩
  | 65 => ⟨S1x4x768, .f32⟩
  | 66 => ⟨S_, .f32⟩
  | 67 => ⟨S1x4x768, .f32⟩
  | 68 => ⟨S1x4x768, .f32⟩
  | 69 => ⟨S1x4x768, .f32⟩
  | 70 => ⟨S_, .f32⟩
  | 71 => ⟨S1x4x768, .f32⟩
  | 72 => ⟨S1x4x768, .f32⟩
  | 73 => ⟨S1x4x768, .f32⟩
  | 74 => ⟨S_, .f32⟩
  | 75 => ⟨S1x4x768, .f32⟩
  | 76 => ⟨S1x4x768, .f32⟩
  | 77 => ⟨S_, .f32⟩
  | 78 => ⟨S1x8, .f32⟩
  | 79 => ⟨S1x8, .f32⟩
  | 80 => ⟨S_, .f32⟩
  | 81 => ⟨S1x8, .f32⟩
  | 82 => ⟨S1x8, .f32⟩
  | 83 => ⟨S1x8, .f32⟩
  | 84 => ⟨S_, .f32⟩
  | 85 => ⟨S1x8, .f32⟩
  | 86 => ⟨S1x8, .f32⟩
  | 87 => ⟨S1x8, .f32⟩
  | 88 => ⟨S_, .f32⟩
  | 89 => ⟨S1x8, .f32⟩
  | 90 => ⟨S1x8, .f32⟩
  | 91 => ⟨S1x8, .f32⟩
  | 92 => ⟨S_, .f32⟩
  | 93 => ⟨S1x8, .f32⟩
  | 94 => ⟨S1x8, .f32⟩
  | 95 => ⟨S_, .f32⟩
  | 96 => ⟨S1x8, .f32⟩
  | 97 => ⟨S1x8, .f32⟩
  | 98 => ⟨S1x8, .f32⟩
  | 99 => ⟨S_, .f32⟩
  | 100 => ⟨S1x8, .f32⟩
  | 101 => ⟨S1x8, .f32⟩
  | 102 => ⟨S1x8, .f32⟩
  | 103 => ⟨S_, .f32⟩
  | 104 => ⟨S1x8, .f32⟩
  | 105 => ⟨S1x8, .f32⟩
  | 106 => ⟨S1x8, .f32⟩
  | 107 => ⟨S_, .f32⟩
  | 108 => ⟨S1x8, .f32⟩
  | 109 => ⟨S1x8, .f32⟩
  | 110 => ⟨S_, .f32⟩
  | 111 => ⟨S1x128, .f32⟩
  | 112 => ⟨S1x128, .f32⟩
  | 113 => ⟨S_, .f32⟩
  | 114 => ⟨S1x128, .f32⟩
  | 115 => ⟨S1x128, .f32⟩
  | 116 => ⟨S1x128, .f32⟩
  | 117 => ⟨S_, .f32⟩
  | 118 => ⟨S1x128, .f32⟩
  | 119 => ⟨S1x128, .f32⟩
  | 120 => ⟨S1x128, .f32⟩
  | 121 => ⟨S_, .f32⟩
  | 122 => ⟨S1x128, .f32⟩
  | 123 => ⟨S1x128, .f32⟩
  | 124 => ⟨S1x128, .f32⟩
  | 125 => ⟨S_, .f32⟩
  | 126 => ⟨S1x128, .f32⟩
  | 127 => ⟨S1x128, .f32⟩
  | _ => ⟨S1x4x768, .f32⟩

abbrev hbmTy0_1 (i : Nat) : BufTy := match i % 128 with
  | 0 => ⟨S_, .f32⟩
  | 1 => ⟨S1x128, .f32⟩
  | 2 => ⟨S1x128, .f32⟩
  | 3 => ⟨S1x128, .f32⟩
  | 4 => ⟨S_, .f32⟩
  | 5 => ⟨S1x128, .f32⟩
  | 6 => ⟨S1x128, .f32⟩
  | 7 => ⟨S1x128, .f32⟩
  | 8 => ⟨S_, .f32⟩
  | 9 => ⟨S1x128, .f32⟩
  | 10 => ⟨S1x128, .f32⟩
  | 11 => ⟨S1x128, .f32⟩
  | 12 => ⟨S_, .f32⟩
  | 13 => ⟨S1x128, .f32⟩
  | 14 => ⟨S1x128, .f32⟩
  | _ => ⟨S1x4x768, .f32⟩

abbrev hbmTy (i : Nat) : BufTy := match i / 128 with
  | 0 => hbmTy0_0 i
  | 1 => hbmTy0_1 i
  | _ => ⟨S1x4x768, .f32⟩

abbrev bufTy : (tb : Table) → Fin (tcTables nBuf tb) → BufTy
  | .hbm, ⟨i, _⟩ => hbmTy i
  | _, _ => ⟨S1x4x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_cst : Ref sig .tc := ⟨.hbm, 44, rfl⟩
abbrev main_v0 : Ref sig .tc := ⟨.hbm, 45, rfl⟩
abbrev main_v1 : Ref sig .tc := ⟨.hbm, 46, rfl⟩
abbrev main_cst_0 : Ref sig .tc := ⟨.hbm, 47, rfl⟩
abbrev main_v2 : Ref sig .tc := ⟨.hbm, 48, rfl⟩
abbrev main_v3 : Ref sig .tc := ⟨.hbm, 49, rfl⟩
abbrev main_v4 : Ref sig .tc := ⟨.hbm, 50, rfl⟩
abbrev main_cst_1 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_cst_2 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_cst_3 : Ref sig .tc := ⟨.hbm, 59, rfl⟩
abbrev main_v11 : Ref sig .tc := ⟨.hbm, 60, rfl⟩
abbrev main_v12 : Ref sig .tc := ⟨.hbm, 61, rfl⟩
abbrev main_cst_4 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_cst_5 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_cst_6 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_cst_7 : Ref sig .tc := ⟨.hbm, 74, rfl⟩
abbrev main_v22 : Ref sig .tc := ⟨.hbm, 75, rfl⟩
abbrev main_v23 : Ref sig .tc := ⟨.hbm, 76, rfl⟩
abbrev main_cst_8 : Ref sig .tc := ⟨.hbm, 77, rfl⟩
abbrev main_v24 : Ref sig .tc := ⟨.hbm, 78, rfl⟩
abbrev main_v25 : Ref sig .tc := ⟨.hbm, 79, rfl⟩
abbrev main_cst_9 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_cst_10 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_cst_11 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_cst_12 : Ref sig .tc := ⟨.hbm, 92, rfl⟩
abbrev main_v35 : Ref sig .tc := ⟨.hbm, 93, rfl⟩
abbrev main_v36 : Ref sig .tc := ⟨.hbm, 94, rfl⟩
abbrev main_cst_13 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_cst_14 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_cst_15 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_cst_16 : Ref sig .tc := ⟨.hbm, 107, rfl⟩
abbrev main_v46 : Ref sig .tc := ⟨.hbm, 108, rfl⟩
abbrev main_v47 : Ref sig .tc := ⟨.hbm, 109, rfl⟩
abbrev main_cst_17 : Ref sig .tc := ⟨.hbm, 110, rfl⟩
abbrev main_v48 : Ref sig .tc := ⟨.hbm, 111, rfl⟩
abbrev main_v49 : Ref sig .tc := ⟨.hbm, 112, rfl⟩
abbrev main_cst_18 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_cst_19 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_cst_20 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_cst_21 : Ref sig .tc := ⟨.hbm, 125, rfl⟩
abbrev main_v59 : Ref sig .tc := ⟨.hbm, 126, rfl⟩
abbrev main_v60 : Ref sig .tc := ⟨.hbm, 127, rfl⟩
abbrev main_cst_22 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_cst_23 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_cst_24 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_cst_25 : Ref sig .tc := ⟨.hbm, 140, rfl⟩
abbrev main_v70 : Ref sig .tc := ⟨.hbm, 141, rfl⟩
abbrev main_v71 : Ref sig .tc := ⟨.hbm, 142, rfl⟩

abbrev nD : Nat := 1
abbrev τ : Topo := Topo.v7x

variable {F : FTy → Type} [FloatOps F]
-- ==== KOwn.lean ====
abbrev S4x2048x2048 : Shape := ⟨3, ![4, 2048, 2048]⟩
abbrev S4x1024x2048 : Shape := ⟨3, ![4, 1024, 2048]⟩
abbrev S3x1024x2048 : Shape := ⟨3, ![3, 1024, 2048]⟩
abbrev S1 : Shape := ⟨1, ![1]⟩
abbrev S2 : Shape := ⟨1, ![2]⟩
abbrev S2048x2048 : Shape := ⟨2, ![2048, 2048]⟩
abbrev S1x256x2048 : Shape := ⟨3, ![1, 256, 2048]⟩
abbrev S3x256x2048 : Shape := ⟨3, ![3, 256, 2048]⟩
abbrev S256x2048 : Shape := ⟨2, ![256, 2048]⟩
abbrev S_ : Shape := ⟨0, ![]⟩
abbrev S1024x2048 : Shape := ⟨2, ![1024, 2048]⟩

abbrev nBuf : Space → Nat
  | .hbm => 13
  | .vmem => 8
  | .smem => 1
  | _ => 0

abbrev bufTy : (tb : Table) → Fin (tcTables nBuf tb) → BufTy
  | .hbm, ⟨0, _⟩ => ⟨S4x2048x2048, .f32⟩
  | .hbm, ⟨1, _⟩ => ⟨S4x1024x2048, .f32⟩
  | .hbm, ⟨2, _⟩ => ⟨S3x1024x2048, .bf16⟩
  | .hbm, ⟨3, _⟩ => ⟨S1, .i32⟩
  | .hbm, ⟨4, _⟩ => ⟨S1, .i32⟩
  | .hbm, ⟨5, _⟩ => ⟨S2048x2048, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S1024x2048, .i1⟩
  | .hbm, ⟨10, _⟩ => ⟨S1024x2048, .f32⟩
  | .hbm, ⟨11, _⟩ => ⟨S1024x2048, .f32⟩
  | .hbm, ⟨12, _⟩ => ⟨S1024x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S3x256x2048, .bf16⟩
  | .local _ .vmem, ⟨5, _⟩ => ⟨S3x256x2048, .bf16⟩
  | .local _ .vmem, ⟨6, _⟩ => ⟨S256x2048, .f32⟩
  | .local _ .vmem, ⟨7, _⟩ => ⟨S256x2048, .f32⟩
  | .local _ .smem, ⟨0, _⟩ => ⟨S2, .i32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (inb_S2_S1_1 : ∀ a, (![1] : Fin 1 → Nat) a + S1.size a ≤ S2.size a) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c1 : Index := 1#32
  let v1 : BitVec 32 := pf.at 0 (Rect.unit (s := S2) ![1] S1.size inb_S2_S1_1) numel1_S1
  let c4_i32 : BitVec 32 := 4#32
  let v2 : BitVec 32 := Scalar.muli v1 c4_i32
  let v3 : BitVec 32 := Scalar.addi v2 arg0
  let c0_i32 : BitVec 32 := 0#32
  let c0_i32_0 : BitVec 32 := 0#32
  ![v0.toNat, v3.toNat, c0_i32.toNat]

def cc0_transform_1 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c4_i32 : BitVec 32 := 4#32
  let v1 : BitVec 32 := Scalar.muli v0 c4_i32
  let v2 : BitVec 32 := Scalar.addi v1 arg0
  let c0_i32 : BitVec 32 := 0#32
  let c0_i32_0 : BitVec 32 := 0#32
  ![v2.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ROwnIdeal.lean ====
abbrev S4x2048x2048 : Shape := ⟨3, ![4, 2048, 2048]⟩
abbrev S4x1024x2048 : Shape := ⟨3, ![4, 1024, 2048]⟩
abbrev S3x1024x2048 : Shape := ⟨3, ![3, 1024, 2048]⟩
abbrev S1 : Shape := ⟨1, ![1]⟩
abbrev S_ : Shape := ⟨0, ![]⟩
abbrev S1x2048x2048 : Shape := ⟨3, ![1, 2048, 2048]⟩
abbrev S2048x2048 : Shape := ⟨2, ![2048, 2048]⟩
abbrev S1024x2048 : Shape := ⟨2, ![1024, 2048]⟩
abbrev S1x1024x2048 : Shape := ⟨3, ![1, 1024, 2048]⟩

abbrev nBuf : Space → Nat
  | .hbm => 81
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x1024x2048, .f32⟩
  | .hbm, ⟨2, _⟩ => ⟨S3x1024x2048, .bf16⟩
  | .hbm, ⟨3, _⟩ => ⟨S1, .i32⟩
  | .hbm, ⟨4, _⟩ => ⟨S1, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S1x2048x2048, .f32⟩
  | .hbm, ⟨9, _⟩ => ⟨S2048x2048, .f32⟩
  | .hbm, ⟨10, _⟩ => ⟨S2048x2048, .i1⟩
  | .hbm, ⟨11, _⟩ => ⟨S1x2048x2048, .f32⟩
  | .hbm, ⟨12, _⟩ => ⟨S2048x2048, .f32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S1x2048x2048, .f32⟩
  | .hbm, ⟨17, _⟩ => ⟨S2048x2048, .f32⟩
  | .hbm, ⟨18, _⟩ => ⟨S2048x2048, .i1⟩
  | .hbm, ⟨19, _⟩ => ⟨S1x2048x2048, .f32⟩
  | .hbm, ⟨20, _⟩ => ⟨S2048x2048, .f32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S1x2048x2048, .f32⟩
  | .hbm, ⟨25, _⟩ => ⟨S2048x2048, .f32⟩
  | .hbm, ⟨26, _⟩ => ⟨S2048x2048, .i1⟩
  | .hbm, ⟨27, _⟩ => ⟨S1x2048x2048, .f32⟩
  | .hbm, ⟨28, _⟩ => ⟨S2048x2048, .f32⟩
  | .hbm, ⟨29, _⟩ => ⟨S1x2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .i32⟩
  | .hbm, ⟨35, _⟩ => ⟨S_, .i32⟩
  | .hbm, ⟨36, _⟩ => ⟨S_, .i1⟩
  | .hbm, ⟨37, _⟩ => ⟨S1024x2048, .i1⟩
  | .hbm, ⟨38, _⟩ => ⟨S1024x2048, .f32⟩
  | .hbm, ⟨39, _⟩ => ⟨S1024x2048, .f32⟩
  | .hbm, ⟨40, _⟩ => ⟨S1024x2048, .f32⟩
  | .hbm, ⟨41, _⟩ => ⟨S3x1024x2048, .f32⟩
  | .hbm, ⟨42, _⟩ => ⟨S_, .i32⟩
  | .hbm, ⟨43, _⟩ => ⟨S_, .i32⟩
  | .hbm, ⟨44, _⟩ => ⟨S_, .i1⟩
  | .hbm, ⟨45, _⟩ => ⟨S1x1024x2048, .f32⟩
  | .hbm, ⟨46, _⟩ => ⟨S1024x2048, .f32⟩
  | .hbm, ⟨47, _⟩ => ⟨S1024x2048, .i1⟩
  | .hbm, ⟨48, _⟩ => ⟨S1x1024x2048, .f32⟩
  | .hbm, ⟨49, _⟩ => ⟨S1024x2048, .f32⟩
  | .hbm, ⟨50, _⟩ => ⟨S_, .i32⟩
  | .hbm, ⟨51, _⟩ => ⟨S_, .i32⟩
  | .hbm, ⟨52, _⟩ => ⟨S_, .i1⟩
  | .hbm, ⟨53, _⟩ => ⟨S1x1024x2048, .f32⟩
  | .hbm, ⟨54, _⟩ => ⟨S1024x2048, .f32⟩
  | .hbm, ⟨55, _⟩ => ⟨S1024x2048, .i1⟩
  | .hbm, ⟨56, _⟩ => ⟨S1x1024x2048, .f32⟩
  | .hbm, ⟨57, _⟩ => ⟨S1024x2048, .f32⟩
  | .hbm, ⟨58, _⟩ => ⟨S_, .i32⟩
  | .hbm, ⟨59, _⟩ => ⟨S_, .i32⟩
  | .hbm, ⟨60, _⟩ => ⟨S_, .i1⟩
  | .hbm, ⟨61, _⟩ => ⟨S1x1024x2048, .f32⟩
  | .hbm, ⟨62, _⟩ => ⟨S1024x2048, .f32⟩
  | .hbm, ⟨63, _⟩ => ⟨S1024x2048, .i1⟩
  | .hbm, ⟨64, _⟩ => ⟨S1x1024x2048, .f32⟩
  | .hbm, ⟨65, _⟩ => ⟨S1024x2048, .f32⟩
  | .hbm, ⟨66, _⟩ => ⟨S1x1024x2048, .f32⟩
  | .hbm, ⟨67, _⟩ => ⟨S1024x2048, .f32⟩
  | .hbm, ⟨68, _⟩ => ⟨S1024x2048, .f32⟩
  | .hbm, ⟨69, _⟩ => ⟨S1024x2048, .f32⟩
  | .hbm, ⟨70, _⟩ => ⟨S1024x2048, .f32⟩
  | .hbm, ⟨71, _⟩ => ⟨S1024x2048, .f32⟩
  | .hbm, ⟨72, _⟩ => ⟨S1x1024x2048, .f32⟩
  | .hbm, ⟨73, _⟩ => ⟨S1024x2048, .f32⟩
  | .hbm, ⟨74, _⟩ => ⟨S1x1024x2048, .f32⟩
  | .hbm, ⟨75, _⟩ => ⟨S1024x2048, .f32⟩
  | .hbm, ⟨76, _⟩ => ⟨S1024x2048, .f32⟩
  | .hbm, ⟨77, _⟩ => ⟨S1x1024x2048, .f32⟩
  | .hbm, ⟨78, _⟩ => ⟨S1024x2048, .f32⟩
  | .hbm, ⟨79, _⟩ => ⟨S1024x2048, .f32⟩
  | .hbm, ⟨80, _⟩ => ⟨S1024x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_c_4 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_c_5 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩

abbrev nD : Nat := 1
abbrev τ : Topo := Topo.v7x

variable {F : FTy → Type} [FloatOps F]
-- ==== Proof.Lift.lean ====
/- Extended reals that are real: the few facts by which the exact reading of a float operation on real operands is the
   real operation. A value claim whose arguments hold no infinity is proved over the reals through them. -/
module

public import Idealize.ShloMosaic.PureOps.Ideal.Laws
public import Idealize.ShloMosaic.Lib.Pointwise

@[expose] public section

noncomputable section

namespace Cert.Lift

open Idealize.ShloMosaic

/-- A sum of reals, read among the extended reals. -/
theorem coe_sum {ι : Type*} (s : Finset ι) (f : ι → ℝ) : (∑ i ∈ s, (f i : EReal)) = ((∑ i ∈ s, f i : ℝ) : EReal) :=
  (map_sum (⟨⟨((↑) : ℝ → EReal), rfl⟩, EReal.coe_add⟩ : ℝ →+ EReal) f s).symm

/-- A quotient of reals by one that is not zero. -/
theorem div_coe (x : ℝ) {y : ℝ} (h : y ≠ 0) : Ideal.div (x : EReal) (y : EReal) = ((x / y : ℝ) : EReal) := by
  rw [Ideal.div_coe h, ← EReal.coe_mul, mul_one_div]

/-- The reciprocal square root of a positive real. -/
theorem rsqrt_coe {x : ℝ} (h : 0 < x) : Ideal.rsqrt (x : EReal) = (((Real.sqrt x)⁻¹ : ℝ) : EReal) := by
  rw [Ideal.rsqrt_coe, if_neg (not_lt.mpr h.le), if_neg h.ne']

/-- The larger of two reals. -/
theorem max_coe (x y : ℝ) : max (x : EReal) (y : EReal) = ((max x y : ℝ) : EReal) :=
  (EReal.coe_strictMono.monotone.map_max).symm

/-- The logarithm of a positive real. -/
theorem log_coe {x : ℝ} (h : 0 < x) : Ideal.log (x : EReal) = ((Real.log x : ℝ) : EReal) := by
  rw [Ideal.log_coe, if_neg (not_le.mpr h)]

theorem zero_coe : (0 : EReal) = ((0 : ℝ) : EReal) := rfl
theorem one_coe : (1 : EReal) = ((1 : ℝ) : EReal) := rfl

/-- The small number the norms add under the root, as the real its word is. -/
def eps : ℝ := (Ideal.ofBits .f32 0x358637BD#32).toReal

theorem eps_pos : 0 < eps := by
  unfold eps
  simp [Ideal.ofBits, Ideal.ieee, -EReal.coe_mul]

theorem eps_coe : Ideal.ofBits .f32 0x358637BD#32 = (eps : EReal) := by
  unfold eps
  simp [Ideal.ofBits, Ideal.ieee, -EReal.coe_mul]

theorem lit_128 : Ideal.ofBits .f32 0x43000000#32 = ((128 : ℝ) : EReal) := by
  simp [Ideal.ofBits, Ideal.ieee, -EReal.coe_mul]; norm_num

theorem lit_neg_half : Ideal.ofBits .f32 0xBF000000#32 = ((-(1 / 2) : ℝ) : EReal) := by
  simp [Ideal.ofBits, Ideal.ieee, -EReal.coe_mul]; norm_num

/-- The word of the largest value an infinity is compared with is the top element. -/
theorem lit_top : Ideal.ofBits .f32 0x7F800000#32 = (⊤ : EReal) := by
  simp [Ideal.ofBits, Ideal.ieee]

theorem lit_top16 : Ideal.ofBits .bf16 0x7F80#16 = (⊤ : EReal) := by
  simp [Ideal.ofBits, Ideal.ieee]

/-- An extended real whose absolute value is below the top element is a real. -/
theorem real_of_abs_lt {a : EReal} (h : max a (-a) < ⊤) : ((a.toReal : ℝ) : EReal) = a := by
  refine EReal.coe_toReal (fun e => ?_) (fun e => ?_)
  · simp [e] at h
  · simp [e] at h

/-- An array is of reals when it is the array of its own real parts. -/
def IsReal {s : Shape} (x : s.Idx → EReal) : Prop := ∀ i, ((x i).toReal : EReal) = x i

/-- The array of reals an array of extended reals is. -/
def re {s : Shape} (x : s.Idx → EReal) : s.Idx → ℝ := fun i => (x i).toReal

theorem IsReal.eq {s : Shape} {x : s.Idx → EReal} (h : IsReal x) (i : s.Idx) : x i = (re x i : EReal) := (h i).symm

/-- An array of reals, read among the extended reals. -/
def up {s : Shape} (x : s.Idx → ℝ) : s.Idx → EReal := fun i => (x i : EReal)

theorem up_apply {s : Shape} (x : s.Idx → ℝ) (i : s.Idx) : up x i = (x i : EReal) := rfl

theorem IsReal.up_re {s : Shape} {x : s.Idx → EReal} (h : IsReal x) : x = up (re x) := funext h.eq

/-- What the precondition's comparison, true everywhere, says of an array. -/
theorem isReal_of_cmp {s : Shape} {φ : FTy} (x y : FVec Ideal s φ) (hy : ∀ i, y i = (⊤ : EReal))
    (h : cmpf .olt (Host.absf x) y = fun _ => 1#1) : IsReal (s := s) x := by
  intro i
  have e := congrFun h i
  have e' : BitVec.ofBool (decide (max (x i : EReal) (-(x i : EReal)) < y i)) = 1#1 := e
  rw [hy i] at e'
  refine real_of_abs_lt ?_
  by_contra hc
  rw [decide_eq_false hc] at e'
  exact absurd e' (by decide)

/-- A host sum over axes all of size one is its one term. -/
theorem hostReduceAdd_unit {s t : Shape} {axes : List (Fin s.rank)} (h : s.ReducesTo axes t) (x : s.Idx → EReal)
    (init : EReal) (j : t.Idx) (i₀ : s.Idx) (hi : ∀ i, h.drop i = j ↔ i = i₀) :
    Ideal.hostReduceAdd h x init j = init + x i₀ := by
  unfold Ideal.hostReduceAdd
  rw [Finset.filter_congr fun i _ => hi i, Finset.filter_eq' , if_pos (Finset.mem_univ _), Finset.sum_singleton]

/-- A host sum over several axes is the sum over whatever lists the indices that reduce to the result's index. -/
theorem hostReduceAdd_list {s t : Shape} {axes : List (Fin s.rank)} (h : s.ReducesTo axes t) (x : s.Idx → EReal)
    (init : EReal) (j : t.Idx) {κ : Type} [Fintype κ] (e : κ → s.Idx) (he : Function.Injective e)
    (hi : ∀ i, h.drop i = j ↔ ∃ q, e q = i) :
    Ideal.hostReduceAdd h x init j = init + ∑ q, x (e q) := by
  have hs : (Finset.univ.filter fun i => h.drop i = j) = Finset.univ.map ⟨e, he⟩ := by
    ext i; simp [hi]
  unfold Ideal.hostReduceAdd
  rw [hs, Finset.sum_map]; rfl

end Cert.Lift

end
-- ==== Proof.PostSpec.lean ====
/- The gradient of the gated norm, over the reals: one row of one head. -/
module

public import proofs.«01_k».proof.Proof.Lift

@[expose] public section

noncomputable section

namespace Cert.Post

open Cert.Lift

variable (d o z w : Fin 128 → ℝ)

/-- The mean square of a row, and the small number. -/
def ms : ℝ := (∑ k, o k * o k) / 128 + eps

theorem ms_pos : 0 < ms o := by
  have := eps_pos
  have h : 0 ≤ ∑ k, o k * o k := Finset.sum_nonneg fun k _ => mul_self_nonneg _
  unfold ms; positivity

/-- One over the root mean square. -/
def inv : ℝ := (Real.sqrt (ms o))⁻¹

theorem inv_sq : inv o * inv o * ms o = 1 := by
  have h := ms_pos o
  have e : Real.sqrt (ms o) * Real.sqrt (ms o) = ms o := Real.mul_self_sqrt h.le
  have : Real.sqrt (ms o) ≠ 0 := (Real.sqrt_pos.mpr h).ne'
  unfold inv
  field_simp
  nlinarith

/-- The logistic function. -/
def sg (x : ℝ) : ℝ := 1 / (1 + Real.exp (0 - x))

/-- The cotangent of the normalised row. -/
def dxh (k : Fin 128) : ℝ := d k * (z k * sg (z k)) * w k

/-- The gradient of the norm's input. -/
def gradO (k : Fin 128) : ℝ :=
  inv o * (dxh d z w k - o k * inv o * ((∑ l, dxh d z w l * (o l * inv o)) / 128))

/-- The gradient of the gate's input. -/
def gradZ (k : Fin 128) : ℝ := d k * (o k * inv o) * w k * (sg (z k) * (1 + z k * (1 - sg (z k))))

/-- This row's part of the gradient of the norm's weight. -/
def gradW (k : Fin 128) : ℝ := d k * (z k * sg (z k)) * (o k * inv o)

/-- The gradient of the norm's input as differentiating the mean square gives it. -/
theorem gradO_eq (k : Fin 128) :
    gradO d o z w k =
      dxh d z w k * inv o + o k * ((∑ l, o l * dxh d z w l) * (-(1 / 2) * (inv o / ms o)) / 128)
        + ((∑ l, o l * dxh d z w l) * (-(1 / 2) * (inv o / ms o)) / 128) * o k := by
  have h := ms_pos o
  have e := inv_sq o
  have hs : (∑ l, dxh d z w l * (o l * inv o)) = inv o * ∑ l, o l * dxh d z w l := by
    rw [Finset.mul_sum]; exact Finset.sum_congr rfl fun l _ => by ring
  have hm : inv o / ms o = inv o * inv o * inv o := by
    rw [div_eq_iff h.ne']; linear_combination (-inv o) * e
  unfold gradO
  rw [hs, hm]; ring

theorem one_add_exp_ne (x : ℝ) : 1 + Real.exp x ≠ 0 := by positivity

section Rows

open Idealize.ShloMosaic

/-- Head `h` of row `r` of the cotangent, of the norm's input, and of the gate's input. -/
def rowD (D : (⟨2, ![2048, 2048]⟩ : Shape).Idx → ℝ) (r : Fin 2048) (h : Fin 8) (k : Fin 128) : ℝ := D (ix2 r ⟨h.val * 128 + k.val, by omega⟩)
def rowO (O : (⟨2, ![2048, 1024]⟩ : Shape).Idx → ℝ) (r : Fin 2048) (h : Fin 8) (k : Fin 128) : ℝ := O (ix2 r ⟨h.val * 128 + k.val, by omega⟩)
def rowZ (P : (⟨2, ![2048, 4096]⟩ : Shape).Idx → ℝ) (r : Fin 2048) (h : Fin 8) (k : Fin 128) : ℝ := P (ix2 r ⟨3072 + h.val * 128 + k.val, by omega⟩)
def rowW (W : (⟨2, ![1, 128]⟩ : Shape).Idx → ℝ) (k : Fin 128) : ℝ := W (ix2 0 k)

/-- The head and the lane of a column. -/
def hdc (c : Fin 1024) : Fin 8 := ⟨c.val / 128, by omega⟩
def lnc (c : Fin 1024) : Fin 128 := ⟨c.val % 128, by omega⟩

end Rows

end Cert.Post

end
-- ==== Proof.PostKernel.lean ====
/- The gated norm's backward kernel, at the extended reals: its three result arrays on real arguments. -/
module

public import proofs.«01_k».proof.Proof.PostSpec
public import proofs.«01_k».proof.Proof.Gen.KPostIdeal.Value
public import Idealize.ShloMosaic.Lib.Pipeline.ValueKit

@[expose] public section

set_option maxRecDepth 16384

noncomputable section

namespace Cert.Post.Kernel

open Idealize.ShloMosaic Idealize.ShloMosaic.TcCoe Idealize.SL.Sem
open Idealize.ShloMosaic.Pipeline (Dat)
open Cert.KPostIdeal Cert.KPostIdeal.Gen Cert.Lift

section Payloads

variable (v0 v1 v2 : S1024x128.Idx → ℝ) (v3 : S1x128.Idx → ℝ)

theorem pay_inv (a : Fin 1024) : k0_pay4 (F := Ideal) (up v1) (ix2 a 0) = ((inv fun k => v1 (ix2 a k) : ℝ) : EReal) := by
  pointwise [k0_pay4, up_apply]
  simp only [lit_128, eps_coe, ← EReal.coe_mul, coe_sum, div_coe _ (show (128 : ℝ) ≠ 0 by norm_num), ← EReal.coe_add]
  exact rsqrt_coe (ms_pos fun k => v1 (ix2 a k))

theorem pay_xhat (a : Fin 1024) (b : Fin 128) :
    k0_pay5 (F := Ideal) (up v1) (ix2 a b) = ((v1 (ix2 a b) * inv fun k => v1 (ix2 a k) : ℝ) : EReal) := by
  pointwise [k0_pay5, pay_inv, up_apply]
  rw [EReal.coe_mul]

theorem pay_sg (a : Fin 1024) (b : Fin 128) :
    k0_pay6 (F := Ideal) (up v2) (ix2 a b) = ((sg (v2 (ix2 a b)) : ℝ) : EReal) := by
  pointwise [k0_pay6, up_apply]
  rw [zero_coe, one_coe, ← EReal.coe_sub, Ideal.exp_coe, ← EReal.coe_add, div_coe _ (one_add_exp_ne _)]; rfl

theorem pay_do (a : Fin 1024) (b : Fin 128) :
    k0_pay1 (F := Ideal) (k0_pay4 (up v1)) (k0_pay5 (up v1)) (k0_pay9 (up v0) (up v2) (up v3)) (k0_pay10 (up v0) (up v1) (up v2) (up v3)) (ix2 a b)
      = ((gradO (fun k => v0 (ix2 a k)) (fun k => v1 (ix2 a k)) (fun k => v2 (ix2 a k)) (fun k => v3 (ix2 0 k)) b : ℝ) : EReal) := by
  pointwise [k0_pay1, k0_pay9, k0_pay10, k0_pay8, pay_inv, pay_xhat, pay_sg, up_apply]
  simp only [lit_128, ← EReal.coe_mul, coe_sum, div_coe _ (show (128 : ℝ) ≠ 0 by norm_num), ← EReal.coe_sub]
  rfl

theorem pay_dz (a : Fin 1024) (b : Fin 128) :
    k0_pay7 (F := Ideal) (up v0) (up v1) (up v2) (up v3) (ix2 a b)
      = ((gradZ (fun k => v0 (ix2 a k)) (fun k => v1 (ix2 a k)) (fun k => v2 (ix2 a k)) (fun k => v3 (ix2 0 k)) b : ℝ) : EReal) := by
  pointwise [k0_pay7, pay_xhat, pay_sg, up_apply]
  simp only [one_coe, ← EReal.coe_mul, ← EReal.coe_sub, ← EReal.coe_add]
  rfl

theorem pay_dw (b : Fin 128) :
    k0_pay2 (F := Ideal) (k0_pay5 (up v1)) (k0_pay8 (up v0) (up v2)) (ix2 0 b)
      = ((∑ a : Fin 1024, gradW (fun k => v0 (ix2 a k)) (fun k => v1 (ix2 a k)) (fun k => v2 (ix2 a k)) b : ℝ) : EReal) := by
  pointwise [k0_pay2, k0_pay8, pay_xhat, pay_sg, up_apply]
  simp only [← EReal.coe_mul, coe_sum]
  rfl

end Payloads

section Arrays

variable (m : (ℓ : Loc nD τ sig) → Buf (Elt Ideal) ℓ) (c : Dev nD)

/-- The arguments, as extended reals and as the reals they are. -/
def argD : S2048x2048.Idx → EReal := m ((c : Thread nD τ).loc main_arg0)
def argO : S2048x1024.Idx → EReal := m ((c : Thread nD τ).loc main_arg1)
def argP : S2048x4096.Idx → EReal := m ((c : Thread nD τ).loc main_arg2)
def argW : S1x128.Idx → EReal := m ((c : Thread nD τ).loc main_arg3)

/-- Every argument is of reals. -/
structure Fin4 : Prop where
  d : IsReal (argD m c)
  o : IsReal (argO m c)
  p : IsReal (argP m c)
  w : IsReal (argW m c)

theorem idx : ∀ t : Fin cfg0.N, win0_0.index t = ![t.val / 8, t.val % 8] ∧ win0_1.index t = ![t.val / 8, t.val % 8]
    ∧ win0_2.index t = ![t.val / 8, 24 + t.val % 8] ∧ win0_3.index t = ![0, 0] ∧ win0_4.index t = ![t.val / 8, t.val % 8]
    ∧ win0_5.index t = ![t.val / 8, t.val % 8] ∧ win0_6.index t = ![0, 0] :=
  (by decide +kernel : ∀ t : Fin grid0.N, _)

theorem lt16 (t : Fin cfg0.N) : t.val < 16 := Nat.lt_of_lt_of_eq t.isLt N_0

/-- The row of the array that row `a` of point `t`'s blocks is, and the column. -/
def row (t : Fin cfg0.N) (a : Fin 1024) : Fin 2048 := ⟨t.val / 8 * 1024 + a.val, by have := lt16 t; omega⟩
def hd (t : Fin cfg0.N) : Fin 8 := ⟨t.val % 8, by omega⟩

variable {m c}

theorem blk0 (h : Fin4 m c) (t : Fin cfg0.N) :
    iblk m c 0 t = up (s := S1024x128) (fun y => rowD (re (argD m c)) (row t (y 0)) (hd t) (y 1)) := by
  funext y
  idx_vars y
  simp only [up_apply, rowD, ← h.d.eq]
  blk_ext [iblk, V, argD, row, hd, idx t]

theorem blk1 (h : Fin4 m c) (t : Fin cfg0.N) :
    iblk m c 1 t = up (s := S1024x128) (fun y => rowO (re (argO m c)) (row t (y 0)) (hd t) (y 1)) := by
  funext y
  idx_vars y
  simp only [up_apply, rowO, ← h.o.eq]
  blk_ext [iblk, V, argO, row, hd, idx t]

theorem blk2 (h : Fin4 m c) (t : Fin cfg0.N) :
    iblk m c 2 t = up (s := S1024x128) (fun y => rowZ (re (argP m c)) (row t (y 0)) (hd t) (y 1)) := by
  funext y
  idx_vars y
  simp only [up_apply, rowZ, ← h.p.eq]
  blk_ext [iblk, V, argP, row, hd, idx t]

theorem blk3 (h : Fin4 m c) (t : Fin cfg0.N) :
    iblk m c 3 t = up (s := S1x128) (fun y => rowW (re (argW m c)) (y 1)) := by
  funext y
  idx_vars y
  simp only [up_apply, rowW, ← h.w.eq]
  blk_ext [iblk, V, argW, row, hd, idx t]

/-- What the result arrays hold, as arrays of reals. -/
def outO (m : (ℓ : Loc nD τ sig) → Buf (Elt Ideal) ℓ) (c : Dev nD) : S2048x1024.Idx → EReal := fun i =>
  ((gradO (rowD (re (argD m c)) (i 0) (hdc (i 1))) (rowO (re (argO m c)) (i 0) (hdc (i 1))) (rowZ (re (argP m c)) (i 0) (hdc (i 1)))
    (rowW (re (argW m c))) (lnc (i 1)) : ℝ) : EReal)
def outZ (m : (ℓ : Loc nD τ sig) → Buf (Elt Ideal) ℓ) (c : Dev nD) : S2048x1024.Idx → EReal := fun i =>
  ((gradZ (rowD (re (argD m c)) (i 0) (hdc (i 1))) (rowO (re (argO m c)) (i 0) (hdc (i 1))) (rowZ (re (argP m c)) (i 0) (hdc (i 1)))
    (rowW (re (argW m c))) (lnc (i 1)) : ℝ) : EReal)
def partW (m : (ℓ : Loc nD τ sig) → Buf (Elt Ideal) ℓ) (c : Dev nD) (r : Fin 2048) (h : Fin 8) (k : Fin 128) : ℝ :=
  gradW (rowD (re (argD m c)) r h) (rowO (re (argO m c)) r h) (rowZ (re (argP m c)) r h) k
def outW (m : (ℓ : Loc nD τ sig) → Buf (Elt Ideal) ℓ) (c : Dev nD) : S1x128.Idx → EReal := fun i =>
  ((∑ r : Fin 2048, ∑ h : Fin 8, partW m c r h (i 1) : ℝ) : EReal)

/-- The two columns of a point's block: its head and the lane. -/
theorem hdc_blk (t : Fin cfg0.N) (b : Fin 128) (hb : t.val % 8 * 128 + b.val < 1024) :
    hdc ⟨t.val % 8 * 128 + b.val, hb⟩ = hd t := Fin.ext (by show (t.val % 8 * 128 + b.val) / 128 = t.val % 8; omega)
theorem lnc_blk (t : Fin cfg0.N) (b : Fin 128) (hb : t.val % 8 * 128 + b.val < 1024) :
    lnc ⟨t.val % 8 * 128 + b.val, hb⟩ = b := Fin.ext (by show (t.val % 8 * 128 + b.val) % 128 = b.val; omega)

theorem case01 (t : Fin cfg0.N) : (t.val % 16 = 0 ∧ ¬ 1 ≤ t.val) ∨ (¬ t.val % 16 = 0 ∧ 1 ≤ t.val) := by
  have := lt16 t; omega

/-- What a point leaves in the blocks of the first two results, whichever case it is. -/
theorem point4 (h : Fin4 m c) (t : Fin cfg0.N) (a : Fin 1024) (b : Fin 128) :
    ((outsAt0 m c t.val t.isLt).1 : S1024x128.Idx → EReal) (ix2 a b)
      = outO m c (ix2 (row t a) ⟨t.val % 8 * 128 + b.val, by omega⟩) := by
  simp only [outO, ix2_0, ix2_1, hdc_blk, lnc_blk]
  rcases case01 t with ⟨h0, h1⟩ | ⟨h0, h1⟩
  · rw [outsAt0_A m c t h0 h1]
    frame_out
    rw [blk0 h, blk1 h, blk2 h, blk3 h, pay_do]; rfl
  · rw [outsAt0_B m c t h0 h1]
    frame_out
    rw [blk0 h, blk1 h, blk2 h, blk3 h, pay_do]; rfl

theorem point5 (h : Fin4 m c) (t : Fin cfg0.N) (a : Fin 1024) (b : Fin 128) :
    ((outsAt0 m c t.val t.isLt).2.1 : S1024x128.Idx → EReal) (ix2 a b)
      = outZ m c (ix2 (row t a) ⟨t.val % 8 * 128 + b.val, by omega⟩) := by
  simp only [outZ, ix2_0, ix2_1, hdc_blk, lnc_blk]
  rcases case01 t with ⟨h0, h1⟩ | ⟨h0, h1⟩
  · rw [outsAt0_A m c t h0 h1]
    frame_out
    rw [blk0 h, blk1 h, blk2 h, blk3 h, pay_dz]; rfl
  · rw [outsAt0_B m c t h0 h1]
    frame_out
    rw [blk0 h, blk1 h, blk2 h, blk3 h, pay_dz]; rfl

theorem arr4 (h : Fin4 m c) : (dats m 0 c).arrAt 4 cfg0.N = outO m c := by
  refine (dats m 0 c).arrAt_eq_of_covers 4 _ (by decide +kernel) fun t hf y => ?_
  idx_vars y
  blk_simp
  rw [after0_4, point4 h]
  blk_ext [row, idx t]

theorem arr5 (h : Fin4 m c) : (dats m 0 c).arrAt 5 cfg0.N = outZ m c := by
  refine (dats m 0 c).arrAt_eq_of_covers 5 _ (by decide +kernel) fun t hf y => ?_
  idx_vars y
  blk_simp
  rw [after0_5, point5 h]
  blk_ext [row, idx t]

/-- The part of the weight's gradient that point `t` adds. -/
def termW (m : (ℓ : Loc nD τ sig) → Buf (Elt Ideal) ℓ) (c : Dev nD) (t : Fin cfg0.N) (j : S1x128.Idx) : EReal :=
  ((∑ a : Fin 1024, partW m c (row t a) (hd t) (j 1) : ℝ) : EReal)

theorem pay_dw_blk (h : Fin4 m c) (t : Fin cfg0.N) (j : S1x128.Idx) :
    k0_pay2 (F := Ideal) (k0_pay5 (iblk m c 1 t)) (k0_pay8 (iblk m c 0 t) (iblk m c 2 t)) j = termW m c t j := by
  rw [blk0 h, blk1 h, blk2 h]
  idx_vars j
  obtain rfl : j0 = 0 := Subsingleton.elim _ _
  rw [pay_dw]
  rfl

/-- The points' rows and heads, over the grid, are all of them. -/
theorem sum_points (g : Fin 2048 → Fin 8 → ℝ) :
    (∑ t : Fin cfg0.N, ∑ a : Fin 1024, g (row t a) (hd t)) = ∑ r : Fin 2048, ∑ h : Fin 8, g r h := by
  refine (Fin.sum_divmod_fin 8 (fun (q : Fin 2) (s : Fin 8) => ∑ a : Fin 1024, g ⟨q.val * 1024 + a.val, by omega⟩ s)).trans ?_
  rw [← Fin.sum_mul_add_fin 2 1024 (fun r : Fin 2048 => ∑ h : Fin 8, g r h)]
  exact Finset.sum_congr rfl fun q _ => Finset.sum_comm

theorem arr6 (h : Fin4 m c) : (dats m 0 c).arrAt 6 cfg0.N = outW m c := by
  refine (dats m 0 c).arrAt_eq_of_after_last 6 t0_15 (by decide +kernel) _ fun j => ?_
  blk_simp
  rw [after0_6, Pipeline.eq_sum_fin_of_reset_step_apply_last (fun n hn => (outsAt0 m c n hn).2.2) 16 (fun _ => 0) (termW m c)
    (fun t h0 j => by
      rw [outsAt0_A m c t h0 (by have := lt16 t; omega)]; frame_out; rw [pay_dw_blk h]; exact (zero_add _).symm)
    (fun t h0 j => by
      rw [outsAt0_B m c t h0 (by omega)]; frame_out
      refine Eq.trans ?_ (congrArg _ (pay_dw_blk h t j))
      pointwise [k0_pay3])
    (le_of_eq N_0) t0_15 rfl j, zero_add]
  unfold termW outW
  rw [coe_sum]
  refine congrArg _ ?_
  exact sum_points fun r k => partW m c r k (j 1)

end Arrays

end Cert.Post.Kernel

end
-- ==== Proof.PostRef.lean ====
/- The gated norm's gradient as the reference differentiates it, at the extended reals, on real arguments. -/
module

public import proofs.«01_k».proof.Proof.PostSpec
public import proofs.«01_k».proof.Proof.Gen.RPostIdeal.Read

@[expose] public section

set_option maxRecDepth 16384

noncomputable section

namespace Cert.Post.Ref

open Idealize.ShloMosaic Idealize.ShloMosaic.TcCoe Idealize.SL.Sem
open Cert.RPostIdeal Cert.RPostIdeal.Gen Cert.RPostIdeal.Read Cert.Lift

variable (D : S2048x2048.Idx → ℝ) (O : S2048x1024.Idx → ℝ) (P : S2048x4096.Idx → ℝ) (W : S1x128.Idx → ℝ)

theorem h128 : (128 : ℝ) ≠ 0 := by norm_num

theorem rd_o (r : Fin 2048) (h : Fin 8) (k : Fin 128) :
    val_main_v3 (F := Ideal) (up O) (ix4 0 r h k) = ((rowO O r h k : ℝ) : EReal) := by
  pointwise [val_main_v3, up_apply]; rfl

theorem rd_d (r : Fin 2048) (h : Fin 8) (k : Fin 128) :
    val_main_v26 (F := Ideal) (up D) (ix4 0 r h k) = ((rowD D r h k : ℝ) : EReal) := by
  pointwise [val_main_v26, val_main_v25, val_main_v24, up_apply]; rfl

theorem rd_z (r : Fin 2048) (h : Fin 8) (k : Fin 128) :
    val_main_v20 (F := Ideal) (up P) (ix4 0 r h k) = ((rowZ P r h k : ℝ) : EReal) := by
  pointwise [val_main_v20, val_main_v1, val_main_v0, up_apply]
  simp only [rowZ, Nat.add_assoc]

theorem rd_ms (r : Fin 2048) (h : Fin 8) :
    val_main_v10 (F := Ideal) (up O) (ix4 0 r h 0) = ((ms (rowO O r h) : ℝ) : EReal) := by
  pointwise [val_main_v10, val_main_v9, val_main_v8, val_main_v7, val_main_v6, val_main_v5, val_main_v4, val_main_cst, val_main_cst_0,
    val_main_cst_1, rd_o]
  simp only [lit_128, eps_coe, zero_coe, ← EReal.coe_mul, coe_sum, ← EReal.coe_add, div_coe _ h128]
  rw [ms]

theorem rd_inv (r : Fin 2048) (h : Fin 8) :
    val_main_v11 (F := Ideal) (up O) (ix4 0 r h 0) = ((inv (rowO O r h) : ℝ) : EReal) := by
  pointwise [val_main_v11, rd_ms]
  exact rsqrt_coe (ms_pos _)

theorem rd_sg (r : Fin 2048) (h : Fin 8) (k : Fin 128) :
    val_main_v21_2 (F := Ideal) (up P) (ix4 0 r h k) = ((sg (rowZ P r h k) : ℝ) : EReal) := by
  pointwise [val_main_v21_2, val_main_call0_v4, val_main_call0_v3, val_main_call0_v2, val_main_call0_v1, val_main_call0_v0,
    val_main_call0_cst, val_main_call0_cst_0, rd_z]
  rw [one_coe, ← EReal.coe_neg, Ideal.exp_coe, ← EReal.coe_add, div_coe _ (one_add_exp_ne _), sg, zero_sub]

theorem rd_w (r : Fin 2048) (h : Fin 8) (k : Fin 128) :
    val_main_v34 (F := Ideal) (up W) (ix4 0 r h k) = ((rowW W k : ℝ) : EReal) := by
  pointwise [val_main_v34, val_main_v17, val_main_v2, up_apply]; rfl

theorem rd_w' (r : Fin 2048) (h : Fin 8) (k : Fin 128) :
    val_main_v18 (F := Ideal) (up W) (ix4 0 r h k) = ((rowW W k : ℝ) : EReal) := by
  pointwise [val_main_v18, val_main_v17, val_main_v2, up_apply]; rfl

theorem rd_silu (r : Fin 2048) (h : Fin 8) (k : Fin 128) :
    val_main_v21_0 (F := Ideal) (up P) (ix4 0 r h k) = ((rowZ P r h k * sg (rowZ P r h k) : ℝ) : EReal) := by
  pointwise [val_main_v21_0, rd_z, rd_sg]
  rw [EReal.coe_mul]

theorem rd_dxh (r : Fin 2048) (h : Fin 8) (k : Fin 128) :
    val_main_v35 (F := Ideal) (up D) (up P) (up W) (ix4 0 r h k)
      = ((dxh (rowD D r h) (rowZ P r h) (rowW W) k : ℝ) : EReal) := by
  pointwise [val_main_v35, val_main_v28, rd_d, rd_silu, rd_w]
  simp only [← EReal.coe_mul]; rfl

/-- The sum over the two unit axes of the reference's broadcast is its one term. -/
theorem rd_unit (x : FVec Ideal S1x2048x8x1 .f32) (y : FVec Ideal S_ .f32) (r : Fin 2048) (h : Fin 8) :
    Host.reduceAdd x y reducesTo_S1x2048x8x1_S2048x8_d0_3 h_S_ (ix2 r h) = y (Shape.Idx.first h_S_) + x (ix4 0 r h 0) := by
  refine hostReduceAdd_unit _ x _ _ _ fun i => ?_
  idx_vars i
  have d0 := reducesTo_S1x2048x8x1_S2048x8_d0_3.drop_apply_val_of_eq (ix4 i0 i1 i2 i3) 0 1
  have d1 := reducesTo_S1x2048x8x1_S2048x8_d0_3.drop_apply_val_of_eq (ix4 i0 i1 i2 i3) 1 2
  obtain rfl : i0 = 0 := Subsingleton.elim _ _
  obtain rfl : i3 = 0 := Subsingleton.elim _ _
  constructor
  · intro e
    rw [e] at d0 d1
    rw [show r = i1 from Fin.ext d0, show h = i2 from Fin.ext d1]
  · intro e
    have e1 : i1 = r := congrFun e 1
    have e2 : i2 = h := congrFun e 2
    subst e1 e2
    exact funext fun a => Fin.ext (by match a with | ⟨0, _⟩ => exact d0 | ⟨1, _⟩ => exact d1)

theorem rd_unit3 (x : FVec Ideal S1x1x1x128 .f32) (y : FVec Ideal S_ .f32) (k : Fin 128) :
    Host.reduceAdd x y reducesTo_S1x1x1x128_S128_d0_1_2 h_S_ (ix1 k) = y (Shape.Idx.first h_S_) + x (ix4 0 0 0 k) := by
  refine hostReduceAdd_unit _ x _ _ _ fun i => ?_
  idx_vars i
  have d0 := reducesTo_S1x1x1x128_S128_d0_1_2.drop_apply_val_of_eq (ix4 i0 i1 i2 i3) 0 3
  obtain rfl : i0 = 0 := Subsingleton.elim _ _
  obtain rfl : i1 = 0 := Subsingleton.elim _ _
  obtain rfl : i2 = 0 := Subsingleton.elim _ _
  constructor
  · intro e
    rw [e] at d0
    rw [show k = i3 from Fin.ext d0]
  · intro e
    have e1 : i3 = k := congrFun e 3
    subst e1
    exact funext fun a => Fin.ext (by match a with | ⟨0, _⟩ => exact d0)

theorem rd_pair (x : FVec Ideal S1x2048x8x128 .f32) (y : FVec Ideal S_ .f32) (k : Fin 128) :
    Host.reduceAdd x y reducesTo_S1x2048x8x128_S1x128_d1_2 h_S_ (ix2 0 k)
      = y (Shape.Idx.first h_S_) + ∑ q : Fin 2048 × Fin 8, x (ix4 0 q.1 q.2 k) := by
  refine hostReduceAdd_list _ x _ _ (fun q : Fin 2048 × Fin 8 => (ix4 0 q.1 q.2 k : S1x2048x8x128.Idx)) (fun p q e => ?_) fun i => ?_
  · exact Prod.ext (congrFun e 1) (congrFun e 2)
  · idx_vars i
    have d0 := reducesTo_S1x2048x8x128_S1x128_d1_2.drop_apply_val_of_eq (ix4 i0 i1 i2 i3) 0 0
    have d1 := reducesTo_S1x2048x8x128_S1x128_d1_2.drop_apply_val_of_eq (ix4 i0 i1 i2 i3) 1 3
    obtain rfl : i0 = 0 := Subsingleton.elim _ _
    constructor
    · intro e
      rw [e] at d1
      exact ⟨(i1, i2), by rw [show k = i3 from Fin.ext d1]⟩
    · rintro ⟨q, e⟩
      have e3 : k = i3 := congrFun e 3
      subst e3
      exact funext fun a => Fin.ext (by match a with | ⟨0, _⟩ => exact d0 | ⟨1, _⟩ => exact d1)

theorem rd_dms (r : Fin 2048) (h : Fin 8) :
    val_main_v45 (F := Ideal) (up D) (up O) (up P) (up W) (ix2 r h)
      = (((∑ l, rowO O r h l * dxh (rowD D r h) (rowZ P r h) (rowW W) l) * (-(1 / 2) * (inv (rowO O r h) / ms (rowO O r h))) / 128 : ℝ) : EReal) := by
  unfold val_main_v45
  rw [rd_unit]
  pointwise [val_main_v44, val_main_v43, val_main_v42, val_main_v39, val_main_v38, val_main_v37, val_main_v14, val_main_v13, val_main_v12,
    val_main_cst_2, val_main_cst_5, val_main_cst_6, val_main_cst_7, rd_o, rd_dxh, rd_inv, rd_ms]
  simp only [lit_128, lit_neg_half, zero_coe, ← EReal.coe_mul, coe_sum, ← EReal.coe_add, div_coe _ h128, div_coe _ (ms_pos _).ne', zero_add]

theorem rd_do (r : Fin 2048) (c : Fin 1024) :
    val_main_v52 (F := Ideal) (up D) (up O) (up P) (up W) (ix2 r c)
      = ((gradO (rowD D r (hdc c)) (rowO O r (hdc c)) (rowZ P r (hdc c)) (rowW W) (lnc c) : ℝ) : EReal) := by
  rw [gradO_eq]
  pointwise [val_main_v52, val_main_v51, val_main_v50, val_main_v49, val_main_v48, val_main_v47, val_main_v46, val_main_v41, val_main_v40,
    rd_o, rd_dxh, rd_inv, rd_dms]
  simp only [← EReal.coe_mul, ← EReal.coe_add]
  rfl

theorem rd_dz (r : Fin 2048) (c : Fin 1024) :
    val_main_v54 (F := Ideal) (up D) (up O) (up P) (up W) (ix2 r c)
      = ((gradZ (rowD D r (hdc c)) (rowO O r (hdc c)) (rowZ P r (hdc c)) (rowW W) (lnc c) : ℝ) : EReal) := by
  pointwise [val_main_v54, val_main_v53, val_main_v30, val_main_v29, val_main_call1_v2, val_main_call1_v1, val_main_call1_v0, val_main_v27, val_main_v19, val_main_v16,
    val_main_v15, val_main_v21_1, val_main_call0_v7, val_main_call0_v6, val_main_call0_cst_1, rd_d, rd_o, rd_inv, rd_sg, rd_z, rd_w']
  simp only [one_coe, ← EReal.coe_mul, ← EReal.coe_add, ← EReal.coe_sub]
  rw [gradZ, EReal.coe_eq_coe_iff]
  simp only [hdc, lnc]
  ring

theorem rd_dw (k : Fin 128) :
    val_main_v55 (F := Ideal) (up D) (up O) (up P) (ix2 0 k)
      = ((∑ r : Fin 2048, ∑ h : Fin 8, gradW (rowD D r h) (rowO O r h) (rowZ P r h) k : ℝ) : EReal) := by
  pointwise [val_main_v55]
  unfold val_main_v36
  rw [rd_unit3]
  pointwise [val_main_v33]
  unfold val_main_v32
  rw [rd_pair]
  pointwise [val_main_v31, val_main_v28, val_main_v16, val_main_v15, val_main_cst_3, val_main_cst_4, rd_d, rd_o, rd_inv, rd_silu]
  simp only [zero_add, ← EReal.coe_mul, coe_sum, Fintype.sum_prod_type]
  refine congrArg _ (Finset.sum_congr rfl fun r _ => Finset.sum_congr rfl fun h _ => ?_)
  rw [gradW]; ring

end Cert.Post.Ref

end
-- ==== Proof.PostClaim.lean ====
/- The gated norm's backward call computes the gradient of its forward lines: the two programs' results agree. -/
module

public import proofs.«01_k».proof.Defs
public import proofs.«01_k».proof.Proof.PostKernel
public import proofs.«01_k».proof.Proof.PostRef
public import Idealize.ShloMosaic.Lib.Claim

@[expose] public section

set_option maxRecDepth 16384

noncomputable section

namespace Cert.Post

open Idealize.ShloMosaic Idealize.ShloMosaic.TcCoe Idealize.SL.Sem Cert.Lift

theorem facts : Cert.Pre_finite_post.Facts := ⟨by decide, by decide, by decide, by decide⟩

/-- The reference's run: its arguments unchanged, and no counter to return, since it has none. -/
theorem ref_frame : Cert.quiescent_RPostIdeal := fun m g _ =>
  (θ_run _ _ _).mono (fun r h => ⟨fun c => (h c).2.2.2, sem_eq_zero_of_no_sems (by decide) r.2⟩) (Cert.RPostIdeal.Value.run m g)

/-- The precondition, read at the extended reals: every argument is of reals. -/
theorem fin4 [Cert.Pre_finite_post.Facts] {m : (ℓ : Loc Cert.KPostIdeal.nD Cert.KPostIdeal.τ Cert.KPostIdeal.sig) → Buf (Elt Ideal) ℓ}
    (h : Pre_KPostIdeal_finite_post m) (c : Dev Cert.KPostIdeal.nD) : Kernel.Fin4 m c :=
  ⟨isReal_of_cmp _ _ (fun _ => lit_top) (h c).1, isReal_of_cmp _ _ (fun _ => lit_top) (h c).2.1,
    isReal_of_cmp _ _ (fun _ => lit_top) (h c).2.2.1, isReal_of_cmp _ _ (fun _ => lit_top) (h c).2.2.2⟩

section
open Cert.RPostIdeal Cert.RPostIdeal.Gen Cert.RPostIdeal.Read
variable (D : S2048x2048.Idx → EReal) (O : S2048x1024.Idx → EReal) (P : S2048x4096.Idx → EReal) (W : S1x128.Idx → EReal)
  (hD : IsReal D) (hO : IsReal O) (hP : IsReal P) (hW : IsReal W)
include hD hO hP

theorem ref_dw : val_main_v55 (F := Ideal) D O P
    = fun i => ((∑ r : Fin 2048, ∑ h : Fin 8, gradW (rowD (re D) r h) (rowO (re O) r h) (rowZ (re P) r h) (i 1) : ℝ) : EReal) := by
  funext i
  idx_vars i
  obtain rfl : i0 = 0 := Subsingleton.elim _ _
  have e := Ref.rd_dw (re D) (re O) (re P) i1
  rw [← hD.up_re, ← hO.up_re, ← hP.up_re] at e
  exact e

include hW

theorem ref_do : val_main_v52 (F := Ideal) D O P W
    = fun i => ((gradO (rowD (re D) (i 0) (hdc (i 1))) (rowO (re O) (i 0) (hdc (i 1))) (rowZ (re P) (i 0) (hdc (i 1))) (rowW (re W)) (lnc (i 1)) : ℝ) : EReal) := by
  funext i
  idx_vars i
  have e := Ref.rd_do (re D) (re O) (re P) (re W) i0 i1
  rw [← hD.up_re, ← hO.up_re, ← hP.up_re, ← hW.up_re] at e
  exact e

theorem ref_dz : val_main_v54 (F := Ideal) D O P W
    = fun i => ((gradZ (rowD (re D) (i 0) (hdc (i 1))) (rowO (re O) (i 0) (hdc (i 1))) (rowZ (re P) (i 0) (hdc (i 1))) (rowW (re W)) (lnc (i 1)) : ℝ) : EReal) := by
  funext i
  idx_vars i
  have e := Ref.rd_dz (re D) (re O) (re P) (re W) i0 i1
  rw [← hD.up_re, ← hO.up_re, ← hP.up_re, ← hW.up_re] at e
  exact e

end

theorem algebraic [Cert.Pre_finite_post.Facts] : Cert.algebraic_KPostIdeal_RPostIdeal_pre_finite_post := by
  intro m g m' g' hpre hagree
  refine ⟨fun c => Kernel.outO m c, fun c => Kernel.outZ m c, fun c => Kernel.outW m c, ?_, ?_⟩
  · refine (θ_run _ _ _).mono (fun r h c => ?_) (Cert.KPostIdeal.Value.run_blocks m g)
    obtain ⟨h4, h5, h6, ha⟩ := h c
    exact ⟨h4.trans (Kernel.arr4 (fin4 hpre c)), h5.trans (Kernel.arr5 (fin4 hpre c)), h6.trans (Kernel.arr6 (fin4 hpre c)), ha⟩
  · refine (θ_run _ _ _).mono (fun r h c => ?_) (Cert.RPostIdeal.Value.run m' g')
    obtain ⟨h1, h2, h3, ha⟩ := h c
    obtain ⟨f0, f1, f2, f3⟩ := fin4 hpre c
    obtain ⟨e0, e1, e2, e3⟩ := hagree c
    refine ⟨h1.trans ?_, h2.trans ?_, h3.trans ?_, ha⟩
    · rw [Cert.RPostIdeal.Read.val_main_v52_eq, e0, e1, e2, e3]
      exact ref_do _ _ _ _ f0 f1 f2 f3
    · rw [Cert.RPostIdeal.Read.val_main_v54_eq, e0, e1, e2, e3]
      exact ref_dz _ _ _ _ f0 f1 f2 f3
    · refine (Cert.RPostIdeal.Read.val_main_v55_eq _ _ _).symm.trans ?_
      rw [e0, e1, e2]
      exact ref_dw _ _ _ f0 f1 f2

end Cert.Post

end
-- ==== Proof.XattnSpec.lean ====
/- Attention's gradient for one head, over real queries and keys and any values and cotangents: as the kernel computes it from
   the probabilities, and as the reference's differentiated softmax does. -/
module

public import proofs.«01_k».proof.Proof.Lift

@[expose] public section

noncomputable section

namespace Cert.Xattn

open Idealize.ShloMosaic Cert.Lift

/-- The scores' scale, as the real its word is. -/
def scale : ℝ := (Ideal.ofBits .f32 0x3D3504F3#32).toReal

theorem scale_coe : Ideal.ofBits .f32 0x3D3504F3#32 = (scale : EReal) := by
  unfold scale
  simp [Ideal.ofBits, Ideal.ieee, -EReal.coe_mul]

theorem lit_bot : Ideal.ofBits .f32 0xFF800000#32 = (⊥ : EReal) := by
  simp [Ideal.ofBits, Ideal.ieee]

/-- A row's largest score. -/
def top (s : Fin 256 → ℝ) : ℝ := ((Finset.univ : Finset (Fin 256)).fold max (⊥ : EReal) fun m => (s m : EReal)).toReal

theorem top_coe (s : Fin 256 → ℝ) :
    (Finset.univ : Finset (Fin 256)).fold max (⊥ : EReal) (fun m => (s m : EReal)) = (top s : EReal) := by
  refine (EReal.coe_toReal (ne_of_lt ?_) (ne_of_gt ?_)).symm
  · rw [Finset.fold_max_lt]
    exact ⟨bot_lt_top, fun m _ => EReal.coe_lt_top _⟩
  · rw [Finset.lt_fold_max]
    exact Or.inr ⟨0, Finset.mem_univ _, EReal.bot_lt_coe _⟩

def ex (s : Fin 256 → ℝ) (m : Fin 256) : ℝ := Real.exp (s m - top s)
def den (s : Fin 256 → ℝ) : ℝ := ∑ m, ex s m
/-- The row's probabilities. -/
def pr (s : Fin 256 → ℝ) (m : Fin 256) : ℝ := ex s m / den s

theorem den_pos (s : Fin 256 → ℝ) : 0 < den s :=
  Finset.sum_pos (fun _ _ => Real.exp_pos _) Finset.univ_nonempty

/-- The scores' gradient, from the probabilities' cotangent `g`. -/
def ds (s : Fin 256 → ℝ) (g : Fin 256 → EReal) (m : Fin 256) : EReal :=
  (pr s m : EReal) * (g m - ∑ j, g j * (pr s j : EReal)) * (scale : EReal)

/-- A factor that is a real, not negative, moves out of a sum of extended reals. -/
theorem sum_mul_real {ι : Type*} (t : Finset ι) (f : ι → EReal) {r : ℝ} (h : 0 ≤ r) :
    (∑ i ∈ t, f i) * (r : EReal) = ∑ i ∈ t, f i * (r : EReal) := by
  classical
  induction t using Finset.induction with
  | empty => simp
  | insert a t ha ih =>
    rw [Finset.sum_insert ha, Finset.sum_insert ha, ← ih]
    exact EReal.right_distrib_of_nonneg_of_ne_top (by exact_mod_cast h) (EReal.coe_ne_top r) _ _

/-- The reference's gradient through the quotient is the kernel's through the probabilities. -/
theorem ds_eq (s : Fin 256 → ℝ) (g : Fin 256 → EReal) (m : Fin 256) :
    (Ideal.div (g m) (den s : EReal) + -(∑ j, g j * Ideal.div 1 ((den s : EReal) * (den s : EReal)) * (ex s j : EReal)))
      * (ex s m : EReal) * (scale : EReal) = ds s g m := by
  have h0 := (den_pos s).ne'
  have hr : (0 : ℝ) ≤ 1 / den s := (one_div_pos.mpr (den_pos s)).le
  have e : ∀ j, g j * Ideal.div 1 ((den s : EReal) * (den s : EReal)) * (ex s j : EReal)
      = g j * (pr s j : EReal) * ((1 / den s : ℝ) : EReal) := fun j => by
    rw [← EReal.coe_mul, Ideal.div_coe (mul_ne_zero h0 h0), one_mul, mul_assoc, mul_assoc, ← EReal.coe_mul, ← EReal.coe_mul]
    congr 2
    unfold pr
    field_simp
  simp only [e]
  rw [← sum_mul_real _ _ hr, Ideal.div_coe h0, ← neg_mul, ← EReal.right_distrib_of_nonneg_of_ne_top (by exact_mod_cast hr)
    (EReal.coe_ne_top _), mul_assoc _ _ (ex s m : EReal), ← EReal.coe_mul, ← sub_eq_add_neg, one_div_mul_eq_div, ds, mul_comm (pr s m : EReal)]
  rfl

/-- Head `h`'s part of a row of 2048 columns. -/
def col (h : Fin 4) (d : Fin 512) : Fin 2048 := ⟨h.val * 512 + d.val, by omega⟩
def hdc (c : Fin 2048) : Fin 4 := ⟨c.val / 512, by omega⟩
def lnc (c : Fin 2048) : Fin 512 := ⟨c.val % 512, by omega⟩
theorem col_hdc (c : Fin 2048) : col (hdc c) (lnc c) = c := Fin.ext (by simp only [col, hdc, lnc]; omega)

abbrev Tall := Shape.Idx ⟨2, ![2048, 2048]⟩
abbrev Short := Shape.Idx ⟨2, ![256, 2048]⟩

/-- The scores of query row `r` in head `h`. -/
def sc (Q : Tall → ℝ) (K : Short → ℝ) (h : Fin 4) (r : Fin 2048) (m : Fin 256) : ℝ :=
  (∑ d, Q (ix2 r (col h d)) * K (ix2 m (col h d))) * scale
/-- The probabilities' cotangent. -/
def dp (V : Short → EReal) (D : Tall → EReal) (h : Fin 4) (r : Fin 2048) (m : Fin 256) : EReal :=
  ∑ d, D (ix2 r (col h d)) * V (ix2 m (col h d))

def gradQ (Q : Tall → ℝ) (K : Short → ℝ) (V : Short → EReal) (D : Tall → EReal) (h : Fin 4) (r : Fin 2048) (d : Fin 512) : EReal :=
  ∑ m, ds (sc Q K h r) (dp V D h r) m * (K (ix2 m (col h d)) : EReal)
def gradK (Q : Tall → ℝ) (K : Short → ℝ) (V : Short → EReal) (D : Tall → EReal) (h : Fin 4) (m : Fin 256) (d : Fin 512) : EReal :=
  ∑ r, ds (sc Q K h r) (dp V D h r) m * (Q (ix2 r (col h d)) : EReal)
def gradV (Q : Tall → ℝ) (K : Short → ℝ) (D : Tall → EReal) (h : Fin 4) (m : Fin 256) (d : Fin 512) : EReal :=
  ∑ r, (pr (sc Q K h r) m : EReal) * D (ix2 r (col h d))

end Cert.Xattn

end
-- ==== Proof.XattnKernel.lean ====
/- The cross attention's backward kernel, at the extended reals: its three result arrays, for real queries and keys. -/
module

public import proofs.«01_k».proof.Proof.XattnSpec
public import proofs.«01_k».proof.Proof.Gen.KXattnIdeal.Value
public import Idealize.ShloMosaic.Lib.Pipeline.ValueKit
public import Idealize.ShloMosaic.Lib.Pipeline.ReadBack

@[expose] public section

set_option maxRecDepth 16384

noncomputable section

namespace Cert.Xattn.Kernel

open Idealize.ShloMosaic Idealize.ShloMosaic.TcCoe Idealize.SL.Sem
open Idealize.ShloMosaic.Pipeline (Dat)
open Cert.KXattnIdeal Cert.KXattnIdeal.Gen Cert.Lift

section Payloads

variable (v0 : S1024x512.Idx → ℝ) (v1 : S256x512.Idx → ℝ) (v2 : S256x512.Idx → EReal) (v3 : S1024x512.Idx → EReal)

/-- The scores and the probabilities' cotangent of a block's row. -/
def bsc (a : Fin 1024) (m : Fin 256) : ℝ := (∑ d : Fin 512, v0 (ix2 a d) * v1 (ix2 m d)) * scale
def bdp (a : Fin 1024) (m : Fin 256) : EReal := ∑ d : Fin 512, v3 (ix2 a d) * v2 (ix2 m d)

theorem pay_p (a : Fin 1024) (m : Fin 256) :
    k0_pay7 (F := Ideal) (up v0) (up v1) (ix2 a m) = (pr (bsc v0 v1 a) m : EReal) := by
  pointwise [k0_pay7, up_apply]
  simp only [scale_coe, lit_bot, ← EReal.coe_mul, coe_sum]
  change Ideal.div (Ideal.exp ((bsc v0 v1 a m : EReal) - Finset.fold max ⊥ (fun j => (bsc v0 v1 a j : EReal)) _))
    (∑ j, Ideal.exp ((bsc v0 v1 a j : EReal) - Finset.fold max ⊥ (fun j => (bsc v0 v1 a j : EReal)) _)) = _
  simp only [top_coe, ← EReal.coe_sub, Ideal.exp_coe, coe_sum]
  exact div_coe _ (den_pos (bsc v0 v1 a)).ne'

theorem pay_ds (a : Fin 1024) (m : Fin 256) :
    k0_pay8 (F := Ideal) (up v0) (up v1) v2 v3 (ix2 a m) = ds (bsc v0 v1 a) (bdp v2 v3 a) m := by
  pointwise [k0_pay8, pay_p, up_apply]
  simp only [scale_coe]
  rfl

theorem pay_dq (a : Fin 1024) (d : Fin 512) :
    k0_pay9 (F := Ideal) (up v0) (up v1) v2 v3 (ix2 a d) = ∑ m, ds (bsc v0 v1 a) (bdp v2 v3 a) m * (v1 (ix2 m d) : EReal) := by
  pointwise [k0_pay9, pay_ds, up_apply]

theorem pay_dv (m : Fin 256) (d : Fin 512) :
    k0_pay10 (F := Ideal) (up v0) (up v1) v3 (ix2 m d) = ∑ a, (pr (bsc v0 v1 a) m : EReal) * v3 (ix2 a d) := by
  pointwise [k0_pay10, pay_p]

theorem pay_dk (m : Fin 256) (d : Fin 512) :
    k0_pay11 (F := Ideal) (up v0) (up v1) v2 v3 (ix2 m d) = ∑ a, ds (bsc v0 v1 a) (bdp v2 v3 a) m * (v0 (ix2 a d) : EReal) := by
  pointwise [k0_pay11, pay_ds, up_apply]

end Payloads

section Arrays

variable (m : (ℓ : Loc nD τ sig) → Buf (Elt Ideal) ℓ) (c : Dev nD)

/-- The arguments. -/
def argQ : S2048x2048.Idx → EReal := m ((c : Thread nD τ).loc main_arg0)
def argK : S256x2048.Idx → EReal := m ((c : Thread nD τ).loc main_arg1)
def argV : S256x2048.Idx → EReal := m ((c : Thread nD τ).loc main_arg2)
def argD : S2048x2048.Idx → EReal := m ((c : Thread nD τ).loc main_arg3)

/-- The queries and the keys are of reals. -/
structure Fin2 : Prop where
  q : IsReal (argQ m c)
  k : IsReal (argK m c)

theorem idx : ∀ t : Fin cfg0.N, win0_0.index t = ![t.val % 2, t.val / 2] ∧ win0_1.index t = ![0, t.val / 2]
    ∧ win0_2.index t = ![0, t.val / 2] ∧ win0_3.index t = ![t.val % 2, t.val / 2] ∧ win0_4.index t = ![t.val % 2, t.val / 2]
    ∧ win0_5.index t = ![0, t.val / 2] ∧ win0_6.index t = ![0, t.val / 2] :=
  (by decide +kernel : ∀ t : Fin grid0.N, _)

theorem lt8 (t : Fin cfg0.N) : t.val < 8 := Nat.lt_of_lt_of_eq t.isLt N_0

/-- The row of the array that row `a` of point `t`'s blocks is, and the head. -/
def row (t : Fin cfg0.N) (a : Fin 1024) : Fin 2048 := ⟨t.val % 2 * 1024 + a.val, by omega⟩
def hd (t : Fin cfg0.N) : Fin 4 := ⟨t.val / 2, by have := lt8 t; omega⟩

variable {m c}

theorem blk0 (h : Fin2 m c) (t : Fin cfg0.N) :
    iblk m c 0 t = up (s := S1024x512) (fun y => re (argQ m c) (ix2 (row t (y 0)) (col (hd t) (y 1)))) := by
  funext y
  idx_vars y
  simp only [up_apply, ← h.q.eq]
  blk_ext [iblk, V, argQ, row, col, hd, idx t]

theorem blk1 (h : Fin2 m c) (t : Fin cfg0.N) :
    iblk m c 1 t = up (s := S256x512) (fun y => re (argK m c) (ix2 (y 0) (col (hd t) (y 1)))) := by
  funext y
  idx_vars y
  simp only [up_apply, ← h.k.eq]
  blk_ext [iblk, V, argK, row, col, hd, idx t]

theorem blk2 (t : Fin cfg0.N) :
    iblk m c 2 t = (fun y => argV m c (ix2 (y 0) (col (hd t) (y 1))) : S256x512.Idx → EReal) := by
  funext y
  idx_vars y
  blk_ext [iblk, V, argV, row, col, hd, idx t]

theorem blk3 (t : Fin cfg0.N) :
    iblk m c 3 t = (fun y => argD m c (ix2 (row t (y 0)) (col (hd t) (y 1))) : S1024x512.Idx → EReal) := by
  funext y
  idx_vars y
  blk_ext [iblk, V, argD, row, col, hd, idx t]

/-- What the result arrays hold. -/
def outQ (m : (ℓ : Loc nD τ sig) → Buf (Elt Ideal) ℓ) (c : Dev nD) : S2048x2048.Idx → EReal := fun i =>
  gradQ (re (argQ m c)) (re (argK m c)) (argV m c) (argD m c) (hdc (i 1)) (i 0) (lnc (i 1))
def outK (m : (ℓ : Loc nD τ sig) → Buf (Elt Ideal) ℓ) (c : Dev nD) : S256x2048.Idx → EReal := fun i =>
  gradK (re (argQ m c)) (re (argK m c)) (argV m c) (argD m c) (hdc (i 1)) (i 0) (lnc (i 1))
def outV (m : (ℓ : Loc nD τ sig) → Buf (Elt Ideal) ℓ) (c : Dev nD) : S256x2048.Idx → EReal := fun i =>
  gradV (re (argQ m c)) (re (argK m c)) (argD m c) (hdc (i 1)) (i 0) (lnc (i 1))

theorem hdc_blk (t : Fin cfg0.N) (b : Fin 512) (hb : t.val / 2 * 512 + b.val < 2048) :
    hdc ⟨t.val / 2 * 512 + b.val, hb⟩ = hd t := Fin.ext (by show (t.val / 2 * 512 + b.val) / 512 = t.val / 2; omega)
theorem lnc_blk (t : Fin cfg0.N) (b : Fin 512) (hb : t.val / 2 * 512 + b.val < 2048) :
    lnc ⟨t.val / 2 * 512 + b.val, hb⟩ = b := Fin.ext (by show (t.val / 2 * 512 + b.val) % 512 = b.val; omega)

/-- Point `t`'s parts of the keys' and the values' gradients. -/
def partK (m : (ℓ : Loc nD τ sig) → Buf (Elt Ideal) ℓ) (c : Dev nD) (t : Fin cfg0.N) (k : Fin 256) (d : Fin 512) : EReal :=
  ∑ a, ds (sc (re (argQ m c)) (re (argK m c)) (hd t) (row t a)) (dp (argV m c) (argD m c) (hd t) (row t a)) k
    * (re (argQ m c) (ix2 (row t a) (col (hd t) d)) : EReal)
def partV (m : (ℓ : Loc nD τ sig) → Buf (Elt Ideal) ℓ) (c : Dev nD) (t : Fin cfg0.N) (k : Fin 256) (d : Fin 512) : EReal :=
  ∑ a, (pr (sc (re (argQ m c)) (re (argK m c)) (hd t) (row t a)) k : EReal) * argD m c (ix2 (row t a) (col (hd t) d))

theorem blk_dk (h : Fin2 m c) (t : Fin cfg0.N) (k : Fin 256) (d : Fin 512) :
    k0_pay11 (F := Ideal) (iblk m c 0 t) (iblk m c 1 t) (iblk m c 2 t) (iblk m c 3 t) (ix2 k d) = partK m c t k d := by
  rw [blk0 h, blk1 h, blk2, blk3, pay_dk]; rfl
theorem blk_dv (h : Fin2 m c) (t : Fin cfg0.N) (k : Fin 256) (d : Fin 512) :
    k0_pay10 (F := Ideal) (iblk m c 0 t) (iblk m c 1 t) (iblk m c 3 t) (ix2 k d) = partV m c t k d := by
  rw [blk0 h, blk1 h, blk3, pay_dv]; rfl

theorem point4 (h : Fin2 m c) (t : Fin cfg0.N) (a : Fin 1024) (b : Fin 512) :
    ((outsAt0 m c t.val t.isLt).1 : S1024x512.Idx → EReal) (ix2 a b)
      = outQ m c (ix2 (row t a) ⟨t.val / 2 * 512 + b.val, by have := lt8 t; omega⟩) := by
  simp only [outQ, ix2_0, ix2_1, hdc_blk, lnc_blk]
  rcases Nat.mod_two_eq_zero_or_one t.val with h0 | h0
  · rw [outsAt0_A m c t h0 (by omega) (by omega)]
    frame_out
    rw [blk0 h, blk1 h, blk2, blk3, pay_dq]; rfl
  · rw [outsAt0_B m c t (by omega) h0 h0]
    frame_out
    rw [blk0 h, blk1 h, blk2, blk3, pay_dq]; rfl

theorem arr4 (h : Fin2 m c) : (dats m 0 c).arrAt 4 cfg0.N = outQ m c := by
  refine (dats m 0 c).arrAt_eq_of_covers 4 _ (by decide +kernel) fun t hf y => ?_
  idx_vars y
  blk_simp
  rw [after0_4, point4 h]
  blk_ext [row, idx t]

/-- The kernel's rows are those of an even point and of the odd one after it. -/
theorem sum_rows (t : Fin cfg0.N) (ht : t.val % 2 = 1) (f : Fin 2048 → EReal) :
    ∑ r, f r = ∑ a, f (row ⟨t.val - 1, by omega⟩ a) + ∑ a, f (row t a) := by
  rw [← Fin.sum_mul_add_fin 2 1024 f, Fin.sum_univ_two]
  refine congrArg₂ _ (Finset.sum_congr rfl fun a _ => congrArg f (Fin.ext ?_)) (Finset.sum_congr rfl fun a _ => congrArg f (Fin.ext ?_))
  · show 0 * 1024 + a.val = (t.val - 1) % 2 * 1024 + a.val; omega
  · show 1 * 1024 + a.val = t.val % 2 * 1024 + a.val; omega

theorem point5 (h : Fin2 m c) (t : Fin cfg0.N) (ht : t.val % 2 = 1) (a : Fin 256) (b : Fin 512) :
    ((outsAt0 m c t.val t.isLt).2.1 : S256x512.Idx → EReal) (ix2 a b)
      = outK m c (ix2 a ⟨t.val / 2 * 512 + b.val, by have := lt8 t; omega⟩) := by
  simp only [outK, ix2_0, ix2_1, hdc_blk, lnc_blk]
  have e : hd ⟨t.val - 1, by omega⟩ = hd t := Fin.ext (by show (t.val - 1) / 2 = t.val / 2; omega)
  have e1 := blk_dk h ⟨t.val - 1, by omega⟩ a b
  have e2 := blk_dk h t a b
  rw [outsAt0_B m c t (by omega) ht ht]
  frame_out
  rw [outsAt0_A m c ⟨t.val - 1, by omega⟩ (by show (t.val - 1) % 2 = 0; omega) (by show ¬(t.val - 1) % 2 = 1; omega) (by show ¬(t.val - 1) % 2 = 1; omega)]
  frame_out
  rw [read_unread_whole]
  pointwise [k0_pay5, k0_pay3, k0_pay1]
  rw [e1, e2, partK, partK, e]
  exact (sum_rows t ht fun r => ds (sc (re (argQ m c)) (re (argK m c)) (hd t) r) (dp (argV m c) (argD m c) (hd t) r) a
    * (re (argQ m c) (ix2 r (col (hd t) b)) : EReal)).symm

theorem point6 (h : Fin2 m c) (t : Fin cfg0.N) (ht : t.val % 2 = 1) (a : Fin 256) (b : Fin 512) :
    ((outsAt0 m c t.val t.isLt).2.2.1 : S256x512.Idx → EReal) (ix2 a b)
      = outV m c (ix2 a ⟨t.val / 2 * 512 + b.val, by have := lt8 t; omega⟩) := by
  simp only [outV, ix2_0, ix2_1, hdc_blk, lnc_blk]
  have e : hd ⟨t.val - 1, by omega⟩ = hd t := Fin.ext (by show (t.val - 1) / 2 = t.val / 2; omega)
  have e1 := blk_dv h ⟨t.val - 1, by omega⟩ a b
  have e2 := blk_dv h t a b
  rw [outsAt0_B m c t (by omega) ht ht]
  frame_out
  rw [outsAt0_A m c ⟨t.val - 1, by omega⟩ (by show (t.val - 1) % 2 = 0; omega) (by show ¬(t.val - 1) % 2 = 1; omega) (by show ¬(t.val - 1) % 2 = 1; omega)]
  frame_out
  rw [read_unread_whole]
  pointwise [k0_pay6, k0_pay4, k0_pay2]
  rw [e1, e2, partV, partV, e]
  exact (sum_rows t ht fun r => (pr (sc (re (argQ m c)) (re (argK m c)) (hd t) r) a : EReal) * argD m c (ix2 r (col (hd t) b))).symm

theorem arr5 (h : Fin2 m c) : (dats m 0 c).arrAt 5 cfg0.N = outK m c := by
  refine (dats m 0 c).arrAt_eq_of_covers 5 _ (by decide +kernel) fun t hf y => ?_
  idx_vars y
  blk_simp
  rw [after0_5, point5 h t ((flush0_5 t).mp hf)]
  blk_ext [idx t]

theorem arr6 (h : Fin2 m c) : (dats m 0 c).arrAt 6 cfg0.N = outV m c := by
  refine (dats m 0 c).arrAt_eq_of_covers 6 _ (by decide +kernel) fun t hf y => ?_
  idx_vars y
  blk_simp
  rw [after0_6, point6 h t ((flush0_6 t).mp hf)]
  blk_ext [idx t]

end Arrays

end Cert.Xattn.Kernel

end
-- ==== Proof.XattnRef.lean ====
/- The cross attention's gradient as the reference differentiates it, at the extended reals, for real queries and keys. -/
module

public import proofs.«01_k».proof.Proof.XattnSpec
public import proofs.«01_k».proof.Proof.Gen.RXattnIdeal.Read

@[expose] public section

set_option maxRecDepth 16384

noncomputable section

namespace Cert.Xattn.Ref

open Idealize.ShloMosaic Idealize.ShloMosaic.TcCoe Idealize.SL.Sem
open Cert.RXattnIdeal Cert.RXattnIdeal.Gen Cert.RXattnIdeal.Read Cert.Lift

variable (Q : S2048x2048.Idx → ℝ) (K : S256x2048.Idx → ℝ) (W : S256x2048.Idx → EReal) (D : S2048x2048.Idx → EReal)

theorem rd_q (r : Fin 2048) (h : Fin 4) (d : Fin 512) :
    val_main_v1 (F := Ideal) (up Q) (ix4 0 r h d) = (Q (ix2 r (col h d)) : EReal) := by
  pointwise [val_main_v1, val_main_v0, up_apply]; rfl
theorem rd_k (r : Fin 256) (h : Fin 4) (d : Fin 512) :
    val_main_v3 (F := Ideal) (up K) (ix4 0 r h d) = (K (ix2 r (col h d)) : EReal) := by
  pointwise [val_main_v3, val_main_v2, up_apply]; rfl
theorem rd_v (r : Fin 256) (h : Fin 4) (d : Fin 512) :
    val_main_v5 (F := Ideal) W (ix4 0 r h d) = W (ix2 r (col h d)) := by
  pointwise [val_main_v5, val_main_v4]; rfl
theorem rd_d (r : Fin 2048) (h : Fin 4) (d : Fin 512) :
    val_main_v43 (F := Ideal) D (ix4 0 h d r) = D (ix2 r (col h d)) := by
  pointwise [val_main_v43, val_main_v42, val_main_v41, val_main_v40]; rfl

theorem rd_sc (h : Fin 4) (r : Fin 2048) (m : Fin 256) :
    val_main_v8 (F := Ideal) (up Q) (up K) (ix4 0 h r m) = (sc Q K h r m : EReal) := by
  pointwise [val_main_v8, val_main_v7, val_main_v6, val_main_cst, rd_q, rd_k]
  simp only [scale_coe, ← EReal.coe_mul, coe_sum]
  rfl

/-- The reference's maximum over a row. -/
theorem rd_max (x : FVec Ideal S1x4x2048x256 .f32) (y : FVec Ideal S_ .f32) (h : Fin 4) (r : Fin 2048) :
    Host.reduce FloatOps.maximumf x y reducesTo_S1x4x2048x256_S1x4x2048_d3 h_S_ (ix3 0 h r)
      = (Finset.univ : Finset (Fin 256)).fold max (y (Shape.Idx.first h_S_)) fun m => x (ix4 0 h r m) := by
  rw [Ideal.maximumf_eq_max, Host.reduce_eq_fold]
  exact reducesTo_S1x4x2048x256_S1x4x2048_d3.fold_fiber_r4_a3 (ix3 0 h r) max _ x

theorem rd_v9 (h : Fin 4) (r : Fin 2048) :
    val_main_v9 (F := Ideal) (up Q) (up K) (ix3 0 h r) = (top (sc Q K h r) : EReal) := by
  refine (rd_max (val_main_v8 (F := Ideal) (up Q) (up K)) (val_main_cst_0 (F := Ideal)) h r).trans ?_
  simp only [rd_sc, val_main_cst_0, constant_apply, Ideal.ofBits_def, lit_bot]
  exact top_coe _

theorem rd_top (h : Fin 4) (r : Fin 2048) :
    val_main_v16 (F := Ideal) (up Q) (up K) (ix3 0 h r) = (top (sc Q K h r) : EReal) := by
  rw [val_main_v16_apply, rd_v9]
  pointwise [val_main_v15, val_main_cst_2]
  rw [lit_bot, max_eq_right bot_le]

theorem rd_ex (h : Fin 4) (r : Fin 2048) (m : Fin 256) :
    val_main_v29 (F := Ideal) (up Q) (up K) (ix4 0 h r m) = (ex (sc Q K h r) m : EReal) := by
  pointwise [val_main_v29, val_main_v28, val_main_v27, val_main_v26, rd_top, rd_sc]
  rw [← EReal.coe_sub, Ideal.exp_coe]; rfl

theorem rd_den (h : Fin 4) (r : Fin 2048) :
    val_main_v31 (F := Ideal) (up Q) (up K) (ix4 0 h r 0) = (den (sc Q K h r) : EReal) := by
  pointwise [val_main_v31, val_main_v30, val_main_cst_8, rd_ex]
  rw [coe_sum]; rfl

theorem rd_pr (h : Fin 4) (r : Fin 2048) (m : Fin 256) :
    val_main_v33 (F := Ideal) (up Q) (up K) (ix4 0 h r m) = (pr (sc Q K h r) m : EReal) := by
  pointwise [val_main_v33, val_main_v32, rd_den, rd_ex]
  exact div_coe _ (den_pos _).ne'

theorem rd_dp (h : Fin 4) (r : Fin 2048) (m : Fin 256) :
    val_main_v44 (F := Ideal) W D (ix4 0 h r m) = dp W D h r m := by
  pointwise [val_main_v44, rd_d, rd_v]; rfl

/-- The sum over the two unit axes of the reference's broadcast is its one term. -/
theorem rd_unit (x : FVec Ideal S1x4x2048x1 .f32) (y : FVec Ideal S_ .f32) (h : Fin 4) (r : Fin 2048) :
    Host.reduceAdd x y reducesTo_S1x4x2048x1_S4x2048_d0_3 h_S_ (ix2 h r) = y (Shape.Idx.first h_S_) + x (ix4 0 h r 0) := by
  refine hostReduceAdd_unit _ x _ _ _ fun i => ?_
  idx_vars i
  have d0 := reducesTo_S1x4x2048x1_S4x2048_d0_3.drop_apply_val_of_eq (ix4 i0 i1 i2 i3) 0 1
  have d1 := reducesTo_S1x4x2048x1_S4x2048_d0_3.drop_apply_val_of_eq (ix4 i0 i1 i2 i3) 1 2
  obtain rfl : i0 = 0 := Subsingleton.elim _ _
  obtain rfl : i3 = 0 := Subsingleton.elim _ _
  constructor
  · intro e
    rw [e] at d0 d1
    rw [show h = i1 from Fin.ext d0, show r = i2 from Fin.ext d1]
  · intro e
    have e1 : i1 = h := congrFun e 1
    have e2 : i2 = r := congrFun e 2
    subst e1 e2
    exact funext fun a => Fin.ext (by match a with | ⟨0, _⟩ => exact d0 | ⟨1, _⟩ => exact d1)

theorem rd_corr (h : Fin 4) (r : Fin 2048) :
    val_main_v55 (F := Ideal) (up Q) (up K) W D (ix2 h r)
      = -(∑ j, dp W D h r j * Ideal.div 1 ((den (sc Q K h r) : EReal) * (den (sc Q K h r) : EReal)) * (ex (sc Q K h r) j : EReal)) := by
  unfold val_main_v55
  rw [rd_unit]
  pointwise [val_main_v52, val_main_v51, val_main_v50, val_main_v49, val_main_v48, val_main_v47, val_main_v36, val_main_v35, val_main_v34,
    val_main_cst_9, val_main_cst_10, val_main_cst_11, rd_den, rd_ex, rd_dp]

theorem rd_ds (h : Fin 4) (r : Fin 2048) (m : Fin 256) :
    val_main_v61 (F := Ideal) (up Q) (up K) W D (ix4 0 h r m) = ds (sc Q K h r) (dp W D h r) m := by
  rw [← ds_eq]
  pointwise [val_main_v61, val_main_v60, val_main_v59, val_main_v58, val_main_v57, val_main_v56, val_main_v54, val_main_v53, val_main_cst_12,
    rd_corr, rd_den, rd_ex, rd_dp]
  rw [scale_coe]

theorem rd_dq (r : Fin 2048) (c : Fin 2048) :
    val_main_v67 (F := Ideal) (up Q) (up K) W D (ix2 r c) = gradQ Q K W D (hdc c) r (lnc c) := by
  pointwise [val_main_v67, val_main_v66, val_main_v65, val_main_v64, rd_ds, rd_k]; rfl

theorem rd_dk (m : Fin 256) (c : Fin 2048) :
    val_main_v69 (F := Ideal) (up Q) (up K) W D (ix2 m c) = gradK Q K W D (hdc c) m (lnc c) := by
  pointwise [val_main_v69, val_main_v68, val_main_v63, val_main_v62, rd_ds, rd_q]; rfl

theorem rd_dv (m : Fin 256) (c : Fin 2048) :
    val_main_v71 (F := Ideal) (up Q) (up K) D (ix2 m c) = gradV Q K D (hdc c) m (lnc c) := by
  pointwise [val_main_v71, val_main_v70, val_main_v46, val_main_v45, rd_pr, rd_d]
  exact Finset.sum_congr rfl fun _ _ => mul_comm _ _

end Cert.Xattn.Ref

end
-- ==== Proof.XattnClaim.lean ====
/- The cross attention's backward call computes the gradient of its forward lines: the two programs' results agree. -/
module

public import proofs.«01_k».proof.Defs
public import proofs.«01_k».proof.Proof.XattnKernel
public import proofs.«01_k».proof.Proof.XattnRef
public import Idealize.ShloMosaic.Lib.Claim

@[expose] public section

set_option maxRecDepth 16384

noncomputable section

namespace Cert.Xattn

open Idealize.ShloMosaic Idealize.ShloMosaic.TcCoe Idealize.SL.Sem Cert.Lift

theorem facts : Cert.Pre_finite_xattn.Facts := ⟨by decide, by decide⟩

/-- The reference's run: its arguments unchanged, and no counter to return. -/
theorem ref_frame : Cert.quiescent_RXattnIdeal := fun m g _ =>
  (θ_run _ _ _).mono (fun r h => ⟨fun c => (h c).2.2.2, sem_eq_zero_of_no_sems (by decide) r.2⟩) (Cert.RXattnIdeal.Value.run m g)

/-- The precondition, read at the extended reals: the queries and the keys are of reals. -/
theorem fin2 [Cert.Pre_finite_xattn.Facts] {m : (ℓ : Loc Cert.KXattnIdeal.nD Cert.KXattnIdeal.τ Cert.KXattnIdeal.sig) → Buf (Elt Ideal) ℓ}
    (h : Pre_KXattnIdeal_finite_xattn m) (c : Dev Cert.KXattnIdeal.nD) : Kernel.Fin2 m c :=
  ⟨isReal_of_cmp _ _ (fun _ => lit_top16) (h c).1, isReal_of_cmp _ _ (fun _ => lit_top16) (h c).2⟩

section
open Cert.RXattnIdeal Cert.RXattnIdeal.Gen Cert.RXattnIdeal.Read
variable (Q : S2048x2048.Idx → EReal) (K W : S256x2048.Idx → EReal) (D : S2048x2048.Idx → EReal) (hQ : IsReal Q) (hK : IsReal K)
include hQ hK

theorem ref_dq : val_main_v67 (F := Ideal) Q K W D = fun i => gradQ (re Q) (re K) W D (hdc (i 1)) (i 0) (lnc (i 1)) := by
  funext i
  idx_vars i
  have e := Ref.rd_dq (re Q) (re K) W D i0 i1
  rw [← hQ.up_re, ← hK.up_re] at e
  exact e

theorem ref_dk : val_main_v69 (F := Ideal) Q K W D = fun i => gradK (re Q) (re K) W D (hdc (i 1)) (i 0) (lnc (i 1)) := by
  funext i
  idx_vars i
  have e := Ref.rd_dk (re Q) (re K) W D i0 i1
  rw [← hQ.up_re, ← hK.up_re] at e
  exact e

theorem ref_dv : val_main_v71 (F := Ideal) Q K D = fun i => gradV (re Q) (re K) D (hdc (i 1)) (i 0) (lnc (i 1)) := by
  funext i
  idx_vars i
  have e := Ref.rd_dv (re Q) (re K) D i0 i1
  rw [← hQ.up_re, ← hK.up_re] at e
  exact e

end

theorem algebraic [Cert.Pre_finite_xattn.Facts] : Cert.algebraic_KXattnIdeal_RXattnIdeal_pre_finite_xattn := by
  intro m g m' g' hpre hagree
  refine ⟨fun c => Kernel.outQ m c, fun c => Kernel.outK m c, fun c => Kernel.outV m c, ?_, ?_⟩
  · refine (θ_run _ _ _).mono (fun r h c => ?_) (Cert.KXattnIdeal.Value.run_blocks m g)
    obtain ⟨h4, h5, h6, ha⟩ := h c
    exact ⟨h4.trans (Kernel.arr4 (fin2 hpre c)), h5.trans (Kernel.arr5 (fin2 hpre c)), h6.trans (Kernel.arr6 (fin2 hpre c)), ha⟩
  · refine (θ_run _ _ _).mono (fun r h c => ?_) (Cert.RXattnIdeal.Value.run m' g')
    obtain ⟨h1, h2, h3, ha⟩ := h c
    obtain ⟨fq, fk⟩ := fin2 hpre c
    obtain ⟨e0, e1, e2, e3⟩ := hagree c
    refine ⟨h1.trans ?_, h2.trans ?_, h3.trans ?_, ha⟩
    · rw [Cert.RXattnIdeal.Read.val_main_v67_eq, e0, e1, e2, e3]
      exact ref_dq _ _ _ _ fq fk
    · rw [Cert.RXattnIdeal.Read.val_main_v69_eq, e0, e1, e2, e3]
      exact ref_dk _ _ _ _ fq fk
    · refine (Cert.RXattnIdeal.Read.val_main_v71_eq _ _ _).symm.trans ?_
      rw [e0, e1, e3]
      exact ref_dv _ _ _ fq fk

end Cert.Xattn

end
-- ==== Proof.LnSpec.lean ====
/- The gradient of the layer norm, over the reals: one row. -/
module

public import proofs.«01_k».proof.Proof.Lift

@[expose] public section

noncomputable section

namespace Cert.Ln

open Cert.Lift Idealize.ShloMosaic

variable (u w y : Fin 2048 → ℝ)

/-- The small number the layer norm adds under the root, as the real its word is. -/
def eps : ℝ := (Ideal.ofBits .f32 0x3727C5AC#32).toReal

theorem eps_pos : 0 < eps := by
  unfold eps
  simp [Ideal.ofBits, Ideal.ieee, -EReal.coe_mul]

theorem eps_coe : Ideal.ofBits .f32 0x3727C5AC#32 = (eps : EReal) := by
  unfold eps
  simp [Ideal.ofBits, Ideal.ieee, -EReal.coe_mul]

theorem lit_2048 : Ideal.ofBits .f32 0x45000000#32 = ((2048 : ℝ) : EReal) := by
  simp [Ideal.ofBits, Ideal.ieee, -EReal.coe_mul]; norm_num

theorem h2048 : (2048 : ℝ) ≠ 0 := by norm_num

/-- The mean of a row. -/
def mean (f : Fin 2048 → ℝ) : ℝ := (∑ k, f k) / 2048

/-- A row about its mean, its variance with the small number, and one over the root of that. -/
def xc (k : Fin 2048) : ℝ := u k - mean u
def va : ℝ := mean (fun k => xc u k * xc u k) + eps
def rs : ℝ := (Real.sqrt (va u))⁻¹

/-- The normalised row. -/
def xh (k : Fin 2048) : ℝ := xc u k * rs u

theorem va_pos : 0 < va u := by
  have := eps_pos
  have h : 0 ≤ ∑ k, xc u k * xc u k := Finset.sum_nonneg fun k _ => mul_self_nonneg _
  unfold va mean; positivity

theorem rs_sq : rs u * rs u * va u = 1 := by
  have h := va_pos u
  have e : Real.sqrt (va u) * Real.sqrt (va u) = va u := Real.mul_self_sqrt h.le
  have : Real.sqrt (va u) ≠ 0 := (Real.sqrt_pos.mpr h).ne'
  unfold rs
  field_simp
  nlinarith

theorem sum_xc : ∑ k, xc u k = 0 := by
  unfold xc mean
  rw [Finset.sum_sub_distrib, Finset.sum_const, Finset.card_univ, Fintype.card_fin, nsmul_eq_mul]
  push_cast; ring

/-- What the kernel computes of a row from its cotangent and its saved values. -/
def du (y w x : Fin 2048 → ℝ) (s : ℝ) (k : Fin 2048) : ℝ :=
  s * (y k * w k - mean (fun l => y l * w l) - x k * mean fun l => y l * w l * x l)

/-- The gradient of the norm's input. -/
def gradU (k : Fin 2048) : ℝ := du y w (xh u) (rs u) k

/-- Twice the cotangent of the mean square, divided by the row's length. -/
def half : ℝ := (∑ l, xc u l * (y l * w l)) * (-(1 / 2) * (rs u / va u)) / 2048

/-- The cotangent of the row about its mean, as differentiating the mean square gives it. -/
def dxc (k : Fin 2048) : ℝ := y k * w k * rs u + xc u k * half u w y + half u w y * xc u k

theorem gradU_eq (k : Fin 2048) : gradU u w y k = dxc u w y k + (∑ l, -dxc u w y l) / 2048 := by
  have h := va_pos u
  have e := rs_sq u
  have hm : rs u / va u = rs u * rs u * rs u := by
    rw [div_eq_iff h.ne']; linear_combination (-rs u) * e
  have h0 : (∑ l, xc u l * half u w y) = 0 := by rw [← Finset.sum_mul, sum_xc, zero_mul]
  have h1 : (∑ l, half u w y * xc u l) = 0 := by rw [← Finset.mul_sum, sum_xc, mul_zero]
  have h2 : (∑ l, y l * w l * xh u l) = rs u * ∑ l, xc u l * (y l * w l) := by
    rw [Finset.mul_sum]; exact Finset.sum_congr rfl fun l _ => by unfold xh; ring
  have h3 : (∑ l, -dxc u w y l) = -((∑ l, y l * w l) * rs u) := by
    unfold dxc
    rw [Finset.sum_neg_distrib, Finset.sum_add_distrib, Finset.sum_add_distrib, h0, h1, ← Finset.sum_mul]; ring
  rw [h3]
  unfold gradU du dxc half mean xh
  unfold xh at h2
  rw [h2, hm]; ring

section Loss

variable (b t : Fin 2048 → ℝ)

/-- How far a row's norm is from its target, and the cotangent of the norm that half the mean square of that has. -/
def diff (k : Fin 2048) : ℝ := xh u k * w k + b k - t k
def dloss (k : Fin 2048) : ℝ := diff u w b t k * (1 / 2048)

/-- The sum of a row's squares. -/
def sqs : ℝ := ∑ k, diff u w b t k * diff u w b t k

theorem lit_half : Ideal.ofBits .f32 0x3F000000#32 = ((1 / 2 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_inv_2048 : Ideal.ofBits .f32 0x3A000000#32 = ((1 / 2048 : ℝ) : EReal) := by
  simp [Ideal.ofBits, Ideal.ieee, -EReal.coe_mul]; norm_num
theorem lit_inv_4096 : Ideal.ofBits .f32 0x39800000#32 = ((1 / 4096 : ℝ) : EReal) := by
  simp [Ideal.ofBits, Ideal.ieee, -EReal.coe_mul]; norm_num

end Loss

/-- The sum over the two unit axes of the reference's broadcasts is its one term. -/
theorem unit02 {φ : FTy} (x : FVec Ideal ⟨3, ![1, 2048, 1]⟩ φ) (v : FVec Ideal ⟨0, ![]⟩ φ)
    (h : (⟨3, ![1, 2048, 1]⟩ : Shape).ReducesTo [0, 2] ⟨1, ![2048]⟩) (hu : 0 < (⟨0, ![]⟩ : Shape).numel) (r : Fin 2048) :
    Host.reduceAdd x v h hu (ix1 r) = v (Shape.Idx.first hu) + x (ix3 0 r 0) := by
  refine hostReduceAdd_unit _ x _ _ _ fun i => ?_
  idx_vars i
  have d0 := h.drop_apply_val_of_eq (ix3 i0 i1 i2) 0 1
  obtain rfl : i0 = 0 := Subsingleton.elim _ _
  obtain rfl : i2 = 0 := Subsingleton.elim _ _
  constructor
  · intro e
    rw [e] at d0
    rw [show r = i1 from Fin.ext d0]
  · intro e
    have e1 : i1 = r := congrFun e 1
    subst e1
    exact funext fun a => Fin.ext (by match a with | ⟨0, _⟩ => exact d0)

theorem unit01 {N : ℕ} {φ : FTy} (x : FVec Ideal ⟨3, ![1, 1, N]⟩ φ) (v : FVec Ideal ⟨0, ![]⟩ φ)
    (h : (⟨3, ![1, 1, N]⟩ : Shape).ReducesTo [0, 1] ⟨1, ![N]⟩) (hu : 0 < (⟨0, ![]⟩ : Shape).numel) (k : Fin N) :
    Host.reduceAdd x v h hu (ix1 k) = v (Shape.Idx.first hu) + x (ix3 0 0 k) := by
  refine hostReduceAdd_unit _ x _ _ _ fun i => ?_
  obtain ⟨i0, i1, i2, rfl⟩ : ∃ (a : Fin 1) (b : Fin 1) (e : Fin N), i = ix3 a b e := ⟨i 0, i 1, i 2, ValueIdx.eq_ix3 i⟩
  have d0 := h.drop_apply_val_of_eq (ix3 i0 i1 i2) 0 2 (Nat.lt_of_lt_of_eq Nat.one_pos rfl) rfl
  obtain rfl : i0 = 0 := Subsingleton.elim _ _
  obtain rfl : i1 = 0 := Subsingleton.elim _ _
  constructor
  · intro e
    rw [e] at d0
    rw [show k = i2 from Fin.ext d0]
  · intro e
    have e1 : i2 = k := congrFun e 2
    subst e1
    exact funext fun a => Fin.ext (by match a with | ⟨0, _⟩ => exact d0)

section Rows

/-- A row of an array of rows, and the one row of a vector. -/
def row (X : (⟨2, ![2048, 2048]⟩ : Shape).Idx → ℝ) (r : Fin 2048) (k : Fin 2048) : ℝ := X (ix2 r k)
def vec (X : (⟨2, ![1, 2048]⟩ : Shape).Idx → ℝ) (k : Fin 2048) : ℝ := X (ix2 0 k)

/-- The constant by which a residual's gradient is scaled, as the real its word is. -/
def alpha : ℝ := (Ideal.ofBits .f32 0x3F9837F0#32).toReal

theorem alpha_coe : Ideal.ofBits .f32 0x3F9837F0#32 = (alpha : EReal) := by
  unfold alpha
  simp [Ideal.ofBits, Ideal.ieee, -EReal.coe_mul]

/-- The cotangent the second norm's call is handed in two parts. -/
def cot (m r : Fin 2048 → ℝ) (k : Fin 2048) : ℝ := m k + alpha * r k

end Rows

end Cert.Ln

end
-- ==== Proof.Ln2Kernel.lean ====
/- The second layer norm's backward kernel, at the extended reals: its four result arrays on real arguments. -/
module

public import proofs.«01_k».proof.Proof.LnSpec
public import proofs.«01_k».proof.Proof.Gen.KLn2Ideal.Value
public import Idealize.ShloMosaic.Lib.Pipeline.ValueKit
public import Idealize.ShloMosaic.Lib.StableHlo.ReadAt

@[expose] public section

set_option maxRecDepth 16384

noncomputable section

namespace Cert.Ln2.Kernel

open Idealize.ShloMosaic Idealize.ShloMosaic.TcCoe Idealize.SL.Sem
open Idealize.ShloMosaic.Pipeline (Dat)
open Cert.KLn2Ideal Cert.KLn2Ideal.Gen Cert.Lift Cert.Ln

section Payloads

variable (v0 v1 v5 : S512x2048.Idx → ℝ) (v7 : S512x1.Idx → ℝ) (v9 : S1x2048.Idx → ℝ)

theorem pay_y (a : Fin 512) (b : Fin 2048) :
    k0_pay3 (F := Ideal) (up v0) (up v1) (ix2 a b) = ((cot (fun k => v0 (ix2 a k)) (fun k => v1 (ix2 a k)) b : ℝ) : EReal) := by
  pointwise [k0_pay3, up_apply]
  simp only [alpha_coe, ← EReal.coe_mul, ← EReal.coe_add]; rfl

theorem pay_du (a : Fin 512) (b : Fin 2048) :
    k0_pay5 (F := Ideal) (up v0) (up v1) (up v5) (up v7) (up v9) (ix2 a b)
      = ((du (cot (fun k => v0 (ix2 a k)) fun k => v1 (ix2 a k)) (fun k => v9 (ix2 0 k)) (fun k => v5 (ix2 a k)) (v7 (ix2 a 0)) b : ℝ) : EReal) := by
  pointwise [k0_pay5, k0_pay4, pay_y, up_apply]
  simp only [lit_2048, ← EReal.coe_mul, coe_sum, div_coe _ h2048, ← EReal.coe_sub]
  rfl

theorem pay_du16 (a : Fin 512) (b : Fin 2048) :
    k0_pay8 (F := Ideal) (up v0) (up v1) (up v5) (up v7) (up v9) (ix2 a b)
      = ((du (cot (fun k => v0 (ix2 a k)) fun k => v1 (ix2 a k)) (fun k => v9 (ix2 0 k)) (fun k => v5 (ix2 a k)) (v7 (ix2 a 0)) b : ℝ) : EReal) :=
  pay_du v0 v1 v5 v7 v9 a b

theorem pay_dg (b : Fin 2048) :
    k0_pay6 (F := Ideal) (up v0) (up v1) (up v5) (ix2 0 b)
      = ((∑ a : Fin 512, cot (fun k => v0 (ix2 a k)) (fun k => v1 (ix2 a k)) b * v5 (ix2 a b) : ℝ) : EReal) := by
  pointwise [k0_pay6, k0_pay4, pay_y, up_apply]
  simp only [← EReal.coe_mul, coe_sum]

theorem pay_db (b : Fin 2048) :
    k0_pay7 (F := Ideal) (up v0) (up v1) (ix2 0 b)
      = ((∑ a : Fin 512, cot (fun k => v0 (ix2 a k)) (fun k => v1 (ix2 a k)) b : ℝ) : EReal) := by
  pointwise [k0_pay7, pay_y]
  simp only [coe_sum]

end Payloads

section Arrays

variable (m : (ℓ : Loc nD τ sig) → Buf (Elt Ideal) ℓ) (c : Dev nD)

/-- The arguments, as extended reals. -/
def argU : S2048x2048.Idx → EReal := m ((c : Thread nD τ).loc main_arg0)
def argG : S1x2048.Idx → EReal := m ((c : Thread nD τ).loc main_arg1)
def argM : S2048x2048.Idx → EReal := m ((c : Thread nD τ).loc main_arg2)
def argR : S2048x2048.Idx → EReal := m ((c : Thread nD τ).loc main_arg3)

/-- Every argument is of reals. -/
structure Fin4 : Prop where
  u : IsReal (argU m c)
  g : IsReal (argG m c)
  d : IsReal (argM m c)
  r : IsReal (argR m c)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![0, 0] ∧ win0_8.index t = ![0, 0] :=
  (by decide +kernel : ∀ t : Fin grid0.N, _)

theorem lt4 (t : Fin cfg0.N) : t.val < 4 := Nat.lt_of_lt_of_eq t.isLt N_0

/-- The row of the array that row `a` of point `t`'s blocks is. -/
def rw_ (t : Fin cfg0.N) (a : Fin 512) : Fin 2048 := ⟨t.val * 512 + a.val, by have := lt4 t; omega⟩

variable {m c}

/-- The host's lines before the kernel: the saved scale and the saved normalised rows. -/
theorem host_rs (h : Fin4 m c) (r : Fin 2048) :
    (V m c main_v13 : S2048x1.Idx → EReal) (ix2 r 0) = ((rs (row (re (argU m c)) r) : ℝ) : EReal) := by
  have e : ∀ i : S2048x2048.Idx, (m (c, Proc.tc.devRef main_arg0) : S2048x2048.Idx → EReal) i = ((re (argU m c) i : ℝ) : EReal) := h.u.eq
  unfold V
  after_reads_at
  simp only [e, lit_2048, Ln.eps_coe, coe_sum, ← EReal.coe_mul, ← EReal.coe_sub, ← EReal.coe_add, div_coe _ h2048]
  exact rsqrt_coe (va_pos (row (re (argU m c)) r))

theorem host_xh (h : Fin4 m c) (r k : Fin 2048) :
    (V m c main_v15 : S2048x2048.Idx → EReal) (ix2 r k) = ((xh (row (re (argU m c)) r) k : ℝ) : EReal) := by
  have e : ∀ i : S2048x2048.Idx, (m (c, Proc.tc.devRef main_arg0) : S2048x2048.Idx → EReal) i = ((re (argU m c) i : ℝ) : EReal) := h.u.eq
  unfold V
  after_reads_at
  simp only [e, lit_2048, Ln.eps_coe, coe_sum, ← EReal.coe_mul, ← EReal.coe_sub, ← EReal.coe_add, div_coe _ h2048]
  refine (congrArg _ (rsqrt_coe (va_pos (row (re (argU m c)) r)))).trans ?_
  rw [← EReal.coe_mul]; rfl

theorem blk0 (h : Fin4 m c) (t : Fin cfg0.N) :
    iblk m c 0 t = up (s := S512x2048) (fun y => row (re (argM m c)) (rw_ t (y 0)) (y 1)) := by
  funext y
  idx_vars y
  simp only [up_apply, row, ← h.d.eq]
  blk_ext [iblk, V_main_arg2, argM, rw_, idx t]

theorem blk1 (h : Fin4 m c) (t : Fin cfg0.N) :
    iblk m c 1 t = up (s := S512x2048) (fun y => row (re (argR m c)) (rw_ t (y 0)) (y 1)) := by
  funext y
  idx_vars y
  simp only [up_apply, row, ← h.r.eq]
  blk_ext [iblk, V_main_arg3, argR, rw_, idx t]

theorem blk2 (h : Fin4 m c) (t : Fin cfg0.N) :
    iblk m c 2 t = up (s := S512x2048) (fun y => xh (row (re (argU m c)) (rw_ t (y 0))) (y 1)) := by
  funext y
  idx_vars y
  simp only [up_apply, ix2_0, ix2_1, ← host_xh h]
  blk_ext [iblk, rw_, idx t]

theorem blk3 (h : Fin4 m c) (t : Fin cfg0.N) :
    iblk m c 3 t = up (s := S512x1) (fun y => rs (row (re (argU m c)) (rw_ t (y 0)))) := by
  funext y
  idx_vars y
  obtain rfl : y1 = 0 := Subsingleton.elim _ _
  simp only [up_apply, ix2_0, ← host_rs h]
  blk_ext [iblk, rw_, idx t]

theorem blk4 (h : Fin4 m c) (t : Fin cfg0.N) :
    iblk m c 4 t = up (s := S1x2048) (fun y => vec (re (argG m c)) (y 1)) := by
  funext y
  idx_vars y
  simp only [up_apply, vec, ← h.g.eq]
  blk_ext [iblk, V_main_arg1, argG, idx t]

/-- What the result arrays hold, as arrays of reals. -/
def dy (m : (ℓ : Loc nD τ sig) → Buf (Elt Ideal) ℓ) (c : Dev nD) (r : Fin 2048) : Fin 2048 → ℝ :=
  cot (row (re (argM m c)) r) (row (re (argR m c)) r)
def outU (m : (ℓ : Loc nD τ sig) → Buf (Elt Ideal) ℓ) (c : Dev nD) : S2048x2048.Idx → EReal := fun i =>
  ((gradU (row (re (argU m c)) (i 0)) (vec (re (argG m c))) (dy m c (i 0)) (i 1) : ℝ) : EReal)
def outG (m : (ℓ : Loc nD τ sig) → Buf (Elt Ideal) ℓ) (c : Dev nD) : S1x2048.Idx → EReal := fun i =>
  ((∑ r : Fin 2048, dy m c r (i 1) * xh (row (re (argU m c)) r) (i 1) : ℝ) : EReal)
def outB (m : (ℓ : Loc nD τ sig) → Buf (Elt Ideal) ℓ) (c : Dev nD) : S1x2048.Idx → EReal := fun i =>
  ((∑ r : Fin 2048, dy m c r (i 1) : ℝ) : EReal)

theorem case01 (t : Fin cfg0.N) : (t.val % 4 = 0 ∧ ¬ 1 ≤ t.val) ∨ (¬ t.val % 4 = 0 ∧ 1 ≤ t.val) := by
  have := lt4 t; omega

/-- What a point leaves in the blocks of the first two results, whichever case it is. -/
theorem point5 (h : Fin4 m c) (t : Fin cfg0.N) (a : Fin 512) (b : Fin 2048) :
    ((outsAt0 m c t.val t.isLt).1 : S512x2048.Idx → EReal) (ix2 a b) = outU m c (ix2 (rw_ t a) b) := by
  rcases case01 t with ⟨h0, h1⟩ | ⟨h0, h1⟩
  · rw [outsAt0_A m c t h0 h1]
    frame_out
    rw [blk0 h, blk1 h, blk2 h, blk3 h, blk4 h, pay_du]; rfl
  · rw [outsAt0_B m c t h0 h1]
    frame_out
    rw [blk0 h, blk1 h, blk2 h, blk3 h, blk4 h, pay_du]; rfl

theorem point6 (h : Fin4 m c) (t : Fin cfg0.N) (a : Fin 512) (b : Fin 2048) :
    ((outsAt0 m c t.val t.isLt).2.1 : S512x2048.Idx → EReal) (ix2 a b) = outU m c (ix2 (rw_ t a) b) := by
  rcases case01 t with ⟨h0, h1⟩ | ⟨h0, h1⟩
  · rw [outsAt0_A m c t h0 h1]
    frame_out
    rw [blk0 h, blk1 h, blk2 h, blk3 h, blk4 h, pay_du16]; rfl
  · rw [outsAt0_B m c t h0 h1]
    frame_out
    rw [blk0 h, blk1 h, blk2 h, blk3 h, blk4 h, pay_du16]; rfl

theorem arr5 (h : Fin4 m c) : (dats m 0 c).arrAt 5 cfg0.N = outU m c := by
  refine (dats m 0 c).arrAt_eq_of_covers 5 _ (by decide +kernel) fun t hf y => ?_
  idx_vars y
  blk_simp
  rw [after0_5, point5 h]
  blk_ext [rw_, idx t]

theorem arr6 (h : Fin4 m c) : (dats m 0 c).arrAt 6 cfg0.N = outU m c := by
  refine (dats m 0 c).arrAt_eq_of_covers 6 _ (by decide +kernel) fun t hf y => ?_
  idx_vars y
  blk_simp
  rw [after0_6, point6 h]
  blk_ext [rw_, idx t]

/-- The parts of the vectors' gradients that point `t` adds. -/
def termG (m : (ℓ : Loc nD τ sig) → Buf (Elt Ideal) ℓ) (c : Dev nD) (t : Fin cfg0.N) (j : S1x2048.Idx) : EReal :=
  ((∑ a : Fin 512, dy m c (rw_ t a) (j 1) * xh (row (re (argU m c)) (rw_ t a)) (j 1) : ℝ) : EReal)
def termB (m : (ℓ : Loc nD τ sig) → Buf (Elt Ideal) ℓ) (c : Dev nD) (t : Fin cfg0.N) (j : S1x2048.Idx) : EReal :=
  ((∑ a : Fin 512, dy m c (rw_ t a) (j 1) : ℝ) : EReal)

theorem pay_dg_blk (h : Fin4 m c) (t : Fin cfg0.N) (j : S1x2048.Idx) :
    k0_pay6 (F := Ideal) (iblk m c 0 t) (iblk m c 1 t) (iblk m c 2 t) j = termG m c t j := by
  rw [blk0 h, blk1 h, blk2 h]
  idx_vars j
  obtain rfl : j0 = 0 := Subsingleton.elim _ _
  rw [pay_dg]
  rfl

theorem pay_db_blk (h : Fin4 m c) (t : Fin cfg0.N) (j : S1x2048.Idx) :
    k0_pay7 (F := Ideal) (iblk m c 0 t) (iblk m c 1 t) j = termB m c t j := by
  rw [blk0 h, blk1 h]
  idx_vars j
  obtain rfl : j0 = 0 := Subsingleton.elim _ _
  rw [pay_db]
  rfl

/-- The points' rows, over the grid, are all of them. -/
theorem sum_points (g : Fin 2048 → ℝ) : (∑ t : Fin cfg0.N, ∑ a : Fin 512, g (rw_ t a)) = ∑ r : Fin 2048, g r :=
  Fin.sum_mul_add_fin 4 512 g

theorem arr7 (h : Fin4 m c) : (dats m 0 c).arrAt 7 cfg0.N = outG m c := by
  refine (dats m 0 c).arrAt_eq_of_after_last 7 t0_3 (by decide +kernel) _ fun j => ?_
  blk_simp
  rw [after0_7, Pipeline.eq_sum_fin_of_reset_step_apply_last (fun n hn => (outsAt0 m c n hn).2.2.1) 4 (fun _ => 0) (termG m c)
    (fun t h0 j => by
      rw [outsAt0_A m c t h0 (by have := lt4 t; omega)]; frame_out; rw [pay_dg_blk h]; exact (zero_add _).symm)
    (fun t h0 j => by
      rw [outsAt0_B m c t h0 (by omega)]; frame_out
      refine Eq.trans ?_ (congrArg _ (pay_dg_blk h t j))
      pointwise [k0_pay1])
    (le_of_eq N_0) t0_3 rfl j, zero_add]
  unfold termG outG
  rw [coe_sum]
  exact congrArg _ (sum_points fun r => dy m c r (j 1) * xh (row (re (argU m c)) r) (j 1))

theorem arr8 (h : Fin4 m c) : (dats m 0 c).arrAt 8 cfg0.N = outB m c := by
  refine (dats m 0 c).arrAt_eq_of_after_last 8 t0_3 (by decide +kernel) _ fun j => ?_
  blk_simp
  rw [after0_8, Pipeline.eq_sum_fin_of_reset_step_apply_last (fun n hn => (outsAt0 m c n hn).2.2.2) 4 (fun _ => 0) (termB m c)
    (fun t h0 j => by
      rw [outsAt0_A m c t h0 (by have := lt4 t; omega)]; frame_out; rw [pay_db_blk h]; exact (zero_add _).symm)
    (fun t h0 j => by
      rw [outsAt0_B m c t h0 (by omega)]; frame_out
      refine Eq.trans ?_ (congrArg _ (pay_db_blk h t j))
      pointwise [k0_pay2])
    (le_of_eq N_0) t0_3 rfl j, zero_add]
  unfold termB outB
  rw [coe_sum]
  exact congrArg _ (sum_points fun r => dy m c r (j 1))

end Arrays

end Cert.Ln2.Kernel

end
-- ==== Proof.Ln2Ref.lean ====
/- The second layer norm's gradient as the reference differentiates it, at the extended reals, on real arguments. -/
module

public import proofs.«01_k».proof.Proof.LnSpec
public import proofs.«01_k».proof.Proof.Gen.RLn2Ideal.Read

@[expose] public section

set_option maxRecDepth 16384

noncomputable section

namespace Cert.Ln2.Ref

open Idealize.ShloMosaic Idealize.ShloMosaic.TcCoe Idealize.SL.Sem
open Cert.RLn2Ideal Cert.RLn2Ideal.Gen Cert.RLn2Ideal.Read Cert.Lift Cert.Ln

variable (U : S2048x2048.Idx → ℝ) (G : S1x2048.Idx → ℝ) (M R : S2048x2048.Idx → ℝ)

theorem rd_y (r k : Fin 2048) :
    val_main_v31 (F := Ideal) (up M) (up R) (ix3 0 r k) = ((cot (row M r) (row R r) k : ℝ) : EReal) := by
  pointwise [val_main_v31, val_main_v3, val_main_v2, val_main_v1, val_main_cst_0, up_apply]
  simp only [alpha_coe, ← EReal.coe_mul, ← EReal.coe_add]; rfl

theorem rd_xc (r k : Fin 2048) : val_main_v11 (F := Ideal) (up U) (ix3 0 r k) = ((xc (row U r) k : ℝ) : EReal) := by
  pointwise [val_main_v11, val_main_v10, val_main_v9, val_main_v8, val_main_v7, val_main_v6, val_main_v4, val_main_cst_1, val_main_cst_2, up_apply]
  simp only [lit_2048, zero_coe, coe_sum, ← EReal.coe_add, div_coe _ h2048, ← EReal.coe_sub, zero_add]; rfl

theorem rd_va (r : Fin 2048) : val_main_v18 (F := Ideal) (up U) (ix3 0 r 0) = ((va (row U r) : ℝ) : EReal) := by
  pointwise [val_main_v18, val_main_v17, val_main_v16, val_main_v15, val_main_v14, val_main_v13, val_main_v12, val_main_cst_3, val_main_cst_4,
    val_main_cst_5, rd_xc]
  simp only [lit_2048, Ln.eps_coe, zero_coe, ← EReal.coe_mul, coe_sum, ← EReal.coe_add, div_coe _ h2048, zero_add]; rfl

theorem rd_rs (r : Fin 2048) : val_main_v19 (F := Ideal) (up U) (ix3 0 r 0) = ((rs (row U r) : ℝ) : EReal) := by
  pointwise [val_main_v19, rd_va]
  exact rsqrt_coe (va_pos _)

theorem rd_dh (r k : Fin 2048) :
    val_main_v39 (F := Ideal) (up G) (up M) (up R) (ix3 0 r k) = ((cot (row M r) (row R r) k * vec G k : ℝ) : EReal) := by
  pointwise [val_main_v39, val_main_v38, val_main_v25, val_main_v5, rd_y, up_apply]
  rw [EReal.coe_mul]; rfl

theorem rd_half (r : Fin 2048) :
    val_main_v49 (F := Ideal) (up U) (up G) (up M) (up R) (ix1 r) = ((half (row U r) (vec G) (cot (row M r) (row R r)) : ℝ) : EReal) := by
  unfold val_main_v49
  rw [unit02]
  pointwise [val_main_v48, val_main_v47, val_main_v46, val_main_v43, val_main_v42, val_main_v41, val_main_v22, val_main_v21, val_main_v20,
    val_main_cst_6, val_main_cst_11, val_main_cst_12, val_main_cst_13, rd_xc, rd_dh, rd_rs, rd_va]
  simp only [lit_2048, lit_neg_half, zero_coe, ← EReal.coe_mul, coe_sum, ← EReal.coe_add, div_coe _ h2048, div_coe _ (va_pos _).ne', zero_add]
  rfl

theorem rd_dxc (r k : Fin 2048) :
    val_main_v55 (F := Ideal) (up U) (up G) (up M) (up R) (ix3 0 r k) = ((dxc (row U r) (vec G) (cot (row M r) (row R r)) k : ℝ) : EReal) := by
  pointwise [val_main_v55, val_main_v54, val_main_v53, val_main_v52, val_main_v51, val_main_v50, val_main_v45, val_main_v44, rd_xc, rd_dh, rd_rs, rd_half]
  simp only [← EReal.coe_mul, ← EReal.coe_add]
  rfl

theorem rd_du (r k : Fin 2048) :
    val_main_v65 (F := Ideal) (up U) (up G) (up M) (up R) (ix2 r k) = ((gradU (row U r) (vec G) (cot (row M r) (row R r)) k : ℝ) : EReal) := by
  rw [gradU_eq]
  pointwise [val_main_v65, val_main_v64, val_main_v63, val_main_v62, rd_dxc]
  unfold val_main_v61
  rw [unit02]
  pointwise [val_main_v60, val_main_v59, val_main_v58, val_main_v57, val_main_v56, val_main_cst_14, val_main_cst_15, val_main_cst_16, rd_dxc]
  simp only [lit_2048, zero_coe, ← EReal.coe_neg, coe_sum, ← EReal.coe_add, div_coe _ h2048, zero_add]

theorem rd_du16 (r k : Fin 2048) :
    val_main_v67 (F := Ideal) (up U) (up G) (up M) (up R) (ix2 r k) = ((gradU (row U r) (vec G) (cot (row M r) (row R r)) k : ℝ) : EReal) :=
  rd_du U G M R r k

theorem rd_dg (k : Fin 2048) :
    val_main_v68 (F := Ideal) (up U) (up M) (up R) (ix2 0 k) = ((∑ r, cot (row M r) (row R r) k * xh (row U r) k : ℝ) : EReal) := by
  pointwise [val_main_v68]
  unfold val_main_v40
  rw [unit01]
  pointwise [val_main_v37, val_main_v36, val_main_v35, val_main_v24, val_main_v23, val_main_cst_9, val_main_cst_10, rd_y, rd_xc, rd_rs]
  simp only [zero_coe, ← EReal.coe_mul, coe_sum, ← EReal.coe_add, zero_add]
  exact congrArg _ (Finset.sum_congr rfl fun r _ => mul_comm _ _)

theorem rd_db (k : Fin 2048) :
    val_main_v69 (F := Ideal) (up M) (up R) (ix2 0 k) = ((∑ r, cot (row M r) (row R r) k : ℝ) : EReal) := by
  pointwise [val_main_v69]
  unfold val_main_v34
  rw [unit01]
  pointwise [val_main_v33, val_main_v32, val_main_cst_7, val_main_cst_8, rd_y]
  simp only [zero_coe, coe_sum, ← EReal.coe_add, zero_add]

end Cert.Ln2.Ref

end
-- ==== Proof.Ln2Claim.lean ====
/- The second layer norm's backward call computes the gradient of the norm: the two programs' results agree. -/
module

public import proofs.«01_k».proof.Defs
public import proofs.«01_k».proof.Proof.Ln2Kernel
public import proofs.«01_k».proof.Proof.Ln2Ref
public import Idealize.ShloMosaic.Lib.Claim

@[expose] public section

set_option maxRecDepth 16384

noncomputable section

namespace Cert.Ln2

open Idealize.ShloMosaic Idealize.ShloMosaic.TcCoe Idealize.SL.Sem Cert.Lift Cert.Ln

theorem facts : Cert.Pre_finite_ln2.Facts := ⟨by decide, by decide⟩

/-- The reference's run: its arguments unchanged, and no counter to return. -/
theorem ref_frame : Cert.quiescent_RLn2Ideal := fun m g _ =>
  (θ_run _ _ _).mono (fun r h => ⟨fun c => (h c).2.2.2.2, sem_eq_zero_of_no_sems (by decide) r.2⟩) (Cert.RLn2Ideal.Value.run m g)

/-- The precondition, read at the extended reals: every argument is of reals. -/
theorem fin4 [Cert.Pre_finite_ln2.Facts] {m : (ℓ : Loc Cert.KLn2Ideal.nD Cert.KLn2Ideal.τ Cert.KLn2Ideal.sig) → Buf (Elt Ideal) ℓ}
    (h : Pre_KLn2Ideal_finite_ln2 m) (c : Dev Cert.KLn2Ideal.nD) : Kernel.Fin4 m c :=
  ⟨isReal_of_cmp _ _ (fun _ => lit_top) (h c).1, isReal_of_cmp _ _ (fun _ => lit_top) (h c).2.1,
    isReal_of_cmp _ _ (fun _ => lit_top) (h c).2.2.1, isReal_of_cmp _ _ (fun _ => lit_top) (h c).2.2.2⟩

section
open Cert.RLn2Ideal Cert.RLn2Ideal.Gen Cert.RLn2Ideal.Read
variable (U : S2048x2048.Idx → EReal) (G : S1x2048.Idx → EReal) (M R : S2048x2048.Idx → EReal)
  (hU : IsReal U) (hG : IsReal G) (hM : IsReal M) (hR : IsReal R)
include hU hM hR

theorem ref_dg : val_main_v68 (F := Ideal) U M R
    = fun i => ((∑ r, cot (row (re M) r) (row (re R) r) (i 1) * xh (row (re U) r) (i 1) : ℝ) : EReal) := by
  funext i
  idx_vars i
  obtain rfl : i0 = 0 := Subsingleton.elim _ _
  have e := Ref.rd_dg (re U) (re M) (re R) i1
  rw [← hU.up_re, ← hM.up_re, ← hR.up_re] at e
  exact e

include hG

theorem ref_du : val_main_v65 (F := Ideal) U G M R
    = fun i => ((gradU (row (re U) (i 0)) (vec (re G)) (cot (row (re M) (i 0)) (row (re R) (i 0))) (i 1) : ℝ) : EReal) := by
  funext i
  idx_vars i
  have e := Ref.rd_du (re U) (re G) (re M) (re R) i0 i1
  rw [← hU.up_re, ← hG.up_re, ← hM.up_re, ← hR.up_re] at e
  exact e

omit hU hG

theorem ref_db : val_main_v69 (F := Ideal) M R
    = fun i => ((∑ r, cot (row (re M) r) (row (re R) r) (i 1) : ℝ) : EReal) := by
  funext i
  idx_vars i
  obtain rfl : i0 = 0 := Subsingleton.elim _ _
  have e := Ref.rd_db (re M) (re R) i1
  rw [← hM.up_re, ← hR.up_re] at e
  exact e

end

theorem algebraic [Cert.Pre_finite_ln2.Facts] : Cert.algebraic_KLn2Ideal_RLn2Ideal_pre_finite_ln2 := by
  intro m g m' g' hpre hagree
  refine ⟨fun c => Kernel.outU m c, fun c => Kernel.outU m c, fun c => Kernel.outG m c, fun c => Kernel.outB m c, ?_, ?_⟩
  · refine (θ_run _ _ _).mono (fun r h c => ?_) (Cert.KLn2Ideal.Value.run_blocks m g)
    obtain ⟨h5, h6, h7, h8, ha⟩ := h c
    have f := fin4 hpre c
    exact ⟨h5.trans (Kernel.arr5 f), h6.trans (Kernel.arr6 f), h7.trans (Kernel.arr7 f), h8.trans (Kernel.arr8 f), ha⟩
  · refine (θ_run _ _ _).mono (fun r h c => ?_) (Cert.RLn2Ideal.Value.run m' g')
    obtain ⟨h1, h2, h3, h4, ha⟩ := h c
    obtain ⟨fu, fg, fm, fr⟩ := fin4 hpre c
    obtain ⟨e0, e1, e2, e3⟩ := hagree c
    refine ⟨h1.trans ?_, h2.trans ?_, h3.trans ?_, h4.trans ?_, ha⟩
    · rw [Cert.RLn2Ideal.Read.val_main_v65_eq, e0, e1, e2, e3]
      exact ref_du _ _ _ _ fu fg fm fr
    · rw [Cert.RLn2Ideal.Read.val_main_v67_eq, e0, e1, e2, e3]
      exact ref_du _ _ _ _ fu fg fm fr
    · refine (Cert.RLn2Ideal.Read.val_main_v68_eq _ _ _).symm.trans ?_
      rw [e0, e2, e3]
      exact ref_dg _ _ _ fu fm fr
    · refine (Cert.RLn2Ideal.Read.val_main_v69_eq _ _).symm.trans ?_
      rw [e2, e3]
      exact ref_db _ _ fm fr

end Cert.Ln2

end
-- ==== Proof.LossKernel.lean ====
/- The loss's kernel with the last layer norm's backward, at the extended reals: its five result arrays on real arguments. -/
module

public import proofs.«01_k».proof.Proof.LnSpec
public import proofs.«01_k».proof.Proof.Gen.KLossIdeal.Value
public import Idealize.ShloMosaic.Lib.Pipeline.ValueKit
public import Idealize.ShloMosaic.Lib.StableHlo.ReadAt

@[expose] public section

set_option maxRecDepth 16384

noncomputable section

namespace Cert.Loss.Kernel

open Idealize.ShloMosaic Idealize.ShloMosaic.TcCoe Idealize.SL.Sem
open Idealize.ShloMosaic.Pipeline (Dat)
open Cert.KLossIdeal Cert.KLossIdeal.Gen Cert.Lift Cert.Ln

section Payloads

variable (v0 v8 : S512x2048.Idx → ℝ) (v2 v5 : S1x2048.Idx → ℝ) (v19 : S512x1.Idx → ℝ)

/-- How far row `a` of the block, normalised, scaled and shifted, is from its target; the cotangent that makes. -/
def df (a : Fin 512) (k : Fin 2048) : ℝ := v0 (ix2 a k) * v2 (ix2 0 k) + v5 (ix2 0 k) - v8 (ix2 a k)
def ct (a : Fin 512) (k : Fin 2048) : ℝ := df v0 v8 v2 v5 a k * (1 / 2048)

theorem pay_df (a : Fin 512) (b : Fin 2048) :
    k0_pay9 (F := Ideal) (up v0) (up v2) (up v5) (up v8) (ix2 a b) = ((df v0 v8 v2 v5 a b : ℝ) : EReal) := by
  pointwise [k0_pay9, k0_pay8, up_apply]
  simp only [← EReal.coe_mul, ← EReal.coe_add, ← EReal.coe_sub]; rfl

theorem pay_ct (a : Fin 512) (b : Fin 2048) :
    k0_pay11 (F := Ideal) (up v0) (up v2) (up v5) (up v8) (ix2 a b) = ((ct v0 v8 v2 v5 a b : ℝ) : EReal) := by
  pointwise [k0_pay11, pay_df]
  rw [lit_inv_2048, ← EReal.coe_mul]; rfl

theorem pay_du (a : Fin 512) (b : Fin 2048) :
    k0_pay12 (F := Ideal) (up v0) (up v2) (up v5) (up v8) (up v19) (ix2 a b)
      = ((du (ct v0 v8 v2 v5 a) (fun k => v2 (ix2 0 k)) (fun k => v0 (ix2 a k)) (v19 (ix2 a 0)) b : ℝ) : EReal) := by
  pointwise [k0_pay12, k0_pay8, pay_ct, up_apply]
  simp only [lit_2048, ← EReal.coe_mul, coe_sum, div_coe _ h2048, ← EReal.coe_sub]
  rfl

theorem pay_du16 (a : Fin 512) (b : Fin 2048) :
    k0_pay3 (F := Ideal) (k0_pay12 (up v0) (up v2) (up v5) (up v8) (up v19)) (ix2 a b)
      = ((du (ct v0 v8 v2 v5 a) (fun k => v2 (ix2 0 k)) (fun k => v0 (ix2 a k)) (v19 (ix2 a 0)) b : ℝ) : EReal) :=
  pay_du v0 v8 v2 v5 v19 a b

theorem pay_dg (b : Fin 2048) :
    k0_pay1 (F := Ideal) (k0_pay13 (up v0) (up v2) (up v5) (up v8)) (ix2 0 b)
      = ((∑ a : Fin 512, ct v0 v8 v2 v5 a b * v0 (ix2 a b) : ℝ) : EReal) := by
  pointwise [k0_pay1, k0_pay13, k0_pay8, pay_ct, up_apply]
  simp only [← EReal.coe_mul, coe_sum]

theorem pay_db (b : Fin 2048) :
    k0_pay2 (F := Ideal) (k0_pay11 (up v0) (up v2) (up v5) (up v8)) (ix2 0 b)
      = ((∑ a : Fin 512, ct v0 v8 v2 v5 a b : ℝ) : EReal) := by
  pointwise [k0_pay2, pay_ct]
  simp only [coe_sum]

theorem pay_part (i j : Fin 1) :
    k0_pay10 (F := Ideal) (up v0) (up v2) (up v5) (up v8) (ix2 i j)
      = ((∑ a : Fin 512, (∑ k, df v0 v8 v2 v5 a k * df v0 v8 v2 v5 a k) * (1 / 4096) : ℝ) : EReal) := by
  pointwise [k0_pay10, pay_df]
  simp only [lit_inv_4096, ← EReal.coe_mul, coe_sum, Finset.sum_mul]

theorem pay_loss (i : Fin 1) (b : Fin 128) :
    k0_pay4 (F := Ideal) (k0_pay10 (up v0) (up v2) (up v5) (up v8)) (ix2 i b)
      = ((∑ a : Fin 512, (∑ k, df v0 v8 v2 v5 a k * df v0 v8 v2 v5 a k) * (1 / 4096) : ℝ) : EReal) := by
  pointwise [k0_pay4, pay_part]

end Payloads

section Arrays

variable (m : (ℓ : Loc nD τ sig) → Buf (Elt Ideal) ℓ) (c : Dev nD)

/-- The arguments, as extended reals. -/
def argU : S2048x2048.Idx → EReal := m ((c : Thread nD τ).loc main_arg0)
def argG : S1x2048.Idx → EReal := m ((c : Thread nD τ).loc main_arg1)
def argB : S1x2048.Idx → EReal := m ((c : Thread nD τ).loc main_arg2)
def argT : S2048x2048.Idx → EReal := m ((c : Thread nD τ).loc main_arg3)

/-- Every argument is of reals. -/
structure Fin4 : Prop where
  u : IsReal (argU m c)
  g : IsReal (argG m c)
  b : IsReal (argB m c)
  t : IsReal (argT m c)

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![t.val, 0]
    ∧ win0_7.index t = ![0, 0] ∧ win0_8.index t = ![0, 0] ∧ win0_9.index t = ![0, 0] :=
  (by decide +kernel : ∀ t : Fin grid0.N, _)

theorem lt4 (t : Fin cfg0.N) : t.val < 4 := Nat.lt_of_lt_of_eq t.isLt N_0

/-- The row of the array that row `a` of point `t`'s blocks is. -/
def rw_ (t : Fin cfg0.N) (a : Fin 512) : Fin 2048 := ⟨t.val * 512 + a.val, by have := lt4 t; omega⟩

variable {m c}

/-- The host's lines before the kernel: the saved scale and the saved normalised rows. -/
theorem host_rs (h : Fin4 m c) (r : Fin 2048) :
    (V m c main_v13 : S2048x1.Idx → EReal) (ix2 r 0) = ((rs (row (re (argU m c)) r) : ℝ) : EReal) := by
  have e : ∀ i : S2048x2048.Idx, (m (c, Proc.tc.devRef main_arg0) : S2048x2048.Idx → EReal) i = ((re (argU m c) i : ℝ) : EReal) := h.u.eq
  unfold V
  after_reads_at
  simp only [e, lit_2048, Ln.eps_coe, coe_sum, ← EReal.coe_mul, ← EReal.coe_sub, ← EReal.coe_add, div_coe _ h2048]
  exact rsqrt_coe (va_pos (row (re (argU m c)) r))

theorem host_xh (h : Fin4 m c) (r k : Fin 2048) :
    (V m c main_v15 : S2048x2048.Idx → EReal) (ix2 r k) = ((xh (row (re (argU m c)) r) k : ℝ) : EReal) := by
  have e : ∀ i : S2048x2048.Idx, (m (c, Proc.tc.devRef main_arg0) : S2048x2048.Idx → EReal) i = ((re (argU m c) i : ℝ) : EReal) := h.u.eq
  unfold V
  after_reads_at
  simp only [e, lit_2048, Ln.eps_coe, coe_sum, ← EReal.coe_mul, ← EReal.coe_sub, ← EReal.coe_add, div_coe _ h2048]
  refine (congrArg _ (rsqrt_coe (va_pos (row (re (argU m c)) r)))).trans ?_
  rw [← EReal.coe_mul]; rfl

theorem blk0 (h : Fin4 m c) (t : Fin cfg0.N) :
    iblk m c 0 t = up (s := S512x2048) (fun y => xh (row (re (argU m c)) (rw_ t (y 0))) (y 1)) := by
  funext y
  idx_vars y
  simp only [up_apply, ix2_0, ix2_1, ← host_xh h]
  blk_ext [iblk, rw_, idx t]

theorem blk1 (h : Fin4 m c) (t : Fin cfg0.N) :
    iblk m c 1 t = up (s := S512x1) (fun y => rs (row (re (argU m c)) (rw_ t (y 0)))) := by
  funext y
  idx_vars y
  obtain rfl : y1 = 0 := Subsingleton.elim _ _
  simp only [up_apply, ix2_0, ← host_rs h]
  blk_ext [iblk, rw_, idx t]

theorem blk2 (h : Fin4 m c) (t : Fin cfg0.N) :
    iblk m c 2 t = up (s := S1x2048) (fun y => vec (re (argG m c)) (y 1)) := by
  funext y
  idx_vars y
  simp only [up_apply, vec, ← h.g.eq]
  blk_ext [iblk, V_main_arg1, argG, idx t]

theorem blk3 (h : Fin4 m c) (t : Fin cfg0.N) :
    iblk m c 3 t = up (s := S1x2048) (fun y => vec (re (argB m c)) (y 1)) := by
  funext y
  idx_vars y
  simp only [up_apply, vec, ← h.b.eq]
  blk_ext [iblk, V_main_arg2, argB, idx t]

theorem blk4 (h : Fin4 m c) (t : Fin cfg0.N) :
    iblk m c 4 t = up (s := S512x2048) (fun y => row (re (argT m c)) (rw_ t (y 0)) (y 1)) := by
  funext y
  idx_vars y
  simp only [up_apply, row, ← h.t.eq]
  blk_ext [iblk, V_main_arg3, argT, rw_, idx t]

/-- What the result arrays hold, as arrays of reals. -/
def dy (m : (ℓ : Loc nD τ sig) → Buf (Elt Ideal) ℓ) (c : Dev nD) (r : Fin 2048) : Fin 2048 → ℝ :=
  dloss (row (re (argU m c)) r) (vec (re (argG m c))) (vec (re (argB m c))) (row (re (argT m c)) r)
def outU (m : (ℓ : Loc nD τ sig) → Buf (Elt Ideal) ℓ) (c : Dev nD) : S2048x2048.Idx → EReal := fun i =>
  ((gradU (row (re (argU m c)) (i 0)) (vec (re (argG m c))) (dy m c (i 0)) (i 1) : ℝ) : EReal)
def outG (m : (ℓ : Loc nD τ sig) → Buf (Elt Ideal) ℓ) (c : Dev nD) : S1x2048.Idx → EReal := fun i =>
  ((∑ r : Fin 2048, dy m c r (i 1) * xh (row (re (argU m c)) r) (i 1) : ℝ) : EReal)
def outB (m : (ℓ : Loc nD τ sig) → Buf (Elt Ideal) ℓ) (c : Dev nD) : S1x2048.Idx → EReal := fun i =>
  ((∑ r : Fin 2048, dy m c r (i 1) : ℝ) : EReal)
def part (m : (ℓ : Loc nD τ sig) → Buf (Elt Ideal) ℓ) (c : Dev nD) (r : Fin 2048) : ℝ :=
  sqs (row (re (argU m c)) r) (vec (re (argG m c))) (vec (re (argB m c))) (row (re (argT m c)) r) * (1 / 4096)
def outL (m : (ℓ : Loc nD τ sig) → Buf (Elt Ideal) ℓ) (c : Dev nD) : S1x128.Idx → EReal := fun _ =>
  ((∑ r : Fin 2048, part m c r : ℝ) : EReal)

theorem case01 (t : Fin cfg0.N) : (t.val % 4 = 0 ∧ ¬ 1 ≤ t.val) ∨ (¬ t.val % 4 = 0 ∧ 1 ≤ t.val) := by
  have := lt4 t; omega

/-- What a point leaves in the blocks of the first two results, whichever case it is. -/
theorem point5 (h : Fin4 m c) (t : Fin cfg0.N) (a : Fin 512) (b : Fin 2048) :
    ((outsAt0 m c t.val t.isLt).1 : S512x2048.Idx → EReal) (ix2 a b) = outU m c (ix2 (rw_ t a) b) := by
  rcases case01 t with ⟨h0, h1⟩ | ⟨h0, h1⟩
  · rw [outsAt0_A m c t h0 h1]
    frame_out
    rw [blk0 h, blk1 h, blk2 h, blk3 h, blk4 h, pay_du]; rfl
  · rw [outsAt0_B m c t h0 h1]
    frame_out
    rw [blk0 h, blk1 h, blk2 h, blk3 h, blk4 h, pay_du]; rfl

theorem point6 (h : Fin4 m c) (t : Fin cfg0.N) (a : Fin 512) (b : Fin 2048) :
    ((outsAt0 m c t.val t.isLt).2.1 : S512x2048.Idx → EReal) (ix2 a b) = outU m c (ix2 (rw_ t a) b) := by
  rcases case01 t with ⟨h0, h1⟩ | ⟨h0, h1⟩
  · rw [outsAt0_A m c t h0 h1]
    frame_out
    rw [blk0 h, blk1 h, blk2 h, blk3 h, blk4 h, pay_du16]; rfl
  · rw [outsAt0_B m c t h0 h1]
    frame_out
    rw [blk0 h, blk1 h, blk2 h, blk3 h, blk4 h, pay_du16]; rfl

theorem arr5 (h : Fin4 m c) : (dats m 0 c).arrAt 5 cfg0.N = outU m c := by
  refine (dats m 0 c).arrAt_eq_of_covers 5 _ (by decide +kernel) fun t hf y => ?_
  idx_vars y
  blk_simp
  rw [after0_5, point5 h]
  blk_ext [rw_, idx t]

theorem arr6 (h : Fin4 m c) : (dats m 0 c).arrAt 6 cfg0.N = outU m c := by
  refine (dats m 0 c).arrAt_eq_of_covers 6 _ (by decide +kernel) fun t hf y => ?_
  idx_vars y
  blk_simp
  rw [after0_6, point6 h]
  blk_ext [rw_, idx t]

/-- The parts of the vectors' gradients that point `t` adds. -/
def termG (m : (ℓ : Loc nD τ sig) → Buf (Elt Ideal) ℓ) (c : Dev nD) (t : Fin cfg0.N) (j : S1x2048.Idx) : EReal :=
  ((∑ a : Fin 512, dy m c (rw_ t a) (j 1) * xh (row (re (argU m c)) (rw_ t a)) (j 1) : ℝ) : EReal)
def termB (m : (ℓ : Loc nD τ sig) → Buf (Elt Ideal) ℓ) (c : Dev nD) (t : Fin cfg0.N) (j : S1x2048.Idx) : EReal :=
  ((∑ a : Fin 512, dy m c (rw_ t a) (j 1) : ℝ) : EReal)

def termL (m : (ℓ : Loc nD τ sig) → Buf (Elt Ideal) ℓ) (c : Dev nD) (t : Fin cfg0.N) (j : S1x128.Idx) : EReal :=
  ((∑ a : Fin 512, part m c (rw_ t a) : ℝ) : EReal)

theorem pay_dg_blk (h : Fin4 m c) (t : Fin cfg0.N) (j : S1x2048.Idx) :
    k0_pay1 (F := Ideal) (k0_pay13 (iblk m c 0 t) (iblk m c 2 t) (iblk m c 3 t) (iblk m c 4 t)) j = termG m c t j := by
  rw [blk0 h, blk2 h, blk3 h, blk4 h]
  idx_vars j
  obtain rfl : j0 = 0 := Subsingleton.elim _ _
  rw [pay_dg]
  rfl

theorem pay_db_blk (h : Fin4 m c) (t : Fin cfg0.N) (j : S1x2048.Idx) :
    k0_pay2 (F := Ideal) (k0_pay11 (iblk m c 0 t) (iblk m c 2 t) (iblk m c 3 t) (iblk m c 4 t)) j = termB m c t j := by
  rw [blk0 h, blk2 h, blk3 h, blk4 h]
  idx_vars j
  obtain rfl : j0 = 0 := Subsingleton.elim _ _
  rw [pay_db]
  rfl

theorem pay_loss_blk (h : Fin4 m c) (t : Fin cfg0.N) (j : S1x128.Idx) :
    k0_pay4 (F := Ideal) (k0_pay10 (iblk m c 0 t) (iblk m c 2 t) (iblk m c 3 t) (iblk m c 4 t)) j = termL m c t j := by
  rw [blk0 h, blk2 h, blk3 h, blk4 h]
  idx_vars j
  obtain rfl : j0 = 0 := Subsingleton.elim _ _
  rw [pay_loss]
  rfl

/-- The points' rows, over the grid, are all of them. -/
theorem sum_points (g : Fin 2048 → ℝ) : (∑ t : Fin cfg0.N, ∑ a : Fin 512, g (rw_ t a)) = ∑ r : Fin 2048, g r :=
  Fin.sum_mul_add_fin 4 512 g

theorem arr7 (h : Fin4 m c) : (dats m 0 c).arrAt 7 cfg0.N = outG m c := by
  refine (dats m 0 c).arrAt_eq_of_after_last 7 t0_3 (by decide +kernel) _ fun j => ?_
  blk_simp
  rw [after0_7, Pipeline.eq_sum_fin_of_reset_step_apply_last (fun n hn => (outsAt0 m c n hn).2.2.1) 4 (fun _ => 0) (termG m c)
    (fun t h0 j => by
      rw [outsAt0_A m c t h0 (by have := lt4 t; omega)]; frame_out; rw [pay_dg_blk h]; exact (zero_add _).symm)
    (fun t h0 j => by
      rw [outsAt0_B m c t h0 (by omega)]; frame_out
      refine Eq.trans ?_ (congrArg _ (pay_dg_blk h t j))
      pointwise [k0_pay5])
    (le_of_eq N_0) t0_3 rfl j, zero_add]
  unfold termG outG
  rw [coe_sum]
  exact congrArg _ (sum_points fun r => dy m c r (j 1) * xh (row (re (argU m c)) r) (j 1))

theorem arr8 (h : Fin4 m c) : (dats m 0 c).arrAt 8 cfg0.N = outB m c := by
  refine (dats m 0 c).arrAt_eq_of_after_last 8 t0_3 (by decide +kernel) _ fun j => ?_
  blk_simp
  rw [after0_8, Pipeline.eq_sum_fin_of_reset_step_apply_last (fun n hn => (outsAt0 m c n hn).2.2.2.1) 4 (fun _ => 0) (termB m c)
    (fun t h0 j => by
      rw [outsAt0_A m c t h0 (by have := lt4 t; omega)]; frame_out; rw [pay_db_blk h]; exact (zero_add _).symm)
    (fun t h0 j => by
      rw [outsAt0_B m c t h0 (by omega)]; frame_out
      refine Eq.trans ?_ (congrArg _ (pay_db_blk h t j))
      pointwise [k0_pay6])
    (le_of_eq N_0) t0_3 rfl j, zero_add]
  unfold termB outB
  rw [coe_sum]
  exact congrArg _ (sum_points fun r => dy m c r (j 1))

theorem arr9 (h : Fin4 m c) : (dats m 0 c).arrAt 9 cfg0.N = outL m c := by
  refine (dats m 0 c).arrAt_eq_of_after_last 9 t0_3 (by decide +kernel) _ fun j => ?_
  blk_simp
  rw [after0_9, Pipeline.eq_sum_fin_of_reset_step_apply_last (fun n hn => (outsAt0 m c n hn).2.2.2.2) 4 (fun _ => 0) (termL m c)
    (fun t h0 j => by
      rw [outsAt0_A m c t h0 (by have := lt4 t; omega)]; frame_out; rw [pay_loss_blk h]; exact (zero_add _).symm)
    (fun t h0 j => by
      rw [outsAt0_B m c t h0 (by omega)]; frame_out
      refine Eq.trans ?_ (congrArg _ (pay_loss_blk h t j))
      pointwise [k0_pay7])
    (le_of_eq N_0) t0_3 rfl j, zero_add]
  unfold termL outL
  rw [coe_sum]
  exact congrArg _ (sum_points fun r => part m c r)

end Arrays

end Cert.Loss.Kernel

end
-- ==== Proof.LossRef.lean ====
/- The loss and its gradient through the last layer norm as the reference differentiates it, at the extended reals, on real arguments. -/
module

public import proofs.«01_k».proof.Proof.LnSpec
public import proofs.«01_k».proof.Proof.Gen.RLossIdeal.Read

@[expose] public section

set_option maxRecDepth 16384

noncomputable section

namespace Cert.Loss.Ref

open Idealize.ShloMosaic Idealize.ShloMosaic.TcCoe Idealize.SL.Sem
open Cert.RLossIdeal Cert.RLossIdeal.Gen Cert.RLossIdeal.Read Cert.Lift Cert.Ln

variable (U : S2048x2048.Idx → ℝ) (G B : S1x2048.Idx → ℝ) (T : S2048x2048.Idx → ℝ)

theorem rd_xc (r k : Fin 2048) : val_main_v9 (F := Ideal) (up U) (ix3 0 r k) = ((xc (row U r) k : ℝ) : EReal) := by
  pointwise [val_main_v9, val_main_v8, val_main_v7, val_main_v6, val_main_v5, val_main_v4, val_main_v0, val_main_cst, val_main_cst_0, up_apply]
  simp only [lit_2048, zero_coe, coe_sum, ← EReal.coe_add, div_coe _ h2048, ← EReal.coe_sub, zero_add]; rfl

theorem rd_va (r : Fin 2048) : val_main_v16 (F := Ideal) (up U) (ix3 0 r 0) = ((va (row U r) : ℝ) : EReal) := by
  pointwise [val_main_v16, val_main_v15, val_main_v14, val_main_v13, val_main_v12, val_main_v11, val_main_v10, val_main_cst_1, val_main_cst_2,
    val_main_cst_3, rd_xc]
  simp only [lit_2048, Ln.eps_coe, zero_coe, ← EReal.coe_mul, coe_sum, ← EReal.coe_add, div_coe _ h2048, zero_add]; rfl

theorem rd_rs (r : Fin 2048) : val_main_v17 (F := Ideal) (up U) (ix3 0 r 0) = ((rs (row U r) : ℝ) : EReal) := by
  pointwise [val_main_v17, rd_va]
  exact rsqrt_coe (va_pos _)

theorem rd_diff (r k : Fin 2048) :
    val_main_v29 (F := Ideal) (up U) (up G) (up B) (up T) (ix3 0 r k) = ((diff (row U r) (vec G) (vec B) (row T r) k : ℝ) : EReal) := by
  pointwise [val_main_v29, val_main_v28, val_main_v27, val_main_v26, val_main_v25, val_main_v24, val_main_v23, val_main_v22, val_main_v21,
    val_main_v3, val_main_v2, val_main_v1, rd_xc, rd_rs, up_apply]
  simp only [← EReal.coe_mul, ← EReal.coe_add, ← EReal.coe_sub]; rfl

theorem rd_y (r k : Fin 2048) :
    val_main_v43 (F := Ideal) (up U) (up G) (up B) (up T) (ix3 0 r k) = ((dloss (row U r) (vec G) (vec B) (row T r) k : ℝ) : EReal) := by
  pointwise [val_main_v43, val_main_v42, val_main_v41, val_main_v40, val_main_v39, val_main_v38, val_main_v32, val_main_v31, val_main_cst_5,
    val_main_cst_10, val_main_cst_11, val_main_cst_12, rd_diff]
  simp only [lit_two, lit_half, lit_2048, one_coe, ← EReal.coe_mul, div_coe _ h2048]
  rw [dloss, EReal.coe_eq_coe_iff]; ring

/-- The sum over every row is the sum over the one axis that is not of size one. -/
theorem rd_all (x : FVec Ideal S1x2048 .f32) (y : FVec Ideal S_ .f32) (j : S_.Idx) :
    Host.reduceAdd x y reducesTo_S1x2048_S_d0_1 h_S_ j = y (Shape.Idx.first h_S_) + ∑ r : Fin 2048, x (ix2 0 r) := by
  refine hostReduceAdd_list _ x _ _ (fun r : Fin 2048 => (ix2 0 r : S1x2048.Idx)) (fun p q e => congrFun e 1) fun i => ?_
  idx_vars i
  obtain rfl : i0 = 0 := Subsingleton.elim _ _
  exact ⟨fun _ => ⟨i1, rfl⟩, fun _ => funext fun a => a.elim0⟩

theorem rd_loss (k : Fin 128) :
    val_main_v82 (F := Ideal) (up U) (up G) (up B) (up T) (ix2 0 k)
      = ((∑ r, sqs (row U r) (vec G) (vec B) (row T r) * (1 / 4096) : ℝ) : EReal) := by
  pointwise [val_main_v82, val_main_v37, val_main_cst_9]
  unfold val_main_v36
  rw [rd_all]
  pointwise [val_main_v35, val_main_v34, val_main_v33, val_main_v30, val_main_cst_6, val_main_cst_7, val_main_cst_8, rd_diff]
  simp only [lit_half, lit_2048, zero_coe, ← EReal.coe_mul, coe_sum, ← EReal.coe_add, div_coe _ h2048, zero_add]
  rw [EReal.coe_eq_coe_iff, Finset.mul_sum]
  exact Finset.sum_congr rfl fun r _ => by unfold sqs; ring

theorem rd_dh (r k : Fin 2048) :
    val_main_v51 (F := Ideal) (up U) (up G) (up B) (up T) (ix3 0 r k)
      = ((dloss (row U r) (vec G) (vec B) (row T r) k * vec G k : ℝ) : EReal) := by
  pointwise [val_main_v51, val_main_v50, val_main_v23, val_main_v1, rd_y, up_apply]
  rw [EReal.coe_mul]; rfl

theorem rd_half (r : Fin 2048) :
    val_main_v61 (F := Ideal) (up U) (up G) (up B) (up T) (ix1 r)
      = ((half (row U r) (vec G) (dloss (row U r) (vec G) (vec B) (row T r)) : ℝ) : EReal) := by
  unfold val_main_v61
  rw [unit02]
  pointwise [val_main_v60, val_main_v59, val_main_v58, val_main_v55, val_main_v54, val_main_v53, val_main_v20, val_main_v19, val_main_v18,
    val_main_cst_4, val_main_cst_17, val_main_cst_18, val_main_cst_19, rd_xc, rd_dh, rd_rs, rd_va]
  simp only [lit_2048, lit_neg_half, zero_coe, ← EReal.coe_mul, coe_sum, ← EReal.coe_add, div_coe _ h2048, div_coe _ (va_pos _).ne', zero_add]
  rfl

theorem rd_dxc (r k : Fin 2048) :
    val_main_v67 (F := Ideal) (up U) (up G) (up B) (up T) (ix3 0 r k)
      = ((dxc (row U r) (vec G) (dloss (row U r) (vec G) (vec B) (row T r)) k : ℝ) : EReal) := by
  pointwise [val_main_v67, val_main_v66, val_main_v65, val_main_v64, val_main_v63, val_main_v62, val_main_v57, val_main_v56, rd_xc, rd_dh, rd_rs, rd_half]
  simp only [← EReal.coe_mul, ← EReal.coe_add]
  rfl

theorem rd_du (r k : Fin 2048) :
    val_main_v77 (F := Ideal) (up U) (up G) (up B) (up T) (ix2 r k)
      = ((gradU (row U r) (vec G) (dloss (row U r) (vec G) (vec B) (row T r)) k : ℝ) : EReal) := by
  rw [gradU_eq]
  pointwise [val_main_v77, val_main_v76, val_main_v75, val_main_v74, rd_dxc]
  unfold val_main_v73
  rw [unit02]
  pointwise [val_main_v72, val_main_v71, val_main_v70, val_main_v69, val_main_v68, val_main_cst_20, val_main_cst_21, val_main_cst_22, rd_dxc]
  simp only [lit_2048, zero_coe, ← EReal.coe_neg, coe_sum, ← EReal.coe_add, div_coe _ h2048, zero_add]

theorem rd_dg (k : Fin 2048) :
    val_main_v80 (F := Ideal) (up U) (up G) (up B) (up T) (ix2 0 k)
      = ((∑ r, dloss (row U r) (vec G) (vec B) (row T r) k * xh (row U r) k : ℝ) : EReal) := by
  pointwise [val_main_v80]
  unfold val_main_v52
  rw [unit01]
  pointwise [val_main_v49, val_main_v48, val_main_v47, val_main_v22, val_main_v21, val_main_cst_15, val_main_cst_16, rd_y, rd_xc, rd_rs]
  simp only [zero_coe, ← EReal.coe_mul, coe_sum, ← EReal.coe_add, zero_add]
  exact congrArg _ (Finset.sum_congr rfl fun r _ => mul_comm _ _)

theorem rd_db (k : Fin 2048) :
    val_main_v81 (F := Ideal) (up U) (up G) (up B) (up T) (ix2 0 k)
      = ((∑ r, dloss (row U r) (vec G) (vec B) (row T r) k : ℝ) : EReal) := by
  pointwise [val_main_v81]
  unfold val_main_v46
  rw [unit01]
  pointwise [val_main_v45, val_main_v44, val_main_cst_13, val_main_cst_14, rd_y]
  simp only [zero_coe, coe_sum, ← EReal.coe_add, zero_add]

end Cert.Loss.Ref

end
-- ==== Proof.LossClaim.lean ====
/- The loss's call computes the loss and its gradient through the last layer norm: the two programs' results agree. -/
module

public import proofs.«01_k».proof.Defs
public import proofs.«01_k».proof.Proof.LossKernel
public import proofs.«01_k».proof.Proof.LossRef
public import Idealize.ShloMosaic.Lib.Claim

@[expose] public section

set_option maxRecDepth 16384

noncomputable section

namespace Cert.Loss

open Idealize.ShloMosaic Idealize.ShloMosaic.TcCoe Idealize.SL.Sem Cert.Lift Cert.Ln

theorem facts : Cert.Pre_finite_loss.Facts := ⟨by decide, by decide⟩

/-- The reference's run: its arguments unchanged, and no counter to return. -/
theorem ref_frame : Cert.quiescent_RLossIdeal := fun m g _ =>
  (θ_run _ _ _).mono (fun r h => ⟨fun c => (h c).2.2.2.2.2, sem_eq_zero_of_no_sems (by decide) r.2⟩) (Cert.RLossIdeal.Value.run m g)

/-- The precondition, read at the extended reals: every argument is of reals. -/
theorem fin4 [Cert.Pre_finite_loss.Facts] {m : (ℓ : Loc Cert.KLossIdeal.nD Cert.KLossIdeal.τ Cert.KLossIdeal.sig) → Buf (Elt Ideal) ℓ}
    (h : Pre_KLossIdeal_finite_loss m) (c : Dev Cert.KLossIdeal.nD) : Kernel.Fin4 m c :=
  ⟨isReal_of_cmp _ _ (fun _ => lit_top) (h c).1, isReal_of_cmp _ _ (fun _ => lit_top) (h c).2.1,
    isReal_of_cmp _ _ (fun _ => lit_top) (h c).2.2.1, isReal_of_cmp _ _ (fun _ => lit_top) (h c).2.2.2⟩

section
open Cert.RLossIdeal Cert.RLossIdeal.Gen Cert.RLossIdeal.Read
variable (U : S2048x2048.Idx → EReal) (G B : S1x2048.Idx → EReal) (T : S2048x2048.Idx → EReal)
  (hU : IsReal U) (hG : IsReal G) (hB : IsReal B) (hT : IsReal T)

/-- A row's cotangent, of the arguments' real parts. -/
def dy (r : Fin 2048) : Fin 2048 → ℝ := dloss (row (re U) r) (vec (re G)) (vec (re B)) (row (re T) r)

include hU hG hB hT

theorem ref_du : val_main_v77 (F := Ideal) U G B T = fun i => ((gradU (row (re U) (i 0)) (vec (re G)) (dy U G B T (i 0)) (i 1) : ℝ) : EReal) := by
  funext i
  idx_vars i
  have e := Ref.rd_du (re U) (re G) (re B) (re T) i0 i1
  rw [← hU.up_re, ← hG.up_re, ← hB.up_re, ← hT.up_re] at e
  exact e

theorem ref_dg : val_main_v80 (F := Ideal) U G B T = fun i => ((∑ r, dy U G B T r (i 1) * xh (row (re U) r) (i 1) : ℝ) : EReal) := by
  funext i
  idx_vars i
  obtain rfl : i0 = 0 := Subsingleton.elim _ _
  have e := Ref.rd_dg (re U) (re G) (re B) (re T) i1
  rw [← hU.up_re, ← hG.up_re, ← hB.up_re, ← hT.up_re] at e
  exact e

theorem ref_db : val_main_v81 (F := Ideal) U G B T = fun i => ((∑ r, dy U G B T r (i 1) : ℝ) : EReal) := by
  funext i
  idx_vars i
  obtain rfl : i0 = 0 := Subsingleton.elim _ _
  have e := Ref.rd_db (re U) (re G) (re B) (re T) i1
  rw [← hU.up_re, ← hG.up_re, ← hB.up_re, ← hT.up_re] at e
  exact e

theorem ref_loss : val_main_v82 (F := Ideal) U G B T
    = fun _ => ((∑ r, sqs (row (re U) r) (vec (re G)) (vec (re B)) (row (re T) r) * (1 / 4096) : ℝ) : EReal) := by
  funext i
  idx_vars i
  obtain rfl : i0 = 0 := Subsingleton.elim _ _
  have e := Ref.rd_loss (re U) (re G) (re B) (re T) i1
  rw [← hU.up_re, ← hG.up_re, ← hB.up_re, ← hT.up_re] at e
  exact e

end

theorem algebraic [Cert.Pre_finite_loss.Facts] : Cert.algebraic_KLossIdeal_RLossIdeal_pre_finite_loss := by
  intro m g m' g' hpre hagree
  refine ⟨fun c => Kernel.outU m c, fun c => Kernel.outU m c, fun c => Kernel.outG m c, fun c => Kernel.outB m c, fun c => Kernel.outL m c, ?_, ?_⟩
  · refine (θ_run _ _ _).mono (fun r h c => ?_) (Cert.KLossIdeal.Value.run_blocks m g)
    obtain ⟨h5, h6, h7, h8, h9, ha⟩ := h c
    have f := fin4 hpre c
    exact ⟨h5.trans (Kernel.arr5 f), h6.trans (Kernel.arr6 f), h7.trans (Kernel.arr7 f), h8.trans (Kernel.arr8 f), h9.trans (Kernel.arr9 f), ha⟩
  · refine (θ_run _ _ _).mono (fun r h c => ?_) (Cert.RLossIdeal.Value.run m' g')
    obtain ⟨h1, h2, h3, h4, h5, ha⟩ := h c
    obtain ⟨fu, fg, fb, ft⟩ := fin4 hpre c
    obtain ⟨e0, e1, e2, e3⟩ := hagree c
    refine ⟨h1.trans ?_, h2.trans ?_, h3.trans ?_, h4.trans ?_, h5.trans ?_, ha⟩
    · rw [Cert.RLossIdeal.Read.val_main_v77_eq, e0, e1, e2, e3]
      exact ref_du _ _ _ _ fu fg fb ft
    · rw [Cert.RLossIdeal.Read.val_main_v79_eq, e0, e1, e2, e3]
      exact ref_du _ _ _ _ fu fg fb ft
    · rw [Cert.RLossIdeal.Read.val_main_v80_eq, e0, e1, e2, e3]
      exact ref_dg _ _ _ _ fu fg fb ft
    · rw [Cert.RLossIdeal.Read.val_main_v81_eq, e0, e1, e2, e3]
      exact ref_db _ _ _ _ fu fg fb ft
    · rw [Cert.RLossIdeal.Read.val_main_v82_eq, e0, e1, e2, e3]
      exact ref_loss _ _ _ _ fu fg fb ft

end Cert.Loss

end
-- ==== Proof.GatesSpec.lean ====
/- The gradient of the recurrence's gates: the padded lanes, and the two forms of the softplus's derivative. -/
module

public import proofs.«01_k».proof.Proof.Lift
public import Idealize.ShloMosaic.Lib.KernelVsHost

@[expose] public section

noncomputable section

namespace Cert.Gates

open Idealize.ShloMosaic Idealize.ShloMosaic.TcCoe Cert.Lift

/-- The logistic function, of an extended real and of a real. -/
def sgE (x : EReal) : EReal := Ideal.div 1 (1 + Ideal.exp (-x))
def sg (x : ℝ) : ℝ := 1 / (1 + Real.exp (-x))

/-- The softplus as it is computed. -/
def sp (x : ℝ) : ℝ := max x 0 + Real.log (1 + Real.exp (-max x (-x)))

theorem one_add_exp (x : ℝ) : 1 + Real.exp x ≠ 0 := (add_pos one_pos (Real.exp_pos x)).ne'

theorem sp_eq (x : ℝ) : sp x = Real.log (1 + Real.exp x) := by
  unfold sp
  rcases le_total 0 x with h | h
  · rw [max_eq_left h, max_eq_left (by linarith : -x ≤ x)]
    have e : 1 + Real.exp x = Real.exp x * (1 + Real.exp (-x)) := by
      rw [mul_add, ← Real.exp_add, add_neg_cancel, Real.exp_zero]; ring
    rw [e, Real.log_mul (Real.exp_pos x).ne' (one_add_exp _), Real.log_exp]
  · rw [max_eq_right h, max_eq_right (by linarith : x ≤ -x), neg_neg, zero_add]

/-- The softplus's derivative, as differentiating it gives it, is the logistic function. -/
theorem exp_sub_sp (x : ℝ) : Real.exp (x - sp x) = sg x := by
  have h := one_add_exp (-x)
  rw [sp_eq, Real.exp_sub, Real.exp_log (add_pos one_pos (Real.exp_pos x)), sg, div_eq_div_iff (one_add_exp x) h, mul_add,
    ← Real.exp_add, add_neg_cancel, Real.exp_zero]
  ring

theorem sg_coe (x : ℝ) : Ideal.div 1 (1 + Ideal.exp ((-x : ℝ) : EReal)) = ((sg x : ℝ) : EReal) := by
  rw [Ideal.exp_coe, one_coe, ← EReal.coe_add, div_coe _ (one_add_exp _)]; rfl

theorem sp_coe (x : ℝ) :
    max (x : EReal) 0 + Ideal.log1p (Ideal.exp (-max (x : EReal) (-(x : EReal)))) = ((sp x : ℝ) : EReal) := by
  rw [← EReal.coe_neg, max_coe, ← EReal.coe_neg, Ideal.exp_coe, Ideal.log1p, one_coe, ← EReal.coe_add,
    log_coe (add_pos one_pos (Real.exp_pos _)), zero_coe, max_coe, ← EReal.coe_add]; rfl

/-- The decay as the host writes it, its comparison of a value with itself never holding. -/
theorem decay_coe {x y z : EReal} {al a dt : ℝ} (hx : x = al) (hy : y = a) (hz : z = dt) :
    -Ideal.exp x * (if y + z ≠ y + z then y + z
        else max (y + z) 0 + Ideal.log1p (Ideal.exp (-max (y + z) (-(y + z)))))
      = ((-Real.exp al * sp (a + dt) : ℝ) : EReal) := by
  rw [if_neg (fun e => e rfl), hx, hy, hz, ← EReal.coe_add, sp_coe, Ideal.exp_coe, ← EReal.coe_neg, ← EReal.coe_mul]

/-- Two groups of eight lanes at the head of a row of 128, and nothing behind them. -/
def lanes (x y : Fin 8 → EReal) (k : Fin 128) : EReal :=
  if _ : k.val < 16 then if h : k.val < 8 then x ⟨k.val, h⟩ else y ⟨k.val - 8, by omega⟩ else 0

/-- One group of eight lanes, the second. -/
def second (y : Fin 8 → EReal) (k : Fin 128) : EReal :=
  if h : 8 ≤ k.val ∧ k.val - 8 < 8 then y ⟨k.val - 8, h.2⟩ else 0

theorem lanes_first (x y : Fin 8 → EReal) {k : Fin 128} (h : k.val < 8) : lanes x y k = x ⟨k.val, h⟩ :=
  (dif_pos (by omega)).trans (dif_pos h)
theorem lanes_second (x y : Fin 8 → EReal) {k : Fin 128} (h : 8 ≤ k.val ∧ k.val - 8 < 8) : lanes x y k = y ⟨k.val - 8, h.2⟩ :=
  (dif_pos (by omega)).trans (dif_neg (by omega))
theorem lanes_rest (x y : Fin 8 → EReal) {k : Fin 128} (h : 16 ≤ k.val) : lanes x y k = 0 := dif_neg (by omega)
theorem second_pos (y : Fin 8 → EReal) {k : Fin 128} (h : 8 ≤ k.val ∧ k.val - 8 < 8) : second y k = y ⟨k.val - 8, h.2⟩ := dif_pos h
theorem second_neg (y : Fin 8 → EReal) {k : Fin 128} (h : ¬ (8 ≤ k.val ∧ k.val - 8 < 8)) : second y k = 0 := dif_neg h

theorem split (k : Fin 128) : k.val < 8 ∨ (8 ≤ k.val ∧ k.val - 8 < 8) ∨ 16 ≤ k.val := by omega

theorem sitofp_zero : (FloatOps.sitofp (F := Ideal) .f32 0#32 : EReal) = 0 := by
  show (((0#32).toInt : ℝ) : EReal) = 0
  simp

/-- A table and a row of an array. -/
def tab {α : Type} (x : (⟨2, ![2048, 8]⟩ : Shape).Idx → α) (r : Fin 2048) (j : Fin 8) : α := x (ix2 r j)
def vec {α : Type} (x : (⟨2, ![1, 8]⟩ : Shape).Idx → α) (j : Fin 8) : α := x (ix2 0 j)

variable (b dbeta : Fin 2048 → Fin 8 → EReal) (a dg : Fin 2048 → Fin 8 → ℝ) (al dt : Fin 8 → ℝ)

/-- The cotangents of the two projections, and the gradients of the decay's two parameters. -/
def db (r : Fin 2048) (j : Fin 8) : EReal := dbeta r j * (sgE (b r j) * (1 - sgE (b r j)))
def da (r : Fin 2048) (j : Fin 8) : ℝ := -Real.exp (al j) * dg r j * sg (a r j + dt j)
def dal (j : Fin 8) : ℝ := -(∑ r, dg r j * sp (a r j + dt j)) * Real.exp (al j)
def ddt (j : Fin 8) : ℝ := ∑ r, da a dg al dt r j

theorem dal_eq (j : Fin 8) : dal a dg al dt j = ∑ r, dg r j * (-Real.exp (al j) * sp (a r j + dt j)) := by
  unfold dal
  rw [neg_mul, Finset.sum_mul, ← Finset.sum_neg_distrib]
  exact Finset.sum_congr rfl fun r _ => by ring

end Cert.Gates

end
-- ==== Proof.GatesKernel.lean ====
/- The gates' backward kernel, at the extended reals: its three result arrays. -/
module

public import proofs.«01_k».proof.Proof.GatesSpec
public import proofs.«01_k».proof.Proof.Gen.KGatesIdeal.Value
public import Idealize.ShloMosaic.Lib.Pipeline.ValueKit
public import Idealize.ShloMosaic.Lib.StableHlo.ReadAt

@[expose] public section

set_option maxRecDepth 16384

noncomputable section

namespace Cert.Gates.Kernel

open Idealize.ShloMosaic Idealize.ShloMosaic.TcCoe Idealize.SL.Sem
open Idealize.ShloMosaic.Pipeline (Dat)
open Cert.KGatesIdeal Cert.KGatesIdeal.Gen Cert.Lift Cert.Gates

section Payloads

variable (v1 v3 v15 : S2048x128.Idx → EReal) (v11 v17 : S1x128.Idx → EReal)

theorem pay_da (r : Fin 2048) (k : Fin 128) :
    k0_pay5 (F := Ideal) v3 v11 v15 v17 (ix2 r k)
      = (0 - v3 (ix2 r k)) * v11 (ix2 0 k) * sgE (v15 (ix2 r k) + v17 (ix2 0 k)) := by
  pointwise [k0_pay5, k0_pay4]
  rw [sgE, ← zero_sub (v15 (ix2 r k) + v17 (ix2 0 k))]

theorem lt_8 : ∀ k : Fin 128, IntOp.cmpi .slt (BitVec.ofNat 32 k.val) 8#32 = BitVec.ofBool (decide (k.val < 8)) := by
  decide +kernel

theorem mid : ∀ k : Fin 128, IntOp.andi (IntOp.cmpi .sge (BitVec.ofNat 32 k.val) 8#32) (IntOp.cmpi .slt (BitVec.ofNat 32 k.val) 16#32)
    = BitVec.ofBool (decide (8 ≤ k.val ∧ k.val - 8 < 8)) := by
  decide +kernel

theorem pay_mask (r : Fin 2048) (k : Fin 128) : k0_pay6 (ix2 r k) = BitVec.ofBool (decide (8 ≤ k.val ∧ k.val - 8 < 8)) := by
  pointwise [k0_pay6]
  exact mid k

theorem pay_dba (r : Fin 2048) (k : Fin 128) :
    k0_pay7 (F := Ideal) v1 v3 v11 v15 v17 (ix2 r k)
      = if k.val < 8 then v3 (ix2 r k) * v1 (ix2 r k) * (1 - v1 (ix2 r k))
        else if 8 ≤ k.val ∧ k.val - 8 < 8 then (0 - v3 (ix2 r k)) * v11 (ix2 0 k) * sgE (v15 (ix2 r k) + v17 (ix2 0 k)) else 0 := by
  pointwise [k0_pay7, k0_pay4, k0_pay3, pay_mask, pay_da, lt_8]

theorem pay_dal (k : Fin 128) :
    k0_pay1 (F := Ideal) (k0_pay3 v1) (k0_pay4 v3) k0_pay6 (ix2 0 k)
      = ∑ r : Fin 2048, if 8 ≤ k.val ∧ k.val - 8 < 8 then v3 (ix2 r k) * v1 (ix2 r k) else 0 := by
  pointwise [k0_pay1, k0_pay4, k0_pay3, pay_mask]

theorem pay_ddt (k : Fin 128) :
    k0_pay2 (F := Ideal) (k0_pay5 v3 v11 v15 v17) k0_pay6 (ix2 0 k)
      = ∑ r : Fin 2048, if 8 ≤ k.val ∧ k.val - 8 < 8
          then (0 - v3 (ix2 r k)) * v11 (ix2 0 k) * sgE (v15 (ix2 r k) + v17 (ix2 0 k)) else 0 := by
  pointwise [k0_pay2, pay_mask, pay_da]

end Payloads

section Arrays

variable (m : (ℓ : Loc nD τ sig) → Buf (Elt Ideal) ℓ) (c : Dev nD)

def argb : S2048x8.Idx → EReal := m ((c : Thread nD τ).loc main_arg0)
def arga : S2048x8.Idx → EReal := m ((c : Thread nD τ).loc main_arg1)
def argal : S1x8.Idx → EReal := m ((c : Thread nD τ).loc main_arg2)
def argdt : S1x8.Idx → EReal := m ((c : Thread nD τ).loc main_arg3)
def argdb : S2048x8.Idx → EReal := m ((c : Thread nD τ).loc main_arg4)
def argdg : S2048x8.Idx → EReal := m ((c : Thread nD τ).loc main_arg5)

/-- The arguments that have to be of reals. -/
structure Fin4 : Prop where
  a : IsReal (arga m c)
  al : IsReal (argal m c)
  dt : IsReal (argdt m c)
  dg : IsReal (argdg m c)

variable {m c}

theorem host_ba (r : Fin 2048) (k : Fin 128) :
    (V m c main_v19 : S2048x128.Idx → EReal) (ix2 r k) = lanes (tab (argb m c) r) (tab (arga m c) r) k := by
  unfold V; after_reads_at
  refine dite_congr rfl (fun h => dite_congr rfl (fun h' => ?_) (fun h' => ?_)) (fun _ => sitofp_zero)
  · after_reads_at; rfl
  · after_reads_at; rfl

theorem host_dbg (r : Fin 2048) (k : Fin 128) :
    (V m c main_v21 : S2048x128.Idx → EReal) (ix2 r k) = lanes (tab (argdb m c) r) (tab (argdg m c) r) k := by
  unfold V; after_reads_at
  refine dite_congr rfl (fun h => dite_congr rfl (fun h' => ?_) (fun h' => ?_)) (fun _ => sitofp_zero)
  · after_reads_at; rfl
  · after_reads_at; rfl

theorem host_bg (h : Fin4 m c) (r : Fin 2048) (k : Fin 128) :
    (V m c main_v17 : S2048x128.Idx → EReal) (ix2 r k)
      = lanes (fun j => sgE (tab (argb m c) r j))
          (fun j => ((-Real.exp (vec (re (argal m c)) j) * sp (tab (re (arga m c)) r j + vec (re (argdt m c)) j) : ℝ) : EReal)) k := by
  have ea : ∀ i : S2048x8.Idx, (m (c, Proc.tc.devRef main_arg1) : S2048x8.Idx → EReal) i = ((re (arga m c) i : ℝ) : EReal) := h.a.eq
  have el : ∀ i : S1x8.Idx, (m (c, Proc.tc.devRef main_arg2) : S1x8.Idx → EReal) i = ((re (argal m c) i : ℝ) : EReal) := h.al.eq
  have et : ∀ i : S1x8.Idx, (m (c, Proc.tc.devRef main_arg3) : S1x8.Idx → EReal) i = ((re (argdt m c) i : ℝ) : EReal) := h.dt.eq
  unfold V; after_reads_at
  refine dite_congr rfl (fun h => dite_congr rfl (fun h' => ?_) (fun h' => ?_)) (fun _ => sitofp_zero)
  · after_reads_at; rfl
  · after_reads_at
    exact decay_coe (el _) (ea _) (et _)

theorem host_ea (h : Fin4 m c) (k : Fin 128) :
    (V m c main_v1 : S1x128.Idx → EReal) (ix2 0 k) = second (fun j => ((Real.exp (vec (re (argal m c)) j) : ℝ) : EReal)) k := by
  have el : ∀ i : S1x8.Idx, (m (c, Proc.tc.devRef main_arg2) : S1x8.Idx → EReal) i = ((re (argal m c) i : ℝ) : EReal) := h.al.eq
  unfold V; after_reads_at
  simp only [el, Ideal.exp_coe, sitofp_zero]
  rfl

theorem host_dtb (h : Fin4 m c) (k : Fin 128) :
    (V m c main_v2 : S1x128.Idx → EReal) (ix2 0 k) = second (fun j => ((vec (re (argdt m c)) j : ℝ) : EReal)) k := by
  have et : ∀ i : S1x8.Idx, (m (c, Proc.tc.devRef main_arg3) : S1x8.Idx → EReal) i = ((re (argdt m c) i : ℝ) : EReal) := h.dt.eq
  unfold V; after_reads_at
  simp only [et, sitofp_zero]
  rfl

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] :=
  (by decide +kernel : ∀ t : Fin grid0.N, _)

/-- The five windows' blocks, as arrays of extended reals. -/
def w0 (m : (ℓ : Loc nD τ sig) → Buf (Elt Ideal) ℓ) (c : Dev nD) (t : Fin cfg0.N) : S2048x128.Idx → EReal := iblk m c 0 t
def w1 (m : (ℓ : Loc nD τ sig) → Buf (Elt Ideal) ℓ) (c : Dev nD) (t : Fin cfg0.N) : S2048x128.Idx → EReal := iblk m c 1 t
def w2 (m : (ℓ : Loc nD τ sig) → Buf (Elt Ideal) ℓ) (c : Dev nD) (t : Fin cfg0.N) : S2048x128.Idx → EReal := iblk m c 2 t
def w3 (m : (ℓ : Loc nD τ sig) → Buf (Elt Ideal) ℓ) (c : Dev nD) (t : Fin cfg0.N) : S1x128.Idx → EReal := iblk m c 3 t
def w4 (m : (ℓ : Loc nD τ sig) → Buf (Elt Ideal) ℓ) (c : Dev nD) (t : Fin cfg0.N) : S1x128.Idx → EReal := iblk m c 4 t

theorem blk0 (t : Fin cfg0.N) (r : Fin 2048) (k : Fin 128) :
    w0 m c t (ix2 r k) = lanes (tab (argb m c) r) (tab (arga m c) r) k := by
  rw [← host_ba]
  blk_ext [w0, iblk, idx t]

theorem blk1 (h : Fin4 m c) (t : Fin cfg0.N) (r : Fin 2048) (k : Fin 128) :
    w1 m c t (ix2 r k)
      = lanes (fun j => sgE (tab (argb m c) r j))
          (fun j => ((-Real.exp (vec (re (argal m c)) j) * sp (tab (re (arga m c)) r j + vec (re (argdt m c)) j) : ℝ) : EReal)) k := by
  rw [← host_bg h]
  blk_ext [w1, iblk, idx t]

theorem blk2 (t : Fin cfg0.N) (r : Fin 2048) (k : Fin 128) :
    w2 m c t (ix2 r k) = lanes (tab (argdb m c) r) (tab (argdg m c) r) k := by
  rw [← host_dbg]
  blk_ext [w2, iblk, idx t]

theorem blk3 (h : Fin4 m c) (t : Fin cfg0.N) (k : Fin 128) :
    w3 m c t (ix2 0 k) = second (fun j => ((Real.exp (vec (re (argal m c)) j) : ℝ) : EReal)) k := by
  rw [← host_ea h]
  blk_ext [w3, iblk, idx t]

theorem blk4 (h : Fin4 m c) (t : Fin cfg0.N) (k : Fin 128) :
    w4 m c t (ix2 0 k) = second (fun j => ((vec (re (argdt m c)) j : ℝ) : EReal)) k := by
  rw [← host_dtb h]
  blk_ext [w4, iblk, idx t]

/-- What the result arrays hold. -/
def outBA (m : (ℓ : Loc nD τ sig) → Buf (Elt Ideal) ℓ) (c : Dev nD) : S2048x128.Idx → EReal := fun i =>
  lanes (db (tab (argb m c)) (tab (argdb m c)) (i 0))
    (fun j => ((da (tab (re (arga m c))) (tab (re (argdg m c))) (vec (re (argal m c))) (vec (re (argdt m c))) (i 0) j : ℝ) : EReal)) (i 1)
def outAl (m : (ℓ : Loc nD τ sig) → Buf (Elt Ideal) ℓ) (c : Dev nD) : S1x128.Idx → EReal := fun i =>
  second (fun j => ((dal (tab (re (arga m c))) (tab (re (argdg m c))) (vec (re (argal m c))) (vec (re (argdt m c))) j : ℝ) : EReal)) (i 1)
def outDt (m : (ℓ : Loc nD τ sig) → Buf (Elt Ideal) ℓ) (c : Dev nD) : S1x128.Idx → EReal := fun i =>
  second (fun j => ((ddt (tab (re (arga m c))) (tab (re (argdg m c))) (vec (re (argal m c))) (vec (re (argdt m c))) j : ℝ) : EReal)) (i 1)

/-- In a lane of the second group the kernel's value is the decay's cotangent. -/
theorem da_lane (h : Fin4 m c) (t : Fin cfg0.N) (r : Fin 2048) (k : Fin 128) (hk : 8 ≤ k.val ∧ k.val - 8 < 8) :
    (0 - w2 m c t (ix2 r k)) * w3 m c t (ix2 0 k)
        * sgE (w0 m c t (ix2 r k) + w4 m c t (ix2 0 k))
      = ((da (tab (re (arga m c))) (tab (re (argdg m c))) (vec (re (argal m c))) (vec (re (argdt m c))) r ⟨k.val - 8, hk.2⟩ : ℝ) : EReal) := by
  rw [blk2, blk3 h, blk0, blk4 h, lanes_second _ _ hk, lanes_second _ _ hk, second_pos _ hk, second_pos _ hk, tab, tab, h.dg.eq, h.a.eq,
    ← EReal.coe_add, sgE, ← EReal.coe_neg, sg_coe, zero_coe, ← EReal.coe_sub, ← EReal.coe_mul, ← EReal.coe_mul, EReal.coe_eq_coe_iff, da]
  show (0 - _) * _ * _ = _
  unfold tab
  ring

theorem point5 (h : Fin4 m c) (t : Fin cfg0.N) (r : Fin 2048) (k : Fin 128) :
    ((dats m 0 c).after 5 t : S2048x128.Idx → EReal) (ix2 r k) = outBA m c (ix2 r k) := by
  rw [after0_5]
  unfold_out out0_5
  frame_out
  refine (pay_dba (w1 m c t) (w2 m c t) (w0 m c t) (w3 m c t) (w4 m c t) r k).trans ?_
  simp only [outBA, ix2_0, ix2_1]
  rcases split k with h8 | hk | h16
  · rw [if_pos h8, blk2, blk1 h, lanes_first _ _ h8, lanes_first _ _ h8, lanes_first _ _ h8, mul_assoc]; rfl
  · rw [if_neg (by omega), if_pos hk, lanes_second _ _ hk, da_lane h t r k hk]
  · rw [if_neg (by omega), if_neg (by omega), lanes_rest _ _ h16]

theorem point6 (h : Fin4 m c) (t : Fin cfg0.N) (k : Fin 128) :
    ((dats m 0 c).after 6 t : S1x128.Idx → EReal) (ix2 0 k) = outAl m c (ix2 0 k) := by
  rw [after0_6]
  unfold_out out0_6
  frame_out
  refine (pay_dal (w1 m c t) (w2 m c t) k).trans ?_
  simp only [outAl, ix2_1]
  by_cases hk : 8 ≤ k.val ∧ k.val - 8 < 8
  · rw [second_pos _ hk, dal_eq, ← coe_sum]
    refine Finset.sum_congr rfl fun r _ => ?_
    rw [if_pos hk, blk2, blk1 h, lanes_second _ _ hk, lanes_second _ _ hk, tab, h.dg.eq, ← EReal.coe_mul]; rfl
  · rw [second_neg _ hk]
    exact Finset.sum_eq_zero fun r _ => if_neg hk

theorem point7 (h : Fin4 m c) (t : Fin cfg0.N) (k : Fin 128) :
    ((dats m 0 c).after 7 t : S1x128.Idx → EReal) (ix2 0 k) = outDt m c (ix2 0 k) := by
  rw [after0_7]
  unfold_out out0_7
  frame_out
  refine (pay_ddt (w2 m c t) (w0 m c t) (w3 m c t) (w4 m c t) k).trans ?_
  simp only [outDt, ix2_1]
  by_cases hk : 8 ≤ k.val ∧ k.val - 8 < 8
  · rw [second_pos _ hk, ddt, ← coe_sum]
    exact Finset.sum_congr rfl fun r _ => by rw [if_pos hk, da_lane h t r k hk]
  · rw [second_neg _ hk]
    exact Finset.sum_eq_zero fun r _ => if_neg hk

theorem arr5 (h : Fin4 m c) : (dats m 0 c).arrAt 5 cfg0.N = outBA m c := by
  refine (dats m 0 c).arrAt_eq_of_covers 5 _ (by decide +kernel) fun t hf y => ?_
  idx_vars y
  blk_simp
  rw [point5 h]
  blk_ext [idx t]

theorem arr6 (h : Fin4 m c) : (dats m 0 c).arrAt 6 cfg0.N = outAl m c := by
  refine (dats m 0 c).arrAt_eq_of_covers 6 _ (by decide +kernel) fun t hf y => ?_
  idx_vars y
  obtain rfl : y0 = 0 := Subsingleton.elim _ _
  blk_simp
  rw [point6 h]
  blk_ext [idx t]

theorem arr7 (h : Fin4 m c) : (dats m 0 c).arrAt 7 cfg0.N = outDt m c := by
  refine (dats m 0 c).arrAt_eq_of_covers 7 _ (by decide +kernel) fun t hf y => ?_
  idx_vars y
  obtain rfl : y0 = 0 := Subsingleton.elim _ _
  blk_simp
  rw [point7 h]
  blk_ext [idx t]

end Arrays

end Cert.Gates.Kernel

end
-- ==== Proof.GatesRef.lean ====
/- The gates' gradient as the reference differentiates it, at the extended reals. -/
module

public import proofs.«01_k».proof.Proof.GatesSpec
public import proofs.«01_k».proof.Proof.Gen.RGatesIdeal.Read

@[expose] public section

set_option maxRecDepth 16384

noncomputable section

namespace Cert.Gates.Ref

open Idealize.ShloMosaic Idealize.ShloMosaic.TcCoe Idealize.SL.Sem
open Cert.RGatesIdeal Cert.RGatesIdeal.Gen Cert.RGatesIdeal.Read Cert.Lift Cert.Gates

variable (b dbeta : S2048x8.Idx → EReal) (a dg : S2048x8.Idx → ℝ) (al dt : S1x8.Idx → ℝ)

theorem rd_sum (r : Fin 2048) (j : Fin 8) :
    val_main_v17 (F := Ideal) (up a) (up dt) (ix3 0 r j) = ((tab a r j + vec dt j : ℝ) : EReal) := by
  pointwise [val_main_v17, val_main_v16, val_main_v15, val_main_v3, val_main_v1, up_apply]
  rw [← EReal.coe_add]; rfl

theorem rd_sp (r : Fin 2048) (j : Fin 8) :
    val_main_v18_0 (F := Ideal) (up a) (up dt) (ix3 0 r j) = ((sp (tab a r j + vec dt j) : ℝ) : EReal) := by
  pointwise [val_main_v18_0, val_main_call0_v11, val_main_call0_v10, val_main_call0_v9, val_main_call0_v8, val_main_call0_v7,
    val_main_call0_v6, val_main_call0_v5, val_main_call0_v4, val_main_call0_v3, val_main_call0_v2, val_main_call0_v1, val_main_call0_v0,
    val_main_call0_cst, rd_sum]
  rw [if_neg (fun e => e rfl)]
  exact sp_coe _

theorem rd_sg (r : Fin 2048) (j : Fin 8) :
    val_main_v18_1 (F := Ideal) (up a) (up dt) (ix3 0 r j) = ((sg (tab a r j + vec dt j) : ℝ) : EReal) := by
  pointwise [val_main_v18_1, val_main_call0_v21, val_main_call0_v20, val_main_call0_v19, val_main_call0_v18, val_main_call0_v17, val_main_call0_v16,
    val_main_call0_v15, val_main_call0_v14, val_main_call0_v13, val_main_call0_cst_0, val_main_call0_cst_1, val_main_call0_cst_2,
    val_main_call0_cst_3, rd_sum, rd_sp]
  simp only [lit_top, EReal.coe_ne_top, if_false]
  rw [← EReal.coe_sub, Ideal.exp_coe, exp_sub_sp]

theorem rd_da (r : Fin 2048) (j : Fin 8) :
    val_main_v30 (F := Ideal) (up a) (up al) (up dt) (up dg) (ix3 0 r j)
      = ((da (tab a) (tab dg) (vec al) (vec dt) r j : ℝ) : EReal) := by
  pointwise [val_main_v30, val_main_v25, val_main_v24, val_main_v23, val_main_v19, val_main_v14,
    val_main_v13, val_main_v2, rd_sg, up_apply]
  simp only [Ideal.exp_coe, ← EReal.coe_neg, ← EReal.coe_mul]; rfl

theorem rd_db (r : Fin 2048) (j : Fin 8) :
    val_main_v36 (F := Ideal) b dbeta (ix3 0 r j) = db (tab b) (tab dbeta) r j := by
  pointwise [val_main_v36, val_main_v22, val_main_v12, val_main_v11, val_main_v10, val_main_v9, val_main_v8, val_main_v7, val_main_v6, val_main_v5,
    val_main_v4, val_main_v0, val_main_cst, val_main_cst_0, val_main_cst_1]
  rfl

theorem unit (x : FVec Ideal S1x1x8 .f32) (y : FVec Ideal S_ .f32) (j : Fin 8) :
    Host.reduceAdd x y reducesTo_S1x1x8_S8_d0_1 h_S_ (ix1 j) = y (Shape.Idx.first h_S_) + x (ix3 0 0 j) := by
  refine hostReduceAdd_unit _ x _ _ _ fun i => ?_
  idx_vars i
  obtain rfl : i0 = 0 := Subsingleton.elim _ _
  obtain rfl : i1 = 0 := Subsingleton.elim _ _
  exact ⟨fun e => congrArg (ix3 0 0) (congrFun e 0), fun e => funext fun q => by obtain rfl : q = 0 := Subsingleton.elim _ _; exact congrFun e 2⟩

theorem rd_dal (j : Fin 8) :
    val_main_v42 (F := Ideal) (up a) (up al) (up dt) (up dg) (ix2 0 j)
      = ((dal (tab a) (tab dg) (vec al) (vec dt) j : ℝ) : EReal) := by
  pointwise [val_main_v42, val_main_v35, val_main_v34, val_main_v13, val_main_v2, up_apply]
  unfold val_main_v29
  rw [unit]
  pointwise [val_main_v28, val_main_v27, val_main_v26, val_main_v23, val_main_cst_2, val_main_cst_3, rd_sp, up_apply]
  simp only [Ideal.exp_coe, zero_coe, coe_sum, zero_add, ← EReal.coe_neg, ← EReal.coe_mul, ← EReal.coe_add]; rfl

theorem rd_ddt (j : Fin 8) :
    val_main_v44 (F := Ideal) (up a) (up al) (up dt) (up dg) (ix2 0 j)
      = ((ddt (tab a) (tab dg) (vec al) (vec dt) j : ℝ) : EReal) := by
  pointwise [val_main_v44]
  unfold val_main_v33
  rw [unit]
  pointwise [val_main_v32, val_main_v31, val_main_cst_4, val_main_cst_5, rd_da]
  simp only [zero_coe, coe_sum, zero_add, ← EReal.coe_add]; rfl

theorem rd_dba (r : Fin 2048) (k : Fin 128) :
    val_main_v41 (F := Ideal) b (up a) (up al) (up dt) dbeta (up dg) (ix2 r k)
      = lanes (db (tab b) (tab dbeta) r) (fun j => ((da (tab a) (tab dg) (vec al) (vec dt) r j : ℝ) : EReal)) k := by
  pointwise [val_main_v41, val_main_v40, val_main_v39, val_main_v38, val_main_v37, val_main_call2_v0, val_main_c, rd_db, rd_da]
  rw [sitofp_zero]; rfl

theorem rd_dal_lanes (k : Fin 128) :
    val_main_v43 (F := Ideal) (up a) (up al) (up dt) (up dg) (ix2 0 k)
      = second (fun j => ((dal (tab a) (tab dg) (vec al) (vec dt) j : ℝ) : EReal)) k := by
  pointwise [val_main_v43, val_main_call3_v0, val_main_c_6, rd_dal]
  rw [sitofp_zero]; rfl

theorem rd_ddt_lanes (k : Fin 128) :
    val_main_v45 (F := Ideal) (up a) (up al) (up dt) (up dg) (ix2 0 k)
      = second (fun j => ((ddt (tab a) (tab dg) (vec al) (vec dt) j : ℝ) : EReal)) k := by
  pointwise [val_main_v45, val_main_call4_v0, val_main_c_7, rd_ddt]
  rw [sitofp_zero]; rfl

end Cert.Gates.Ref

end
-- ==== Proof.GatesClaim.lean ====
/- The gates' call computes the gradient of the recurrence's gates: the two programs' results agree. -/
module

public import proofs.«01_k».proof.Defs
public import proofs.«01_k».proof.Proof.GatesKernel
public import proofs.«01_k».proof.Proof.GatesRef
public import Idealize.ShloMosaic.Lib.Claim

@[expose] public section

set_option maxRecDepth 16384

noncomputable section

namespace Cert.Gates

open Idealize.ShloMosaic Idealize.ShloMosaic.TcCoe Idealize.SL.Sem Cert.Lift

theorem facts : Cert.Pre_finite_gates.Facts := ⟨by decide, by decide⟩

/-- The reference's run: its arguments unchanged, and no counter to return. -/
theorem ref_frame : Cert.quiescent_RGatesIdeal := fun m g _ =>
  (θ_run _ _ _).mono (fun r h => ⟨fun c => (h c).2.2.2, sem_eq_zero_of_no_sems (by decide) r.2⟩) (Cert.RGatesIdeal.Value.run m g)

/-- The precondition, read at the extended reals: the decay's arguments are of reals. -/
theorem fin4 [Cert.Pre_finite_gates.Facts] {m : (ℓ : Loc Cert.KGatesIdeal.nD Cert.KGatesIdeal.τ Cert.KGatesIdeal.sig) → Buf (Elt Ideal) ℓ}
    (h : Pre_KGatesIdeal_finite_gates m) (c : Dev Cert.KGatesIdeal.nD) : Kernel.Fin4 m c :=
  ⟨isReal_of_cmp _ _ (fun _ => lit_top) (h c).1, isReal_of_cmp _ _ (fun _ => lit_top) (h c).2.1,
    isReal_of_cmp _ _ (fun _ => lit_top) (h c).2.2.1, isReal_of_cmp _ _ (fun _ => lit_top) (h c).2.2.2⟩

section
open Cert.RGatesIdeal Cert.RGatesIdeal.Gen Cert.RGatesIdeal.Read
variable (B : S2048x8.Idx → EReal) (A : S2048x8.Idx → EReal) (L D : S1x8.Idx → EReal) (E G : S2048x8.Idx → EReal)
  (hA : IsReal A) (hL : IsReal L) (hD : IsReal D) (hG : IsReal G)

include hA hL hD hG

theorem ref_dba : val_main_v41 (F := Ideal) B A L D E G
    = fun i => lanes (db (tab B) (tab E) (i 0))
        (fun j => ((da (tab (re A)) (tab (re G)) (vec (re L)) (vec (re D)) (i 0) j : ℝ) : EReal)) (i 1) := by
  funext i
  idx_vars i
  have e := Ref.rd_dba B E (re A) (re G) (re L) (re D) i0 i1
  rw [← hA.up_re, ← hG.up_re, ← hL.up_re, ← hD.up_re] at e
  exact e

theorem ref_dal : val_main_v43 (F := Ideal) A L D G
    = fun i => second (fun j => ((dal (tab (re A)) (tab (re G)) (vec (re L)) (vec (re D)) j : ℝ) : EReal)) (i 1) := by
  funext i
  idx_vars i
  obtain rfl : i0 = 0 := Subsingleton.elim _ _
  have e := Ref.rd_dal_lanes (re A) (re G) (re L) (re D) i1
  rw [← hA.up_re, ← hG.up_re, ← hL.up_re, ← hD.up_re] at e
  exact e

theorem ref_ddt : val_main_v45 (F := Ideal) A L D G
    = fun i => second (fun j => ((ddt (tab (re A)) (tab (re G)) (vec (re L)) (vec (re D)) j : ℝ) : EReal)) (i 1) := by
  funext i
  idx_vars i
  obtain rfl : i0 = 0 := Subsingleton.elim _ _
  have e := Ref.rd_ddt_lanes (re A) (re G) (re L) (re D) i1
  rw [← hA.up_re, ← hG.up_re, ← hL.up_re, ← hD.up_re] at e
  exact e

end

theorem algebraic [Cert.Pre_finite_gates.Facts] : Cert.algebraic_KGatesIdeal_RGatesIdeal_pre_finite_gates := by
  intro m g m' g' hpre hagree
  refine ⟨fun c => Kernel.outBA m c, fun c => Kernel.outAl m c, fun c => Kernel.outDt m c, ?_, ?_⟩
  · refine (θ_run _ _ _).mono (fun r h c => ?_) (Cert.KGatesIdeal.Value.run_blocks m g)
    obtain ⟨h5, h6, h7, ha⟩ := h c
    have f := fin4 hpre c
    exact ⟨h5.trans (Kernel.arr5 f), h6.trans (Kernel.arr6 f), h7.trans (Kernel.arr7 f), ha⟩
  · refine (θ_run _ _ _).mono (fun r h c => ?_) (Cert.RGatesIdeal.Value.run m' g')
    obtain ⟨h1, h2, h3, ha⟩ := h c
    obtain ⟨fa, fl, fd, fg⟩ := fin4 hpre c
    obtain ⟨e0, e1, e2, e3, e4, e5⟩ := hagree c
    refine ⟨h1.trans ?_, h2.trans ?_, h3.trans ?_, ha⟩
    · rw [Cert.RGatesIdeal.Read.val_main_v41_eq, e0, e1, e2, e3, e4, e5]
      exact ref_dba _ _ _ _ _ _ fa fl fd fg
    · rw [Cert.RGatesIdeal.Read.val_main_v43_eq, e1, e2, e3, e5]
      exact ref_dal _ _ _ _ fa fl fd fg
    · rw [Cert.RGatesIdeal.Read.val_main_v45_eq, e1, e2, e3, e5]
      exact ref_ddt _ _ _ _ fa fl fd fg

end Cert.Gates

end
-- ==== Proof.PoolSpec.lean ====
/- The gradient of the causal mean pools over the reals: running sums, the window sums they differ by, and the doublings. -/
module

public import proofs.«01_k».proof.Proof.Lift
public import Idealize.ShloMosaic.Lib.KernelVsHost

@[expose] public section

noncomputable section

namespace Cert.Pool

open Idealize.ShloMosaic Idealize.ShloMosaic.TcCoe Cert.Lift

section Sums

variable {M : Type*} [AddCommMonoid M]

/-- A column of 2048 entries, zero beyond its end; the sum of its first `n` entries. -/
def ext (f : Fin 2048 → M) (n : ℕ) : M := if h : n < 2048 then f ⟨n, h⟩ else 0
def pre (f : Fin 2048 → M) (n : ℕ) : M := ∑ i ∈ Finset.range n, ext f i

theorem ext_val (f : Fin 2048 → M) (i : Fin 2048) : ext f i.val = f i := dif_pos i.isLt

theorem sum_fin (g : ℕ → M) : (∑ i : Fin 2048, g i.val) = ∑ i ∈ Finset.range 2048, g i := Fin.sum_univ_eq_sum_range g 2048

/-- The sum of the entries up to one of them, however it is picked out. -/
theorem sum_le (f : Fin 2048 → M) (t : Fin 2048) : (∑ i : Fin 2048, if i.val ≤ t.val then f i else 0) = pre f (t.val + 1) := by
  have e : ∀ i : Fin 2048, (if i.val ≤ t.val then f i else 0) = (fun n => if n ≤ t.val then ext f n else 0) i.val := fun i => by
    rw [← ext_val f i]
  rw [Finset.sum_congr rfl fun i _ => e i, sum_fin fun n => if n ≤ t.val then ext f n else 0, ← Finset.sum_filter, pre]
  refine Finset.sum_congr (Finset.ext fun n => ?_) fun _ _ => rfl
  rw [Finset.mem_filter, Finset.mem_range, Finset.mem_range]
  have := t.isLt
  omega

/-- The window reaching back from an entry to the first. -/
theorem sum_back (f : Fin 2048 → M) (t : Fin 2048) :
    (∑ k : Fin 2048, if 2047 ≤ t.val + k.val then ext f (t.val + k.val - 2047) else 0) = pre f (t.val + 1) := by
  rw [sum_fin fun k => if 2047 ≤ t.val + k then ext f (t.val + k - 2047) else 0, ← Finset.sum_filter, pre]
  have := t.isLt
  refine Finset.sum_nbij' (fun k => t.val + k - 2047) (fun i => i + 2047 - t.val) ?_ ?_ ?_ ?_ ?_ <;>
    intro a ha <;> simp only [Finset.mem_filter, Finset.mem_range] at * <;> omega

end Sums

variable (f : Fin 2048 → ℝ)

theorem pre_stop {n : ℕ} (h : 2048 ≤ n) : pre f n = pre f 2048 := by
  unfold pre
  rw [← Finset.sum_range_add_sum_Ico _ h, add_eq_left]
  exact Finset.sum_eq_zero fun i hi => dif_neg (by have := (Finset.mem_Ico.mp hi).1; omega)

/-- The sum of the entries from one on. -/
theorem sum_ge (s : ℕ) : (∑ i ∈ Finset.range 2048, if s ≤ i then ext f i else 0) = pre f 2048 - pre f s := by
  rw [← Finset.sum_filter]
  rcases le_total s 2048 with h | h
  · rw [eq_sub_iff_add_eq, add_comm, pre, pre, ← Finset.sum_range_add_sum_Ico _ h]
    congr 1
    refine Finset.sum_congr (Finset.ext fun n => ?_) fun _ _ => rfl
    rw [Finset.mem_filter, Finset.mem_range, Finset.mem_Ico]
    omega
  · rw [pre_stop f h, sub_self]
    refine Finset.sum_eq_zero fun i hi => ?_
    rw [Finset.mem_filter, Finset.mem_range] at hi
    exact dif_neg (by omega)

/-- The window reaching forward from an entry to the last. -/
theorem sum_fore (t : Fin 2048) :
    (∑ k : Fin 2048, if t.val + k.val < 2048 then ext f (t.val + k.val) else 0) = pre f 2048 - pre f t.val := by
  rw [← sum_ge, sum_fin fun k => if t.val + k < 2048 then ext f (t.val + k) else 0, ← Finset.sum_filter, ← Finset.sum_filter]
  refine Finset.sum_nbij' (fun k => t.val + k) (fun i => i - t.val) ?_ ?_ ?_ ?_ ?_ <;>
    intro a ha <;> simp only [Finset.mem_filter, Finset.mem_range] at * <;> first | omega | skip

/-- The sum of the last `L` entries up to one of them, of the next `L` from one of them on. -/
def wsum (L t : ℕ) : ℝ := pre f (t + 1) - pre f (t + 1 - L)
def asum (L t : ℕ) : ℝ := pre f (t + L) - pre f t

theorem wsum_one (t : Fin 2048) : wsum f 1 t.val = f t := by
  unfold wsum
  rw [Nat.add_sub_cancel, pre, pre, Finset.sum_range_succ, add_sub_cancel_left, ext_val]
theorem asum_one (t : Fin 2048) : asum f 1 t.val = f t := by
  unfold asum
  rw [pre, pre, Finset.sum_range_succ, add_sub_cancel_left, ext_val]

/-- A window twice as long is two of them, side by side. -/
theorem wsum_double (m n t : ℕ) (hn : n = m + m) (hm : 0 < m) : wsum f m t + (if m ≤ t then wsum f m (t - m) else 0) = wsum f n t := by
  unfold wsum
  split
  · next h =>
    rw [show t - m + 1 = t + 1 - m by omega, show t + 1 - m - m = t + 1 - n by omega]; ring
  · next h =>
    rw [show t + 1 - m = 0 by omega, show t + 1 - n = 0 by omega, add_zero]
theorem asum_double (m n t : ℕ) (hn : n = m + m) : asum f m t + (if t + m < 2048 then asum f m (t + m) else 0) = asum f n t := by
  unfold asum
  split
  · next h => rw [show t + m + m = t + n by omega]; ring
  · next h =>
    rw [pre_stop f (show 2048 ≤ t + m by omega), pre_stop f (show 2048 ≤ t + n by omega), add_zero]

/-- The window sum as the difference of two running sums, the second late by `L`. -/
theorem wsum_lag (L : ℕ) (hL : 0 < L) (t : ℕ) : pre f (t + 1) - (if L ≤ t then pre f (t - L + 1) else 0) = wsum f L t := by
  unfold wsum
  split
  · next h => rw [show t - L + 1 = t + 1 - L by omega]
  · next h => rw [show t + 1 - L = 0 by omega]; simp [pre]

/-- What differentiating that difference gives: an entry less the one `L` later; its sum from an entry on is the next `L`. -/
def lead (L : ℕ) (t : Fin 2048) : ℝ := f t + if h : t.val + L < 2048 then -f ⟨t.val + L, h⟩ else 0

theorem lead_sum (L : ℕ) (t : Fin 2048) : pre (lead f L) 2048 - pre (lead f L) t.val = asum f L t.val := by
  have hs : ∀ s, (∑ i ∈ Finset.range 2048, if s ≤ i then ext (lead f L) i else 0)
      = (∑ i ∈ Finset.range 2048, if s ≤ i then ext f i else 0)
        - ∑ i ∈ Finset.range 2048, if s + L ≤ i then ext f i else 0 := fun s => by
    have e : (∑ i ∈ Finset.range 2048, if s + L ≤ i then ext f i else 0)
        = ∑ i ∈ Finset.range 2048, if s ≤ i then ext f (i + L) else 0 := by
      rw [← Finset.sum_filter, ← Finset.sum_filter]
      have e2 : (∑ i ∈ (Finset.range 2048).filter (fun i => s ≤ i), ext f (i + L))
          = ∑ i ∈ (Finset.range 2048).filter (fun i => s ≤ i ∧ i + L < 2048), ext f (i + L) := by
        symm
        refine Finset.sum_subset (fun i hi => ?_) (fun i hi hn => dif_neg fun hl => hn ?_)
        · simp only [Finset.mem_filter] at *; exact ⟨hi.1, hi.2.1⟩
        · simp only [Finset.mem_filter] at *; exact ⟨hi.1, hi.2, hl⟩
      rw [e2]
      refine Finset.sum_nbij' (fun i => i - L) (fun i => i + L) ?_ ?_ ?_ ?_ ?_ <;>
        intro a ha <;> simp only [Finset.mem_filter, Finset.mem_range] at * <;> first | omega | skip
      exact congrArg _ (by omega)
    rw [e, ← Finset.sum_sub_distrib]
    refine Finset.sum_congr rfl fun i hi => ?_
    have hi' := Finset.mem_range.mp hi
    split
    · unfold ext lead
      rw [dif_pos hi', dif_pos hi']
      split <;> simp [sub_eq_add_neg]
    · simp
  have h1 := hs t.val
  rw [sum_ge, sum_ge, sum_ge] at h1
  rw [h1, asum]; ring

section Group

variable (g : Fin 4) (p d : Fin 2048 → Fin 256 → ℝ) (w : Fin 256 → Fin 256 → ℝ) (sc : Fin 256 → ℝ)

/-- The number of entries a window has, as the word it is computed in. -/
def cntw (t : Fin 2048) : BitVec 32 := IntOp.minsi (IntOp.addi (BitVec.ofNat 32 t.val) 1#32) (BitVec.ofNat 32 (2 ^ (g.val + 1)))
def cnt (t : Fin 2048) : ℝ := ((cntw g t).toInt : ℝ)

theorem cnt_ne (t : Fin 2048) : cnt g t ≠ 0 := by
  have h : ∀ (g : Fin 4) (t : Fin 2048), (cntw g t).toInt ≠ 0 := by decide +kernel
  exact fun e => h g t (Int.cast_eq_zero.mp e)

/-- One group's pool, its mixing, and their gradients. -/
def pooled (t : Fin 2048) (c : Fin 256) : ℝ := wsum (fun s => p s c) (2 ^ (g.val + 1)) t.val / cnt g t - p t c
def mixed (t : Fin 2048) (c : Fin 256) : ℝ := ∑ k, pooled g p t k * w k c
def dscale (c : Fin 256) : ℝ := ∑ t, d t c * mixed g p w t c
def dmx (t : Fin 2048) (c : Fin 256) : ℝ := d t c * sc c
def dw (k c : Fin 256) : ℝ := ∑ t, pooled g p t k * dmx d sc t c
def dpool (t : Fin 2048) (k : Fin 256) : ℝ := ∑ c, dmx d sc t c * w k c
def gq (k : Fin 256) (t : Fin 2048) : ℝ := dpool d w sc t k / cnt g t
def dp (t : Fin 2048) (k : Fin 256) : ℝ := asum (gq g d w sc k) (2 ^ (g.val + 1)) t.val - dpool d w sc t k

end Group

/-- A group's columns of the matrices and of the vector, and of the pools' half of the wide one; its mixing matrix. -/
def colg (g : Fin 4) (c : Fin 256) : Fin 1024 := ⟨g.val * 256 + c.val, by omega⟩
def cols (x : (⟨2, ![2048, 1024]⟩ : Shape).Idx → ℝ) (g : Fin 4) (t : Fin 2048) (c : Fin 256) : ℝ := x (ix2 t (colg g c))
def half (x : (⟨2, ![2048, 2048]⟩ : Shape).Idx → ℝ) (g : Fin 4) (t : Fin 2048) (c : Fin 256) : ℝ := x (ix2 t ⟨1024 + (g.val * 256 + c.val), by omega⟩)
def mix (x : (⟨3, ![4, 256, 256]⟩ : Shape).Idx → ℝ) (g : Fin 4) (k c : Fin 256) : ℝ := x (ix3 g k c)
def scl (x : (⟨2, ![1, 1024]⟩ : Shape).Idx → ℝ) (g : Fin 4) (c : Fin 256) : ℝ := x (ix2 0 (colg g c))
def grp (j : Fin 1024) : Fin 4 := ⟨j.val / 256, by omega⟩
def chan (j : Fin 1024) : Fin 256 := ⟨j.val % 256, by omega⟩

/-- The results of real arguments. -/
def dpOf (D : (⟨2, ![2048, 2048]⟩ : Shape).Idx → ℝ) (W : (⟨3, ![4, 256, 256]⟩ : Shape).Idx → ℝ) (S : (⟨2, ![1, 1024]⟩ : Shape).Idx → ℝ) : (⟨2, ![2048, 1024]⟩ : Shape).Idx → EReal :=
  fun i => ((dp (grp (i 1)) (half D (grp (i 1))) (mix W (grp (i 1))) (scl S (grp (i 1))) (i 0) (chan (i 1)) : ℝ) : EReal)
def dwOf (D : (⟨2, ![2048, 2048]⟩ : Shape).Idx → ℝ) (P : (⟨2, ![2048, 1024]⟩ : Shape).Idx → ℝ) (S : (⟨2, ![1, 1024]⟩ : Shape).Idx → ℝ) : (⟨3, ![4, 256, 256]⟩ : Shape).Idx → EReal :=
  fun i => ((dw (i 0) (cols P (i 0)) (half D (i 0)) (scl S (i 0)) (i 1) (i 2) : ℝ) : EReal)
def dsOf (D : (⟨2, ![2048, 2048]⟩ : Shape).Idx → ℝ) (P : (⟨2, ![2048, 1024]⟩ : Shape).Idx → ℝ) (W : (⟨3, ![4, 256, 256]⟩ : Shape).Idx → ℝ) : (⟨2, ![1, 1024]⟩ : Shape).Idx → EReal :=
  fun i => ((dscale (grp (i 1)) (cols P (grp (i 1))) (half D (grp (i 1))) (mix W (grp (i 1))) (chan (i 1)) : ℝ) : EReal)

theorem grp_colg (g : Fin 4) (c : Fin 256) : grp (colg g c) = g := Fin.ext (by simp only [grp, colg]; omega)
theorem chan_colg (g : Fin 4) (c : Fin 256) : chan (colg g c) = c := Fin.ext (by simp only [chan, colg]; omega)

end Cert.Pool

end
-- ==== Proof.PoolKernel.lean ====
/- The pools' backward kernel, at the extended reals: its three result arrays. -/
module

public import proofs.«01_k».proof.Proof.PoolSpec
public import proofs.«01_k».proof.Proof.Gen.KPoolIdeal.Value
public import Idealize.ShloMosaic.Lib.Pipeline.ValueKit

@[expose] public section

set_option maxRecDepth 16384

noncomputable section

namespace Cert.Pool.Kernel

open Idealize.ShloMosaic Idealize.ShloMosaic.TcCoe Idealize.SL.Sem
open Idealize.ShloMosaic.Pipeline (Dat)
open Cert.KPoolIdeal Cert.KPoolIdeal.Gen Cert.Lift Cert.Pool

section Payloads

/-- A block whose rows are numbered by naturals. -/
def blk (x : ℕ → Fin 256 → ℝ) : S2048x256.Idx → EReal := fun i => ((x (i 0).val (i 1) : ℝ) : EReal)

/-- One masked rotation added: the rows a mask keeps get the row the rotation brings them. -/
theorem step (o : CmpIPredicate) (b : BitVec 32) (P : ℕ → Prop) [DecidablePred P] (q : ℕ → ℕ) (x z : ℕ → Fin 256 → ℝ)
    (hc : ∀ t : Fin 2048, IntOp.cmpi o (BitVec.ofNat 32 t.val) b = BitVec.ofBool (decide (P t.val)))
    (hq : ∀ t : Fin 2048, P t.val → (t.val + 2048 - b.toNat % 2048) % 2048 = q t.val)
    (h : ∀ (t : Fin 2048) (c : Fin 256), x t.val c + (if P t.val then x (q t.val) c else 0) = z t.val c) :
    addf (F := Ideal) (φ := .f32) (blk x) (select (cmpi o (iota .tc S2048x256 32 [0] iota_S2048x256_d0_w32) (broadcast S2048x256 b))
      (dynamicRotate 0 b none (blk x) rotates_S2048x256_d0) (broadcast S2048x256 (Scalar.ofBits .f32 0x00000000#32))) = blk z := by
  funext i
  idx_vars i
  pointwise [hc, blk]
  rw [← h i0 i1]
  split
  · next hp =>
    rw [← hq i0 hp, EReal.coe_add]
  · rw [EReal.coe_add]; rfl

variable (g : Fin 4) (p d : Fin 2048 → Fin 256 → ℝ) (w : Fin 256 → Fin 256 → ℝ) (sc : Fin 256 → ℝ)
  (i : grid0.Coords) (hi : (i 0).val = g.val)

/-- The blocks a point reads, and the window sums of one of them, back and forward. -/
abbrev mat (x : Fin 2048 → Fin 256 → ℝ) : S2048x256.Idx → EReal := up (s := S2048x256) fun y => x (y 0) (y 1)
abbrev wblk : S1x256x256.Idx → EReal := up (s := S1x256x256) fun y => w (y 1) (y 2)
abbrev sblk : S1x256.Idx → EReal := up (s := S1x256) fun y => sc (y 1)
def back (L : ℕ) : S2048x256.Idx → EReal := blk fun t c => wsum (fun s => p s c) L t
def fore (G : Fin 256 → Fin 2048 → ℝ) (L : ℕ) : S2048x256.Idx → EReal := blk fun t c => asum (G c) L t

theorem back_one : mat p = back p 1 := by
  funext y
  exact congrArg _ (wsum_one (fun s => p s (y 1)) (y 0)).symm

theorem fore_one (G : Fin 256 → Fin 2048 → ℝ) : mat (fun t c => G c t) = fore G 1 := by
  funext y
  exact congrArg _ (asum_one (G (y 1)) (y 0)).symm

theorem step_back (b : BitVec 32) (m n : ℕ) (hn : n = m + m) (h0 : 0 < m) (hl : m < 2048) (hb : b.toNat = m)
    (hc : ∀ t : Fin 2048, IntOp.cmpi .sge (BitVec.ofNat 32 t.val) b = BitVec.ofBool (decide (m ≤ t.val))) :
    addf (F := Ideal) (φ := .f32) (back p m) (select (cmpi .sge (iota .tc S2048x256 32 [0] iota_S2048x256_d0_w32) (broadcast S2048x256 b))
      (dynamicRotate 0 b none (back p m) rotates_S2048x256_d0) (broadcast S2048x256 (Scalar.ofBits .f32 0x00000000#32))) = back p n :=
  step .sge b (fun t => m ≤ t) (fun t => t - m) _ _ hc (fun t ht => by have := t.isLt; omega)
    fun t c => wsum_double (fun s => p s c) m n t.val hn h0

theorem step_fore (G : Fin 256 → Fin 2048 → ℝ) (b : BitVec 32) (m n : ℕ) (hn : n = m + m) (h0 : 0 < m) (hl : m < 2048)
    (hb : b.toNat = 2048 - m)
    (hc : ∀ t : Fin 2048, IntOp.cmpi .slt (BitVec.ofNat 32 t.val) b = BitVec.ofBool (decide (t.val + m < 2048))) :
    addf (F := Ideal) (φ := .f32) (fore G m) (select (cmpi .slt (iota .tc S2048x256 32 [0] iota_S2048x256_d0_w32) (broadcast S2048x256 b))
      (dynamicRotate 0 b none (fore G m) rotates_S2048x256_d0) (broadcast S2048x256 (Scalar.ofBits .f32 0x00000000#32))) = fore G n :=
  step .slt b (fun t => t + m < 2048) (fun t => t + m) _ _ hc (fun t ht => by have := t.isLt; omega)
    fun t c => asum_double (G c) m n t.val hn

/-- The window a group has, chosen among the four. -/
theorem pick {α : Type} (a : ℕ → α) (g : Fin 4) :
    Scalar.select (Scalar.cmpi .eq (BitVec.ofNat 32 g.val) 0#32) (a 2)
      (Scalar.select (Scalar.cmpi .eq (BitVec.ofNat 32 g.val) 1#32) (a 4)
        (Scalar.select (Scalar.cmpi .eq (BitVec.ofNat 32 g.val) 2#32) (a 8) (a 16))) = a (2 ^ (g.val + 1)) :=
  match g with
  | 0 => rfl
  | 1 => rfl
  | 2 => rfl
  | 3 => rfl

theorem pay_two : k0_pay2 (F := Ideal) (mat p) = back p 2 := by
  rw [back_one]
  exact step_back p 1#32 1 2 rfl (by decide) (by decide) rfl (by decide +kernel)

include hi in
theorem pay_window : Scalar.select (Scalar.cmpi .eq (BitVec.ofNat 32 (i 0).val) 0#32) (k0_pay2 (F := Ideal) (mat p)) (k0_pay4 i (mat p))
    = back p (2 ^ (g.val + 1)) := by
  unfold k0_pay4
  dsimp only
  rw [pay_two, step_back p 2#32 2 4 rfl (by decide) (by decide) rfl (by decide +kernel),
    step_back p 4#32 4 8 rfl (by decide) (by decide) rfl (by decide +kernel),
    step_back p 8#32 8 16 rfl (by decide) (by decide) rfl (by decide +kernel), hi]
  exact pick (back p) g

theorem shl (g : Fin 4) : Scalar.shli 2#32 (BitVec.ofNat 32 g.val) = BitVec.ofNat 32 (2 ^ (g.val + 1)) :=
  match g with
  | 0 => rfl
  | 1 => rfl
  | 2 => rfl
  | 3 => rfl

include hi in
theorem pay_cnt (t : Fin 2048) (c : Fin 256) : k0_pay3 (F := Ideal) i (ix2 t c) = ((cnt g t : ℝ) : EReal) := by
  unfold k0_pay3
  dsimp only
  rw [hi, shl]
  pointwise
  rfl

include hi in
theorem pay_pooled (t : Fin 2048) (c : Fin 256) :
    k0_pay5 (F := Ideal) (BitVec.ofNat 32 (i 0).val) (mat p) (k0_pay2 (mat p)) (k0_pay3 i) (k0_pay4 i (mat p)) 0#32 (ix2 t c)
      = ((pooled g p t c : ℝ) : EReal) := by
  unfold k0_pay5
  dsimp only
  rw [pay_window g p i hi]
  pointwise [pay_cnt g i hi, back, blk, up_apply]
  rw [div_coe _ (cnt_ne g t), ← EReal.coe_sub]
  rfl

theorem pay_w (k c : Fin 256) : k0_pay6 (F := Ideal) (wblk w) (ix2 k c) = ((w k c : ℝ) : EReal) := by
  pointwise [k0_pay6, up_apply]

theorem pay_dmx (t : Fin 2048) (c : Fin 256) : k0_pay8 (F := Ideal) (mat d) (sblk sc) (ix2 t c) = ((dmx d sc t c : ℝ) : EReal) := by
  pointwise [k0_pay8, up_apply]
  rw [← EReal.coe_mul]; rfl

theorem pay_dpool (t : Fin 2048) (k : Fin 256) :
    k0_pay10 (F := Ideal) (wblk w) (mat d) (sblk sc) (ix2 t k) = ((dpool d w sc t k : ℝ) : EReal) := by
  pointwise [k0_pay10, pay_dmx, pay_w]
  simp only [zero_coe, ← EReal.coe_mul, coe_sum, ← EReal.coe_add]
  rfl

include hi in
theorem pay_dscale (j : Fin 1) (c : Fin 256) :
    k0_pay7 (F := Ideal) (BitVec.ofNat 32 (i 0).val) (mat p) (k0_pay2 (mat p)) (k0_pay3 i) (k0_pay4 i (mat p)) 0#32 (wblk w) (mat d) (ix2 j c)
      = ((dscale g p d w c : ℝ) : EReal) := by
  pointwise [k0_pay7, pay_pooled g p i hi, pay_w, up_apply]
  simp only [zero_coe, ← EReal.coe_mul, coe_sum, ← EReal.coe_add]
  rfl

include hi in
theorem pay_dw (j : Fin 1) (k c : Fin 256) :
    k0_pay9 (F := Ideal) (BitVec.ofNat 32 (i 0).val) (mat p) (k0_pay2 (mat p)) (k0_pay3 i) (k0_pay4 i (mat p)) 0#32 (mat d) (sblk sc) (ix3 j k c)
      = ((dw g p d sc k c : ℝ) : EReal) := by
  pointwise [k0_pay9, pay_pooled g p i hi, pay_dmx, up_apply]
  simp only [zero_coe, ← EReal.coe_mul, coe_sum, ← EReal.coe_add]
  rfl

include hi in
theorem pay_gq : divf (F := Ideal) (φ := .f32) (k0_pay10 (wblk w) (mat d) (sblk sc)) (k0_pay3 i) = fore (gq g d w sc) 1 := by
  rw [← fore_one]
  funext y
  idx_vars y
  pointwise [pay_dpool, pay_cnt g i hi, up_apply]
  exact div_coe _ (cnt_ne g y0)

include hi in
theorem pay_next : k0_pay11 (F := Ideal) (k0_pay3 i) (wblk w) (mat d) (sblk sc) = fore (gq g d w sc) 2 := by
  unfold k0_pay11
  dsimp only
  rw [pay_gq g d w sc i hi]
  exact step_fore (gq g d w sc) 2047#32 1 2 rfl (by decide) (by decide) rfl (by decide +kernel)

include hi in
theorem pay_dp (t : Fin 2048) (k : Fin 256) :
    k0_pay1 (F := Ideal) (BitVec.ofNat 32 (i 0).val) (k0_pay10 (wblk w) (mat d) (sblk sc)) (k0_pay11 (k0_pay3 i) (wblk w) (mat d) (sblk sc))
      k0_pay12 (k0_pay13 (k0_pay3 i) (wblk w) (mat d) (sblk sc)) (Scalar.ofBits .f32 0x00000000#32) (ix2 t k)
      = ((dp g d w sc t k : ℝ) : EReal) := by
  unfold k0_pay1 k0_pay12 k0_pay13
  dsimp only
  rw [pay_next g d w sc i hi, step_fore (gq g d w sc) 2046#32 2 4 rfl (by decide) (by decide) rfl (by decide +kernel),
    step_fore (gq g d w sc) 2044#32 4 8 rfl (by decide) (by decide) rfl (by decide +kernel),
    step_fore (gq g d w sc) 2040#32 8 16 rfl (by decide) (by decide) rfl (by decide +kernel), hi, pick (fore (gq g d w sc)) g]
  pointwise [pay_dpool, fore, blk]
  rw [← EReal.coe_sub]
  rfl

end Payloads

section Arrays

variable (m : (ℓ : Loc nD τ sig) → Buf (Elt Ideal) ℓ) (c : Dev nD)

/-- The arguments, as extended reals. -/
def argD : S2048x2048.Idx → EReal := m ((c : Thread nD τ).loc main_arg0)
def argP : S2048x1024.Idx → EReal := m ((c : Thread nD τ).loc main_arg1)
def argW : S4x256x256.Idx → EReal := m ((c : Thread nD τ).loc main_arg2)
def argS : S1x1024.Idx → EReal := m ((c : Thread nD τ).loc main_arg3)

/-- Every argument is of reals. -/
structure Fin4 : Prop where
  d : IsReal (argD m c)
  p : IsReal (argP m c)
  w : IsReal (argW m c)
  s : IsReal (argS m c)

theorem idx : ∀ t : Fin cfg0.N, win0_0.index t = ![0, 4 + t.val] ∧ win0_1.index t = ![0, t.val] ∧ win0_2.index t = ![t.val, 0, 0]
    ∧ win0_3.index t = ![0, t.val] ∧ win0_4.index t = ![0, t.val] ∧ win0_5.index t = ![t.val, 0, 0] ∧ win0_6.index t = ![0, t.val]
    ∧ (grid0.coords t 0).val = t.val :=
  (by decide +kernel : ∀ t : Fin grid0.N, _)

/-- The group a point works on. -/
def gr (t : Fin cfg0.N) : Fin 4 := ⟨t.val, Nat.lt_of_lt_of_eq t.isLt N_0⟩

theorem coord (t : Fin cfg0.N) : (grid0.coords t 0).val = (gr t).val := (idx t).2.2.2.2.2.2.2

variable {m c}

theorem blk0 (h : Fin4 m c) (t : Fin cfg0.N) : iblk m c 0 t = mat (half (re (argD m c)) (gr t)) := by
  funext y
  idx_vars y
  simp only [up_apply, half, ← h.d.eq]
  blk_ext [iblk, V_main_arg0, argD, gr, idx t]

theorem blk1 (h : Fin4 m c) (t : Fin cfg0.N) : iblk m c 1 t = mat (cols (re (argP m c)) (gr t)) := by
  funext y
  idx_vars y
  simp only [up_apply, cols, ← h.p.eq]
  blk_ext [iblk, V_main_arg1, argP, gr, colg, idx t]

theorem blk2 (h : Fin4 m c) (t : Fin cfg0.N) : iblk m c 2 t = wblk (mix (re (argW m c)) (gr t)) := by
  funext y
  idx_vars y
  simp only [up_apply, mix, ← h.w.eq]
  blk_ext [iblk, V_main_arg2, argW, gr, idx t]

theorem blk3 (h : Fin4 m c) (t : Fin cfg0.N) : iblk m c 3 t = sblk (scl (re (argS m c)) (gr t)) := by
  funext y
  idx_vars y
  obtain rfl : y0 = 0 := Subsingleton.elim _ _
  simp only [up_apply, scl, ← h.s.eq]
  blk_ext [iblk, V_main_arg3, argS, gr, colg, idx t]

theorem arr4 (h : Fin4 m c) : (dats m 0 c).arrAt 4 cfg0.N = dpOf (re (argD m c)) (re (argW m c)) (re (argS m c)) := by
  refine (dats m 0 c).arrAt_eq_of_covers 4 _ (by decide +kernel) fun t hf y => ?_
  idx_vars y
  blk_simp
  rw [after0_4]
  unfold_out out0_4
  frame_out
  rw [blk0 h, blk2 h, blk3 h]
  refine (pay_dp (gr t) _ _ _ _ (coord t) y0 y1).trans ?_
  refine Eq.trans ?_ (congrArg (dpOf _ _ _) (?_ : ix2 y0 (colg (gr t) y1) = _))
  · simp only [dpOf, ix2_0, ix2_1, grp_colg, chan_colg]
  · blk_ext [gr, colg, idx t]

theorem arr5 (h : Fin4 m c) : (dats m 0 c).arrAt 5 cfg0.N = dwOf (re (argD m c)) (re (argP m c)) (re (argS m c)) := by
  refine (dats m 0 c).arrAt_eq_of_covers 5 _ (by decide +kernel) fun t hf y => ?_
  idx_vars y
  blk_simp
  rw [after0_5]
  unfold_out out0_5
  frame_out
  rw [blk0 h, blk1 h, blk3 h]
  refine (pay_dw (gr t) _ _ _ _ (coord t) y0 y1 y2).trans ?_
  obtain rfl : y0 = 0 := Subsingleton.elim _ _
  refine Eq.trans ?_ (congrArg (dwOf _ _ _) (?_ : ix3 (gr t) y1 y2 = _))
  · rfl
  · blk_ext [gr, idx t]

theorem arr6 (h : Fin4 m c) : (dats m 0 c).arrAt 6 cfg0.N = dsOf (re (argD m c)) (re (argP m c)) (re (argW m c)) := by
  refine (dats m 0 c).arrAt_eq_of_covers 6 _ (by decide +kernel) fun t hf y => ?_
  idx_vars y
  blk_simp
  rw [after0_6]
  unfold_out out0_6
  frame_out
  rw [blk0 h, blk1 h, blk2 h]
  refine (pay_dscale (gr t) _ _ _ _ (coord t) y0 y1).trans ?_
  obtain rfl : y0 = 0 := Subsingleton.elim _ _
  refine Eq.trans ?_ (congrArg (dsOf _ _ _) (?_ : ix2 0 (colg (gr t) y1) = _))
  · simp only [dsOf, ix2_0, ix2_1, grp_colg, chan_colg]
  · blk_ext [gr, colg, idx t]

end Arrays

end Cert.Pool.Kernel

end
-- ==== Proof.PoolRef.lean ====
/- The pools' gradient as the reference differentiates it, at the extended reals, on real arguments. -/
module

public import proofs.«01_k».proof.Proof.PoolSpec
public import proofs.«01_k».proof.Proof.LnSpec
public import proofs.«01_k».proof.Proof.Gen.RPoolIdeal.Read

@[expose] public section

set_option maxRecDepth 16384

noncomputable section

namespace Cert.Pool.Ref

open Idealize.ShloMosaic Idealize.ShloMosaic.TcCoe Idealize.SL.Sem
open Cert.RPoolIdeal Cert.RPoolIdeal.Gen Cert.RPoolIdeal.Read Cert.Lift Cert.Pool Cert.Ln

section Windows

theorem foldl_sum {α : Type} (f : α → EReal) (l : List α) (v : EReal) : l.foldl (fun r n => r + f n) v = v + (l.map f).sum := by
  induction l generalizing v with
  | nil => simp
  | cons a l ih => rw [List.foldl_cons, ih, List.map_cons, List.sum_cons, add_assoc]

/-- The positions of a window that is all of the second axis and one entry of the others. -/
def along : (⟨4, ![1, 2048, 1, 1]⟩ : Shape).Idx ≃ Fin 2048 where
  toFun q := q 1
  invFun k := ix4 (0 : Fin 1) k (0 : Fin 1) (0 : Fin 1)
  left_inv q := by
    idx_vars q
    obtain rfl : q0 = 0 := Subsingleton.elim _ _
    obtain rfl : q2 = 0 := Subsingleton.elim _ _
    obtain rfl : q3 = 0 := Subsingleton.elim _ _
    rfl
  right_inv k := rfl

/-- A windowed sum along the second axis, of reals: the window is as long as the axis, with `l` entries of padding before. -/
theorem window (l : ℕ) (hi : Fin 4 → Nat) (x : S1x2048x4x256.Idx → EReal) (init : S_.Idx → EReal) (h0 : ∀ i, init i = 0)
    (h : S1x2048x4x256.ReduceWindows (![1, 2048, 1, 1] : Fin 4 → Nat) ![1, 1, 1, 1] ![0, l, 0, 0] hi S1x2048x4x256) (hu : 0 < S_.numel)
    (t : Fin 2048) (g : Fin 4) (c : Fin 256) (f : Fin 2048 → ℝ) (hx : ∀ s, x (ix4 0 s g c) = ((f s : ℝ) : EReal)) :
    Host.reduceWindowAdd (F := Ideal) (φ := .f32) ![1, 2048, 1, 1] ![1, 1, 1, 1] ![0, l, 0, 0] hi x init h hu (ix4 0 t g c)
      = ((∑ k : Fin 2048, if l ≤ t.val + k.val then ext f (t.val + k.val - l) else 0 : ℝ) : EReal) := by
  unfold Host.reduceWindowAdd
  rw [Ideal.hostReduceWindowAdd_def]
  unfold Ideal.hostReduceWindowAdd Host.reduceWindow
  dsimp only
  rw [foldl_sum, h0, zero_add, ← Fin.sum_univ_def, ← coe_sum]
  refine Fintype.sum_equiv ((⟨4, ![1, 2048, 1, 1]⟩ : Shape).rowMajor.symm.trans along) _ _ fun n => ?_
  have w0 : ∀ q : (⟨4, ![1, 2048, 1, 1]⟩ : Shape).Idx, (q 0).val = 0 := fun q => congrArg Fin.val (Subsingleton.elim (α := Fin 1) _ 0)
  have w2 : ∀ q : (⟨4, ![1, 2048, 1, 1]⟩ : Shape).Idx, (q 2).val = 0 := fun q => congrArg Fin.val (Subsingleton.elim (α := Fin 1) _ 0)
  have w3 : ∀ q : (⟨4, ![1, 2048, 1, 1]⟩ : Shape).Idx, (q 3).val = 0 := fun q => congrArg Fin.val (Subsingleton.elim (α := Fin 1) _ 0)
  have key : ∀ (q : (⟨4, ![1, 2048, 1, 1]⟩ : Shape).Idx)
      (D : Decidable (∀ a : Fin 4, (![0, l, 0, 0] : Fin 4 → Nat) a ≤ ((ix4 0 t g c : S1x2048x4x256.Idx) a).val * (![1, 1, 1, 1] : Fin 4 → Nat) a + (q a).val ∧
          ((ix4 0 t g c : S1x2048x4x256.Idx) a).val * (![1, 1, 1, 1] : Fin 4 → Nat) a + (q a).val - (![0, l, 0, 0] : Fin 4 → Nat) a < S1x2048x4x256.size a)),
      (@dite EReal _ D (fun hin => x fun a =>
        ⟨((ix4 0 t g c : S1x2048x4x256.Idx) a).val * (![1, 1, 1, 1] : Fin 4 → Nat) a + (q a).val - (![0, l, 0, 0] : Fin 4 → Nat) a, (hin a).2⟩)
        fun _ => 0) = (((if l ≤ t.val + (q 1).val then ext f (t.val + (q 1).val - l) else 0 : ℝ)) : EReal) := fun q D => by
    have hg := g.isLt
    have hc := c.isLt
    split
    · next hin =>
      have h1 : l ≤ t.val * 1 + (q 1).val ∧ t.val * 1 + (q 1).val - l < 2048 := hin 1
      rw [Nat.mul_one] at h1
      rw [if_pos h1.1, ext, dif_pos h1.2, ← hx]
      refine congrArg x (funext fun a => Fin.ext ?_)
      match a with
      | ⟨0, _⟩ => show 0 * 1 + (q 0).val - 0 = 0; rw [w0]
      | ⟨1, _⟩ => show t.val * 1 + (q 1).val - l = t.val + (q 1).val - l; rw [Nat.mul_one]
      | ⟨2, _⟩ => show g.val * 1 + (q 2).val - 0 = g.val; rw [w2]; omega
      | ⟨3, _⟩ => show c.val * 1 + (q 3).val - 0 = c.val; rw [w3]; omega
    · next hin =>
      by_cases hl : l ≤ t.val + (q 1).val
      · rw [if_pos hl, ext, dif_neg, zero_coe]
        intro hlt
        refine hin fun a => ?_
        match a with
        | ⟨0, _⟩ => show 0 ≤ 0 * 1 + (q 0).val ∧ 0 * 1 + (q 0).val - 0 < 1; rw [w0]; omega
        | ⟨1, _⟩ => show l ≤ t.val * 1 + (q 1).val ∧ t.val * 1 + (q 1).val - l < 2048; rw [Nat.mul_one]; exact ⟨hl, hlt⟩
        | ⟨2, _⟩ => show 0 ≤ g.val * 1 + (q 2).val ∧ g.val * 1 + (q 2).val - 0 < 4; rw [w2]; omega
        | ⟨3, _⟩ => show 0 ≤ c.val * 1 + (q 3).val ∧ c.val * 1 + (q 3).val - 0 < 256; rw [w3]; omega
      · rw [if_neg hl, zero_coe]
  exact key ((⟨4, ![1, 2048, 1, 1]⟩ : Shape).rowMajor.symm n) _

end Windows

/-- The one contraction over two axes, the first of size one. -/
def two : dot_S4x256x1x2048_S1x2048x4x256_S4x256x256_23_01_1_3_0_2.contr.Idx ≃ Fin 2048 where
  toFun q := (q ⟨1, by decide⟩ : Fin 2048)
  invFun k := fun a => match a with
    | ⟨0, _⟩ => (0 : Fin 1)
    | ⟨1, _⟩ => (k : Fin 2048)
  left_inv q := by
    funext a
    match a with
    | ⟨0, _⟩ => exact Subsingleton.elim (α := Fin 1) _ _
    | ⟨1, _⟩ => rfl
  right_inv k := rfl

theorem dot_two (y : S4x256x1x2048.Idx → EReal) (z : S1x2048x4x256.Idx → EReal) (i : S4x256x256.Idx) :
    Host.dotGeneral (F := Ideal) (φ₁ := .f32) (φ₂ := .f32) dot_S4x256x1x2048_S1x2048x4x256_S4x256x256_23_01_1_3_0_2 none y z i
      = ∑ k : Fin 2048, y (ix4 (i 0) (i 1) 0 k) * z (ix4 0 k (i 0) (i 2)) := by
  simp only [Host.dotGeneral]
  rw [Ideal.dotGeneral_apply]
  refine Fintype.sum_equiv two _ _ fun q => ?_
  refine congrArg₂ (fun a b => y a * z b) (funext fun a => Fin.ext ?_) (funext fun a => Fin.ext ?_)
  · match a with
    | ⟨0, _⟩ => rfl
    | ⟨1, _⟩ => rfl
    | ⟨2, _⟩ => exact congrArg Fin.val (Subsingleton.elim (α := Fin 1) _ _)
    | ⟨3, _⟩ => rfl
  · match a with
    | ⟨0, _⟩ => exact congrArg Fin.val (Subsingleton.elim (α := Fin 1) _ _)
    | ⟨1, _⟩ => rfl
    | ⟨2, _⟩ => rfl
    | ⟨3, _⟩ => rfl

section Reads

variable (D : S2048x2048.Idx → ℝ) (P : S2048x1024.Idx → ℝ) (W : S4x256x256.Idx → ℝ) (S : S1x1024.Idx → ℝ)

theorem rd_p (t : Fin 2048) (g : Fin 4) (c : Fin 256) : val_main_v3 (F := Ideal) (up P) (ix4 0 t g c) = ((cols P g t c : ℝ) : EReal) := by
  pointwise [val_main_v3, val_main_v1, up_apply]
  rfl

theorem rd_cum (t : Fin 2048) (g : Fin 4) (c : Fin 256) :
    val_main_v4 (F := Ideal) (up P) (ix4 0 t g c) = ((pre (fun s => cols P g s c) (t.val + 1) : ℝ) : EReal) := by
  unfold val_main_v4
  rw [window 2047 _ _ _ (fun i => by pointwise [val_main_call0_call0_v0, val_main_call0_call0_cst]) _ _ t g c _ fun s => rd_p P s g c, sum_back]

theorem win_fin (g : Fin 4) (L : ℕ) (hL : L = 2 ^ (g.val + 1)) (b : BitVec 32) (hb : b = BitVec.ofNat 32 (2 ^ (g.val + 1)))
    (f : Fin 2048 → ℝ) (t : Fin 2048) :
    Ideal.div (((pre f (t.val + 1) : ℝ) : EReal) - if h : t.val < L then 0 else ((pre f (t.val - L + 1) : ℝ) : EReal))
      (FloatOps.sitofp (F := Ideal) .f32 (IntOp.minsi (IntOp.addi (BitVec.ofNat 32 t.val) 1#32) b)) = ((wsum f (2 ^ (g.val + 1)) t.val / cnt g t : ℝ) : EReal) := by
  subst hL hb
  have e : (if h : t.val < 2 ^ (g.val + 1) then (0 : EReal) else ((pre f (t.val - 2 ^ (g.val + 1) + 1) : ℝ) : EReal))
      = ((if 2 ^ (g.val + 1) ≤ t.val then pre f (t.val - 2 ^ (g.val + 1) + 1) else 0 : ℝ) : EReal) := by
    split
    · rw [if_neg (by omega)]; rfl
    · rw [if_pos (by omega)]
  rw [e, ← EReal.coe_sub, wsum_lag f _ (Nat.two_pow_pos _)]
  exact div_coe _ (cnt_ne g t)

theorem rd_win0 (t : Fin 2048) (c : Fin 256) :
    val_main_v20 (F := Ideal) (up P) (ix3 0 t c) = ((wsum (fun s => cols P 0 s c) (2 ^ ((0 : Fin 4).val + 1)) t.val / cnt 0 t : ℝ) : EReal) := by
  pointwise [val_main_v20, val_main_v19, val_main_v18, val_main_v17, val_main_v16, val_main_v15, val_main_v14, val_main_v13, val_main_v12, val_main_v10, val_main_v9, val_main_v8, val_main_v7, val_main_v6, val_main_cst, val_main_c, val_main_c_1, val_main_v5, rd_cum]
  exact win_fin 0 2 rfl 2#32 rfl _ t

theorem rd_win1 (t : Fin 2048) (c : Fin 256) :
    val_main_v35 (F := Ideal) (up P) (ix3 0 t c) = ((wsum (fun s => cols P 1 s c) (2 ^ ((1 : Fin 4).val + 1)) t.val / cnt 1 t : ℝ) : EReal) := by
  pointwise [val_main_v35, val_main_v34, val_main_v33, val_main_v32, val_main_v31, val_main_v30, val_main_v29, val_main_v28, val_main_v27, val_main_v25, val_main_v24, val_main_v23, val_main_v22, val_main_v21, val_main_cst_2, val_main_c_4, val_main_c_5, val_main_v5, rd_cum]
  exact win_fin 1 4 rfl 4#32 rfl _ t

theorem rd_win2 (t : Fin 2048) (c : Fin 256) :
    val_main_v50 (F := Ideal) (up P) (ix3 0 t c) = ((wsum (fun s => cols P 2 s c) (2 ^ ((2 : Fin 4).val + 1)) t.val / cnt 2 t : ℝ) : EReal) := by
  pointwise [val_main_v50, val_main_v49, val_main_v48, val_main_v47, val_main_v46, val_main_v45, val_main_v44, val_main_v43, val_main_v42, val_main_v40, val_main_v39, val_main_v38, val_main_v37, val_main_v36, val_main_cst_6, val_main_c_8, val_main_c_9, val_main_v5, rd_cum]
  exact win_fin 2 8 rfl 8#32 rfl _ t

theorem rd_win3 (t : Fin 2048) (c : Fin 256) :
    val_main_v65 (F := Ideal) (up P) (ix3 0 t c) = ((wsum (fun s => cols P 3 s c) (2 ^ ((3 : Fin 4).val + 1)) t.val / cnt 3 t : ℝ) : EReal) := by
  pointwise [val_main_v65, val_main_v64, val_main_v63, val_main_v62, val_main_v61, val_main_v60, val_main_v59, val_main_v58, val_main_v57, val_main_v55, val_main_v54, val_main_v53, val_main_v52, val_main_v51, val_main_cst_10, val_main_c_12, val_main_c_13, val_main_v5, rd_cum]
  exact win_fin 3 16 rfl 16#32 rfl _ t

theorem rd_means (t : Fin 2048) (g : Fin 4) (c : Fin 256) :
    val_main_v70 (F := Ideal) (up P) (ix4 0 t g c) = ((wsum (fun s => cols P g s c) (2 ^ (g.val + 1)) t.val / cnt g t : ℝ) : EReal) :=
  match g with
  | 0 => by pointwise [val_main_v70, val_main_v66, rd_win0]
  | 1 => by pointwise [val_main_v70, val_main_v67, rd_win1]
  | 2 => by pointwise [val_main_v70, val_main_v68, rd_win2]
  | 3 => by pointwise [val_main_v70, val_main_v69, rd_win3]

theorem rd_pooled (t : Fin 2048) (g : Fin 4) (c : Fin 256) :
    val_main_v71 (F := Ideal) (up P) (ix4 0 t g c) = ((pooled g (cols P g) t c : ℝ) : EReal) := by
  pointwise [val_main_v71, rd_means, rd_p]
  rw [← EReal.coe_sub]; rfl

theorem rd_mixed (t : Fin 2048) (g : Fin 4) (c : Fin 256) :
    val_main_v73 (F := Ideal) (up P) (up W) (ix4 0 t g c) = ((mixed g (cols P g) (mix W g) t c : ℝ) : EReal) := by
  pointwise [val_main_v73, val_main_v72, val_main_v0, rd_pooled, up_apply]
  simp only [← EReal.coe_mul, coe_sum]
  exact congrArg _ (Finset.sum_congr rfl fun k _ => mul_comm _ _)

theorem rd_dmx (t : Fin 2048) (g : Fin 4) (c : Fin 256) :
    val_main_v86 (F := Ideal) (up D) (up S) (ix4 0 t g c) = ((dmx (half D g) (scl S g) t c : ℝ) : EReal) := by
  pointwise [val_main_v86, val_main_v84, val_main_v83, val_main_v79, val_main_v78, val_main_v75, val_main_v2, up_apply]
  rw [← EReal.coe_mul]; rfl

theorem rd_dpool (t : Fin 2048) (g : Fin 4) (k : Fin 256) :
    val_main_v89 (F := Ideal) (up D) (up W) (up S) (ix4 0 t g k) = ((dpool (half D g) (mix W g) (scl S g) t k : ℝ) : EReal) := by
  pointwise [val_main_v89, val_main_v88, val_main_v87, val_main_v0, rd_dmx, up_apply]
  simp only [← EReal.coe_mul, coe_sum]
  rfl

theorem rd_dw (g : Fin 4) (k c : Fin 256) :
    val_main_v91 (F := Ideal) (up D) (up P) (up S) (ix3 g k c) = ((dw g (cols P g) (half D g) (scl S g) k c : ℝ) : EReal) := by
  pointwise [val_main_v91]
  unfold val_main_v90
  rw [dot_two]
  pointwise [val_main_v87, rd_dmx, rd_pooled]
  simp only [← EReal.coe_mul, coe_sum]
  exact congrArg _ (Finset.sum_congr rfl fun k _ => mul_comm _ _)

theorem rd_ds (j : Fin 1024) :
    val_main_v145 (F := Ideal) (up D) (up P) (up W) (ix2 0 j)
      = ((dscale (grp j) (cols P (grp j)) (half D (grp j)) (mix W (grp j)) (chan j) : ℝ) : EReal) := by
  pointwise [val_main_v145]
  unfold val_main_v85
  rw [unit01]
  pointwise [val_main_v82, val_main_v81, val_main_v80, val_main_v79, val_main_v78, val_main_v74, val_main_cst_14, val_main_cst_15, up_apply]
  have e : ∀ t : Fin 2048, val_main_v73 (F := Ideal) (up P) (up W) (ix4 0 t (grp j) (chan j)) * ((D (ix2 t ⟨1024 + j.val, by omega⟩) : ℝ) : EReal)
      = ((half D (grp j) t (chan j) * mixed (grp j) (cols P (grp j)) (mix W (grp j)) t (chan j) : ℝ) : EReal) := fun t => by
    rw [rd_mixed, ← EReal.coe_mul, mul_comm]
    refine congrArg (fun q : Fin 2048 => ((D (ix2 t q) * _ : ℝ) : EReal)) (Fin.ext ?_)
    simp only [grp, chan]
    omega
  exact (Finset.sum_congr rfl fun t _ => e t).trans (coe_sum _ _)

/-- The gradient of one group's lagged difference. -/
theorem lead_fin (L : ℕ) (f : Fin 2048 → ℝ) (t : Fin 2048) (n : ℕ) (hn : n + L = 2048) :
    ((f t : ℝ) : EReal) + (if h : t.val < n then -((f ⟨L + t.val, by omega⟩ : ℝ) : EReal) else 0) = ((lead f L t : ℝ) : EReal) := by
  unfold lead
  rw [EReal.coe_add]
  split
  · rw [dif_pos (by omega)]
    refine congrArg (fun q : Fin 2048 => (f t : EReal) + -(f q : EReal)) (Fin.ext ?_)
    exact Nat.add_comm _ _
  · rw [dif_neg (by omega)]; rfl

theorem rd_gq0 (t : Fin 2048) (k : Fin 256) :
    val_main_v131 (F := Ideal) (up D) (up W) (up S) (ix3 0 t k) = ((gq 0 (half D 0) (mix W 0) (scl S 0) k t : ℝ) : EReal) := by
  pointwise [val_main_v131, val_main_v130, val_main_v94, val_main_v93, val_main_v17, val_main_v16, val_main_v15, val_main_v14, val_main_v13, val_main_v12, val_main_c, val_main_c_1, val_main_v5, rd_dpool]
  exact div_coe _ (cnt_ne 0 t)

theorem rd_lead0 (t : Fin 2048) (k : Fin 256) :
    val_main_v136 (F := Ideal) (up D) (up W) (up S) (ix3 0 t k) = ((lead (gq 0 (half D 0) (mix W 0) (scl S 0) k) 2 t : ℝ) : EReal) := by
  pointwise [val_main_v136, val_main_v135, val_main_v134, val_main_v132, val_main_cst_22, rd_gq0]
  exact lead_fin 2 _ t 2046 rfl

theorem rd_gq1 (t : Fin 2048) (k : Fin 256) :
    val_main_v121 (F := Ideal) (up D) (up W) (up S) (ix3 0 t k) = ((gq 1 (half D 1) (mix W 1) (scl S 1) k t : ℝ) : EReal) := by
  pointwise [val_main_v121, val_main_v120, val_main_v96, val_main_v95, val_main_v32, val_main_v31, val_main_v30, val_main_v29, val_main_v28, val_main_v27, val_main_c_4, val_main_c_5, val_main_v5, rd_dpool]
  exact div_coe _ (cnt_ne 1 t)

theorem rd_lead1 (t : Fin 2048) (k : Fin 256) :
    val_main_v126 (F := Ideal) (up D) (up W) (up S) (ix3 0 t k) = ((lead (gq 1 (half D 1) (mix W 1) (scl S 1) k) 4 t : ℝ) : EReal) := by
  pointwise [val_main_v126, val_main_v125, val_main_v124, val_main_v122, val_main_cst_20, rd_gq1]
  exact lead_fin 4 _ t 2044 rfl

theorem rd_gq2 (t : Fin 2048) (k : Fin 256) :
    val_main_v111 (F := Ideal) (up D) (up W) (up S) (ix3 0 t k) = ((gq 2 (half D 2) (mix W 2) (scl S 2) k t : ℝ) : EReal) := by
  pointwise [val_main_v111, val_main_v110, val_main_v98, val_main_v97, val_main_v47, val_main_v46, val_main_v45, val_main_v44, val_main_v43, val_main_v42, val_main_c_8, val_main_c_9, val_main_v5, rd_dpool]
  exact div_coe _ (cnt_ne 2 t)

theorem rd_lead2 (t : Fin 2048) (k : Fin 256) :
    val_main_v116 (F := Ideal) (up D) (up W) (up S) (ix3 0 t k) = ((lead (gq 2 (half D 2) (mix W 2) (scl S 2) k) 8 t : ℝ) : EReal) := by
  pointwise [val_main_v116, val_main_v115, val_main_v114, val_main_v112, val_main_cst_18, rd_gq2]
  exact lead_fin 8 _ t 2040 rfl

theorem rd_gq3 (t : Fin 2048) (k : Fin 256) :
    val_main_v102 (F := Ideal) (up D) (up W) (up S) (ix3 0 t k) = ((gq 3 (half D 3) (mix W 3) (scl S 3) k t : ℝ) : EReal) := by
  pointwise [val_main_v102, val_main_v101, val_main_v100, val_main_v99, val_main_v62, val_main_v61, val_main_v60, val_main_v59, val_main_v58, val_main_v57, val_main_c_12, val_main_c_13, val_main_v5, rd_dpool]
  exact div_coe _ (cnt_ne 3 t)

theorem rd_lead3 (t : Fin 2048) (k : Fin 256) :
    val_main_v107 (F := Ideal) (up D) (up W) (up S) (ix3 0 t k) = ((lead (gq 3 (half D 3) (mix W 3) (scl S 3) k) 16 t : ℝ) : EReal) := by
  pointwise [val_main_v107, val_main_v106, val_main_v105, val_main_v103, val_main_cst_16, rd_gq3]
  exact lead_fin 16 _ t 2032 rfl

theorem rd_leads (t : Fin 2048) (g : Fin 4) (k : Fin 256) :
    val_main_v139 (F := Ideal) (up D) (up W) (up S) (ix4 0 t g k)
      = ((lead (gq g (half D g) (mix W g) (scl S g) k) (2 ^ (g.val + 1)) t : ℝ) : EReal) :=
  match g with
  | 0 => by
    pointwise [val_main_v139, val_main_v138, val_main_v137, val_main_v129, val_main_v128, val_main_v119, val_main_v118, val_main_v109,
      val_main_cst_17, val_main_cst_19, val_main_cst_21, val_main_cst_23, rd_lead0]
    rfl
  | 1 => by
    pointwise [val_main_v139, val_main_v138, val_main_v127, val_main_v129, val_main_v128, val_main_v119, val_main_v118, val_main_v109,
      val_main_cst_17, val_main_cst_19, val_main_cst_21, val_main_cst_23, rd_lead1]
    rfl
  | 2 => by
    pointwise [val_main_v139, val_main_v138, val_main_v117, val_main_v129, val_main_v128, val_main_v119, val_main_v118, val_main_v109,
      val_main_cst_17, val_main_cst_19, val_main_cst_21, val_main_cst_23, rd_lead2]
    rfl
  | 3 => by
    pointwise [val_main_v139, val_main_v138, val_main_v108, val_main_v129, val_main_v128, val_main_v119, val_main_v118, val_main_v109,
      val_main_cst_17, val_main_cst_19, val_main_cst_21, val_main_cst_23, rd_lead3]
    rfl

theorem rd_rev (t : Fin 2048) (g : Fin 4) (k : Fin 256) :
    val_main_v140 (F := Ideal) (up D) (up W) (up S) (ix4 0 t g k)
      = ((asum (gq g (half D g) (mix W g) (scl S g) k) (2 ^ (g.val + 1)) t.val : ℝ) : EReal) := by
  unfold val_main_v140
  rw [window 0 _ _ _ (fun i => by pointwise [val_main_call1_call0_v0, val_main_call1_call0_cst]) _ _ t g k _ fun s => rd_leads D W S s g k,
    ← lead_sum, ← sum_fore]
  refine congrArg _ (Finset.sum_congr rfl fun i _ => ?_)
  rw [if_pos (Nat.zero_le _), Nat.sub_zero]
  split
  · rfl
  · next h => exact dif_neg h

theorem rd_dp (t : Fin 2048) (j : Fin 1024) :
    val_main_v144 (F := Ideal) (up D) (up W) (up S) (ix2 t j)
      = ((dp (grp j) (half D (grp j)) (mix W (grp j)) (scl S (grp j)) t (chan j) : ℝ) : EReal) := by
  have e : val_main_v141 (F := Ideal) (up D) (up W) (up S) (ix4 0 t (grp j) (chan j))
      = ((dp (grp j) (half D (grp j)) (mix W (grp j)) (scl S (grp j)) t (chan j) : ℝ) : EReal) := by
    pointwise [val_main_v141, val_main_v92, rd_rev, rd_dpool]
    rw [← EReal.coe_neg, ← EReal.coe_add, neg_add_eq_sub]; rfl
  refine Eq.trans ?_ e
  pointwise [val_main_v144, val_main_v143, val_main_v142]
  rfl

end Reads

end Cert.Pool.Ref

end
-- ==== Proof.PoolClaim.lean ====
/- The pools' backward call computes the gradient of the pools: the two programs' results agree. -/
module

public import proofs.«01_k».proof.Defs
public import proofs.«01_k».proof.Proof.PoolKernel
public import proofs.«01_k».proof.Proof.PoolRef
public import Idealize.ShloMosaic.Lib.Claim

@[expose] public section

set_option maxRecDepth 16384

noncomputable section

namespace Cert.Pool

open Idealize.ShloMosaic Idealize.ShloMosaic.TcCoe Idealize.SL.Sem Cert.Lift

theorem facts : Cert.Pre_finite_pool.Facts := ⟨by decide, by decide, by decide, by decide⟩

/-- The reference's run: its arguments unchanged, and no counter to return. -/
theorem ref_frame : Cert.quiescent_RPoolIdeal := fun m g _ =>
  (θ_run _ _ _).mono (fun r h => ⟨fun c => (h c).2.2.2, sem_eq_zero_of_no_sems (by decide) r.2⟩) (Cert.RPoolIdeal.Value.run m g)

/-- The precondition, read at the extended reals: every argument is of reals. -/
theorem fin4 [Cert.Pre_finite_pool.Facts] {m : (ℓ : Loc Cert.KPoolIdeal.nD Cert.KPoolIdeal.τ Cert.KPoolIdeal.sig) → Buf (Elt Ideal) ℓ}
    (h : Pre_KPoolIdeal_finite_pool m) (c : Dev Cert.KPoolIdeal.nD) : Kernel.Fin4 m c :=
  ⟨isReal_of_cmp _ _ (fun _ => lit_top) (h c).1, isReal_of_cmp _ _ (fun _ => lit_top) (h c).2.1,
    isReal_of_cmp _ _ (fun _ => lit_top16) (h c).2.2.1, isReal_of_cmp _ _ (fun _ => lit_top) (h c).2.2.2⟩

section
open Cert.RPoolIdeal Cert.RPoolIdeal.Gen Cert.RPoolIdeal.Read
variable (D : S2048x2048.Idx → EReal) (P : S2048x1024.Idx → EReal) (W : S4x256x256.Idx → EReal) (S : S1x1024.Idx → EReal)
  (hD : IsReal D)
include hD

theorem ref_dw (hP : IsReal P) (hS : IsReal S) : val_main_v91 (F := Ideal) D P S = dwOf (re D) (re P) (re S) := by
  funext i
  idx_vars i
  have e := Ref.rd_dw (re D) (re P) (re S) i0 i1 i2
  rw [← hD.up_re, ← hP.up_re, ← hS.up_re] at e
  exact e

theorem ref_ds (hP : IsReal P) (hW : IsReal W) : val_main_v145 (F := Ideal) D P W = dsOf (re D) (re P) (re W) := by
  funext i
  idx_vars i
  obtain rfl : i0 = 0 := Subsingleton.elim _ _
  have e := Ref.rd_ds (re D) (re P) (re W) i1
  rw [← hD.up_re, ← hP.up_re, ← hW.up_re] at e
  exact e

theorem ref_dp (hW : IsReal W) (hS : IsReal S) : val_main_v144 (F := Ideal) D W S = dpOf (re D) (re W) (re S) := by
  funext i
  idx_vars i
  have e := Ref.rd_dp (re D) (re W) (re S) i0 i1
  rw [← hD.up_re, ← hW.up_re, ← hS.up_re] at e
  exact e

end

theorem algebraic [Cert.Pre_finite_pool.Facts] : Cert.algebraic_KPoolIdeal_RPoolIdeal_pre_finite_pool := by
  intro m g m' g' hpre hagree
  refine ⟨fun c => dpOf (re (Kernel.argD m c)) (re (Kernel.argW m c)) (re (Kernel.argS m c)),
    fun c => dwOf (re (Kernel.argD m c)) (re (Kernel.argP m c)) (re (Kernel.argS m c)),
    fun c => dsOf (re (Kernel.argD m c)) (re (Kernel.argP m c)) (re (Kernel.argW m c)), ?_, ?_⟩
  · refine (θ_run _ _ _).mono (fun r h c => ?_) (Cert.KPoolIdeal.Value.run_blocks m g)
    obtain ⟨h4, h5, h6, ha⟩ := h c
    have f := fin4 hpre c
    exact ⟨h4.trans (Kernel.arr4 f), h5.trans (Kernel.arr5 f), h6.trans (Kernel.arr6 f), ha⟩
  · refine (θ_run _ _ _).mono (fun r h c => ?_) (Cert.RPoolIdeal.Value.run m' g')
    obtain ⟨h1, h2, h3, ha⟩ := h c
    obtain ⟨fd, fp, fw, fs⟩ := fin4 hpre c
    obtain ⟨e0, e1, e2, e3⟩ := hagree c
    refine ⟨h1.trans ?_, h2.trans ?_, h3.trans ?_, ha⟩
    · rw [Cert.RPoolIdeal.Read.val_main_v144_eq, e0, e2, e3]
      exact ref_dp _ _ _ fd fw fs
    · rw [Cert.RPoolIdeal.Read.val_main_v91_eq, e0, e1, e3]
      exact ref_dw _ _ _ fd fp fs
    · rw [Cert.RPoolIdeal.Read.val_main_v145_eq, e0, e1, e2]
      exact ref_ds _ _ _ fd fp fw

end Cert.Pool

end
-- ==== Proof.PreSpec.lean ====
/- The gradient of the projections' preparation, over the reals: a causal convolution of four taps along the time, an
   activation, and for some of the heads the division by the row's norm. -/
module

public import proofs.«01_k».proof.Proof.PostSpec

@[expose] public section

noncomputable section

namespace Cert.Pre

open Cert.Lift Cert.Post Idealize.ShloMosaic

/-- A column moved later and earlier by some rows, zeros coming in. -/
def back (f : Fin 2048 → ℝ) (k : ℕ) (t : Fin 2048) : ℝ := if h : k ≤ t.val then f ⟨t.val - k, by omega⟩ else 0
def fore (f : Fin 2048 → ℝ) (k : ℕ) (t : Fin 2048) : ℝ := if h : t.val + k < 2048 then f ⟨t.val + k, h⟩ else 0

section Column

variable (f d : Fin 2048 → ℝ) (w : Fin 4 → ℝ)

/-- The convolution of a column, and the activation of that. -/
def cv (t : Fin 2048) : ℝ := f t * w 3 + back f 3 t * w 0 + back f 2 t * w 1 + back f 1 t * w 2
def act (t : Fin 2048) : ℝ := cv f w t * sg (cv f w t)

/-- What the convolution's cotangent gives a column, and a tap. -/
def dx (t : Fin 2048) : ℝ := d t * w 3 + fore d 3 t * w 0 + fore d 2 t * w 1 + fore d 1 t * w 2
def dw : Fin 4 → ℝ
  | 0 => ∑ t, d t * back f 3 t
  | 1 => ∑ t, d t * back f 2 t
  | 2 => ∑ t, d t * back f 1 t
  | 3 => ∑ t, d t * f t

end Column

section Head

variable (n : Prop) [Decidable n] (x : Fin 128 → Fin 2048 → ℝ) (w : Fin 128 → Fin 4 → ℝ) (y : Fin 128 → Fin 2048 → ℝ)

/-- The square of a row's norm with the small number, and one over its root. -/
def sq (t : Fin 2048) : ℝ := (∑ k, act (x k) (w k) t * act (x k) (w k) t) + eps
def rn (t : Fin 2048) : ℝ := (Real.sqrt (sq x w t))⁻¹

theorem sq_pos (t : Fin 2048) : 0 < sq x w t := by
  have := eps_pos
  have h : 0 ≤ ∑ k, act (x k) (w k) t * act (x k) (w k) t := Finset.sum_nonneg fun k _ => mul_self_nonneg _
  unfold sq; positivity

theorem rn_sq (t : Fin 2048) : rn x w t * rn x w t * sq x w t = 1 := by
  have h := sq_pos x w t
  have e : Real.sqrt (sq x w t) * Real.sqrt (sq x w t) = sq x w t := Real.mul_self_sqrt h.le
  have : Real.sqrt (sq x w t) ≠ 0 := (Real.sqrt_pos.mpr h).ne'
  unfold rn
  field_simp
  nlinarith

/-- The cotangent of an activation whose row is divided by its norm. -/
def dn (k : Fin 128) (t : Fin 2048) : ℝ :=
  rn x w t * (y k t - act (x k) (w k) t * rn x w t * ∑ l, y l t * (act (x l) (w l) t * rn x w t))

/-- The cotangents of an activation and of a convolution. -/
def da (k : Fin 128) (t : Fin 2048) : ℝ := if n then dn x w y k t else y k t
def dc (k : Fin 128) (t : Fin 2048) : ℝ :=
  da n x w y k t * (sg (cv (x k) (w k) t) * (1 + cv (x k) (w k) t * (1 - sg (cv (x k) (w k) t))))

/-- Half the cotangent of the norm's square, as differentiating the reciprocal root gives it. -/
def hf (t : Fin 2048) : ℝ := (∑ l, act (x l) (w l) t * y l t) * (-(1 / 2) * (rn x w t / sq x w t))

theorem dn_eq (k : Fin 128) (t : Fin 2048) :
    dn x w y k t = y k t * rn x w t + act (x k) (w k) t * hf x w y t + hf x w y t * act (x k) (w k) t := by
  have h := sq_pos x w t
  have e := rn_sq x w t
  have hs : (∑ l, y l t * (act (x l) (w l) t * rn x w t)) = rn x w t * ∑ l, act (x l) (w l) t * y l t := by
    rw [Finset.mul_sum]; exact Finset.sum_congr rfl fun l _ => by ring
  have hm : rn x w t / sq x w t = rn x w t * rn x w t * rn x w t := by
    rw [div_eq_iff h.ne']; linear_combination (-rn x w t) * e
  unfold dn hf
  rw [hs, hm]; ring

end Head

section Arrays

variable (P : (⟨2, ![2048, 4096]⟩ : Shape).Idx → ℝ) (W : (⟨2, ![4, 3072]⟩ : Shape).Idx → ℝ) (Y : (⟨2, ![2048, 3072]⟩ : Shape).Idx → ℝ)

/-- A lane of a head, and a column's head and lane. -/
def cl (j : Fin 24) (k : Fin 128) : Fin 3072 := ⟨j.val * 128 + k.val, by omega⟩
def hdo (c : Fin 3072) : Fin 24 := ⟨c.val / 128, by omega⟩
def lno (c : Fin 3072) : Fin 128 := ⟨c.val % 128, by omega⟩

theorem hdo_cl (j : Fin 24) (k : Fin 128) : hdo (cl j k) = j := Fin.ext (by show (j.val * 128 + k.val) / 128 = j.val; omega)
theorem lno_cl (j : Fin 24) (k : Fin 128) : lno (cl j k) = k := Fin.ext (by show (j.val * 128 + k.val) % 128 = k.val; omega)
theorem cl_hdo (c : Fin 3072) : cl (hdo c) (lno c) = c := Fin.ext (by show c.val / 128 * 128 + c.val % 128 = c.val; omega)

/-- A column of the projections, the taps of one, and the cotangent of one. -/
def colP (c : Fin 3072) (t : Fin 2048) : ℝ := P (ix2 t ⟨c.val, by omega⟩)
def colW (c : Fin 3072) (j : Fin 4) : ℝ := W (ix2 j c)
def colY (c : Fin 3072) (t : Fin 2048) : ℝ := Y (ix2 t c)

/-- The convolution's cotangent in a column: the first two thirds of the heads are divided by their norms. -/
def dcc (c : Fin 3072) (t : Fin 2048) : ℝ :=
  dc ((hdo c).val < 16) (fun k => colP P (cl (hdo c) k)) (fun k => colW W (cl (hdo c) k)) (fun k => colY Y (cl (hdo c) k)) (lno c) t

def dxOf : (⟨2, ![2048, 3072]⟩ : Shape).Idx → EReal := fun i => ((dx (dcc P W Y (i 1)) (colW W (i 1)) (i 0) : ℝ) : EReal)
def dwOf : (⟨2, ![4, 3072]⟩ : Shape).Idx → EReal := fun i => ((dw (colP P (i 1)) (dcc P W Y (i 1)) (i 0) : ℝ) : EReal)

end Arrays

end Cert.Pre

end
-- ==== Proof.PreKernel.lean ====
/- The preparation's backward kernel, at the extended reals: its two result arrays on real arguments. -/
module

public import proofs.«01_k».proof.Proof.PreSpec
public import proofs.«01_k».proof.Proof.Gen.KPreIdeal.Value
public import Idealize.ShloMosaic.Lib.Pipeline.ValueKit

@[expose] public section

set_option maxRecDepth 16384

noncomputable section

namespace Cert.Pre.Kernel

open Idealize.ShloMosaic Idealize.ShloMosaic.TcCoe Idealize.SL.Sem
open Idealize.ShloMosaic.Pipeline (Dat)
open Cert.KPreIdeal Cert.KPreIdeal.Gen Cert.Lift Cert.Post Cert.Pre

section Payloads

/-- A head's block, by its columns, and the block of its taps. -/
abbrev mat (x : Fin 128 → Fin 2048 → ℝ) : S2048x128.Idx → EReal := up (s := S2048x128) fun y => x (y 1) (y 0)
abbrev taps (w : Fin 128 → Fin 4 → ℝ) : S4x128.Idx → EReal := up (s := S4x128) fun y => w (y 1) (y 0)

/-- A masked rotation moves every column later. -/
theorem shift (b : BitVec 32) (n : ℕ) (hb : b.toNat = n) (hn : n < 2048) (x : Fin 128 → Fin 2048 → ℝ)
    (hc : ∀ t : Fin 2048, IntOp.cmpi .sge (BitVec.ofNat 32 t.val) b = BitVec.ofBool (decide (n ≤ t.val))) :
    select (cmpi .sge (iota .tc S2048x128 32 [0] iota_S2048x128_d0_w32) (broadcast S2048x128 b))
      (dynamicRotate 0 b none (mat x) rotates_S2048x128_d0) (broadcast S2048x128 (Scalar.ofBits (F := Ideal) .f32 0x00000000#32))
      = mat fun k t => back (x k) n t := by
  funext i
  idx_vars i
  pointwise [hc, up_apply]
  unfold back
  split
  · next hp =>
    refine congrArg (fun r => ((x i1 r : ℝ) : EReal)) (Fin.ext ?_)
    show (i0.val + 2048 - b.toNat % 2048) % 2048 = i0.val - n
    have := i0.isLt
    omega
  · rfl

/-- And another, earlier. -/
theorem shift_fore (b : BitVec 32) (n : ℕ) (hb : b.toNat = 2048 - n) (h0 : 0 < n) (hn : n < 2048) (x : Fin 128 → Fin 2048 → ℝ)
    (hc : ∀ t : Fin 2048, IntOp.cmpi .slt (BitVec.ofNat 32 t.val) b = BitVec.ofBool (decide (t.val + n < 2048))) :
    select (cmpi .slt (iota .tc S2048x128 32 [0] iota_S2048x128_d0_w32) (broadcast S2048x128 b))
      (dynamicRotate 0 b none (mat x) rotates_S2048x128_d0) (broadcast S2048x128 (Scalar.ofBits (F := Ideal) .f32 0x00000000#32))
      = mat fun k t => fore (x k) n t := by
  funext i
  idx_vars i
  pointwise [hc, up_apply]
  unfold fore
  split
  · next hp =>
    refine congrArg (fun r => ((x i1 r : ℝ) : EReal)) (Fin.ext ?_)
    show (i0.val + 2048 - b.toNat % 2048) % 2048 = i0.val + n
    omega
  · rfl

variable (s : Fin 3) (x : Fin 128 → Fin 2048 → ℝ) (w : Fin 128 → Fin 4 → ℝ) (y : Fin 128 → Fin 2048 → ℝ)

/-- The heads of the first two of the three parts are divided by their norms. -/
theorem pick {α : Type} (a b : α) (s : Fin 3) :
    Scalar.select (Scalar.cmpi .slt (BitVec.ofNat 32 s.val) 2#32) a b = if s.val < 2 then a else b :=
  match s with
  | 0 => rfl
  | 1 => rfl
  | 2 => rfl

theorem pay_cv : k0_pay3 (F := Ideal) (mat x) (taps w) = mat fun k => cv (x k) (w k) := by
  unfold k0_pay3
  dsimp only
  rw [shift 3#32 3 rfl (by decide) _ (by decide +kernel), shift 2#32 2 rfl (by decide) _ (by decide +kernel), shift 1#32 1 rfl (by decide) _ (by decide +kernel)]
  funext i
  idx_vars i
  pointwise [up_apply]
  simp only [← EReal.coe_mul, ← EReal.coe_add]
  rfl

theorem pay_exp : k0_pay4 (F := Ideal) (mat x) (taps w) = mat fun k t => Real.exp (0 - cv (x k) (w k) t) := by
  funext i
  idx_vars i
  pointwise [k0_pay4, pay_cv, up_apply]
  rw [zero_coe, ← EReal.coe_sub, Ideal.exp_coe]

theorem pay_dc :
    k0_pay5 (F := Ideal) (Scalar.cmpi .slt (BitVec.ofNat 32 s.val) 2#32) (mat y) (mat fun k => cv (x k) (w k))
      (mat fun k t => Real.exp (0 - cv (x k) (w k) t)) (Scalar.ofBits .f32 0x3F800000#32)
      = mat (dc (s.val < 2) x w y) := by
  unfold k0_pay5
  dsimp only
  rw [pick, pick]
  funext i
  idx_vars i
  by_cases hn : s.val < 2
  · simp only [if_pos hn]
    pointwise [up_apply]
    simp only [one_coe, eps_coe, ← EReal.coe_add, ← EReal.coe_sub, div_coe _ (one_add_exp_ne _), ← EReal.coe_mul, coe_sum]
    erw [rsqrt_coe (sq_pos x w i0)]
    simp only [← EReal.coe_sub, ← EReal.coe_mul, coe_sum, dc, da, if_pos hn]
    rfl
  · simp only [if_neg hn]
    pointwise [up_apply]
    simp only [one_coe, ← EReal.coe_add, ← EReal.coe_sub, div_coe _ (one_add_exp_ne _), ← EReal.coe_mul, dc, da, if_neg hn]
    rfl

variable (i : grid0.Coords) (hi : (i 0).val = s.val)

include hi in
theorem pay_body : k0_pay5 (F := Ideal) (Scalar.cmpi .slt (BitVec.ofNat 32 (i 0).val) 2#32) (mat y) (k0_pay3 (mat x) (taps w))
    (k0_pay4 (mat x) (taps w)) (Scalar.ofBits .f32 0x3F800000#32) = mat (dc (s.val < 2) x w y) := by
  rw [hi, pay_cv, pay_exp]
  exact pay_dc s x w y

include hi in
theorem pay_dx (t : Fin 2048) (k : Fin 128) :
    k0_pay1 (F := Ideal) (k0_pay11 (taps w)
      (k0_pay5 (Scalar.cmpi .slt (BitVec.ofNat 32 (i 0).val) 2#32) (mat y) (k0_pay3 (mat x) (taps w)) (k0_pay4 (mat x) (taps w)) (Scalar.ofBits .f32 0x3F800000#32))
      (k0_pay7 (Scalar.cmpi .slt (BitVec.ofNat 32 (i 0).val) 2#32) (taps w) (mat y) (k0_pay3 (mat x) (taps w)) (k0_pay4 (mat x) (taps w)) (Scalar.ofBits .f32 0x3F800000#32)))
      (ix2 t k) = ((dx (dc (s.val < 2) x w y k) (w k) t : ℝ) : EReal) := by
  unfold k0_pay1 k0_pay11 k0_pay7
  dsimp only
  rw [pay_body s x w y i hi, shift_fore 2045#32 3 rfl (by decide) (by decide) _ (by decide +kernel), shift_fore 2046#32 2 rfl (by decide) (by decide) _ (by decide +kernel), shift_fore 2047#32 1 rfl (by decide) (by decide) _ (by decide +kernel)]
  pointwise [up_apply]
  simp only [← EReal.coe_mul, ← EReal.coe_add]
  rfl

include hi in
theorem pay_dw (j : Fin 4) (k : Fin 128) :
    k0_pay2 (F := Ideal)
      (k0_pay6 (Scalar.cmpi .slt (BitVec.ofNat 32 (i 0).val) 2#32) (mat x) (mat y) (k0_pay3 (mat x) (taps w)) (k0_pay4 (mat x) (taps w)) (Scalar.ofBits .f32 0x3F800000#32))
      (k0_pay9 (mat x) (k0_pay5 (Scalar.cmpi .slt (BitVec.ofNat 32 (i 0).val) 2#32) (mat y) (k0_pay3 (mat x) (taps w)) (k0_pay4 (mat x) (taps w)) (Scalar.ofBits .f32 0x3F800000#32)) k0_pay8)
      (k0_pay10 (mat x) (k0_pay5 (Scalar.cmpi .slt (BitVec.ofNat 32 (i 0).val) 2#32) (mat y) (k0_pay3 (mat x) (taps w)) (k0_pay4 (mat x) (taps w)) (Scalar.ofBits .f32 0x3F800000#32)))
      (k0_pay12 (mat x) (k0_pay5 (Scalar.cmpi .slt (BitVec.ofNat 32 (i 0).val) 2#32) (mat y) (k0_pay3 (mat x) (taps w)) (k0_pay4 (mat x) (taps w)) (Scalar.ofBits .f32 0x3F800000#32)))
      (ix2 j k) = ((dw (x k) (dc (s.val < 2) x w y k) j : ℝ) : EReal) := by
  unfold k0_pay2 k0_pay6 k0_pay9 k0_pay10 k0_pay12 k0_pay8
  dsimp only
  rw [pay_body s x w y i hi, shift 3#32 3 rfl (by decide) _ (by decide +kernel), shift 2#32 2 rfl (by decide) _ (by decide +kernel), shift 1#32 1 rfl (by decide) _ (by decide +kernel)]
  match j with
  | 0 => pointwise [up_apply]; simp only [← EReal.coe_mul, coe_sum]; rfl
  | 1 => pointwise [up_apply]; simp only [← EReal.coe_mul, coe_sum]; rfl
  | 2 => pointwise [up_apply]; simp only [← EReal.coe_mul, coe_sum]; rfl
  | 3 => pointwise [up_apply]; simp only [← EReal.coe_mul, coe_sum]; rfl

end Payloads

section Arrays

variable (m : (ℓ : Loc nD τ sig) → Buf (Elt Ideal) ℓ) (c : Dev nD)

/-- The arguments, as extended reals. -/
def argP : S2048x4096.Idx → EReal := m ((c : Thread nD τ).loc main_arg0)
def argW : S4x3072.Idx → EReal := m ((c : Thread nD τ).loc main_arg1)
def argY : S2048x3072.Idx → EReal := m ((c : Thread nD τ).loc main_arg2)

/-- Every argument is of reals. -/
structure Fin3 : Prop where
  p : IsReal (argP m c)
  w : IsReal (argW m c)
  y : IsReal (argY m c)

theorem idx : ∀ t : Fin cfg0.N, win0_0.index t = ![0, t.val] ∧ win0_1.index t = ![0, t.val] ∧ win0_2.index t = ![0, t.val]
    ∧ win0_3.index t = ![0, t.val] ∧ win0_4.index t = ![0, t.val] ∧ (grid0.coords t 0).val = t.val / 8 :=
  (by decide +kernel : ∀ t : Fin grid0.N, _)

/-- The head a point works on, and which of the three parts it is of. -/
def hd (t : Fin cfg0.N) : Fin 24 := ⟨t.val, Nat.lt_of_lt_of_eq t.isLt N_0⟩
def part (t : Fin cfg0.N) : Fin 3 := ⟨(hd t).val / 8, by omega⟩

theorem coord (t : Fin cfg0.N) : (grid0.coords t 0).val = (part t).val := (idx t).2.2.2.2.2

theorem part_lt (t : Fin cfg0.N) : ((part t).val < 2) = ((hd t).val < 16) := propext (by show (hd t).val / 8 < 2 ↔ _; omega)

variable {m c}

/-- A head's columns. -/
abbrev hx (P : S2048x4096.Idx → ℝ) (j : Fin 24) (k : Fin 128) : Fin 2048 → ℝ := colP P (cl j k)
abbrev hw (W : S4x3072.Idx → ℝ) (j : Fin 24) (k : Fin 128) : Fin 4 → ℝ := colW W (cl j k)
abbrev hy (Y : S2048x3072.Idx → ℝ) (j : Fin 24) (k : Fin 128) : Fin 2048 → ℝ := colY Y (cl j k)

theorem blk0 (h : Fin3 m c) (t : Fin cfg0.N) : iblk m c 0 t = mat (hx (re (argP m c)) (hd t)) := by
  funext y
  idx_vars y
  simp only [up_apply, hx, colP, ← h.p.eq]
  blk_ext [iblk, V_main_arg0, argP, hd, cl, idx t]

theorem blk1 (h : Fin3 m c) (t : Fin cfg0.N) : iblk m c 1 t = taps (hw (re (argW m c)) (hd t)) := by
  funext y
  idx_vars y
  simp only [up_apply, hw, colW, ← h.w.eq]
  blk_ext [iblk, V_main_arg1, argW, hd, cl, idx t]

theorem blk2 (h : Fin3 m c) (t : Fin cfg0.N) : iblk m c 2 t = mat (hy (re (argY m c)) (hd t)) := by
  funext y
  idx_vars y
  simp only [up_apply, hy, colY, ← h.y.eq]
  blk_ext [iblk, V_main_arg2, argY, hd, cl, idx t]

theorem dcc_cl (P : S2048x4096.Idx → ℝ) (W : S4x3072.Idx → ℝ) (Y : S2048x3072.Idx → ℝ) (t : Fin cfg0.N) (k : Fin 128) :
    dcc P W Y (cl (hd t) k) = dc ((part t).val < 2) (hx P (hd t)) (hw W (hd t)) (hy Y (hd t)) k := by
  funext r
  unfold dcc
  rw [hdo_cl, lno_cl]
  unfold dc da
  simp only [part_lt]

theorem arr3 (h : Fin3 m c) : (dats m 0 c).arrAt 3 cfg0.N = dxOf (re (argP m c)) (re (argW m c)) (re (argY m c)) := by
  refine (dats m 0 c).arrAt_eq_of_covers 3 _ (by decide +kernel) fun t hf y => ?_
  idx_vars y
  blk_simp
  rw [after0_3]
  unfold_out out0_3
  frame_out
  rw [blk0 h, blk1 h, blk2 h]
  refine (pay_dx (part t) _ _ _ _ (coord t) y0 y1).trans ?_
  refine Eq.trans ?_ (congrArg (dxOf _ _ _) (?_ : ix2 y0 (cl (hd t) y1) = _))
  · simp only [dxOf, ix2_0, ix2_1, dcc_cl]
  · blk_ext [hd, cl, idx t]

theorem arr4 (h : Fin3 m c) : (dats m 0 c).arrAt 4 cfg0.N = dwOf (re (argP m c)) (re (argW m c)) (re (argY m c)) := by
  refine (dats m 0 c).arrAt_eq_of_covers 4 _ (by decide +kernel) fun t hf y => ?_
  idx_vars y
  blk_simp
  rw [after0_4]
  unfold_out out0_4
  frame_out
  rw [blk0 h, blk1 h, blk2 h]
  refine (pay_dw (part t) _ _ _ _ (coord t) y0 y1).trans ?_
  refine Eq.trans ?_ (congrArg (dwOf _ _ _) (?_ : ix2 y0 (cl (hd t) y1) = _))
  · simp only [dwOf, ix2_0, ix2_1, dcc_cl]
  · blk_ext [hd, cl, idx t]

end Arrays

end Cert.Pre.Kernel

end
-- ==== Proof.PreRef.lean ====
/- The preparation's gradient as the reference differentiates it, at the extended reals, on real arguments. -/
module

public import proofs.«01_k».proof.Proof.PreSpec
public import proofs.«01_k».proof.Proof.LnSpec
public import proofs.«01_k».proof.Proof.Gen.RPreIdeal.Read

@[expose] public section

set_option maxRecDepth 16384

noncomputable section

namespace Cert.Pre.Ref

open Idealize.ShloMosaic Idealize.ShloMosaic.TcCoe Idealize.SL.Sem
open Cert.RPreIdeal Cert.RPreIdeal.Gen Cert.RPreIdeal.Read Cert.Lift Cert.Post Cert.Pre

variable (P : S2048x4096.Idx → ℝ) (W : S4x3072.Idx → ℝ) (Y : S2048x3072.Idx → ℝ)

section Moves

variable (f : Fin 2048 → ℝ) (t : Fin 2048)

/-- A column read at an offset behind three rows of zeros is the column moved later. -/
theorem pad_back (a k : ℕ) (hk : a + k = 3) (hb : ¬ a + t.val < 3 → a + t.val - 3 < 2048) :
    (if h : a + t.val < 3 then (0 : EReal) else ((f ⟨a + t.val - 3, hb h⟩ : ℝ) : EReal)) = ((back f k t : ℝ) : EReal) := by
  unfold back
  by_cases h : k ≤ t.val
  · rw [dif_neg (by omega), dif_pos h]
    exact congrArg (fun r => ((f r : ℝ) : EReal)) (Fin.ext (by show a + t.val - 3 = t.val - k; omega))
  · rw [dif_pos (by omega), dif_neg h]; rfl

/-- A tap times a column read at an offset of a padded product is the tap times the column moved earlier. -/
theorem pad_fore (w : ℝ) (a k : ℕ) (hk : a + k = 3) (hb : a ≤ 3 + t.val ∧ 3 + t.val - a < 2048 → 3 + t.val - a < 2048) :
    (if h : a ≤ 3 + t.val ∧ 3 + t.val - a < 2048 then (w : EReal) * ((f ⟨3 + t.val - a, hb h⟩ : ℝ) : EReal) else 0)
      = ((fore f k t * w : ℝ) : EReal) := by
  unfold fore
  by_cases h : t.val + k < 2048
  · rw [dif_pos (by omega), dif_pos h, EReal.coe_mul, mul_comm]
    exact congrArg (fun r => ((f r : ℝ) : EReal) * (w : EReal)) (Fin.ext (by show 3 + t.val - a = t.val + k; omega))
  · rw [dif_neg (by omega), dif_neg h, zero_mul]; rfl

theorem pad_fore3 (w : ℝ) :
    (if h : 3 + t.val < 2048 then (w : EReal) * ((f ⟨3 + t.val, h⟩ : ℝ) : EReal) else 0) = ((fore f 3 t * w : ℝ) : EReal) := by
  unfold fore
  by_cases h : t.val + 3 < 2048
  · rw [dif_pos (by omega), dif_pos h, EReal.coe_mul, mul_comm]
    exact congrArg (fun r => ((f r : ℝ) : EReal) * (w : EReal)) (Fin.ext (by show 3 + t.val = t.val + 3; omega))
  · rw [dif_neg (by omega), dif_neg h, zero_mul]; rfl

end Moves

section Conv

variable (t : Fin 2048) (c : Fin 3072)

/-- The four slices of the padded projections are its columns moved later. -/
theorem rd_s3 : val_main_v13 (F := Ideal) (up P) (ix3 0 t c) = ((back (colP P c) 3 t : ℝ) : EReal) := by
  pointwise [val_main_v13, val_main_v9, val_main_v8, val_main_v7, val_main_v6, val_main_cst, up_apply]
  have e := pad_back (colP P c) t 0 3 rfl (by omega)
  simp only [Nat.zero_add] at e
  exact e

theorem rd_s2 : val_main_v21 (F := Ideal) (up P) (ix3 0 t c) = ((back (colP P c) 2 t : ℝ) : EReal) := by
  pointwise [val_main_v21, val_main_v9, val_main_v8, val_main_v7, val_main_v6, val_main_cst, up_apply]
  exact pad_back (colP P c) t 1 2 rfl _

theorem rd_s1 : val_main_v28 (F := Ideal) (up P) (ix3 0 t c) = ((back (colP P c) 1 t : ℝ) : EReal) := by
  pointwise [val_main_v28, val_main_v9, val_main_v8, val_main_v7, val_main_v6, val_main_cst, up_apply]
  exact pad_back (colP P c) t 2 1 rfl _

theorem rd_s0 : val_main_v35 (F := Ideal) (up P) (ix3 0 t c) = ((colP P c t : ℝ) : EReal) := by
  pointwise [val_main_v35, val_main_v9, val_main_v8, val_main_v7, val_main_v6, val_main_cst, up_apply]
  rfl

theorem rd_cv : val_main_v39 (F := Ideal) (up P) (up W) (ix3 0 t c) = ((cv (colP P c) (colW W c) t : ℝ) : EReal) := by
  pointwise [val_main_v39, val_main_v38, val_main_v37, val_main_v36, val_main_v34, val_main_v33, val_main_v32, val_main_v31, val_main_v30,
    val_main_v29, val_main_v27, val_main_v26, val_main_v25, val_main_v24, val_main_v23, val_main_v22, val_main_v20, val_main_v19,
    val_main_v18, val_main_v17, val_main_v16, val_main_v15, val_main_v14, val_main_v12, val_main_v11, val_main_cst_1,
    rd_s3, rd_s2, rd_s1, rd_s0, up_apply]
  simp only [zero_coe, ← EReal.coe_mul, ← EReal.coe_add]
  refine congrArg _ ?_
  unfold cv colW
  ring

theorem rd_sg : val_main_v40_2 (F := Ideal) (up P) (up W) (ix3 0 t c) = ((sg (cv (colP P c) (colW W c) t) : ℝ) : EReal) := by
  pointwise [val_main_v40_2, val_main_call0_v4, val_main_call0_v3, val_main_call0_v2, val_main_call0_v1, val_main_call0_v0,
    val_main_call0_cst, val_main_call0_cst_0, rd_cv]
  rw [one_coe, ← EReal.coe_neg, Ideal.exp_coe, ← EReal.coe_add, div_coe _ (one_add_exp_ne _), sg, zero_sub]

theorem rd_sg' : val_main_v40_1 (F := Ideal) (up P) (up W) (ix3 0 t c)
    = ((sg (cv (colP P c) (colW W c) t) * (1 - sg (cv (colP P c) (colW W c) t)) : ℝ) : EReal) := by
  pointwise [val_main_v40_1, val_main_call0_v7, val_main_call0_v6, val_main_call0_cst_1, rd_sg]
  simp only [one_coe, ← EReal.coe_sub, ← EReal.coe_mul]

theorem rd_act : val_main_v40_0 (F := Ideal) (up P) (up W) (ix3 0 t c) = ((act (colP P c) (colW W c) t : ℝ) : EReal) := by
  pointwise [val_main_v40_0, rd_cv, rd_sg]
  rw [← EReal.coe_mul]; rfl

end Conv

section Heads

variable (t : Fin 2048) (h : Fin 8) (k : Fin 128)

/-- The heads of the first, of the second and of the last part. -/
def h0 : Fin 24 := ⟨h.val, by omega⟩
def h1 : Fin 24 := ⟨8 + h.val, by omega⟩
def h2 : Fin 24 := ⟨16 + h.val, by omega⟩

abbrev px (j : Fin 24) (k : Fin 128) : Fin 2048 → ℝ := colP P (cl j k)
abbrev pw (j : Fin 24) (k : Fin 128) : Fin 4 → ℝ := colW W (cl j k)
abbrev py (j : Fin 24) (k : Fin 128) : Fin 2048 → ℝ := colY Y (cl j k)

theorem rd_q : val_main_v44 (F := Ideal) (up P) (up W) (ix4 0 t h k) = ((act (px P (h0 h) k) (pw W (h0 h) k) t : ℝ) : EReal) := by
  pointwise [val_main_v44, val_main_v41, rd_act]
  rfl

theorem rd_k : val_main_v56 (F := Ideal) (up P) (up W) (ix4 0 t h k) = ((act (px P (h1 h) k) (pw W (h1 h) k) t : ℝ) : EReal) := by
  pointwise [val_main_v56, val_main_v42, rd_act]
  have e : (⟨1024 + (h.val * 128 + k.val), by omega⟩ : Fin 3072) = cl (h1 h) k := Fin.ext (by show 1024 + (h.val * 128 + k.val) = (8 + h.val) * 128 + k.val; omega)
  rw [e]

theorem rd_yq : val_main_v1 (F := Ideal) (up Y) (ix4 0 t h k) = ((py Y (h0 h) k t : ℝ) : EReal) := by
  pointwise [val_main_v1, val_main_v0, up_apply]
  rfl

theorem rd_yk : val_main_v3 (F := Ideal) (up Y) (ix4 0 t h k) = ((py Y (h1 h) k t : ℝ) : EReal) := by
  pointwise [val_main_v3, val_main_v2, up_apply]
  have e : (⟨1024 + (h.val * 128 + k.val), by omega⟩ : Fin 3072) = cl (h1 h) k := Fin.ext (by show 1024 + (h.val * 128 + k.val) = (8 + h.val) * 128 + k.val; omega)
  rw [e]; rfl

theorem rd_yv : val_main_v5 (F := Ideal) (up Y) (ix4 0 t h k) = ((py Y (h2 h) k t : ℝ) : EReal) := by
  pointwise [val_main_v5, val_main_v4, up_apply]
  have e : (⟨2048 + (h.val * 128 + k.val), by omega⟩ : Fin 3072) = cl (h2 h) k := Fin.ext (by show 2048 + (h.val * 128 + k.val) = (16 + h.val) * 128 + k.val; omega)
  rw [e]; rfl

theorem rd_sq_q (j : Fin 1) : val_main_v49 (F := Ideal) (up P) (up W) (ix4 0 t h j) = ((sq (px P (h0 h)) (pw W (h0 h)) t : ℝ) : EReal) := by
  pointwise [val_main_v49, val_main_v48, val_main_v47, val_main_v46, val_main_v45, val_main_cst_2, val_main_cst_3, rd_q]
  simp only [eps_coe, zero_coe, ← EReal.coe_mul, coe_sum, ← EReal.coe_add, zero_add]
  rfl

theorem rd_rn_q (j : Fin 1) : val_main_v50 (F := Ideal) (up P) (up W) (ix4 0 t h j) = ((rn (px P (h0 h)) (pw W (h0 h)) t : ℝ) : EReal) := by
  pointwise [val_main_v50, rd_sq_q]
  exact rsqrt_coe (sq_pos _ _ _)

theorem rd_sq_k (j : Fin 1) : val_main_v61 (F := Ideal) (up P) (up W) (ix4 0 t h j) = ((sq (px P (h1 h)) (pw W (h1 h)) t : ℝ) : EReal) := by
  pointwise [val_main_v61, val_main_v60, val_main_v59, val_main_v58, val_main_v57, val_main_cst_5, val_main_cst_6, rd_k]
  simp only [eps_coe, zero_coe, ← EReal.coe_mul, coe_sum, ← EReal.coe_add, zero_add]
  rfl

theorem rd_rn_k (j : Fin 1) : val_main_v62 (F := Ideal) (up P) (up W) (ix4 0 t h j) = ((rn (px P (h1 h)) (pw W (h1 h)) t : ℝ) : EReal) := by
  pointwise [val_main_v62, rd_sq_k]
  exact rsqrt_coe (sq_pos _ _ _)

/-- The sum over the two unit axes of a sum kept per row and head is its one term. -/
theorem unit03 (x : FVec Ideal S1x2048x8x1 .f32) (v : FVec Ideal S_ .f32) (hu : 0 < S_.numel) (r : Fin 2048) (h : Fin 8) :
    Host.reduceAdd x v reducesTo_S1x2048x8x1_S2048x8_d0_3 hu (ix2 r h) = v (Shape.Idx.first hu) + x (ix4 0 r h 0) := by
  refine hostReduceAdd_unit _ x _ _ _ fun i => ?_
  idx_vars i
  have d0 := reducesTo_S1x2048x8x1_S2048x8_d0_3.drop_apply_val_of_eq (ix4 i0 i1 i2 i3) 0 1
  have d1 := reducesTo_S1x2048x8x1_S2048x8_d0_3.drop_apply_val_of_eq (ix4 i0 i1 i2 i3) 1 2
  obtain rfl : i0 = 0 := Subsingleton.elim _ _
  obtain rfl : i3 = 0 := Subsingleton.elim _ _
  constructor
  · intro e
    rw [e] at d0 d1
    rw [show r = i1 from Fin.ext d0, show h = i2 from Fin.ext d1]
  · intro e
    have e1 : i1 = r := congrFun e 1
    have e2 : i2 = h := congrFun e 2
    subst e1 e2
    exact funext fun a => Fin.ext (by match a with | ⟨0, _⟩ => exact d0 | ⟨1, _⟩ => exact d1)

theorem rd_hf_q : val_main_v90 (F := Ideal) (up P) (up W) (up Y) (ix2 t h) = ((hf (px P (h0 h)) (pw W (h0 h)) (py Y (h0 h)) t : ℝ) : EReal) := by
  rw [val_main_v90]
  refine (unit03 _ _ _ t h).trans ?_
  pointwise [val_main_v89, val_main_v86, val_main_v85, val_main_v84, val_main_v53, val_main_v52, val_main_v51, val_main_cst_4,
    val_main_cst_10, val_main_cst_11, rd_q, rd_yq, rd_sq_q, rd_rn_q]
  simp only [lit_neg_half, zero_coe, ← EReal.coe_mul, coe_sum, ← EReal.coe_add, zero_add, div_coe _ (sq_pos _ _ _).ne']
  rfl

theorem rd_hf_k : val_main_v76 (F := Ideal) (up P) (up W) (up Y) (ix2 t h) = ((hf (px P (h1 h)) (pw W (h1 h)) (py Y (h1 h)) t : ℝ) : EReal) := by
  rw [val_main_v76]
  refine (unit03 _ _ _ t h).trans ?_
  pointwise [val_main_v75, val_main_v72, val_main_v71, val_main_v70, val_main_v65, val_main_v64, val_main_v63, val_main_cst_7,
    val_main_cst_8, val_main_cst_9, rd_k, rd_yk, rd_sq_k, rd_rn_k]
  simp only [lit_neg_half, zero_coe, ← EReal.coe_mul, coe_sum, ← EReal.coe_add, zero_add, div_coe _ (sq_pos _ _ _).ne']
  rfl

theorem rd_dn_q : val_main_v96 (F := Ideal) (up P) (up W) (up Y) (ix4 0 t h k)
    = ((dn (px P (h0 h)) (pw W (h0 h)) (py Y (h0 h)) k t : ℝ) : EReal) := by
  pointwise [val_main_v96, val_main_v95, val_main_v94, val_main_v93, val_main_v92, val_main_v91, val_main_v88, val_main_v87,
    rd_q, rd_yq, rd_rn_q, rd_hf_q]
  rw [dn_eq]
  simp only [EReal.coe_mul, EReal.coe_add]

theorem rd_dn_k : val_main_v82 (F := Ideal) (up P) (up W) (up Y) (ix4 0 t h k)
    = ((dn (px P (h1 h)) (pw W (h1 h)) (py Y (h1 h)) k t : ℝ) : EReal) := by
  pointwise [val_main_v82, val_main_v81, val_main_v80, val_main_v79, val_main_v78, val_main_v77, val_main_v74, val_main_v73,
    rd_k, rd_yk, rd_rn_k, rd_hf_k]
  rw [dn_eq]
  simp only [EReal.coe_mul, EReal.coe_add]

end Heads

section Columns

variable (t : Fin 2048) (c : Fin 3072)

/-- The activation's cotangent in a column, by which part the column is of. -/
theorem rd_da : val_main_v98 (F := Ideal) (up P) (up W) (up Y) (ix3 0 t c)
    = ((da ((hdo c).val < 16) (px P (hdo c)) (pw W (hdo c)) (py Y (hdo c)) (lno c) t : ℝ) : EReal) := by
  pointwise [val_main_v98, val_main_v97, val_main_v83, val_main_v69, rd_dn_q, rd_dn_k, rd_yv]
  unfold da
  by_cases hq : c.val < 1024
  · rw [dif_pos hq, if_pos (show (hdo c).val < 16 by show c.val / 128 < 16; omega), show h0 ⟨c.val / 128, by omega⟩ = hdo c from rfl]; rfl
  · rw [dif_neg hq]
    by_cases hk : c.val - 1024 < 1024
    · rw [dif_pos hk, if_pos (show (hdo c).val < 16 by show c.val / 128 < 16; omega),
        show h1 ⟨(c.val - 1024) / 128, by omega⟩ = hdo c from Fin.ext (by show 8 + (c.val - 1024) / 128 = c.val / 128; omega),
        show (⟨(c.val - 1024) % 128, by omega⟩ : Fin 128) = lno c from Fin.ext (by show (c.val - 1024) % 128 = c.val % 128; omega)]
    · rw [dif_neg hk, if_neg (show ¬ (hdo c).val < 16 by show ¬ c.val / 128 < 16; omega),
        show h2 ⟨(c.val - 1024 - 1024) / 128, by omega⟩ = hdo c from
          Fin.ext (by show 16 + (c.val - 1024 - 1024) / 128 = c.val / 128; omega),
        show (⟨(c.val - 1024 - 1024) % 128, by omega⟩ : Fin 128) = lno c from
          Fin.ext (by show (c.val - 1024 - 1024) % 128 = c.val % 128; omega)]

theorem rd_dc : val_main_v99 (F := Ideal) (up P) (up W) (up Y) (ix3 0 t c) = ((dcc P W Y c t : ℝ) : EReal) := by
  pointwise [val_main_v99, val_main_call1_v2, val_main_call1_v1, val_main_call1_v0, rd_cv, rd_sg, rd_sg', rd_da]
  simp only [← EReal.coe_mul, ← EReal.coe_add]
  refine congrArg _ ?_
  unfold dcc dc
  simp only [cl_hdo]
  unfold px pw py
  ring

/-- A tap of the gradient: the two sums over unit axes are the one sum. -/
theorem rd_dw (j : Fin 4) : val_main_v141 (F := Ideal) (up P) (up W) (up Y) (ix2 j c)
    = ((dw (colP P c) (dcc P W Y c) j : ℝ) : EReal) := by
  have e3 : val_main_v105 (F := Ideal) (up P) (up W) (up Y) (ix1 c) = ((dw (colP P c) (dcc P W Y c) 3 : ℝ) : EReal) := by
    rw [val_main_v105]
    refine (Ln.unit01 _ _ _ _ c).trans ?_
    pointwise [val_main_v104, val_main_v103, val_main_v102, val_main_cst_12, val_main_cst_13, rd_dc, rd_s0]
    simp only [zero_coe, ← EReal.coe_mul, coe_sum, ← EReal.coe_add, zero_add]
    rfl
  have e2 : val_main_v114 (F := Ideal) (up P) (up W) (up Y) (ix1 c) = ((dw (colP P c) (dcc P W Y c) 2 : ℝ) : EReal) := by
    rw [val_main_v114]
    refine (Ln.unit01 _ _ _ _ c).trans ?_
    pointwise [val_main_v113, val_main_v112, val_main_v111, val_main_cst_16, val_main_cst_17, rd_dc, rd_s1]
    simp only [zero_coe, ← EReal.coe_mul, coe_sum, ← EReal.coe_add, zero_add]
    rfl
  have e1 : val_main_v125 (F := Ideal) (up P) (up W) (up Y) (ix1 c) = ((dw (colP P c) (dcc P W Y c) 1 : ℝ) : EReal) := by
    rw [val_main_v125]
    refine (Ln.unit01 _ _ _ _ c).trans ?_
    pointwise [val_main_v124, val_main_v123, val_main_v122, val_main_cst_20, val_main_cst_21, rd_dc, rd_s2]
    simp only [zero_coe, ← EReal.coe_mul, coe_sum, ← EReal.coe_add, zero_add]
    rfl
  have e0 : val_main_v136 (F := Ideal) (up P) (up W) (up Y) (ix1 c) = ((dw (colP P c) (dcc P W Y c) 0 : ℝ) : EReal) := by
    rw [val_main_v136]
    refine (Ln.unit01 _ _ _ _ c).trans ?_
    pointwise [val_main_v135, val_main_v134, val_main_v133, val_main_cst_24, val_main_cst_25, rd_dc, rd_s3]
    simp only [zero_coe, ← EReal.coe_mul, coe_sum, ← EReal.coe_add, zero_add]
    rfl
  match j with
  | 0 =>
    pointwise [val_main_v141, val_main_v140, val_main_v139, val_main_v130, val_main_v129, val_main_v128, val_main_v119, val_main_v118,
      val_main_v117, val_main_v108, val_main_v107, val_main_cst_15, val_main_cst_19, val_main_cst_23, val_main_cst_27, e0, e1, e2, e3, zero_add]
  | 1 =>
    pointwise [val_main_v141, val_main_v140, val_main_v139, val_main_v130, val_main_v129, val_main_v128, val_main_v119, val_main_v118,
      val_main_v117, val_main_v108, val_main_v107, val_main_cst_15, val_main_cst_19, val_main_cst_23, val_main_cst_27, e0, e1, e2, e3, zero_add, add_zero]
  | 2 =>
    pointwise [val_main_v141, val_main_v140, val_main_v139, val_main_v130, val_main_v129, val_main_v128, val_main_v119, val_main_v118,
      val_main_v117, val_main_v108, val_main_v107, val_main_cst_15, val_main_cst_19, val_main_cst_23, val_main_cst_27, e0, e1, e2, e3, zero_add, add_zero]
  | 3 =>
    pointwise [val_main_v141, val_main_v140, val_main_v139, val_main_v130, val_main_v129, val_main_v128, val_main_v119, val_main_v118,
      val_main_v117, val_main_v108, val_main_v107, val_main_cst_15, val_main_cst_19, val_main_cst_23, val_main_cst_27, e0, e1, e2, e3, add_zero]

theorem rd_dx : val_main_v145 (F := Ideal) (up P) (up W) (up Y) (ix2 t c) = ((dx (dcc P W Y c) (colW W c) t : ℝ) : EReal) := by
  pointwise [val_main_v145, val_main_v144, val_main_v143, val_main_v138, val_main_v137, val_main_v132, val_main_v131, val_main_v127,
    val_main_v126, val_main_v121, val_main_v120, val_main_v116, val_main_v115, val_main_v110, val_main_v109, val_main_v106, val_main_v101,
    val_main_v100, val_main_v36, val_main_v34, val_main_v33, val_main_v29, val_main_v27, val_main_v26, val_main_v22, val_main_v20,
    val_main_v19, val_main_v14, val_main_v12, val_main_v11, val_main_cst_14, val_main_cst_18, val_main_cst_22, val_main_cst_26,
    rd_dc, up_apply]
  rw [pad_fore (dcc P W Y c) t (W (ix2 2 c)) 2 1 rfl, pad_fore (dcc P W Y c) t (W (ix2 1 c)) 1 2 rfl,
    pad_fore3 (dcc P W Y c) t (W (ix2 0 c))]
  simp only [← EReal.coe_mul, ← EReal.coe_add]
  refine congrArg _ ?_
  unfold dx colW
  ring

end Columns

end Cert.Pre.Ref

end
-- ==== Proof.PreClaim.lean ====
/- The preparation's backward call computes the gradient of the preparation: the two programs' results agree. -/
module

public import proofs.«01_k».proof.Defs
public import proofs.«01_k».proof.Proof.PreKernel
public import proofs.«01_k».proof.Proof.PreRef
public import Idealize.ShloMosaic.Lib.Claim

@[expose] public section

set_option maxRecDepth 16384

noncomputable section

namespace Cert.Pre

open Idealize.ShloMosaic Idealize.ShloMosaic.TcCoe Idealize.SL.Sem Cert.Lift

theorem facts : Cert.Pre_finite_pre.Facts := ⟨by decide, by decide, by decide⟩

/-- The reference's run: its arguments unchanged, and no counter to return. -/
theorem ref_frame : Cert.quiescent_RPreIdeal := fun m g _ =>
  (θ_run _ _ _).mono (fun r h => ⟨fun c => (h c).2.2, sem_eq_zero_of_no_sems (by decide) r.2⟩) (Cert.RPreIdeal.Value.run m g)

/-- The precondition, read at the extended reals: every argument is of reals. -/
theorem fin3 [Cert.Pre_finite_pre.Facts] {m : (ℓ : Loc Cert.KPreIdeal.nD Cert.KPreIdeal.τ Cert.KPreIdeal.sig) → Buf (Elt Ideal) ℓ}
    (h : Pre_KPreIdeal_finite_pre m) (c : Dev Cert.KPreIdeal.nD) : Kernel.Fin3 m c :=
  ⟨isReal_of_cmp _ _ (fun _ => lit_top) (h c).1, isReal_of_cmp _ _ (fun _ => lit_top) (h c).2.1,
    isReal_of_cmp _ _ (fun _ => lit_top) (h c).2.2⟩

section
open Cert.RPreIdeal Cert.RPreIdeal.Gen Cert.RPreIdeal.Read
variable (P : S2048x4096.Idx → EReal) (W : S4x3072.Idx → EReal) (Y : S2048x3072.Idx → EReal)
  (hP : IsReal P) (hW : IsReal W) (hY : IsReal Y)
include hP hW hY

theorem ref_dx : val_main_v145 (F := Ideal) P W Y = dxOf (re P) (re W) (re Y) := by
  funext i
  idx_vars i
  have e := Ref.rd_dx (re P) (re W) (re Y) i0 i1
  rw [← hP.up_re, ← hW.up_re, ← hY.up_re] at e
  exact e

theorem ref_dw : val_main_v141 (F := Ideal) P W Y = dwOf (re P) (re W) (re Y) := by
  funext i
  idx_vars i
  have e := Ref.rd_dw (re P) (re W) (re Y) i1 i0
  rw [← hP.up_re, ← hW.up_re, ← hY.up_re] at e
  exact e

end

theorem algebraic [Cert.Pre_finite_pre.Facts] : Cert.algebraic_KPreIdeal_RPreIdeal_pre_finite_pre := by
  intro m g m' g' hpre hagree
  refine ⟨fun c => dxOf (re (Kernel.argP m c)) (re (Kernel.argW m c)) (re (Kernel.argY m c)),
    fun c => dwOf (re (Kernel.argP m c)) (re (Kernel.argW m c)) (re (Kernel.argY m c)), ?_, ?_⟩
  · refine (θ_run _ _ _).mono (fun r h c => ?_) (Cert.KPreIdeal.Value.run_blocks m g)
    obtain ⟨h3, h4, ha⟩ := h c
    have f := fin3 hpre c
    exact ⟨h3.trans (Kernel.arr3 f), h4.trans (Kernel.arr4 f), ha⟩
  · refine (θ_run _ _ _).mono (fun r h c => ?_) (Cert.RPreIdeal.Value.run m' g')
    obtain ⟨h1, h2, ha⟩ := h c
    obtain ⟨fp, fw, fy⟩ := fin3 hpre c
    obtain ⟨e0, e1, e2⟩ := hagree c
    refine ⟨h1.trans ?_, h2.trans ?_, ha⟩
    · exact (Cert.RPreIdeal.Read.val_main_v145_eq _).trans
        ((congr (congr (congrArg (Cert.RPreIdeal.Read.val_main_v145 (F := Ideal)) e0) e1) e2).trans (ref_dx _ _ _ fp fw fy))
    · exact (Cert.RPreIdeal.Read.val_main_v141_eq _).trans
        ((congr (congr (congrArg (Cert.RPreIdeal.Read.val_main_v141 (F := Ideal)) e0) e1) e2).trans (ref_dw _ _ _ fp fw fy))

end Cert.Pre

end
-- ==== Proof.XattnfKernel.lean ====
/- The cross attention's forward kernel, at the extended reals: its result array, for real queries and keys. -/
module

public import proofs.«01_k».proof.Proof.XattnSpec
public import proofs.«01_k».proof.Proof.Gen.KXattnfIdeal.Value
public import Idealize.ShloMosaic.Lib.Pipeline.ValueKit

@[expose] public section

set_option maxRecDepth 16384

noncomputable section

namespace Cert.Xattnf

open Idealize.ShloMosaic Cert.Lift Cert.Xattn

/-- Head `h`'s part of a result row: the values weighed by the row's probabilities. -/
def attend (Q : Tall → ℝ) (K : Short → ℝ) (W : Short → EReal) (h : Fin 4) (r : Fin 2048) (d : Fin 512) : EReal :=
  ∑ m, (pr (sc Q K h r) m : EReal) * W (ix2 m (col h d))

namespace Kernel

open Idealize.ShloMosaic.TcCoe Idealize.SL.Sem
open Idealize.ShloMosaic.Pipeline (Dat)
open Cert.KXattnfIdeal Cert.KXattnfIdeal.Gen

/-- A block's result, for the block's scores `x`. -/
theorem pay_o (q : S1024x512.Idx → ℝ) (k : S256x512.Idx → ℝ) (w : S256x512.Idx → EReal) (x : Fin 1024 → Fin 256 → ℝ)
    (hx : ∀ a m, (∑ d : Fin 512, q (ix2 a d) * k (ix2 m d)) * scale = x a m) (a : Fin 1024) (d : Fin 512) :
    k0_pay1 (F := Ideal) (up q) (up k) w (ix2 a d) = ∑ m, (pr (x a) m : EReal) * w (ix2 m d) := by
  pointwise [k0_pay1, up_apply]
  simp only [scale_coe, lit_bot, ← EReal.coe_mul, coe_sum, hx]
  simp only [top_coe, ← EReal.coe_sub, Ideal.exp_coe, coe_sum]
  exact Finset.sum_congr rfl fun m _ => congrArg (· * w (ix2 m d)) (div_coe _ (den_pos (x a)).ne')

section Arrays

variable (m : (ℓ : Loc nD τ sig) → Buf (Elt Ideal) ℓ) (c : Dev nD)

/-- The arguments. -/
def argQ : S2048x2048.Idx → EReal := m ((c : Thread nD τ).loc main_arg0)
def argK : S256x2048.Idx → EReal := m ((c : Thread nD τ).loc main_arg1)
def argV : S256x2048.Idx → EReal := m ((c : Thread nD τ).loc main_arg2)

/-- The result array. -/
def out : S2048x2048.Idx → EReal := fun i =>
  attend (re (argQ m c)) (re (argK m c)) (argV m c) (hdc (i 1)) (i 0) (lnc (i 1))

theorem idx : ∀ t : Fin cfg0.N, win0_0.index t = ![t.val % 2, t.val / 2] ∧ win0_1.index t = ![0, t.val / 2]
    ∧ win0_2.index t = ![0, t.val / 2] ∧ win0_3.index t = ![t.val % 2, t.val / 2] :=
  (by decide +kernel : ∀ t : Fin grid0.N, _)

theorem lt8 (t : Fin cfg0.N) : t.val < 8 := Nat.lt_of_lt_of_eq t.isLt N_0

/-- The array row of a block row, and the head, of a grid point. -/
def row (t : Fin cfg0.N) (a : Fin 1024) : Fin 2048 := ⟨t.val % 2 * 1024 + a.val, by omega⟩
def hd (t : Fin cfg0.N) : Fin 4 := ⟨t.val / 2, by have := lt8 t; omega⟩

theorem hdc_col (h : Fin 4) (d : Fin 512) : hdc (col h d) = h := Fin.ext (by show (h.val * 512 + d.val) / 512 = h.val; omega)
theorem lnc_col (h : Fin 4) (d : Fin 512) : lnc (col h d) = d := Fin.ext (by show (h.val * 512 + d.val) % 512 = d.val; omega)

variable {m c}

theorem arr3 (hq : IsReal (argQ m c)) (hk : IsReal (argK m c)) : (dats m 0 c).arrAt 3 cfg0.N = out m c := by
  refine (dats m 0 c).arrAt_eq_of_covers 3 _ (by decide +kernel) fun t hf y => ?_
  have b0 : iblk m c 0 t = up (s := S1024x512) (fun y => re (argQ m c) (ix2 (row t (y 0)) (col (hd t) (y 1)))) := by
    funext y
    idx_vars y
    simp only [up_apply, ← hq.eq]
    blk_ext [iblk, V, argQ, row, col, hd, idx t]
  have b1 : iblk m c 1 t = up (s := S256x512) (fun y => re (argK m c) (ix2 (y 0) (col (hd t) (y 1)))) := by
    funext y
    idx_vars y
    simp only [up_apply, ← hk.eq]
    blk_ext [iblk, V, argK, col, hd, idx t]
  have b2 : iblk m c 2 t = (fun y => argV m c (ix2 (y 0) (col (hd t) (y 1))) : S256x512.Idx → EReal) := by
    funext y
    idx_vars y
    blk_ext [iblk, V, argV, col, hd, idx t]
  idx_vars y
  blk_simp
  rw [after0_3]
  unfold out0_3
  frame_out
  rw [b0, b1, b2]
  refine (pay_o _ _ _ (fun a => sc (re (argQ m c)) (re (argK m c)) (hd t) (row t a)) (fun a m => rfl) y0 y1).trans ?_
  have e : out m c (ix2 (row t y0) (col (hd t) y1)) = attend (re (argQ m c)) (re (argK m c)) (argV m c) (hd t) (row t y0) y1 := by
    simp only [out, ix2_0, ix2_1, hdc_col, lnc_col]
  refine Eq.trans e.symm (congrArg (out m c) ?_)
  blk_ext [row, col, hd, idx t]

end Arrays

end Kernel

end Cert.Xattnf

end
-- ==== Proof.XattnfRef.lean ====
/- The cross attention as the reference computes it, at the extended reals, for real queries and keys. -/
module

public import proofs.«01_k».proof.Proof.XattnRef
public import proofs.«01_k».proof.Proof.XattnfKernel
public import proofs.«01_k».proof.Proof.Gen.RXattnfIdeal.Read

@[expose] public section

set_option maxRecDepth 16384

noncomputable section

namespace Cert.Xattnf.Ref

open Idealize.ShloMosaic Idealize.ShloMosaic.TcCoe Idealize.SL.Sem
open Cert.RXattnfIdeal Cert.RXattnfIdeal.Gen Cert.RXattnfIdeal.Read Cert.Lift Cert.Xattn

variable (Q : S2048x2048.Idx → ℝ) (K : S256x2048.Idx → ℝ) (W : S256x2048.Idx → EReal)

/-- The probabilities are those the reference differentiates. -/
theorem probs (q : S2048x2048.Idx → EReal) (k : S256x2048.Idx → EReal) :
    val_main_v19 (F := Ideal) q k = Cert.RXattnIdeal.Read.val_main_v33 (F := Ideal) q k := rfl

theorem rd_pr (h : Fin 4) (r : Fin 2048) (m : Fin 256) :
    val_main_v19 (F := Ideal) (up Q) (up K) (ix4 0 h r m) = (pr (sc Q K h r) m : EReal) := by
  rw [probs]
  exact Cert.Xattn.Ref.rd_pr Q K h r m

theorem rd_v (r : Fin 256) (h : Fin 4) (d : Fin 512) :
    val_main_v5 (F := Ideal) W (ix4 0 r h d) = W (ix2 r (col h d)) :=
  Cert.Xattn.Ref.rd_v W r h d

theorem rd_o (r : Fin 2048) (c : Fin 2048) :
    val_main_v24 (F := Ideal) (up Q) (up K) W (ix2 r c) = attend Q K W (hdc c) r (lnc c) := by
  pointwise [val_main_v24, val_main_v23, val_main_v22, val_main_v21, val_main_v20, rd_pr, rd_v]
  exact Finset.sum_congr rfl fun _ _ => mul_comm _ _

end Cert.Xattnf.Ref

end
-- ==== Proof.XattnfClaim.lean ====
/- The cross attention's forward call computes the reference's softmax attention: the two programs' results agree. -/
module

public import proofs.«01_k».proof.Defs
public import proofs.«01_k».proof.Proof.XattnfKernel
public import proofs.«01_k».proof.Proof.XattnfRef
public import Idealize.ShloMosaic.Lib.Claim

@[expose] public section

set_option maxRecDepth 16384

noncomputable section

namespace Cert.Xattnf

open Idealize.ShloMosaic Idealize.ShloMosaic.TcCoe Idealize.SL.Sem Cert.Lift

theorem facts : Cert.Pre_finite_xattnf.Facts := ⟨by decide, by decide⟩

theorem ref_frame : Cert.quiescent_RXattnfIdeal := fun m g _ =>
  (θ_run _ _ _).mono (fun r h => ⟨fun c => (h c).2, sem_eq_zero_of_no_sems (by decide) r.2⟩) (Cert.RXattnfIdeal.Value.run m g)

theorem algebraic [Cert.Pre_finite_xattnf.Facts] : Cert.algebraic_KXattnfIdeal_RXattnfIdeal_pre_finite_xattnf := by
  intro m g m' g' hpre hagree
  have real (c : Dev Cert.KXattnfIdeal.nD) : IsReal (Kernel.argQ m c) ∧ IsReal (Kernel.argK m c) :=
    ⟨isReal_of_cmp _ _ (fun _ => lit_top16) (hpre c).1, isReal_of_cmp _ _ (fun _ => lit_top16) (hpre c).2⟩
  refine ⟨fun c => Kernel.out m c, ?_, ?_⟩
  · refine (θ_run _ _ _).mono (fun r h c => ?_) (Cert.KXattnfIdeal.Value.run_blocks m g)
    exact ⟨(h c).1.trans (Kernel.arr3 (real c).1 (real c).2), (h c).2⟩
  · refine (θ_run _ _ _).mono (fun r h c => ?_) (Cert.RXattnfIdeal.Value.run m' g')
    obtain ⟨e0, e1, e2⟩ := hagree c
    refine ⟨(h c).1.trans ?_, (h c).2⟩
    rw [Cert.RXattnfIdeal.Read.val_main_v24_eq, e0, e1, e2]
    funext i
    idx_vars i
    have e := Ref.rd_o (re (Kernel.argQ m c)) (re (Kernel.argK m c)) (Kernel.argV m c) i0 i1
    rw [← (real c).1.up_re, ← (real c).2.up_re] at e
    exact e

end Cert.Xattnf

end
-- ==== Proof.PoolfKernel.lean ====
/- The pools' forward kernel, at the extended reals: its result array, for a real input and any weights and scales. -/
module

public import proofs.«01_k».proof.Proof.PoolKernel
public import proofs.«01_k».proof.Proof.Gen.KPoolfIdeal.Value
public import Idealize.ShloMosaic.Lib.Pipeline.ValueKit

@[expose] public section

set_option maxRecDepth 16384

noncomputable section

namespace Cert.Poolf

open Idealize.ShloMosaic Cert.Lift Cert.Pool

/-- The pooled input, mixed within its group and scaled. -/
def outOf (P : (⟨2, ![2048, 1024]⟩ : Shape).Idx → ℝ) (W : (⟨3, ![4, 256, 256]⟩ : Shape).Idx → EReal)
    (S : (⟨2, ![1, 1024]⟩ : Shape).Idx → EReal) : (⟨2, ![2048, 1024]⟩ : Shape).Idx → EReal := fun i =>
  (∑ k, (pooled (grp (i 1)) (cols P (grp (i 1))) (i 0) k : EReal) * W (ix3 (grp (i 1)) k (chan (i 1)))) * S (ix2 0 (i 1))

namespace Kernel

open Idealize.ShloMosaic.TcCoe Idealize.SL.Sem
open Idealize.ShloMosaic.Pipeline (Dat)
open Cert.KPoolfIdeal Cert.KPoolfIdeal.Gen

/-- What the body does with a pooled block. -/
def mixScale (x : FVec Ideal S2048x256 .f32) (w : Vec Ideal S1x256x256 .bf16) (s : Vec Ideal S1x256 .f32) : FVec Ideal S2048x256 .bf16 :=
  truncf .bf16 (mulf (matmul dot_S2048x256_S256x256_S2048x256_1_0_0_1_n_n none (truncf .bf16 x bitsLt_bf16_f32)
    (shapeCast S256x256 w shapeCasts_S1x256x256_S256x256 : FVec Ideal S256x256 .bf16) (constant S2048x256 .f32 0x00000000#32))
    (broadcastTo S2048x256 s broadcasts_S1x256_S2048x256)) bitsLt_bf16_f32

theorem mixScale_apply (x : S2048x256.Idx → EReal) (w : S1x256x256.Idx → EReal) (s : S1x256.Idx → EReal) (t : Fin 2048) (c : Fin 256) :
    mixScale x w s (ix2 t c) = (∑ k, x (ix2 t k) * w (ix3 0 k c)) * s (ix2 0 c) := by
  pointwise [mixScale]

/-- A block's result: the pooled block is the one the backward kernel computes again. -/
theorem pay_out (g : Fin 4) (p : Fin 2048 → Fin 256 → ℝ) (w : S1x256x256.Idx → EReal) (s : S1x256.Idx → EReal) (i : grid0.Coords)
    (hi : (i 0).val = g.val) (t : Fin 2048) (c : Fin 256) :
    k0_pay1 (F := Ideal) (BitVec.ofNat 32 (i 0).val) (Pool.Kernel.mat p) (k0_pay2 (Pool.Kernel.mat p)) (k0_pay3 i) (k0_pay4 i (Pool.Kernel.mat p)) 0#32 w s (ix2 t c)
      = (∑ k, (pooled g p t k : EReal) * w (ix3 0 k c)) * s (ix2 0 c) := by
  refine (mixScale_apply (Cert.KPoolIdeal.Gen.k0_pay5 (F := Ideal) (BitVec.ofNat 32 (i 0).val) (Pool.Kernel.mat p)
    (Cert.KPoolIdeal.Gen.k0_pay2 (Pool.Kernel.mat p)) (Cert.KPoolIdeal.Gen.k0_pay3 i) (Cert.KPoolIdeal.Gen.k0_pay4 i (Pool.Kernel.mat p)) 0#32) w s t c).trans ?_
  simp only [Pool.Kernel.pay_pooled g p i hi]

section Arrays

variable (m : (ℓ : Loc nD τ sig) → Buf (Elt Ideal) ℓ) (c : Dev nD)

/-- The arguments. -/
def argP : S2048x1024.Idx → EReal := m ((c : Thread nD τ).loc main_arg0)
def argW : S4x256x256.Idx → EReal := m ((c : Thread nD τ).loc main_arg1)
def argS : S1x1024.Idx → EReal := m ((c : Thread nD τ).loc main_arg2)

theorem idx : ∀ t : Fin cfg0.N, win0_0.index t = ![0, t.val] ∧ win0_1.index t = ![t.val, 0, 0] ∧ win0_2.index t = ![0, t.val]
    ∧ win0_3.index t = ![0, t.val] ∧ (grid0.coords t 0).val = t.val :=
  (by decide +kernel : ∀ t : Fin grid0.N, _)

/-- The group of a grid point. -/
def gr (t : Fin cfg0.N) : Fin 4 := ⟨t.val, Nat.lt_of_lt_of_eq t.isLt N_0⟩

variable {m c}

theorem arr3 (hp : IsReal (argP m c)) : (dats m 0 c).arrAt 3 cfg0.N = outOf (re (argP m c)) (argW m c) (argS m c) := by
  refine (dats m 0 c).arrAt_eq_of_covers 3 _ (by decide +kernel) fun t hf y => ?_
  have b0 : iblk m c 0 t = Pool.Kernel.mat (cols (re (argP m c)) (gr t)) := by
    funext y
    idx_vars y
    simp only [up_apply, cols, ← hp.eq]
    blk_ext [iblk, V_main_arg0, argP, gr, colg, idx t]
  have b1 : iblk m c 1 t = (fun y => argW m c (ix3 (gr t) (y 1) (y 2)) : S1x256x256.Idx → EReal) := by
    funext y
    idx_vars y
    blk_ext [iblk, V_main_arg1, argW, gr, idx t]
  have b2 : iblk m c 2 t = (fun y => argS m c (ix2 (y 0) (colg (gr t) (y 1))) : S1x256.Idx → EReal) := by
    funext y
    idx_vars y
    blk_ext [iblk, V_main_arg2, argS, gr, colg, idx t]
  idx_vars y
  blk_simp
  rw [after0_3]
  unfold out0_3
  frame_out
  rw [b0, b1, b2]
  refine (pay_out (gr t) _ _ _ _ (idx t).2.2.2.2 y0 y1).trans ?_
  refine Eq.trans ?_ (congrArg (outOf _ _ _) (?_ : ix2 y0 (colg (gr t) y1) = _))
  · simp only [outOf, ix2_0, ix2_1, ix3_1, ix3_2, grp_colg, chan_colg]
  · blk_ext [gr, colg, idx t]

end Arrays

end Kernel

end Cert.Poolf

end
-- ==== Proof.PoolfRef.lean ====
/- The pools as the reference computes them, at the extended reals, for a real input. -/
module

public import proofs.«01_k».proof.Proof.GatesSpec
public import proofs.«01_k».proof.Proof.PoolRef
public import proofs.«01_k».proof.Proof.PoolfKernel
public import proofs.«01_k».proof.Proof.Gen.RPoolfIdeal.Read

@[expose] public section

set_option maxRecDepth 16384

noncomputable section

namespace Cert.Poolf.Ref

open Idealize.ShloMosaic Idealize.ShloMosaic.TcCoe Idealize.SL.Sem
open Cert.RPoolfIdeal Cert.RPoolfIdeal.Gen Cert.RPoolfIdeal.Read Cert.Lift Cert.Pool

variable (P : S2048x1024.Idx → ℝ) (W : S4x256x256.Idx → EReal) (S : S1x1024.Idx → EReal)

/-- Zeros padded ahead of a column are zeros put ahead of it. -/
theorem behind {l w : ℕ} (hl : l + w = 2048) (f : Fin l → EReal) (t : Fin 2048) (hb : ¬ t.val < w → t.val - w < l) :
    (if h : w ≤ t.val ∧ t.val - w < l then f ⟨t.val - w, h.2⟩ else FloatOps.sitofp (F := Ideal) .f32 0#32)
      = if h : t.val < w then 0 else f ⟨t.val - w, hb h⟩ := by
  by_cases h : t.val < w
  · rw [dif_pos h, dif_neg (by omega), Cert.Gates.sitofp_zero]
  · rw [dif_neg h, dif_pos ⟨by omega, by omega⟩]

/-- A window's earlier running sums, padded with zeros, are those behind rows of zeros. -/
theorem lag_2 (p : S2048x1024.Idx → EReal) : val_main_v9 (F := Ideal) p = Cert.RPoolIdeal.Read.val_main_v10 (F := Ideal) p := by
  funext i
  idx_vars i
  pointwise [val_main_v9, val_main_call1_v0, val_main_c, Cert.RPoolIdeal.Read.val_main_v10, Cert.RPoolIdeal.Read.val_main_v8, Cert.RPoolIdeal.Read.val_main_cst]
  exact behind rfl (fun a => val_main_v8 (F := Ideal) p (ix3 0 a i2)) i1 _

theorem lag_4 (p : S2048x1024.Idx → EReal) : val_main_v22 (F := Ideal) p = Cert.RPoolIdeal.Read.val_main_v25 (F := Ideal) p := by
  funext i
  idx_vars i
  pointwise [val_main_v22, val_main_call2_v0, val_main_c_2, Cert.RPoolIdeal.Read.val_main_v25, Cert.RPoolIdeal.Read.val_main_v23, Cert.RPoolIdeal.Read.val_main_cst_2]
  exact behind rfl (fun a => val_main_v21 (F := Ideal) p (ix3 0 a i2)) i1 _

theorem lag_8 (p : S2048x1024.Idx → EReal) : val_main_v35 (F := Ideal) p = Cert.RPoolIdeal.Read.val_main_v40 (F := Ideal) p := by
  funext i
  idx_vars i
  pointwise [val_main_v35, val_main_call3_v0, val_main_c_5, Cert.RPoolIdeal.Read.val_main_v40, Cert.RPoolIdeal.Read.val_main_v38, Cert.RPoolIdeal.Read.val_main_cst_6]
  exact behind rfl (fun a => val_main_v34 (F := Ideal) p (ix3 0 a i2)) i1 _

theorem lag_16 (p : S2048x1024.Idx → EReal) : val_main_v48 (F := Ideal) p = Cert.RPoolIdeal.Read.val_main_v55 (F := Ideal) p := by
  funext i
  idx_vars i
  pointwise [val_main_v48, val_main_call4_v0, val_main_c_8, Cert.RPoolIdeal.Read.val_main_v55, Cert.RPoolIdeal.Read.val_main_v53, Cert.RPoolIdeal.Read.val_main_cst_10]
  exact behind rfl (fun a => val_main_v47 (F := Ideal) p (ix3 0 a i2)) i1 _

/-- The pooled input is the one the reference differentiates. -/
theorem pools (p : S2048x1024.Idx → EReal) : val_main_v63 (F := Ideal) p = Cert.RPoolIdeal.Read.val_main_v71 (F := Ideal) p := by
  unfold val_main_v63 val_main_v62 val_main_v58 val_main_v59 val_main_v60 val_main_v61 val_main_v18 val_main_v31 val_main_v44 val_main_v57
    val_main_v16 val_main_v29 val_main_v42 val_main_v55
  rw [lag_2, lag_4, lag_8, lag_16]
  rfl

theorem rd_pooled (t : Fin 2048) (g : Fin 4) (c : Fin 256) :
    val_main_v63 (F := Ideal) (up P) (ix4 0 t g c) = ((pooled g (cols P g) t c : ℝ) : EReal) := by
  rw [pools]
  exact Cert.Pool.Ref.rd_pooled P t g c

theorem rd_out (t : Fin 2048) (j : Fin 1024) :
    val_main_v71 (F := Ideal) (up P) W S (ix2 t j) = outOf P W S (ix2 t j) := by
  have e : val_main_v65 (F := Ideal) (up P) W (ix4 0 t (grp j) (chan j))
      = ∑ k, (pooled (grp j) (cols P (grp j)) t k : EReal) * W (ix3 (grp j) k (chan j)) := by
    pointwise [val_main_v65, val_main_v64, val_main_v1, rd_pooled]
    exact Finset.sum_congr rfl fun _ _ => mul_comm _ _
  refine Eq.trans ?_ (congrArg (· * S (ix2 0 j)) e)
  pointwise [val_main_v71, val_main_v70, val_main_v69, val_main_v68, val_main_v67, val_main_v66, val_main_v2]
  rfl

end Cert.Poolf.Ref

end
-- ==== Proof.PoolfClaim.lean ====
/- The pools' forward call computes the reference's pools: the two programs' results agree. -/
module

public import proofs.«01_k».proof.Defs
public import proofs.«01_k».proof.Proof.PoolfKernel
public import proofs.«01_k».proof.Proof.PoolfRef
public import Idealize.ShloMosaic.Lib.Claim

@[expose] public section

set_option maxRecDepth 16384

noncomputable section

namespace Cert.Poolf

open Idealize.ShloMosaic Idealize.ShloMosaic.TcCoe Idealize.SL.Sem Cert.Lift

theorem facts : Cert.Pre_finite_poolf.Facts := ⟨by decide⟩

theorem ref_frame : Cert.quiescent_RPoolfIdeal := fun m g _ =>
  (θ_run _ _ _).mono (fun r h => ⟨fun c => (h c).2, sem_eq_zero_of_no_sems (by decide) r.2⟩) (Cert.RPoolfIdeal.Value.run m g)

theorem algebraic [Cert.Pre_finite_poolf.Facts] : Cert.algebraic_KPoolfIdeal_RPoolfIdeal_pre_finite_poolf := by
  intro m g m' g' hpre hagree
  have real (c : Dev Cert.KPoolfIdeal.nD) : IsReal (Kernel.argP m c) := isReal_of_cmp _ _ (fun _ => lit_top) (hpre c)
  refine ⟨fun c => outOf (re (Kernel.argP m c)) (Kernel.argW m c) (Kernel.argS m c), ?_, ?_⟩
  · refine (θ_run _ _ _).mono (fun r h c => ?_) (Cert.KPoolfIdeal.Value.run_blocks m g)
    exact ⟨(h c).1.trans (Kernel.arr3 (real c)), (h c).2⟩
  · refine (θ_run _ _ _).mono (fun r h c => ?_) (Cert.RPoolfIdeal.Value.run m' g')
    obtain ⟨e0, e1, e2⟩ := hagree c
    refine ⟨(h c).1.trans ?_, (h c).2⟩
    rw [Cert.RPoolfIdeal.Read.val_main_v71_eq, e0, e1, e2]
    funext i
    idx_vars i
    have e := Ref.rd_out (re (Kernel.argP m c)) (Kernel.argW m c) (Kernel.argS m c) i0 i1
    rw [← (real c).up_re] at e
    exact e

end Cert.Poolf

end
-- ==== Proof.PostfKernel.lean ====
/- The gated norm's forward kernel, at the extended reals: its result array, for any arguments. -/
module

public import proofs.«01_k».proof.Proof.Lift
public import proofs.«01_k».proof.Proof.Gen.KPostfIdeal.Value
public import Idealize.ShloMosaic.Lib.Pipeline.ValueKit

@[expose] public section

set_option maxRecDepth 16384

noncomputable section

namespace Cert.Postf

open Idealize.ShloMosaic Cert.Lift

/-- One head's row over the root of its mean square, times its weights and its gate. -/
def gated (o z w : Fin 128 → EReal) (k : Fin 128) : EReal :=
  o k * Ideal.rsqrt (Ideal.div (∑ l, o l * o l) ((128 : ℝ) : EReal) + (eps : EReal)) * w k * (z k * Ideal.div 1 (1 + Ideal.exp (-z k)))

/-- A head's columns, in the heads' array and in the projections, and the head and lane of a column. -/
def col (h : Fin 8) (k : Fin 128) : Fin 1024 := ⟨h.val * 128 + k.val, by omega⟩
def gcol (h : Fin 8) (k : Fin 128) : Fin 4096 := ⟨3072 + (h.val * 128 + k.val), by omega⟩
def hd (j : Fin 1024) : Fin 8 := ⟨j.val / 128, by omega⟩
def lane (j : Fin 1024) : Fin 128 := ⟨j.val % 128, by omega⟩

theorem hd_col (h : Fin 8) (k : Fin 128) : hd (col h k) = h := Fin.ext (by show (h.val * 128 + k.val) / 128 = h.val; omega)
theorem lane_col (h : Fin 8) (k : Fin 128) : lane (col h k) = k := Fin.ext (by show (h.val * 128 + k.val) % 128 = k.val; omega)
theorem col_hd (j : Fin 1024) : col (hd j) (lane j) = j := Fin.ext (by show j.val / 128 * 128 + j.val % 128 = j.val; omega)

def outOf (O : (⟨2, ![2048, 1024]⟩ : Shape).Idx → EReal) (P : (⟨2, ![2048, 4096]⟩ : Shape).Idx → EReal)
    (W : (⟨2, ![1, 128]⟩ : Shape).Idx → EReal) : (⟨2, ![2048, 1024]⟩ : Shape).Idx → EReal := fun i =>
  gated (fun k => O (ix2 (i 0) (col (hd (i 1)) k))) (fun k => P (ix2 (i 0) (gcol (hd (i 1)) k))) (fun k => W (ix2 0 k)) (lane (i 1))

namespace Kernel

open Idealize.ShloMosaic.TcCoe Idealize.SL.Sem
open Idealize.ShloMosaic.Pipeline (Dat)
open Cert.KPostfIdeal Cert.KPostfIdeal.Gen

theorem pay_out (x0 x1 : S1024x128.Idx → EReal) (x2 : S1x128.Idx → EReal) (a : Fin 1024) (b : Fin 128) :
    k0_pay1 (F := Ideal) x0 x1 x2 (ix2 a b) = gated (fun k => x0 (ix2 a k)) (fun k => x1 (ix2 a k)) (fun k => x2 (ix2 0 k)) b := by
  pointwise [k0_pay1]
  simp only [lit_128, eps_coe, zero_sub]
  rfl

section Arrays

variable (m : (ℓ : Loc nD τ sig) → Buf (Elt Ideal) ℓ) (c : Dev nD)

/-- The arguments. -/
def argO : S2048x1024.Idx → EReal := m ((c : Thread nD τ).loc main_arg0)
def argP : S2048x4096.Idx → EReal := m ((c : Thread nD τ).loc main_arg1)
def argW : S1x128.Idx → EReal := m ((c : Thread nD τ).loc main_arg2)

theorem idx : ∀ t : Fin cfg0.N, win0_0.index t = ![t.val / 8, t.val % 8] ∧ win0_1.index t = ![t.val / 8, 24 + t.val % 8]
    ∧ win0_2.index t = ![0, 0] ∧ win0_3.index t = ![t.val / 8, t.val % 8] :=
  (by decide +kernel : ∀ t : Fin grid0.N, _)

theorem lt16 (t : Fin cfg0.N) : t.val < 16 := Nat.lt_of_lt_of_eq t.isLt N_0

/-- The row a point's block starts at, and the head it is of. -/
def rowOf (t : Fin cfg0.N) (a : Fin 1024) : Fin 2048 := ⟨t.val / 8 * 1024 + a.val, by have := lt16 t; omega⟩
def hdOf (t : Fin cfg0.N) : Fin 8 := ⟨t.val % 8, by omega⟩

theorem arr3 : (dats m 0 c).arrAt 3 cfg0.N = outOf (argO m c) (argP m c) (argW m c) := by
  refine (dats m 0 c).arrAt_eq_of_covers 3 _ (by decide +kernel) fun t hf y => ?_
  have b0 : iblk m c 0 t = (fun y => argO m c (ix2 (rowOf t (y 0)) (col (hdOf t) (y 1))) : S1024x128.Idx → EReal) := by
    funext y
    idx_vars y
    blk_ext [iblk, V, argO, rowOf, col, hdOf, idx t]
  have b1 : iblk m c 1 t = (fun y => argP m c (ix2 (rowOf t (y 0)) (gcol (hdOf t) (y 1))) : S1024x128.Idx → EReal) := by
    funext y
    idx_vars y
    blk_ext [iblk, V, argP, rowOf, gcol, hdOf, idx t]
  have b2 : iblk m c 2 t = (fun y => argW m c (ix2 0 (y 1)) : S1x128.Idx → EReal) := by
    funext y
    idx_vars y
    blk_ext [iblk, V, argW, idx t]
  idx_vars y
  blk_simp
  rw [after0_3]
  unfold out0_3
  frame_out
  rw [b0, b1, b2]
  refine (pay_out _ _ _ y0 y1).trans ?_
  refine Eq.trans ?_ (congrArg (outOf _ _ _) (?_ : ix2 (rowOf t y0) (col (hdOf t) y1) = _))
  · simp only [outOf, ix2_0, ix2_1, hd_col, lane_col]
  · blk_ext [rowOf, col, hdOf, idx t]

end Arrays

end Kernel

end Cert.Postf

end
-- ==== Proof.PostfRef.lean ====
/- The gated norm as the reference computes it, at the extended reals, for any arguments. -/
module

public import proofs.«01_k».proof.Proof.PostfKernel
public import proofs.«01_k».proof.Proof.Gen.RPostfIdeal.Read

@[expose] public section

set_option maxRecDepth 16384

noncomputable section

namespace Cert.Postf.Ref

open Idealize.ShloMosaic Idealize.ShloMosaic.TcCoe Idealize.SL.Sem
open Cert.RPostfIdeal Cert.RPostfIdeal.Gen Cert.RPostfIdeal.Read Cert.Lift

variable (O : S2048x1024.Idx → EReal) (P : S2048x4096.Idx → EReal) (W : S1x128.Idx → EReal)

theorem rd_norm (r : Fin 2048) (h : Fin 8) (k : Fin 128) :
    val_main_v16 (F := Ideal) O W (ix4 0 r h k)
      = O (ix2 r (col h k)) * Ideal.rsqrt (Ideal.div (∑ l, O (ix2 r (col h l)) * O (ix2 r (col h l))) ((128 : ℝ) : EReal) + (eps : EReal)) * W (ix2 0 k) := by
  pointwise [val_main_v16, val_main_v15, val_main_v14, val_main_v13, val_main_v12, val_main_v11, val_main_v10, val_main_v9, val_main_v8, val_main_v7,
    val_main_v6, val_main_v5, val_main_v4, val_main_v3, val_main_v2, val_main_cst, val_main_cst_0, val_main_cst_1]
  simp only [lit_128, eps_coe, zero_add]
  rfl

theorem rd_gate (r : Fin 2048) (h : Fin 8) (k : Fin 128) :
    val_main_v18 (F := Ideal) P (ix4 0 r h k)
      = P (ix2 r (gcol h k)) * Ideal.div 1 (1 + Ideal.exp (-P (ix2 r (gcol h k)))) := by
  pointwise [val_main_v18, val_main_call0_v5, val_main_call0_v4, val_main_call0_v3, val_main_call0_v2, val_main_call0_v1, val_main_call0_v0,
    val_main_call0_cst, val_main_call0_cst_0, val_main_v17, val_main_v1, val_main_v0]
  rfl

theorem rd_out (r : Fin 2048) (j : Fin 1024) :
    val_main_v22 (F := Ideal) O P W (ix2 r j) = outOf O P W (ix2 r j) := by
  have e : val_main_v19 (F := Ideal) O P W (ix4 0 r (hd j) (lane j)) = outOf O P W (ix2 r j) := by
    pointwise [val_main_v19, rd_norm, rd_gate]
    rfl
  refine Eq.trans ?_ e
  pointwise [val_main_v22, val_main_v21, val_main_v20]
  rfl

end Cert.Postf.Ref

end
-- ==== Proof.PostfClaim.lean ====
/- The gated norm's forward call computes the reference's norm: the two programs' results agree. -/
module

public import proofs.«01_k».proof.Defs
public import proofs.«01_k».proof.Proof.PostfKernel
public import proofs.«01_k».proof.Proof.PostfRef
public import Idealize.ShloMosaic.Lib.Claim

@[expose] public section

set_option maxRecDepth 16384

noncomputable section

namespace Cert.Postf

open Idealize.ShloMosaic Idealize.ShloMosaic.TcCoe Idealize.SL.Sem Cert.Lift

theorem ref_frame : Cert.quiescent_RPostfIdeal := fun m g _ =>
  (θ_run _ _ _).mono (fun r h => ⟨fun c => (h c).2, sem_eq_zero_of_no_sems (by decide) r.2⟩) (Cert.RPostfIdeal.Value.run m g)

theorem algebraic : Cert.algebraic_KPostfIdeal_RPostfIdeal := by
  intro m g m' g' _ hagree
  refine ⟨fun c => outOf (Kernel.argO m c) (Kernel.argP m c) (Kernel.argW m c), ?_, ?_⟩
  · refine (θ_run _ _ _).mono (fun r h c => ?_) (Cert.KPostfIdeal.Value.run_blocks m g)
    exact ⟨(h c).1.trans (Kernel.arr3 m c), (h c).2⟩
  · refine (θ_run _ _ _).mono (fun r h c => ?_) (Cert.RPostfIdeal.Value.run m' g')
    obtain ⟨e0, e1, e2⟩ := hagree c
    refine ⟨(h c).1.trans ?_, (h c).2⟩
    rw [Cert.RPostfIdeal.Read.val_main_v22_eq, e0, e1, e2]
    funext i
    idx_vars i
    exact Ref.rd_out (Kernel.argO m c) (Kernel.argP m c) (Kernel.argW m c) i0 i1

end Cert.Postf

end
-- ==== Proof.PrefKernel.lean ====
/- The preparation's forward kernel, at the extended reals: its result array, for any arguments. -/
module

public import proofs.«01_k».proof.Proof.PreSpec
public import proofs.«01_k».proof.Proof.Gen.KPrefIdeal.Value
public import Idealize.ShloMosaic.Lib.Pipeline.ValueKit

@[expose] public section

set_option maxRecDepth 16384

noncomputable section

namespace Cert.Pref

open Idealize.ShloMosaic Cert.Lift Cert.Pre

/-- A column moved later, with zeros before it. -/
def later (f : Fin 2048 → EReal) (n : ℕ) (t : Fin 2048) : EReal := if h : n ≤ t.val then f ⟨t.val - n, by omega⟩ else 0

/-- The causal convolution of a column with its four taps, and its silu. -/
def conv (f : Fin 2048 → EReal) (w : Fin 4 → EReal) (t : Fin 2048) : EReal :=
  f t * w 3 + later f 3 t * w 0 + later f 2 t * w 1 + later f 1 t * w 2
def feat (f : Fin 2048 → EReal) (w : Fin 4 → EReal) (t : Fin 2048) : EReal :=
  conv f w t * Ideal.div 1 (1 + Ideal.exp (-conv f w t))

/-- A head's features over the root of their sum of squares. -/
def unitFeat (x : Fin 128 → Fin 2048 → EReal) (w : Fin 128 → Fin 4 → EReal) (k : Fin 128) (t : Fin 2048) : EReal :=
  feat (x k) (w k) t * Ideal.rsqrt ((∑ l, feat (x l) (w l) t * feat (x l) (w l) t) + (eps : EReal))

/-- A column of the projections and of the taps. -/
def pcol (P : (⟨2, ![2048, 4096]⟩ : Shape).Idx → EReal) (c : Fin 3072) (t : Fin 2048) : EReal := P (ix2 t ⟨c.val, by omega⟩)
def wcol (W : (⟨2, ![4, 3072]⟩ : Shape).Idx → EReal) (c : Fin 3072) (j : Fin 4) : EReal := W (ix2 j c)

/-- The features: the first two thirds of the heads are divided by their norms. -/
def outOf (P : (⟨2, ![2048, 4096]⟩ : Shape).Idx → EReal) (W : (⟨2, ![4, 3072]⟩ : Shape).Idx → EReal) :
    (⟨2, ![2048, 3072]⟩ : Shape).Idx → EReal := fun i =>
  if (hdo (i 1)).val < 16 then unitFeat (fun k => pcol P (cl (hdo (i 1)) k)) (fun k => wcol W (cl (hdo (i 1)) k)) (lno (i 1)) (i 0)
  else feat (pcol P (i 1)) (wcol W (i 1)) (i 0)

namespace Kernel

open Idealize.ShloMosaic.TcCoe Idealize.SL.Sem
open Idealize.ShloMosaic.Pipeline (Dat)
open Cert.KPrefIdeal Cert.KPrefIdeal.Gen

/-- A head's block, by its columns, and the block of its taps. -/
def mat (x : Fin 128 → Fin 2048 → EReal) : S2048x128.Idx → EReal := fun y => x (y 1) (y 0)
def taps (w : Fin 128 → Fin 4 → EReal) : S4x128.Idx → EReal := fun y => w (y 1) (y 0)

theorem mat_apply (x : Fin 128 → Fin 2048 → EReal) (t : Fin 2048) (k : Fin 128) : mat x (ix2 t k) = x k t := rfl
theorem taps_apply (w : Fin 128 → Fin 4 → EReal) (j : Fin 4) (k : Fin 128) : taps w (ix2 j k) = w k j := rfl

/-- A masked rotation moves every column later. -/
theorem rotated (b : BitVec 32) (n : ℕ) (hb : b.toNat = n) (hn : n < 2048) (x : Fin 128 → Fin 2048 → EReal)
    (hc : ∀ t : Fin 2048, IntOp.cmpi .sge (BitVec.ofNat 32 t.val) b = BitVec.ofBool (decide (n ≤ t.val))) :
    select (cmpi .sge (iota .tc S2048x128 32 [0] iota_S2048x128_d0_w32) (broadcast S2048x128 b))
      (dynamicRotate 0 b none (mat x) rotates_S2048x128_d0) (broadcast S2048x128 (Scalar.ofBits (F := Ideal) .f32 0x00000000#32))
      = mat fun k t => later (x k) n t := by
  funext i
  idx_vars i
  pointwise [hc, mat_apply]
  unfold later
  split
  · next hp =>
    refine congrArg (fun r => x i1 r) (Fin.ext ?_)
    show (i0.val + 2048 - b.toNat % 2048) % 2048 = i0.val - n
    have := i0.isLt
    omega
  · rfl

variable (x : Fin 128 → Fin 2048 → EReal) (w : Fin 128 → Fin 4 → EReal)

/-- Only the first two of the three parts are divided by their norms. -/
theorem chosen {α : Type} (a b : α) (s : Fin 3) :
    Scalar.select (Scalar.cmpi .slt (BitVec.ofNat 32 s.val) 2#32) a b = if s.val < 2 then a else b :=
  match s with
  | 0 => rfl
  | 1 => rfl
  | 2 => rfl

theorem pay_conv : k0_pay2 (F := Ideal) (mat x) (taps w) = mat fun k => conv (x k) (w k) := by
  unfold k0_pay2
  dsimp only
  rw [rotated 3#32 3 rfl (by decide) _ (by decide +kernel), rotated 2#32 2 rfl (by decide) _ (by decide +kernel),
    rotated 1#32 1 rfl (by decide) _ (by decide +kernel)]
  funext i
  idx_vars i
  pointwise [mat_apply, taps_apply]
  rfl

theorem pay_den : k0_pay3 (F := Ideal) (mat x) (taps w) = mat fun k t => 1 + Ideal.exp (-conv (x k) (w k) t) := by
  funext i
  idx_vars i
  pointwise [k0_pay3, pay_conv, mat_apply]
  rw [zero_sub]

theorem pay_out (s : Fin 3) (i : grid0.Coords) (hi : (i 0).val = s.val) (t : Fin 2048) (k : Fin 128) :
    k0_pay1 (F := Ideal) (Scalar.cmpi .slt (BitVec.ofNat 32 (i 0).val) 2#32) (k0_pay2 (mat x) (taps w)) (k0_pay3 (mat x) (taps w))
      (Scalar.ofBits .f32 0x3F800000#32) (ix2 t k) = if s.val < 2 then unitFeat x w k t else feat (x k) (w k) t := by
  rw [hi, pay_conv, pay_den]
  unfold k0_pay1
  dsimp only
  rw [chosen]
  split
  · pointwise [mat_apply]
    simp only [eps_coe]
    rfl
  · pointwise [mat_apply]
    rfl

section Arrays

variable (m : (ℓ : Loc nD τ sig) → Buf (Elt Ideal) ℓ) (c : Dev nD)

/-- The arguments. -/
def argP : S2048x4096.Idx → EReal := m ((c : Thread nD τ).loc main_arg0)
def argW : S4x3072.Idx → EReal := m ((c : Thread nD τ).loc main_arg1)

theorem idx : ∀ t : Fin cfg0.N, win0_0.index t = ![0, t.val] ∧ win0_1.index t = ![0, t.val] ∧ win0_2.index t = ![0, t.val]
    ∧ (grid0.coords t 0).val = t.val / 8 :=
  (by decide +kernel : ∀ t : Fin grid0.N, _)

/-- The head a point works on, and which of the three parts it is of. -/
def head (t : Fin cfg0.N) : Fin 24 := ⟨t.val, Nat.lt_of_lt_of_eq t.isLt N_0⟩
def third (t : Fin cfg0.N) : Fin 3 := ⟨(head t).val / 8, by omega⟩

theorem third_lt (t : Fin cfg0.N) : ((third t).val < 2) = ((head t).val < 16) := propext (by show (head t).val / 8 < 2 ↔ _; omega)

theorem arr2 : (dats m 0 c).arrAt 2 cfg0.N = outOf (argP m c) (argW m c) := by
  refine (dats m 0 c).arrAt_eq_of_covers 2 _ (by decide +kernel) fun t hf y => ?_
  have b0 : iblk m c 0 t = mat fun k => pcol (argP m c) (cl (head t) k) := by
    funext y
    idx_vars y
    blk_ext [iblk, V_main_arg0, argP, mat, pcol, head, cl, idx t]
  have b1 : iblk m c 1 t = taps fun k => wcol (argW m c) (cl (head t) k) := by
    funext y
    idx_vars y
    blk_ext [iblk, V_main_arg1, argW, taps, wcol, head, cl, idx t]
  idx_vars y
  blk_simp
  rw [after0_2]
  unfold out0_2
  frame_out
  rw [b0, b1]
  refine (pay_out _ _ (third t) _ (idx t).2.2.2 y0 y1).trans ?_
  refine Eq.trans ?_ (congrArg (outOf _ _) (?_ : ix2 y0 (cl (head t) y1) = _))
  · simp only [outOf, ix2_0, ix2_1, hdo_cl, lno_cl, third_lt]
  · blk_ext [head, cl, idx t]

end Arrays

end Kernel

end Cert.Pref

end
-- ==== Proof.PrefRef.lean ====
/- The preparation as the reference computes it, at the extended reals, for any arguments. -/
module

public import proofs.«01_k».proof.Proof.PrefKernel
public import proofs.«01_k».proof.Proof.Gen.RPrefIdeal.Read

@[expose] public section

set_option maxRecDepth 16384

noncomputable section

namespace Cert.Pref.Ref

open Idealize.ShloMosaic Idealize.ShloMosaic.TcCoe Idealize.SL.Sem
open Cert.RPrefIdeal Cert.RPrefIdeal.Gen Cert.RPrefIdeal.Read Cert.Lift Cert.Pre

variable (P : S2048x4096.Idx → EReal) (W : S4x3072.Idx → EReal)

/-- A column read at an offset behind three rows of zeros is the column moved later. -/
theorem behind (f : Fin 2048 → EReal) (t : Fin 2048) (a n : ℕ) (hk : a + n = 3) (hb : ¬ a + t.val < 3 → a + t.val - 3 < 2048) :
    (if h : a + t.val < 3 then (0 : EReal) else f ⟨a + t.val - 3, hb h⟩) = later f n t := by
  unfold later
  by_cases h : n ≤ t.val
  · rw [dif_neg (by omega), dif_pos h]
    exact congrArg f (Fin.ext (by show a + t.val - 3 = t.val - n; omega))
  · rw [dif_pos (by omega), dif_neg h]

section Columns

variable (t : Fin 2048) (c : Fin 3072)

/-- The four slices of the padded projections. -/
theorem rd_s3 : val_main_v6 (F := Ideal) P (ix3 0 t c) = later (pcol P c) 3 t := by
  pointwise [val_main_v6, val_main_v3, val_main_v2, val_main_v1, val_main_v0, val_main_cst]
  have e := behind (pcol P c) t 0 3 rfl (by omega)
  simp only [Nat.zero_add] at e
  exact e

theorem rd_s2 : val_main_v14 (F := Ideal) P (ix3 0 t c) = later (pcol P c) 2 t := by
  pointwise [val_main_v14, val_main_v3, val_main_v2, val_main_v1, val_main_v0, val_main_cst]
  exact behind (pcol P c) t 1 2 rfl _

theorem rd_s1 : val_main_v21 (F := Ideal) P (ix3 0 t c) = later (pcol P c) 1 t := by
  pointwise [val_main_v21, val_main_v3, val_main_v2, val_main_v1, val_main_v0, val_main_cst]
  exact behind (pcol P c) t 2 1 rfl _

theorem rd_s0 : val_main_v28 (F := Ideal) P (ix3 0 t c) = pcol P c t := by
  pointwise [val_main_v28, val_main_v3, val_main_v2, val_main_v1, val_main_v0, val_main_cst]
  rfl

/-- The four taps' products, summed in the reference's order and in the kernel's. -/
theorem taps_sum (w0 w1 w2 w3 f0 f1 f2 f3 : EReal) :
    w0 * f3 + w1 * f2 + w2 * f1 + w3 * f0 = f0 * w3 + f3 * w0 + f2 * w1 + f1 * w2 := by
  ac_rfl

theorem rd_conv : val_main_v32 (F := Ideal) P W (ix3 0 t c) = conv (pcol P c) (wcol W c) t := by
  pointwise [val_main_v32, val_main_v31, val_main_v30, val_main_v29, val_main_v27, val_main_v26, val_main_v25, val_main_v24, val_main_v23,
    val_main_v22, val_main_v20, val_main_v19, val_main_v18, val_main_v17, val_main_v16, val_main_v15, val_main_v13, val_main_v12,
    val_main_v11, val_main_v10, val_main_v9, val_main_v8, val_main_v7, val_main_v5, val_main_v4, val_main_cst_0,
    rd_s3, rd_s2, rd_s1, rd_s0]
  exact taps_sum _ _ _ _ _ _ _ _

theorem rd_feat : val_main_v33 (F := Ideal) P W (ix3 0 t c) = feat (pcol P c) (wcol W c) t := by
  pointwise [val_main_v33, val_main_call0_v5, val_main_call0_v4, val_main_call0_v3, val_main_call0_v2, val_main_call0_v1, val_main_call0_v0,
    val_main_call0_cst, val_main_call0_cst_0, rd_conv]
  rfl

end Columns

section Heads

variable (t : Fin 2048) (h : Fin 8) (k : Fin 128)

/-- The heads of the first, of the second and of the last part. -/
def headQ : Fin 24 := ⟨h.val, by omega⟩
def headK : Fin 24 := ⟨8 + h.val, by omega⟩
def headV : Fin 24 := ⟨16 + h.val, by omega⟩

/-- A head's features, and the same over their norms. -/
abbrev plain (j : Fin 24) : EReal := feat (pcol P (cl j k)) (wcol W (cl j k)) t
abbrev normed (j : Fin 24) : EReal := unitFeat (fun l => pcol P (cl j l)) (fun l => wcol W (cl j l)) k t

theorem rd_q : val_main_v37 (F := Ideal) P W (ix4 0 t h k) = plain P W t k (headQ h) := by
  pointwise [val_main_v37, val_main_v34, rd_feat]
  rfl

theorem rd_k : val_main_v46 (F := Ideal) P W (ix4 0 t h k) = plain P W t k (headK h) := by
  pointwise [val_main_v46, val_main_v35, rd_feat]
  have e : (⟨1024 + (h.val * 128 + k.val), by omega⟩ : Fin 3072) = cl (headK h) k :=
    Fin.ext (by show 1024 + (h.val * 128 + k.val) = (8 + h.val) * 128 + k.val; omega)
  rw [e]

theorem rd_v : val_main_v55 (F := Ideal) P W (ix4 0 t h k) = plain P W t k (headV h) := by
  pointwise [val_main_v55, val_main_v36, rd_feat]
  have e : (⟨2048 + (h.val * 128 + k.val), by omega⟩ : Fin 3072) = cl (headV h) k :=
    Fin.ext (by show 2048 + (h.val * 128 + k.val) = (16 + h.val) * 128 + k.val; omega)
  rw [e]

theorem rd_qn : val_main_v45 (F := Ideal) P W (ix4 0 t h k) = normed P W t k (headQ h) := by
  pointwise [val_main_v45, val_main_v44, val_main_v43, val_main_v42, val_main_v41, val_main_v40, val_main_v39, val_main_v38, val_main_cst_1,
    val_main_cst_2, rd_q]
  simp only [eps_coe, zero_add]
  rfl

theorem rd_kn : val_main_v54 (F := Ideal) P W (ix4 0 t h k) = normed P W t k (headK h) := by
  pointwise [val_main_v54, val_main_v53, val_main_v52, val_main_v51, val_main_v50, val_main_v49, val_main_v48, val_main_v47, val_main_cst_3,
    val_main_cst_4, rd_k]
  simp only [eps_coe, zero_add]
  rfl

end Heads

section Result

variable (t : Fin 2048) (c : Fin 3072)

/-- The result at a column, by the part its head is of. -/
theorem of_unit (h : c.val / 128 < 16) : outOf P W (ix2 t c) = normed P W t (lno c) (hdo c) := if_pos h
theorem of_plain (h : ¬ c.val / 128 < 16) : outOf P W (ix2 t c) = feat (pcol P c) (wcol W c) t := if_neg h

theorem rd_out : val_main_v59 (F := Ideal) P W (ix2 t c) = outOf P W (ix2 t c) := by
  pointwise [val_main_v59, val_main_v58, val_main_v57, val_main_v56, rd_qn, rd_kn, rd_v]
  by_cases hq : c.val < 1024
  · rw [dif_pos hq]
    exact (of_unit P W t c (by omega)).symm
  · rw [dif_neg hq]
    by_cases hk : c.val - 1024 < 1024
    · rw [dif_pos hk]
      refine Eq.trans ?_ (of_unit P W t c (by omega)).symm
      exact congrArg₂ (fun k j => normed P W t k j)
        (Fin.ext (by show (c.val - 1024) % 128 = c.val % 128; omega))
        (Fin.ext (by show 8 + (c.val - 1024) / 128 = c.val / 128; omega))
    · rw [dif_neg hk]
      refine Eq.trans ?_ (of_plain P W t c (by omega)).symm
      refine (congrArg₂ (fun k j => plain P W t k j)
        (Fin.ext (by show (c.val - 1024 - 1024) % 128 = c.val % 128; omega) : _ = lno c)
        (Fin.ext (by show 16 + (c.val - 1024 - 1024) / 128 = c.val / 128; omega) : _ = hdo c)).trans ?_
      exact congrArg (fun q => feat (pcol P q) (wcol W q) t) (cl_hdo c)

end Result

end Cert.Pref.Ref

end
-- ==== Proof.PrefClaim.lean ====
/- The preparation's forward call computes the reference's features: the two programs' results agree. -/
module

public import proofs.«01_k».proof.Defs
public import proofs.«01_k».proof.Proof.PrefKernel
public import proofs.«01_k».proof.Proof.PrefRef
public import Idealize.ShloMosaic.Lib.Claim

@[expose] public section

set_option maxRecDepth 16384

noncomputable section

namespace Cert.Pref

open Idealize.ShloMosaic Idealize.ShloMosaic.TcCoe Idealize.SL.Sem Cert.Lift

theorem ref_frame : Cert.quiescent_RPrefIdeal := fun m g _ =>
  (θ_run _ _ _).mono (fun r h => ⟨fun c => (h c).2, sem_eq_zero_of_no_sems (by decide) r.2⟩) (Cert.RPrefIdeal.Value.run m g)

theorem algebraic : Cert.algebraic_KPrefIdeal_RPrefIdeal := by
  intro m g m' g' _ hagree
  refine ⟨fun c => outOf (Kernel.argP m c) (Kernel.argW m c), ?_, ?_⟩
  · refine (θ_run _ _ _).mono (fun r h c => ?_) (Cert.KPrefIdeal.Value.run_blocks m g)
    exact ⟨(h c).1.trans (Kernel.arr2 m c), (h c).2⟩
  · refine (θ_run _ _ _).mono (fun r h c => ?_) (Cert.RPrefIdeal.Value.run m' g')
    obtain ⟨e0, e1⟩ := hagree c
    refine ⟨(h c).1.trans ?_, (h c).2⟩
    rw [Cert.RPrefIdeal.Read.val_main_v59_eq, e0, e1]
    funext i
    idx_vars i
    exact Ref.rd_out (Kernel.argP m c) (Kernel.argW m c) i0 i1

end Cert.Pref

end
-- ==== Proof.XqdxKernel.lean ====
/- The query projection's backward kernel with the first layer norm's, at the extended reals: its four result arrays on real
   arguments. -/
module

public import proofs.«01_k».proof.Proof.LnSpec
public import proofs.«01_k».proof.Proof.Gen.KXqdxIdeal.Value
public import Idealize.ShloMosaic.Lib.Pipeline.ValueKit
public import Idealize.ShloMosaic.Lib.StableHlo.ReadAt

@[expose] public section

set_option maxRecDepth 16384

noncomputable section

namespace Cert.Xqdx

open Idealize.ShloMosaic Cert.Lift Cert.Ln

/-- A row of the cotangent through the weights, and with the residual's part. -/
def through (d : Fin 2048 → ℝ) (W : Fin 2048 → Fin 2048 → ℝ) (k : Fin 2048) : ℝ := ∑ l, d l * W k l
def both (d : Fin 2048 → ℝ) (W : Fin 2048 → Fin 2048 → ℝ) (r : Fin 2048 → ℝ) : Fin 2048 → ℝ := cot (through d W) r

namespace Kernel

open Idealize.ShloMosaic.TcCoe Idealize.SL.Sem
open Idealize.ShloMosaic.Pipeline (Dat)
open Cert.KXqdxIdeal Cert.KXqdxIdeal.Gen

section Payloads

/-- A block whose rows are given. -/
abbrev rows (x : Fin 256 → Fin 2048 → ℝ) : S256x2048.Idx → EReal := up (s := S256x2048) fun y => x (y 0) (y 1)
abbrev square (w : Fin 2048 → Fin 2048 → ℝ) : S2048x2048.Idx → EReal := up (s := S2048x2048) fun y => w (y 0) (y 1)
abbrev column (s : Fin 256 → ℝ) : S256x1.Idx → EReal := up (s := S256x1) fun y => s (y 0)
abbrev line (g : Fin 2048 → ℝ) : S1x2048.Idx → EReal := up (s := S1x2048) fun y => g (y 1)

variable (d r x : Fin 256 → Fin 2048 → ℝ) (w : Fin 2048 → Fin 2048 → ℝ) (s : Fin 256 → ℝ) (g : Fin 2048 → ℝ)

theorem pay_y (a : Fin 256) (b : Fin 2048) :
    k0_pay4 (F := Ideal) (rows d) (square w) (rows r) (ix2 a b) = ((both (d a) w (r a) b : ℝ) : EReal) := by
  pointwise [k0_pay4, up_apply]
  simp only [alpha_coe, ← EReal.coe_mul, coe_sum, ← EReal.coe_add]; rfl

theorem pay_x (a : Fin 256) (b : Fin 2048) : k0_pay5 (F := Ideal) (rows x) (ix2 a b) = ((x a b : ℝ) : EReal) := by
  pointwise [k0_pay5, up_apply]

theorem pay_du (a : Fin 256) (b : Fin 2048) :
    k0_pay6 (F := Ideal) (rows d) (square w) (rows r) (rows x) (column s) (line g) (ix2 a b)
      = ((du (both (d a) w (r a)) g (x a) (s a) b : ℝ) : EReal) := by
  pointwise [k0_pay6, pay_y, pay_x, up_apply]
  simp only [lit_2048, ← EReal.coe_mul, coe_sum, div_coe _ h2048, ← EReal.coe_sub]
  rfl

theorem pay_dg (b : Fin 2048) :
    k0_pay7 (F := Ideal) (rows d) (square w) (rows r) (rows x) (ix2 0 b) = ((∑ a, both (d a) w (r a) b * x a b : ℝ) : EReal) := by
  pointwise [k0_pay7, pay_y, pay_x]
  simp only [← EReal.coe_mul, coe_sum]

theorem pay_db (b : Fin 2048) :
    k0_pay8 (F := Ideal) (rows d) (square w) (rows r) (ix2 0 b) = ((∑ a, both (d a) w (r a) b : ℝ) : EReal) := by
  pointwise [k0_pay8, pay_y]
  simp only [coe_sum]

end Payloads

section Arrays

variable (m : (ℓ : Loc nD τ sig) → Buf (Elt Ideal) ℓ) (c : Dev nD)

/-- The arguments, as extended reals. -/
def argU : S2048x2048.Idx → EReal := m ((c : Thread nD τ).loc main_arg0)
def argG : S1x2048.Idx → EReal := m ((c : Thread nD τ).loc main_arg1)
def argD : S2048x2048.Idx → EReal := m ((c : Thread nD τ).loc main_arg2)
def argW : S2048x2048.Idx → EReal := m ((c : Thread nD τ).loc main_arg3)
def argR : S2048x2048.Idx → EReal := m ((c : Thread nD τ).loc main_arg4)

/-- Every argument is of reals. -/
structure Fin5 : Prop where
  u : IsReal (argU m c)
  g : IsReal (argG m c)
  d : IsReal (argD m c)
  w : IsReal (argW m c)
  r : IsReal (argR m c)

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![t.val, 0]
    ∧ win0_7.index t = ![t.val, 0] ∧ win0_8.index t = ![0, 0] ∧ win0_9.index t = ![0, 0] :=
  (by decide +kernel : ∀ t : Fin grid0.N, _)

theorem lt8 (t : Fin cfg0.N) : t.val < 8 := Nat.lt_of_lt_of_eq t.isLt N_0

/-- The row of the array that row `a` of point `t`'s blocks is. -/
def at_ (t : Fin cfg0.N) (a : Fin 256) : Fin 2048 := ⟨t.val * 256 + a.val, by have := lt8 t; omega⟩

variable {m c}

/-- The host's lines before the kernel: the saved scale and the saved normalised rows. -/
theorem saved_scale (h : Fin5 m c) (r : Fin 2048) :
    (V m c main_v13 : S2048x1.Idx → EReal) (ix2 r 0) = ((rs (row (re (argU m c)) r) : ℝ) : EReal) := by
  have e : ∀ i : S2048x2048.Idx, (m (c, Proc.tc.devRef main_arg0) : S2048x2048.Idx → EReal) i = ((re (argU m c) i : ℝ) : EReal) := h.u.eq
  unfold V
  after_reads_at
  simp only [e, lit_2048, Ln.eps_coe, coe_sum, ← EReal.coe_mul, ← EReal.coe_sub, ← EReal.coe_add, div_coe _ h2048]
  exact rsqrt_coe (va_pos (row (re (argU m c)) r))

theorem saved_rows (h : Fin5 m c) (r k : Fin 2048) :
    (V m c main_v15 : S2048x2048.Idx → EReal) (ix2 r k) = ((xh (row (re (argU m c)) r) k : ℝ) : EReal) := by
  have e : ∀ i : S2048x2048.Idx, (m (c, Proc.tc.devRef main_arg0) : S2048x2048.Idx → EReal) i = ((re (argU m c) i : ℝ) : EReal) := h.u.eq
  unfold V
  after_reads_at
  simp only [e, lit_2048, Ln.eps_coe, coe_sum, ← EReal.coe_mul, ← EReal.coe_sub, ← EReal.coe_add, div_coe _ h2048]
  refine (congrArg _ (rsqrt_coe (va_pos (row (re (argU m c)) r)))).trans ?_
  rw [← EReal.coe_mul]; rfl

section Blocks

variable (h : Fin5 m c) (t : Fin cfg0.N)

include h

theorem blk0 : iblk m c 0 t = rows fun a => row (re (argD m c)) (at_ t a) := by
  funext y
  idx_vars y
  simp only [up_apply, row, ← h.d.eq]
  blk_ext [iblk, V_main_arg2, argD, at_, idx t]

theorem blk1 : iblk m c 1 t = square (row (re (argW m c))) := by
  funext y
  idx_vars y
  simp only [up_apply, row, ← h.w.eq]
  blk_ext [iblk, V_main_arg3, argW, idx t]

theorem blk2 : iblk m c 2 t = rows fun a => row (re (argR m c)) (at_ t a) := by
  funext y
  idx_vars y
  simp only [up_apply, row, ← h.r.eq]
  blk_ext [iblk, V_main_arg4, argR, at_, idx t]

theorem blk3 : iblk m c 3 t = rows fun a => xh (row (re (argU m c)) (at_ t a)) := by
  funext y
  idx_vars y
  simp only [up_apply, ix2_0, ix2_1, ← saved_rows h]
  blk_ext [iblk, at_, idx t]

theorem blk4 : iblk m c 4 t = column fun a => rs (row (re (argU m c)) (at_ t a)) := by
  funext y
  idx_vars y
  obtain rfl : y1 = 0 := Subsingleton.elim _ _
  simp only [up_apply, ix2_0, ← saved_scale h]
  blk_ext [iblk, at_, idx t]

theorem blk5 : iblk m c 5 t = line (vec (re (argG m c))) := by
  funext y
  idx_vars y
  simp only [up_apply, vec, ← h.g.eq]
  blk_ext [iblk, V_main_arg1, argG, idx t]

end Blocks

/-- What the result arrays hold, as arrays of reals. -/
def dy (m : (ℓ : Loc nD τ sig) → Buf (Elt Ideal) ℓ) (c : Dev nD) (r : Fin 2048) : Fin 2048 → ℝ :=
  both (row (re (argD m c)) r) (row (re (argW m c))) (row (re (argR m c)) r)
def outU (m : (ℓ : Loc nD τ sig) → Buf (Elt Ideal) ℓ) (c : Dev nD) : S2048x2048.Idx → EReal := fun i =>
  ((gradU (row (re (argU m c)) (i 0)) (vec (re (argG m c))) (dy m c (i 0)) (i 1) : ℝ) : EReal)
def outG (m : (ℓ : Loc nD τ sig) → Buf (Elt Ideal) ℓ) (c : Dev nD) : S1x2048.Idx → EReal := fun i =>
  ((∑ r : Fin 2048, dy m c r (i 1) * xh (row (re (argU m c)) r) (i 1) : ℝ) : EReal)
def outB (m : (ℓ : Loc nD τ sig) → Buf (Elt Ideal) ℓ) (c : Dev nD) : S1x2048.Idx → EReal := fun i =>
  ((∑ r : Fin 2048, dy m c r (i 1) : ℝ) : EReal)

/-- A point is the first or a later one. -/
theorem first_or (t : Fin cfg0.N) : (t.val % 8 = 0 ∧ ¬ 1 ≤ t.val) ∨ (¬ t.val % 8 = 0 ∧ 1 ≤ t.val) := by
  have := lt8 t; omega

theorem pay_du_blk (h : Fin5 m c) (t : Fin cfg0.N) (a : Fin 256) (b : Fin 2048) :
    k0_pay6 (F := Ideal) (iblk m c 0 t) (iblk m c 1 t) (iblk m c 2 t) (iblk m c 3 t) (iblk m c 4 t) (iblk m c 5 t) (ix2 a b)
      = outU m c (ix2 (at_ t a) b) := by
  rw [blk0 h, blk1 h, blk2 h, blk3 h, blk4 h, blk5 h, pay_du]; rfl

theorem left6 (h : Fin5 m c) (t : Fin cfg0.N) (a : Fin 256) (b : Fin 2048) :
    ((outsAt0 m c t.val t.isLt).1 : S256x2048.Idx → EReal) (ix2 a b) = outU m c (ix2 (at_ t a) b) := by
  rcases first_or t with ⟨h0, h1⟩ | ⟨h0, h1⟩
  · rw [outsAt0_A m c t h0 h1]; frame_out; exact pay_du_blk h t a b
  · rw [outsAt0_B m c t h0 h1]; frame_out; exact pay_du_blk h t a b

theorem left7 (h : Fin5 m c) (t : Fin cfg0.N) (a : Fin 256) (b : Fin 2048) :
    ((outsAt0 m c t.val t.isLt).2.1 : S256x2048.Idx → EReal) (ix2 a b) = outU m c (ix2 (at_ t a) b) := by
  rcases first_or t with ⟨h0, h1⟩ | ⟨h0, h1⟩
  · rw [outsAt0_A m c t h0 h1]; frame_out; exact pay_du_blk h t a b
  · rw [outsAt0_B m c t h0 h1]; frame_out; exact pay_du_blk h t a b

theorem arr6 (h : Fin5 m c) : (dats m 0 c).arrAt 6 cfg0.N = outU m c := by
  refine (dats m 0 c).arrAt_eq_of_covers 6 _ (by decide +kernel) fun t hf y => ?_
  idx_vars y
  blk_simp
  rw [after0_6, left6 h]
  blk_ext [at_, idx t]

theorem arr7 (h : Fin5 m c) : (dats m 0 c).arrAt 7 cfg0.N = outU m c := by
  refine (dats m 0 c).arrAt_eq_of_covers 7 _ (by decide +kernel) fun t hf y => ?_
  idx_vars y
  blk_simp
  rw [after0_7, left7 h]
  blk_ext [at_, idx t]

/-- The part of a vector's gradient that point `t` adds, from each row's part. -/
def part (f : Fin 2048 → Fin 2048 → ℝ) (t : Fin cfg0.N) (j : S1x2048.Idx) : EReal := ((∑ a, f (at_ t a) (j 1) : ℝ) : EReal)

/-- Each row's part of the two vectors' gradients. -/
def rowG (m : (ℓ : Loc nD τ sig) → Buf (Elt Ideal) ℓ) (c : Dev nD) (r k : Fin 2048) : ℝ := dy m c r k * xh (row (re (argU m c)) r) k

theorem sum_part (f : Fin 2048 → Fin 2048 → ℝ) (j : S1x2048.Idx) : (∑ t, part f t j) = ((∑ r, f r (j 1) : ℝ) : EReal) := by
  unfold part
  rw [coe_sum]
  exact congrArg _ (Fin.sum_mul_add_fin 8 256 fun r => f r (j 1))

theorem pay_dg_blk (h : Fin5 m c) (t : Fin cfg0.N) (j : S1x2048.Idx) :
    k0_pay7 (F := Ideal) (iblk m c 0 t) (iblk m c 1 t) (iblk m c 2 t) (iblk m c 3 t) j = part (rowG m c) t j := by
  rw [blk0 h, blk1 h, blk2 h, blk3 h]
  idx_vars j
  obtain rfl : j0 = 0 := Subsingleton.elim _ _
  rw [pay_dg]
  rfl

theorem pay_db_blk (h : Fin5 m c) (t : Fin cfg0.N) (j : S1x2048.Idx) :
    k0_pay8 (F := Ideal) (iblk m c 0 t) (iblk m c 1 t) (iblk m c 2 t) j = part (dy m c) t j := by
  rw [blk0 h, blk1 h, blk2 h]
  idx_vars j
  obtain rfl : j0 = 0 := Subsingleton.elim _ _
  rw [pay_db]
  rfl

/-- An array cleared at the first point and added to at every later one holds the sum of the parts. -/
theorem sum_up (f : (n : ℕ) → n < cfg0.N → (S1x2048.Idx → EReal)) (p : Fin cfg0.N → S1x2048.Idx → EReal)
    (hA : ∀ t : Fin cfg0.N, t.val % 8 = 0 → ¬ 1 ≤ t.val → ∀ j, f t.val t.isLt j = p t j)
    (hB : ∀ t : Fin cfg0.N, ¬ t.val % 8 = 0 → 1 ≤ t.val → ∀ j, f t.val t.isLt j = f (t.val - 1) (by omega) j + p t j)
    (j : S1x2048.Idx) : f t0_7.val t0_7.isLt j = ∑ t, p t j := by
  rw [Pipeline.eq_sum_fin_of_reset_step_apply_last f 8 (fun _ => 0) p
    (fun t h0 j => by rw [hA t h0 (by have := lt8 t; omega)]; exact (zero_add _).symm)
    (fun t h0 j => hB t h0 (by omega) j)
    (le_of_eq N_0) t0_7 rfl j, zero_add]

theorem arr8 (h : Fin5 m c) : (dats m 0 c).arrAt 8 cfg0.N = outG m c := by
  refine (dats m 0 c).arrAt_eq_of_after_last 8 t0_7 (by decide +kernel) _ fun j => ?_
  blk_simp
  rw [after0_8]
  refine (sum_up (fun n hn => (outsAt0 m c n hn).2.2.1) (part (rowG m c)) (fun t h0 h1 j => ?_) (fun t h0 h1 j => ?_) j).trans (sum_part _ j)
  · rw [outsAt0_A m c t h0 h1]; frame_out; exact pay_dg_blk h t j
  · rw [outsAt0_B m c t h0 h1]; frame_out
    refine Eq.trans ?_ (congrArg _ (pay_dg_blk h t j))
    pointwise [k0_pay2]

theorem arr9 (h : Fin5 m c) : (dats m 0 c).arrAt 9 cfg0.N = outB m c := by
  refine (dats m 0 c).arrAt_eq_of_after_last 9 t0_7 (by decide +kernel) _ fun j => ?_
  blk_simp
  rw [after0_9]
  refine (sum_up (fun n hn => (outsAt0 m c n hn).2.2.2) (part (dy m c)) (fun t h0 h1 j => ?_) (fun t h0 h1 j => ?_) j).trans (sum_part _ j)
  · rw [outsAt0_A m c t h0 h1]; frame_out; exact pay_db_blk h t j
  · rw [outsAt0_B m c t h0 h1]; frame_out
    refine Eq.trans ?_ (congrArg _ (pay_db_blk h t j))
    pointwise [k0_pay3]

end Arrays

end Kernel

end Cert.Xqdx

end
-- ==== Proof.XqdxRef.lean ====
/- The query projection's and the first layer norm's gradient as the reference differentiates it, at the extended reals, on real
   arguments. -/
module

public import proofs.«01_k».proof.Proof.XqdxKernel
public import proofs.«01_k».proof.Proof.Gen.RXqdxIdeal.Read

@[expose] public section

set_option maxRecDepth 16384

noncomputable section

namespace Cert.Xqdx.Ref

open Idealize.ShloMosaic Idealize.ShloMosaic.TcCoe Idealize.SL.Sem
open Cert.RXqdxIdeal Cert.RXqdxIdeal.Gen Cert.RXqdxIdeal.Read Cert.Lift Cert.Ln

variable (U : S2048x2048.Idx → ℝ) (G : S1x2048.Idx → ℝ) (D W R : S2048x2048.Idx → ℝ)

/-- The cotangent of a row of the norm. -/
abbrev dyr (r : Fin 2048) : Fin 2048 → ℝ := both (row D r) (row W) (row R r)

theorem rd_y (r k : Fin 2048) : val_main_v35 (F := Ideal) (up D) (up W) (up R) (ix2 r k) = ((dyr D W R r k : ℝ) : EReal) := by
  pointwise [val_main_v35, val_main_v34, val_main_v33, val_main_v32, val_main_v31, val_main_v27, val_main_cst_7, up_apply]
  simp only [alpha_coe, ← EReal.coe_mul, coe_sum, ← EReal.coe_add]
  exact congrArg _ (add_comm _ _)

theorem rd_xc (r k : Fin 2048) : val_main_v7 (F := Ideal) (up U) (ix2 r k) = ((xc (row U r) k : ℝ) : EReal) := by
  pointwise [val_main_v7, val_main_v6, val_main_v5, val_main_v4, val_main_v3, val_main_v2, val_main_cst_0, val_main_cst_1, up_apply]
  simp only [lit_2048, zero_coe, coe_sum, ← EReal.coe_add, div_coe _ h2048, ← EReal.coe_sub, zero_add]; rfl

theorem rd_va (r : Fin 2048) (j : Fin 1) : val_main_v14 (F := Ideal) (up U) (ix2 r j) = ((va (row U r) : ℝ) : EReal) := by
  pointwise [val_main_v14, val_main_v13, val_main_v12, val_main_v11, val_main_v10, val_main_v9, val_main_v8, val_main_cst_2, val_main_cst_3,
    val_main_cst_4, rd_xc]
  simp only [lit_2048, Ln.eps_coe, zero_coe, ← EReal.coe_mul, coe_sum, ← EReal.coe_add, div_coe _ h2048, zero_add]; rfl

theorem rd_rs (r : Fin 2048) (j : Fin 1) : val_main_v15 (F := Ideal) (up U) (ix2 r j) = ((rs (row U r) : ℝ) : EReal) := by
  pointwise [val_main_v15, rd_va]
  exact rsqrt_coe (va_pos _)

theorem rd_dh (r k : Fin 2048) :
    val_main_v43 (F := Ideal) (up G) (up D) (up W) (up R) (ix2 r k) = ((dyr D W R r k * vec G k : ℝ) : EReal) := by
  pointwise [val_main_v43, val_main_v42, val_main_v21, val_main_v0, rd_y, up_apply]
  rw [EReal.coe_mul]; rfl

theorem rd_half (r : Fin 2048) :
    val_main_v53 (F := Ideal) (up U) (up G) (up D) (up W) (up R) (ix1 r) = ((half (row U r) (vec G) (dyr D W R r) : ℝ) : EReal) := by
  pointwise [val_main_v53, val_main_v52, val_main_v51, val_main_v50, val_main_v47, val_main_v46, val_main_v45, val_main_v18, val_main_v17, val_main_v16,
    val_main_cst_5, val_main_cst_12, val_main_cst_13, val_main_cst_14, rd_xc, rd_dh, rd_rs, rd_va]
  simp only [Fin.sum_univ_one, lit_2048, lit_neg_half, zero_coe, ← EReal.coe_mul, coe_sum, ← EReal.coe_add, div_coe _ h2048, div_coe _ (va_pos _).ne', zero_add]
  rfl

theorem rd_dxc (r k : Fin 2048) :
    val_main_v58 (F := Ideal) (up U) (up G) (up D) (up W) (up R) (ix2 r k) = ((dxc (row U r) (vec G) (dyr D W R r) k : ℝ) : EReal) := by
  pointwise [val_main_v58, val_main_v57, val_main_v56, val_main_v55, val_main_v54, val_main_v49, val_main_v48, rd_xc, rd_dh, rd_rs, rd_half]
  simp only [← EReal.coe_mul, ← EReal.coe_add]
  rfl

theorem rd_du (r k : Fin 2048) :
    val_main_v66 (F := Ideal) (up U) (up G) (up D) (up W) (up R) (ix2 r k) = ((gradU (row U r) (vec G) (dyr D W R r) k : ℝ) : EReal) := by
  rw [gradU_eq]
  pointwise [val_main_v66, val_main_v65, val_main_v64, val_main_v63, val_main_v62, val_main_v61, val_main_v60, val_main_v59, val_main_cst_15,
    val_main_cst_16, val_main_cst_17, rd_dxc]
  simp only [Fin.sum_univ_one, lit_2048, zero_coe, ← EReal.coe_neg, coe_sum, ← EReal.coe_add, div_coe _ h2048, zero_add]

theorem rd_du16 (r k : Fin 2048) :
    val_main_v67 (F := Ideal) (up U) (up G) (up D) (up W) (up R) (ix2 r k) = ((gradU (row U r) (vec G) (dyr D W R r) k : ℝ) : EReal) :=
  rd_du U G D W R r k

theorem rd_dg (k : Fin 2048) :
    val_main_v68 (F := Ideal) (up U) (up D) (up W) (up R) (ix2 0 k) = ((∑ r, dyr D W R r k * xh (row U r) k : ℝ) : EReal) := by
  pointwise [val_main_v68, val_main_v44, val_main_v41, val_main_v40, val_main_v39, val_main_v20, val_main_v19, val_main_cst_10, val_main_cst_11,
    rd_y, rd_xc, rd_rs]
  simp only [Fin.sum_univ_one, zero_coe, ← EReal.coe_mul, coe_sum, ← EReal.coe_add, zero_add]
  exact congrArg _ (Finset.sum_congr rfl fun r _ => mul_comm _ _)

theorem rd_db (k : Fin 2048) :
    val_main_v69 (F := Ideal) (up D) (up W) (up R) (ix2 0 k) = ((∑ r, dyr D W R r k : ℝ) : EReal) := by
  pointwise [val_main_v69, val_main_v38, val_main_v37, val_main_v36, val_main_cst_8, val_main_cst_9, rd_y]
  simp only [Fin.sum_univ_one, zero_coe, coe_sum, ← EReal.coe_add, zero_add]

end Cert.Xqdx.Ref

end
-- ==== Proof.XqdxClaim.lean ====
/- The query projection's backward call computes the gradient through the first layer norm: the two programs' results agree. -/
module

public import proofs.«01_k».proof.Defs
public import proofs.«01_k».proof.Proof.XqdxKernel
public import proofs.«01_k».proof.Proof.XqdxRef
public import Idealize.ShloMosaic.Lib.Claim

@[expose] public section

set_option maxRecDepth 16384

noncomputable section

namespace Cert.Xqdx

open Idealize.ShloMosaic Idealize.ShloMosaic.TcCoe Idealize.SL.Sem Cert.Lift Cert.Ln

theorem facts : Cert.Pre_finite_xqdx.Facts := ⟨by decide, by decide⟩

/-- The reference's run: its arguments unchanged, and no counter to return. -/
theorem ref_frame : Cert.quiescent_RXqdxIdeal := fun m g _ =>
  (θ_run _ _ _).mono (fun r h => ⟨fun c => (h c).2.2.2.2, sem_eq_zero_of_no_sems (by decide) r.2⟩) (Cert.RXqdxIdeal.Value.run m g)

/-- The precondition, read at the extended reals: every argument is of reals. -/
theorem fin5 [Cert.Pre_finite_xqdx.Facts] {m : (ℓ : Loc Cert.KXqdxIdeal.nD Cert.KXqdxIdeal.τ Cert.KXqdxIdeal.sig) → Buf (Elt Ideal) ℓ}
    (h : Pre_KXqdxIdeal_finite_xqdx m) (c : Dev Cert.KXqdxIdeal.nD) : Kernel.Fin5 m c :=
  ⟨isReal_of_cmp _ _ (fun _ => lit_top) (h c).1, isReal_of_cmp _ _ (fun _ => lit_top) (h c).2.1,
    isReal_of_cmp _ _ (fun _ => lit_top16) (h c).2.2.1, isReal_of_cmp _ _ (fun _ => lit_top16) (h c).2.2.2.1,
    isReal_of_cmp _ _ (fun _ => lit_top) (h c).2.2.2.2⟩

section
open Cert.KXqdxIdeal Cert.RXqdxIdeal.Read
variable {m : (ℓ : Loc nD τ sig) → Buf (Elt Ideal) ℓ} {c : Dev nD} (f : Kernel.Fin5 m c)
include f

theorem ref_du : val_main_v66 (F := Ideal) (Kernel.argU m c) (Kernel.argG m c) (Kernel.argD m c) (Kernel.argW m c) (Kernel.argR m c)
    = Kernel.outU m c := by
  rw [f.u.up_re, f.g.up_re, f.d.up_re, f.w.up_re, f.r.up_re]
  funext i
  idx_vars i
  exact Ref.rd_du _ _ _ _ _ i0 i1

theorem ref_dg : val_main_v68 (F := Ideal) (Kernel.argU m c) (Kernel.argD m c) (Kernel.argW m c) (Kernel.argR m c)
    = Kernel.outG m c := by
  rw [f.u.up_re, f.d.up_re, f.w.up_re, f.r.up_re]
  funext i
  idx_vars i
  obtain rfl : i0 = 0 := Subsingleton.elim _ _
  exact Ref.rd_dg _ _ _ _ i1

theorem ref_db : val_main_v69 (F := Ideal) (Kernel.argD m c) (Kernel.argW m c) (Kernel.argR m c) = Kernel.outB m c := by
  rw [f.d.up_re, f.w.up_re, f.r.up_re]
  funext i
  idx_vars i
  obtain rfl : i0 = 0 := Subsingleton.elim _ _
  exact Ref.rd_db _ _ _ i1

end

theorem algebraic [Cert.Pre_finite_xqdx.Facts] : Cert.algebraic_KXqdxIdeal_RXqdxIdeal_pre_finite_xqdx := by
  intro m g m' g' hpre hagree
  refine ⟨fun c => Kernel.outU m c, fun c => Kernel.outU m c, fun c => Kernel.outG m c, fun c => Kernel.outB m c, ?_, ?_⟩
  · refine (θ_run _ _ _).mono (fun r h c => ?_) (Cert.KXqdxIdeal.Value.run_blocks m g)
    obtain ⟨h6, h7, h8, h9, ha⟩ := h c
    have f := fin5 hpre c
    exact ⟨h6.trans (Kernel.arr6 f), h7.trans (Kernel.arr7 f), h8.trans (Kernel.arr8 f), h9.trans (Kernel.arr9 f), ha⟩
  · refine (θ_run _ _ _).mono (fun r h c => ?_) (Cert.RXqdxIdeal.Value.run m' g')
    obtain ⟨h1, h2, h3, h4, ha⟩ := h c
    have f := fin5 hpre c
    obtain ⟨e0, e1, e2, e3, e4⟩ := hagree c
    refine ⟨h1.trans ?_, h2.trans ?_, h3.trans ?_, h4.trans ?_, ha⟩
    · rw [Cert.RXqdxIdeal.Read.val_main_v66_eq, e0, e1, e2, e3, e4]
      exact ref_du f
    · rw [Cert.RXqdxIdeal.Read.val_main_v67_eq, e0, e1, e2, e3, e4]
      exact ref_du f
    · refine (Cert.RXqdxIdeal.Read.val_main_v68_eq _ _ _ _).symm.trans ?_
      rw [e0, e2, e3, e4]
      exact ref_dg f
    · refine (Cert.RXqdxIdeal.Read.val_main_v69_eq _ _ _).symm.trans ?_
      rw [e2, e3, e4]
      exact ref_db f

end Cert.Xqdx

end
-- ==== Proof.MlpdxKernel.lean ====
/- The down projection's backward kernel with the squared relu's gradient, at the extended reals: its result array. -/
module

public import proofs.«01_k».proof.Proof.LnSpec
public import proofs.«01_k».proof.Proof.Gen.KMlpdxIdeal.Value
public import Idealize.ShloMosaic.Lib.Pipeline.ValueKit
public import Idealize.ShloMosaic.Lib.StableHlo.ReadAt

@[expose] public section

set_option maxRecDepth 16384

noncomputable section

namespace Cert.Mlpdx

open Idealize.ShloMosaic Cert.Lift Cert.Ln

/-- The cotangent through the weights, times the gradient of the squared positive part. -/
def outOf (U : (⟨2, ![2048, 8192]⟩ : Shape).Idx → EReal) (W : (⟨2, ![8192, 2048]⟩ : Shape).Idx → EReal)
    (D : (⟨2, ![2048, 2048]⟩ : Shape).Idx → EReal) : (⟨2, ![2048, 8192]⟩ : Shape).Idx → EReal := fun i =>
  (∑ k : Fin 2048, D (ix2 (i 0) k) * W (ix2 (i 1) k)) * (((2 : ℝ) : EReal) * max (U i) 0)

namespace Kernel

open Idealize.ShloMosaic.TcCoe Idealize.SL.Sem
open Idealize.ShloMosaic.Pipeline (Dat)
open Cert.KMlpdxIdeal Cert.KMlpdxIdeal.Gen

theorem pay_out (d w : S1024x2048.Idx → EReal) (s : S1024x1024.Idx → EReal) (a b : Fin 1024) :
    k0_pay1 (F := Ideal) d w s (ix2 a b) = (∑ k, d (ix2 a k) * w (ix2 b k)) * s (ix2 a b) := by
  pointwise [k0_pay1]

section Arrays

variable (m : (ℓ : Loc nD τ sig) → Buf (Elt Ideal) ℓ) (c : Dev nD)

/-- The arguments. -/
def argU : S2048x8192.Idx → EReal := m ((c : Thread nD τ).loc main_arg0)
def argW : S8192x2048.Idx → EReal := m ((c : Thread nD τ).loc main_arg1)
def argD : S2048x2048.Idx → EReal := m ((c : Thread nD τ).loc main_arg2)

theorem idx : ∀ t : Fin cfg0.N, win0_0.index t = ![t.val / 8, 0] ∧ win0_1.index t = ![t.val % 8, 0] ∧ win0_2.index t = ![t.val / 8, t.val % 8]
    ∧ win0_3.index t = ![t.val / 8, t.val % 8] :=
  (by decide +kernel : ∀ t : Fin grid0.N, _)

theorem lt16 (t : Fin cfg0.N) : t.val < 16 := Nat.lt_of_lt_of_eq t.isLt N_0

/-- The row and the column of the array that a point's block starts at. -/
def rowOf (t : Fin cfg0.N) (a : Fin 1024) : Fin 2048 := ⟨t.val / 8 * 1024 + a.val, by have := lt16 t; omega⟩
def colOf (t : Fin cfg0.N) (b : Fin 1024) : Fin 8192 := ⟨t.val % 8 * 1024 + b.val, by omega⟩

/-- The host's lines before the kernel: the gradient of the squared positive part. -/
theorem host_act (r : Fin 2048) (j : Fin 8192) :
    (V m c main_v3 : S2048x8192.Idx → EReal) (ix2 r j) = ((2 : ℝ) : EReal) * max (argU m c (ix2 r j)) 0 := by
  unfold V
  after_reads_at
  simp only [lit_two]
  rfl

theorem arr3 : (dats m 0 c).arrAt 3 cfg0.N = outOf (argU m c) (argW m c) (argD m c) := by
  refine (dats m 0 c).arrAt_eq_of_covers 3 _ (by decide +kernel) fun t hf y => ?_
  have b0 : iblk m c 0 t = (fun y => argD m c (ix2 (rowOf t (y 0)) (y 1)) : S1024x2048.Idx → EReal) := by
    funext y
    idx_vars y
    blk_ext [iblk, V_main_arg2, argD, rowOf, idx t]
  have b1 : iblk m c 1 t = (fun y => argW m c (ix2 (colOf t (y 0)) (y 1)) : S1024x2048.Idx → EReal) := by
    funext y
    idx_vars y
    blk_ext [iblk, V_main_arg1, argW, colOf, idx t]
  have b2 : iblk m c 2 t = (fun y => ((2 : ℝ) : EReal) * max (argU m c (ix2 (rowOf t (y 0)) (colOf t (y 1)))) 0 : S1024x1024.Idx → EReal) := by
    funext y
    idx_vars y
    simp only [ix2_0, ix2_1, ← host_act m c]
    blk_ext [iblk, rowOf, colOf, idx t]
  idx_vars y
  blk_simp
  rw [after0_3]
  unfold out0_3
  frame_out
  rw [b0, b1, b2]
  refine (pay_out _ _ _ y0 y1).trans ?_
  refine Eq.trans ?_ (congrArg (outOf _ _ _) (?_ : ix2 (rowOf t y0) (colOf t y1) = _))
  · rfl
  · blk_ext [rowOf, colOf, idx t]

end Arrays

end Kernel

end Cert.Mlpdx

end
-- ==== Proof.MlpdxRef.lean ====
/- The squared relu's product, differentiated as the reference does, at the extended reals. -/
module

public import proofs.«01_k».proof.Proof.MlpdxKernel
public import proofs.«01_k».proof.Proof.Gen.RMlpdxIdeal.Read

@[expose] public section

set_option maxRecDepth 16384

noncomputable section

namespace Cert.Mlpdx.Ref

open Idealize.ShloMosaic Idealize.ShloMosaic.TcCoe Idealize.SL.Sem
open Cert.RMlpdxIdeal Cert.RMlpdxIdeal.Gen Cert.RMlpdxIdeal.Read Cert.Lift Cert.Ln

variable (U : S2048x8192.Idx → EReal) (W : S8192x2048.Idx → EReal) (D : S2048x2048.Idx → EReal)

theorem rd_dot (r : Fin 2048) (j : Fin 8192) :
    val_main_v10 (F := Ideal) W D (ix2 r j) = ∑ k, D (ix2 r k) * W (ix2 j k) := by
  pointwise [val_main_v10, val_main_v9, val_main_v7]

theorem rd_act (r : Fin 2048) (j : Fin 8192) :
    val_main_v6 (F := Ideal) U (ix2 r j) = ((2 : ℝ) : EReal) * max (U (ix2 r j)) 0 := by
  pointwise [val_main_v6, val_main_v5, val_main_cst_1, val_main_v0, val_main_call0_v0, val_main_call0_cst]
  simp only [lit_two]

theorem rd_out (r : Fin 2048) (j : Fin 8192) :
    val_main_v14 (F := Ideal) U W D (ix2 r j) = outOf U W D (ix2 r j) := by
  pointwise [val_main_v14, val_main_v13, val_main_v12, val_main_v11, val_main_v2, val_main_v1, val_main_cst, val_main_cst_2, rd_dot, rd_act]
  by_cases h : 0 < U (ix2 r j)
  · simp [outOf, h]
  · simp [outOf, h, max_eq_right (not_lt.mp h)]

end Cert.Mlpdx.Ref

end
-- ==== Proof.MlpdxClaim.lean ====
/- The down projection's backward call computes the reference's gradient: the two programs' results agree. -/
module

public import proofs.«01_k».proof.Defs
public import proofs.«01_k».proof.Proof.MlpdxKernel
public import proofs.«01_k».proof.Proof.MlpdxRef
public import Idealize.ShloMosaic.Lib.Claim

@[expose] public section

set_option maxRecDepth 16384

noncomputable section

namespace Cert.Mlpdx

open Idealize.ShloMosaic Idealize.ShloMosaic.TcCoe Idealize.SL.Sem Cert.Lift

theorem ref_frame : Cert.quiescent_RMlpdxIdeal := fun m g _ =>
  (θ_run _ _ _).mono (fun r h => ⟨fun c => (h c).2, sem_eq_zero_of_no_sems (by decide) r.2⟩) (Cert.RMlpdxIdeal.Value.run m g)

theorem algebraic : Cert.algebraic_KMlpdxIdeal_RMlpdxIdeal := by
  intro m g m' g' _ hagree
  refine ⟨fun c => outOf (Kernel.argU m c) (Kernel.argW m c) (Kernel.argD m c), ?_, ?_⟩
  · refine (θ_run _ _ _).mono (fun r h c => ?_) (Cert.KMlpdxIdeal.Value.run_blocks m g)
    exact ⟨(h c).1.trans (Kernel.arr3 m c), (h c).2⟩
  · refine (θ_run _ _ _).mono (fun r h c => ?_) (Cert.RMlpdxIdeal.Value.run m' g')
    obtain ⟨e0, e1, e2⟩ := hagree c
    refine ⟨(h c).1.trans ?_, (h c).2⟩
    rw [Cert.RMlpdxIdeal.Read.val_main_v14_eq, e0, e1, e2]
    funext i
    idx_vars i
    exact Ref.rd_out (Kernel.argU m c) (Kernel.argW m c) (Kernel.argD m c) i0 i1

end Cert.Mlpdx

end
-- ==== Proof.LnfKernel.lean ====
/- The layer norm's forward kernel with its product and residual, at the extended reals: its four result arrays, for any
   arguments. -/
module

public import proofs.«01_k».proof.Proof.LnSpec
public import proofs.«01_k».proof.Proof.Gen.KLnfIdeal.Value
public import Idealize.ShloMosaic.Lib.Pipeline.ValueKit

@[expose] public section

set_option maxRecDepth 16384

noncomputable section

namespace Cert.Lnf

open Idealize.ShloMosaic Cert.Lift Cert.Ln

section Row

variable (u g b : Fin 2048 → EReal)

/-- A row's mean, the row about it, one over the root of its variance, the normalised row and its affine image. -/
def meanE : EReal := Ideal.div (∑ k, u k) ((2048 : ℝ) : EReal)
def aboutE (k : Fin 2048) : EReal := u k - meanE u
def scaleE : EReal := Ideal.rsqrt (meanE (fun k => aboutE u k * aboutE u k) + (Ln.eps : EReal))
def hatE (k : Fin 2048) : EReal := aboutE u k * scaleE u
def normE (k : Fin 2048) : EReal := hatE u k * g k + b k

/-- A row of the product and the scaled residual. -/
def mixE (a : Fin 2048 → EReal) (w : Fin 2048 → Fin 2048 → EReal) (x : Fin 2048 → EReal) (k : Fin 2048) : EReal :=
  (alpha : EReal) * x k + ∑ l, a l * w l k

end Row

section Out

variable (A W X : (⟨2, ![2048, 2048]⟩ : Shape).Idx → EReal) (G B : (⟨2, ![1, 2048]⟩ : Shape).Idx → EReal)

/-- A row of the arrays' mixed sum, and what the four result arrays hold. -/
def mixed (r : Fin 2048) : Fin 2048 → EReal := mixE (fun l => A (ix2 r l)) (fun l k => W (ix2 l k)) (fun k => X (ix2 r k))
def outN : (⟨2, ![2048, 2048]⟩ : Shape).Idx → EReal := fun i =>
  normE (mixed A W X (i 0)) (fun k => G (ix2 0 k)) (fun k => B (ix2 0 k)) (i 1)
def outH : (⟨2, ![2048, 2048]⟩ : Shape).Idx → EReal := fun i => hatE (mixed A W X (i 0)) (i 1)
def outS : (⟨2, ![2048, 1]⟩ : Shape).Idx → EReal := fun i => scaleE (mixed A W X (i 0))

end Out

namespace Kernel

open Idealize.ShloMosaic.TcCoe Idealize.SL.Sem
open Idealize.ShloMosaic.Pipeline (Dat)
open Cert.KLnfIdeal Cert.KLnfIdeal.Gen

section Payloads

variable (d x : S256x2048.Idx → EReal) (w : S2048x2048.Idx → EReal) (g b : S1x2048.Idx → EReal)

/-- A row of a block's mixed sum. -/
abbrev mrow (a : Fin 256) : Fin 2048 → EReal := mixE (fun l => d (ix2 a l)) (fun l k => w (ix2 l k)) (fun k => x (ix2 a k))

theorem pay_about (a : Fin 256) (k : Fin 2048) : k0_pay2 (F := Ideal) d w x (ix2 a k) = aboutE (mrow d x w a) k := by
  pointwise [k0_pay2]
  simp only [lit_2048, alpha_coe, zero_add]
  rfl

theorem pay_scale (a : Fin 256) : k0_pay3 (F := Ideal) d w x (ix2 a 0) = scaleE (mrow d x w a) := by
  pointwise [k0_pay3, pay_about]
  simp only [lit_2048, Ln.eps_coe, zero_add]
  rfl

theorem pay_hat (a : Fin 256) (k : Fin 2048) : k0_pay4 (F := Ideal) d w x (ix2 a k) = hatE (mrow d x w a) k := by
  pointwise [k0_pay4, pay_about, pay_scale]
  rfl

theorem pay_norm (a : Fin 256) (k : Fin 2048) :
    k0_pay5 (F := Ideal) d w x g b (ix2 a k) = normE (mrow d x w a) (fun k => g (ix2 0 k)) (fun k => b (ix2 0 k)) k := by
  pointwise [k0_pay5, pay_hat]
  rfl

end Payloads

section Arrays

variable (m : (ℓ : Loc nD τ sig) → Buf (Elt Ideal) ℓ) (c : Dev nD)

/-- The arguments. -/
def argA : S2048x2048.Idx → EReal := m ((c : Thread nD τ).loc main_arg0)
def argW : S2048x2048.Idx → EReal := m ((c : Thread nD τ).loc main_arg1)
def argX : S2048x2048.Idx → EReal := m ((c : Thread nD τ).loc main_arg2)
def argG : S1x2048.Idx → EReal := m ((c : Thread nD τ).loc main_arg3)
def argB : S1x2048.Idx → EReal := m ((c : Thread nD τ).loc main_arg4)

theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] :=
  (by decide +kernel : ∀ t : Fin grid0.N, _)

theorem lt8 (t : Fin cfg0.N) : t.val < 8 := Nat.lt_of_lt_of_eq t.isLt N_0

/-- The row of the array that row `a` of point `t`'s blocks is. -/
def at_ (t : Fin cfg0.N) (a : Fin 256) : Fin 2048 := ⟨t.val * 256 + a.val, by have := lt8 t; omega⟩

section Blocks

variable (t : Fin cfg0.N)

theorem blk0 : iblk m c 0 t = (fun y => argA m c (ix2 (at_ t (y 0)) (y 1)) : S256x2048.Idx → EReal) := by
  funext y
  idx_vars y
  blk_ext [iblk, V, argA, at_, idx t]

theorem blk1 : iblk m c 1 t = (argW m c : S2048x2048.Idx → EReal) := by
  funext y
  idx_vars y
  blk_ext [iblk, V, argW, idx t]

theorem blk2 : iblk m c 2 t = (fun y => argX m c (ix2 (at_ t (y 0)) (y 1)) : S256x2048.Idx → EReal) := by
  funext y
  idx_vars y
  blk_ext [iblk, V, argX, at_, idx t]

theorem blk3 : iblk m c 3 t = (argG m c : S1x2048.Idx → EReal) := by
  funext y
  idx_vars y
  blk_ext [iblk, V, argG, idx t]

theorem blk4 : iblk m c 4 t = (argB m c : S1x2048.Idx → EReal) := by
  funext y
  idx_vars y
  blk_ext [iblk, V, argB, idx t]

end Blocks

theorem arr5 : (dats m 0 c).arrAt 5 cfg0.N = outN (argA m c) (argW m c) (argX m c) (argG m c) (argB m c) := by
  refine (dats m 0 c).arrAt_eq_of_covers 5 _ (by decide +kernel) fun t hf y => ?_
  idx_vars y
  blk_simp
  rw [after0_5]
  unfold out0_5 k0_pay6
  frame_out
  rw [blk0, blk1, blk2, blk3, blk4]
  refine (pay_norm _ _ _ _ _ y0 y1).trans ?_
  refine Eq.trans ?_ (congrArg (outN _ _ _ _ _) (?_ : ix2 (at_ t y0) y1 = _))
  · rfl
  · blk_ext [at_, idx t]

theorem arr6 : (dats m 0 c).arrAt 6 cfg0.N = outN (argA m c) (argW m c) (argX m c) (argG m c) (argB m c) := by
  refine (dats m 0 c).arrAt_eq_of_covers 6 _ (by decide +kernel) fun t hf y => ?_
  idx_vars y
  blk_simp
  rw [after0_6]
  unfold out0_6 k0_pay6
  frame_out
  rw [blk0, blk1, blk2, blk3, blk4]
  refine (pay_norm _ _ _ _ _ y0 y1).trans ?_
  refine Eq.trans ?_ (congrArg (outN _ _ _ _ _) (?_ : ix2 (at_ t y0) y1 = _))
  · rfl
  · blk_ext [at_, idx t]

theorem arr7 : (dats m 0 c).arrAt 7 cfg0.N = outH (argA m c) (argW m c) (argX m c) := by
  refine (dats m 0 c).arrAt_eq_of_covers 7 _ (by decide +kernel) fun t hf y => ?_
  idx_vars y
  blk_simp
  rw [after0_7]
  unfold out0_7
  frame_out
  rw [blk0, blk1, blk2]
  refine (pay_hat _ _ _ y0 y1).trans ?_
  refine Eq.trans ?_ (congrArg (outH _ _ _) (?_ : ix2 (at_ t y0) y1 = _))
  · rfl
  · blk_ext [at_, idx t]

theorem arr8 : (dats m 0 c).arrAt 8 cfg0.N = outS (argA m c) (argW m c) (argX m c) := by
  refine (dats m 0 c).arrAt_eq_of_covers 8 _ (by decide +kernel) fun t hf y => ?_
  idx_vars y
  obtain rfl : y1 = 0 := Subsingleton.elim _ _
  blk_simp
  rw [after0_8]
  unfold out0_8
  frame_out
  rw [blk0, blk1, blk2]
  refine (pay_scale _ _ _ y0).trans ?_
  refine Eq.trans ?_ (congrArg (outS _ _ _) (?_ : ix2 (at_ t y0) 0 = _))
  · rfl
  · blk_ext [at_, idx t]

end Arrays

end Kernel

end Cert.Lnf

end
-- ==== Proof.LnfRef.lean ====
/- The layer norm as the reference computes it, at the extended reals, for any arguments. -/
module

public import proofs.«01_k».proof.Proof.LnfKernel
public import proofs.«01_k».proof.Proof.Gen.RLnfIdeal.Read

@[expose] public section

set_option maxRecDepth 16384

noncomputable section

namespace Cert.Lnf.Ref

open Idealize.ShloMosaic Idealize.ShloMosaic.TcCoe Idealize.SL.Sem
open Cert.RLnfIdeal Cert.RLnfIdeal.Gen Cert.RLnfIdeal.Read Cert.Lift Cert.Ln

variable (A W X : S2048x2048.Idx → EReal) (G B : S1x2048.Idx → EReal)

theorem rd_mix (r k : Fin 2048) : val_main_v5 (F := Ideal) A W X (ix2 r k) = mixed A W X r k := by
  pointwise [val_main_v5, val_main_v4, val_main_v3, val_main_v2, val_main_v1, val_main_v0, val_main_cst]
  simp only [alpha_coe]
  rfl

theorem rd_about (r k : Fin 2048) : val_main_v13 (F := Ideal) A W X (ix2 r k) = aboutE (mixed A W X r) k := by
  pointwise [val_main_v13, val_main_v12, val_main_v11, val_main_v10, val_main_v9, val_main_v8, val_main_cst_0, val_main_cst_1, rd_mix]
  simp only [lit_2048, zero_add]
  rfl

theorem rd_scale (r : Fin 2048) : val_main_v21 (F := Ideal) A W X (ix2 r 0) = scaleE (mixed A W X r) := by
  pointwise [val_main_v21, val_main_v20, val_main_v19, val_main_v18, val_main_v17, val_main_v16, val_main_v15, val_main_v14,
    val_main_cst_2, val_main_cst_3, val_main_cst_4, rd_about]
  simp only [lit_2048, Ln.eps_coe, zero_add]
  rfl

theorem rd_norm (r k : Fin 2048) : val_main_v29 (F := Ideal) A W X G B (ix2 r k) = outN A W X G B (ix2 r k) := by
  pointwise [val_main_v29, val_main_v28, val_main_v27, val_main_v26, val_main_v25, val_main_v24, val_main_v23, val_main_v22, val_main_v7,
    val_main_v6, rd_about, rd_scale]
  rfl

theorem rd_norm16 (r k : Fin 2048) : val_main_v30 (F := Ideal) A W X G B (ix2 r k) = outN A W X G B (ix2 r k) := by
  pointwise [val_main_v30, rd_norm]

theorem rd_s (r : Fin 2048) : val_main_v44 (F := Ideal) A W X (ix2 r 0) = outS A W X (ix2 r 0) :=
  (show val_main_v44 (F := Ideal) A W X (ix2 r 0) = val_main_v21 (F := Ideal) A W X (ix2 r 0) from rfl).trans (rd_scale A W X r)

theorem rd_hat (r k : Fin 2048) : val_main_v46 (F := Ideal) A W X (ix2 r k) = outH A W X (ix2 r k) := by
  have e : val_main_v23 (F := Ideal) A W X (ix2 r k) = outH A W X (ix2 r k) := by
    pointwise [val_main_v23, val_main_v22, rd_about, rd_scale]
    rfl
  exact (show val_main_v46 (F := Ideal) A W X (ix2 r k) = val_main_v23 (F := Ideal) A W X (ix2 r k) from rfl).trans e

end Cert.Lnf.Ref

end
-- ==== Proof.LnfClaim.lean ====
/- The forward call of the mixing product, the residual and the first layer norm
   computes what the reference computes: the two programs' results agree. -/
module

public import proofs.«01_k».proof.Defs
public import proofs.«01_k».proof.Proof.LnfKernel
public import proofs.«01_k».proof.Proof.LnfRef
public import Idealize.ShloMosaic.Lib.Claim

@[expose] public section

set_option maxRecDepth 16384

noncomputable section

namespace Cert.Lnf

open Idealize.ShloMosaic Idealize.ShloMosaic.TcCoe Idealize.SL.Sem Cert.Lift

theorem ref_frame : Cert.quiescent_RLnfIdeal := fun m g _ =>
  (θ_run _ _ _).mono (fun r h => ⟨fun c => (h c).2.2.2.2, sem_eq_zero_of_no_sems (by decide) r.2⟩) (Cert.RLnfIdeal.Value.run m g)

theorem algebraic : Cert.algebraic_KLnfIdeal_RLnfIdeal := by
  intro m g m' g' _ hagree
  refine ⟨fun c => outN (Kernel.argA m c) (Kernel.argW m c) (Kernel.argX m c) (Kernel.argG m c) (Kernel.argB m c), fun c => outN (Kernel.argA m c) (Kernel.argW m c) (Kernel.argX m c) (Kernel.argG m c) (Kernel.argB m c), fun c => outH (Kernel.argA m c) (Kernel.argW m c) (Kernel.argX m c), fun c => outS (Kernel.argA m c) (Kernel.argW m c) (Kernel.argX m c), ?_, ?_⟩
  · refine (θ_run _ _ _).mono (fun r h c => ?_) (Cert.KLnfIdeal.Value.run_blocks m g)
    obtain ⟨h0, h1, h2, h3, ha⟩ := h c
    exact ⟨h0.trans (Kernel.arr5 m c), h1.trans (Kernel.arr6 m c), h2.trans (Kernel.arr7 m c), h3.trans (Kernel.arr8 m c), ha⟩
  · refine (θ_run _ _ _).mono (fun r h c => ?_) (Cert.RLnfIdeal.Value.run m' g')
    obtain ⟨h0, h1, h2, h3, ha⟩ := h c
    obtain ⟨e0, e1, e2, e3, e4⟩ := hagree c
    refine ⟨h0.trans ?_, h1.trans ?_, h2.trans ?_, h3.trans ?_, ha⟩
    · refine (Cert.RLnfIdeal.Read.val_main_v29_eq _ _ _ _ _).trans ?_
      rw [e0, e1, e2, e3, e4]
      funext i
      idx_vars i
      exact Ref.rd_norm (Kernel.argA m c) (Kernel.argW m c) (Kernel.argX m c) (Kernel.argG m c) (Kernel.argB m c) i0 i1
    · refine (Cert.RLnfIdeal.Read.val_main_v30_eq _ _ _ _ _).trans ?_
      rw [e0, e1, e2, e3, e4]
      funext i
      idx_vars i
      exact Ref.rd_norm16 (Kernel.argA m c) (Kernel.argW m c) (Kernel.argX m c) (Kernel.argG m c) (Kernel.argB m c) i0 i1
    · refine (Cert.RLnfIdeal.Read.val_main_v46_eq _ _ _).trans ?_
      rw [e0, e1, e2]
      funext i
      idx_vars i
      exact Ref.rd_hat (Kernel.argA m c) (Kernel.argW m c) (Kernel.argX m c) i0 i1
    · refine (Cert.RLnfIdeal.Read.val_main_v44_eq _ _ _).trans ?_
      rw [e0, e1, e2]
      funext i
      idx_vars i
      obtain rfl : i1 = 0 := Subsingleton.elim _ _
      exact Ref.rd_s (Kernel.argA m c) (Kernel.argW m c) (Kernel.argX m c) i0

end Cert.Lnf

end
-- ==== Proof.UpfKernel.lean ====
/- The up projection's forward kernel with the squared relu and its gradient, at the extended reals: its two result arrays, for
   any arguments. -/
module

public import proofs.«01_k».proof.Proof.LnSpec
public import proofs.«01_k».proof.Proof.Gen.KUpfIdeal.Value
public import Idealize.ShloMosaic.Lib.Pipeline.ValueKit

@[expose] public section

set_option maxRecDepth 16384

noncomputable section

namespace Cert.Upf

open Idealize.ShloMosaic Cert.Lift Cert.Ln

/-- The part of the weights a column is in, and its place there. -/
def part (j : Fin 8192) : Fin 4 := ⟨j.val / 2048, by omega⟩
def place (j : Fin 8192) : Fin 2048 := ⟨j.val % 2048, by omega⟩

section Out

variable (H : (⟨2, ![2048, 2048]⟩ : Shape).Idx → EReal) (W : (⟨3, ![4, 2048, 2048]⟩ : Shape).Idx → EReal)

/-- The positive part of the projection, and what the two result arrays hold. -/
def pos (r : Fin 2048) (j : Fin 8192) : EReal := max (∑ l : Fin 2048, H (ix2 r l) * W (ix3 (part j) l (place j))) 0
def outA : (⟨2, ![2048, 8192]⟩ : Shape).Idx → EReal := fun i => pos H W (i 0) (i 1) * pos H W (i 0) (i 1)
def outD : (⟨2, ![2048, 8192]⟩ : Shape).Idx → EReal := fun i => ((2 : ℝ) : EReal) * pos H W (i 0) (i 1)

end Out

namespace Kernel

open Idealize.ShloMosaic.TcCoe Idealize.SL.Sem
open Idealize.ShloMosaic.Pipeline (Dat)
open Cert.KUpfIdeal Cert.KUpfIdeal.Gen

section Payloads

variable (h : S1024x2048.Idx → EReal) (w : S1x2048x1024.Idx → EReal) (a b : Fin 1024)

theorem pay_pos : k0_pay1 (F := Ideal) h w (ix2 a b) = max (∑ l, h (ix2 a l) * w (ix3 0 l b)) 0 := by
  pointwise [k0_pay1]

theorem pay_act : k0_pay2 (F := Ideal) h w (ix2 a b)
    = max (∑ l, h (ix2 a l) * w (ix3 0 l b)) 0 * max (∑ l, h (ix2 a l) * w (ix3 0 l b)) 0 := by
  pointwise [k0_pay2, pay_pos]

theorem pay_grad : k0_pay3 (F := Ideal) h w (ix2 a b) = ((2 : ℝ) : EReal) * max (∑ l, h (ix2 a l) * w (ix3 0 l b)) 0 := by
  pointwise [k0_pay3, pay_pos]
  simp only [lit_two]

end Payloads

section Arrays

variable (m : (ℓ : Loc nD τ sig) → Buf (Elt Ideal) ℓ) (c : Dev nD)

/-- The arguments. -/
def argH : S2048x2048.Idx → EReal := m ((c : Thread nD τ).loc main_arg0)
def argW : S4x2048x2048.Idx → EReal := m ((c : Thread nD τ).loc main_arg1)

theorem idx : ∀ t : Fin cfg0.N, win0_0.index t = ![t.val / 8, 0] ∧ win0_1.index t = ![t.val % 8 / 2, 0, t.val % 8 % 2]
    ∧ win0_2.index t = ![t.val / 8, t.val % 8] ∧ win0_3.index t = ![t.val / 8, t.val % 8] :=
  (by decide +kernel : ∀ t : Fin grid0.N, _)

theorem lt16 (t : Fin cfg0.N) : t.val < 16 := Nat.lt_of_lt_of_eq t.isLt N_0

section Point

variable (t : Fin cfg0.N)

/-- The row and the column of the array that a point's block starts at. -/
def rowOf (a : Fin 1024) : Fin 2048 := ⟨t.val / 8 * 1024 + a.val, by have := lt16 t; omega⟩
def colOf (b : Fin 1024) : Fin 8192 := ⟨t.val % 8 * 1024 + b.val, by omega⟩
def partOf : Fin 4 := ⟨t.val % 8 / 2, by omega⟩
def placeOf (b : Fin 1024) : Fin 2048 := ⟨t.val % 8 % 2 * 1024 + b.val, by omega⟩

theorem part_col (b : Fin 1024) : part (colOf t b) = partOf t :=
  Fin.ext (by show (t.val % 8 * 1024 + b.val) / 2048 = t.val % 8 / 2; omega)
theorem place_col (b : Fin 1024) : place (colOf t b) = placeOf t b :=
  Fin.ext (by show (t.val % 8 * 1024 + b.val) % 2048 = t.val % 8 % 2 * 1024 + b.val; omega)

theorem blk0 : iblk m c 0 t = (fun y => argH m c (ix2 (rowOf t (y 0)) (y 1)) : S1024x2048.Idx → EReal) := by
  funext y
  idx_vars y
  blk_ext [iblk, V, argH, rowOf, idx t]

theorem blk1 : iblk m c 1 t = (fun y => argW m c (ix3 (partOf t) (y 1) (placeOf t (y 2))) : S1x2048x1024.Idx → EReal) := by
  funext y
  idx_vars y
  obtain rfl : y0 = 0 := Subsingleton.elim _ _
  blk_ext [iblk, V, argW, partOf, placeOf, idx t]

/-- A point's entry of the positive part. -/
theorem pos_col (a b : Fin 1024) : max (∑ l, argH m c (ix2 (rowOf t a) l) * argW m c (ix3 (partOf t) l (placeOf t b))) 0
    = pos (argH m c) (argW m c) (rowOf t a) (colOf t b) := by
  unfold pos
  rw [part_col, place_col]

end Point

theorem arr2 : (dats m 0 c).arrAt 2 cfg0.N = outA (argH m c) (argW m c) := by
  refine (dats m 0 c).arrAt_eq_of_covers 2 _ (by decide +kernel) fun t hf y => ?_
  idx_vars y
  blk_simp
  rw [after0_2]
  unfold out0_2
  frame_out
  rw [blk0, blk1]
  refine (pay_act _ _ y0 y1).trans ?_
  refine Eq.trans ?_ (congrArg (outA _ _) (?_ : ix2 (rowOf t y0) (colOf t y1) = _))
  · exact congrArg (fun p => p * p) (pos_col m c t y0 y1)
  · blk_ext [rowOf, colOf, idx t]

theorem arr3 : (dats m 0 c).arrAt 3 cfg0.N = outD (argH m c) (argW m c) := by
  refine (dats m 0 c).arrAt_eq_of_covers 3 _ (by decide +kernel) fun t hf y => ?_
  idx_vars y
  blk_simp
  rw [after0_3]
  unfold out0_3
  frame_out
  rw [blk0, blk1]
  refine (pay_grad _ _ y0 y1).trans ?_
  refine Eq.trans ?_ (congrArg (outD _ _) (?_ : ix2 (rowOf t y0) (colOf t y1) = _))
  · exact congrArg (fun p => ((2 : ℝ) : EReal) * p) (pos_col m c t y0 y1)
  · blk_ext [rowOf, colOf, idx t]

end Arrays

end Kernel

end Cert.Upf

end
-- ==== Proof.UpfRef.lean ====
/- The squared relu and its gradient as the reference computes them, at the extended reals, for any arguments. -/
module

public import proofs.«01_k».proof.Proof.UpfKernel
public import proofs.«01_k».proof.Proof.Gen.RUpfIdeal.Read

@[expose] public section

set_option maxRecDepth 16384

noncomputable section

namespace Cert.Upf.Ref

open Idealize.ShloMosaic Idealize.ShloMosaic.TcCoe Idealize.SL.Sem
open Cert.RUpfIdeal Cert.RUpfIdeal.Gen Cert.RUpfIdeal.Read Cert.Lift Cert.Ln

variable (H : S2048x2048.Idx → EReal) (W : S4x2048x2048.Idx → EReal) (r : Fin 2048) (j : Fin 8192)

theorem rd_up : val_main_v4 (F := Ideal) H W (ix2 r j) = ∑ l : Fin 2048, H (ix2 r l) * W (ix3 (part j) l (place j)) := by
  pointwise [val_main_v4, val_main_v3, val_main_v2, val_main_v1, val_main_v0]
  rfl

theorem rd_pos : val_main_v5 (F := Ideal) H W (ix2 r j) = pos H W r j := by
  pointwise [val_main_v5, val_main_call0_v0, val_main_call0_cst, rd_up]
  rfl

theorem rd_act : val_main_v12 (F := Ideal) H W (ix2 r j) = outA H W (ix2 r j) := by
  pointwise [val_main_v12, val_main_v9, rd_pos]
  rfl

theorem rd_grad : val_main_v17 (F := Ideal) H W (ix2 r j) = outD H W (ix2 r j) := by
  pointwise [val_main_v17, val_main_v16, val_main_v15, val_main_v14, val_main_v13, val_main_v11, val_main_v10, val_main_v7, val_main_v6,
    val_main_cst, val_main_cst_1, val_main_cst_2, val_main_cst_3, rd_up, rd_pos]
  unfold outD pos
  simp only [ix2_0, ix2_1, one_mul, lit_two]
  by_cases h : 0 < ∑ l : Fin 2048, H (ix2 r l) * W (ix3 (part j) l (place j))
  · rw [if_pos h]
  · rw [if_neg h, max_eq_right (not_lt.mp h), mul_zero]

end Cert.Upf.Ref

end
-- ==== Proof.UpfClaim.lean ====
/- The forward call of the up projection, the squared relu and its gradient
   computes what the reference computes: the two programs' results agree. -/
module

public import proofs.«01_k».proof.Defs
public import proofs.«01_k».proof.Proof.UpfKernel
public import proofs.«01_k».proof.Proof.UpfRef
public import Idealize.ShloMosaic.Lib.Claim

@[expose] public section

set_option maxRecDepth 16384

noncomputable section

namespace Cert.Upf

open Idealize.ShloMosaic Idealize.ShloMosaic.TcCoe Idealize.SL.Sem Cert.Lift

theorem ref_frame : Cert.quiescent_RUpfIdeal := fun m g _ =>
  (θ_run _ _ _).mono (fun r h => ⟨fun c => (h c).2.2, sem_eq_zero_of_no_sems (by decide) r.2⟩) (Cert.RUpfIdeal.Value.run m g)

theorem algebraic : Cert.algebraic_KUpfIdeal_RUpfIdeal := by
  intro m g m' g' _ hagree
  refine ⟨fun c => outA (Kernel.argH m c) (Kernel.argW m c), fun c => outD (Kernel.argH m c) (Kernel.argW m c), ?_, ?_⟩
  · refine (θ_run _ _ _).mono (fun r h c => ?_) (Cert.KUpfIdeal.Value.run_blocks m g)
    obtain ⟨h0, h1, ha⟩ := h c
    exact ⟨h0.trans (Kernel.arr2 m c), h1.trans (Kernel.arr3 m c), ha⟩
  · refine (θ_run _ _ _).mono (fun r h c => ?_) (Cert.RUpfIdeal.Value.run m' g')
    obtain ⟨h0, h1, ha⟩ := h c
    obtain ⟨e0, e1⟩ := hagree c
    refine ⟨h0.trans ?_, h1.trans ?_, ha⟩
    · refine (Cert.RUpfIdeal.Read.val_main_v12_eq _ _).trans ?_
      rw [e0, e1]
      funext i
      idx_vars i
      exact Ref.rd_act (Kernel.argH m c) (Kernel.argW m c) i0 i1
    · refine (Cert.RUpfIdeal.Read.val_main_v17_eq _ _).trans ?_
      rw [e0, e1]
      funext i
      idx_vars i
      exact Ref.rd_grad (Kernel.argH m c) (Kernel.argW m c) i0 i1

end Cert.Upf

end
-- ==== Proof.GatesfKernel.lean ====
/- The gates' forward kernel, a product with its epilogue, at the extended reals: its two result arrays, for any arguments. -/
module

public import proofs.«01_k».proof.Proof.GatesSpec
public import proofs.«01_k».proof.Proof.Gen.KGatesfIdeal.Value
public import Idealize.ShloMosaic.Lib.Pipeline.ValueKit
public import Idealize.ShloMosaic.Lib.StableHlo.ReadAt

@[expose] public section

set_option maxRecDepth 16384

noncomputable section

namespace Cert.Gatesf

open Idealize.ShloMosaic Cert.Lift Cert.Gates

/-- The softplus as it is computed, of an extended real. -/
def spE (x : EReal) : EReal := max x 0 + Ideal.log (1 + Ideal.exp (-max x (-x)))

/-- The place of a head's write gate, and of its decay, among the sixteen projections. -/
def lo (j : Fin 8) : Fin 16 := ⟨j.val, by omega⟩
def hi (j : Fin 8) : Fin 16 := ⟨8 + j.val, by omega⟩

section Out

variable (X : (⟨2, ![2048, 2048]⟩ : Shape).Idx → EReal) (W : (⟨2, ![16, 2048]⟩ : Shape).Idx → EReal)
  (al dt : (⟨2, ![1, 8]⟩ : Shape).Idx → EReal)

/-- The projections, the two gates, and what the two result arrays hold. -/
def proj (r : Fin 2048) (j : Fin 16) : EReal := ∑ l : Fin 2048, X (ix2 r l) * W (ix2 j l)
def write (r : Fin 2048) (j : Fin 8) : EReal := sgE (proj X W r (lo j))
def decay (r : Fin 2048) (j : Fin 8) : EReal := -Ideal.exp (vec al j) * spE (proj X W r (hi j) + vec dt j)
def both (r : Fin 2048) : Fin 128 → EReal := lanes (fun j => proj X W r (lo j)) (fun j => proj X W r (hi j))
def outB : (⟨2, ![2048, 128]⟩ : Shape).Idx → EReal := fun i => both X W (i 0) (i 1)
def outG : (⟨2, ![2048, 128]⟩ : Shape).Idx → EReal := fun i => lanes (write X W (i 0)) (decay X W al dt (i 0)) (i 1)

/-- The weights with rows of zeros behind them. -/
def padW (k : Fin 128) (l : Fin 2048) : EReal := if h : k.val < 16 then W (ix2 ⟨k.val, h⟩ l) else 0

theorem sum_padW (r : Fin 2048) (k : Fin 128) : ∑ l : Fin 2048, X (ix2 r l) * padW W k l = both X W r k := by
  unfold both padW
  rcases split k with h | h | h
  · rw [lanes_first _ _ h]
    simp only [dif_pos (show k.val < 16 by omega)]
    rfl
  · rw [lanes_second _ _ h]
    simp only [dif_pos (show k.val < 16 by omega)]
    rw [show (⟨k.val, by omega⟩ : Fin 16) = hi ⟨k.val - 8, h.2⟩ from Fin.ext (by show k.val = 8 + (k.val - 8); omega)]
    rfl
  · rw [lanes_rest _ _ h]
    simp only [dif_neg (show ¬ k.val < 16 by omega), mul_zero, Finset.sum_const_zero]

/-- The epilogue's choice between the gates, by the lane. -/
theorem pick (r : Fin 2048) (k : Fin 128) :
    (if k.val < 8 then sgE (both X W r k)
      else if k.val < 16 then (0 - second (fun j => Ideal.exp (vec al j)) k) * spE (both X W r k + second (vec dt) k) else 0)
      = lanes (write X W r) (decay X W al dt r) k := by
  unfold both
  rcases split k with h | h | h
  · rw [lanes_first _ _ h, lanes_first _ _ h, if_pos h]; rfl
  · rw [lanes_second _ _ h, lanes_second _ _ h, second_pos _ h, second_pos _ h, if_neg (by omega), if_pos (by omega), zero_sub]; rfl
  · rw [lanes_rest _ _ h, lanes_rest _ _ h, if_neg (by omega), if_neg (by omega)]

end Out

theorem sitofp_zero16 : (FloatOps.sitofp (F := Ideal) .bf16 0#32 : EReal) = 0 := by
  show (((0#32).toInt : ℝ) : EReal) = 0
  simp

namespace Kernel

open Idealize.ShloMosaic.TcCoe Idealize.SL.Sem
open Idealize.ShloMosaic.Pipeline (Dat)
open Cert.KGatesfIdeal Cert.KGatesfIdeal.Gen

section Payloads

variable (x : S512x2048.Idx → EReal) (w : S128x2048.Idx → EReal) (e d : S1x128.Idx → EReal) (a : Fin 512) (k : Fin 128)

theorem pay_acc : k0_pay2 (F := Ideal) x w (ix2 a k) = ∑ l, x (ix2 a l) * w (ix2 k l) := by
  pointwise [k0_pay2]

theorem lt_8 : ∀ k : Fin 128, IntOp.cmpi .slt (BitVec.ofNat 32 k.val) 8#32 = BitVec.ofBool (decide (k.val < 8)) := by
  decide +kernel

theorem lt_16 : ∀ k : Fin 128, IntOp.cmpi .slt (BitVec.ofNat 32 k.val) 16#32 = BitVec.ofBool (decide (k.val < 16)) := by
  decide +kernel

theorem pay_sig : k0_pay3 (F := Ideal) x w (ix2 a k) = sgE (∑ l, x (ix2 a l) * w (ix2 k l)) := by
  pointwise [k0_pay3, pay_acc]
  rw [sgE, zero_sub]

theorem pay_decay : k0_pay4 (F := Ideal) x w e d (ix2 a k)
    = (0 - e (ix2 0 k)) * spE ((∑ l, x (ix2 a l) * w (ix2 k l)) + d (ix2 0 k)) := by
  pointwise [k0_pay4, pay_acc]
  simp only [spE, zero_sub]
  rfl

theorem pay_gates :
    k0_pay1 (F := Ideal) (iota .tc S512x128 32 [1] iota_S512x128_d1_w32) (k0_pay3 x w) (k0_pay4 x w e d) k0_pay5 k0_pay6 (ix2 a k)
      = if k.val < 8 then sgE (∑ l, x (ix2 a l) * w (ix2 k l))
        else if k.val < 16 then (0 - e (ix2 0 k)) * spE ((∑ l, x (ix2 a l) * w (ix2 k l)) + d (ix2 0 k)) else 0 := by
  pointwise [k0_pay1, k0_pay5, k0_pay6, pay_sig, pay_decay, lt_8, lt_16]

end Payloads

section Arrays

variable (m : (ℓ : Loc nD τ sig) → Buf (Elt Ideal) ℓ) (c : Dev nD)

/-- The arguments. -/
def argX : S2048x2048.Idx → EReal := m ((c : Thread nD τ).loc main_arg0)
def argW : S16x2048.Idx → EReal := m ((c : Thread nD τ).loc main_arg1)
def argal : S1x8.Idx → EReal := m ((c : Thread nD τ).loc main_arg2)
def argdt : S1x8.Idx → EReal := m ((c : Thread nD τ).loc main_arg3)

theorem host_w (k : Fin 128) (l : Fin 2048) : (V m c main_v0 : S128x2048.Idx → EReal) (ix2 k l) = padW (argW m c) k l := by
  unfold V; after_reads_at
  simp only [sitofp_zero16]
  rfl

theorem host_ea (k : Fin 128) :
    (V m c main_v2 : S1x128.Idx → EReal) (ix2 0 k) = second (fun j => Ideal.exp (vec (argal m c) j)) k := by
  unfold V; after_reads_at
  simp only [Gates.sitofp_zero]
  rfl

theorem host_dtb (k : Fin 128) : (V m c main_v3 : S1x128.Idx → EReal) (ix2 0 k) = second (vec (argdt m c)) k := by
  unfold V; after_reads_at
  simp only [Gates.sitofp_zero]
  rfl

theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] :=
  (by decide +kernel : ∀ t : Fin grid0.N, _)

theorem lt4 (t : Fin cfg0.N) : t.val < 4 := Nat.lt_of_lt_of_eq t.isLt N_0

/-- The row of the array that a row of a point's block is. -/
def at_ (t : Fin cfg0.N) (a : Fin 512) : Fin 2048 := ⟨t.val * 512 + a.val, by have := lt4 t; omega⟩

section Point

variable (t : Fin cfg0.N)

theorem blk0 : iblk m c 0 t = (fun y => argX m c (ix2 (at_ t (y 0)) (y 1)) : S512x2048.Idx → EReal) := by
  funext y
  idx_vars y
  refine Eq.trans ?_ (congrFun (V_main_arg0 m c) (ix2 (at_ t y0) y1))
  blk_ext [iblk, at_, idx t]

theorem blk1 : iblk m c 1 t = (fun y => padW (argW m c) (y 0) (y 1) : S128x2048.Idx → EReal) := by
  funext y
  idx_vars y
  refine Eq.trans ?_ (host_w m c y0 y1)
  blk_ext [iblk, idx t]

theorem blk2 : iblk m c 2 t = (fun y => second (fun j => Ideal.exp (vec (argal m c) j)) (y 1) : S1x128.Idx → EReal) := by
  funext y
  idx_vars y
  obtain rfl : y0 = 0 := Subsingleton.elim _ _
  refine Eq.trans ?_ (host_ea m c y1)
  blk_ext [iblk, idx t]

theorem blk3 : iblk m c 3 t = (fun y => second (vec (argdt m c)) (y 1) : S1x128.Idx → EReal) := by
  funext y
  idx_vars y
  obtain rfl : y0 = 0 := Subsingleton.elim _ _
  refine Eq.trans ?_ (host_dtb m c y1)
  blk_ext [iblk, idx t]

end Point

theorem arr4 : (dats m 0 c).arrAt 4 cfg0.N = outB (argX m c) (argW m c) := by
  refine (dats m 0 c).arrAt_eq_of_covers 4 _ (by decide +kernel) fun t hf y => ?_
  idx_vars y
  blk_simp
  rw [after0_4]
  unfold out0_4
  frame_out
  rw [blk0, blk1]
  refine (pay_acc _ _ y0 y1).trans ?_
  refine Eq.trans ?_ (congrArg (outB _ _) (?_ : ix2 (at_ t y0) y1 = _))
  · exact sum_padW (argX m c) (argW m c) (at_ t y0) y1
  · blk_ext [at_, idx t]

theorem arr5 : (dats m 0 c).arrAt 5 cfg0.N = outG (argX m c) (argW m c) (argal m c) (argdt m c) := by
  refine (dats m 0 c).arrAt_eq_of_covers 5 _ (by decide +kernel) fun t hf y => ?_
  idx_vars y
  blk_simp
  rw [after0_5]
  unfold out0_5
  frame_out
  rw [blk0, blk1, blk2, blk3]
  refine (pay_gates _ _ _ _ y0 y1).trans ?_
  refine Eq.trans ?_ (congrArg (outG _ _ _ _) (?_ : ix2 (at_ t y0) y1 = _))
  · have e := pick (argX m c) (argW m c) (argal m c) (argdt m c) (at_ t y0) y1
    rw [← sum_padW] at e
    exact e
  · blk_ext [at_, idx t]

end Arrays

end Kernel

end Cert.Gatesf

end
-- ==== Proof.GatesfRef.lean ====
/- The projections and gates as the reference computes them, at the extended reals, for any arguments. -/
module

public import proofs.«01_k».proof.Proof.GatesfKernel
public import proofs.«01_k».proof.Proof.Gen.RGatesfIdeal.Read

@[expose] public section

set_option maxRecDepth 16384

noncomputable section

namespace Cert.Gatesf.Ref

open Idealize.ShloMosaic Idealize.ShloMosaic.TcCoe
open Cert.RGatesfIdeal Cert.RGatesfIdeal.Gen Cert.RGatesfIdeal.Read Cert.Lift Cert.Gates Cert.Gatesf

variable (X : S2048x2048.Idx → EReal) (W : S16x2048.Idx → EReal) (al dt : S1x8.Idx → EReal)

theorem rd_proj (r : Fin 2048) (j : Fin 16) : val_main_v3 (F := Ideal) X W (ix2 r j) = proj X W r j := by
  pointwise [val_main_v3, val_main_v2, val_main_v1, val_main_v0]
  rfl

/-- Sixteen lanes with zeros behind them, as two groups of eight. -/
theorem pad_lanes (f : Fin 16 → EReal) (k : Fin 128) :
    (if h : k.val < 16 then f ⟨k.val, h⟩ else 0) = lanes (fun j => f (lo j)) (fun j => f (hi j)) k := by
  rcases split k with h | h | h
  · rw [lanes_first _ _ h, dif_pos (by omega)]; rfl
  · rw [lanes_second _ _ h, dif_pos (by omega)]
    exact congrArg f (Fin.ext (by show k.val = 8 + (k.val - 8); omega))
  · rw [lanes_rest _ _ h, dif_neg (by omega)]

theorem rd_ba (r : Fin 2048) (k : Fin 128) : val_main_v25 (F := Ideal) X W (ix2 r k) = outB X W (ix2 r k) := by
  pointwise [val_main_v25, val_main_call1_v0, val_main_c, rd_proj]
  simp only [Gates.sitofp_zero]
  exact pad_lanes (proj X W r) k

theorem rd_write (r : Fin 2048) (j : Fin 8) : val_main_v26 (F := Ideal) X W (ix2 r j) = write X W r j := by
  pointwise [val_main_v26, val_main_v15, val_main_v14, val_main_v13, val_main_v12, val_main_v11, val_main_v10, val_main_v5,
    val_main_v4, val_main_cst, val_main_cst_0, rd_proj]
  rfl

theorem rd_arg (r : Fin 2048) (j : Fin 8) : val_main_v20 (F := Ideal) X W dt (ix3 0 r j) = proj X W r (hi j) + vec dt j := by
  pointwise [val_main_v20, val_main_v19, val_main_v18, val_main_v9, val_main_v8, val_main_v7, val_main_v6, rd_proj]
  rfl

theorem rd_decay (r : Fin 2048) (j : Fin 8) : val_main_v27 (F := Ideal) X W al dt (ix2 r j) = decay X W al dt r j := by
  pointwise [val_main_v27, val_main_v24, val_main_v23, val_main_v22, val_main_v21, val_main_v17, val_main_v16, val_main_v8,
    val_main_call0_v11, val_main_call0_v10, val_main_call0_v9, val_main_call0_v8, val_main_call0_v7, val_main_call0_v6, val_main_call0_v5,
    val_main_call0_v4, val_main_call0_v3, val_main_call0_v2, val_main_call0_v1, val_main_call0_v0, val_main_call0_cst, rd_arg]
  rw [if_neg (fun e => e rfl)]
  rfl

theorem rd_bg (r : Fin 2048) (k : Fin 128) : val_main_v29 (F := Ideal) X W al dt (ix2 r k) = outG X W al dt (ix2 r k) := by
  pointwise [val_main_v29, val_main_v28, val_main_call2_v0, val_main_c_1, rd_write, rd_decay]
  simp only [Gates.sitofp_zero]
  rfl

end Cert.Gatesf.Ref

end
-- ==== Proof.GatesfClaim.lean ====
/- The forward call of the gates' projections and the gates
   computes what the reference computes: the two programs' results agree. -/
module

public import proofs.«01_k».proof.Defs
public import proofs.«01_k».proof.Proof.GatesfKernel
public import proofs.«01_k».proof.Proof.GatesfRef
public import Idealize.ShloMosaic.Lib.Claim

@[expose] public section

set_option maxRecDepth 16384

noncomputable section

namespace Cert.Gatesf

open Idealize.ShloMosaic Idealize.ShloMosaic.TcCoe Idealize.SL.Sem Cert.Lift

theorem ref_frame : Cert.quiescent_RGatesfIdeal := fun m g _ =>
  (θ_run _ _ _).mono (fun r h => ⟨fun c => (h c).2.2, sem_eq_zero_of_no_sems (by decide) r.2⟩) (Cert.RGatesfIdeal.Value.run m g)

theorem algebraic : Cert.algebraic_KGatesfIdeal_RGatesfIdeal := by
  intro m g m' g' _ hagree
  refine ⟨fun c => outB (Kernel.argX m c) (Kernel.argW m c), fun c => outG (Kernel.argX m c) (Kernel.argW m c) (Kernel.argal m c) (Kernel.argdt m c), ?_, ?_⟩
  · refine (θ_run _ _ _).mono (fun r h c => ?_) (Cert.KGatesfIdeal.Value.run_blocks m g)
    obtain ⟨h0, h1, ha⟩ := h c
    exact ⟨h0.trans (Kernel.arr4 m c), h1.trans (Kernel.arr5 m c), ha⟩
  · refine (θ_run _ _ _).mono (fun r h c => ?_) (Cert.RGatesfIdeal.Value.run m' g')
    obtain ⟨h0, h1, ha⟩ := h c
    obtain ⟨e0, e1, e2, e3⟩ := hagree c
    refine ⟨h0.trans ?_, h1.trans ?_, ha⟩
    · refine (Cert.RGatesfIdeal.Read.val_main_v25_eq _ _).trans ?_
      rw [e0, e1]
      funext i
      idx_vars i
      exact Ref.rd_ba (Kernel.argX m c) (Kernel.argW m c) i0 i1
    · rw [Cert.RGatesfIdeal.Read.val_main_v29_eq, e0, e1, e2, e3]
      funext i
      idx_vars i
      exact Ref.rd_bg (Kernel.argX m c) (Kernel.argW m c) (Kernel.argal m c) (Kernel.argdt m c) i0 i1

end Cert.Gatesf

end
-- ==== Proof.DownfKernel.lean ====
/- The third layer norm's forward kernel with its product over four parts and its residual, at the extended reals: its two result
   arrays, for any arguments. -/
module

public import proofs.«01_k».proof.Proof.LnfKernel
public import proofs.«01_k».proof.Proof.Gen.KDownfIdeal.Value
public import Idealize.ShloMosaic.Lib.Pipeline.ValueKit
public import Idealize.ShloMosaic.Lib.Pipeline.ReadBack

@[expose] public section

set_option maxRecDepth 16384

noncomputable section

namespace Cert.Downf

open Idealize.ShloMosaic Cert.Lift Cert.Ln
open Cert.Lnf (aboutE scaleE hatE)

section Out

variable (A : (⟨2, ![2048, 8192]⟩ : Shape).Idx → EReal) (W : (⟨2, ![8192, 2048]⟩ : Shape).Idx → EReal)
variable (X : (⟨2, ![2048, 2048]⟩ : Shape).Idx → EReal)

/-- A row of the product and the scaled residual, and what the two result arrays hold. -/
def mixed (r k : Fin 2048) : EReal := (alpha : EReal) * X (ix2 r k) + ∑ l : Fin 8192, A (ix2 r l) * W (ix2 l k)
def outH : (⟨2, ![2048, 2048]⟩ : Shape).Idx → EReal := fun i => hatE (mixed A W X (i 0)) (i 1)
def outS : (⟨2, ![2048, 1]⟩ : Shape).Idx → EReal := fun i => scaleE (mixed A W X (i 0))

end Out

namespace Kernel

open Idealize.ShloMosaic.TcCoe Idealize.SL.Sem
open Idealize.ShloMosaic.Pipeline (Dat)
open Cert.KDownfIdeal Cert.KDownfIdeal.Gen

section Payloads

variable (d s x : S512x2048.Idx → EReal) (w : S2048x2048.Idx → EReal)

/-- An entry of a block's product, and a row of its mixed sum over the sum so far. -/
abbrev prod (a : Fin 512) (k : Fin 2048) : EReal := ∑ l, d (ix2 a l) * w (ix2 l k)
abbrev mrow (a : Fin 512) : Fin 2048 → EReal := fun k => (alpha : EReal) * x (ix2 a k) + (s (ix2 a k) + prod d w a k)

theorem pay_first (a : Fin 512) (k : Fin 2048) : k0_pay2 (F := Ideal) d w (ix2 a k) = prod d w a k := by
  pointwise [k0_pay2, k0_pay1]

theorem pay_next (a : Fin 512) (k : Fin 2048) : k0_pay3 (F := Ideal) d w s (ix2 a k) = s (ix2 a k) + prod d w a k := by
  pointwise [k0_pay3, k0_pay1]

theorem pay_about (a : Fin 512) (k : Fin 2048) : k0_pay4 (F := Ideal) d w s x (ix2 a k) = aboutE (mrow d s x w a) k := by
  pointwise [k0_pay4, k0_pay1]
  simp only [lit_2048, alpha_coe, zero_add]
  rfl

theorem pay_scale (a : Fin 512) : k0_pay5 (F := Ideal) d w s x (ix2 a 0) = scaleE (mrow d s x w a) := by
  pointwise [k0_pay5, pay_about]
  simp only [lit_2048, Ln.eps_coe, zero_add]
  rfl

theorem pay_hat (a : Fin 512) (k : Fin 2048) : k0_pay6 (F := Ideal) d w s x (ix2 a k) = hatE (mrow d s x w a) k := by
  pointwise [k0_pay6, pay_about, pay_scale]
  rfl

end Payloads

section Arrays

variable (m : (ℓ : Loc nD τ sig) → Buf (Elt Ideal) ℓ) (c : Dev nD)

/-- The arguments. -/
def argA : S2048x8192.Idx → EReal := m ((c : Thread nD τ).loc main_arg0)
def argW : S8192x2048.Idx → EReal := m ((c : Thread nD τ).loc main_arg1)
def argX : S2048x2048.Idx → EReal := m ((c : Thread nD τ).loc main_arg2)

theorem idx : ∀ t : Fin cfg0.N, win0_0.index t = ![t.val / 4, t.val % 4] ∧ win0_1.index t = ![t.val % 4, 0]
    ∧ win0_2.index t = ![t.val / 4, 0] ∧ win0_5.index t = ![t.val / 4, 0] ∧ win0_6.index t = ![t.val / 4, 0] :=
  (by decide +kernel : ∀ t : Fin grid0.N, _)

theorem lt16 (t : Fin cfg0.N) : t.val < 16 := Nat.lt_of_lt_of_eq t.isLt N_0

/-- The row of the array that row `a` of point `t`'s blocks is, and the summand that its summand `l` is. -/
def at_ (t : Fin cfg0.N) (a : Fin 512) : Fin 2048 := ⟨t.val / 4 * 512 + a.val, by have := lt16 t; omega⟩
def of_ (t : Fin cfg0.N) (l : Fin 2048) : Fin 8192 := ⟨t.val % 4 * 2048 + l.val, by omega⟩

section Blocks

variable (t : Fin cfg0.N)

theorem blk0 : iblk m c 0 t = (fun y => argA m c (ix2 (at_ t (y 0)) (of_ t (y 1))) : S512x2048.Idx → EReal) := by
  funext y
  idx_vars y
  blk_ext [iblk, V, argA, at_, of_, idx t]

theorem blk1 : iblk m c 1 t = (fun y => argW m c (ix2 (of_ t (y 0)) (y 1)) : S2048x2048.Idx → EReal) := by
  funext y
  idx_vars y
  blk_ext [iblk, V, argW, of_, idx t]

theorem blk2 : iblk m c 2 t = (fun y => argX m c (ix2 (at_ t (y 0)) (y 1)) : S512x2048.Idx → EReal) := by
  funext y
  idx_vars y
  blk_ext [iblk, V, argX, at_, idx t]

/-- Point `t`'s part of an entry of the product. -/
def part (a : Fin 512) (b : Fin 2048) : EReal := ∑ l, argA m c (ix2 (at_ t a) (of_ t l)) * argW m c (ix2 (of_ t l) b)

theorem part_blk (a : Fin 512) (b : Fin 2048) : prod (iblk m c 0 t) (iblk m c 1 t) a b = part m c t a b := by
  rw [blk0, blk1]
  rfl

end Blocks

/-- What the points before a tile's last leave in the scratch. -/
theorem kept_first (n : ℕ) (hn : n < cfg0.N) (h : n % 4 = 0) (a : Fin 512) (b : Fin 2048) :
    ((outsAt0 m c n hn).2.2 : S512x2048.Idx → EReal) (ix2 a b) = part m c ⟨n, hn⟩ a b := by
  rw [outsAt0_A m c ⟨n, hn⟩ h (by dsimp only; omega) (by dsimp only; omega)]
  frame_out
  exact (pay_first _ _ a b).trans (part_blk m c ⟨n, hn⟩ a b)

theorem kept_next (n : ℕ) (hn : n + 1 < cfg0.N) (h : 1 ≤ (n + 1) % 4 ∧ (n + 1) % 4 ≤ 2) (a : Fin 512) (b : Fin 2048) :
    ((outsAt0 m c (n + 1) hn).2.2 : S512x2048.Idx → EReal) (ix2 a b)
      = ((outsAt0 m c n (Nat.lt_of_succ_lt hn)).2.2 : S512x2048.Idx → EReal) (ix2 a b) + part m c ⟨n + 1, hn⟩ a b := by
  rw [outsAt0_B m c ⟨n + 1, hn⟩ (by dsimp only; omega) h (by dsimp only; omega)]
  frame_out
  rw [read_unread_whole]
  exact (pay_next _ _ _ a b).trans (congrArg (_ + ·) (part_blk m c ⟨n + 1, hn⟩ a b))

/-- Before a tile's last point the scratch and that point's part are the whole product. -/
theorem whole_sum (k : ℕ) (hn : k + 3 < cfg0.N) (h : (k + 3) % 4 = 3) (a : Fin 512) (b : Fin 2048) :
    ((outsAt0 m c (k + 2) (Nat.lt_of_succ_lt hn)).2.2 : S512x2048.Idx → EReal) (ix2 a b) + part m c ⟨k + 3, hn⟩ a b
      = ∑ l : Fin 8192, argA m c (ix2 (at_ ⟨k + 3, hn⟩ a) l) * argW m c (ix2 l b) := by
  rw [kept_next m c (k + 1) (by omega) (by omega) a b, kept_next m c k (by omega) (by omega) a b, kept_first m c k (by omega) (by omega) a b,
    ← Fin.sum_mul_add_fin 4 2048 fun l => argA m c (ix2 (at_ ⟨k + 3, hn⟩ a) l) * argW m c (ix2 l b), Fin.sum_univ_four]
  have e : ∀ (j q : ℕ) (hj : k + j < cfg0.N) (hq : (k + j) % 4 = q) (hr : (k + j) / 4 = (k + 3) / 4) (hl : q < 4),
      part m c ⟨k + j, hj⟩ a b = ∑ l : Fin 2048, argA m c (ix2 (at_ ⟨k + 3, hn⟩ a) ⟨q * 2048 + l.val, by omega⟩)
        * argW m c (ix2 ⟨q * 2048 + l.val, by omega⟩ b) := by
    intro j q hj hq hr hl
    subst hq
    unfold part
    rw [show at_ ⟨k + j, hj⟩ a = at_ ⟨k + 3, hn⟩ a from Fin.ext (by show (k + j) / 4 * 512 + a.val = (k + 3) / 4 * 512 + a.val; rw [hr])]
    rfl
  exact congrArg₂ (· + ·) (congrArg₂ (· + ·) (congrArg₂ (· + ·) (e 0 0 (by omega) (by omega) (by omega) (by omega))
    (e 1 1 (by omega) (by omega) (by omega) (by omega))) (e 2 2 (by omega) (by omega) (by omega) (by omega)))
    (e 3 3 (by omega) (by omega) rfl (by omega))

theorem whole (t : Fin cfg0.N) (h : t.val % 4 = 3) (a : Fin 512) :
    mrow (iblk m c 0 t) (outsAt0 m c (t.val - 1) (Nat.lt_of_le_of_lt (Nat.sub_le _ _) t.isLt)).2.2 (iblk m c 2 t) (iblk m c 1 t) a
      = mixed (argA m c) (argW m c) (argX m c) (at_ t a) := by
  funext b
  show (alpha : EReal) * (iblk m c 2 t : S512x2048.Idx → EReal) (ix2 a b)
    + (((outsAt0 m c (t.val - 1) (Nat.lt_of_le_of_lt (Nat.sub_le _ _) t.isLt)).2.2 : S512x2048.Idx → EReal) (ix2 a b)
      + prod (iblk m c 0 t) (iblk m c 1 t) a b) = _
  rw [part_blk, blk2]
  obtain ⟨n, hn⟩ := t
  obtain ⟨k, rfl⟩ : ∃ k, n = k + 3 := ⟨n - 3, by dsimp only at h; omega⟩
  exact congrArg (fun z : EReal => (alpha : EReal) * argX m c (ix2 (at_ ⟨k + 3, hn⟩ a) b) + z) (whole_sum m c k hn h a b)

theorem arr5 : (dats m 0 c).arrAt 5 cfg0.N = outH (argA m c) (argW m c) (argX m c) := by
  refine (dats m 0 c).arrAt_eq_of_covers 5 _ (by decide +kernel) fun t hf y => ?_
  have h3 : t.val % 4 = 3 := (flush0_5 t).mp hf
  idx_vars y
  blk_simp
  rw [after0_5, outsAt0_C m c t (by omega) (by omega) h3]
  frame_out
  rw [read_unread_whole]
  refine (pay_hat _ _ _ _ y0 y1).trans ?_
  rw [whole m c t h3]
  refine Eq.trans ?_ (congrArg (outH _ _ _) (?_ : ix2 (at_ t y0) y1 = _))
  · rfl
  · blk_ext [at_, idx t]

theorem arr6 : (dats m 0 c).arrAt 6 cfg0.N = outS (argA m c) (argW m c) (argX m c) := by
  refine (dats m 0 c).arrAt_eq_of_covers 6 _ (by decide +kernel) fun t hf y => ?_
  have h3 : t.val % 4 = 3 := (flush0_6 t).mp hf
  idx_vars y
  obtain rfl : y1 = 0 := Subsingleton.elim _ _
  blk_simp
  rw [after0_6, outsAt0_C m c t (by omega) (by omega) h3]
  frame_out
  rw [read_unread_whole]
  refine (pay_scale _ _ _ _ y0).trans ?_
  rw [whole m c t h3]
  refine Eq.trans ?_ (congrArg (outS _ _ _) (?_ : ix2 (at_ t y0) 0 = _))
  · rfl
  · blk_ext [at_, idx t]

end Arrays

end Kernel

end Cert.Downf

end
-- ==== Proof.DownfRef.lean ====
/- The third layer norm's saved row and scale as the reference computes them, at the extended reals, for any arguments. -/
module

public import proofs.«01_k».proof.Proof.DownfKernel
public import proofs.«01_k».proof.Proof.Gen.RDownfIdeal.Read

@[expose] public section

set_option maxRecDepth 16384

noncomputable section

namespace Cert.Downf.Ref

open Idealize.ShloMosaic Idealize.ShloMosaic.TcCoe Idealize.SL.Sem
open Cert.RDownfIdeal Cert.RDownfIdeal.Gen Cert.RDownfIdeal.Read Cert.Lift Cert.Ln
open Cert.Lnf (aboutE scaleE hatE)

variable (A : S2048x8192.Idx → EReal) (W : S8192x2048.Idx → EReal) (X : S2048x2048.Idx → EReal)

theorem rd_mix (r k : Fin 2048) : val_main_v5 (F := Ideal) A W X (ix2 r k) = mixed A W X r k := by
  pointwise [val_main_v5, val_main_v4, val_main_v3, val_main_v2, val_main_v1, val_main_v0, val_main_cst]
  simp only [alpha_coe]
  rfl

theorem rd_about (r k : Fin 2048) : val_main_v11 (F := Ideal) A W X (ix2 r k) = aboutE (mixed A W X r) k := by
  pointwise [val_main_v11, val_main_v10, val_main_v9, val_main_v8, val_main_v7, val_main_v6, val_main_cst_0, val_main_cst_1, rd_mix]
  simp only [lit_2048, zero_add]
  rfl

theorem rd_s (r : Fin 2048) : val_main_v19 (F := Ideal) A W X (ix2 r 0) = outS A W X (ix2 r 0) := by
  pointwise [val_main_v19, val_main_v18, val_main_v17, val_main_v16, val_main_v15, val_main_v14, val_main_v13, val_main_v12,
    val_main_cst_2, val_main_cst_3, val_main_cst_4, rd_about]
  simp only [lit_2048, Ln.eps_coe, zero_add]
  rfl

theorem rd_hat (r k : Fin 2048) : val_main_v21 (F := Ideal) A W X (ix2 r k) = outH A W X (ix2 r k) := by
  pointwise [val_main_v21, val_main_v20, rd_about, rd_s]
  rfl

end Cert.Downf.Ref

end
-- ==== Proof.DownfClaim.lean ====
/- The third layer norm's forward with its product:
   computes what the reference computes: the two programs' results agree. -/
module

public import proofs.«01_k».proof.Defs
public import proofs.«01_k».proof.Proof.DownfKernel
public import proofs.«01_k».proof.Proof.DownfRef
public import Idealize.ShloMosaic.Lib.Claim

@[expose] public section

set_option maxRecDepth 16384

noncomputable section

namespace Cert.Downf

open Idealize.ShloMosaic Idealize.ShloMosaic.TcCoe Idealize.SL.Sem Cert.Lift

theorem ref_frame : Cert.quiescent_RDownfIdeal := fun m g _ =>
  (θ_run _ _ _).mono (fun r h => ⟨fun c => (h c).2.2, sem_eq_zero_of_no_sems (by decide) r.2⟩) (Cert.RDownfIdeal.Value.run m g)

theorem algebraic : Cert.algebraic_KDownfIdeal_RDownfIdeal := by
  intro m g m' g' _ hagree
  refine ⟨fun c => outH (Kernel.argA m c) (Kernel.argW m c) (Kernel.argX m c), fun c => outS (Kernel.argA m c) (Kernel.argW m c) (Kernel.argX m c), ?_, ?_⟩
  · refine (θ_run _ _ _).mono (fun r h c => ?_) (Cert.KDownfIdeal.Value.run_blocks m g)
    obtain ⟨h0, h1, ha⟩ := h c
    exact ⟨h0.trans (Kernel.arr5 m c), h1.trans (Kernel.arr6 m c), ha⟩
  · refine (θ_run _ _ _).mono (fun r h c => ?_) (Cert.RDownfIdeal.Value.run m' g')
    obtain ⟨h0, h1, ha⟩ := h c
    obtain ⟨e0, e1, e2, e3, e4⟩ := hagree c
    refine ⟨h0.trans ?_, h1.trans ?_, ha⟩
    · refine (Cert.RDownfIdeal.Read.val_main_v21_eq _ _ _).trans ?_
      rw [e0, e1, e2]
      funext i
      idx_vars i
      exact Ref.rd_hat (Kernel.argA m c) (Kernel.argW m c) (Kernel.argX m c) i0 i1
    · refine (Cert.RDownfIdeal.Read.val_main_v19_eq _ _ _).trans ?_
      rw [e0, e1, e2]
      funext i
      idx_vars i
      obtain rfl : i1 = 0 := Subsingleton.elim _ _
      exact Ref.rd_s (Kernel.argA m c) (Kernel.argW m c) (Kernel.argX m c) i0

end Cert.Downf

end
-- ==== Proof.ProjdxKernel.lean ====
/- The step's input gradient's kernel, a product with the packed projections' gradients and the scaled residual's gradient, at the
   extended reals: its result array, for any arguments. -/
module

public import proofs.«01_k».proof.Proof.LnSpec
public import proofs.«01_k».proof.Proof.Gen.KProjdxIdeal.Value
public import Idealize.ShloMosaic.Lib.Pipeline.ValueKit
public import Idealize.ShloMosaic.Lib.StableHlo.ReadAt

@[expose] public section

set_option maxRecDepth 16384

noncomputable section

namespace Cert.Projdx

open Idealize.ShloMosaic Cert.Lift Cert.Ln

section Out

variable (Q : (⟨2, ![2048, 3072]⟩ : Shape).Idx → EReal) (Z P : (⟨2, ![2048, 1024]⟩ : Shape).Idx → EReal)
variable (B : (⟨2, ![2048, 128]⟩ : Shape).Idx → EReal) (W : (⟨2, ![5136, 2048]⟩ : Shape).Idx → EReal)
variable (U : (⟨2, ![2048, 2048]⟩ : Shape).Idx → EReal)

/-- A row of the projections' gradients beside each other, and what the result array holds. -/
def side (r : Fin 2048) (l : ℕ) : EReal :=
  if h : l < 3072 then Q (ix2 r ⟨l, h⟩) else if h : l < 4096 then Z (ix2 r ⟨l - 3072, by omega⟩)
    else if h : l < 4112 then B (ix2 r ⟨l - 4096, by omega⟩) else if h : l < 5136 then P (ix2 r ⟨l - 4112, by omega⟩) else 0
def outX : (⟨2, ![2048, 2048]⟩ : Shape).Idx → EReal := fun i =>
  (∑ l : Fin 5136, side Q Z P B (i 0) l.val * W (ix2 l (i 1))) + (alpha : EReal) * U i

/-- The packed products: the columns behind the weights are nought. -/
def padW (l : Fin 5376) (k : Fin 2048) : EReal := if h : l.val < 5136 then W (ix2 ⟨l.val, h⟩ k) else 0

theorem sum_pad (r k : Fin 2048) : ∑ l : Fin 5376, side Q Z P B r l.val * padW W l k
    = ∑ l : Fin 5136, side Q Z P B r l.val * W (ix2 l k) := by
  refine (Fin.sum_univ_add (a := 5136) (b := 240) fun l => side Q Z P B r l.val * padW W l k).trans ?_
  rw [Finset.sum_eq_zero (s := Finset.univ) (f := fun i : Fin 240 => _) fun i _ => ?_, add_zero]
  · refine Finset.sum_congr rfl fun l _ => congrArg (_ * ·) ?_
    exact dif_pos l.isLt
  · refine (congrArg (_ * ·) (dif_neg ?_)).trans (mul_zero _)
    show ¬ 5136 + i.val < 5136
    omega

end Out

namespace Kernel

open Idealize.ShloMosaic.TcCoe Idealize.SL.Sem
open Idealize.ShloMosaic.Pipeline (Dat)
open Cert.KProjdxIdeal Cert.KProjdxIdeal.Gen

theorem pay (d : S512x5376.Idx → EReal) (w : S5376x1024.Idx → EReal) (u : S512x1024.Idx → EReal) (a : Fin 512) (k : Fin 1024) :
    k0_pay1 (F := Ideal) d w u (ix2 a k) = (∑ l, d (ix2 a l) * w (ix2 l k)) + (alpha : EReal) * u (ix2 a k) := by
  pointwise [k0_pay1]
  simp only [alpha_coe]

section Arrays

variable (m : (ℓ : Loc nD τ sig) → Buf (Elt Ideal) ℓ) (c : Dev nD)

/-- The arguments: the gradients of the four projections, the weights and the residual's gradient. -/
def argQ : S2048x3072.Idx → EReal := m ((c : Thread nD τ).loc main_arg0)
def argZ : S2048x1024.Idx → EReal := m ((c : Thread nD τ).loc main_arg1)
def argB : S2048x128.Idx → EReal := m ((c : Thread nD τ).loc main_arg2)
def argP : S2048x1024.Idx → EReal := m ((c : Thread nD τ).loc main_arg3)
def argW : S5136x2048.Idx → EReal := m ((c : Thread nD τ).loc main_arg4)
def argU : S2048x2048.Idx → EReal := m ((c : Thread nD τ).loc main_arg5)

theorem host_d (r : Fin 2048) (l : Fin 5376) :
    (V m c main_v2 : S2048x5376.Idx → EReal) (ix2 r l) = side (argQ m c) (argZ m c) (argP m c) (argB m c) r l.val := by
  unfold V; after_reads_at
  unfold side
  by_cases h1 : l.val < 3072
  · rw [dif_pos h1, dif_pos h1]; rfl
  rw [dif_neg h1, dif_neg h1]
  by_cases h2 : l.val < 4096
  · rw [dif_pos h2, dif_pos (by omega)]; rfl
  rw [dif_neg h2, dif_neg (by omega)]
  by_cases h3 : l.val < 4112
  · rw [dif_pos h3, dif_pos (by omega)]
    refine Eq.trans (b := argB m c (ix2 r ⟨l.val - 3072 - 1024, by omega⟩)) ?_
      (congrArg (fun k => argB m c (ix2 r k)) (Fin.ext (by show l.val - 3072 - 1024 = l.val - 4096; omega)))
    show extractStridedSlice S2048x16 ![0, 0] (argB m c) slices_S2048x128_S2048x16_0_0 (ix2 r ⟨l.val - 3072 - 1024, by omega⟩) = _
    pointwise []
  rw [dif_neg h3, dif_neg (by omega)]
  by_cases h4 : l.val < 5136
  · rw [dif_pos h4, dif_pos (by omega)]
    exact congrArg (fun k => argP m c (ix2 r k)) (Fin.ext (by show l.val - 3072 - 1024 - 16 = l.val - 4112; omega))
  rw [dif_neg h4, dif_neg (by omega)]
  exact Ideal.ofBits_zero_bf16

theorem host_w (l : Fin 5376) (k : Fin 2048) : (V m c main_v4 : S5376x2048.Idx → EReal) (ix2 l k) = padW (argW m c) l k := by
  unfold V; after_reads_at
  rfl

theorem idx : ∀ t : Fin cfg0.N, win0_0.index t = ![t.val / 2, 0] ∧ win0_1.index t = ![0, t.val % 2]
    ∧ win0_2.index t = ![t.val / 2, t.val % 2] ∧ win0_3.index t = ![t.val / 2, t.val % 2] :=
  (by decide +kernel : ∀ t : Fin grid0.N, _)

theorem lt8 (t : Fin cfg0.N) : t.val < 8 := Nat.lt_of_lt_of_eq t.isLt N_0

section Point

variable (t : Fin cfg0.N)

/-- The row and the column of the arrays that a point's blocks start at. -/
def rowOf (a : Fin 512) : Fin 2048 := ⟨t.val / 2 * 512 + a.val, by have := lt8 t; omega⟩
def colOf (b : Fin 1024) : Fin 2048 := ⟨t.val % 2 * 1024 + b.val, by omega⟩

theorem blk0 : iblk m c 0 t
    = (fun y => side (argQ m c) (argZ m c) (argP m c) (argB m c) (rowOf t (y 0)) (y 1).val : S512x5376.Idx → EReal) := by
  funext y
  idx_vars y
  refine Eq.trans ?_ (host_d m c (rowOf t y0) y1)
  blk_ext [iblk, rowOf, idx t]

theorem blk1 : iblk m c 1 t = (fun y => padW (argW m c) (y 0) (colOf t (y 1)) : S5376x1024.Idx → EReal) := by
  funext y
  idx_vars y
  refine Eq.trans ?_ (host_w m c y0 (colOf t y1))
  blk_ext [iblk, colOf, idx t]

theorem blk2 : iblk m c 2 t = (fun y => argU m c (ix2 (rowOf t (y 0)) (colOf t (y 1))) : S512x1024.Idx → EReal) := by
  funext y
  idx_vars y
  refine Eq.trans ?_ (congrFun (V_main_arg5 m c) (ix2 (rowOf t y0) (colOf t y1)))
  blk_ext [iblk, rowOf, colOf, idx t]

end Point

theorem arr3 : (dats m 0 c).arrAt 3 cfg0.N = outX (argQ m c) (argZ m c) (argP m c) (argB m c) (argW m c) (argU m c) := by
  refine (dats m 0 c).arrAt_eq_of_covers 3 _ (by decide +kernel) fun t hf y => ?_
  idx_vars y
  blk_simp
  rw [after0_3]
  unfold out0_3
  frame_out
  rw [blk0, blk1, blk2]
  refine (pay _ _ _ y0 y1).trans ?_
  refine Eq.trans ?_ (congrArg (outX _ _ _ _ _ _) (?_ : ix2 (rowOf t y0) (colOf t y1) = _))
  · exact congrArg (· + _) (sum_pad _ _ _ _ _ (rowOf t y0) (colOf t y1))
  · blk_ext [rowOf, colOf, idx t]

end Arrays

end Kernel

end Cert.Projdx

end
-- ==== Proof.ProjdxRef.lean ====
/- The step's input gradient as the reference computes it, at the extended reals, for any arguments. -/
module

public import proofs.«01_k».proof.Proof.ProjdxKernel
public import proofs.«01_k».proof.Proof.Gen.RProjdxIdeal.Read

@[expose] public section

set_option maxRecDepth 16384

noncomputable section

namespace Cert.Projdx.Ref

open Idealize.ShloMosaic Idealize.ShloMosaic.TcCoe Idealize.SL.Sem
open Cert.RProjdxIdeal Cert.RProjdxIdeal.Gen Cert.RProjdxIdeal.Read Cert.Lift Cert.Ln

variable (Q : S2048x3072.Idx → EReal) (Z P : S2048x1024.Idx → EReal) (B : S2048x128.Idx → EReal)
variable (W : S5136x2048.Idx → EReal) (U : S2048x2048.Idx → EReal)

theorem rd_side (r : Fin 2048) (l : Fin 5136) : val_main_v23 (F := Ideal) Q Z B P (ix2 r l) = side Q Z P B r l.val := by
  pointwise [val_main_v23, val_main_v22, val_main_v21, val_main_v20, val_main_v19, val_main_v18, val_main_v17, val_main_v14, val_main_v13,
    val_main_v12, val_main_v11, val_main_v10, val_main_cst_2, val_main_cst_3, val_main_cst_4, val_main_cst_5]
  have := l.isLt
  unfold side
  by_cases h1 : l.val < 3072
  · rw [dif_neg (by omega), dif_neg (by omega), dif_neg (by omega), dif_pos h1, dif_pos h1, zero_add, zero_add, zero_add]
  rw [dif_neg h1, dif_neg h1, add_zero]
  by_cases h2 : l.val < 4096
  · rw [dif_neg (by omega), dif_neg (by omega), dif_pos (by omega), dif_pos h2, zero_add, zero_add]
  rw [dif_neg (show ¬(3072 ≤ l.val ∧ l.val - 3072 < 1024) by omega), dif_neg h2, add_zero]
  by_cases h3 : l.val < 4112
  · rw [dif_neg (by omega), dif_pos (by omega), dif_pos h3, zero_add]
  · rw [dif_pos (by omega), dif_neg (by omega), dif_neg h3, dif_pos (by omega), add_zero]

theorem rd_grad (r k : Fin 2048) : val_main_v25 (F := Ideal) Q Z B P W U (ix2 r k) = outX Q Z P B W U (ix2 r k) := by
  pointwise [val_main_v25, val_main_v24, val_main_v16, val_main_v15, val_main_cst_1, val_main_v2, val_main_v1, rd_side]
  simp only [alpha_coe]
  exact add_comm _ _

end Cert.Projdx.Ref

end
-- ==== Proof.ProjdxClaim.lean ====
/- The step's input gradient:
   computes what the reference computes: the two programs' results agree. -/
module

public import proofs.«01_k».proof.Defs
public import proofs.«01_k».proof.Proof.ProjdxKernel
public import proofs.«01_k».proof.Proof.ProjdxRef
public import Idealize.ShloMosaic.Lib.Claim

@[expose] public section

set_option maxRecDepth 16384

noncomputable section

namespace Cert.Projdx

open Idealize.ShloMosaic Idealize.ShloMosaic.TcCoe Idealize.SL.Sem Cert.Lift

theorem ref_frame : Cert.quiescent_RProjdxIdeal := fun m g _ =>
  (θ_run _ _ _).mono (fun r h => ⟨fun c => (h c).2, sem_eq_zero_of_no_sems (by decide) r.2⟩) (Cert.RProjdxIdeal.Value.run m g)

theorem algebraic : Cert.algebraic_KProjdxIdeal_RProjdxIdeal := by
  intro m g m' g' _ hagree
  refine ⟨fun c => outX (Kernel.argQ m c) (Kernel.argZ m c) (Kernel.argP m c) (Kernel.argB m c) (Kernel.argW m c)
    (Kernel.argU m c), ?_, ?_⟩
  · refine (θ_run _ _ _).mono (fun r h c => ?_) (Cert.KProjdxIdeal.Value.run_blocks m g)
    obtain ⟨h0, ha⟩ := h c
    exact ⟨h0.trans (Kernel.arr3 m c), ha⟩
  · refine (θ_run _ _ _).mono (fun r h c => ?_) (Cert.RProjdxIdeal.Value.run m' g')
    obtain ⟨h0, ha⟩ := h c
    obtain ⟨e0, e1, e2, e3, e4, e5⟩ := hagree c
    refine ⟨h0.trans ?_, ha⟩
    · refine (Cert.RProjdxIdeal.Read.val_main_v25_eq _ _ _ _ _ _).trans ?_
      rw [e0, e1, e2, e3, e4, e5]
      funext i
      idx_vars i
      exact Ref.rd_grad (Kernel.argQ m c) (Kernel.argZ m c) (Kernel.argP m c) (Kernel.argB m c) (Kernel.argW m c)
        (Kernel.argU m c) i0 i1

end Cert.Projdx

end
-- ==== Proof.DowndwKernel.lean ====
/- The down projection's weight gradient's kernel, at the extended reals: its result array, for any arguments. -/
module

public import proofs.«01_k».proof.Proof.LnSpec
public import proofs.«01_k».proof.Proof.Gen.KDowndwIdeal.Value
public import Idealize.ShloMosaic.Lib.Pipeline.ValueKit

@[expose] public section

set_option maxRecDepth 16384

noncomputable section

namespace Cert.Downdw

open Idealize.ShloMosaic Cert.Lift

/-- What the result array holds: the sum over the rows. -/
def outW (A : (⟨2, ![2048, 8192]⟩ : Shape).Idx → EReal) (D : (⟨2, ![2048, 2048]⟩ : Shape).Idx → EReal) :
    (⟨2, ![8192, 2048]⟩ : Shape).Idx → EReal := fun i => ∑ r, A (ix2 r (i 0)) * D (ix2 r (i 1))

namespace Kernel

open Idealize.ShloMosaic.TcCoe Idealize.SL.Sem
open Idealize.ShloMosaic.Pipeline (Dat)
open Cert.KDowndwIdeal Cert.KDowndwIdeal.Gen

theorem pay (a : S2048x512.Idx → EReal) (d : S2048x2048.Idx → EReal) (j : Fin 512) (k : Fin 2048) :
    k0_pay1 (F := Ideal) a d (ix2 j k) = ∑ r, a (ix2 r j) * d (ix2 r k) := by
  pointwise [k0_pay1]

variable (m : (ℓ : Loc nD τ sig) → Buf (Elt Ideal) ℓ) (c : Dev nD)

/-- The arguments. -/
def argA : S2048x8192.Idx → EReal := m ((c : Thread nD τ).loc main_arg0)
def argD : S2048x2048.Idx → EReal := m ((c : Thread nD τ).loc main_arg1)

theorem idx : ∀ t : Fin cfg0.N, win0_0.index t = ![0, t.val] ∧ win0_1.index t = ![0, 0] ∧ win0_2.index t = ![t.val, 0] :=
  (by decide +kernel : ∀ t : Fin grid0.N, _)

theorem lt16 (t : Fin cfg0.N) : t.val < 16 := Nat.lt_of_lt_of_eq t.isLt N_0

/-- The row of the result that row `j` of point `t`'s block is. -/
def at_ (t : Fin cfg0.N) (j : Fin 512) : Fin 8192 := ⟨t.val * 512 + j.val, by have := lt16 t; omega⟩

theorem blk0 (t : Fin cfg0.N) : iblk m c 0 t = (fun y => argA m c (ix2 (y 0) (at_ t (y 1))) : S2048x512.Idx → EReal) := by
  funext y
  idx_vars y
  blk_ext [iblk, V, argA, at_, idx t]

theorem blk1 (t : Fin cfg0.N) : iblk m c 1 t = (argD m c : S2048x2048.Idx → EReal) := by
  funext y
  idx_vars y
  blk_ext [iblk, V, argD, idx t]

theorem arr2 : (dats m 0 c).arrAt 2 cfg0.N = outW (argA m c) (argD m c) := by
  refine (dats m 0 c).arrAt_eq_of_covers 2 _ (by decide +kernel) fun t hf y => ?_
  idx_vars y
  blk_simp
  rw [after0_2]
  unfold out0_2
  frame_out
  rw [blk0, blk1]
  refine (pay _ _ y0 y1).trans ?_
  refine Eq.trans ?_ (congrArg (outW _ _) (?_ : ix2 (at_ t y0) y1 = _))
  · rfl
  · blk_ext [at_, idx t]

end Kernel

end Cert.Downdw

end
-- ==== Proof.DowndwRef.lean ====
/- The down projection's weight gradient as the reference computes it, at the extended reals, for any arguments. -/
module

public import proofs.«01_k».proof.Proof.DowndwKernel
public import proofs.«01_k».proof.Proof.Gen.RDowndwIdeal.Read

@[expose] public section

set_option maxRecDepth 16384

noncomputable section

namespace Cert.Downdw.Ref

open Idealize.ShloMosaic Idealize.ShloMosaic.TcCoe Idealize.SL.Sem
open Cert.RDowndwIdeal Cert.RDowndwIdeal.Gen Cert.RDowndwIdeal.Read Cert.Lift

theorem rd_grad (A : S2048x8192.Idx → EReal) (D : S2048x2048.Idx → EReal) (j : Fin 8192) (k : Fin 2048) :
    val_main_v5 (F := Ideal) A D (ix2 j k) = outW A D (ix2 j k) := by
  pointwise [val_main_v5, val_main_v4, val_main_v1, val_main_v0]
  exact Finset.sum_congr rfl fun r _ => mul_comm _ _

end Cert.Downdw.Ref

end
-- ==== Proof.DowndwClaim.lean ====
/- A plain product, the largest weight's gradient:
   computes what the reference computes: the two programs' results agree. -/
module

public import proofs.«01_k».proof.Defs
public import proofs.«01_k».proof.Proof.DowndwKernel
public import proofs.«01_k».proof.Proof.DowndwRef
public import Idealize.ShloMosaic.Lib.Claim

@[expose] public section

set_option maxRecDepth 16384

noncomputable section

namespace Cert.Downdw

open Idealize.ShloMosaic Idealize.ShloMosaic.TcCoe Idealize.SL.Sem Cert.Lift

theorem ref_frame : Cert.quiescent_RDowndwIdeal := fun m g _ =>
  (θ_run _ _ _).mono (fun r h => ⟨fun c => (h c).2, sem_eq_zero_of_no_sems (by decide) r.2⟩) (Cert.RDowndwIdeal.Value.run m g)

theorem algebraic : Cert.algebraic_KDowndwIdeal_RDowndwIdeal := by
  intro m g m' g' _ hagree
  refine ⟨fun c => outW (Kernel.argA m c) (Kernel.argD m c), ?_, ?_⟩
  · refine (θ_run _ _ _).mono (fun r h c => ?_) (Cert.KDowndwIdeal.Value.run_blocks m g)
    obtain ⟨h0, ha⟩ := h c
    exact ⟨h0.trans (Kernel.arr2 m c), ha⟩
  · refine (θ_run _ _ _).mono (fun r h c => ?_) (Cert.RDowndwIdeal.Value.run m' g')
    obtain ⟨h0, ha⟩ := h c
    obtain ⟨e0, e1⟩ := hagree c
    refine ⟨h0.trans ?_, ha⟩
    · refine (Cert.RDowndwIdeal.Read.val_main_v5_eq _ _).trans ?_
      rw [e0, e1]
      funext i
      idx_vars i
      exact Ref.rd_grad (Kernel.argA m c) (Kernel.argD m c) i0 i1

end Cert.Downdw

end
-- ==== Proof.AdamKernel.lean ====
/- The optimiser's kernel, at the extended reals: its four result arrays, for any arguments. -/
module

public import proofs.«01_k».proof.Proof.LnSpec
public import proofs.«01_k».proof.Proof.Gen.KAdamIdeal.Value
public import Idealize.ShloMosaic.Lib.Pipeline.ValueKit

@[expose] public section

set_option maxRecDepth 16384

noncomputable section

namespace Cert.Adam

open Idealize.ShloMosaic Cert.Lift

/-- The new moments and the step, of one weight; a literal is the rational that its float word is. -/
def newM (g v : EReal) : EReal := Ideal.ofBits .f32 0x3F666666#32 * v + Ideal.ofBits .f32 0x3DCCCCCD#32 * g
def newV (g v : EReal) : EReal := Ideal.ofBits .f32 0x3F7FBE77#32 * v + Ideal.ofBits .f32 0x3A83126F#32 * (g * g)
def step (w g p q : EReal) : EReal :=
  Ideal.ofBits .f32 0xBA83126F#32 * (Ideal.div (Ideal.div (newM g p) (Ideal.ofBits .f32 0x3F26BD02#32))
    (Ideal.sqrt (Ideal.div (newV g q) (Ideal.ofBits .f32 0x3C231ACC#32)) + Ideal.ofBits .f32 0x322BCC77#32)
    + Ideal.ofBits .f32 0x3C23D70A#32 * w)

section Out

variable (W G P Q : (⟨2, ![2048, 2048]⟩ : Shape).Idx → EReal)

/-- What the result arrays hold. -/
def outD : (⟨2, ![2048, 2048]⟩ : Shape).Idx → EReal := fun i => step (W i) (G i) (P i) (Q i)
def outM : (⟨2, ![2048, 2048]⟩ : Shape).Idx → EReal := fun i => newM (G i) (P i)
def outV : (⟨2, ![2048, 2048]⟩ : Shape).Idx → EReal := fun i => newV (G i) (Q i)

end Out

namespace Kernel

open Idealize.ShloMosaic.TcCoe Idealize.SL.Sem
open Idealize.ShloMosaic.Pipeline (Dat)
open Cert.KAdamIdeal Cert.KAdamIdeal.Gen

section Payloads

variable (w g p q : S256x2048.Idx → EReal) (a : Fin 256) (k : Fin 2048)

theorem pay_m : k0_pay1 (F := Ideal) g p (ix2 a k) = newM (g (ix2 a k)) (p (ix2 a k)) := by
  pointwise [k0_pay1]
  rfl

theorem pay_v : k0_pay2 (F := Ideal) g q (ix2 a k) = newV (g (ix2 a k)) (q (ix2 a k)) := by
  pointwise [k0_pay2]
  rfl

theorem pay_d : k0_pay3 (F := Ideal) g p q w (ix2 a k) = step (w (ix2 a k)) (g (ix2 a k)) (p (ix2 a k)) (q (ix2 a k)) := by
  pointwise [k0_pay3, pay_m, pay_v]
  rfl

end Payloads

section Arrays

variable (m : (ℓ : Loc nD τ sig) → Buf (Elt Ideal) ℓ) (c : Dev nD)

/-- The arguments: the weight, its gradient and its moments. -/
def argW : S2048x2048.Idx → EReal := m ((c : Thread nD τ).loc main_arg0)
def argG : S2048x2048.Idx → EReal := m ((c : Thread nD τ).loc main_arg1)
def argM : S2048x2048.Idx → EReal := m ((c : Thread nD τ).loc main_arg2)
def argV : S2048x2048.Idx → EReal := m ((c : Thread nD τ).loc main_arg3)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

theorem lt8 (t : Fin cfg0.N) : t.val < 8 := Nat.lt_of_lt_of_eq t.isLt N_0

/-- The row of the arrays that row `a` of point `t`'s blocks is. -/
def at_ (t : Fin cfg0.N) (a : Fin 256) : Fin 2048 := ⟨t.val * 256 + a.val, by have := lt8 t; omega⟩

section Blocks

variable (t : Fin cfg0.N)

theorem blk0 : iblk m c 0 t = (fun y => argW m c (ix2 (at_ t (y 0)) (y 1)) : S256x2048.Idx → EReal) := by
  funext y
  idx_vars y
  blk_ext [iblk, V, argW, at_, idx t]

theorem blk1 : iblk m c 1 t = (fun y => argG m c (ix2 (at_ t (y 0)) (y 1)) : S256x2048.Idx → EReal) := by
  funext y
  idx_vars y
  blk_ext [iblk, V, argG, at_, idx t]

theorem blk2 : iblk m c 2 t = (fun y => argM m c (ix2 (at_ t (y 0)) (y 1)) : S256x2048.Idx → EReal) := by
  funext y
  idx_vars y
  blk_ext [iblk, V, argM, at_, idx t]

theorem blk3 : iblk m c 3 t = (fun y => argV m c (ix2 (at_ t (y 0)) (y 1)) : S256x2048.Idx → EReal) := by
  funext y
  idx_vars y
  blk_ext [iblk, V, argV, at_, idx t]

end Blocks

theorem arr4 : (dats m 0 c).arrAt 4 cfg0.N = outD (argW m c) (argG m c) (argM m c) (argV m c) := by
  refine (dats m 0 c).arrAt_eq_of_covers 4 _ (by decide +kernel) fun t hf y => ?_
  idx_vars y
  blk_simp
  rw [after0_4]
  unfold out0_4
  frame_out
  rw [blk0, blk1, blk2, blk3]
  refine (pay_d _ _ _ _ y0 y1).trans ?_
  refine Eq.trans ?_ (congrArg (outD _ _ _ _) (?_ : ix2 (at_ t y0) y1 = _))
  · rfl
  · blk_ext [at_, idx t]

theorem arr5 : (dats m 0 c).arrAt 5 cfg0.N = outM (argG m c) (argM m c) := by
  refine (dats m 0 c).arrAt_eq_of_covers 5 _ (by decide +kernel) fun t hf y => ?_
  idx_vars y
  blk_simp
  rw [after0_5]
  unfold out0_5
  frame_out
  rw [blk1, blk2]
  refine (pay_m _ _ y0 y1).trans ?_
  refine Eq.trans ?_ (congrArg (outM _ _) (?_ : ix2 (at_ t y0) y1 = _))
  · rfl
  · blk_ext [at_, idx t]

theorem arr6 : (dats m 0 c).arrAt 6 cfg0.N = outV (argG m c) (argV m c) := by
  refine (dats m 0 c).arrAt_eq_of_covers 6 _ (by decide +kernel) fun t hf y => ?_
  idx_vars y
  blk_simp
  rw [after0_6]
  unfold out0_6
  frame_out
  rw [blk1, blk3]
  refine (pay_v _ _ y0 y1).trans ?_
  refine Eq.trans ?_ (congrArg (outV _ _) (?_ : ix2 (at_ t y0) y1 = _))
  · rfl
  · blk_ext [at_, idx t]

theorem arr7 : (dats m 0 c).arrAt 7 cfg0.N = argG m c := by
  refine (dats m 0 c).arrAt_eq_of_covers 7 _ (by decide +kernel) fun t hf y => ?_
  idx_vars y
  blk_simp
  rw [after0_7]
  unfold out0_7
  frame_out
  rw [blk1]
  refine Eq.trans ?_ (congrArg (argG m c) (?_ : ix2 (at_ t y0) y1 = _))
  · rfl
  · blk_ext [at_, idx t]

end Arrays

end Kernel

end Cert.Adam

end
-- ==== Proof.AdamRef.lean ====
/- The optimiser's step as the reference computes it, at the extended reals, for any arguments. -/
module

public import proofs.«01_k».proof.Proof.AdamKernel
public import proofs.«01_k».proof.Proof.Gen.RAdamIdeal.Read

@[expose] public section

set_option maxRecDepth 16384

noncomputable section

namespace Cert.Adam.Ref

open Idealize.ShloMosaic Idealize.ShloMosaic.TcCoe Idealize.SL.Sem
open Cert.RAdamIdeal Cert.RAdamIdeal.Gen Cert.RAdamIdeal.Read Cert.Lift

variable (W G P Q : S2048x2048.Idx → EReal) (r k : Fin 2048)

theorem rd_m : val_main_v4 (F := Ideal) G P (ix2 r k) = outM G P (ix2 r k) := by
  pointwise [val_main_v4, val_main_v3, val_main_v2, val_main_v1, val_main_v0, val_main_cst, val_main_cst_0]
  rfl

theorem rd_v : val_main_v10 (F := Ideal) G Q (ix2 r k) = outV G Q (ix2 r k) := by
  pointwise [val_main_v10, val_main_v9, val_main_v8, val_main_v7, val_main_v6, val_main_v5, val_main_cst_1, val_main_cst_2]
  rfl

theorem rd_d : val_main_v23 (F := Ideal) W G P Q (ix2 r k) = outD W G P Q (ix2 r k) := by
  pointwise [val_main_v23, val_main_v22, val_main_v21, val_main_v20, val_main_v19, val_main_v18, val_main_v17, val_main_v16, val_main_v15,
    val_main_v14, val_main_v13, val_main_v12, val_main_v11, val_main_cst_3, val_main_cst_4, val_main_cst_5, val_main_cst_6, val_main_cst_7,
    rd_m, rd_v]
  rfl

end Cert.Adam.Ref

end
-- ==== Proof.AdamClaim.lean ====
/- The optimiser's step:
   computes what the reference computes: the two programs' results agree. -/
module

public import proofs.«01_k».proof.Defs
public import proofs.«01_k».proof.Proof.AdamKernel
public import proofs.«01_k».proof.Proof.AdamRef
public import Idealize.ShloMosaic.Lib.Claim

@[expose] public section

set_option maxRecDepth 16384

noncomputable section

namespace Cert.Adam

open Idealize.ShloMosaic Idealize.ShloMosaic.TcCoe Idealize.SL.Sem Cert.Lift

theorem ref_frame : Cert.quiescent_RAdamIdeal := fun m g _ =>
  (θ_run _ _ _).mono (fun r h => ⟨fun c => (h c).2.2.2.2, sem_eq_zero_of_no_sems (by decide) r.2⟩) (Cert.RAdamIdeal.Value.run m g)

theorem algebraic : Cert.algebraic_KAdamIdeal_RAdamIdeal := by
  intro m g m' g' _ hagree
  refine ⟨fun c => outD (Kernel.argW m c) (Kernel.argG m c) (Kernel.argM m c) (Kernel.argV m c),
    fun c => outM (Kernel.argG m c) (Kernel.argM m c), fun c => outV (Kernel.argG m c) (Kernel.argV m c), fun c => Kernel.argG m c, ?_, ?_⟩
  · refine (θ_run _ _ _).mono (fun r h c => ?_) (Cert.KAdamIdeal.Value.run_blocks m g)
    obtain ⟨h0, h1, h2, h3, ha⟩ := h c
    exact ⟨h0.trans (Kernel.arr4 m c), h1.trans (Kernel.arr5 m c), h2.trans (Kernel.arr6 m c), h3.trans (Kernel.arr7 m c), ha⟩
  · refine (θ_run _ _ _).mono (fun r h c => ?_) (Cert.RAdamIdeal.Value.run m' g')
    obtain ⟨h0, h1, h2, h3, ha⟩ := h c
    obtain ⟨e0, e1, e2, e3⟩ := hagree c
    refine ⟨h0.trans ?_, h1.trans ?_, h2.trans ?_, h3.trans e1, ha⟩
    · refine (Cert.RAdamIdeal.Read.val_main_v23_eq _ _ _ _).trans ?_
      rw [e0, e1, e2, e3]
      funext i
      idx_vars i
      exact Ref.rd_d (Kernel.argW m c) (Kernel.argG m c) (Kernel.argM m c) (Kernel.argV m c) i0 i1
    · refine (Cert.RAdamIdeal.Read.val_main_v4_eq _ _).trans ?_
      rw [e1, e2]
      funext i
      idx_vars i
      exact Ref.rd_m (Kernel.argG m c) (Kernel.argM m c) i0 i1
    · refine (Cert.RAdamIdeal.Read.val_main_v10_eq _ _).trans ?_
      rw [e1, e3]
      funext i
      idx_vars i
      exact Ref.rd_v (Kernel.argG m c) (Kernel.argV m c) i0 i1

end Cert.Adam

end
-- ==== Proof.ChippartKernel.lean ====
/- The sum of the two cores' halves of a gradient, at the extended reals: the kernel's side condition and its result array,
   for a core's number that is zero or one. -/
module

public import proofs.«01_k».proof.Defs
public import proofs.«01_k».proof.Proof.LnSpec
public import proofs.«01_k».proof.Proof.Gen.KChippart.Frame
public import proofs.«01_k».proof.Proof.Gen.KChippartIdeal.Frame
public import proofs.«01_k».proof.Proof.Gen.Pre_core_below_two
public import Idealize.ShloMosaic.Lib.StableHlo.Predicate
public import Idealize.ShloMosaic.Lib.Pipeline.ValueKit

@[expose] public section

set_option maxRecDepth 16384

noncomputable section

namespace Cert.Chippart

open Idealize.ShloMosaic Cert.Lift

/-- The precondition's comparisons, of one word. -/
theorem word_cases {w : BitVec 32} (h : IntOp.cmpi .sge w 0#32 &&& IntOp.cmpi .sle w 1#32 = 1#1) : w = 0#32 ∨ w = 1#32 := by
  change BitVec.ofBool ((0#32).sle w) &&& BitVec.ofBool (w.sle 1#32) = 1#1 at h
  rw [BitVec.ofBool_and_ofBool, StableHlo.Predicate.ofBool_eq_one_iff, Bool.and_eq_true] at h
  obtain ⟨h0, h1⟩ := h
  have a : (0#32).toInt ≤ w.toInt := by simpa [BitVec.sle] using h0
  have b : w.toInt ≤ (1#32).toInt := by simpa [BitVec.sle] using h1
  have e0 : (0#32 : BitVec 32).toInt = 0 := by decide
  have e1 : (1#32 : BitVec 32).toInt = 1 := by decide
  rcases (show w.toInt = 0 ∨ w.toInt = 1 by omega) with e | e
  · exact Or.inl (BitVec.eq_of_toInt_eq (e.trans e0.symm))
  · exact Or.inr (BitVec.eq_of_toInt_eq (e.trans e1.symm))

section Out

variable (G : (⟨3, ![4, 2048, 2048]⟩ : Shape).Idx → EReal) (O : (⟨3, ![4, 1024, 2048]⟩ : Shape).Idx → EReal) (w : BitVec 32)

/-- The row of the gradient that row `r` of core `w`'s half is. -/
def row (r : Fin 1024) : Fin 2048 := ⟨(if w = 0#32 then 0 else 1024) + r.val, by split <;> omega⟩

theorem row_zero (r : Fin 1024) : (row 0#32 r).val = r.val := Nat.zero_add _
theorem row_one (r : Fin 1024) : (row 1#32 r).val = 1024 + r.val := rfl

instance : Subsingleton (⟨1, ![1]⟩ : Shape).Idx :=
  ⟨fun x y => funext fun a => by obtain rfl : a = 0 := Subsingleton.elim (α := Fin 1) _ _; exact Subsingleton.elim (α := Fin 1) _ _⟩

/-- What the result array holds: this core's half of the gradient plus the half the other core sent. -/
def out : (⟨3, ![4, 1024, 2048]⟩ : Shape).Idx → EReal := fun i => G (ix3 (i 0) (row w (i 1)) (i 2)) + O i

end Out

end Cert.Chippart

namespace Cert.KChippart.Side

open Idealize.ShloMosaic Idealize.ShloMosaic.TcCoe Idealize.SL.Sem Cert.KChippart Cert.KChippart.Gen

variable {F : FTy → Type} [FloatOps F]

/-- The one table's contents, holding the word `w`. -/
def pfOf (w : BitVec 32) : pre0.Contents (Elt F) := fun | ⟨0, _⟩ => fun _ => w | ⟨_ + 1, h⟩ => absurd h (by simp)

theorem tbl_eq (m : (ℓ : Loc nD τ sig) → Buf (Elt F) ℓ) : tbl m = pfOf (m (((0 : Dev nD) : Thread nD τ).loc main_arg2) (ix1 0)) := by
  funext j x
  match j with
  | ⟨0, _⟩ => exact congrArg (m (((0 : Dev nD) : Thread nD τ).loc main_arg2)) (Subsingleton.elim (α := S1.Idx) x (ix1 0))

theorem ok_zero : ok0 (F := Bits) (pfOf 0#32) := by decide +kernel
theorem ok_one : ok0 (F := Bits) (pfOf 1#32) := by decide +kernel

theorem ok_of_pre (m : (ℓ : Loc nD τ sig) → Buf (Elt Bits) ℓ) (h : Cert.Pre_KChippart m) : Ok (F := Bits) m := by
  unfold Ok
  rw [tbl_eq m]
  have e := congrFun (h 0) (ix1 0)
  rcases Cert.Chippart.word_cases e with e | e <;> rw [e]
  · exact ok_zero
  · exact ok_one

end Cert.KChippart.Side

namespace Cert.KChippartIdeal.Side

open Idealize.ShloMosaic Idealize.ShloMosaic.TcCoe Idealize.SL.Sem Cert.KChippartIdeal Cert.KChippartIdeal.Gen

variable {F : FTy → Type} [FloatOps F]

/-- The one table's contents, holding the word `w`. -/
def pfOf (w : BitVec 32) : pre0.Contents (Elt F) := fun | ⟨0, _⟩ => fun _ => w | ⟨_ + 1, h⟩ => absurd h (by simp)

theorem tbl_eq (m : (ℓ : Loc nD τ sig) → Buf (Elt F) ℓ) : tbl m = pfOf (m (((0 : Dev nD) : Thread nD τ).loc main_arg2) (ix1 0)) := by
  funext j x
  match j with
  | ⟨0, _⟩ => exact congrArg (m (((0 : Dev nD) : Thread nD τ).loc main_arg2)) (Subsingleton.elim (α := S1.Idx) x (ix1 0))

theorem ok_zero : ok0 (F := Ideal) (pfOf 0#32) := by decide +kernel
theorem ok_one : ok0 (F := Ideal) (pfOf 1#32) := by decide +kernel

theorem ok_of_pre (m : (ℓ : Loc nD τ sig) → Buf (Elt Ideal) ℓ) (h : Cert.Pre_KChippartIdeal m) : Ok (F := Ideal) m := by
  unfold Ok
  rw [tbl_eq m]
  have e := congrFun (h 0) (ix1 0)
  rcases Cert.Chippart.word_cases e with e | e <;> rw [e]
  · exact ok_zero
  · exact ok_one

end Cert.KChippartIdeal.Side

namespace Cert.Chippart.Kernel

open Idealize.ShloMosaic Idealize.ShloMosaic.TcCoe Idealize.SL.Sem
open Idealize.ShloMosaic.Pipeline (Dat)
open Cert.KChippartIdeal Cert.KChippartIdeal.Gen Cert.KChippartIdeal.Side Cert.Lift

theorem pay (g o : S1x256x2048.Idx → EReal) (a : Fin 256) (k : Fin 2048) :
    k0_pay1 (F := Ideal) g o (ix3 0 a k) = g (ix3 0 a k) + o (ix3 0 a k) := by
  pointwise [k0_pay1]

section Arrays

variable (m : (ℓ : Loc nD τ sig) → Buf (Elt Ideal) ℓ) (h : Cert.Pre_KChippartIdeal m) (c : Dev nD)

/-- The arguments: the gradient, the other core's half, and the core's number. -/
def argG : S4x2048x2048.Idx → EReal := m ((c : Thread nD τ).loc main_arg0)
def argO : S4x1024x2048.Idx → EReal := m ((c : Thread nD τ).loc main_arg1)
def argC : BitVec 32 := m ((c : Thread nD τ).loc main_arg2) (ix1 0)

include h in
theorem argC_cases : argC m c = 0#32 ∨ argC m c = 1#32 :=
  Cert.Chippart.word_cases (congrFun (h c) (ix1 0))

theorem tbl_argC : tbl m = pfOf (argC m c) := by
  obtain rfl : c = 0 := Subsingleton.elim _ _
  exact tbl_eq m

theorem map0 : ∀ (b : Fin 2) (t : Fin grid0.N), cc0_transform_0 (F := Ideal) inb_S1_S1_0 numel1_S1 (pfOf (BitVec.ofNat 32 b.val)) (grid0.coords t)
    = ![t.val / 4, b.val * 4 + t.val % 4, 0] := by decide +kernel
theorem map1 : ∀ t : Fin grid0.N, cc0_transform_1 (grid0.coords t) = ![t.val / 4, t.val % 4, 0] := by decide +kernel
theorem map2 : ∀ t : Fin grid0.N, cc0_transform_2 (grid0.coords t) = ![t.val / 4, t.val % 4, 0] := by decide +kernel

variable (hO : Ok m) (t : Fin (cfgM m hO).N)

theorem idx1 : ((cfgM m hO).win 1).index t = ![t.val / 4, t.val % 4, 0] := map1 t
theorem idx2 : ((cfgM m hO).win 2).index t = ![t.val / 4, t.val % 4, 0] := map2 t

/-- The slice and the row of the arrays that row `a` of point `t`'s blocks is. -/
theorem lt16 : t.val < 16 := Nat.lt_of_lt_of_eq t.isLt N_0
def slice_ : Fin 4 := ⟨t.val / 4, by have := lt16 m hO t; omega⟩
def at_ (a : Fin 256) : Fin 1024 := ⟨t.val % 4 * 256 + a.val, by omega⟩

theorem blk1 : iblk m hO c 1 t = (fun y => argO m c (ix3 (slice_ m hO t) (at_ m hO t (y 1)) (y 2)) : S1x256x2048.Idx → EReal) := by
  refine funext fun (y : S1x256x2048.Idx) => ?_
  idx_vars y
  obtain rfl : y0 = 0 := Subsingleton.elim _ _
  blk_ext [iblk, V, argO, at_, slice_, idx1 m hO t]

include h in
theorem idx0 : ((cfgM m hO).win 0).index t = ![t.val / 4, (if argC m c = 0#32 then 0 else 4) + t.val % 4, 0] := by
  have e : ((cfgM m hO).win 0).index t = cc0_transform_0 (F := Ideal) inb_S1_S1_0 numel1_S1 (tbl m) (grid0.coords t) := rfl
  rw [e, tbl_argC m c]
  rcases argC_cases m h c with e | e <;> rw [e]
  · exact (map0 0 t).trans (by simp)
  · exact (map0 1 t).trans (by simp)

include h in
theorem blk0 : iblk m hO c 0 t = (fun y => argG m c (ix3 (slice_ m hO t) (row (argC m c) (at_ m hO t (y 1))) (y 2)) : S1x256x2048.Idx → EReal) := by
  refine funext fun (y : S1x256x2048.Idx) => ?_
  idx_vars y
  obtain rfl : y0 = 0 := Subsingleton.elim _ _
  have i := idx0 m h c hO t
  rcases argC_cases m h c with e | e <;> rw [e] at i ⊢
  · rw [if_pos rfl] at i
    blk_ext [iblk, V, argG, at_, slice_, row_zero, i]
  · rw [if_neg (by decide)] at i
    blk_ext [iblk, V, argG, at_, slice_, row_one, i]

theorem covers : ((cfgM m hO).win 2).Covers :=
  (by decide +kernel : ((cfg0 (F := Ideal) ⟨pfOf 0#32, ok_zero⟩).win 2).Covers)

include h in
theorem arr2 : (dats m hO 0 c).arrAt 2 (cfgM m hO).N = out (argG m c) (argO m c) (argC m c) := by
  refine (dats m hO 0 c).arrAt_eq_of_covers 2 _ (covers m hO) fun t hf (y : S1x256x2048.Idx) => ?_
  idx_vars y
  obtain rfl : y0 = 0 := Subsingleton.elim _ _
  blk_simp
  rw [after0_2]
  unfold outsAt0 out0_A_2
  frame_out
  rw [blk0 m h c hO t, blk1 m c hO t]
  refine (pay _ _ y1 y2).trans ?_
  rw [Memref.IsWhole.read_unread, Memref.IsWhole.read_unread]
  refine Eq.trans ?_ (congrArg (out _ _ _) (?_ : ix3 (slice_ m hO t) (at_ m hO t y1) y2 = _))
  · rfl
  · blk_ext [at_, slice_, idx2 m hO t]

end Arrays

end Cert.Chippart.Kernel

end
-- ==== Proof.ChippartRef.lean ====
/- The sum of the two cores' halves as the reference computes it, at the extended reals. -/
module

public import proofs.«01_k».proof.Proof.ChippartKernel
public import proofs.«01_k».proof.Proof.Gen.RChippartIdeal.Read

@[expose] public section

set_option maxRecDepth 16384

noncomputable section

namespace Cert.Chippart.Ref

open Idealize.ShloMosaic Idealize.ShloMosaic.TcCoe Idealize.SL.Sem
open Cert.RChippartIdeal Cert.RChippartIdeal.Gen Cert.RChippartIdeal.Read Cert.Lift

variable (G : S4x2048x2048.Idx → EReal) (O : S4x1024x2048.Idx → EReal) (C : S1.Idx → BitVec 32) (j : Fin 4) (r : Fin 1024) (k : Fin 2048)

theorem rd_cond : val_main_v2 (F := Ideal) C (ix3 j r k) = IntOp.cmpi .eq (C (ix1 0)) 0#32 := by
  pointwise [val_main_v2, val_main_v1, val_main_v0, val_main_c]

theorem rd_out (h : C (ix1 0) = 0#32 ∨ C (ix1 0) = 1#32) : val_main_v7 (F := Ideal) G O C (ix3 j r k) = out G O (C (ix1 0)) (ix3 j r k) := by
  pointwise [val_main_v7, val_main_v6, val_main_v5, val_main_v4, val_main_v3, rd_cond]
  rcases h with e | e <;> rw [e]
  · change _ = G (ix3 j (row 0#32 r) k) + O (ix3 j r k)
    rw [show row 0#32 r = ⟨r.val, by omega⟩ from Fin.ext (row_zero r)]
    rfl
  · rfl

end Cert.Chippart.Ref

end
-- ==== Proof.ChippartClaim.lean ====
/- The sum of the two cores' halves:
   computes what the reference computes: the two programs' results agree. -/
module

public import proofs.«01_k».proof.Defs
public import proofs.«01_k».proof.Proof.ChippartKernel
public import proofs.«01_k».proof.Proof.ChippartRef
public import Idealize.ShloMosaic.Lib.Claim

@[expose] public section

set_option maxRecDepth 16384

noncomputable section

namespace Cert.Chippart

open Idealize.ShloMosaic Idealize.ShloMosaic.TcCoe Idealize.SL.Sem Cert.Lift

theorem kernel_frame : Cert.quiescent_KChippart := fun m g h => Cert.KChippart.Gen.frame m g (KChippart.Side.ok_of_pre m h)

theorem ideal_frame : Cert.quiescent_KChippartIdeal := fun m g h =>
  Cert.KChippartIdeal.Gen.frame m g (KChippartIdeal.Side.ok_of_pre m h)

theorem ref_frame : Cert.quiescent_RChippartIdeal := fun m g _ =>
  (θ_run _ _ _).mono (fun r h => ⟨fun c => (h c).2, sem_eq_zero_of_no_sems (by decide) r.2⟩) (Cert.RChippartIdeal.Value.run m g)

theorem algebraic : Cert.algebraic_KChippartIdeal_RChippartIdeal := by
  intro m g m' g' hpre hagree
  have hO := KChippartIdeal.Side.ok_of_pre m hpre
  refine ⟨fun c => out (Kernel.argG m c) (Kernel.argO m c) (Kernel.argC m c), ?_, ?_⟩
  · refine (θ_run _ _ _).mono (fun r h c => ?_) (Cert.KChippartIdeal.Gen.run_main m g hO)
    exact ⟨(h.out_eq c 2).trans (Kernel.arr2 m hpre c hO), h.in_eq c 0 rfl, h.in_eq c 1 rfl,
      h.rest_eq c Cert.KChippartIdeal.main_arg2 (by decide : Cert.KChippartIdeal.main_arg2 ∈ Pipeline.restRefs Cert.KChippartIdeal.sig Cert.KChippartIdeal.spec0)⟩
  · refine (θ_run _ _ _).mono (fun r h c => ?_) (Cert.RChippartIdeal.Value.run m' g')
    obtain ⟨h0, ha⟩ := h c
    obtain ⟨e0, e1, e2⟩ := hagree c
    refine ⟨h0.trans ?_, ha⟩
    refine (Cert.RChippartIdeal.Read.val_main_v7_eq _ _ _).trans ?_
    rw [e0, e1, e2]
    funext i
    idx_vars i
    exact Ref.rd_out (Kernel.argG m c) (Kernel.argO m c) _ i0 i1 i2 (Kernel.argC_cases m hpre c)

end Cert.Chippart

end
-- ==== Proof.SmallKernel.lean ====
/- The optimiser's kernel on the small weights, packed into one array of lanes, at the extended reals: what it leaves of three of them. -/
module

public import proofs.«01_k».proof.Proof.LnSpec
public import proofs.«01_k».proof.Proof.AdamKernel
public import proofs.«01_k».proof.Proof.Gen.KSmallIdeal.Frame
public import Idealize.ShloMosaic.Lib.Pipeline.ValueKit
public import Idealize.ShloMosaic.Lib.StableHlo.ReadAt

@[expose] public section

set_option maxRecDepth 16384

noncomputable section

namespace Cert.Small

open Idealize.ShloMosaic Cert.Lift Cert.Adam

namespace Kernel

open Idealize.ShloMosaic.TcCoe Idealize.SL.Sem
open Idealize.ShloMosaic.Pipeline (Dat)
open Cert.KSmallIdeal Cert.KSmallIdeal.Gen

section Payloads

variable (w g p q : S8x128.Idx → EReal) (a : Fin 8) (k : Fin 128)

theorem pay_m : k0_pay2 (F := Ideal) g p (ix2 a k) = newM (g (ix2 a k)) (p (ix2 a k)) := by
  pointwise [k0_pay2, k0_pay1]
  rfl

theorem pay_v : k0_pay3 (F := Ideal) g q (ix2 a k) = newV (g (ix2 a k)) (q (ix2 a k)) := by
  pointwise [k0_pay3, k0_pay1]
  rfl

theorem pay_d : k0_pay4 (F := Ideal) g p q w (ix2 a k) = step (w (ix2 a k)) (g (ix2 a k)) (p (ix2 a k)) (q (ix2 a k)) := by
  pointwise [k0_pay4, pay_m, pay_v]
  rfl

end Payloads

section Pack

/-- The zero that fills a row up. -/
def z : S_.Idx → EReal := sitofp (F := Ideal) .f32 (constantI S_ 32 0#32)

variable (a0 : S1x4x768.Idx → EReal) (a1 a2 : S1x8.Idx → EReal) (a3 : S1x128.Idx → EReal) (a4 : S1x1024.Idx → EReal)
  (a5 a6 a7 a8 a9 a10 : S1x2048.Idx → EReal)

def rows0 (a : S1x4x768.Idx → EReal) : S24x128.Idx → EReal :=
  shapeCast S24x128 (pad S3072 ![0] ![0] ![0] (shapeCast S3072 a shapeCasts_S1x4x768_S3072) z pads_S3072_S3072_000 h_S_) shapeCasts_S3072_S24x128
def rows8 (a : S1x8.Idx → EReal) : S1x128.Idx → EReal :=
  shapeCast S1x128 (pad S128 ![0] ![120] ![0] (shapeCast S8 a shapeCasts_S1x8_S8) z pads_S8_S128_01200 h_S_) shapeCasts_S128_S1x128
def rows128 (a : S1x128.Idx → EReal) : S1x128.Idx → EReal :=
  shapeCast S1x128 (pad S128 ![0] ![0] ![0] (shapeCast S128 a shapeCasts_S1x128_S128) z pads_S128_S128_000 h_S_) shapeCasts_S128_S1x128
def rows1024 (a : S1x1024.Idx → EReal) : S8x128.Idx → EReal :=
  shapeCast S8x128 (pad S1024 ![0] ![0] ![0] (shapeCast S1024 a shapeCasts_S1x1024_S1024) z pads_S1024_S1024_000 h_S_) shapeCasts_S1024_S8x128
def rows2048 (a : S1x2048.Idx → EReal) : S16x128.Idx → EReal :=
  shapeCast S16x128 (pad S2048 ![0] ![0] ![0] (shapeCast S2048 a shapeCasts_S1x2048_S2048) z pads_S2048_S2048_000 h_S_) shapeCasts_S2048_S16x128

/-- Arrays one below the other, and five rows of zeros. -/
def stack (b0 : S24x128.Idx → EReal) (b1 b2 b3 : S1x128.Idx → EReal) (b4 : S8x128.Idx → EReal) (b5 b6 b7 b8 b9 b10 : S16x128.Idx → EReal) :
    S136x128.Idx → EReal :=
  pad S136x128 ![0, 0] ![5, 0] ![0, 0] (concatenate S131x128 0
    [⟨S24x128, b0⟩, ⟨S1x128, b1⟩, ⟨S1x128, b2⟩, ⟨S1x128, b3⟩, ⟨S8x128, b4⟩, ⟨S16x128, b5⟩, ⟨S16x128, b6⟩, ⟨S16x128, b7⟩,
     ⟨S16x128, b8⟩, ⟨S16x128, b9⟩, ⟨S16x128, b10⟩]
    concatenates_S24x128_S1x128_S1x128_S1x128_S8x128_S16x128_S16x128_S16x128_S16x128_S16x128_S16x128_S131x128_d0)
    z pads_S131x128_S136x128_050_000 h_S_

/-- The weights one below the other, each on rows of its own. -/
def pack : S136x128.Idx → EReal :=
  stack (rows0 a0) (rows8 a1) (rows8 a2) (rows128 a3) (rows1024 a4) (rows2048 a5) (rows2048 a6) (rows2048 a7) (rows2048 a8) (rows2048 a9)
    (rows2048 a10)

variable {a0 a1 a2 a3 a4 a5 a6 a7 a8 a9 a10} in
theorem pack_of {b0 : S24x128.Idx → EReal} {b1 b2 b3 : S1x128.Idx → EReal} {b4 : S8x128.Idx → EReal} {b5 b6 b7 b8 b9 b10 : S16x128.Idx → EReal}
    (h0 : b0 = rows0 a0) (h1 : b1 = rows8 a1) (h2 : b2 = rows8 a2) (h3 : b3 = rows128 a3) (h4 : b4 = rows1024 a4) (h5 : b5 = rows2048 a5)
    (h6 : b6 = rows2048 a6) (h7 : b7 = rows2048 a7) (h8 : b8 = rows2048 a8) (h9 : b9 = rows2048 a9) (h10 : b10 = rows2048 a10) :
    stack b0 b1 b2 b3 b4 b5 b6 b7 b8 b9 b10 = pack a0 a1 a2 a3 a4 a5 a6 a7 a8 a9 a10 := by
  subst h0 h1 h2 h3 h4 h5 h6 h7 h8 h9 h10
  rfl

theorem pack0 (i : Fin 4) (j : Fin 768) : pack a0 a1 a2 a3 a4 a5 a6 a7 a8 a9 a10
    (ix2 ⟨(i.val * 768 + j.val) / 128, by omega⟩ ⟨(i.val * 768 + j.val) % 128, by omega⟩) = a0 (ix3 0 i j) := by
  pointwise [pack, stack, rows0]
  rw [dif_pos (by omega), dif_pos (by omega), dif_pos (by omega)]

theorem pack1 (j : Fin 8) : pack a0 a1 a2 a3 a4 a5 a6 a7 a8 a9 a10 (ix2 ⟨24, by omega⟩ ⟨j.val, by omega⟩) = a1 (ix2 0 j) := by
  pointwise [pack, stack, rows8]
  rw [dif_pos (by omega)]

theorem pack3 (j : Fin 128) : pack a0 a1 a2 a3 a4 a5 a6 a7 a8 a9 a10 (ix2 ⟨26, by omega⟩ j) = a3 (ix2 0 j) := by
  pointwise [pack, stack, rows128]

end Pack

section Arrays

variable (m : (ℓ : Loc nD τ sig) → Buf (Elt Ideal) ℓ) (c : Dev nD)

/-- The four slabs: of the weights, the gradients and the two moments. -/
def slabW : S136x128.Idx → EReal :=
  pack (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
def slabG : S136x128.Idx → EReal :=
  pack (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))
def slabM : S136x128.Idx → EReal :=
  pack (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32))
def slabV : S136x128.Idx → EReal :=
  pack (m ((c : Thread nD τ).loc main_arg33)) (m ((c : Thread nD τ).loc main_arg34)) (m ((c : Thread nD τ).loc main_arg35)) (m ((c : Thread nD τ).loc main_arg36)) (m ((c : Thread nD τ).loc main_arg37)) (m ((c : Thread nD τ).loc main_arg38)) (m ((c : Thread nD τ).loc main_arg39)) (m ((c : Thread nD τ).loc main_arg40)) (m ((c : Thread nD τ).loc main_arg41)) (m ((c : Thread nD τ).loc main_arg42)) (m ((c : Thread nD τ).loc main_arg43))

set_option maxHeartbeats 4000000 in
theorem hostW : V m c main_v34 = slabW m c := by
  unfold V V0
  after_reads_simp
  simp -implicitDefEqProofs only [StableHlo.TRef.toBuf, StableHlo.TRef.ofBuf, cast_cast, cast_eq, Matrix.cons_val]
  refine pack_of ?_ ?_ ?_ ?_ ?_ ?_ ?_ ?_ ?_ ?_ ?_ <;> (after_reads_simp; rfl)

set_option maxHeartbeats 4000000 in
theorem hostG : V m c main_v69 = slabG m c := by
  unfold V V0
  after_reads_simp
  simp -implicitDefEqProofs only [StableHlo.TRef.toBuf, StableHlo.TRef.ofBuf, cast_cast, cast_eq, Matrix.cons_val]
  refine pack_of ?_ ?_ ?_ ?_ ?_ ?_ ?_ ?_ ?_ ?_ ?_ <;> (after_reads_simp; rfl)

set_option maxHeartbeats 4000000 in
theorem hostM : V m c main_v104 = slabM m c := by
  unfold V V0
  after_reads_simp
  simp -implicitDefEqProofs only [StableHlo.TRef.toBuf, StableHlo.TRef.ofBuf, cast_cast, cast_eq, Matrix.cons_val]
  refine pack_of ?_ ?_ ?_ ?_ ?_ ?_ ?_ ?_ ?_ ?_ ?_ <;> (after_reads_simp; rfl)

set_option maxHeartbeats 4000000 in
theorem hostV : V m c main_v139 = slabV m c := by
  unfold V V0
  after_reads_simp
  simp -implicitDefEqProofs only [StableHlo.TRef.toBuf, StableHlo.TRef.ofBuf, cast_cast, cast_eq, Matrix.cons_val]
  refine pack_of ?_ ?_ ?_ ?_ ?_ ?_ ?_ ?_ ?_ ?_ ?_ <;> (after_reads_simp; rfl)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem lt17 (t : Fin cfg0.N) : t.val < 17 := Nat.lt_of_lt_of_eq t.isLt N_0

/-- The row of the slabs that row `a` of point `t`'s blocks is. -/
def at_ (t : Fin cfg0.N) (a : Fin 8) : Fin 136 := ⟨t.val * 8 + a.val, by have := lt17 t; omega⟩

section Blocks

variable (t : Fin cfg0.N)

theorem blk0 : iblk m c 0 t = (fun y => slabW m c (ix2 (at_ t (y 0)) (y 1)) : S8x128.Idx → EReal) := by
  funext y
  idx_vars y
  rw [← hostW]
  blk_ext [iblk, at_, idx t]

theorem blk1 : iblk m c 1 t = (fun y => slabG m c (ix2 (at_ t (y 0)) (y 1)) : S8x128.Idx → EReal) := by
  funext y
  idx_vars y
  rw [← hostG]
  blk_ext [iblk, at_, idx t]

theorem blk2 : iblk m c 2 t = (fun y => slabM m c (ix2 (at_ t (y 0)) (y 1)) : S8x128.Idx → EReal) := by
  funext y
  idx_vars y
  rw [← hostM]
  blk_ext [iblk, at_, idx t]

theorem blk3 : iblk m c 3 t = (fun y => slabV m c (ix2 (at_ t (y 0)) (y 1)) : S8x128.Idx → EReal) := by
  funext y
  idx_vars y
  rw [← hostV]
  blk_ext [iblk, at_, idx t]

end Blocks

/-- The three result slabs. -/
def slabD : S136x128.Idx → EReal := fun i => step (slabW m c i) (slabG m c i) (slabM m c i) (slabV m c i)
def slabM' : S136x128.Idx → EReal := fun i => newM (slabG m c i) (slabM m c i)
def slabV' : S136x128.Idx → EReal := fun i => newV (slabG m c i) (slabV m c i)

theorem arr4 : (dats m 0 c).arrAt 4 cfg0.N = slabD m c := by
  refine (dats m 0 c).arrAt_eq_of_covers 4 _ (by decide +kernel) fun t hf y => ?_
  idx_vars y
  blk_simp
  rw [after0_4]
  unfold out0_4
  frame_out
  rw [blk0, blk1, blk2, blk3]
  refine (pay_d _ _ _ _ y0 y1).trans ?_
  refine Eq.trans ?_ (congrArg (slabD m c) (?_ : ix2 (at_ t y0) y1 = _))
  · rfl
  · blk_ext [at_, idx t]

theorem arr5 : (dats m 0 c).arrAt 5 cfg0.N = slabM' m c := by
  refine (dats m 0 c).arrAt_eq_of_covers 5 _ (by decide +kernel) fun t hf y => ?_
  idx_vars y
  blk_simp
  rw [after0_5]
  unfold out0_5
  frame_out
  rw [blk1, blk2]
  refine (pay_m _ _ y0 y1).trans ?_
  refine Eq.trans ?_ (congrArg (slabM' m c) (?_ : ix2 (at_ t y0) y1 = _))
  · rfl
  · blk_ext [at_, idx t]

theorem arr6 : (dats m 0 c).arrAt 6 cfg0.N = slabV' m c := by
  refine (dats m 0 c).arrAt_eq_of_covers 6 _ (by decide +kernel) fun t hf y => ?_
  idx_vars y
  blk_simp
  rw [after0_6]
  unfold out0_6
  frame_out
  rw [blk1, blk3]
  refine (pay_v _ _ y0 y1).trans ?_
  refine Eq.trans ?_ (congrArg (slabV' m c) (?_ : ix2 (at_ t y0) y1 = _))
  · rfl
  · blk_ext [at_, idx t]

end Arrays

section Tail

/-! What the lines after the call cut out of the result slabs. -/

variable (U : Valuation τ sig (Elt Ideal))

theorem cut0d (i : Fin 4) (j : Fin 768) : (StableHlo.after ([hostOps1] : List (List (HloOp τ sig (Elt Ideal)))).flatten U (Proc.devRef .tc main_v143) : S1x4x768.Idx → EReal) (ix3 0 i j)
    = (U (Proc.devRef .tc main_v140_0) : S136x128.Idx → EReal) (ix2 ⟨(i.val * 768 + j.val) / 128, by omega⟩ ⟨(i.val * 768 + j.val) % 128, by omega⟩) := by
  after_reads_at

theorem cut1d (j : Fin 8) : (StableHlo.after ([hostOps1] : List (List (HloOp τ sig (Elt Ideal)))).flatten U (Proc.devRef .tc main_v182) : S1x8.Idx → EReal) (ix2 0 j)
    = (U (Proc.devRef .tc main_v140_0) : S136x128.Idx → EReal) (ix2 ⟨24, by omega⟩ ⟨j.val, by omega⟩) := by
  after_reads_at

theorem cut3d (j : Fin 128) : (StableHlo.after ([hostOps1] : List (List (HloOp τ sig (Elt Ideal)))).flatten U (Proc.devRef .tc main_v224) : S1x128.Idx → EReal) (ix2 0 j)
    = (U (Proc.devRef .tc main_v140_0) : S136x128.Idx → EReal) (ix2 ⟨26, by omega⟩ j) := by
  after_reads_at

theorem cut0m (i : Fin 4) (j : Fin 768) : (StableHlo.after ([hostOps1] : List (List (HloOp τ sig (Elt Ideal)))).flatten U (Proc.devRef .tc main_v248) : S1x4x768.Idx → EReal) (ix3 0 i j)
    = (U (Proc.devRef .tc main_v140_1) : S136x128.Idx → EReal) (ix2 ⟨(i.val * 768 + j.val) / 128, by omega⟩ ⟨(i.val * 768 + j.val) % 128, by omega⟩) := by
  after_reads_at

theorem cut1m (j : Fin 8) : (StableHlo.after ([hostOps1] : List (List (HloOp τ sig (Elt Ideal)))).flatten U (Proc.devRef .tc main_v287) : S1x8.Idx → EReal) (ix2 0 j)
    = (U (Proc.devRef .tc main_v140_1) : S136x128.Idx → EReal) (ix2 ⟨24, by omega⟩ ⟨j.val, by omega⟩) := by
  after_reads_at

theorem cut3m (j : Fin 128) : (StableHlo.after ([hostOps1] : List (List (HloOp τ sig (Elt Ideal)))).flatten U (Proc.devRef .tc main_v329) : S1x128.Idx → EReal) (ix2 0 j)
    = (U (Proc.devRef .tc main_v140_1) : S136x128.Idx → EReal) (ix2 ⟨26, by omega⟩ j) := by
  after_reads_at

theorem cut0v (i : Fin 4) (j : Fin 768) : (StableHlo.after ([hostOps1] : List (List (HloOp τ sig (Elt Ideal)))).flatten U (Proc.devRef .tc main_v353) : S1x4x768.Idx → EReal) (ix3 0 i j)
    = (U (Proc.devRef .tc main_v140_2) : S136x128.Idx → EReal) (ix2 ⟨(i.val * 768 + j.val) / 128, by omega⟩ ⟨(i.val * 768 + j.val) % 128, by omega⟩) := by
  after_reads_at

theorem cut1v (j : Fin 8) : (StableHlo.after ([hostOps1] : List (List (HloOp τ sig (Elt Ideal)))).flatten U (Proc.devRef .tc main_v392) : S1x8.Idx → EReal) (ix2 0 j)
    = (U (Proc.devRef .tc main_v140_2) : S136x128.Idx → EReal) (ix2 ⟨24, by omega⟩ ⟨j.val, by omega⟩) := by
  after_reads_at

theorem cut3v (j : Fin 128) : (StableHlo.after ([hostOps1] : List (List (HloOp τ sig (Elt Ideal)))).flatten U (Proc.devRef .tc main_v434) : S1x128.Idx → EReal) (ix2 0 j)
    = (U (Proc.devRef .tc main_v140_2) : S136x128.Idx → EReal) (ix2 ⟨26, by omega⟩ j) := by
  after_reads_at

end Tail

end Kernel

end Cert.Small

end
-- ==== Proof.SmallRef.lean ====
/- The optimiser's step on three of the small weights as the reference computes it, at the extended reals, for any arguments. -/
module

public import proofs.«01_k».proof.Proof.AdamKernel
public import proofs.«01_k».proof.Proof.Gen.RSmallIdeal.Read

@[expose] public section

set_option maxRecDepth 16384

noncomputable section

namespace Cert.Small.Ref

open Idealize.ShloMosaic Idealize.ShloMosaic.TcCoe Idealize.SL.Sem
open Cert.RSmallIdeal Cert.RSmallIdeal.Gen Cert.RSmallIdeal.Read Cert.Lift Cert.Adam

section W0
variable (w g p q : S1x4x768.Idx → EReal)
theorem rd_m0 : val_main_v4 (F := Ideal) g p = fun i => newM (g i) (p i) := rfl
theorem rd_v0 : val_main_v10 (F := Ideal) g q = fun i => newV (g i) (q i) := rfl
theorem rd_d0 : val_main_v23 (F := Ideal) w g p q = fun i => step (w i) (g i) (p i) (q i) := rfl
end W0

section W1
variable (w g p q : S1x8.Idx → EReal)
theorem rd_m1 : val_main_v28 (F := Ideal) g p = fun i => newM (g i) (p i) := rfl
theorem rd_v1 : val_main_v34 (F := Ideal) g q = fun i => newV (g i) (q i) := rfl
theorem rd_d1 : val_main_v47 (F := Ideal) w g p q = fun i => step (w i) (g i) (p i) (q i) := rfl
end W1

section W3
variable (w g p q : S1x128.Idx → EReal)
theorem rd_m3 : val_main_v52 (F := Ideal) g p = fun i => newM (g i) (p i) := rfl
theorem rd_v3 : val_main_v58 (F := Ideal) g q = fun i => newV (g i) (q i) := rfl
theorem rd_d3 : val_main_v71 (F := Ideal) w g p q = fun i => step (w i) (g i) (p i) (q i) := rfl
end W3

end Cert.Small.Ref

end
-- ==== Proof.SmallClaim.lean ====
/- The optimiser's step on three of the small weights:
   computes what the reference computes: the two programs' results agree. -/
module

public import proofs.«01_k».proof.Defs
public import proofs.«01_k».proof.Proof.SmallKernel
public import proofs.«01_k».proof.Proof.SmallRef
public import Idealize.ShloMosaic.Lib.Claim

@[expose] public section

set_option maxRecDepth 16384

noncomputable section

namespace Cert.Small

open Idealize.ShloMosaic Idealize.ShloMosaic.TcCoe Idealize.SL.Sem Cert.Lift Cert.Adam

theorem ref_frame : Cert.quiescent_RSmallIdeal := fun m g _ =>
  (θ_run _ _ _).mono (fun r h => ⟨fun c => (h c).2.2.2.2.2.2.2.2.2, sem_eq_zero_of_no_sems (by decide) r.2⟩) (Cert.RSmallIdeal.Value.run m g)

namespace Kernel

open Cert.KSmallIdeal Cert.KSmallIdeal.Gen

variable (m : (ℓ : Loc nD τ sig) → Buf (Elt Ideal) ℓ) (c : Dev nD)

/-- An argument, as the memory holds it. -/
abbrev arg (b : Ref sig .tc) := m ((c : Thread nD τ).loc b)

/-- The contents the region leaves, which the lines after it start from. -/
abbrev left : Valuation τ sig (Elt Ideal) :=
  Pipeline.withArrays spec0 c (V0 m c) fun w => (dats m 0 c).arrAt w cfg0.N

theorem left0 : left m c (Proc.devRef .tc main_v140_0) = slabD m c :=
  (Pipeline.withArrays_arr spec0 (by decide : Function.Injective (Pipeline.arrRef spec0)) c (V0 m c) _ 4).trans (arr4 m c)
theorem left1 : left m c (Proc.devRef .tc main_v140_1) = slabM' m c :=
  (Pipeline.withArrays_arr spec0 (by decide : Function.Injective (Pipeline.arrRef spec0)) c (V0 m c) _ 5).trans (arr5 m c)
theorem left2 : left m c (Proc.devRef .tc main_v140_2) = slabV' m c :=
  (Pipeline.withArrays_arr spec0 (by decide : Function.Injective (Pipeline.arrRef spec0)) c (V0 m c) _ 6).trans (arr6 m c)

/-- What the program leaves in a buffer that the lines after the region write. -/
abbrev tail (b : Ref sig .tc) : Buf (Elt Ideal) ((c : Thread nD τ).loc b) :=
  Pipeline.afterTail₀ cfgs (dats m) 0 (V0 m) [hostOps1] c b

/-- What the lines after the region make of those contents. -/
abbrev after (b : Ref sig .tc) :=
  StableHlo.after ([hostOps1] : List (List (HloOp τ sig (Elt Ideal)))).flatten (left m c) (Proc.devRef .tc b)

theorem tail_eq (b : Ref sig .tc) : tail m c b = after m c b := rfl

/-- Two arrays with one leading row, by their elements. -/
theorem ext0 {f g : S1x4x768.Idx → EReal} (h : ∀ j k, f (ix3 0 j k) = g (ix3 0 j k)) : f = g := by
  funext i
  idx_vars i
  obtain rfl : i0 = 0 := Subsingleton.elim (α := Fin 1) _ _
  exact h _ _
theorem ext1 {f g : S1x8.Idx → EReal} (h : ∀ k, f (ix2 0 k) = g (ix2 0 k)) : f = g := by
  funext i
  idx_vars i
  obtain rfl : i0 = 0 := Subsingleton.elim (α := Fin 1) _ _
  exact h _
theorem ext3 {f g : S1x128.Idx → EReal} (h : ∀ k, f (ix2 0 k) = g (ix2 0 k)) : f = g := by
  funext i
  idx_vars i
  obtain rfl : i0 = 0 := Subsingleton.elim (α := Fin 1) _ _
  exact h _

theorem step_congr {w w' g g' p p' q q' : EReal} (hw : w = w') (hg : g = g') (hp : p = p') (hq : q = q') : step w g p q = step w' g' p' q' := by
  rw [hw, hg, hp, hq]

theorem tail0d : (after m c main_v143 : S1x4x768.Idx → EReal) = fun i => step ((m ((c : Thread nD τ).loc main_arg0) : S1x4x768.Idx → EReal) i) ((m ((c : Thread nD τ).loc main_arg11) : S1x4x768.Idx → EReal) i) ((m ((c : Thread nD τ).loc main_arg22) : S1x4x768.Idx → EReal) i) ((m ((c : Thread nD τ).loc main_arg33) : S1x4x768.Idx → EReal) i) :=
  ext0 fun j k => ((cut0d (left m c) j k).trans (congrFun (left0 m c) _)).trans (step_congr (pack0 _ _ _ _ _ _ _ _ _ _ _ j k) (pack0 _ _ _ _ _ _ _ _ _ _ _ j k) (pack0 _ _ _ _ _ _ _ _ _ _ _ j k) (pack0 _ _ _ _ _ _ _ _ _ _ _ j k))

theorem tail0m : (after m c main_v248 : S1x4x768.Idx → EReal) = fun i => newM ((m ((c : Thread nD τ).loc main_arg11) : S1x4x768.Idx → EReal) i) ((m ((c : Thread nD τ).loc main_arg22) : S1x4x768.Idx → EReal) i) :=
  ext0 fun j k => ((cut0m (left m c) j k).trans (congrFun (left1 m c) _)).trans (congrArg₂ newM (pack0 _ _ _ _ _ _ _ _ _ _ _ j k) (pack0 _ _ _ _ _ _ _ _ _ _ _ j k))

theorem tail0v : (after m c main_v353 : S1x4x768.Idx → EReal) = fun i => newV ((m ((c : Thread nD τ).loc main_arg11) : S1x4x768.Idx → EReal) i) ((m ((c : Thread nD τ).loc main_arg33) : S1x4x768.Idx → EReal) i) :=
  ext0 fun j k => ((cut0v (left m c) j k).trans (congrFun (left2 m c) _)).trans (congrArg₂ newV (pack0 _ _ _ _ _ _ _ _ _ _ _ j k) (pack0 _ _ _ _ _ _ _ _ _ _ _ j k))

theorem tail1d : (after m c main_v182 : S1x8.Idx → EReal) = fun i => step ((m ((c : Thread nD τ).loc main_arg1) : S1x8.Idx → EReal) i) ((m ((c : Thread nD τ).loc main_arg12) : S1x8.Idx → EReal) i) ((m ((c : Thread nD τ).loc main_arg23) : S1x8.Idx → EReal) i) ((m ((c : Thread nD τ).loc main_arg34) : S1x8.Idx → EReal) i) :=
  ext1 fun k => ((cut1d (left m c) k).trans (congrFun (left0 m c) _)).trans (step_congr (pack1 _ _ _ _ _ _ _ _ _ _ _ k) (pack1 _ _ _ _ _ _ _ _ _ _ _ k) (pack1 _ _ _ _ _ _ _ _ _ _ _ k) (pack1 _ _ _ _ _ _ _ _ _ _ _ k))

theorem tail1m : (after m c main_v287 : S1x8.Idx → EReal) = fun i => newM ((m ((c : Thread nD τ).loc main_arg12) : S1x8.Idx → EReal) i) ((m ((c : Thread nD τ).loc main_arg23) : S1x8.Idx → EReal) i) :=
  ext1 fun k => ((cut1m (left m c) k).trans (congrFun (left1 m c) _)).trans (congrArg₂ newM (pack1 _ _ _ _ _ _ _ _ _ _ _ k) (pack1 _ _ _ _ _ _ _ _ _ _ _ k))

theorem tail1v : (after m c main_v392 : S1x8.Idx → EReal) = fun i => newV ((m ((c : Thread nD τ).loc main_arg12) : S1x8.Idx → EReal) i) ((m ((c : Thread nD τ).loc main_arg34) : S1x8.Idx → EReal) i) :=
  ext1 fun k => ((cut1v (left m c) k).trans (congrFun (left2 m c) _)).trans (congrArg₂ newV (pack1 _ _ _ _ _ _ _ _ _ _ _ k) (pack1 _ _ _ _ _ _ _ _ _ _ _ k))

theorem tail3d : (after m c main_v224 : S1x128.Idx → EReal) = fun i => step ((m ((c : Thread nD τ).loc main_arg3) : S1x128.Idx → EReal) i) ((m ((c : Thread nD τ).loc main_arg14) : S1x128.Idx → EReal) i) ((m ((c : Thread nD τ).loc main_arg25) : S1x128.Idx → EReal) i) ((m ((c : Thread nD τ).loc main_arg36) : S1x128.Idx → EReal) i) :=
  ext3 fun k => ((cut3d (left m c) k).trans (congrFun (left0 m c) _)).trans (step_congr (pack3 _ _ _ _ _ _ _ _ _ _ _ k) (pack3 _ _ _ _ _ _ _ _ _ _ _ k) (pack3 _ _ _ _ _ _ _ _ _ _ _ k) (pack3 _ _ _ _ _ _ _ _ _ _ _ k))

theorem tail3m : (after m c main_v329 : S1x128.Idx → EReal) = fun i => newM ((m ((c : Thread nD τ).loc main_arg14) : S1x128.Idx → EReal) i) ((m ((c : Thread nD τ).loc main_arg25) : S1x128.Idx → EReal) i) :=
  ext3 fun k => ((cut3m (left m c) k).trans (congrFun (left1 m c) _)).trans (congrArg₂ newM (pack3 _ _ _ _ _ _ _ _ _ _ _ k) (pack3 _ _ _ _ _ _ _ _ _ _ _ k))

theorem tail3v : (after m c main_v434 : S1x128.Idx → EReal) = fun i => newV ((m ((c : Thread nD τ).loc main_arg14) : S1x128.Idx → EReal) i) ((m ((c : Thread nD τ).loc main_arg36) : S1x128.Idx → EReal) i) :=
  ext3 fun k => ((cut3v (left m c) k).trans (congrFun (left2 m c) _)).trans (congrArg₂ newV (pack3 _ _ _ _ _ _ _ _ _ _ _ k) (pack3 _ _ _ _ _ _ _ _ _ _ _ k))

end Kernel

/-- Two posts of the same program. -/
theorem both {nD : Nat} {τ : Topo} {sig : RefSig} {Val : EltTy → Type} {Λ : Labels} {defs : Defs nD τ sig Val Λ}
    {p : (c : Thread nD τ) → Prog (TpuEff nD τ sig Val Λ c.2) PUnit} {s : MemSt nD τ sig Val} {P Q : PUnit × MemSt nD τ sig Val → Prop}
    (h : θ_run defs p s P) (h' : θ_run defs p s Q) : θ_run defs p s fun r => P r ∧ Q r :=
  ⟨fun t ht hf => ⟨h.post t ht hf, h'.post t ht hf⟩, h.progress, h.fair⟩

open Kernel Cert.KSmallIdeal Cert.KSmallIdeal.Gen in
theorem algebraic : Cert.algebraic_KSmallIdeal_RSmallIdeal := by
  intro m g m' g' _ hagree
  refine ⟨fun c => tail m c main_v143, fun c => tail m c main_v182, fun c => tail m c main_v224, fun c => tail m c main_v248, fun c => tail m c main_v287, fun c => tail m c main_v329, fun c => tail m c main_v353, fun c => tail m c main_v392, fun c => tail m c main_v434, ?_, ?_⟩
  · refine (θ_run _ _ _).mono (fun r h c => ?_) (both (Cert.KSmallIdeal.Gen.run_main m g) (Cert.KSmallIdeal.Gen.unchanged m g))
    have e := fun b (h1 : _) (h2 : _) => (h.1 c).2 b (Pipeline.mem_restRefs_of b h1 h2)
    exact ⟨e main_v143 (by decide) (by decide), e main_v182 (by decide) (by decide), e main_v224 (by decide) (by decide), e main_v248 (by decide) (by decide), e main_v287 (by decide) (by decide), e main_v329 (by decide) (by decide), e main_v353 (by decide) (by decide), e main_v392 (by decide) (by decide), e main_v434 (by decide) (by decide), h.2 c⟩
  · refine (θ_run _ _ _).mono (fun r h c => ?_) (Cert.RSmallIdeal.Value.run m' g')
    obtain ⟨d0, d1, d3, m0, m1, m3, v0, v1, v3, ha⟩ := h c
    obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43⟩ := hagree c
    refine ⟨d0.trans ?_, d1.trans ?_, d3.trans ?_, m0.trans ?_, m1.trans ?_, m3.trans ?_, v0.trans ?_, v1.trans ?_, v3.trans ?_, ha⟩
    · rw [e0, e11, e22, e33]
      exact (tail0d m c).symm.trans (tail_eq m c main_v143).symm
    · rw [e1, e12, e23, e34]
      exact (tail1d m c).symm.trans (tail_eq m c main_v182).symm
    · rw [e3, e14, e25, e36]
      exact (tail3d m c).symm.trans (tail_eq m c main_v224).symm
    · rw [e11, e22]
      exact (tail0m m c).symm.trans (tail_eq m c main_v248).symm
    · rw [e12, e23]
      exact (tail1m m c).symm.trans (tail_eq m c main_v287).symm
    · rw [e14, e25]
      exact (tail3m m c).symm.trans (tail_eq m c main_v329).symm
    · rw [e11, e33]
      exact (tail0v m c).symm.trans (tail_eq m c main_v353).symm
    · rw [e12, e34]
      exact (tail1v m c).symm.trans (tail_eq m c main_v392).symm
    · rw [e14, e36]
      exact (tail3v m c).symm.trans (tail_eq m c main_v434).symm

end Cert.Small

end
-- ==== Proof.OwnKernel.lean ====
/- A core's half of its own slice of a gradient, summed with the other core's and with the three received, at the extended
   reals: the kernel's side condition and its result, for the numbers of a slice and of a core. -/
module

public import proofs.«01_k».proof.Defs
public import proofs.«01_k».proof.Proof.LnSpec
public import proofs.«01_k».proof.Proof.Gen.KOwn.Frame
public import proofs.«01_k».proof.Proof.Gen.KOwnIdeal.Frame
public import proofs.«01_k».proof.Proof.Gen.Pre_a_slice_and_a_core
public import Idealize.ShloMosaic.Lib.StableHlo.Predicate
public import Idealize.ShloMosaic.Lib.StableHlo.ReadAt
public import Idealize.ShloMosaic.Lib.Pipeline.ValueKit

@[expose] public section

set_option maxRecDepth 16384

noncomputable section

namespace Cert.Own

open Idealize.ShloMosaic Cert.Lift

/-- The precondition's comparisons, of one word. -/
theorem word_int {w n : BitVec 32} (h : IntOp.cmpi .sge w 0#32 &&& IntOp.cmpi .sle w n = 1#1) : 0 ≤ w.toInt ∧ w.toInt ≤ n.toInt := by
  change BitVec.ofBool ((0#32).sle w) &&& BitVec.ofBool (w.sle n) = 1#1 at h
  rw [BitVec.ofBool_and_ofBool, StableHlo.Predicate.ofBool_eq_one_iff, Bool.and_eq_true] at h
  exact ⟨by simpa [BitVec.sle] using h.1, by simpa [BitVec.sle] using h.2⟩

theorem word_two {w : BitVec 32} (h : IntOp.cmpi .sge w 0#32 &&& IntOp.cmpi .sle w 1#32 = 1#1) : ∃ b : Fin 2, w = BitVec.ofNat 32 b.val := by
  obtain ⟨h0, h1⟩ := word_int h
  rw [show (1#32 : BitVec 32).toInt = 1 by decide] at h1
  rcases (show w.toInt = 0 ∨ w.toInt = 1 by omega) with e | e
  · exact ⟨0, BitVec.eq_of_toInt_eq (e.trans (by decide))⟩
  · exact ⟨1, BitVec.eq_of_toInt_eq (e.trans (by decide))⟩

theorem word_four {w : BitVec 32} (h : IntOp.cmpi .sge w 0#32 &&& IntOp.cmpi .sle w 3#32 = 1#1) : ∃ s : Fin 4, w = BitVec.ofNat 32 s.val := by
  obtain ⟨h0, h1⟩ := word_int h
  rw [show (3#32 : BitVec 32).toInt = 3 by decide] at h1
  rcases (show w.toInt = 0 ∨ w.toInt = 1 ∨ w.toInt = 2 ∨ w.toInt = 3 by omega) with e | e | e | e
  · exact ⟨0, BitVec.eq_of_toInt_eq (e.trans (by decide))⟩
  · exact ⟨1, BitVec.eq_of_toInt_eq (e.trans (by decide))⟩
  · exact ⟨2, BitVec.eq_of_toInt_eq (e.trans (by decide))⟩
  · exact ⟨3, BitVec.eq_of_toInt_eq (e.trans (by decide))⟩

instance : Subsingleton (⟨1, ![1]⟩ : Shape).Idx :=
  ⟨fun x y => funext fun a => by obtain rfl : a = 0 := Subsingleton.elim (α := Fin 1) _ _; exact Subsingleton.elim (α := Fin 1) _ _⟩

section Out

variable (G : (⟨3, ![4, 2048, 2048]⟩ : Shape).Idx → EReal) (O : (⟨3, ![4, 1024, 2048]⟩ : Shape).Idx → EReal)
  (R : (⟨3, ![3, 1024, 2048]⟩ : Shape).Idx → EReal) (s : Fin 4) (b : Fin 2)

/-- The row of the whole array that row `r` of core `b`'s half is, and the row of its half that a row of the whole is. -/
def row (r : Fin 1024) : Fin 2048 := ⟨b.val * 1024 + r.val, by omega⟩
def half (r : Fin 2048) : Fin 1024 := ⟨r.val % 1024, by omega⟩

theorem half_row (r : Fin 1024) : half (row b r) = r := Fin.ext (by change (b.val * 1024 + r.val) % 1024 = r.val; omega)

/-- Slice `s` of the gradient, with the other core's half of it and the three received. -/
def full : (⟨2, ![2048, 2048]⟩ : Shape).Idx → EReal := fun i =>
  G (ix3 s (i 0) (i 1)) + O (ix3 s (half (i 0)) (i 1)) + R (ix3 0 (half (i 0)) (i 1)) + R (ix3 1 (half (i 0)) (i 1)) + R (ix3 2 (half (i 0)) (i 1))

/-- The half of that which core `b` computes. -/
def out : (⟨2, ![1024, 2048]⟩ : Shape).Idx → EReal := fun i => full G O R s (ix2 (row b (i 0)) (i 1))

end Out

end Cert.Own

namespace Cert.KOwn.Side

open Idealize.ShloMosaic Idealize.ShloMosaic.TcCoe Idealize.SL.Sem Cert.KOwn Cert.KOwn.Gen Cert.Lift

variable {F : FTy → Type} [FloatOps F]

/-- The one table's contents: the slice's number and the core's. -/
def pfOf (s b : BitVec 32) : pre0.Contents (Elt F) :=
  fun | ⟨0, _⟩ => fun (x : S2.Idx) => if (x 0).val = 0 then s else b | ⟨_ + 1, h⟩ => absurd h (by simp)

theorem host_table (m : (ℓ : Loc nD τ sig) → Buf (Elt F) ℓ) (c : Dev nD) : (V m c main_v0 : S2.Idx → BitVec 32)
    = concatenate S2 0 [⟨S1, m ((c : Thread nD τ).loc main_arg3)⟩, ⟨S1, m ((c : Thread nD τ).loc main_arg4)⟩] concatenates_S1_S1_S2_d0 := by
  unfold V V0
  after_reads_simp
  rfl

theorem tbl_eq (m : (ℓ : Loc nD τ sig) → Buf (Elt F) ℓ) : tbl m
    = pfOf (m (((0 : Dev nD) : Thread nD τ).loc main_arg3) (ix1 0)) (m (((0 : Dev nD) : Thread nD τ).loc main_arg4) (ix1 0)) := by
  funext j x
  match j with
  | ⟨0, _⟩ =>
    refine (congrFun (host_table m 0) x).trans ?_
    change S2.Idx at x
    obtain ⟨k, rfl⟩ : ∃ k : Fin 2, x = ix1 k := ⟨x 0, by funext a; obtain rfl : a = 0 := Subsingleton.elim (α := Fin 1) _ _; rfl⟩
    match k with
    | 0 =>
      pointwise []
      exact congrArg (m (((0 : Dev nD) : Thread nD τ).loc main_arg3)) (Subsingleton.elim (α := S1.Idx) _ (ix1 0))
    | 1 =>
      pointwise []
      exact congrArg (m (((0 : Dev nD) : Thread nD τ).loc main_arg4)) (Subsingleton.elim (α := S1.Idx) _ (ix1 0))

theorem ok_all : ∀ (s : Fin 4) (b : Fin 2), ok0 (F := Bits) (pfOf (BitVec.ofNat 32 s.val) (BitVec.ofNat 32 b.val)) := by decide +kernel

theorem words (m : (ℓ : Loc nD τ sig) → Buf (Elt Bits) ℓ) (h : Cert.Pre_KOwn m) (c : Dev nD) :
    (∃ s : Fin 4, m ((c : Thread nD τ).loc main_arg3) (ix1 0) = BitVec.ofNat 32 s.val)
      ∧ ∃ b : Fin 2, m ((c : Thread nD τ).loc main_arg4) (ix1 0) = BitVec.ofNat 32 b.val :=
  ⟨Cert.Own.word_four (congrFun (h c).1 (ix1 0)), Cert.Own.word_two (congrFun (h c).2 (ix1 0))⟩

theorem ok_of_pre (m : (ℓ : Loc nD τ sig) → Buf (Elt Bits) ℓ) (h : Cert.Pre_KOwn m) : Ok (F := Bits) m := by
  obtain ⟨⟨s, hs⟩, b, hb⟩ := words m h 0
  unfold Ok
  rw [tbl_eq m, hs, hb]
  exact ok_all s b

end Cert.KOwn.Side

namespace Cert.KOwnIdeal.Side

open Idealize.ShloMosaic Idealize.ShloMosaic.TcCoe Idealize.SL.Sem Cert.KOwnIdeal Cert.KOwnIdeal.Gen Cert.Lift

variable {F : FTy → Type} [FloatOps F]

/-- The one table's contents: the slice's number and the core's. -/
def pfOf (s b : BitVec 32) : pre0.Contents (Elt F) :=
  fun | ⟨0, _⟩ => fun (x : S2.Idx) => if (x 0).val = 0 then s else b | ⟨_ + 1, h⟩ => absurd h (by simp)

theorem host_table (m : (ℓ : Loc nD τ sig) → Buf (Elt F) ℓ) (c : Dev nD) : (V m c main_v0 : S2.Idx → BitVec 32)
    = concatenate S2 0 [⟨S1, m ((c : Thread nD τ).loc main_arg3)⟩, ⟨S1, m ((c : Thread nD τ).loc main_arg4)⟩] concatenates_S1_S1_S2_d0 := by
  unfold V V0
  after_reads_simp
  rfl

theorem tbl_eq (m : (ℓ : Loc nD τ sig) → Buf (Elt F) ℓ) : tbl m
    = pfOf (m (((0 : Dev nD) : Thread nD τ).loc main_arg3) (ix1 0)) (m (((0 : Dev nD) : Thread nD τ).loc main_arg4) (ix1 0)) := by
  funext j x
  match j with
  | ⟨0, _⟩ =>
    refine (congrFun (host_table m 0) x).trans ?_
    change S2.Idx at x
    obtain ⟨k, rfl⟩ : ∃ k : Fin 2, x = ix1 k := ⟨x 0, by funext a; obtain rfl : a = 0 := Subsingleton.elim (α := Fin 1) _ _; rfl⟩
    match k with
    | 0 =>
      pointwise []
      exact congrArg (m (((0 : Dev nD) : Thread nD τ).loc main_arg3)) (Subsingleton.elim (α := S1.Idx) _ (ix1 0))
    | 1 =>
      pointwise []
      exact congrArg (m (((0 : Dev nD) : Thread nD τ).loc main_arg4)) (Subsingleton.elim (α := S1.Idx) _ (ix1 0))

theorem ok_all : ∀ (s : Fin 4) (b : Fin 2), ok0 (F := Ideal) (pfOf (BitVec.ofNat 32 s.val) (BitVec.ofNat 32 b.val)) := by decide +kernel

theorem words (m : (ℓ : Loc nD τ sig) → Buf (Elt Ideal) ℓ) (h : Cert.Pre_KOwnIdeal m) (c : Dev nD) :
    (∃ s : Fin 4, m ((c : Thread nD τ).loc main_arg3) (ix1 0) = BitVec.ofNat 32 s.val)
      ∧ ∃ b : Fin 2, m ((c : Thread nD τ).loc main_arg4) (ix1 0) = BitVec.ofNat 32 b.val :=
  ⟨Cert.Own.word_four (congrFun (h c).1 (ix1 0)), Cert.Own.word_two (congrFun (h c).2 (ix1 0))⟩

theorem ok_of_pre (m : (ℓ : Loc nD τ sig) → Buf (Elt Ideal) ℓ) (h : Cert.Pre_KOwnIdeal m) : Ok (F := Ideal) m := by
  obtain ⟨⟨s, hs⟩, b, hb⟩ := words m h 0
  unfold Ok
  rw [tbl_eq m, hs, hb]
  exact ok_all s b

end Cert.KOwnIdeal.Side

namespace Cert.Own.Kernel

open Idealize.ShloMosaic Idealize.ShloMosaic.TcCoe Idealize.SL.Sem
open Idealize.ShloMosaic.Pipeline (Dat)
open Cert.KOwnIdeal Cert.KOwnIdeal.Gen Cert.KOwnIdeal.Side Cert.Lift

theorem pay (g o r0 r1 r2 : S1x256x2048.Idx → EReal) (a : Fin 256) (k : Fin 2048) : k0_pay1 (F := Ideal) g o r0 r1 r2 (ix2 a k)
    = g (ix3 0 a k) + o (ix3 0 a k) + r0 (ix3 0 a k) + r1 (ix3 0 a k) + r2 (ix3 0 a k) := by
  pointwise [k0_pay1]

section Loads

variable (x : S3x256x2048.Idx → EReal) (a : Fin 256) (k : Fin 2048)

theorem ld0 : View.ld (Val := Elt Ideal) (S := S3x256x2048) (e' := .bf16) x (Rect.unit ![0, 0, 0] ![1, 256, 2048] inb_S3x256x2048_S1x256x2048_0_0_0) (ix3 (0 : Fin 1) a k : S1x256x2048.Idx) = x (ix3 0 a k) := by
  refine congrArg x (funext fun d => Fin.ext ?_)
  fin_cases d <;> simp [ix3]
theorem ld1 : View.ld (Val := Elt Ideal) (S := S3x256x2048) (e' := .bf16) x (Rect.unit ![1, 0, 0] ![1, 256, 2048] inb_S3x256x2048_S1x256x2048_1_0_0) (ix3 (0 : Fin 1) a k : S1x256x2048.Idx) = x (ix3 1 a k) := by
  refine congrArg x (funext fun d => Fin.ext ?_)
  fin_cases d <;> simp [ix3]
theorem ld2 : View.ld (Val := Elt Ideal) (S := S3x256x2048) (e' := .bf16) x (Rect.unit ![2, 0, 0] ![1, 256, 2048] inb_S3x256x2048_S1x256x2048_2_0_0) (ix3 (0 : Fin 1) a k : S1x256x2048.Idx) = x (ix3 2 a k) := by
  refine congrArg x (funext fun d => Fin.ext ?_)
  fin_cases d <;> simp [ix3]

end Loads

section Arrays

variable (m : (ℓ : Loc nD τ sig) → Buf (Elt Ideal) ℓ) (c : Dev nD)

/-- The arguments: the gradient, the other core's half, the received, and the numbers of the slice and the core. -/
def argG : S4x2048x2048.Idx → EReal := m ((c : Thread nD τ).loc main_arg0)
def argO : S4x1024x2048.Idx → EReal := m ((c : Thread nD τ).loc main_arg1)
def argR : S3x1024x2048.Idx → EReal := m ((c : Thread nD τ).loc main_arg2)

variable (s : Fin 4) (b : Fin 2) (hs : m ((c : Thread nD τ).loc main_arg3) (ix1 0) = BitVec.ofNat 32 s.val)
  (hb : m ((c : Thread nD τ).loc main_arg4) (ix1 0) = BitVec.ofNat 32 b.val)

include hs hb in
theorem tbl_at : tbl m = pfOf (BitVec.ofNat 32 s.val) (BitVec.ofNat 32 b.val) := by
  obtain rfl : c = 0 := Subsingleton.elim _ _
  rw [tbl_eq m, hs, hb]

theorem map0 : ∀ (s : Fin 4) (b : Fin 2) (t : Fin grid0.N), cc0_transform_0 (F := Ideal) inb_S2_S1_0 numel1_S1 inb_S2_S1_1
    (pfOf (BitVec.ofNat 32 s.val) (BitVec.ofNat 32 b.val)) (grid0.coords t) = ![s.val, b.val * 4 + t.val, 0] := by decide +kernel
theorem map1 : ∀ (s : Fin 4) (b : Fin 2) (t : Fin grid0.N), cc0_transform_1 (F := Ideal) inb_S2_S1_0 numel1_S1
    (pfOf (BitVec.ofNat 32 s.val) (BitVec.ofNat 32 b.val)) (grid0.coords t) = ![s.val, t.val, 0] := by decide +kernel
theorem map2 : ∀ t : Fin grid0.N, cc0_transform_2 (grid0.coords t) = ![0, t.val, 0] := by decide +kernel
theorem map3 : ∀ (s : Fin 4) (b : Fin 2) (t : Fin grid0.N), cc0_transform_3 (F := Ideal) inb_S2_S1_1 numel1_S1
    (pfOf (BitVec.ofNat 32 s.val) (BitVec.ofNat 32 b.val)) (grid0.coords t) = ![b.val * 4 + t.val, 0] := by decide +kernel

variable (hO : Ok m) (t : Fin (cfgM m hO).N)

include hs hb in
theorem idx0 : ((cfgM m hO).win 0).index t = ![s.val, b.val * 4 + t.val, 0] := by
  have e : ((cfgM m hO).win 0).index t = cc0_transform_0 (F := Ideal) inb_S2_S1_0 numel1_S1 inb_S2_S1_1 (tbl m) (grid0.coords t) := rfl
  rw [e, tbl_at m c s b hs hb]
  exact map0 s b t
include hs hb in
theorem idx1 : ((cfgM m hO).win 1).index t = ![s.val, t.val, 0] := by
  have e : ((cfgM m hO).win 1).index t = cc0_transform_1 (F := Ideal) inb_S2_S1_0 numel1_S1 (tbl m) (grid0.coords t) := rfl
  rw [e, tbl_at m c s b hs hb]
  exact map1 s b t
theorem idx2 : ((cfgM m hO).win 2).index t = ![0, t.val, 0] := map2 t
include hs hb in
theorem idx3 : ((cfgM m hO).win 3).index t = ![b.val * 4 + t.val, 0] := by
  have e : ((cfgM m hO).win 3).index t = cc0_transform_3 (F := Ideal) inb_S2_S1_1 numel1_S1 (tbl m) (grid0.coords t) := rfl
  rw [e, tbl_at m c s b hs hb]
  exact map3 s b t

/-- The row of a half that row `a` of point `t`'s blocks is. -/
theorem lt4 : t.val < 4 := Nat.lt_of_lt_of_eq t.isLt N_0
def at_ (a : Fin 256) : Fin 1024 := ⟨t.val * 256 + a.val, by have := lt4 m hO t; omega⟩

include hs hb in
theorem blk0 : iblk m hO c 0 t = (fun y => argG m c (ix3 s (row b (at_ m hO t (y 1))) (y 2)) : S1x256x2048.Idx → EReal) := by
  refine funext fun (y : S1x256x2048.Idx) => ?_
  idx_vars y
  obtain rfl : y0 = 0 := Subsingleton.elim _ _
  blk_ext [iblk, V_main_arg0, argG, at_, row, idx0 m c s b hs hb hO t]

include hs hb in
theorem blk1 : iblk m hO c 1 t = (fun y => argO m c (ix3 s (at_ m hO t (y 1)) (y 2)) : S1x256x2048.Idx → EReal) := by
  refine funext fun (y : S1x256x2048.Idx) => ?_
  idx_vars y
  obtain rfl : y0 = 0 := Subsingleton.elim _ _
  blk_ext [iblk, V_main_arg1, argO, at_, idx1 m c s b hs hb hO t]

theorem blk2 : iblk m hO c 2 t = (fun y => argR m c (ix3 (y 0) (at_ m hO t (y 1)) (y 2)) : S3x256x2048.Idx → EReal) := by
  refine funext fun (y : S3x256x2048.Idx) => ?_
  idx_vars y
  blk_ext [iblk, V_main_arg2, argR, at_, idx2 m hO t]

theorem covers_all : ∀ (s : Fin 4) (b : Fin 2), ((cfg0 (F := Ideal) ⟨pfOf (BitVec.ofNat 32 s.val) (BitVec.ofNat 32 b.val), ok_all s b⟩).win 3).CoversWhere
    (fun β => β (0 : Fin 2) / 4 = b.val) := by decide +kernel

theorem covers_of {pf : pre0.Contents (Elt Ideal)} (h : ok0 pf) (e : pf = pfOf (BitVec.ofNat 32 s.val) (BitVec.ofNat 32 b.val)) :
    ((cfg0 (F := Ideal) ⟨pf, h⟩).win 3).CoversWhere (fun β => β (0 : Fin 2) / 4 = b.val) := by
  subst e
  exact covers_all s b

include hs hb in
theorem arr3 (r : Fin 1024) (k : Fin 2048) : ((dats m hO 0 c).arrAt 3 (cfgM m hO).N : S2048x2048.Idx → EReal) (ix2 (row b r) k)
    = full (argG m c) (argO m c) (argR m c) s (ix2 (row b r) k) := by
  refine ((dats m hO 0 c).arrAt_apply_of_coversWhere 3 (full (argG m c) (argO m c) (argR m c) s) (P := fun i : S2048x2048.Idx => (i 0).val / 256 / 4 = b.val)
    (fun β => β (0 : Fin 2) / 4 = b.val) (covers_of s b hO (tbl_at m c s b hs hb)) (fun t hf (y : S256x2048.Idx) => ?_) (fun j => Iff.rfl) (ix2 (row b r) k)).trans (if_pos ?_)
  · idx_vars y
    blk_simp
    rw [after0_3]
    unfold outsAt0 out0_A_3
    frame_out
    rw [blk0 m c s b hs hb hO t, blk1 m c s b hs hb hO t, blk2 m c hO t]
    refine (pay _ _ _ _ _ y0 y1).trans ?_
    rw [Memref.IsWhole.read_unread, Memref.IsWhole.read_unread, Memref.IsWhole.read_unread, ld0, ld1, ld2]
    refine Eq.trans ?_ (congrArg (full (argG m c) (argO m c) (argR m c) s) (?_ : ix2 (row b (at_ m hO t y0)) y1 = _))
    · change _ = argG m c (ix3 s (row b (at_ m hO t y0)) y1) + argO m c (ix3 s (half (row b (at_ m hO t y0))) y1)
        + argR m c (ix3 0 (half (row b (at_ m hO t y0))) y1) + argR m c (ix3 1 (half (row b (at_ m hO t y0))) y1)
        + argR m c (ix3 2 (half (row b (at_ m hO t y0))) y1)
      rw [half_row]
      rfl
    · blk_ext [at_, row, idx3 m c s b hs hb hO t]
  · change (b.val * 1024 + r.val) / 256 / 4 = b.val
    omega

variable (U : Valuation τ sig (Elt Ideal))

theorem cut (b : Fin 2) (hU : (U (Proc.devRef .tc main_arg4) : S1.Idx → BitVec 32) (ix1 0) = BitVec.ofNat 32 b.val) (r : Fin 1024) (k : Fin 2048) :
    (StableHlo.after ([hostOps1] : List (List (HloOp τ sig (Elt Ideal)))).flatten U (Proc.devRef .tc main_v7) : S1024x2048.Idx → EReal) (ix2 r k)
      = (U (Proc.devRef .tc main_v1) : S2048x2048.Idx → EReal) (ix2 (row b r) k) := by
  after_reads_at
  rw [hU]
  obtain rfl | rfl : b = 0 ∨ b = 1 := by omega
  · rw [show row 0 r = ⟨r.val, by omega⟩ from Fin.ext (Nat.zero_add _)]
    rfl
  · rfl

end Arrays

end Cert.Own.Kernel

end
-- ==== Proof.OwnRef.lean ====
/- A core's half of its own slice of a gradient, summed with the other halves, as the reference computes it, at the extended reals. -/
module

public import proofs.«01_k».proof.Proof.OwnKernel
public import proofs.«01_k».proof.Proof.Gen.ROwnIdeal.Read

@[expose] public section

set_option maxRecDepth 16384

noncomputable section

namespace Cert.Own.Ref

open Idealize.ShloMosaic Idealize.ShloMosaic.TcCoe Idealize.SL.Sem
open Cert.ROwnIdeal Cert.ROwnIdeal.Gen Cert.ROwnIdeal.Read Cert.Lift

variable (G : S4x2048x2048.Idx → EReal) (O : S4x1024x2048.Idx → EReal) (R : S3x1024x2048.Idx → EReal) (S C : S1.Idx → BitVec 32)
  (s : Fin 4) (b : Fin 2)

theorem rd_slice (hs : S (ix1 0) = BitVec.ofNat 32 s.val) (r k : Fin 2048) : val_main_v25 (F := Ideal) G S (ix2 r k) = G (ix3 s r k) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_c, val_main_c_0, val_main_c_1]
  rw [hs]
  fin_cases s <;> rfl

theorem rd_other (hs : S (ix1 0) = BitVec.ofNat 32 s.val) (r : Fin 1024) (k : Fin 2048) :
    val_main_v58 (F := Ideal) O S (ix2 r k) = O (ix3 s r k) := by
  pointwise [val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_c_3, val_main_c_4, val_main_c_5]
  rw [hs]
  fin_cases s <;> rfl

theorem rd_half (hs : S (ix1 0) = BitVec.ofNat 32 s.val) (hb : C (ix1 0) = BitVec.ofNat 32 b.val) (r : Fin 1024) (k : Fin 2048) :
    val_main_v31 (F := Ideal) G S C (ix2 r k) = G (ix3 s (row b r) k) := by
  pointwise [val_main_v26, val_main_v27, val_main_v28, val_main_v29, val_main_v30, val_main_v31, val_main_c_2, rd_slice G S s hs]
  rw [hb]
  obtain rfl | rfl : b = 0 ∨ b = 1 := by omega
  · rw [show row 0 r = ⟨r.val, by omega⟩ from Fin.ext (Nat.zero_add _)]
    rfl
  · rfl

theorem rd_received (r : Fin 1024) (k : Fin 2048) :
    val_main_v67 (F := Ideal) R (ix2 r k) = R (ix3 0 r k) + R (ix3 1 r k) + R (ix3 2 r k) := by
  pointwise [val_main_v32, val_main_v60, val_main_v61, val_main_v62, val_main_v63, val_main_v64, val_main_v65, val_main_v66, val_main_v67]

theorem rd_out (hs : S (ix1 0) = BitVec.ofNat 32 s.val) (hb : C (ix1 0) = BitVec.ofNat 32 b.val) (r : Fin 1024) (k : Fin 2048) :
    val_main_v68 (F := Ideal) G O R S C (ix2 r k) = out G O R s b (ix2 r k) := by
  have e : val_main_v68 (F := Ideal) G O R S C (ix2 r k)
      = val_main_v31 (F := Ideal) G S C (ix2 r k) + val_main_v58 (F := Ideal) O S (ix2 r k) + val_main_v67 (F := Ideal) R (ix2 r k) := rfl
  rw [e, rd_half G S C s b hs hb, rd_other O S s hs, rd_received]
  change _ = G (ix3 s (row b r) k) + O (ix3 s (half (row b r)) k) + R (ix3 0 (half (row b r)) k) + R (ix3 1 (half (row b r)) k)
    + R (ix3 2 (half (row b r)) k)
  rw [half_row, add_assoc, add_assoc, add_assoc, add_assoc, add_assoc]

end Cert.Own.Ref

end
-- ==== Proof.OwnClaim.lean ====
/- A core's half of its own slice of a gradient, summed with the other halves:
   computes what the reference computes: the two programs' results agree. -/
module

public import proofs.«01_k».proof.Defs
public import proofs.«01_k».proof.Proof.OwnKernel
public import proofs.«01_k».proof.Proof.OwnRef
public import Idealize.ShloMosaic.Lib.Claim

@[expose] public section

set_option maxRecDepth 16384

noncomputable section

namespace Cert.Own

open Idealize.ShloMosaic Idealize.ShloMosaic.TcCoe Idealize.SL.Sem Cert.Lift

theorem kernel_frame : Cert.quiescent_KOwn := fun m g h => Cert.KOwn.Gen.frame m g (KOwn.Side.ok_of_pre m h)

theorem ideal_frame : Cert.quiescent_KOwnIdeal := fun m g h => Cert.KOwnIdeal.Gen.frame m g (KOwnIdeal.Side.ok_of_pre m h)

theorem ref_frame : Cert.quiescent_ROwnIdeal := fun m g _ =>
  (θ_run _ _ _).mono (fun r h => ⟨fun c => (h c).2, sem_eq_zero_of_no_sems (by decide) r.2⟩) (Cert.ROwnIdeal.Value.run m g)

namespace Kernel

open Cert.KOwnIdeal Cert.KOwnIdeal.Gen

variable (m : (ℓ : Loc nD τ sig) → Buf (Elt Ideal) ℓ) (hO : Ok m) (c : Dev nD)

/-- What the program leaves in a buffer that the lines after the region write. -/
abbrev tail (b : Ref sig .tc) : Buf (Elt Ideal) ((c : Thread nD τ).loc b) :=
  Pipeline.afterTail pcfgs (fun _ => adm m hO) (dats m hO) 0 (V0 m) [hostOps1] c b

/-- The contents the region leaves, which those lines start from. -/
abbrev left : Valuation τ sig (Elt Ideal) :=
  Pipeline.withArrays spec0 c (V0 m c) fun w => (dats m hO 0 c).arrAt w (cfgM m hO).N

theorem left_arr : left m hO c (Proc.devRef .tc main_v1) = (dats m hO 0 c).arrAt 3 (cfgM m hO).N :=
  Pipeline.withArrays_arr spec0 (by decide : Function.Injective (Pipeline.arrRef spec0)) c (V0 m c) _ 3
theorem left_core : left m hO c (Proc.devRef .tc main_arg4) = m ((c : Thread nD τ).loc main_arg4) :=
  (Pipeline.withArrays_of_ne _ c (V0 m c) _ main_arg4 (by exact (by decide : ∀ w, Pipeline.arrRef spec0 w ≠ main_arg4))).trans (V_main_arg4 m c)

variable (s : Fin 4) (b : Fin 2) (hs : m ((c : Thread nD τ).loc main_arg3) (ix1 0) = BitVec.ofNat 32 s.val)
  (hb : m ((c : Thread nD τ).loc main_arg4) (ix1 0) = BitVec.ofNat 32 b.val)

include hs hb in
theorem tail_out : (tail m hO c main_v7 : S1024x2048.Idx → EReal) = out (argG m c) (argO m c) (argR m c) s b := by
  funext i
  obtain ⟨r, k, rfl⟩ : ∃ (r : Fin 1024) (k : Fin 2048), i = ix2 r k := ⟨i 0, i 1, by funext a; fin_cases a <;> rfl⟩
  exact (cut (left m hO c) b ((congrFun (left_core m hO c) (ix1 0)).trans hb) r k).trans
    ((congrFun (left_arr m hO c) _).trans (arr3 m c s b hs hb hO r k))

end Kernel

/-- Two posts of the same program. -/
theorem both {nD : Nat} {τ : Topo} {sig : RefSig} {Val : EltTy → Type} {Λ : Labels} {defs : Defs nD τ sig Val Λ}
    {p : (c : Thread nD τ) → Prog (TpuEff nD τ sig Val Λ c.2) PUnit} {s : MemSt nD τ sig Val} {P Q : PUnit × MemSt nD τ sig Val → Prop}
    (h : θ_run defs p s P) (h' : θ_run defs p s Q) : θ_run defs p s fun r => P r ∧ Q r :=
  ⟨fun t ht hf => ⟨h.post t ht hf, h'.post t ht hf⟩, h.progress, h.fair⟩

open Kernel Cert.KOwnIdeal Cert.KOwnIdeal.Gen in
theorem algebraic : Cert.algebraic_KOwnIdeal_ROwnIdeal := by
  intro m g m' g' hpre hagree
  have hO := KOwnIdeal.Side.ok_of_pre m hpre
  refine ⟨fun c => tail m hO c main_v7, ?_, ?_⟩
  · refine (θ_run _ _ _).mono (fun r h c => ?_) (both (Cert.KOwnIdeal.Gen.run_main m g hO) (Cert.KOwnIdeal.Gen.unchanged m g hO))
    exact ⟨(h.1 c).2 main_v7 (by exact (by decide : main_v7 ∈ Pipeline.restRefs sig spec0)), h.2 c⟩
  · refine (θ_run _ _ _).mono (fun r h c => ?_) (Cert.ROwnIdeal.Value.run m' g')
    obtain ⟨h0, ha⟩ := h c
    obtain ⟨e0, e1, e2, e3, e4⟩ := hagree c
    obtain ⟨⟨s, hs⟩, b, hb⟩ := KOwnIdeal.Side.words m hpre c
    refine ⟨h0.trans ?_, ha⟩
    refine (Cert.ROwnIdeal.Read.val_main_v68_eq _ _).trans ?_
    rw [e0, e1, e2, e3, e4]
    refine Eq.trans ?_ (tail_out m hO c s b hs hb).symm
    funext i
    idx_vars i
    exact Ref.rd_out (argG m c) (argO m c) (argR m c) _ _ s b hs hb i0 i1

end Cert.Own

end
-- ==== Proof.lean ====
module

public import proofs.«01_k».proof.Defs
public import proofs.«01_k».proof.Proof.Gen.KPost
public import proofs.«01_k».proof.Proof.Gen.KPost.Skeleton
public import proofs.«01_k».proof.Proof.Gen.KPost.Launch
public import proofs.«01_k».proof.Proof.Gen.KPost.Points
public import proofs.«01_k».proof.Proof.Gen.KPost.Frame
public import proofs.«01_k».proof.Proof.Gen.KPostIdeal
public import proofs.«01_k».proof.Proof.Gen.KPostIdeal.Skeleton
public import proofs.«01_k».proof.Proof.Gen.KPostIdeal.Launch
public import proofs.«01_k».proof.Proof.Gen.KPostIdeal.Points
public import proofs.«01_k».proof.Proof.Gen.KPostIdeal.Frame
public import proofs.«01_k».proof.Proof.Gen.KPostIdeal.Value
public import proofs.«01_k».proof.Proof.Gen.RPostIdeal
public import proofs.«01_k».proof.Proof.Gen.RPostIdeal.Run
public import proofs.«01_k».proof.Proof.Gen.RPostIdeal.Read
public import proofs.«01_k».proof.Proof.PostClaim
public import proofs.«01_k».proof.Proof.Gen.KXattn
public import proofs.«01_k».proof.Proof.Gen.KXattn.Skeleton
public import proofs.«01_k».proof.Proof.Gen.KXattn.Launch
public import proofs.«01_k».proof.Proof.Gen.KXattn.Points
public import proofs.«01_k».proof.Proof.Gen.KXattn.Frame
public import proofs.«01_k».proof.Proof.Gen.KXattnIdeal
public import proofs.«01_k».proof.Proof.Gen.KXattnIdeal.Skeleton
public import proofs.«01_k».proof.Proof.Gen.KXattnIdeal.Launch
public import proofs.«01_k».proof.Proof.Gen.KXattnIdeal.Points
public import proofs.«01_k».proof.Proof.Gen.KXattnIdeal.Frame
public import proofs.«01_k».proof.Proof.Gen.KXattnIdeal.Value
public import proofs.«01_k».proof.Proof.Gen.RXattnIdeal
public import proofs.«01_k».proof.Proof.Gen.RXattnIdeal.Run
public import proofs.«01_k».proof.Proof.Gen.RXattnIdeal.Read
public import proofs.«01_k».proof.Proof.XattnClaim
public import proofs.«01_k».proof.Proof.Gen.KLn2
public import proofs.«01_k».proof.Proof.Gen.KLn2.Skeleton
public import proofs.«01_k».proof.Proof.Gen.KLn2.Launch
public import proofs.«01_k».proof.Proof.Gen.KLn2.Points
public import proofs.«01_k».proof.Proof.Gen.KLn2.Frame
public import proofs.«01_k».proof.Proof.Gen.KLn2Ideal
public import proofs.«01_k».proof.Proof.Gen.KLn2Ideal.Skeleton
public import proofs.«01_k».proof.Proof.Gen.KLn2Ideal.Launch
public import proofs.«01_k».proof.Proof.Gen.KLn2Ideal.Points
public import proofs.«01_k».proof.Proof.Gen.KLn2Ideal.Frame
public import proofs.«01_k».proof.Proof.Gen.KLn2Ideal.Value
public import proofs.«01_k».proof.Proof.Gen.RLn2Ideal
public import proofs.«01_k».proof.Proof.Gen.RLn2Ideal.Run
public import proofs.«01_k».proof.Proof.Gen.RLn2Ideal.Read
public import proofs.«01_k».proof.Proof.Ln2Claim
public import proofs.«01_k».proof.Proof.Gen.KLoss
public import proofs.«01_k».proof.Proof.Gen.KLoss.Skeleton
public import proofs.«01_k».proof.Proof.Gen.KLoss.Launch
public import proofs.«01_k».proof.Proof.Gen.KLoss.Points
public import proofs.«01_k».proof.Proof.Gen.KLoss.Frame
public import proofs.«01_k».proof.Proof.Gen.KLossIdeal
public import proofs.«01_k».proof.Proof.Gen.KLossIdeal.Skeleton
public import proofs.«01_k».proof.Proof.Gen.KLossIdeal.Launch
public import proofs.«01_k».proof.Proof.Gen.KLossIdeal.Points
public import proofs.«01_k».proof.Proof.Gen.KLossIdeal.Frame
public import proofs.«01_k».proof.Proof.Gen.KLossIdeal.Value
public import proofs.«01_k».proof.Proof.Gen.RLossIdeal
public import proofs.«01_k».proof.Proof.Gen.RLossIdeal.Run
public import proofs.«01_k».proof.Proof.Gen.RLossIdeal.Read
public import proofs.«01_k».proof.Proof.LossClaim
public import proofs.«01_k».proof.Proof.Gen.KGates
public import proofs.«01_k».proof.Proof.Gen.KGates.Skeleton
public import proofs.«01_k».proof.Proof.Gen.KGates.Launch
public import proofs.«01_k».proof.Proof.Gen.KGates.Points
public import proofs.«01_k».proof.Proof.Gen.KGates.Frame
public import proofs.«01_k».proof.Proof.Gen.KGatesIdeal
public import proofs.«01_k».proof.Proof.Gen.KGatesIdeal.Skeleton
public import proofs.«01_k».proof.Proof.Gen.KGatesIdeal.Launch
public import proofs.«01_k».proof.Proof.Gen.KGatesIdeal.Points
public import proofs.«01_k».proof.Proof.Gen.KGatesIdeal.Frame
public import proofs.«01_k».proof.Proof.Gen.KGatesIdeal.Value
public import proofs.«01_k».proof.Proof.Gen.RGatesIdeal
public import proofs.«01_k».proof.Proof.Gen.RGatesIdeal.Run
public import proofs.«01_k».proof.Proof.Gen.RGatesIdeal.Read
public import proofs.«01_k».proof.Proof.GatesClaim
public import proofs.«01_k».proof.Proof.Gen.KPool
public import proofs.«01_k».proof.Proof.Gen.KPool.Skeleton
public import proofs.«01_k».proof.Proof.Gen.KPool.Launch
public import proofs.«01_k».proof.Proof.Gen.KPool.Points
public import proofs.«01_k».proof.Proof.Gen.KPool.Frame
public import proofs.«01_k».proof.Proof.Gen.KPoolIdeal
public import proofs.«01_k».proof.Proof.Gen.KPoolIdeal.Skeleton
public import proofs.«01_k».proof.Proof.Gen.KPoolIdeal.Launch
public import proofs.«01_k».proof.Proof.Gen.KPoolIdeal.Points
public import proofs.«01_k».proof.Proof.Gen.KPoolIdeal.Frame
public import proofs.«01_k».proof.Proof.Gen.KPoolIdeal.Value
public import proofs.«01_k».proof.Proof.Gen.RPoolIdeal
public import proofs.«01_k».proof.Proof.Gen.RPoolIdeal.Run
public import proofs.«01_k».proof.Proof.Gen.RPoolIdeal.Read
public import proofs.«01_k».proof.Proof.PoolClaim
public import proofs.«01_k».proof.Proof.Gen.KPre
public import proofs.«01_k».proof.Proof.Gen.KPre.Skeleton
public import proofs.«01_k».proof.Proof.Gen.KPre.Launch
public import proofs.«01_k».proof.Proof.Gen.KPre.Points
public import proofs.«01_k».proof.Proof.Gen.KPre.Frame
public import proofs.«01_k».proof.Proof.Gen.KPreIdeal
public import proofs.«01_k».proof.Proof.Gen.KPreIdeal.Skeleton
public import proofs.«01_k».proof.Proof.Gen.KPreIdeal.Launch
public import proofs.«01_k».proof.Proof.Gen.KPreIdeal.Points
public import proofs.«01_k».proof.Proof.Gen.KPreIdeal.Frame
public import proofs.«01_k».proof.Proof.Gen.KPreIdeal.Value
public import proofs.«01_k».proof.Proof.Gen.RPreIdeal
public import proofs.«01_k».proof.Proof.Gen.RPreIdeal.Run
public import proofs.«01_k».proof.Proof.Gen.RPreIdeal.Read
public import proofs.«01_k».proof.Proof.PreClaim
public import proofs.«01_k».proof.Proof.Gen.KXattnf
public import proofs.«01_k».proof.Proof.Gen.KXattnf.Skeleton
public import proofs.«01_k».proof.Proof.Gen.KXattnf.Launch
public import proofs.«01_k».proof.Proof.Gen.KXattnf.Points
public import proofs.«01_k».proof.Proof.Gen.KXattnf.Frame
public import proofs.«01_k».proof.Proof.Gen.KXattnfIdeal
public import proofs.«01_k».proof.Proof.Gen.KXattnfIdeal.Skeleton
public import proofs.«01_k».proof.Proof.Gen.KXattnfIdeal.Launch
public import proofs.«01_k».proof.Proof.Gen.KXattnfIdeal.Points
public import proofs.«01_k».proof.Proof.Gen.KXattnfIdeal.Frame
public import proofs.«01_k».proof.Proof.Gen.KXattnfIdeal.Value
public import proofs.«01_k».proof.Proof.Gen.RXattnfIdeal
public import proofs.«01_k».proof.Proof.Gen.RXattnfIdeal.Run
public import proofs.«01_k».proof.Proof.Gen.RXattnfIdeal.Read
public import proofs.«01_k».proof.Proof.XattnfClaim
public import proofs.«01_k».proof.Proof.Gen.KPoolf
public import proofs.«01_k».proof.Proof.Gen.KPoolf.Skeleton
public import proofs.«01_k».proof.Proof.Gen.KPoolf.Launch
public import proofs.«01_k».proof.Proof.Gen.KPoolf.Points
public import proofs.«01_k».proof.Proof.Gen.KPoolf.Frame
public import proofs.«01_k».proof.Proof.Gen.KPoolfIdeal
public import proofs.«01_k».proof.Proof.Gen.KPoolfIdeal.Skeleton
public import proofs.«01_k».proof.Proof.Gen.KPoolfIdeal.Launch
public import proofs.«01_k».proof.Proof.Gen.KPoolfIdeal.Points
public import proofs.«01_k».proof.Proof.Gen.KPoolfIdeal.Frame
public import proofs.«01_k».proof.Proof.Gen.KPoolfIdeal.Value
public import proofs.«01_k».proof.Proof.Gen.RPoolfIdeal
public import proofs.«01_k».proof.Proof.Gen.RPoolfIdeal.Run
public import proofs.«01_k».proof.Proof.Gen.RPoolfIdeal.Read
public import proofs.«01_k».proof.Proof.PoolfClaim
public import proofs.«01_k».proof.Proof.Gen.KPostf
public import proofs.«01_k».proof.Proof.Gen.KPostf.Skeleton
public import proofs.«01_k».proof.Proof.Gen.KPostf.Launch
public import proofs.«01_k».proof.Proof.Gen.KPostf.Points
public import proofs.«01_k».proof.Proof.Gen.KPostf.Frame
public import proofs.«01_k».proof.Proof.Gen.KPostfIdeal
public import proofs.«01_k».proof.Proof.Gen.KPostfIdeal.Skeleton
public import proofs.«01_k».proof.Proof.Gen.KPostfIdeal.Launch
public import proofs.«01_k».proof.Proof.Gen.KPostfIdeal.Points
public import proofs.«01_k».proof.Proof.Gen.KPostfIdeal.Frame
public import proofs.«01_k».proof.Proof.Gen.KPostfIdeal.Value
public import proofs.«01_k».proof.Proof.Gen.RPostfIdeal
public import proofs.«01_k».proof.Proof.Gen.RPostfIdeal.Run
public import proofs.«01_k».proof.Proof.Gen.RPostfIdeal.Read
public import proofs.«01_k».proof.Proof.PostfClaim
public import proofs.«01_k».proof.Proof.Gen.KPref
public import proofs.«01_k».proof.Proof.Gen.KPref.Skeleton
public import proofs.«01_k».proof.Proof.Gen.KPref.Launch
public import proofs.«01_k».proof.Proof.Gen.KPref.Points
public import proofs.«01_k».proof.Proof.Gen.KPref.Frame
public import proofs.«01_k».proof.Proof.Gen.KPrefIdeal
public import proofs.«01_k».proof.Proof.Gen.KPrefIdeal.Skeleton
public import proofs.«01_k».proof.Proof.Gen.KPrefIdeal.Launch
public import proofs.«01_k».proof.Proof.Gen.KPrefIdeal.Points
public import proofs.«01_k».proof.Proof.Gen.KPrefIdeal.Frame
public import proofs.«01_k».proof.Proof.Gen.KPrefIdeal.Value
public import proofs.«01_k».proof.Proof.Gen.RPrefIdeal
public import proofs.«01_k».proof.Proof.Gen.RPrefIdeal.Run
public import proofs.«01_k».proof.Proof.Gen.RPrefIdeal.Read
public import proofs.«01_k».proof.Proof.PrefClaim
public import proofs.«01_k».proof.Proof.Gen.KXqdx
public import proofs.«01_k».proof.Proof.Gen.KXqdx.Skeleton
public import proofs.«01_k».proof.Proof.Gen.KXqdx.Launch
public import proofs.«01_k».proof.Proof.Gen.KXqdx.Points
public import proofs.«01_k».proof.Proof.Gen.KXqdx.Frame
public import proofs.«01_k».proof.Proof.Gen.KXqdxIdeal
public import proofs.«01_k».proof.Proof.Gen.KXqdxIdeal.Skeleton
public import proofs.«01_k».proof.Proof.Gen.KXqdxIdeal.Launch
public import proofs.«01_k».proof.Proof.Gen.KXqdxIdeal.Points
public import proofs.«01_k».proof.Proof.Gen.KXqdxIdeal.Frame
public import proofs.«01_k».proof.Proof.Gen.KXqdxIdeal.Value
public import proofs.«01_k».proof.Proof.Gen.RXqdxIdeal
public import proofs.«01_k».proof.Proof.Gen.RXqdxIdeal.Run
public import proofs.«01_k».proof.Proof.Gen.RXqdxIdeal.Read
public import proofs.«01_k».proof.Proof.XqdxClaim
public import proofs.«01_k».proof.Proof.Gen.KMlpdx
public import proofs.«01_k».proof.Proof.Gen.KMlpdx.Skeleton
public import proofs.«01_k».proof.Proof.Gen.KMlpdx.Launch
public import proofs.«01_k».proof.Proof.Gen.KMlpdx.Points
public import proofs.«01_k».proof.Proof.Gen.KMlpdx.Frame
public import proofs.«01_k».proof.Proof.Gen.KMlpdxIdeal
public import proofs.«01_k».proof.Proof.Gen.KMlpdxIdeal.Skeleton
public import proofs.«01_k».proof.Proof.Gen.KMlpdxIdeal.Launch
public import proofs.«01_k».proof.Proof.Gen.KMlpdxIdeal.Points
public import proofs.«01_k».proof.Proof.Gen.KMlpdxIdeal.Frame
public import proofs.«01_k».proof.Proof.Gen.KMlpdxIdeal.Value
public import proofs.«01_k».proof.Proof.Gen.RMlpdxIdeal
public import proofs.«01_k».proof.Proof.Gen.RMlpdxIdeal.Run
public import proofs.«01_k».proof.Proof.Gen.RMlpdxIdeal.Read
public import proofs.«01_k».proof.Proof.MlpdxClaim
public import proofs.«01_k».proof.Proof.Gen.KLnf
public import proofs.«01_k».proof.Proof.Gen.KLnf.Skeleton
public import proofs.«01_k».proof.Proof.Gen.KLnf.Launch
public import proofs.«01_k».proof.Proof.Gen.KLnf.Points
public import proofs.«01_k».proof.Proof.Gen.KLnf.Frame
public import proofs.«01_k».proof.Proof.Gen.KLnfIdeal
public import proofs.«01_k».proof.Proof.Gen.KLnfIdeal.Skeleton
public import proofs.«01_k».proof.Proof.Gen.KLnfIdeal.Launch
public import proofs.«01_k».proof.Proof.Gen.KLnfIdeal.Points
public import proofs.«01_k».proof.Proof.Gen.KLnfIdeal.Frame
public import proofs.«01_k».proof.Proof.Gen.KLnfIdeal.Value
public import proofs.«01_k».proof.Proof.Gen.RLnfIdeal
public import proofs.«01_k».proof.Proof.Gen.RLnfIdeal.Run
public import proofs.«01_k».proof.Proof.Gen.RLnfIdeal.Read
public import proofs.«01_k».proof.Proof.LnfClaim
public import proofs.«01_k».proof.Proof.Gen.KUpf
public import proofs.«01_k».proof.Proof.Gen.KUpf.Skeleton
public import proofs.«01_k».proof.Proof.Gen.KUpf.Launch
public import proofs.«01_k».proof.Proof.Gen.KUpf.Points
public import proofs.«01_k».proof.Proof.Gen.KUpf.Frame
public import proofs.«01_k».proof.Proof.Gen.KUpfIdeal
public import proofs.«01_k».proof.Proof.Gen.KUpfIdeal.Skeleton
public import proofs.«01_k».proof.Proof.Gen.KUpfIdeal.Launch
public import proofs.«01_k».proof.Proof.Gen.KUpfIdeal.Points
public import proofs.«01_k».proof.Proof.Gen.KUpfIdeal.Frame
public import proofs.«01_k».proof.Proof.Gen.KUpfIdeal.Value
public import proofs.«01_k».proof.Proof.Gen.RUpfIdeal
public import proofs.«01_k».proof.Proof.Gen.RUpfIdeal.Run
public import proofs.«01_k».proof.Proof.Gen.RUpfIdeal.Read
public import proofs.«01_k».proof.Proof.UpfClaim
public import proofs.«01_k».proof.Proof.Gen.KGatesf
public import proofs.«01_k».proof.Proof.Gen.KGatesf.Skeleton
public import proofs.«01_k».proof.Proof.Gen.KGatesf.Launch
public import proofs.«01_k».proof.Proof.Gen.KGatesf.Points
public import proofs.«01_k».proof.Proof.Gen.KGatesf.Frame
public import proofs.«01_k».proof.Proof.Gen.KGatesfIdeal
public import proofs.«01_k».proof.Proof.Gen.KGatesfIdeal.Skeleton
public import proofs.«01_k».proof.Proof.Gen.KGatesfIdeal.Launch
public import proofs.«01_k».proof.Proof.Gen.KGatesfIdeal.Points
public import proofs.«01_k».proof.Proof.Gen.KGatesfIdeal.Frame
public import proofs.«01_k».proof.Proof.Gen.KGatesfIdeal.Value
public import proofs.«01_k».proof.Proof.Gen.RGatesfIdeal
public import proofs.«01_k».proof.Proof.Gen.RGatesfIdeal.Run
public import proofs.«01_k».proof.Proof.Gen.RGatesfIdeal.Read
public import proofs.«01_k».proof.Proof.GatesfClaim
public import proofs.«01_k».proof.Proof.Gen.KDownf
public import proofs.«01_k».proof.Proof.Gen.KDownf.Skeleton
public import proofs.«01_k».proof.Proof.Gen.KDownf.Launch
public import proofs.«01_k».proof.Proof.Gen.KDownf.Points
public import proofs.«01_k».proof.Proof.Gen.KDownf.Frame
public import proofs.«01_k».proof.Proof.Gen.KDownfIdeal
public import proofs.«01_k».proof.Proof.Gen.KDownfIdeal.Skeleton
public import proofs.«01_k».proof.Proof.Gen.KDownfIdeal.Launch
public import proofs.«01_k».proof.Proof.Gen.KDownfIdeal.Points
public import proofs.«01_k».proof.Proof.Gen.KDownfIdeal.Frame
public import proofs.«01_k».proof.Proof.Gen.KDownfIdeal.Value
public import proofs.«01_k».proof.Proof.Gen.RDownfIdeal
public import proofs.«01_k».proof.Proof.Gen.RDownfIdeal.Run
public import proofs.«01_k».proof.Proof.Gen.RDownfIdeal.Read
public import proofs.«01_k».proof.Proof.DownfClaim
public import proofs.«01_k».proof.Proof.Gen.KProjdx
public import proofs.«01_k».proof.Proof.Gen.KProjdx.Skeleton
public import proofs.«01_k».proof.Proof.Gen.KProjdx.Launch
public import proofs.«01_k».proof.Proof.Gen.KProjdx.Points
public import proofs.«01_k».proof.Proof.Gen.KProjdx.Frame
public import proofs.«01_k».proof.Proof.Gen.KProjdxIdeal
public import proofs.«01_k».proof.Proof.Gen.KProjdxIdeal.Skeleton
public import proofs.«01_k».proof.Proof.Gen.KProjdxIdeal.Launch
public import proofs.«01_k».proof.Proof.Gen.KProjdxIdeal.Points
public import proofs.«01_k».proof.Proof.Gen.KProjdxIdeal.Frame
public import proofs.«01_k».proof.Proof.Gen.KProjdxIdeal.Value
public import proofs.«01_k».proof.Proof.Gen.RProjdxIdeal
public import proofs.«01_k».proof.Proof.Gen.RProjdxIdeal.Run
public import proofs.«01_k».proof.Proof.Gen.RProjdxIdeal.Read
public import proofs.«01_k».proof.Proof.ProjdxClaim
public import proofs.«01_k».proof.Proof.Gen.KDowndw
public import proofs.«01_k».proof.Proof.Gen.KDowndw.Skeleton
public import proofs.«01_k».proof.Proof.Gen.KDowndw.Launch
public import proofs.«01_k».proof.Proof.Gen.KDowndw.Points
public import proofs.«01_k».proof.Proof.Gen.KDowndw.Frame
public import proofs.«01_k».proof.Proof.Gen.KDowndwIdeal
public import proofs.«01_k».proof.Proof.Gen.KDowndwIdeal.Skeleton
public import proofs.«01_k».proof.Proof.Gen.KDowndwIdeal.Launch
public import proofs.«01_k».proof.Proof.Gen.KDowndwIdeal.Points
public import proofs.«01_k».proof.Proof.Gen.KDowndwIdeal.Frame
public import proofs.«01_k».proof.Proof.Gen.KDowndwIdeal.Value
public import proofs.«01_k».proof.Proof.Gen.RDowndwIdeal
public import proofs.«01_k».proof.Proof.Gen.RDowndwIdeal.Run
public import proofs.«01_k».proof.Proof.Gen.RDowndwIdeal.Read
public import proofs.«01_k».proof.Proof.DowndwClaim
public import proofs.«01_k».proof.Proof.Gen.KAdam
public import proofs.«01_k».proof.Proof.Gen.KAdam.Skeleton
public import proofs.«01_k».proof.Proof.Gen.KAdam.Launch
public import proofs.«01_k».proof.Proof.Gen.KAdam.Points
public import proofs.«01_k».proof.Proof.Gen.KAdam.Frame
public import proofs.«01_k».proof.Proof.Gen.KAdamIdeal
public import proofs.«01_k».proof.Proof.Gen.KAdamIdeal.Skeleton
public import proofs.«01_k».proof.Proof.Gen.KAdamIdeal.Launch
public import proofs.«01_k».proof.Proof.Gen.KAdamIdeal.Points
public import proofs.«01_k».proof.Proof.Gen.KAdamIdeal.Frame
public import proofs.«01_k».proof.Proof.Gen.KAdamIdeal.Value
public import proofs.«01_k».proof.Proof.Gen.RAdamIdeal
public import proofs.«01_k».proof.Proof.Gen.RAdamIdeal.Run
public import proofs.«01_k».proof.Proof.Gen.RAdamIdeal.Read
public import proofs.«01_k».proof.Proof.AdamClaim
public import proofs.«01_k».proof.Proof.Gen.KChippart
public import proofs.«01_k».proof.Proof.Gen.KChippart.Skeleton
public import proofs.«01_k».proof.Proof.Gen.KChippart.Launch
public import proofs.«01_k».proof.Proof.Gen.KChippart.Points
public import proofs.«01_k».proof.Proof.Gen.KChippart.Frame
public import proofs.«01_k».proof.Proof.Gen.KChippartIdeal
public import proofs.«01_k».proof.Proof.Gen.KChippartIdeal.Skeleton
public import proofs.«01_k».proof.Proof.Gen.KChippartIdeal.Launch
public import proofs.«01_k».proof.Proof.Gen.KChippartIdeal.Points
public import proofs.«01_k».proof.Proof.Gen.KChippartIdeal.Frame
public import proofs.«01_k».proof.Proof.Gen.RChippartIdeal
public import proofs.«01_k».proof.Proof.Gen.RChippartIdeal.Run
public import proofs.«01_k».proof.Proof.Gen.RChippartIdeal.Read
public import proofs.«01_k».proof.Proof.ChippartClaim
public import proofs.«01_k».proof.Proof.Gen.KSmall
public import proofs.«01_k».proof.Proof.Gen.KSmall.Skeleton
public import proofs.«01_k».proof.Proof.Gen.KSmall.Launch
public import proofs.«01_k».proof.Proof.Gen.KSmall.Points
public import proofs.«01_k».proof.Proof.Gen.KSmall.Frame
public import proofs.«01_k».proof.Proof.Gen.KSmallIdeal
public import proofs.«01_k».proof.Proof.Gen.KSmallIdeal.Skeleton
public import proofs.«01_k».proof.Proof.Gen.KSmallIdeal.Launch
public import proofs.«01_k».proof.Proof.Gen.KSmallIdeal.Points
public import proofs.«01_k».proof.Proof.Gen.KSmallIdeal.Frame
public import proofs.«01_k».proof.Proof.Gen.RSmallIdeal
public import proofs.«01_k».proof.Proof.Gen.RSmallIdeal.Run
public import proofs.«01_k».proof.Proof.Gen.RSmallIdeal.Read
public import proofs.«01_k».proof.Proof.SmallClaim
public import proofs.«01_k».proof.Proof.Gen.KOwn
public import proofs.«01_k».proof.Proof.Gen.KOwn.Skeleton
public import proofs.«01_k».proof.Proof.Gen.KOwn.Launch
public import proofs.«01_k».proof.Proof.Gen.KOwn.Points
public import proofs.«01_k».proof.Proof.Gen.KOwn.Frame
public import proofs.«01_k».proof.Proof.Gen.KOwnIdeal
public import proofs.«01_k».proof.Proof.Gen.KOwnIdeal.Skeleton
public import proofs.«01_k».proof.Proof.Gen.KOwnIdeal.Launch
public import proofs.«01_k».proof.Proof.Gen.KOwnIdeal.Points
public import proofs.«01_k».proof.Proof.Gen.KOwnIdeal.Frame
public import proofs.«01_k».proof.Proof.Gen.ROwnIdeal
public import proofs.«01_k».proof.Proof.Gen.ROwnIdeal.Run
public import proofs.«01_k».proof.Proof.Gen.ROwnIdeal.Read
public import proofs.«01_k».proof.Proof.OwnClaim
public import Idealize.ShloMosaic.Adequacy
public import Idealize.ShloMosaic.Init

@[expose] public section

noncomputable section

namespace Cert.Proof

open Idealize.ShloMosaic Idealize.SL.Sem Cert.KPost

theorem claim : Cert.Claim :=
  ⟨Cert.KPost.Gen.facts, Cert.KPostIdeal.Gen.facts, Cert.RPostIdeal.Gen.facts, Cert.KXattn.Gen.facts, Cert.KXattnIdeal.Gen.facts, Cert.RXattnIdeal.Gen.facts, Cert.KLn2.Gen.facts, Cert.KLn2Ideal.Gen.facts, Cert.RLn2Ideal.Gen.facts, Cert.KLoss.Gen.facts, Cert.KLossIdeal.Gen.facts, Cert.RLossIdeal.Gen.facts, Cert.KGates.Gen.facts, Cert.KGatesIdeal.Gen.facts, Cert.RGatesIdeal.Gen.facts, Cert.KPool.Gen.facts, Cert.KPoolIdeal.Gen.facts, Cert.RPoolIdeal.Gen.facts, Cert.KPre.Gen.facts, Cert.KPreIdeal.Gen.facts, Cert.RPreIdeal.Gen.facts, Cert.KXattnf.Gen.facts, Cert.KXattnfIdeal.Gen.facts, Cert.RXattnfIdeal.Gen.facts, Cert.KPoolf.Gen.facts, Cert.KPoolfIdeal.Gen.facts, Cert.RPoolfIdeal.Gen.facts, Cert.KPostf.Gen.facts, Cert.KPostfIdeal.Gen.facts, Cert.RPostfIdeal.Gen.facts, Cert.KPref.Gen.facts, Cert.KPrefIdeal.Gen.facts, Cert.RPrefIdeal.Gen.facts, Cert.KXqdx.Gen.facts, Cert.KXqdxIdeal.Gen.facts, Cert.RXqdxIdeal.Gen.facts, Cert.KMlpdx.Gen.facts, Cert.KMlpdxIdeal.Gen.facts, Cert.RMlpdxIdeal.Gen.facts, Cert.KLnf.Gen.facts, Cert.KLnfIdeal.Gen.facts, Cert.RLnfIdeal.Gen.facts, Cert.KUpf.Gen.facts, Cert.KUpfIdeal.Gen.facts, Cert.RUpfIdeal.Gen.facts, Cert.KGatesf.Gen.facts, Cert.KGatesfIdeal.Gen.facts, Cert.RGatesfIdeal.Gen.facts, Cert.KDownf.Gen.facts, Cert.KDownfIdeal.Gen.facts, Cert.RDownfIdeal.Gen.facts, Cert.KProjdx.Gen.facts, Cert.KProjdxIdeal.Gen.facts, Cert.RProjdxIdeal.Gen.facts, Cert.KDowndw.Gen.facts, Cert.KDowndwIdeal.Gen.facts, Cert.RDowndwIdeal.Gen.facts, Cert.KAdam.Gen.facts, Cert.KAdamIdeal.Gen.facts, Cert.RAdamIdeal.Gen.facts, Cert.KChippart.Gen.facts, Cert.KChippartIdeal.Gen.facts, Cert.RChippartIdeal.Gen.facts, Cert.KSmall.Gen.facts, Cert.KSmallIdeal.Gen.facts, Cert.RSmallIdeal.Gen.facts, Cert.KOwn.Gen.facts, Cert.KOwnIdeal.Gen.facts, Cert.ROwnIdeal.Gen.facts,
    Cert.Post.facts, Cert.Xattn.facts, Cert.Ln2.facts, Cert.Loss.facts, Cert.Gates.facts, Cert.Pool.facts, Cert.Pre.facts, Cert.Xattnf.facts, Cert.Poolf.facts, Cert.Xqdx.facts, Cert.Pre_core_below_two.Gen.facts, Cert.Pre_a_slice_and_a_core.Gen.facts,
    fun m ρ _ => Cert.KPost.Gen.frame m ρ, fun m ρ _ => Cert.KPostIdeal.Gen.frame m ρ, fun m ρ _ => Cert.KPostIdeal.Gen.frame m ρ, Cert.Post.ref_frame, fun m ρ _ => Cert.Post.ref_frame m ρ trivial,
    fun m ρ _ => Cert.KXattn.Gen.frame m ρ, fun m ρ _ => Cert.KXattnIdeal.Gen.frame m ρ, fun m ρ _ => Cert.KXattnIdeal.Gen.frame m ρ, Cert.Xattn.ref_frame, fun m ρ _ => Cert.Xattn.ref_frame m ρ trivial,
    fun m ρ _ => Cert.KLn2.Gen.frame m ρ, fun m ρ _ => Cert.KLn2Ideal.Gen.frame m ρ, fun m ρ _ => Cert.KLn2Ideal.Gen.frame m ρ, Cert.Ln2.ref_frame, fun m ρ _ => Cert.Ln2.ref_frame m ρ trivial,
    fun m ρ _ => Cert.KLoss.Gen.frame m ρ, fun m ρ _ => Cert.KLossIdeal.Gen.frame m ρ, fun m ρ _ => Cert.KLossIdeal.Gen.frame m ρ, Cert.Loss.ref_frame, fun m ρ _ => Cert.Loss.ref_frame m ρ trivial,
    fun m ρ _ => Cert.KGates.Gen.frame m ρ, fun m ρ _ => Cert.KGatesIdeal.Gen.frame m ρ, fun m ρ _ => Cert.KGatesIdeal.Gen.frame m ρ, Cert.Gates.ref_frame, fun m ρ _ => Cert.Gates.ref_frame m ρ trivial,
    fun m ρ _ => Cert.KPool.Gen.frame m ρ, fun m ρ _ => Cert.KPoolIdeal.Gen.frame m ρ, fun m ρ _ => Cert.KPoolIdeal.Gen.frame m ρ, Cert.Pool.ref_frame, fun m ρ _ => Cert.Pool.ref_frame m ρ trivial,
    fun m ρ _ => Cert.KPre.Gen.frame m ρ, fun m ρ _ => Cert.KPreIdeal.Gen.frame m ρ, fun m ρ _ => Cert.KPreIdeal.Gen.frame m ρ, Cert.Pre.ref_frame, fun m ρ _ => Cert.Pre.ref_frame m ρ trivial,
    fun m ρ _ => Cert.KXattnf.Gen.frame m ρ, fun m ρ _ => Cert.KXattnfIdeal.Gen.frame m ρ, fun m ρ _ => Cert.KXattnfIdeal.Gen.frame m ρ, Cert.Xattnf.ref_frame, fun m ρ _ => Cert.Xattnf.ref_frame m ρ trivial,
    fun m ρ _ => Cert.KPoolf.Gen.frame m ρ, fun m ρ _ => Cert.KPoolfIdeal.Gen.frame m ρ, fun m ρ _ => Cert.KPoolfIdeal.Gen.frame m ρ, Cert.Poolf.ref_frame, fun m ρ _ => Cert.Poolf.ref_frame m ρ trivial,
    fun m ρ _ => Cert.KPostf.Gen.frame m ρ, fun m ρ _ => Cert.KPostfIdeal.Gen.frame m ρ, Cert.Postf.ref_frame,
    fun m ρ _ => Cert.KPref.Gen.frame m ρ, fun m ρ _ => Cert.KPrefIdeal.Gen.frame m ρ, Cert.Pref.ref_frame,
    fun m ρ _ => Cert.KXqdx.Gen.frame m ρ, fun m ρ _ => Cert.KXqdxIdeal.Gen.frame m ρ, fun m ρ _ => Cert.KXqdxIdeal.Gen.frame m ρ, Cert.Xqdx.ref_frame, fun m ρ _ => Cert.Xqdx.ref_frame m ρ trivial,
    fun m ρ _ => Cert.KMlpdx.Gen.frame m ρ, fun m ρ _ => Cert.KMlpdxIdeal.Gen.frame m ρ, Cert.Mlpdx.ref_frame,
    fun m ρ _ => Cert.KLnf.Gen.frame m ρ, fun m ρ _ => Cert.KLnfIdeal.Gen.frame m ρ, Cert.Lnf.ref_frame,
    fun m ρ _ => Cert.KUpf.Gen.frame m ρ, fun m ρ _ => Cert.KUpfIdeal.Gen.frame m ρ, Cert.Upf.ref_frame,
    fun m ρ _ => Cert.KGatesf.Gen.frame m ρ, fun m ρ _ => Cert.KGatesfIdeal.Gen.frame m ρ, Cert.Gatesf.ref_frame,
    fun m ρ _ => Cert.KDownf.Gen.frame m ρ, fun m ρ _ => Cert.KDownfIdeal.Gen.frame m ρ, Cert.Downf.ref_frame,
    fun m ρ _ => Cert.KProjdx.Gen.frame m ρ, fun m ρ _ => Cert.KProjdxIdeal.Gen.frame m ρ, Cert.Projdx.ref_frame,
    fun m ρ _ => Cert.KDowndw.Gen.frame m ρ, fun m ρ _ => Cert.KDowndwIdeal.Gen.frame m ρ, Cert.Downdw.ref_frame,
    fun m ρ _ => Cert.KAdam.Gen.frame m ρ, fun m ρ _ => Cert.KAdamIdeal.Gen.frame m ρ, Cert.Adam.ref_frame,
    Cert.Chippart.kernel_frame, Cert.Chippart.ideal_frame, Cert.Chippart.ref_frame,
    fun m ρ _ => Cert.KSmall.Gen.frame m ρ, fun m ρ _ => Cert.KSmallIdeal.Gen.frame m ρ, Cert.Small.ref_frame,
    Cert.Own.kernel_frame, Cert.Own.ideal_frame, Cert.Own.ref_frame,
    trivial, @Cert.Post.algebraic Cert.Post.facts,
    trivial, @Cert.Xattn.algebraic Cert.Xattn.facts,
    trivial, @Cert.Ln2.algebraic Cert.Ln2.facts,
    trivial, @Cert.Loss.algebraic Cert.Loss.facts,
    trivial, @Cert.Gates.algebraic Cert.Gates.facts,
    trivial, @Cert.Pool.algebraic Cert.Pool.facts,
    trivial, @Cert.Pre.algebraic Cert.Pre.facts,
    trivial, @Cert.Xattnf.algebraic Cert.Xattnf.facts,
    trivial, @Cert.Poolf.algebraic Cert.Poolf.facts,
    trivial, Cert.Postf.algebraic,
    trivial, Cert.Pref.algebraic,
    trivial, @Cert.Xqdx.algebraic Cert.Xqdx.facts,
    trivial, Cert.Mlpdx.algebraic,
    trivial, Cert.Lnf.algebraic,
    trivial, Cert.Upf.algebraic,
    trivial, Cert.Gatesf.algebraic,
    trivial, Cert.Downf.algebraic,
    trivial, Cert.Projdx.algebraic,
    trivial, Cert.Downdw.algebraic,
    trivial, Cert.Adam.algebraic,
    trivial, Cert.Chippart.algebraic,
    trivial, Cert.Small.algebraic,
    trivial, Cert.Own.algebraic⟩

end Cert.Proof

end
